-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8192x3072 : Shape := ⟨3, ![2, 8192, 3072]⟩
abbrev S1x64 : Shape := ⟨2, ![1, 64]⟩
abbrev S1x128 : Shape := ⟨2, ![1, 128]⟩
abbrev S_ : Shape := ⟨0, ![]⟩

class Facts : Prop where
  bcast_S_S2x8192x3072 : S_.BroadcastsInDim S2x8192x3072 (![] : Fin 0 → Fin S2x8192x3072.rank)
  bcast_S_S1x64 : S_.BroadcastsInDim S1x64 (![] : Fin 0 → Fin S1x64.rank)

variable [Facts]

def fn {F : FTy → Type} [FloatOps F] (main_arg0 : FVec F S2x8192x3072 .f32) (main_arg1 : FVec F S1x64 .f32) (main_arg2 : FVec F S1x64 .f32) (main_arg3 : FVec F S1x64 .f32) (main_arg4 : FVec F S1x64 .f32) (main_arg5 : FVec F S1x128 .f32) : IVec S2x8192x3072 1 × IVec S1x64 1 × IVec S1x64 1 × IVec S1x64 1 × IVec S1x64 1 :=
  let main_v0 : FVec F S2x8192x3072 .f32 := Host.absf main_arg0
  let main_cst : FVec F S_ .f32 := constant S_ .f32 0x7F800000#32
  let main_v1 : FVec F S2x8192x3072 .f32 := broadcastInDim S2x8192x3072 ![] bcast_S_S2x8192x3072 main_cst
  let main_v2 : IVec S2x8192x3072 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Kernel.lean ====
abbrev S2x8192x3072 : Shape := ⟨3, ![2, 8192, 3072]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S128x1 : Shape := ⟨2, ![128, 1]⟩
abbrev S128x256 : Shape := ⟨2, ![128, 256]⟩
abbrev S2x8192x1024 : Shape := ⟨3, ![2, 8192, 1024]⟩
abbrev S1x8192x128 : Shape := ⟨3, ![1, 8192, 128]⟩
abbrev S32x2x128x256 : Shape := ⟨4, ![32, 2, 128, 256]⟩
abbrev S32x144x256 : Shape := ⟨3, ![32, 144, 256]⟩
abbrev S2x2x256x256 : Shape := ⟨4, ![2, 2, 256, 256]⟩
abbrev S2x2x1x256 : Shape := ⟨4, ![2, 2, 1, 256]⟩
abbrev S32x2x1x256 : Shape := ⟨4, ![32, 2, 1, 256]⟩
abbrev S32x2x144x256 : Shape := ⟨4, ![32, 2, 144, 256]⟩
abbrev S1x256x128 : Shape := ⟨3, ![1, 256, 128]⟩
abbrev S256x128 : Shape := ⟨2, ![256, 128]⟩
abbrev S1x1x128x256 : Shape := ⟨4, ![1, 1, 128, 256]⟩
abbrev S1x128x256 : Shape := ⟨3, ![1, 128, 256]⟩
abbrev S16x256 : Shape := ⟨2, ![16, 256]⟩
abbrev S1x16x256 : Shape := ⟨3, ![1, 16, 256]⟩
abbrev S2x1x256 : Shape := ⟨3, ![2, 1, 256]⟩
abbrev S1x2x1x256 : Shape := ⟨4, ![1, 2, 1, 256]⟩
abbrev S2x144x256 : Shape := ⟨3, ![2, 144, 256]⟩
abbrev S1x2x144x256 : Shape := ⟨4, ![1, 2, 144, 256]⟩
abbrev S256x256 : Shape := ⟨2, ![256, 256]⟩
abbrev S1x1x256x256 : Shape := ⟨4, ![1, 1, 256, 256]⟩
abbrev S2x256x256 : Shape := ⟨3, ![2, 256, 256]⟩
abbrev S1x2x256x256 : Shape := ⟨4, ![1, 2, 256, 256]⟩
abbrev S1x144x256 : Shape := ⟨3, ![1, 144, 256]⟩
abbrev S144x256 : Shape := ⟨2, ![144, 256]⟩
abbrev S1x1x1x256 : Shape := ⟨4, ![1, 1, 1, 256]⟩
abbrev S1x256 : Shape := ⟨2, ![1, 256]⟩
abbrev S1x1x144x256 : Shape := ⟨4, ![1, 1, 144, 256]⟩
abbrev S256 : Shape := ⟨1, ![256]⟩
abbrev S1 : Shape := ⟨1, ![1]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S2x8192x3072, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S2x8192x3072, .bf16⟩
  | .hbm, ⟨16, _⟩ => ⟨S128, .f32⟩
  | .hbm, ⟨17, _⟩ => ⟨S128x1, .f32⟩
  | .hbm, ⟨18, _⟩ => ⟨S128x256, .f32⟩
  | .hbm, ⟨19, _⟩ => ⟨S2x8192x1024, .bf16⟩
  | .local _ .vmem, ⟨0, _⟩ => ⟨S4x64, .f32⟩
  | .local _ .vmem, ⟨1, _⟩ => ⟨S128x256, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S32x2x128x256, .bf16⟩
  | .local _ .vmem, ⟨11, _⟩ => ⟨S32x144x256, .bf16⟩
  | .local _ .vmem, ⟨12, _⟩ => ⟨S2x2x256x256, .f32⟩
  | .local _ .vmem, ⟨13, _⟩ => ⟨S2x2x256x256, .bf16⟩
  | .local _ .vmem, ⟨14, _⟩ => ⟨S2x2x1x256, .f32⟩
  | .local _ .vmem, ⟨15, _⟩ => ⟨S32x2x1x256, .f32⟩
  | .local _ .vmem, ⟨16, _⟩ => ⟨S32x2x144x256, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_4804 : BitVec 32 := 256#32
  let v5666 : BitVec 32 := Scalar.muli arg15 c256_i32_4804
  v5666
def k0_off1 (k0_t1 : Fin k0_t1_loop.trips) : Fin 3 → Nat :=
  let c0_4805 : Index := 0#32
  let c0_i32 : BitVec 32 := 0#32
  let c1_i32 : BitVec 32 := 1#32
  let arg15 : BitVec 32 := Scf.iv c0_i32 c1_i32 k0_t1
  let c256_i32_4804 : BitVec 32 := 256#32
  let v5666 : BitVec 32 := Scalar.muli arg15 c256_i32_4804
  let v5667 : BitVec 32 := v5666
  let v5668 : Index := Scalar.indexCast v5667
  let c0_4806 : Index := 0#32
  ![0, v5668.toNat, 0]
def k0_off2 (k0_t1 : Fin k0_t1_loop.trips) : Fin 4 → Nat :=
  let c0_i32 : BitVec 32 := 0#32
  let c1_i32 : BitVec 32 := 1#32
  let arg15 : BitVec 32 := Scf.iv c0_i32 c1_i32 k0_t1
  let v5678 : Index := Scalar.indexCast arg15
  let c0_4809 : Index := 0#32
  let c0_4810 : Index := 0#32
  let c0_4811 : Index := 0#32
  ![v5678.toNat, 0, 0, 0]
def k0_off3 (k0_t1 : Fin k0_t1_loop.trips) : Fin 4 → Nat :=
  let c0_i32 : BitVec 32 := 0#32
  let c1_i32 : BitVec 32 := 1#32
  let arg15 : BitVec 32 := Scf.iv c0_i32 c1_i32 k0_t1
  let v5685 : Index := Scalar.indexCast arg15
  let c1_4813 : Index := 1#32
  let c0_4814 : Index := 0#32
  let c0_4815 : Index := 0#32
  ![v5685.toNat, 1, 0, 0]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let v5695 : Index := Scalar.indexCast arg15
  let c0_4818 : Index := 0#32
  let c0_4819 : Index := 0#32
  ![v5695.toNat, 0, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v5700 : Index := Scalar.indexCast arg15
  let c128 : Index := 128#32
  let c0_4821 : Index := 0#32
  ![v5700.toNat, 128, 0]
def k0_off6 (k0_t1 : Fin k0_t1_loop.trips) : Fin 4 → Nat :=
  let c0_i32 : BitVec 32 := 0#32
  let c1_i32 : BitVec 32 := 1#32
  let arg15 : BitVec 32 := Scf.iv c0_i32 c1_i32 k0_t1
  let v5705 : Index := Scalar.indexCast arg15
  let c0_4823 : Index := 0#32
  let c0_4824 : Index := 0#32
  let c0_4825 : Index := 0#32
  ![v5705.toNat, 0, 0, 0]
def k0_off7 (k0_t1 : Fin k0_t1_loop.trips) : Fin 4 → Nat :=
  let c0_i32 : BitVec 32 := 0#32
  let c1_i32 : BitVec 32 := 1#32
  let arg15 : BitVec 32 := Scf.iv c0_i32 c1_i32 k0_t1
  let v5710 : Index := Scalar.indexCast arg15
  let c0_4827 : Index := 0#32
  let c0_4828 : Index := 0#32
  let c0_4829 : Index := 0#32
  ![v5710.toNat, 0, 0, 0]
def k0_mult2 : BitVec 32 :=
  let c0_i32_1 : BitVec 32 := 0#32
  let c256_i32 : BitVec 32 := 256#32
  let v4 : BitVec 32 := Scalar.muli c0_i32_1 c256_i32
  v4
def k0_off8 : Fin 3 → Nat :=
  let c0 : Index := 0#32
  let c0_i32_1 : BitVec 32 := 0#32
  let c256_i32 : BitVec 32 := 256#32
  let v4 : BitVec 32 := Scalar.muli c0_i32_1 c256_i32
  let v5 : BitVec 32 := v4
  let v6 : Index := Scalar.indexCast v5
  let c0_2 : Index := 0#32
  ![0, v6.toNat, 0]
@[reducible] def k0_t2_loop : Scf.Loop 32 :=
  let c0_i32_33 : BitVec 32 := 0#32
  let c15_i32 : BitVec 32 := 15#32
  let v29 : BitVec 32 := Scalar.addi c0_i32_33 c15_i32
  let c1_i32_34 : BitVec 32 := 1#32
  ⟨c0_i32_33, v29, c1_i32_34⟩
def k0_mult3 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c256_i32_4810 : BitVec 32 := 256#32
  let v5674 : BitVec 32 := Scalar.muli v5673 c256_i32_4810
  v5674

def k0_off9 (arg16 : BitVec 32) (arg17 : BitVec 32) : Fin 3 → Nat :=
  let c0_4811 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c256_i32_4810 : BitVec 32 := 256#32
  let v5674 : BitVec 32 := Scalar.muli v5673 c256_i32_4810
  let v5675 : BitVec 32 := v5674
  let v5676 : Index := Scalar.indexCast v5675
  let c0_4812 : Index := 0#32
  ![0, v5676.toNat, 0]
def k0_off10 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5679 : Index := Scalar.indexCast v5672
  let c0_4813 : Index := 0#32
  let c0_4814 : Index := 0#32
  let c0_4815 : Index := 0#32
  ![v5679.toNat, 0, 0, 0]
def k0_off11 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5686 : Index := Scalar.indexCast v5672
  let c1_4821 : Index := 1#32
  let c0_4822 : Index := 0#32
  let c0_4823 : Index := 0#32
  ![v5686.toNat, 1, 0, 0]
def k0_off12 (arg19 : BitVec 32) : Fin 3 → Nat :=
  let v5693 : Index := Scalar.indexCast arg19
  let c0_4829 : Index := 0#32
  let c0_4830 : Index := 0#32
  ![v5693.toNat, 0, 0]

def k0_off13 (arg18 : BitVec 32) : Fin 4 → Nat :=
  let v5701 : Index := Scalar.indexCast arg18
  let c0_4840 : Index := 0#32
  let c0_4841 : Index := 0#32
  let c0_4842 : Index := 0#32
  ![v5701.toNat, 0, 0, 0]

def k0_off14 (arg19 : BitVec 32) : Fin 3 → Nat :=
  let v5711 : Index := Scalar.indexCast arg19
  let c0_4846 : Index := 0#32
  let c0_4847 : Index := 0#32
  ![v5711.toNat, 0, 0]

def k0_chk2 (arg19 : BitVec 32) : Prop :=
  (∀ a, (k0_off12 arg19) a + S1x144x256.size a ≤ S32x144x256.size a) ∧
  (∀ a, (k0_off14 arg19) a + S1x144x256.size a ≤ S32x144x256.size a)
theorem k0_off12_inb : ∀ (arg19 : BitVec 32) (k0_hw2 : k0_chk2 arg19), ∀ a, (k0_off12 arg19) a + S1x144x256.size a ≤ S32x144x256.size a := fun arg19 k0_hw2 => k0_hw2.1
theorem k0_off14_inb : ∀ (arg19 : BitVec 32) (k0_hw2 : k0_chk2 arg19), ∀ a, (k0_off14 arg19) a + S1x144x256.size a ≤ S32x144x256.size a := fun arg19 k0_hw2 => k0_hw2.2

def k0_off15 (arg18 : BitVec 32) : Fin 4 → Nat :=
  let v5719 : Index := Scalar.indexCast arg18
  let c1_4857 : Index := 1#32
  let c0_4858 : Index := 0#32
  let c0_4859 : Index := 0#32
  ![v5719.toNat, 1, 0, 0]

def k0_chk3 (arg18 : BitVec 32) : Prop :=
  (∀ a, (k0_off13 arg18) a + S1x1x144x256.size a ≤ S32x2x144x256.size a) ∧
  (∀ a, (k0_off15 arg18) a + S1x1x144x256.size a ≤ S32x2x144x256.size a)
theorem k0_off13_inb : ∀ (arg18 : BitVec 32) (k0_hw3 : k0_chk3 arg18), ∀ a, (k0_off13 arg18) a + S1x1x144x256.size a ≤ S32x2x144x256.size a := fun arg18 k0_hw3 => k0_hw3.1
theorem k0_off15_inb : ∀ (arg18 : BitVec 32) (k0_hw3 : k0_chk3 arg18), ∀ a, (k0_off15 arg18) a + S1x1x144x256.size a ≤ S32x2x144x256.size a := fun arg18 k0_hw3 => k0_hw3.2

def k0_off16 (arg16 : BitVec 32) : Fin 4 → Nat :=
  let v5731 : Index := Scalar.indexCast arg16
  let c0_4867 : Index := 0#32
  let c0_4868 : Index := 0#32
  let c0_4869 : Index := 0#32
  ![v5731.toNat, 0, 0, 0]

def k0_off17 (arg16 : BitVec 32) : Fin 4 → Nat :=
  let v5755 : Index := Scalar.indexCast arg16
  let c1_4886 : Index := 1#32
  let c0_4887 : Index := 0#32
  let c0_4888 : Index := 0#32
  ![v5755.toNat, 1, 0, 0]
def k0_mult4 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c256_i32_4907 : BitVec 32 := 256#32
  let v5785 : BitVec 32 := Scalar.muli v5784 c256_i32_4907
  v5785
def k0_off18 (arg16 : BitVec 32) (arg17 : BitVec 32) : Fin 3 → Nat :=
  let c0_4908 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c256_i32_4907 : BitVec 32 := 256#32
  let v5785 : BitVec 32 := Scalar.muli v5784 c256_i32_4907
  let v5786 : BitVec 32 := v5785
  let v5787 : Index := Scalar.indexCast v5786
  let c0_4909 : Index := 0#32
  ![0, v5787.toNat, 0]
def k0_off19 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5790 : Index := Scalar.indexCast v5783
  let c0_4910 : Index := 0#32
  let c0_4911 : Index := 0#32
  let c0_4912 : Index := 0#32
  ![v5790.toNat, 0, 0, 0]
def k0_off20 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5797 : Index := Scalar.indexCast v5783
  let c1_4918 : Index := 1#32
  let c0_4919 : Index := 0#32
  let c0_4920 : Index := 0#32
  ![v5797.toNat, 1, 0, 0]
def k0_off21 (arg17 : BitVec 32) : Fin 3 → Nat :=
  let v5804 : Index := Scalar.indexCast arg17
  let c0_4926 : Index := 0#32
  let c0_4927 : Index := 0#32
  ![v5804.toNat, 0, 0]
def k0_off22 (arg16 : BitVec 32) : Fin 4 → Nat :=
  let v5812 : Index := Scalar.indexCast arg16
  let c0_4937 : Index := 0#32
  let c0_4938 : Index := 0#32
  let c0_4939 : Index := 0#32
  ![v5812.toNat, 0, 0, 0]
def k0_off23 (arg16 : BitVec 32) : Fin 4 → Nat :=
  let v5830 : Index := Scalar.indexCast arg16
  let c1_4954 : Index := 1#32
  let c0_4955 : Index := 0#32
  let c0_4956 : Index := 0#32
  ![v5830.toNat, 1, 0, 0]

def k0_chk4 (arg16 : BitVec 32) : Prop :=
  (∀ a, (k0_off16 arg16) a + S1x1x1x256.size a ≤ S32x2x1x256.size a) ∧
  (∀ a, (k0_off17 arg16) a + S1x1x1x256.size a ≤ S32x2x1x256.size a) ∧
  (∀ a, (k0_off22 arg16) a + S1x1x144x256.size a ≤ S32x2x144x256.size a) ∧
  (∀ a, (k0_off23 arg16) a + S1x1x144x256.size a ≤ S32x2x144x256.size a)
theorem k0_off16_inb : ∀ (arg16 : BitVec 32) (k0_hw4 : k0_chk4 arg16), ∀ a, (k0_off16 arg16) a + S1x1x1x256.size a ≤ S32x2x1x256.size a := fun arg16 k0_hw4 => k0_hw4.1
theorem k0_off17_inb : ∀ (arg16 : BitVec 32) (k0_hw4 : k0_chk4 arg16), ∀ a, (k0_off17 arg16) a + S1x1x1x256.size a ≤ S32x2x1x256.size a := fun arg16 k0_hw4 => k0_hw4.2.1
theorem k0_off22_inb : ∀ (arg16 : BitVec 32) (k0_hw4 : k0_chk4 arg16), ∀ a, (k0_off22 arg16) a + S1x1x144x256.size a ≤ S32x2x144x256.size a := fun arg16 k0_hw4 => k0_hw4.2.2.1
theorem k0_off23_inb : ∀ (arg16 : BitVec 32) (k0_hw4 : k0_chk4 arg16), ∀ a, (k0_off23 arg16) a + S1x1x144x256.size a ≤ S32x2x144x256.size a := fun arg16 k0_hw4 => k0_hw4.2.2.2

def k0_off24 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5842 : Index := Scalar.indexCast v5672
  let c0_4964 : Index := 0#32
  let c0_4965 : Index := 0#32
  let c0_4966 : Index := 0#32
  ![v5842.toNat, 0, 0, 0]
def k0_off25 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5866 : Index := Scalar.indexCast v5672
  let c1_4983 : Index := 1#32
  let c0_4984 : Index := 0#32
  let c0_4985 : Index := 0#32
  ![v5866.toNat, 1, 0, 0]
def k0_mult5 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c256_i32_5004 : BitVec 32 := 256#32
  let v5896 : BitVec 32 := Scalar.muli v5895 c256_i32_5004
  v5896
def k0_off26 (arg16 : BitVec 32) (arg17 : BitVec 32) : Fin 3 → Nat :=
  let c0_5005 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c256_i32_5004 : BitVec 32 := 256#32
  let v5896 : BitVec 32 := Scalar.muli v5895 c256_i32_5004
  let v5897 : BitVec 32 := v5896
  let v5898 : Index := Scalar.indexCast v5897
  let c0_5006 : Index := 0#32
  ![0, v5898.toNat, 0]
def k0_off27 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v5901 : Index := Scalar.indexCast v5894
  let c0_5007 : Index := 0#32
  let c0_5008 : Index := 0#32
  let c0_5009 : Index := 0#32
  ![v5901.toNat, 0, 0, 0]
def k0_off28 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v5908 : Index := Scalar.indexCast v5894
  let c1_5015 : Index := 1#32
  let c0_5016 : Index := 0#32
  let c0_5017 : Index := 0#32
  ![v5908.toNat, 1, 0, 0]
def k0_off29 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let v5915 : Index := Scalar.indexCast v5673
  let c0_5023 : Index := 0#32
  let c0_5024 : Index := 0#32
  ![v5915.toNat, 0, 0]
def k0_off30 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5923 : Index := Scalar.indexCast v5672
  let c0_5034 : Index := 0#32
  let c0_5035 : Index := 0#32
  let c0_5036 : Index := 0#32
  ![v5923.toNat, 0, 0, 0]
def k0_off31 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5941 : Index := Scalar.indexCast v5672
  let c1_5051 : Index := 1#32
  let c0_5052 : Index := 0#32
  let c0_5053 : Index := 0#32
  ![v5941.toNat, 1, 0, 0]
def k0_off32 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5953 : Index := Scalar.indexCast v5783
  let c0_5061 : Index := 0#32
  let c0_5062 : Index := 0#32
  let c0_5063 : Index := 0#32
  ![v5953.toNat, 0, 0, 0]
def k0_off33 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5977 : Index := Scalar.indexCast v5783
  let c1_5080 : Index := 1#32
  let c0_5081 : Index := 0#32
  let c0_5082 : Index := 0#32
  ![v5977.toNat, 1, 0, 0]
def k0_mult6 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c256_i32_5101 : BitVec 32 := 256#32
  let v6007 : BitVec 32 := Scalar.muli v6006 c256_i32_5101
  v6007
def k0_off34 (arg16 : BitVec 32) (arg17 : BitVec 32) : Fin 3 → Nat :=
  let c0_5102 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c256_i32_5101 : BitVec 32 := 256#32
  let v6007 : BitVec 32 := Scalar.muli v6006 c256_i32_5101
  let v6008 : BitVec 32 := v6007
  let v6009 : Index := Scalar.indexCast v6008
  let c0_5103 : Index := 0#32
  ![0, v6009.toNat, 0]
def k0_off35 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6012 : Index := Scalar.indexCast v6005
  let c0_5104 : Index := 0#32
  let c0_5105 : Index := 0#32
  let c0_5106 : Index := 0#32
  ![v6012.toNat, 0, 0, 0]
def k0_off36 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6019 : Index := Scalar.indexCast v6005
  let c1_5112 : Index := 1#32
  let c0_5113 : Index := 0#32
  let c0_5114 : Index := 0#32
  ![v6019.toNat, 1, 0, 0]
def k0_off37 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let v6026 : Index := Scalar.indexCast v5784
  let c0_5120 : Index := 0#32
  let c0_5121 : Index := 0#32
  ![v6026.toNat, 0, 0]
def k0_off38 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v6034 : Index := Scalar.indexCast v5783
  let c0_5131 : Index := 0#32
  let c0_5132 : Index := 0#32
  let c0_5133 : Index := 0#32
  ![v6034.toNat, 0, 0, 0]
def k0_off39 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v6052 : Index := Scalar.indexCast v5783
  let c1_5148 : Index := 1#32
  let c0_5149 : Index := 0#32
  let c0_5150 : Index := 0#32
  ![v6052.toNat, 1, 0, 0]
def k0_off40 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6064 : Index := Scalar.indexCast v5894
  let c0_5158 : Index := 0#32
  let c0_5159 : Index := 0#32
  let c0_5160 : Index := 0#32
  ![v6064.toNat, 0, 0, 0]
def k0_off41 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6088 : Index := Scalar.indexCast v5894
  let c1_5177 : Index := 1#32
  let c0_5178 : Index := 0#32
  let c0_5179 : Index := 0#32
  ![v6088.toNat, 1, 0, 0]
def k0_mult7 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c256_i32_5198 : BitVec 32 := 256#32
  let v6118 : BitVec 32 := Scalar.muli v6117 c256_i32_5198
  v6118
def k0_off42 (arg16 : BitVec 32) (arg17 : BitVec 32) : Fin 3 → Nat :=
  let c0_5199 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c256_i32_5198 : BitVec 32 := 256#32
  let v6118 : BitVec 32 := Scalar.muli v6117 c256_i32_5198
  let v6119 : BitVec 32 := v6118
  let v6120 : Index := Scalar.indexCast v6119
  let c0_5200 : Index := 0#32
  ![0, v6120.toNat, 0]
def k0_off43 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6123 : Index := Scalar.indexCast v6116
  let c0_5201 : Index := 0#32
  let c0_5202 : Index := 0#32
  let c0_5203 : Index := 0#32
  ![v6123.toNat, 0, 0, 0]
def k0_off44 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6130 : Index := Scalar.indexCast v6116
  let c1_5209 : Index := 1#32
  let c0_5210 : Index := 0#32
  let c0_5211 : Index := 0#32
  ![v6130.toNat, 1, 0, 0]
def k0_off45 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let v6137 : Index := Scalar.indexCast v5895
  let c0_5217 : Index := 0#32
  let c0_5218 : Index := 0#32
  ![v6137.toNat, 0, 0]
def k0_off46 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6145 : Index := Scalar.indexCast v5894
  let c0_5228 : Index := 0#32
  let c0_5229 : Index := 0#32
  let c0_5230 : Index := 0#32
  ![v6145.toNat, 0, 0, 0]
def k0_off47 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6163 : Index := Scalar.indexCast v5894
  let c1_5245 : Index := 1#32
  let c0_5246 : Index := 0#32
  let c0_5247 : Index := 0#32
  ![v6163.toNat, 1, 0, 0]
def k0_off48 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6175 : Index := Scalar.indexCast v6005
  let c0_5255 : Index := 0#32
  let c0_5256 : Index := 0#32
  let c0_5257 : Index := 0#32
  ![v6175.toNat, 0, 0, 0]
def k0_off49 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6199 : Index := Scalar.indexCast v6005
  let c1_5274 : Index := 1#32
  let c0_5275 : Index := 0#32
  let c0_5276 : Index := 0#32
  ![v6199.toNat, 1, 0, 0]
def k0_mult8 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c256_i32_5295 : BitVec 32 := 256#32
  let v6229 : BitVec 32 := Scalar.muli v6228 c256_i32_5295
  v6229
def k0_off50 (arg16 : BitVec 32) (arg17 : BitVec 32) : Fin 3 → Nat :=
  let c0_5296 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c256_i32_5295 : BitVec 32 := 256#32
  let v6229 : BitVec 32 := Scalar.muli v6228 c256_i32_5295
  let v6230 : BitVec 32 := v6229
  let v6231 : Index := Scalar.indexCast v6230
  let c0_5297 : Index := 0#32
  ![0, v6231.toNat, 0]
def k0_off51 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6234 : Index := Scalar.indexCast v6227
  let c0_5298 : Index := 0#32
  let c0_5299 : Index := 0#32
  let c0_5300 : Index := 0#32
  ![v6234.toNat, 0, 0, 0]
def k0_off52 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6241 : Index := Scalar.indexCast v6227
  let c1_5306 : Index := 1#32
  let c0_5307 : Index := 0#32
  let c0_5308 : Index := 0#32
  ![v6241.toNat, 1, 0, 0]
def k0_off53 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let v6248 : Index := Scalar.indexCast v6006
  let c0_5314 : Index := 0#32
  let c0_5315 : Index := 0#32
  ![v6248.toNat, 0, 0]
def k0_off54 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6256 : Index := Scalar.indexCast v6005
  let c0_5325 : Index := 0#32
  let c0_5326 : Index := 0#32
  let c0_5327 : Index := 0#32
  ![v6256.toNat, 0, 0, 0]
def k0_off55 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6274 : Index := Scalar.indexCast v6005
  let c1_5342 : Index := 1#32
  let c0_5343 : Index := 0#32
  let c0_5344 : Index := 0#32
  ![v6274.toNat, 1, 0, 0]
def k0_off56 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6286 : Index := Scalar.indexCast v6116
  let c0_5352 : Index := 0#32
  let c0_5353 : Index := 0#32
  let c0_5354 : Index := 0#32
  ![v6286.toNat, 0, 0, 0]
def k0_off57 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6310 : Index := Scalar.indexCast v6116
  let c1_5371 : Index := 1#32
  let c0_5372 : Index := 0#32
  let c0_5373 : Index := 0#32
  ![v6310.toNat, 1, 0, 0]
def k0_mult9 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c256_i32_5392 : BitVec 32 := 256#32
  let v6340 : BitVec 32 := Scalar.muli v6339 c256_i32_5392
  v6340
def k0_off58 (arg16 : BitVec 32) (arg17 : BitVec 32) : Fin 3 → Nat :=
  let c0_5393 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c256_i32_5392 : BitVec 32 := 256#32
  let v6340 : BitVec 32 := Scalar.muli v6339 c256_i32_5392
  let v6341 : BitVec 32 := v6340
  let v6342 : Index := Scalar.indexCast v6341
  let c0_5394 : Index := 0#32
  ![0, v6342.toNat, 0]
def k0_off59 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6345 : Index := Scalar.indexCast v6338
  let c0_5395 : Index := 0#32
  let c0_5396 : Index := 0#32
  let c0_5397 : Index := 0#32
  ![v6345.toNat, 0, 0, 0]
def k0_off60 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6352 : Index := Scalar.indexCast v6338
  let c1_5403 : Index := 1#32
  let c0_5404 : Index := 0#32
  let c0_5405 : Index := 0#32
  ![v6352.toNat, 1, 0, 0]
def k0_off61 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let v6359 : Index := Scalar.indexCast v6117
  let c0_5411 : Index := 0#32
  let c0_5412 : Index := 0#32
  ![v6359.toNat, 0, 0]
def k0_off62 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6367 : Index := Scalar.indexCast v6116
  let c0_5422 : Index := 0#32
  let c0_5423 : Index := 0#32
  let c0_5424 : Index := 0#32
  ![v6367.toNat, 0, 0, 0]
def k0_off63 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6385 : Index := Scalar.indexCast v6116
  let c1_5439 : Index := 1#32
  let c0_5440 : Index := 0#32
  let c0_5441 : Index := 0#32
  ![v6385.toNat, 1, 0, 0]
def k0_off64 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6397 : Index := Scalar.indexCast v6227
  let c0_5449 : Index := 0#32
  let c0_5450 : Index := 0#32
  let c0_5451 : Index := 0#32
  ![v6397.toNat, 0, 0, 0]
def k0_off65 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6421 : Index := Scalar.indexCast v6227
  let c1_5468 : Index := 1#32
  let c0_5469 : Index := 0#32
  let c0_5470 : Index := 0#32
  ![v6421.toNat, 1, 0, 0]
def k0_mult10 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c256_i32_5489 : BitVec 32 := 256#32
  let v6451 : BitVec 32 := Scalar.muli v6450 c256_i32_5489
  v6451
def k0_off66 (arg16 : BitVec 32) (arg17 : BitVec 32) : Fin 3 → Nat :=
  let c0_5490 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c256_i32_5489 : BitVec 32 := 256#32
  let v6451 : BitVec 32 := Scalar.muli v6450 c256_i32_5489
  let v6452 : BitVec 32 := v6451
  let v6453 : Index := Scalar.indexCast v6452
  let c0_5491 : Index := 0#32
  ![0, v6453.toNat, 0]
def k0_off67 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6456 : Index := Scalar.indexCast v6449
  let c0_5492 : Index := 0#32
  let c0_5493 : Index := 0#32
  let c0_5494 : Index := 0#32
  ![v6456.toNat, 0, 0, 0]
def k0_off68 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6463 : Index := Scalar.indexCast v6449
  let c1_5500 : Index := 1#32
  let c0_5501 : Index := 0#32
  let c0_5502 : Index := 0#32
  ![v6463.toNat, 1, 0, 0]
def k0_off69 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let v6470 : Index := Scalar.indexCast v6228
  let c0_5508 : Index := 0#32
  let c0_5509 : Index := 0#32
  ![v6470.toNat, 0, 0]
def k0_off70 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6478 : Index := Scalar.indexCast v6227
  let c0_5519 : Index := 0#32
  let c0_5520 : Index := 0#32
  let c0_5521 : Index := 0#32
  ![v6478.toNat, 0, 0, 0]
def k0_off71 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6496 : Index := Scalar.indexCast v6227
  let c1_5536 : Index := 1#32
  let c0_5537 : Index := 0#32
  let c0_5538 : Index := 0#32
  ![v6496.toNat, 1, 0, 0]
def k0_off72 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6508 : Index := Scalar.indexCast v6338
  let c0_5546 : Index := 0#32
  let c0_5547 : Index := 0#32
  let c0_5548 : Index := 0#32
  ![v6508.toNat, 0, 0, 0]
def k0_off73 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6532 : Index := Scalar.indexCast v6338
  let c1_5565 : Index := 1#32
  let c0_5566 : Index := 0#32
  let c0_5567 : Index := 0#32
  ![v6532.toNat, 1, 0, 0]
def k0_mult11 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c256_i32_5586 : BitVec 32 := 256#32
  let v6562 : BitVec 32 := Scalar.muli v6561 c256_i32_5586
  v6562
def k0_off74 (arg16 : BitVec 32) (arg17 : BitVec 32) : Fin 3 → Nat :=
  let c0_5587 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c256_i32_5586 : BitVec 32 := 256#32
  let v6562 : BitVec 32 := Scalar.muli v6561 c256_i32_5586
  let v6563 : BitVec 32 := v6562
  let v6564 : Index := Scalar.indexCast v6563
  let c0_5588 : Index := 0#32
  ![0, v6564.toNat, 0]
def k0_off75 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6567 : Index := Scalar.indexCast v6560
  let c0_5589 : Index := 0#32
  let c0_5590 : Index := 0#32
  let c0_5591 : Index := 0#32
  ![v6567.toNat, 0, 0, 0]
def k0_off76 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6574 : Index := Scalar.indexCast v6560
  let c1_5597 : Index := 1#32
  let c0_5598 : Index := 0#32
  let c0_5599 : Index := 0#32
  ![v6574.toNat, 1, 0, 0]
def k0_off77 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let v6581 : Index := Scalar.indexCast v6339
  let c0_5605 : Index := 0#32
  let c0_5606 : Index := 0#32
  ![v6581.toNat, 0, 0]
def k0_off78 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6589 : Index := Scalar.indexCast v6338
  let c0_5616 : Index := 0#32
  let c0_5617 : Index := 0#32
  let c0_5618 : Index := 0#32
  ![v6589.toNat, 0, 0, 0]
def k0_off79 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6607 : Index := Scalar.indexCast v6338
  let c1_5633 : Index := 1#32
  let c0_5634 : Index := 0#32
  let c0_5635 : Index := 0#32
  ![v6607.toNat, 1, 0, 0]
def k0_off80 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6619 : Index := Scalar.indexCast v6449
  let c0_5643 : Index := 0#32
  let c0_5644 : Index := 0#32
  let c0_5645 : Index := 0#32
  ![v6619.toNat, 0, 0, 0]
def k0_off81 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6643 : Index := Scalar.indexCast v6449
  let c1_5662 : Index := 1#32
  let c0_5663 : Index := 0#32
  let c0_5664 : Index := 0#32
  ![v6643.toNat, 1, 0, 0]
def k0_mult12 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c256_i32_5683 : BitVec 32 := 256#32
  let v6673 : BitVec 32 := Scalar.muli v6672 c256_i32_5683
  v6673
def k0_off82 (arg16 : BitVec 32) (arg17 : BitVec 32) : Fin 3 → Nat :=
  let c0_5684 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c256_i32_5683 : BitVec 32 := 256#32
  let v6673 : BitVec 32 := Scalar.muli v6672 c256_i32_5683
  let v6674 : BitVec 32 := v6673
  let v6675 : Index := Scalar.indexCast v6674
  let c0_5685 : Index := 0#32
  ![0, v6675.toNat, 0]
def k0_off83 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6678 : Index := Scalar.indexCast v6671
  let c0_5686 : Index := 0#32
  let c0_5687 : Index := 0#32
  let c0_5688 : Index := 0#32
  ![v6678.toNat, 0, 0, 0]
def k0_off84 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6685 : Index := Scalar.indexCast v6671
  let c1_5694 : Index := 1#32
  let c0_5695 : Index := 0#32
  let c0_5696 : Index := 0#32
  ![v6685.toNat, 1, 0, 0]
def k0_off85 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let v6692 : Index := Scalar.indexCast v6450
  let c0_5702 : Index := 0#32
  let c0_5703 : Index := 0#32
  ![v6692.toNat, 0, 0]
def k0_off86 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6700 : Index := Scalar.indexCast v6449
  let c0_5713 : Index := 0#32
  let c0_5714 : Index := 0#32
  let c0_5715 : Index := 0#32
  ![v6700.toNat, 0, 0, 0]
def k0_off87 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6718 : Index := Scalar.indexCast v6449
  let c1_5730 : Index := 1#32
  let c0_5731 : Index := 0#32
  let c0_5732 : Index := 0#32
  ![v6718.toNat, 1, 0, 0]
def k0_off88 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6730 : Index := Scalar.indexCast v6560
  let c0_5740 : Index := 0#32
  let c0_5741 : Index := 0#32
  let c0_5742 : Index := 0#32
  ![v6730.toNat, 0, 0, 0]
def k0_off89 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6754 : Index := Scalar.indexCast v6560
  let c1_5759 : Index := 1#32
  let c0_5760 : Index := 0#32
  let c0_5761 : Index := 0#32
  ![v6754.toNat, 1, 0, 0]
def k0_mult13 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c256_i32_5780 : BitVec 32 := 256#32
  let v6784 : BitVec 32 := Scalar.muli v6783 c256_i32_5780
  v6784
def k0_off90 (arg16 : BitVec 32) (arg17 : BitVec 32) : Fin 3 → Nat :=
  let c0_5781 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c256_i32_5780 : BitVec 32 := 256#32
  let v6784 : BitVec 32 := Scalar.muli v6783 c256_i32_5780
  let v6785 : BitVec 32 := v6784
  let v6786 : Index := Scalar.indexCast v6785
  let c0_5782 : Index := 0#32
  ![0, v6786.toNat, 0]
def k0_off91 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6789 : Index := Scalar.indexCast v6782
  let c0_5783 : Index := 0#32
  let c0_5784 : Index := 0#32
  let c0_5785 : Index := 0#32
  ![v6789.toNat, 0, 0, 0]
def k0_off92 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6796 : Index := Scalar.indexCast v6782
  let c1_5791 : Index := 1#32
  let c0_5792 : Index := 0#32
  let c0_5793 : Index := 0#32
  ![v6796.toNat, 1, 0, 0]
def k0_off93 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let v6803 : Index := Scalar.indexCast v6561
  let c0_5799 : Index := 0#32
  let c0_5800 : Index := 0#32
  ![v6803.toNat, 0, 0]
def k0_off94 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6811 : Index := Scalar.indexCast v6560
  let c0_5810 : Index := 0#32
  let c0_5811 : Index := 0#32
  let c0_5812 : Index := 0#32
  ![v6811.toNat, 0, 0, 0]
def k0_off95 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6829 : Index := Scalar.indexCast v6560
  let c1_5827 : Index := 1#32
  let c0_5828 : Index := 0#32
  let c0_5829 : Index := 0#32
  ![v6829.toNat, 1, 0, 0]
def k0_off96 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6841 : Index := Scalar.indexCast v6671
  let c0_5837 : Index := 0#32
  let c0_5838 : Index := 0#32
  let c0_5839 : Index := 0#32
  ![v6841.toNat, 0, 0, 0]
def k0_off97 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6865 : Index := Scalar.indexCast v6671
  let c1_5856 : Index := 1#32
  let c0_5857 : Index := 0#32
  let c0_5858 : Index := 0#32
  ![v6865.toNat, 1, 0, 0]
def k0_mult14 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c256_i32_5877 : BitVec 32 := 256#32
  let v6895 : BitVec 32 := Scalar.muli v6894 c256_i32_5877
  v6895
def k0_off98 (arg16 : BitVec 32) (arg17 : BitVec 32) : Fin 3 → Nat :=
  let c0_5878 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c256_i32_5877 : BitVec 32 := 256#32
  let v6895 : BitVec 32 := Scalar.muli v6894 c256_i32_5877
  let v6896 : BitVec 32 := v6895
  let v6897 : Index := Scalar.indexCast v6896
  let c0_5879 : Index := 0#32
  ![0, v6897.toNat, 0]
def k0_off99 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6900 : Index := Scalar.indexCast v6893
  let c0_5880 : Index := 0#32
  let c0_5881 : Index := 0#32
  let c0_5882 : Index := 0#32
  ![v6900.toNat, 0, 0, 0]
def k0_off100 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6907 : Index := Scalar.indexCast v6893
  let c1_5888 : Index := 1#32
  let c0_5889 : Index := 0#32
  let c0_5890 : Index := 0#32
  ![v6907.toNat, 1, 0, 0]
def k0_off101 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let v6914 : Index := Scalar.indexCast v6672
  let c0_5896 : Index := 0#32
  let c0_5897 : Index := 0#32
  ![v6914.toNat, 0, 0]
def k0_off102 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6922 : Index := Scalar.indexCast v6671
  let c0_5907 : Index := 0#32
  let c0_5908 : Index := 0#32
  let c0_5909 : Index := 0#32
  ![v6922.toNat, 0, 0, 0]
def k0_off103 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6940 : Index := Scalar.indexCast v6671
  let c1_5924 : Index := 1#32
  let c0_5925 : Index := 0#32
  let c0_5926 : Index := 0#32
  ![v6940.toNat, 1, 0, 0]
def k0_off104 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6952 : Index := Scalar.indexCast v6782
  let c0_5934 : Index := 0#32
  let c0_5935 : Index := 0#32
  let c0_5936 : Index := 0#32
  ![v6952.toNat, 0, 0, 0]
def k0_off105 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6976 : Index := Scalar.indexCast v6782
  let c1_5953 : Index := 1#32
  let c0_5954 : Index := 0#32
  let c0_5955 : Index := 0#32
  ![v6976.toNat, 1, 0, 0]
def k0_mult15 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c256_i32_5974 : BitVec 32 := 256#32
  let v7006 : BitVec 32 := Scalar.muli v7005 c256_i32_5974
  v7006
def k0_off106 (arg16 : BitVec 32) (arg17 : BitVec 32) : Fin 3 → Nat :=
  let c0_5975 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c256_i32_5974 : BitVec 32 := 256#32
  let v7006 : BitVec 32 := Scalar.muli v7005 c256_i32_5974
  let v7007 : BitVec 32 := v7006
  let v7008 : Index := Scalar.indexCast v7007
  let c0_5976 : Index := 0#32
  ![0, v7008.toNat, 0]
def k0_off107 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7011 : Index := Scalar.indexCast v7004
  let c0_5977 : Index := 0#32
  let c0_5978 : Index := 0#32
  let c0_5979 : Index := 0#32
  ![v7011.toNat, 0, 0, 0]
def k0_off108 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7018 : Index := Scalar.indexCast v7004
  let c1_5985 : Index := 1#32
  let c0_5986 : Index := 0#32
  let c0_5987 : Index := 0#32
  ![v7018.toNat, 1, 0, 0]
def k0_off109 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let v7025 : Index := Scalar.indexCast v6783
  let c0_5993 : Index := 0#32
  let c0_5994 : Index := 0#32
  ![v7025.toNat, 0, 0]
def k0_off110 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v7033 : Index := Scalar.indexCast v6782
  let c0_6004 : Index := 0#32
  let c0_6005 : Index := 0#32
  let c0_6006 : Index := 0#32
  ![v7033.toNat, 0, 0, 0]
def k0_off111 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v7051 : Index := Scalar.indexCast v6782
  let c1_6021 : Index := 1#32
  let c0_6022 : Index := 0#32
  let c0_6023 : Index := 0#32
  ![v7051.toNat, 1, 0, 0]
def k0_off112 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v7063 : Index := Scalar.indexCast v6893
  let c0_6031 : Index := 0#32
  let c0_6032 : Index := 0#32
  let c0_6033 : Index := 0#32
  ![v7063.toNat, 0, 0, 0]
def k0_off113 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v7087 : Index := Scalar.indexCast v6893
  let c1_6050 : Index := 1#32
  let c0_6051 : Index := 0#32
  let c0_6052 : Index := 0#32
  ![v7087.toNat, 1, 0, 0]
def k0_mult16 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c256_i32_6071 : BitVec 32 := 256#32
  let v7117 : BitVec 32 := Scalar.muli v7116 c256_i32_6071
  v7117
def k0_off114 (arg16 : BitVec 32) (arg17 : BitVec 32) : Fin 3 → Nat :=
  let c0_6072 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c256_i32_6071 : BitVec 32 := 256#32
  let v7117 : BitVec 32 := Scalar.muli v7116 c256_i32_6071
  let v7118 : BitVec 32 := v7117
  let v7119 : Index := Scalar.indexCast v7118
  let c0_6073 : Index := 0#32
  ![0, v7119.toNat, 0]
def k0_off115 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7122 : Index := Scalar.indexCast v7115
  let c0_6074 : Index := 0#32
  let c0_6075 : Index := 0#32
  let c0_6076 : Index := 0#32
  ![v7122.toNat, 0, 0, 0]
def k0_off116 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7129 : Index := Scalar.indexCast v7115
  let c1_6082 : Index := 1#32
  let c0_6083 : Index := 0#32
  let c0_6084 : Index := 0#32
  ![v7129.toNat, 1, 0, 0]
def k0_off117 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let v7136 : Index := Scalar.indexCast v6894
  let c0_6090 : Index := 0#32
  let c0_6091 : Index := 0#32
  ![v7136.toNat, 0, 0]
def k0_off118 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v7144 : Index := Scalar.indexCast v6893
  let c0_6101 : Index := 0#32
  let c0_6102 : Index := 0#32
  let c0_6103 : Index := 0#32
  ![v7144.toNat, 0, 0, 0]
def k0_off119 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v7162 : Index := Scalar.indexCast v6893
  let c1_6118 : Index := 1#32
  let c0_6119 : Index := 0#32
  let c0_6120 : Index := 0#32
  ![v7162.toNat, 1, 0, 0]
def k0_off120 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7174 : Index := Scalar.indexCast v7004
  let c0_6128 : Index := 0#32
  let c0_6129 : Index := 0#32
  let c0_6130 : Index := 0#32
  ![v7174.toNat, 0, 0, 0]
def k0_off121 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7198 : Index := Scalar.indexCast v7004
  let c1_6147 : Index := 1#32
  let c0_6148 : Index := 0#32
  let c0_6149 : Index := 0#32
  ![v7198.toNat, 1, 0, 0]
def k0_mult17 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c256_i32_6168 : BitVec 32 := 256#32
  let v7228 : BitVec 32 := Scalar.muli v7227 c256_i32_6168
  v7228
def k0_off122 (arg16 : BitVec 32) (arg17 : BitVec 32) : Fin 3 → Nat :=
  let c0_6169 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c256_i32_6168 : BitVec 32 := 256#32
  let v7228 : BitVec 32 := Scalar.muli v7227 c256_i32_6168
  let v7229 : BitVec 32 := v7228
  let v7230 : Index := Scalar.indexCast v7229
  let c0_6170 : Index := 0#32
  ![0, v7230.toNat, 0]
def k0_off123 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7233 : Index := Scalar.indexCast v7226
  let c0_6171 : Index := 0#32
  let c0_6172 : Index := 0#32
  let c0_6173 : Index := 0#32
  ![v7233.toNat, 0, 0, 0]
def k0_off124 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7240 : Index := Scalar.indexCast v7226
  let c1_6179 : Index := 1#32
  let c0_6180 : Index := 0#32
  let c0_6181 : Index := 0#32
  ![v7240.toNat, 1, 0, 0]
def k0_off125 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let v7247 : Index := Scalar.indexCast v7005
  let c0_6187 : Index := 0#32
  let c0_6188 : Index := 0#32
  ![v7247.toNat, 0, 0]
def k0_off126 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7255 : Index := Scalar.indexCast v7004
  let c0_6198 : Index := 0#32
  let c0_6199 : Index := 0#32
  let c0_6200 : Index := 0#32
  ![v7255.toNat, 0, 0, 0]
def k0_off127 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7273 : Index := Scalar.indexCast v7004
  let c1_6215 : Index := 1#32
  let c0_6216 : Index := 0#32
  let c0_6217 : Index := 0#32
  ![v7273.toNat, 1, 0, 0]
def k0_off128 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7285 : Index := Scalar.indexCast v7115
  let c0_6225 : Index := 0#32
  let c0_6226 : Index := 0#32
  let c0_6227 : Index := 0#32
  ![v7285.toNat, 0, 0, 0]
def k0_off129 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7309 : Index := Scalar.indexCast v7115
  let c1_6244 : Index := 1#32
  let c0_6245 : Index := 0#32
  let c0_6246 : Index := 0#32
  ![v7309.toNat, 1, 0, 0]
def k0_mult18 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c256_i32_6265 : BitVec 32 := 256#32
  let v7339 : BitVec 32 := Scalar.muli v7338 c256_i32_6265
  v7339
def k0_off130 (arg16 : BitVec 32) (arg17 : BitVec 32) : Fin 3 → Nat :=
  let c0_6266 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c256_i32_6265 : BitVec 32 := 256#32
  let v7339 : BitVec 32 := Scalar.muli v7338 c256_i32_6265
  let v7340 : BitVec 32 := v7339
  let v7341 : Index := Scalar.indexCast v7340
  let c0_6267 : Index := 0#32
  ![0, v7341.toNat, 0]
def k0_off131 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7344 : Index := Scalar.indexCast v7337
  let c0_6268 : Index := 0#32
  let c0_6269 : Index := 0#32
  let c0_6270 : Index := 0#32
  ![v7344.toNat, 0, 0, 0]
def k0_off132 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7351 : Index := Scalar.indexCast v7337
  let c1_6276 : Index := 1#32
  let c0_6277 : Index := 0#32
  let c0_6278 : Index := 0#32
  ![v7351.toNat, 1, 0, 0]
def k0_off133 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let v7358 : Index := Scalar.indexCast v7116
  let c0_6284 : Index := 0#32
  let c0_6285 : Index := 0#32
  ![v7358.toNat, 0, 0]
def k0_off134 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7366 : Index := Scalar.indexCast v7115
  let c0_6295 : Index := 0#32
  let c0_6296 : Index := 0#32
  let c0_6297 : Index := 0#32
  ![v7366.toNat, 0, 0, 0]
def k0_off135 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7384 : Index := Scalar.indexCast v7115
  let c1_6312 : Index := 1#32
  let c0_6313 : Index := 0#32
  let c0_6314 : Index := 0#32
  ![v7384.toNat, 1, 0, 0]
def k0_off136 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7396 : Index := Scalar.indexCast v7226
  let c0_6322 : Index := 0#32
  let c0_6323 : Index := 0#32
  let c0_6324 : Index := 0#32
  ![v7396.toNat, 0, 0, 0]
def k0_off137 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7420 : Index := Scalar.indexCast v7226
  let c1_6341 : Index := 1#32
  let c0_6342 : Index := 0#32
  let c0_6343 : Index := 0#32
  ![v7420.toNat, 1, 0, 0]
def k0_mult19 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c256_i32_6362 : BitVec 32 := 256#32
  let v7450 : BitVec 32 := Scalar.muli v7449 c256_i32_6362
  v7450
def k0_off138 (arg16 : BitVec 32) (arg17 : BitVec 32) : Fin 3 → Nat :=
  let c0_6363 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c256_i32_6362 : BitVec 32 := 256#32
  let v7450 : BitVec 32 := Scalar.muli v7449 c256_i32_6362
  let v7451 : BitVec 32 := v7450
  let v7452 : Index := Scalar.indexCast v7451
  let c0_6364 : Index := 0#32
  ![0, v7452.toNat, 0]
def k0_off139 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7455 : Index := Scalar.indexCast v7448
  let c0_6365 : Index := 0#32
  let c0_6366 : Index := 0#32
  let c0_6367 : Index := 0#32
  ![v7455.toNat, 0, 0, 0]
def k0_off140 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7462 : Index := Scalar.indexCast v7448
  let c1_6373 : Index := 1#32
  let c0_6374 : Index := 0#32
  let c0_6375 : Index := 0#32
  ![v7462.toNat, 1, 0, 0]
def k0_off141 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let v7469 : Index := Scalar.indexCast v7227
  let c0_6381 : Index := 0#32
  let c0_6382 : Index := 0#32
  ![v7469.toNat, 0, 0]
def k0_off142 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7477 : Index := Scalar.indexCast v7226
  let c0_6392 : Index := 0#32
  let c0_6393 : Index := 0#32
  let c0_6394 : Index := 0#32
  ![v7477.toNat, 0, 0, 0]
def k0_off143 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7495 : Index := Scalar.indexCast v7226
  let c1_6409 : Index := 1#32
  let c0_6410 : Index := 0#32
  let c0_6411 : Index := 0#32
  ![v7495.toNat, 1, 0, 0]
def k0_off144 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7507 : Index := Scalar.indexCast v7337
  let c0_6419 : Index := 0#32
  let c0_6420 : Index := 0#32
  let c0_6421 : Index := 0#32
  ![v7507.toNat, 0, 0, 0]
def k0_off145 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7531 : Index := Scalar.indexCast v7337
  let c1_6438 : Index := 1#32
  let c0_6439 : Index := 0#32
  let c0_6440 : Index := 0#32
  ![v7531.toNat, 1, 0, 0]
def k0_mult20 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c256_i32_6459 : BitVec 32 := 256#32
  let v7561 : BitVec 32 := Scalar.muli v7560 c256_i32_6459
  v7561
def k0_off146 (arg16 : BitVec 32) (arg17 : BitVec 32) : Fin 3 → Nat :=
  let c0_6460 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c256_i32_6459 : BitVec 32 := 256#32
  let v7561 : BitVec 32 := Scalar.muli v7560 c256_i32_6459
  let v7562 : BitVec 32 := v7561
  let v7563 : Index := Scalar.indexCast v7562
  let c0_6461 : Index := 0#32
  ![0, v7563.toNat, 0]
def k0_off147 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7566 : Index := Scalar.indexCast v7559
  let c0_6462 : Index := 0#32
  let c0_6463 : Index := 0#32
  let c0_6464 : Index := 0#32
  ![v7566.toNat, 0, 0, 0]
def k0_off148 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7573 : Index := Scalar.indexCast v7559
  let c1_6470 : Index := 1#32
  let c0_6471 : Index := 0#32
  let c0_6472 : Index := 0#32
  ![v7573.toNat, 1, 0, 0]
def k0_off149 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let v7580 : Index := Scalar.indexCast v7338
  let c0_6478 : Index := 0#32
  let c0_6479 : Index := 0#32
  ![v7580.toNat, 0, 0]
def k0_off150 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7588 : Index := Scalar.indexCast v7337
  let c0_6489 : Index := 0#32
  let c0_6490 : Index := 0#32
  let c0_6491 : Index := 0#32
  ![v7588.toNat, 0, 0, 0]
def k0_off151 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7606 : Index := Scalar.indexCast v7337
  let c1_6506 : Index := 1#32
  let c0_6507 : Index := 0#32
  let c0_6508 : Index := 0#32
  ![v7606.toNat, 1, 0, 0]
def k0_off152 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7618 : Index := Scalar.indexCast v7448
  let c0_6516 : Index := 0#32
  let c0_6517 : Index := 0#32
  let c0_6518 : Index := 0#32
  ![v7618.toNat, 0, 0, 0]
def k0_off153 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7642 : Index := Scalar.indexCast v7448
  let c1_6535 : Index := 1#32
  let c0_6536 : Index := 0#32
  let c0_6537 : Index := 0#32
  ![v7642.toNat, 1, 0, 0]
def k0_mult21 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c256_i32_6556 : BitVec 32 := 256#32
  let v7672 : BitVec 32 := Scalar.muli v7671 c256_i32_6556
  v7672
def k0_off154 (arg16 : BitVec 32) (arg17 : BitVec 32) : Fin 3 → Nat :=
  let c0_6557 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c256_i32_6556 : BitVec 32 := 256#32
  let v7672 : BitVec 32 := Scalar.muli v7671 c256_i32_6556
  let v7673 : BitVec 32 := v7672
  let v7674 : Index := Scalar.indexCast v7673
  let c0_6558 : Index := 0#32
  ![0, v7674.toNat, 0]
def k0_off155 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7677 : Index := Scalar.indexCast v7670
  let c0_6559 : Index := 0#32
  let c0_6560 : Index := 0#32
  let c0_6561 : Index := 0#32
  ![v7677.toNat, 0, 0, 0]
def k0_off156 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7684 : Index := Scalar.indexCast v7670
  let c1_6567 : Index := 1#32
  let c0_6568 : Index := 0#32
  let c0_6569 : Index := 0#32
  ![v7684.toNat, 1, 0, 0]
def k0_off157 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let v7691 : Index := Scalar.indexCast v7449
  let c0_6575 : Index := 0#32
  let c0_6576 : Index := 0#32
  ![v7691.toNat, 0, 0]
def k0_off158 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7699 : Index := Scalar.indexCast v7448
  let c0_6586 : Index := 0#32
  let c0_6587 : Index := 0#32
  let c0_6588 : Index := 0#32
  ![v7699.toNat, 0, 0, 0]
def k0_off159 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7717 : Index := Scalar.indexCast v7448
  let c1_6603 : Index := 1#32
  let c0_6604 : Index := 0#32
  let c0_6605 : Index := 0#32
  ![v7717.toNat, 1, 0, 0]
def k0_off160 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7729 : Index := Scalar.indexCast v7559
  let c0_6613 : Index := 0#32
  let c0_6614 : Index := 0#32
  let c0_6615 : Index := 0#32
  ![v7729.toNat, 0, 0, 0]
def k0_off161 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7753 : Index := Scalar.indexCast v7559
  let c1_6632 : Index := 1#32
  let c0_6633 : Index := 0#32
  let c0_6634 : Index := 0#32
  ![v7753.toNat, 1, 0, 0]
def k0_mult22 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c256_i32_6653 : BitVec 32 := 256#32
  let v7783 : BitVec 32 := Scalar.muli v7782 c256_i32_6653
  v7783
def k0_off162 (arg16 : BitVec 32) (arg17 : BitVec 32) : Fin 3 → Nat :=
  let c0_6654 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c256_i32_6653 : BitVec 32 := 256#32
  let v7783 : BitVec 32 := Scalar.muli v7782 c256_i32_6653
  let v7784 : BitVec 32 := v7783
  let v7785 : Index := Scalar.indexCast v7784
  let c0_6655 : Index := 0#32
  ![0, v7785.toNat, 0]
def k0_off163 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7788 : Index := Scalar.indexCast v7781
  let c0_6656 : Index := 0#32
  let c0_6657 : Index := 0#32
  let c0_6658 : Index := 0#32
  ![v7788.toNat, 0, 0, 0]
def k0_off164 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7795 : Index := Scalar.indexCast v7781
  let c1_6664 : Index := 1#32
  let c0_6665 : Index := 0#32
  let c0_6666 : Index := 0#32
  ![v7795.toNat, 1, 0, 0]
def k0_off165 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let v7802 : Index := Scalar.indexCast v7560
  let c0_6672 : Index := 0#32
  let c0_6673 : Index := 0#32
  ![v7802.toNat, 0, 0]
def k0_off166 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7810 : Index := Scalar.indexCast v7559
  let c0_6683 : Index := 0#32
  let c0_6684 : Index := 0#32
  let c0_6685 : Index := 0#32
  ![v7810.toNat, 0, 0, 0]
def k0_off167 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7828 : Index := Scalar.indexCast v7559
  let c1_6700 : Index := 1#32
  let c0_6701 : Index := 0#32
  let c0_6702 : Index := 0#32
  ![v7828.toNat, 1, 0, 0]
def k0_off168 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7840 : Index := Scalar.indexCast v7670
  let c0_6710 : Index := 0#32
  let c0_6711 : Index := 0#32
  let c0_6712 : Index := 0#32
  ![v7840.toNat, 0, 0, 0]
def k0_off169 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7864 : Index := Scalar.indexCast v7670
  let c1_6729 : Index := 1#32
  let c0_6730 : Index := 0#32
  let c0_6731 : Index := 0#32
  ![v7864.toNat, 1, 0, 0]
def k0_mult23 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c256_i32_6750 : BitVec 32 := 256#32
  let v7894 : BitVec 32 := Scalar.muli v7893 c256_i32_6750
  v7894
def k0_off170 (arg16 : BitVec 32) (arg17 : BitVec 32) : Fin 3 → Nat :=
  let c0_6751 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c256_i32_6750 : BitVec 32 := 256#32
  let v7894 : BitVec 32 := Scalar.muli v7893 c256_i32_6750
  let v7895 : BitVec 32 := v7894
  let v7896 : Index := Scalar.indexCast v7895
  let c0_6752 : Index := 0#32
  ![0, v7896.toNat, 0]
def k0_off171 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7899 : Index := Scalar.indexCast v7892
  let c0_6753 : Index := 0#32
  let c0_6754 : Index := 0#32
  let c0_6755 : Index := 0#32
  ![v7899.toNat, 0, 0, 0]
def k0_off172 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7906 : Index := Scalar.indexCast v7892
  let c1_6761 : Index := 1#32
  let c0_6762 : Index := 0#32
  let c0_6763 : Index := 0#32
  ![v7906.toNat, 1, 0, 0]
def k0_off173 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let v7913 : Index := Scalar.indexCast v7671
  let c0_6769 : Index := 0#32
  let c0_6770 : Index := 0#32
  ![v7913.toNat, 0, 0]
def k0_off174 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7921 : Index := Scalar.indexCast v7670
  let c0_6780 : Index := 0#32
  let c0_6781 : Index := 0#32
  let c0_6782 : Index := 0#32
  ![v7921.toNat, 0, 0, 0]
def k0_off175 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7939 : Index := Scalar.indexCast v7670
  let c1_6797 : Index := 1#32
  let c0_6798 : Index := 0#32
  let c0_6799 : Index := 0#32
  ![v7939.toNat, 1, 0, 0]
def k0_off176 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7951 : Index := Scalar.indexCast v7781
  let c0_6807 : Index := 0#32
  let c0_6808 : Index := 0#32
  let c0_6809 : Index := 0#32
  ![v7951.toNat, 0, 0, 0]
def k0_off177 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7975 : Index := Scalar.indexCast v7781
  let c1_6826 : Index := 1#32
  let c0_6827 : Index := 0#32
  let c0_6828 : Index := 0#32
  ![v7975.toNat, 1, 0, 0]
def k0_mult24 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c256_i32_6847 : BitVec 32 := 256#32
  let v8005 : BitVec 32 := Scalar.muli v8004 c256_i32_6847
  v8005
def k0_off178 (arg16 : BitVec 32) (arg17 : BitVec 32) : Fin 3 → Nat :=
  let c0_6848 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c256_i32_6847 : BitVec 32 := 256#32
  let v8005 : BitVec 32 := Scalar.muli v8004 c256_i32_6847
  let v8006 : BitVec 32 := v8005
  let v8007 : Index := Scalar.indexCast v8006
  let c0_6849 : Index := 0#32
  ![0, v8007.toNat, 0]
def k0_off179 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8010 : Index := Scalar.indexCast v8003
  let c0_6850 : Index := 0#32
  let c0_6851 : Index := 0#32
  let c0_6852 : Index := 0#32
  ![v8010.toNat, 0, 0, 0]
def k0_off180 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8017 : Index := Scalar.indexCast v8003
  let c1_6858 : Index := 1#32
  let c0_6859 : Index := 0#32
  let c0_6860 : Index := 0#32
  ![v8017.toNat, 1, 0, 0]
def k0_off181 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let v8024 : Index := Scalar.indexCast v7782
  let c0_6866 : Index := 0#32
  let c0_6867 : Index := 0#32
  ![v8024.toNat, 0, 0]
def k0_off182 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v8032 : Index := Scalar.indexCast v7781
  let c0_6877 : Index := 0#32
  let c0_6878 : Index := 0#32
  let c0_6879 : Index := 0#32
  ![v8032.toNat, 0, 0, 0]
def k0_off183 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v8050 : Index := Scalar.indexCast v7781
  let c1_6894 : Index := 1#32
  let c0_6895 : Index := 0#32
  let c0_6896 : Index := 0#32
  ![v8050.toNat, 1, 0, 0]
def k0_off184 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v8062 : Index := Scalar.indexCast v7892
  let c0_6904 : Index := 0#32
  let c0_6905 : Index := 0#32
  let c0_6906 : Index := 0#32
  ![v8062.toNat, 0, 0, 0]
def k0_off185 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v8086 : Index := Scalar.indexCast v7892
  let c1_6923 : Index := 1#32
  let c0_6924 : Index := 0#32
  let c0_6925 : Index := 0#32
  ![v8086.toNat, 1, 0, 0]
def k0_mult25 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c256_i32_6944 : BitVec 32 := 256#32
  let v8116 : BitVec 32 := Scalar.muli v8115 c256_i32_6944
  v8116
def k0_off186 (arg16 : BitVec 32) (arg17 : BitVec 32) : Fin 3 → Nat :=
  let c0_6945 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c256_i32_6944 : BitVec 32 := 256#32
  let v8116 : BitVec 32 := Scalar.muli v8115 c256_i32_6944
  let v8117 : BitVec 32 := v8116
  let v8118 : Index := Scalar.indexCast v8117
  let c0_6946 : Index := 0#32
  ![0, v8118.toNat, 0]
def k0_off187 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8121 : Index := Scalar.indexCast v8114
  let c0_6947 : Index := 0#32
  let c0_6948 : Index := 0#32
  let c0_6949 : Index := 0#32
  ![v8121.toNat, 0, 0, 0]
def k0_off188 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8128 : Index := Scalar.indexCast v8114
  let c1_6955 : Index := 1#32
  let c0_6956 : Index := 0#32
  let c0_6957 : Index := 0#32
  ![v8128.toNat, 1, 0, 0]
def k0_off189 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let v8135 : Index := Scalar.indexCast v7893
  let c0_6963 : Index := 0#32
  let c0_6964 : Index := 0#32
  ![v8135.toNat, 0, 0]
def k0_off190 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v8143 : Index := Scalar.indexCast v7892
  let c0_6974 : Index := 0#32
  let c0_6975 : Index := 0#32
  let c0_6976 : Index := 0#32
  ![v8143.toNat, 0, 0, 0]
def k0_off191 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v8161 : Index := Scalar.indexCast v7892
  let c1_6991 : Index := 1#32
  let c0_6992 : Index := 0#32
  let c0_6993 : Index := 0#32
  ![v8161.toNat, 1, 0, 0]
def k0_off192 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8173 : Index := Scalar.indexCast v8003
  let c0_7001 : Index := 0#32
  let c0_7002 : Index := 0#32
  let c0_7003 : Index := 0#32
  ![v8173.toNat, 0, 0, 0]
def k0_off193 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8197 : Index := Scalar.indexCast v8003
  let c1_7020 : Index := 1#32
  let c0_7021 : Index := 0#32
  let c0_7022 : Index := 0#32
  ![v8197.toNat, 1, 0, 0]
def k0_mult26 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c256_i32_7041 : BitVec 32 := 256#32
  let v8227 : BitVec 32 := Scalar.muli v8226 c256_i32_7041
  v8227
def k0_off194 (arg16 : BitVec 32) (arg17 : BitVec 32) : Fin 3 → Nat :=
  let c0_7042 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c256_i32_7041 : BitVec 32 := 256#32
  let v8227 : BitVec 32 := Scalar.muli v8226 c256_i32_7041
  let v8228 : BitVec 32 := v8227
  let v8229 : Index := Scalar.indexCast v8228
  let c0_7043 : Index := 0#32
  ![0, v8229.toNat, 0]
def k0_off195 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8232 : Index := Scalar.indexCast v8225
  let c0_7044 : Index := 0#32
  let c0_7045 : Index := 0#32
  let c0_7046 : Index := 0#32
  ![v8232.toNat, 0, 0, 0]
def k0_off196 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8239 : Index := Scalar.indexCast v8225
  let c1_7052 : Index := 1#32
  let c0_7053 : Index := 0#32
  let c0_7054 : Index := 0#32
  ![v8239.toNat, 1, 0, 0]
def k0_off197 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let v8246 : Index := Scalar.indexCast v8004
  let c0_7060 : Index := 0#32
  let c0_7061 : Index := 0#32
  ![v8246.toNat, 0, 0]
def k0_off198 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8254 : Index := Scalar.indexCast v8003
  let c0_7071 : Index := 0#32
  let c0_7072 : Index := 0#32
  let c0_7073 : Index := 0#32
  ![v8254.toNat, 0, 0, 0]
def k0_off199 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8272 : Index := Scalar.indexCast v8003
  let c1_7088 : Index := 1#32
  let c0_7089 : Index := 0#32
  let c0_7090 : Index := 0#32
  ![v8272.toNat, 1, 0, 0]
def k0_off200 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8284 : Index := Scalar.indexCast v8114
  let c0_7098 : Index := 0#32
  let c0_7099 : Index := 0#32
  let c0_7100 : Index := 0#32
  ![v8284.toNat, 0, 0, 0]
def k0_off201 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8308 : Index := Scalar.indexCast v8114
  let c1_7117 : Index := 1#32
  let c0_7118 : Index := 0#32
  let c0_7119 : Index := 0#32
  ![v8308.toNat, 1, 0, 0]
def k0_mult27 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c256_i32_7138 : BitVec 32 := 256#32
  let v8338 : BitVec 32 := Scalar.muli v8337 c256_i32_7138
  v8338
def k0_off202 (arg16 : BitVec 32) (arg17 : BitVec 32) : Fin 3 → Nat :=
  let c0_7139 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c256_i32_7138 : BitVec 32 := 256#32
  let v8338 : BitVec 32 := Scalar.muli v8337 c256_i32_7138
  let v8339 : BitVec 32 := v8338
  let v8340 : Index := Scalar.indexCast v8339
  let c0_7140 : Index := 0#32
  ![0, v8340.toNat, 0]
def k0_off203 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8343 : Index := Scalar.indexCast v8336
  let c0_7141 : Index := 0#32
  let c0_7142 : Index := 0#32
  let c0_7143 : Index := 0#32
  ![v8343.toNat, 0, 0, 0]
def k0_off204 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8350 : Index := Scalar.indexCast v8336
  let c1_7149 : Index := 1#32
  let c0_7150 : Index := 0#32
  let c0_7151 : Index := 0#32
  ![v8350.toNat, 1, 0, 0]
def k0_off205 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let v8357 : Index := Scalar.indexCast v8115
  let c0_7157 : Index := 0#32
  let c0_7158 : Index := 0#32
  ![v8357.toNat, 0, 0]
def k0_off206 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8365 : Index := Scalar.indexCast v8114
  let c0_7168 : Index := 0#32
  let c0_7169 : Index := 0#32
  let c0_7170 : Index := 0#32
  ![v8365.toNat, 0, 0, 0]
def k0_off207 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8383 : Index := Scalar.indexCast v8114
  let c1_7185 : Index := 1#32
  let c0_7186 : Index := 0#32
  let c0_7187 : Index := 0#32
  ![v8383.toNat, 1, 0, 0]
def k0_off208 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8395 : Index := Scalar.indexCast v8225
  let c0_7195 : Index := 0#32
  let c0_7196 : Index := 0#32
  let c0_7197 : Index := 0#32
  ![v8395.toNat, 0, 0, 0]
def k0_off209 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8419 : Index := Scalar.indexCast v8225
  let c1_7214 : Index := 1#32
  let c0_7215 : Index := 0#32
  let c0_7216 : Index := 0#32
  ![v8419.toNat, 1, 0, 0]
def k0_mult28 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c256_i32_7235 : BitVec 32 := 256#32
  let v8449 : BitVec 32 := Scalar.muli v8448 c256_i32_7235
  v8449
def k0_off210 (arg16 : BitVec 32) (arg17 : BitVec 32) : Fin 3 → Nat :=
  let c0_7236 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c256_i32_7235 : BitVec 32 := 256#32
  let v8449 : BitVec 32 := Scalar.muli v8448 c256_i32_7235
  let v8450 : BitVec 32 := v8449
  let v8451 : Index := Scalar.indexCast v8450
  let c0_7237 : Index := 0#32
  ![0, v8451.toNat, 0]
def k0_off211 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8454 : Index := Scalar.indexCast v8447
  let c0_7238 : Index := 0#32
  let c0_7239 : Index := 0#32
  let c0_7240 : Index := 0#32
  ![v8454.toNat, 0, 0, 0]
def k0_off212 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8461 : Index := Scalar.indexCast v8447
  let c1_7246 : Index := 1#32
  let c0_7247 : Index := 0#32
  let c0_7248 : Index := 0#32
  ![v8461.toNat, 1, 0, 0]
def k0_off213 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let v8468 : Index := Scalar.indexCast v8226
  let c0_7254 : Index := 0#32
  let c0_7255 : Index := 0#32
  ![v8468.toNat, 0, 0]

variable {F : FTy → Type} [FloatOps F]

def k0_off214 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8476 : Index := Scalar.indexCast v8225
  let c0_7265 : Index := 0#32
  let c0_7266 : Index := 0#32
  let c0_7267 : Index := 0#32
  ![v8476.toNat, 0, 0, 0]
def k0_off215 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8494 : Index := Scalar.indexCast v8225
  let c1_7282 : Index := 1#32
  let c0_7283 : Index := 0#32
  let c0_7284 : Index := 0#32
  ![v8494.toNat, 1, 0, 0]
def k0_off216 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8506 : Index := Scalar.indexCast v8336
  let c0_7292 : Index := 0#32
  let c0_7293 : Index := 0#32
  let c0_7294 : Index := 0#32
  ![v8506.toNat, 0, 0, 0]
def k0_off217 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8530 : Index := Scalar.indexCast v8336
  let c1_7311 : Index := 1#32
  let c0_7312 : Index := 0#32
  let c0_7313 : Index := 0#32
  ![v8530.toNat, 1, 0, 0]
def k0_mult29 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c256_i32_7332 : BitVec 32 := 256#32
  let v8560 : BitVec 32 := Scalar.muli v8559 c256_i32_7332
  v8560
def k0_off218 (arg16 : BitVec 32) (arg17 : BitVec 32) : Fin 3 → Nat :=
  let c0_7333 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c256_i32_7332 : BitVec 32 := 256#32
  let v8560 : BitVec 32 := Scalar.muli v8559 c256_i32_7332
  let v8561 : BitVec 32 := v8560
  let v8562 : Index := Scalar.indexCast v8561
  let c0_7334 : Index := 0#32
  ![0, v8562.toNat, 0]
def k0_off219 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8565 : Index := Scalar.indexCast v8558
  let c0_7335 : Index := 0#32
  let c0_7336 : Index := 0#32
  let c0_7337 : Index := 0#32
  ![v8565.toNat, 0, 0, 0]
def k0_off220 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8572 : Index := Scalar.indexCast v8558
  let c1_7343 : Index := 1#32
  let c0_7344 : Index := 0#32
  let c0_7345 : Index := 0#32
  ![v8572.toNat, 1, 0, 0]
def k0_off221 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let v8579 : Index := Scalar.indexCast v8337
  let c0_7351 : Index := 0#32
  let c0_7352 : Index := 0#32
  ![v8579.toNat, 0, 0]
def k0_off222 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8587 : Index := Scalar.indexCast v8336
  let c0_7362 : Index := 0#32
  let c0_7363 : Index := 0#32
  let c0_7364 : Index := 0#32
  ![v8587.toNat, 0, 0, 0]
def k0_off223 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8605 : Index := Scalar.indexCast v8336
  let c1_7379 : Index := 1#32
  let c0_7380 : Index := 0#32
  let c0_7381 : Index := 0#32
  ![v8605.toNat, 1, 0, 0]
def k0_off224 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8617 : Index := Scalar.indexCast v8447
  let c0_7389 : Index := 0#32
  let c0_7390 : Index := 0#32
  let c0_7391 : Index := 0#32
  ![v8617.toNat, 0, 0, 0]
def k0_off225 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8641 : Index := Scalar.indexCast v8447
  let c1_7408 : Index := 1#32
  let c0_7409 : Index := 0#32
  let c0_7410 : Index := 0#32
  ![v8641.toNat, 1, 0, 0]
def k0_mult30 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c256_i32_7429 : BitVec 32 := 256#32
  let v8671 : BitVec 32 := Scalar.muli v8670 c256_i32_7429
  v8671
def k0_off226 (arg16 : BitVec 32) (arg17 : BitVec 32) : Fin 3 → Nat :=
  let c0_7430 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c256_i32_7429 : BitVec 32 := 256#32
  let v8671 : BitVec 32 := Scalar.muli v8670 c256_i32_7429
  let v8672 : BitVec 32 := v8671
  let v8673 : Index := Scalar.indexCast v8672
  let c0_7431 : Index := 0#32
  ![0, v8673.toNat, 0]
def k0_off227 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8676 : Index := Scalar.indexCast v8669
  let c0_7432 : Index := 0#32
  let c0_7433 : Index := 0#32
  let c0_7434 : Index := 0#32
  ![v8676.toNat, 0, 0, 0]
def k0_off228 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8683 : Index := Scalar.indexCast v8669
  let c1_7440 : Index := 1#32
  let c0_7441 : Index := 0#32
  let c0_7442 : Index := 0#32
  ![v8683.toNat, 1, 0, 0]
def k0_off229 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let v8690 : Index := Scalar.indexCast v8448
  let c0_7448 : Index := 0#32
  let c0_7449 : Index := 0#32
  ![v8690.toNat, 0, 0]
def k0_off230 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8698 : Index := Scalar.indexCast v8447
  let c0_7459 : Index := 0#32
  let c0_7460 : Index := 0#32
  let c0_7461 : Index := 0#32
  ![v8698.toNat, 0, 0, 0]
def k0_off231 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8716 : Index := Scalar.indexCast v8447
  let c1_7476 : Index := 1#32
  let c0_7477 : Index := 0#32
  let c0_7478 : Index := 0#32
  ![v8716.toNat, 1, 0, 0]
def k0_off232 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8728 : Index := Scalar.indexCast v8558
  let c0_7486 : Index := 0#32
  let c0_7487 : Index := 0#32
  let c0_7488 : Index := 0#32
  ![v8728.toNat, 0, 0, 0]
def k0_off233 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8752 : Index := Scalar.indexCast v8558
  let c1_7505 : Index := 1#32
  let c0_7506 : Index := 0#32
  let c0_7507 : Index := 0#32
  ![v8752.toNat, 1, 0, 0]
def k0_mult31 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c256_i32_7526 : BitVec 32 := 256#32
  let v8782 : BitVec 32 := Scalar.muli v8781 c256_i32_7526
  v8782
def k0_off234 (arg16 : BitVec 32) (arg17 : BitVec 32) : Fin 3 → Nat :=
  let c0_7527 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c256_i32_7526 : BitVec 32 := 256#32
  let v8782 : BitVec 32 := Scalar.muli v8781 c256_i32_7526
  let v8783 : BitVec 32 := v8782
  let v8784 : Index := Scalar.indexCast v8783
  let c0_7528 : Index := 0#32
  ![0, v8784.toNat, 0]
def k0_off235 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8787 : Index := Scalar.indexCast v8780
  let c0_7529 : Index := 0#32
  let c0_7530 : Index := 0#32
  let c0_7531 : Index := 0#32
  ![v8787.toNat, 0, 0, 0]
def k0_off236 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8794 : Index := Scalar.indexCast v8780
  let c1_7537 : Index := 1#32
  let c0_7538 : Index := 0#32
  let c0_7539 : Index := 0#32
  ![v8794.toNat, 1, 0, 0]
def k0_off237 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let v8801 : Index := Scalar.indexCast v8559
  let c0_7545 : Index := 0#32
  let c0_7546 : Index := 0#32
  ![v8801.toNat, 0, 0]
def k0_off238 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8809 : Index := Scalar.indexCast v8558
  let c0_7556 : Index := 0#32
  let c0_7557 : Index := 0#32
  let c0_7558 : Index := 0#32
  ![v8809.toNat, 0, 0, 0]
def k0_off239 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8827 : Index := Scalar.indexCast v8558
  let c1_7573 : Index := 1#32
  let c0_7574 : Index := 0#32
  let c0_7575 : Index := 0#32
  ![v8827.toNat, 1, 0, 0]
def k0_off240 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8839 : Index := Scalar.indexCast v8669
  let c0_7583 : Index := 0#32
  let c0_7584 : Index := 0#32
  let c0_7585 : Index := 0#32
  ![v8839.toNat, 0, 0, 0]
def k0_off241 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8863 : Index := Scalar.indexCast v8669
  let c1_7602 : Index := 1#32
  let c0_7603 : Index := 0#32
  let c0_7604 : Index := 0#32
  ![v8863.toNat, 1, 0, 0]
def k0_mult32 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c256_i32_7623 : BitVec 32 := 256#32
  let v8893 : BitVec 32 := Scalar.muli v8892 c256_i32_7623
  v8893
def k0_off242 (arg16 : BitVec 32) (arg17 : BitVec 32) : Fin 3 → Nat :=
  let c0_7624 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c256_i32_7623 : BitVec 32 := 256#32
  let v8893 : BitVec 32 := Scalar.muli v8892 c256_i32_7623
  let v8894 : BitVec 32 := v8893
  let v8895 : Index := Scalar.indexCast v8894
  let c0_7625 : Index := 0#32
  ![0, v8895.toNat, 0]
def k0_off243 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8898 : Index := Scalar.indexCast v8891
  let c0_7626 : Index := 0#32
  let c0_7627 : Index := 0#32
  let c0_7628 : Index := 0#32
  ![v8898.toNat, 0, 0, 0]
def k0_off244 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8905 : Index := Scalar.indexCast v8891
  let c1_7634 : Index := 1#32
  let c0_7635 : Index := 0#32
  let c0_7636 : Index := 0#32
  ![v8905.toNat, 1, 0, 0]
def k0_off245 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let v8912 : Index := Scalar.indexCast v8670
  let c0_7642 : Index := 0#32
  let c0_7643 : Index := 0#32
  ![v8912.toNat, 0, 0]
def k0_off246 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8920 : Index := Scalar.indexCast v8669
  let c0_7653 : Index := 0#32
  let c0_7654 : Index := 0#32
  let c0_7655 : Index := 0#32
  ![v8920.toNat, 0, 0, 0]
def k0_off247 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8938 : Index := Scalar.indexCast v8669
  let c1_7670 : Index := 1#32
  let c0_7671 : Index := 0#32
  let c0_7672 : Index := 0#32
  ![v8938.toNat, 1, 0, 0]
def k0_off248 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8950 : Index := Scalar.indexCast v8780
  let c0_7680 : Index := 0#32
  let c0_7681 : Index := 0#32
  let c0_7682 : Index := 0#32
  ![v8950.toNat, 0, 0, 0]
def k0_off249 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8974 : Index := Scalar.indexCast v8780
  let c1_7699 : Index := 1#32
  let c0_7700 : Index := 0#32
  let c0_7701 : Index := 0#32
  ![v8974.toNat, 1, 0, 0]
def k0_mult33 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c256_i32_7720 : BitVec 32 := 256#32
  let v9004 : BitVec 32 := Scalar.muli v9003 c256_i32_7720
  v9004
def k0_off250 (arg16 : BitVec 32) (arg17 : BitVec 32) : Fin 3 → Nat :=
  let c0_7721 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c256_i32_7720 : BitVec 32 := 256#32
  let v9004 : BitVec 32 := Scalar.muli v9003 c256_i32_7720
  let v9005 : BitVec 32 := v9004
  let v9006 : Index := Scalar.indexCast v9005
  let c0_7722 : Index := 0#32
  ![0, v9006.toNat, 0]
def k0_off251 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9009 : Index := Scalar.indexCast v9002
  let c0_7723 : Index := 0#32
  let c0_7724 : Index := 0#32
  let c0_7725 : Index := 0#32
  ![v9009.toNat, 0, 0, 0]
def k0_off252 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9016 : Index := Scalar.indexCast v9002
  let c1_7731 : Index := 1#32
  let c0_7732 : Index := 0#32
  let c0_7733 : Index := 0#32
  ![v9016.toNat, 1, 0, 0]
def k0_off253 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let v9023 : Index := Scalar.indexCast v8781
  let c0_7739 : Index := 0#32
  let c0_7740 : Index := 0#32
  ![v9023.toNat, 0, 0]
def k0_off254 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v9031 : Index := Scalar.indexCast v8780
  let c0_7750 : Index := 0#32
  let c0_7751 : Index := 0#32
  let c0_7752 : Index := 0#32
  ![v9031.toNat, 0, 0, 0]
def k0_off255 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v9049 : Index := Scalar.indexCast v8780
  let c1_7767 : Index := 1#32
  let c0_7768 : Index := 0#32
  let c0_7769 : Index := 0#32
  ![v9049.toNat, 1, 0, 0]
def k0_off256 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v9061 : Index := Scalar.indexCast v8891
  let c0_7777 : Index := 0#32
  let c0_7778 : Index := 0#32
  let c0_7779 : Index := 0#32
  ![v9061.toNat, 0, 0, 0]
def k0_off257 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v9085 : Index := Scalar.indexCast v8891
  let c1_7796 : Index := 1#32
  let c0_7797 : Index := 0#32
  let c0_7798 : Index := 0#32
  ![v9085.toNat, 1, 0, 0]
def k0_mult34 (arg16 : BitVec 32) (arg17 : BitVec 32) : BitVec 32 :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c1_i32_7811 : BitVec 32 := 1#32
  let v9107 : BitVec 32 := Scalar.addi v9003 c1_i32_7811
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9108 : BitVec 1 := Scalar.cmpi .sge v9107 v9002
  let c0_i32_7814 : BitVec 32 := 0#32
  let c1_i32_7813 : BitVec 32 := 1#32
  let v9111 : BitVec 32 := Scalar.addi v9003 c1_i32_7813
  let v9112 : BitVec 32 := Scalar.select v9108 c0_i32_7814 v9111
  let c31_i32_7816 : BitVec 32 := 31#32
  let v9114 : BitVec 32 := Scalar.minsi v9112 c31_i32_7816
  let c256_i32_7817 : BitVec 32 := 256#32
  let v9115 : BitVec 32 := Scalar.muli v9114 c256_i32_7817
  v9115
def k0_off258 (arg16 : BitVec 32) (arg17 : BitVec 32) : Fin 3 → Nat :=
  let c0_7818 : Index := 0#32
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c1_i32_7811 : BitVec 32 := 1#32
  let v9107 : BitVec 32 := Scalar.addi v9003 c1_i32_7811
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9108 : BitVec 1 := Scalar.cmpi .sge v9107 v9002
  let c0_i32_7814 : BitVec 32 := 0#32
  let c1_i32_7813 : BitVec 32 := 1#32
  let v9111 : BitVec 32 := Scalar.addi v9003 c1_i32_7813
  let v9112 : BitVec 32 := Scalar.select v9108 c0_i32_7814 v9111
  let c31_i32_7816 : BitVec 32 := 31#32
  let v9114 : BitVec 32 := Scalar.minsi v9112 c31_i32_7816
  let c256_i32_7817 : BitVec 32 := 256#32
  let v9115 : BitVec 32 := Scalar.muli v9114 c256_i32_7817
  let v9116 : BitVec 32 := v9115
  let v9117 : Index := Scalar.indexCast v9116
  let c0_7819 : Index := 0#32
  ![0, v9117.toNat, 0]
def k0_off259 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c1_i32_7811 : BitVec 32 := 1#32
  let v9107 : BitVec 32 := Scalar.addi v9003 c1_i32_7811
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9108 : BitVec 1 := Scalar.cmpi .sge v9107 v9002
  let c1_i32_7812 : BitVec 32 := 1#32
  let v9109 : BitVec 32 := Scalar.addi v9002 c1_i32_7812
  let v9110 : BitVec 32 := Scalar.select v9108 v9109 v9002
  let c31_i32_7815 : BitVec 32 := 31#32
  let v9113 : BitVec 32 := Scalar.minsi v9110 c31_i32_7815
  let v9120 : Index := Scalar.indexCast v9113
  let c0_7820 : Index := 0#32
  let c0_7821 : Index := 0#32
  let c0_7822 : Index := 0#32
  ![v9120.toNat, 0, 0, 0]
def k0_off260 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c0_i32_7717 : BitVec 32 := 0#32
  let c1_i32_7716 : BitVec 32 := 1#32
  let v9000 : BitVec 32 := Scalar.addi v8892 c1_i32_7716
  let v9001 : BitVec 32 := Scalar.select v8997 c0_i32_7717 v9000
  let c31_i32_7719 : BitVec 32 := 31#32
  let v9003 : BitVec 32 := Scalar.minsi v9001 c31_i32_7719
  let c1_i32_7811 : BitVec 32 := 1#32
  let v9107 : BitVec 32 := Scalar.addi v9003 c1_i32_7811
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9108 : BitVec 1 := Scalar.cmpi .sge v9107 v9002
  let c1_i32_7812 : BitVec 32 := 1#32
  let v9109 : BitVec 32 := Scalar.addi v9002 c1_i32_7812
  let v9110 : BitVec 32 := Scalar.select v9108 v9109 v9002
  let c31_i32_7815 : BitVec 32 := 31#32
  let v9113 : BitVec 32 := Scalar.minsi v9110 c31_i32_7815
  let v9127 : Index := Scalar.indexCast v9113
  let c1_7828 : Index := 1#32
  let c0_7829 : Index := 0#32
  let c0_7830 : Index := 0#32
  ![v9127.toNat, 1, 0, 0]
def k0_off261 (arg16 : BitVec 32) (arg17 : BitVec 32) : Fin 3 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let v9134 : Index := Scalar.indexCast v8892
  let c0_7836 : Index := 0#32
  let c0_7837 : Index := 0#32
  ![v9134.toNat, 0, 0]
def k0_off262 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v9142 : Index := Scalar.indexCast v8891
  let c0_7847 : Index := 0#32
  let c0_7848 : Index := 0#32
  let c0_7849 : Index := 0#32
  ![v9142.toNat, 0, 0, 0]
def k0_off263 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v9160 : Index := Scalar.indexCast v8891
  let c1_7864 : Index := 1#32
  let c0_7865 : Index := 0#32
  let c0_7866 : Index := 0#32
  ![v9160.toNat, 1, 0, 0]
def k0_off264 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9172 : Index := Scalar.indexCast v9002
  let c0_7874 : Index := 0#32
  let c0_7875 : Index := 0#32
  let c0_7876 : Index := 0#32
  ![v9172.toNat, 0, 0, 0]
def k0_off265 (arg16 : BitVec 32) (arg17 : BitVec 32) : Fin 4 → Nat :=
  let c1_i32_4804 : BitVec 32 := 1#32
  let v5666 : BitVec 32 := Scalar.addi arg17 c1_i32_4804
  let v5667 : BitVec 1 := Scalar.cmpi .sge v5666 arg16
  let c0_i32_4807 : BitVec 32 := 0#32
  let c1_i32_4806 : BitVec 32 := 1#32
  let v5670 : BitVec 32 := Scalar.addi arg17 c1_i32_4806
  let v5671 : BitVec 32 := Scalar.select v5667 c0_i32_4807 v5670
  let c31_i32_4809 : BitVec 32 := 31#32
  let v5673 : BitVec 32 := Scalar.minsi v5671 c31_i32_4809
  let c1_i32_4901 : BitVec 32 := 1#32
  let v5777 : BitVec 32 := Scalar.addi v5673 c1_i32_4901
  let c1_i32_4805 : BitVec 32 := 1#32
  let v5668 : BitVec 32 := Scalar.addi arg16 c1_i32_4805
  let v5669 : BitVec 32 := Scalar.select v5667 v5668 arg16
  let c31_i32_4808 : BitVec 32 := 31#32
  let v5672 : BitVec 32 := Scalar.minsi v5669 c31_i32_4808
  let v5778 : BitVec 1 := Scalar.cmpi .sge v5777 v5672
  let c0_i32_4904 : BitVec 32 := 0#32
  let c1_i32_4903 : BitVec 32 := 1#32
  let v5781 : BitVec 32 := Scalar.addi v5673 c1_i32_4903
  let v5782 : BitVec 32 := Scalar.select v5778 c0_i32_4904 v5781
  let c31_i32_4906 : BitVec 32 := 31#32
  let v5784 : BitVec 32 := Scalar.minsi v5782 c31_i32_4906
  let c1_i32_4998 : BitVec 32 := 1#32
  let v5888 : BitVec 32 := Scalar.addi v5784 c1_i32_4998
  let c1_i32_4902 : BitVec 32 := 1#32
  let v5779 : BitVec 32 := Scalar.addi v5672 c1_i32_4902
  let v5780 : BitVec 32 := Scalar.select v5778 v5779 v5672
  let c31_i32_4905 : BitVec 32 := 31#32
  let v5783 : BitVec 32 := Scalar.minsi v5780 c31_i32_4905
  let v5889 : BitVec 1 := Scalar.cmpi .sge v5888 v5783
  let c0_i32_5001 : BitVec 32 := 0#32
  let c1_i32_5000 : BitVec 32 := 1#32
  let v5892 : BitVec 32 := Scalar.addi v5784 c1_i32_5000
  let v5893 : BitVec 32 := Scalar.select v5889 c0_i32_5001 v5892
  let c31_i32_5003 : BitVec 32 := 31#32
  let v5895 : BitVec 32 := Scalar.minsi v5893 c31_i32_5003
  let c1_i32_5095 : BitVec 32 := 1#32
  let v5999 : BitVec 32 := Scalar.addi v5895 c1_i32_5095
  let c1_i32_4999 : BitVec 32 := 1#32
  let v5890 : BitVec 32 := Scalar.addi v5783 c1_i32_4999
  let v5891 : BitVec 32 := Scalar.select v5889 v5890 v5783
  let c31_i32_5002 : BitVec 32 := 31#32
  let v5894 : BitVec 32 := Scalar.minsi v5891 c31_i32_5002
  let v6000 : BitVec 1 := Scalar.cmpi .sge v5999 v5894
  let c0_i32_5098 : BitVec 32 := 0#32
  let c1_i32_5097 : BitVec 32 := 1#32
  let v6003 : BitVec 32 := Scalar.addi v5895 c1_i32_5097
  let v6004 : BitVec 32 := Scalar.select v6000 c0_i32_5098 v6003
  let c31_i32_5100 : BitVec 32 := 31#32
  let v6006 : BitVec 32 := Scalar.minsi v6004 c31_i32_5100
  let c1_i32_5192 : BitVec 32 := 1#32
  let v6110 : BitVec 32 := Scalar.addi v6006 c1_i32_5192
  let c1_i32_5096 : BitVec 32 := 1#32
  let v6001 : BitVec 32 := Scalar.addi v5894 c1_i32_5096
  let v6002 : BitVec 32 := Scalar.select v6000 v6001 v5894
  let c31_i32_5099 : BitVec 32 := 31#32
  let v6005 : BitVec 32 := Scalar.minsi v6002 c31_i32_5099
  let v6111 : BitVec 1 := Scalar.cmpi .sge v6110 v6005
  let c0_i32_5195 : BitVec 32 := 0#32
  let c1_i32_5194 : BitVec 32 := 1#32
  let v6114 : BitVec 32 := Scalar.addi v6006 c1_i32_5194
  let v6115 : BitVec 32 := Scalar.select v6111 c0_i32_5195 v6114
  let c31_i32_5197 : BitVec 32 := 31#32
  let v6117 : BitVec 32 := Scalar.minsi v6115 c31_i32_5197
  let c1_i32_5289 : BitVec 32 := 1#32
  let v6221 : BitVec 32 := Scalar.addi v6117 c1_i32_5289
  let c1_i32_5193 : BitVec 32 := 1#32
  let v6112 : BitVec 32 := Scalar.addi v6005 c1_i32_5193
  let v6113 : BitVec 32 := Scalar.select v6111 v6112 v6005
  let c31_i32_5196 : BitVec 32 := 31#32
  let v6116 : BitVec 32 := Scalar.minsi v6113 c31_i32_5196
  let v6222 : BitVec 1 := Scalar.cmpi .sge v6221 v6116
  let c0_i32_5292 : BitVec 32 := 0#32
  let c1_i32_5291 : BitVec 32 := 1#32
  let v6225 : BitVec 32 := Scalar.addi v6117 c1_i32_5291
  let v6226 : BitVec 32 := Scalar.select v6222 c0_i32_5292 v6225
  let c31_i32_5294 : BitVec 32 := 31#32
  let v6228 : BitVec 32 := Scalar.minsi v6226 c31_i32_5294
  let c1_i32_5386 : BitVec 32 := 1#32
  let v6332 : BitVec 32 := Scalar.addi v6228 c1_i32_5386
  let c1_i32_5290 : BitVec 32 := 1#32
  let v6223 : BitVec 32 := Scalar.addi v6116 c1_i32_5290
  let v6224 : BitVec 32 := Scalar.select v6222 v6223 v6116
  let c31_i32_5293 : BitVec 32 := 31#32
  let v6227 : BitVec 32 := Scalar.minsi v6224 c31_i32_5293
  let v6333 : BitVec 1 := Scalar.cmpi .sge v6332 v6227
  let c0_i32_5389 : BitVec 32 := 0#32
  let c1_i32_5388 : BitVec 32 := 1#32
  let v6336 : BitVec 32 := Scalar.addi v6228 c1_i32_5388
  let v6337 : BitVec 32 := Scalar.select v6333 c0_i32_5389 v6336
  let c31_i32_5391 : BitVec 32 := 31#32
  let v6339 : BitVec 32 := Scalar.minsi v6337 c31_i32_5391
  let c1_i32_5483 : BitVec 32 := 1#32
  let v6443 : BitVec 32 := Scalar.addi v6339 c1_i32_5483
  let c1_i32_5387 : BitVec 32 := 1#32
  let v6334 : BitVec 32 := Scalar.addi v6227 c1_i32_5387
  let v6335 : BitVec 32 := Scalar.select v6333 v6334 v6227
  let c31_i32_5390 : BitVec 32 := 31#32
  let v6338 : BitVec 32 := Scalar.minsi v6335 c31_i32_5390
  let v6444 : BitVec 1 := Scalar.cmpi .sge v6443 v6338
  let c0_i32_5486 : BitVec 32 := 0#32
  let c1_i32_5485 : BitVec 32 := 1#32
  let v6447 : BitVec 32 := Scalar.addi v6339 c1_i32_5485
  let v6448 : BitVec 32 := Scalar.select v6444 c0_i32_5486 v6447
  let c31_i32_5488 : BitVec 32 := 31#32
  let v6450 : BitVec 32 := Scalar.minsi v6448 c31_i32_5488
  let c1_i32_5580 : BitVec 32 := 1#32
  let v6554 : BitVec 32 := Scalar.addi v6450 c1_i32_5580
  let c1_i32_5484 : BitVec 32 := 1#32
  let v6445 : BitVec 32 := Scalar.addi v6338 c1_i32_5484
  let v6446 : BitVec 32 := Scalar.select v6444 v6445 v6338
  let c31_i32_5487 : BitVec 32 := 31#32
  let v6449 : BitVec 32 := Scalar.minsi v6446 c31_i32_5487
  let v6555 : BitVec 1 := Scalar.cmpi .sge v6554 v6449
  let c0_i32_5583 : BitVec 32 := 0#32
  let c1_i32_5582 : BitVec 32 := 1#32
  let v6558 : BitVec 32 := Scalar.addi v6450 c1_i32_5582
  let v6559 : BitVec 32 := Scalar.select v6555 c0_i32_5583 v6558
  let c31_i32_5585 : BitVec 32 := 31#32
  let v6561 : BitVec 32 := Scalar.minsi v6559 c31_i32_5585
  let c1_i32_5677 : BitVec 32 := 1#32
  let v6665 : BitVec 32 := Scalar.addi v6561 c1_i32_5677
  let c1_i32_5581 : BitVec 32 := 1#32
  let v6556 : BitVec 32 := Scalar.addi v6449 c1_i32_5581
  let v6557 : BitVec 32 := Scalar.select v6555 v6556 v6449
  let c31_i32_5584 : BitVec 32 := 31#32
  let v6560 : BitVec 32 := Scalar.minsi v6557 c31_i32_5584
  let v6666 : BitVec 1 := Scalar.cmpi .sge v6665 v6560
  let c0_i32_5680 : BitVec 32 := 0#32
  let c1_i32_5679 : BitVec 32 := 1#32
  let v6669 : BitVec 32 := Scalar.addi v6561 c1_i32_5679
  let v6670 : BitVec 32 := Scalar.select v6666 c0_i32_5680 v6669
  let c31_i32_5682 : BitVec 32 := 31#32
  let v6672 : BitVec 32 := Scalar.minsi v6670 c31_i32_5682
  let c1_i32_5774 : BitVec 32 := 1#32
  let v6776 : BitVec 32 := Scalar.addi v6672 c1_i32_5774
  let c1_i32_5678 : BitVec 32 := 1#32
  let v6667 : BitVec 32 := Scalar.addi v6560 c1_i32_5678
  let v6668 : BitVec 32 := Scalar.select v6666 v6667 v6560
  let c31_i32_5681 : BitVec 32 := 31#32
  let v6671 : BitVec 32 := Scalar.minsi v6668 c31_i32_5681
  let v6777 : BitVec 1 := Scalar.cmpi .sge v6776 v6671
  let c0_i32_5777 : BitVec 32 := 0#32
  let c1_i32_5776 : BitVec 32 := 1#32
  let v6780 : BitVec 32 := Scalar.addi v6672 c1_i32_5776
  let v6781 : BitVec 32 := Scalar.select v6777 c0_i32_5777 v6780
  let c31_i32_5779 : BitVec 32 := 31#32
  let v6783 : BitVec 32 := Scalar.minsi v6781 c31_i32_5779
  let c1_i32_5871 : BitVec 32 := 1#32
  let v6887 : BitVec 32 := Scalar.addi v6783 c1_i32_5871
  let c1_i32_5775 : BitVec 32 := 1#32
  let v6778 : BitVec 32 := Scalar.addi v6671 c1_i32_5775
  let v6779 : BitVec 32 := Scalar.select v6777 v6778 v6671
  let c31_i32_5778 : BitVec 32 := 31#32
  let v6782 : BitVec 32 := Scalar.minsi v6779 c31_i32_5778
  let v6888 : BitVec 1 := Scalar.cmpi .sge v6887 v6782
  let c0_i32_5874 : BitVec 32 := 0#32
  let c1_i32_5873 : BitVec 32 := 1#32
  let v6891 : BitVec 32 := Scalar.addi v6783 c1_i32_5873
  let v6892 : BitVec 32 := Scalar.select v6888 c0_i32_5874 v6891
  let c31_i32_5876 : BitVec 32 := 31#32
  let v6894 : BitVec 32 := Scalar.minsi v6892 c31_i32_5876
  let c1_i32_5968 : BitVec 32 := 1#32
  let v6998 : BitVec 32 := Scalar.addi v6894 c1_i32_5968
  let c1_i32_5872 : BitVec 32 := 1#32
  let v6889 : BitVec 32 := Scalar.addi v6782 c1_i32_5872
  let v6890 : BitVec 32 := Scalar.select v6888 v6889 v6782
  let c31_i32_5875 : BitVec 32 := 31#32
  let v6893 : BitVec 32 := Scalar.minsi v6890 c31_i32_5875
  let v6999 : BitVec 1 := Scalar.cmpi .sge v6998 v6893
  let c0_i32_5971 : BitVec 32 := 0#32
  let c1_i32_5970 : BitVec 32 := 1#32
  let v7002 : BitVec 32 := Scalar.addi v6894 c1_i32_5970
  let v7003 : BitVec 32 := Scalar.select v6999 c0_i32_5971 v7002
  let c31_i32_5973 : BitVec 32 := 31#32
  let v7005 : BitVec 32 := Scalar.minsi v7003 c31_i32_5973
  let c1_i32_6065 : BitVec 32 := 1#32
  let v7109 : BitVec 32 := Scalar.addi v7005 c1_i32_6065
  let c1_i32_5969 : BitVec 32 := 1#32
  let v7000 : BitVec 32 := Scalar.addi v6893 c1_i32_5969
  let v7001 : BitVec 32 := Scalar.select v6999 v7000 v6893
  let c31_i32_5972 : BitVec 32 := 31#32
  let v7004 : BitVec 32 := Scalar.minsi v7001 c31_i32_5972
  let v7110 : BitVec 1 := Scalar.cmpi .sge v7109 v7004
  let c0_i32_6068 : BitVec 32 := 0#32
  let c1_i32_6067 : BitVec 32 := 1#32
  let v7113 : BitVec 32 := Scalar.addi v7005 c1_i32_6067
  let v7114 : BitVec 32 := Scalar.select v7110 c0_i32_6068 v7113
  let c31_i32_6070 : BitVec 32 := 31#32
  let v7116 : BitVec 32 := Scalar.minsi v7114 c31_i32_6070
  let c1_i32_6162 : BitVec 32 := 1#32
  let v7220 : BitVec 32 := Scalar.addi v7116 c1_i32_6162
  let c1_i32_6066 : BitVec 32 := 1#32
  let v7111 : BitVec 32 := Scalar.addi v7004 c1_i32_6066
  let v7112 : BitVec 32 := Scalar.select v7110 v7111 v7004
  let c31_i32_6069 : BitVec 32 := 31#32
  let v7115 : BitVec 32 := Scalar.minsi v7112 c31_i32_6069
  let v7221 : BitVec 1 := Scalar.cmpi .sge v7220 v7115
  let c0_i32_6165 : BitVec 32 := 0#32
  let c1_i32_6164 : BitVec 32 := 1#32
  let v7224 : BitVec 32 := Scalar.addi v7116 c1_i32_6164
  let v7225 : BitVec 32 := Scalar.select v7221 c0_i32_6165 v7224
  let c31_i32_6167 : BitVec 32 := 31#32
  let v7227 : BitVec 32 := Scalar.minsi v7225 c31_i32_6167
  let c1_i32_6259 : BitVec 32 := 1#32
  let v7331 : BitVec 32 := Scalar.addi v7227 c1_i32_6259
  let c1_i32_6163 : BitVec 32 := 1#32
  let v7222 : BitVec 32 := Scalar.addi v7115 c1_i32_6163
  let v7223 : BitVec 32 := Scalar.select v7221 v7222 v7115
  let c31_i32_6166 : BitVec 32 := 31#32
  let v7226 : BitVec 32 := Scalar.minsi v7223 c31_i32_6166
  let v7332 : BitVec 1 := Scalar.cmpi .sge v7331 v7226
  let c0_i32_6262 : BitVec 32 := 0#32
  let c1_i32_6261 : BitVec 32 := 1#32
  let v7335 : BitVec 32 := Scalar.addi v7227 c1_i32_6261
  let v7336 : BitVec 32 := Scalar.select v7332 c0_i32_6262 v7335
  let c31_i32_6264 : BitVec 32 := 31#32
  let v7338 : BitVec 32 := Scalar.minsi v7336 c31_i32_6264
  let c1_i32_6356 : BitVec 32 := 1#32
  let v7442 : BitVec 32 := Scalar.addi v7338 c1_i32_6356
  let c1_i32_6260 : BitVec 32 := 1#32
  let v7333 : BitVec 32 := Scalar.addi v7226 c1_i32_6260
  let v7334 : BitVec 32 := Scalar.select v7332 v7333 v7226
  let c31_i32_6263 : BitVec 32 := 31#32
  let v7337 : BitVec 32 := Scalar.minsi v7334 c31_i32_6263
  let v7443 : BitVec 1 := Scalar.cmpi .sge v7442 v7337
  let c0_i32_6359 : BitVec 32 := 0#32
  let c1_i32_6358 : BitVec 32 := 1#32
  let v7446 : BitVec 32 := Scalar.addi v7338 c1_i32_6358
  let v7447 : BitVec 32 := Scalar.select v7443 c0_i32_6359 v7446
  let c31_i32_6361 : BitVec 32 := 31#32
  let v7449 : BitVec 32 := Scalar.minsi v7447 c31_i32_6361
  let c1_i32_6453 : BitVec 32 := 1#32
  let v7553 : BitVec 32 := Scalar.addi v7449 c1_i32_6453
  let c1_i32_6357 : BitVec 32 := 1#32
  let v7444 : BitVec 32 := Scalar.addi v7337 c1_i32_6357
  let v7445 : BitVec 32 := Scalar.select v7443 v7444 v7337
  let c31_i32_6360 : BitVec 32 := 31#32
  let v7448 : BitVec 32 := Scalar.minsi v7445 c31_i32_6360
  let v7554 : BitVec 1 := Scalar.cmpi .sge v7553 v7448
  let c0_i32_6456 : BitVec 32 := 0#32
  let c1_i32_6455 : BitVec 32 := 1#32
  let v7557 : BitVec 32 := Scalar.addi v7449 c1_i32_6455
  let v7558 : BitVec 32 := Scalar.select v7554 c0_i32_6456 v7557
  let c31_i32_6458 : BitVec 32 := 31#32
  let v7560 : BitVec 32 := Scalar.minsi v7558 c31_i32_6458
  let c1_i32_6550 : BitVec 32 := 1#32
  let v7664 : BitVec 32 := Scalar.addi v7560 c1_i32_6550
  let c1_i32_6454 : BitVec 32 := 1#32
  let v7555 : BitVec 32 := Scalar.addi v7448 c1_i32_6454
  let v7556 : BitVec 32 := Scalar.select v7554 v7555 v7448
  let c31_i32_6457 : BitVec 32 := 31#32
  let v7559 : BitVec 32 := Scalar.minsi v7556 c31_i32_6457
  let v7665 : BitVec 1 := Scalar.cmpi .sge v7664 v7559
  let c0_i32_6553 : BitVec 32 := 0#32
  let c1_i32_6552 : BitVec 32 := 1#32
  let v7668 : BitVec 32 := Scalar.addi v7560 c1_i32_6552
  let v7669 : BitVec 32 := Scalar.select v7665 c0_i32_6553 v7668
  let c31_i32_6555 : BitVec 32 := 31#32
  let v7671 : BitVec 32 := Scalar.minsi v7669 c31_i32_6555
  let c1_i32_6647 : BitVec 32 := 1#32
  let v7775 : BitVec 32 := Scalar.addi v7671 c1_i32_6647
  let c1_i32_6551 : BitVec 32 := 1#32
  let v7666 : BitVec 32 := Scalar.addi v7559 c1_i32_6551
  let v7667 : BitVec 32 := Scalar.select v7665 v7666 v7559
  let c31_i32_6554 : BitVec 32 := 31#32
  let v7670 : BitVec 32 := Scalar.minsi v7667 c31_i32_6554
  let v7776 : BitVec 1 := Scalar.cmpi .sge v7775 v7670
  let c0_i32_6650 : BitVec 32 := 0#32
  let c1_i32_6649 : BitVec 32 := 1#32
  let v7779 : BitVec 32 := Scalar.addi v7671 c1_i32_6649
  let v7780 : BitVec 32 := Scalar.select v7776 c0_i32_6650 v7779
  let c31_i32_6652 : BitVec 32 := 31#32
  let v7782 : BitVec 32 := Scalar.minsi v7780 c31_i32_6652
  let c1_i32_6744 : BitVec 32 := 1#32
  let v7886 : BitVec 32 := Scalar.addi v7782 c1_i32_6744
  let c1_i32_6648 : BitVec 32 := 1#32
  let v7777 : BitVec 32 := Scalar.addi v7670 c1_i32_6648
  let v7778 : BitVec 32 := Scalar.select v7776 v7777 v7670
  let c31_i32_6651 : BitVec 32 := 31#32
  let v7781 : BitVec 32 := Scalar.minsi v7778 c31_i32_6651
  let v7887 : BitVec 1 := Scalar.cmpi .sge v7886 v7781
  let c0_i32_6747 : BitVec 32 := 0#32
  let c1_i32_6746 : BitVec 32 := 1#32
  let v7890 : BitVec 32 := Scalar.addi v7782 c1_i32_6746
  let v7891 : BitVec 32 := Scalar.select v7887 c0_i32_6747 v7890
  let c31_i32_6749 : BitVec 32 := 31#32
  let v7893 : BitVec 32 := Scalar.minsi v7891 c31_i32_6749
  let c1_i32_6841 : BitVec 32 := 1#32
  let v7997 : BitVec 32 := Scalar.addi v7893 c1_i32_6841
  let c1_i32_6745 : BitVec 32 := 1#32
  let v7888 : BitVec 32 := Scalar.addi v7781 c1_i32_6745
  let v7889 : BitVec 32 := Scalar.select v7887 v7888 v7781
  let c31_i32_6748 : BitVec 32 := 31#32
  let v7892 : BitVec 32 := Scalar.minsi v7889 c31_i32_6748
  let v7998 : BitVec 1 := Scalar.cmpi .sge v7997 v7892
  let c0_i32_6844 : BitVec 32 := 0#32
  let c1_i32_6843 : BitVec 32 := 1#32
  let v8001 : BitVec 32 := Scalar.addi v7893 c1_i32_6843
  let v8002 : BitVec 32 := Scalar.select v7998 c0_i32_6844 v8001
  let c31_i32_6846 : BitVec 32 := 31#32
  let v8004 : BitVec 32 := Scalar.minsi v8002 c31_i32_6846
  let c1_i32_6938 : BitVec 32 := 1#32
  let v8108 : BitVec 32 := Scalar.addi v8004 c1_i32_6938
  let c1_i32_6842 : BitVec 32 := 1#32
  let v7999 : BitVec 32 := Scalar.addi v7892 c1_i32_6842
  let v8000 : BitVec 32 := Scalar.select v7998 v7999 v7892
  let c31_i32_6845 : BitVec 32 := 31#32
  let v8003 : BitVec 32 := Scalar.minsi v8000 c31_i32_6845
  let v8109 : BitVec 1 := Scalar.cmpi .sge v8108 v8003
  let c0_i32_6941 : BitVec 32 := 0#32
  let c1_i32_6940 : BitVec 32 := 1#32
  let v8112 : BitVec 32 := Scalar.addi v8004 c1_i32_6940
  let v8113 : BitVec 32 := Scalar.select v8109 c0_i32_6941 v8112
  let c31_i32_6943 : BitVec 32 := 31#32
  let v8115 : BitVec 32 := Scalar.minsi v8113 c31_i32_6943
  let c1_i32_7035 : BitVec 32 := 1#32
  let v8219 : BitVec 32 := Scalar.addi v8115 c1_i32_7035
  let c1_i32_6939 : BitVec 32 := 1#32
  let v8110 : BitVec 32 := Scalar.addi v8003 c1_i32_6939
  let v8111 : BitVec 32 := Scalar.select v8109 v8110 v8003
  let c31_i32_6942 : BitVec 32 := 31#32
  let v8114 : BitVec 32 := Scalar.minsi v8111 c31_i32_6942
  let v8220 : BitVec 1 := Scalar.cmpi .sge v8219 v8114
  let c0_i32_7038 : BitVec 32 := 0#32
  let c1_i32_7037 : BitVec 32 := 1#32
  let v8223 : BitVec 32 := Scalar.addi v8115 c1_i32_7037
  let v8224 : BitVec 32 := Scalar.select v8220 c0_i32_7038 v8223
  let c31_i32_7040 : BitVec 32 := 31#32
  let v8226 : BitVec 32 := Scalar.minsi v8224 c31_i32_7040
  let c1_i32_7132 : BitVec 32 := 1#32
  let v8330 : BitVec 32 := Scalar.addi v8226 c1_i32_7132
  let c1_i32_7036 : BitVec 32 := 1#32
  let v8221 : BitVec 32 := Scalar.addi v8114 c1_i32_7036
  let v8222 : BitVec 32 := Scalar.select v8220 v8221 v8114
  let c31_i32_7039 : BitVec 32 := 31#32
  let v8225 : BitVec 32 := Scalar.minsi v8222 c31_i32_7039
  let v8331 : BitVec 1 := Scalar.cmpi .sge v8330 v8225
  let c0_i32_7135 : BitVec 32 := 0#32
  let c1_i32_7134 : BitVec 32 := 1#32
  let v8334 : BitVec 32 := Scalar.addi v8226 c1_i32_7134
  let v8335 : BitVec 32 := Scalar.select v8331 c0_i32_7135 v8334
  let c31_i32_7137 : BitVec 32 := 31#32
  let v8337 : BitVec 32 := Scalar.minsi v8335 c31_i32_7137
  let c1_i32_7229 : BitVec 32 := 1#32
  let v8441 : BitVec 32 := Scalar.addi v8337 c1_i32_7229
  let c1_i32_7133 : BitVec 32 := 1#32
  let v8332 : BitVec 32 := Scalar.addi v8225 c1_i32_7133
  let v8333 : BitVec 32 := Scalar.select v8331 v8332 v8225
  let c31_i32_7136 : BitVec 32 := 31#32
  let v8336 : BitVec 32 := Scalar.minsi v8333 c31_i32_7136
  let v8442 : BitVec 1 := Scalar.cmpi .sge v8441 v8336
  let c0_i32_7232 : BitVec 32 := 0#32
  let c1_i32_7231 : BitVec 32 := 1#32
  let v8445 : BitVec 32 := Scalar.addi v8337 c1_i32_7231
  let v8446 : BitVec 32 := Scalar.select v8442 c0_i32_7232 v8445
  let c31_i32_7234 : BitVec 32 := 31#32
  let v8448 : BitVec 32 := Scalar.minsi v8446 c31_i32_7234
  let c1_i32_7326 : BitVec 32 := 1#32
  let v8552 : BitVec 32 := Scalar.addi v8448 c1_i32_7326
  let c1_i32_7230 : BitVec 32 := 1#32
  let v8443 : BitVec 32 := Scalar.addi v8336 c1_i32_7230
  let v8444 : BitVec 32 := Scalar.select v8442 v8443 v8336
  let c31_i32_7233 : BitVec 32 := 31#32
  let v8447 : BitVec 32 := Scalar.minsi v8444 c31_i32_7233
  let v8553 : BitVec 1 := Scalar.cmpi .sge v8552 v8447
  let c0_i32_7329 : BitVec 32 := 0#32
  let c1_i32_7328 : BitVec 32 := 1#32
  let v8556 : BitVec 32 := Scalar.addi v8448 c1_i32_7328
  let v8557 : BitVec 32 := Scalar.select v8553 c0_i32_7329 v8556
  let c31_i32_7331 : BitVec 32 := 31#32
  let v8559 : BitVec 32 := Scalar.minsi v8557 c31_i32_7331
  let c1_i32_7423 : BitVec 32 := 1#32
  let v8663 : BitVec 32 := Scalar.addi v8559 c1_i32_7423
  let c1_i32_7327 : BitVec 32 := 1#32
  let v8554 : BitVec 32 := Scalar.addi v8447 c1_i32_7327
  let v8555 : BitVec 32 := Scalar.select v8553 v8554 v8447
  let c31_i32_7330 : BitVec 32 := 31#32
  let v8558 : BitVec 32 := Scalar.minsi v8555 c31_i32_7330
  let v8664 : BitVec 1 := Scalar.cmpi .sge v8663 v8558
  let c0_i32_7426 : BitVec 32 := 0#32
  let c1_i32_7425 : BitVec 32 := 1#32
  let v8667 : BitVec 32 := Scalar.addi v8559 c1_i32_7425
  let v8668 : BitVec 32 := Scalar.select v8664 c0_i32_7426 v8667
  let c31_i32_7428 : BitVec 32 := 31#32
  let v8670 : BitVec 32 := Scalar.minsi v8668 c31_i32_7428
  let c1_i32_7520 : BitVec 32 := 1#32
  let v8774 : BitVec 32 := Scalar.addi v8670 c1_i32_7520
  let c1_i32_7424 : BitVec 32 := 1#32
  let v8665 : BitVec 32 := Scalar.addi v8558 c1_i32_7424
  let v8666 : BitVec 32 := Scalar.select v8664 v8665 v8558
  let c31_i32_7427 : BitVec 32 := 31#32
  let v8669 : BitVec 32 := Scalar.minsi v8666 c31_i32_7427
  let v8775 : BitVec 1 := Scalar.cmpi .sge v8774 v8669
  let c0_i32_7523 : BitVec 32 := 0#32
  let c1_i32_7522 : BitVec 32 := 1#32
  let v8778 : BitVec 32 := Scalar.addi v8670 c1_i32_7522
  let v8779 : BitVec 32 := Scalar.select v8775 c0_i32_7523 v8778
  let c31_i32_7525 : BitVec 32 := 31#32
  let v8781 : BitVec 32 := Scalar.minsi v8779 c31_i32_7525
  let c1_i32_7617 : BitVec 32 := 1#32
  let v8885 : BitVec 32 := Scalar.addi v8781 c1_i32_7617
  let c1_i32_7521 : BitVec 32 := 1#32
  let v8776 : BitVec 32 := Scalar.addi v8669 c1_i32_7521
  let v8777 : BitVec 32 := Scalar.select v8775 v8776 v8669
  let c31_i32_7524 : BitVec 32 := 31#32
  let v8780 : BitVec 32 := Scalar.minsi v8777 c31_i32_7524
  let v8886 : BitVec 1 := Scalar.cmpi .sge v8885 v8780
  let c0_i32_7620 : BitVec 32 := 0#32
  let c1_i32_7619 : BitVec 32 := 1#32
  let v8889 : BitVec 32 := Scalar.addi v8781 c1_i32_7619
  let v8890 : BitVec 32 := Scalar.select v8886 c0_i32_7620 v8889
  let c31_i32_7622 : BitVec 32 := 31#32
  let v8892 : BitVec 32 := Scalar.minsi v8890 c31_i32_7622
  let c1_i32_7714 : BitVec 32 := 1#32
  let v8996 : BitVec 32 := Scalar.addi v8892 c1_i32_7714
  let c1_i32_7618 : BitVec 32 := 1#32
  let v8887 : BitVec 32 := Scalar.addi v8780 c1_i32_7618
  let v8888 : BitVec 32 := Scalar.select v8886 v8887 v8780
  let c31_i32_7621 : BitVec 32 := 31#32
  let v8891 : BitVec 32 := Scalar.minsi v8888 c31_i32_7621
  let v8997 : BitVec 1 := Scalar.cmpi .sge v8996 v8891
  let c1_i32_7715 : BitVec 32 := 1#32
  let v8998 : BitVec 32 := Scalar.addi v8891 c1_i32_7715
  let v8999 : BitVec 32 := Scalar.select v8997 v8998 v8891
  let c31_i32_7718 : BitVec 32 := 31#32
  let v9002 : BitVec 32 := Scalar.minsi v8999 c31_i32_7718
  let v9196 : Index := Scalar.indexCast v9002
  let c1_7893 : Index := 1#32
  let c0_7894 : Index := 0#32
  let c0_7895 : Index := 0#32
  ![v9196.toNat, 1, 0, 0]

def k0_chk1_0 (arg16 : BitVec 32) (arg17 : BitVec 32) : Prop :=
  (256 ∣ (k0_mult3 arg16 arg17).toNat) ∧
  (∀ a, (k0_off9 arg16 arg17) a + S1x256x128.size a ≤ S1x8192x128.size a) ∧
  (∀ a, (k0_off10 arg16 arg17) a + S1x1x128x256.size a ≤ S32x2x128x256.size a) ∧
  (∀ a, (k0_off11 arg16 arg17) a + S1x1x128x256.size a ≤ S32x2x128x256.size a) ∧
  (256 ∣ (k0_mult4 arg16 arg17).toNat) ∧
  (∀ a, (k0_off18 arg16 arg17) a + S1x256x128.size a ≤ S1x8192x128.size a) ∧
  (∀ a, (k0_off19 arg16 arg17) a + S1x1x128x256.size a ≤ S32x2x128x256.size a) ∧
  (∀ a, (k0_off20 arg16 arg17) a + S1x1x128x256.size a ≤ S32x2x128x256.size a) ∧
  (∀ a, (k0_off21 arg17) a + S1x144x256.size a ≤ S32x144x256.size a) ∧
  (∀ a, (k0_off24 arg16 arg17) a + S1x1x1x256.size a ≤ S32x2x1x256.size a) ∧
  (∀ a, (k0_off25 arg16 arg17) a + S1x1x1x256.size a ≤ S32x2x1x256.size a) ∧
  (256 ∣ (k0_mult5 arg16 arg17).toNat) ∧
  (∀ a, (k0_off26 arg16 arg17) a + S1x256x128.size a ≤ S1x8192x128.size a) ∧
  (∀ a, (k0_off27 arg16 arg17) a + S1x1x128x256.size a ≤ S32x2x128x256.size a) ∧
  (∀ a, (k0_off28 arg16 arg17) a + S1x1x128x256.size a ≤ S32x2x128x256.size a) ∧
  (∀ a, (k0_off29 arg16 arg17) a + S1x144x256.size a ≤ S32x144x256.size a) ∧
  (∀ a, (k0_off30 arg16 arg17) a + S1x1x144x256.size a ≤ S32x2x144x256.size a) ∧
  (∀ a, (k0_off31 arg16 arg17) a + S1x1x144x256.size a ≤ S32x2x144x256.size a) ∧
  (∀ a, (k0_off32 arg16 arg17) a + S1x1x1x256.size a ≤ S32x2x1x256.size a) ∧
  (∀ a, (k0_off33 arg16 arg17) a + S1x1x1x256.size a ≤ S32x2x1x256.size a) ∧
  (256 ∣ (k0_mult6 arg16 arg17).toNat) ∧
  (∀ a, (k0_off34 arg16 arg17) a + S1x256x128.size a ≤ S1x8192x128.size a) ∧
  (∀ a, (k0_off35 arg16 arg17) a + S1x1x128x256.size a ≤ S32x2x128x256.size a) ∧
  (∀ a, (k0_off36 arg16 arg17) a + S1x1x128x256.size a ≤ S32x2x128x256.size a) ∧
  (∀ a, (k0_off37 arg16 arg17) a + S1x144x256.size a ≤ S32x144x256.size a) ∧
  (∀ a, (k0_off38 arg16 arg17) a + S1x1x144x256.size a ≤ S32x2x144x256.size a) ∧
  (∀ a, (k0_off39 arg16 arg17) a + S1x1x144x256.size a ≤ S32x2x144x256.size a) ∧
  (∀ a, (k0_off40 arg16 arg17) a + S1x1x1x256.size a ≤ S32x2x1x256.size a) ∧
  (∀ a, (k0_off41 arg16 arg17) a + S1x1x1x256.size a ≤ S32x2x1x256.size a) ∧
  (256 ∣ (k0_mult7 arg16 arg17).toNat) ∧
  (∀ a, (k0_off42 arg16 arg17) a + S1x256x128.size a ≤ S1x8192x128.size a) ∧
  (∀ a, (k0_off43 arg16 arg17) a + S1x1x128x256.size a ≤ S32x2x128x256.size a)
def k0_chk1_1 (arg16 : BitVec 32) (arg17 : BitVec 32) : Prop :=
  (∀ a, (k0_off44 arg16 arg17) a + S1x1x128x256.size a ≤ S32x2x128x256.size a) ∧
  (∀ a, (k0_off45 arg16 arg17) a + S1x144x256.size a ≤ S32x144x256.size a) ∧
  (∀ a, (k0_off46 arg16 arg17) a + S1x1x144x256.size a ≤ S32x2x144x256.size a) ∧
  (∀ a, (k0_off47 arg16 arg17) a + S1x1x144x256.size a ≤ S32x2x144x256.size a) ∧
  (∀ a, (k0_off48 arg16 arg17) a + S1x1x1x256.size a ≤ S32x2x1x256.size a) ∧
  (∀ a, (k0_off49 arg16 arg17) a + S1x1x1x256.size a ≤ S32x2x1x256.size a) ∧
  (256 ∣ (k0_mult8 arg16 arg17).toNat) ∧
  (∀ a, (k0_off50 arg16 arg17) a + S1x256x128.size a ≤ S1x8192x128.size a) ∧
  (∀ a, (k0_off51 arg16 arg17) a + S1x1x128x256.size a ≤ S32x2x128x256.size a) ∧
  (∀ a, (k0_off52 arg16 arg17) a + S1x1x128x256.size a ≤ S32x2x128x256.size a) ∧
  (∀ a, (k0_off53 arg16 arg17) a + S1x144x256.size a ≤ S32x144x256.size a) ∧
  (∀ a, (k0_off54 arg16 arg17) a + S1x1x144x256.size a ≤ S32x2x144x256.size a) ∧
  (∀ a, (k0_off55 arg16 arg17) a + S1x1x144x256.size a ≤ S32x2x144x256.size a) ∧
  (∀ a, (k0_off56 arg16 arg17) a + S1x1x1x256.size a ≤ S32x2x1x256.size a) ∧
  (∀ a, (k0_off57 arg16 arg17) a + S1x1x1x256.size a ≤ S32x2x1x256.size a) ∧
  (256 ∣ (k0_mult9 arg16 arg17).toNat) ∧
  (∀ a, (k0_off58 arg16 arg17) a + S1x256x128.size a ≤ S1x8192x128.size a) ∧
  (∀ a, (k0_off59 arg16 arg17) a + S1x1x128x256.size a ≤ S32x2x128x256.size a) ∧
  (∀ a, (k0_off60 arg16 arg17) a + S1x1x128x256.size a ≤ S32x2x128x256.size a) ∧
  (∀ a, (k0_off61 arg16 arg17) a + S1x144x256.size a ≤ S32x144x256.size a) ∧
  (∀ a, (k0_off62 arg16 arg17) a + S1x1x144x256.size a ≤ S32x2x144x256.size a) ∧
  (∀ a, (k0_off63 arg16 arg17) a + S1x1x144x256.size a ≤ S32x2x144x256.size a) ∧
  (∀ a, (k0_off64 arg16 arg17) a + S1x1x1x256.size a ≤ S32x2x1x256.size a) ∧
  (∀ a, (k0_off65 arg16 arg17) a + S1x1x1x256.size a ≤ S32x2x1x256.size a) ∧
  (256 ∣ (k0_mult10 arg16 arg17).toNat) ∧
  (∀ a, (k0_off66 arg16 arg17) a + S1x256x128.size a ≤ S1x8192x128.size a) ∧
  (∀ a, (k0_off67 arg16 arg17) a + S1x1x128x256.size a ≤ S32x2x128x256.size a) ∧
  (∀ a, (k0_off68 arg16 arg17) a + S1x1x128x256.size a ≤ S32x2x128x256.size a) ∧
  (∀ a, (k0_off69 arg16 arg17) a + S1x144x256.size a ≤ S32x144x256.size a) ∧
  (∀ a, (k0_off70 arg16 arg17) a + S1x1x144x256.size a ≤ S32x2x144x256.size a) ∧
  (∀ a, (k0_off71 arg16 arg17) a + S1x1x144x256.size a ≤ S32x2x144x256.size a) ∧
  (∀ a, (k0_off72 arg16 arg17) a + S1x1x1x256.size a ≤ S32x2x1x256.size a)
def k0_chk1_2 (arg16 : BitVec 32) (arg17 : BitVec 32) : Prop :=
  (∀ a, (k0_off73 arg16 arg17) a + S1x1x1x256.size a ≤ S32x2x1x256.size a) ∧
  (256 ∣ (k0_mult11 arg16 arg17).toNat) ∧
  (∀ a, (k0_off74 arg16 arg17) a + S1x256x128.size a ≤ S1x8192x128.size a) ∧
  (∀ a, (k0_off75 arg16 arg17) a + S1x1x128x256.size a ≤ S32x2x128x256.size a) ∧
  (∀ a, (k0_off76 arg16 arg17) a + S1x1x128x256.size a ≤ S32x2x128x256.size a) ∧
  (∀ a, (k0_off77 arg16 arg17) a + S1x144x256.size a ≤ S32x144x256.size a) ∧
  (∀ a, (k0_off78 arg16 arg17) a + S1x1x144x256.size a ≤ S32x2x144x256.size a) ∧
  (∀ a, (k0_off79 arg16 arg17) a + S1x1x144x256.size a ≤ S32x2x144x256.size a) ∧
  (∀ a, (k0_off80 arg16 arg17) a + S1x1x1x256.size a ≤ S32x2x1x256.size a) ∧
  (∀ a, (k0_off81 arg16 arg17) a + S1x1x1x256.size a ≤ S32x2x1x256.size a) ∧
  (256 ∣ (k0_mult12 arg16 arg17).toNat) ∧
  (∀ a, (k0_off82 arg16 arg17) a + S1x256x128.size a ≤ S1x8192x128.size a) ∧
  (∀ a, (k0_off83 arg16 arg17) a + S1x1x128x256.size a ≤ S32x2x128x256.size a) ∧
  (∀ a, (k0_off84 arg16 arg17) a + S1x1x128x256.size a ≤ S32x2x128x256.size a) ∧
  (∀ a, (k0_off85 arg16 arg17) a + S1x144x256.size a ≤ S32x144x256.size a) ∧
  (∀ a, (k0_off86 arg16 arg17) a + S1x1x144x256.size a ≤ S32x2x144x256.size a) ∧
  (∀ a, (k0_off87 arg16 arg17) a + S1x1x144x256.size a ≤ S32x2x144x256.size a) ∧
  (∀ a, (k0_off88 arg16 arg17) a + S1x1x1x256.size a ≤ S32x2x1x256.size a) ∧
  (∀ a, (k0_off89 arg16 arg17) a + S1x1x1x256.size a ≤ S32x2x1x256.size a) ∧
  (256 ∣ (k0_mult13 arg16 arg17).toNat) ∧
  (∀ a, (k0_off90 arg16 arg17) a + S1x256x128.size a ≤ S1x8192x128.size a) ∧
  (∀ a, (k0_off91 arg16 arg17) a + S1x1x128x256.size a ≤ S32x2x128x256.size a) ∧
  (∀ a, (k0_off92 arg16 arg17) a + S1x1x128x256.size a ≤ S32x2x128x256.size a) ∧
  (∀ a, (k0_off93 arg16 arg17) a + S1x144x256.size a ≤ S32x144x256.size a) ∧
  (∀ a, (k0_off94 arg16 arg17) a + S1x1x144x256.size a ≤ S32x2x144x256.size a) ∧
  (∀ a, (k0_off95 arg16 arg17) a + S1x1x144x256.size a ≤ S32x2x144x256.size a) ∧
  (∀ a, (k0_off96 arg16 arg17) a + S1x1x1x256.size a ≤ S32x2x1x256.size a) ∧
  (∀ a, (k0_off97 arg16 arg17) a + S1x1x1x256.size a ≤ S32x2x1x256.size a) ∧
  (256 ∣ (k0_mult14 arg16 arg17).toNat) ∧
  (∀ a, (k0_off98 arg16 arg17) a + S1x256x128.size a ≤ S1x8192x128.size a) ∧
  (∀ a, (k0_off99 arg16 arg17) a + S1x1x128x256.size a ≤ S32x2x128x256.size a) ∧
  (∀ a, (k0_off100 arg16 arg17) a + S1x1x128x256.size a ≤ S32x2x128x256.size a)
def k0_chk1_3 (arg16 : BitVec 32) (arg17 : BitVec 32) : Prop :=
  (∀ a, (k0_off101 arg16 arg17) a + S1x144x256.size a ≤ S32x144x256.size a) ∧
  (∀ a, (k0_off102 arg16 arg17) a + S1x1x144x256.size a ≤ S32x2x144x256.size a) ∧
  (∀ a, (k0_off103 arg16 arg17) a + S1x1x144x256.size a ≤ S32x2x144x256.size a) ∧
  (∀ a, (k0_off104 arg16 arg17) a + S1x1x1x256.size a ≤ S32x2x1x256.size a) ∧
  (∀ a, (k0_off105 arg16 arg17) a + S1x1x1x256.size a ≤ S32x2x1x256.size a) ∧
  (256 ∣ (k0_mult15 arg16 arg17).toNat) ∧
  (∀ a, (k0_off106 arg16 arg17) a + S1x256x128.size a ≤ S1x8192x128.size a) ∧
  (∀ a, (k0_off107 arg16 arg17) a + S1x1x128x256.size a ≤ S32x2x128x256.size a) ∧
  (∀ a, (k0_off108 arg16 arg17) a + S1x1x128x256.size a ≤ S32x2x128x256.size a) ∧
  (∀ a, (k0_off109 arg16 arg17) a + S1x144x256.size a ≤ S32x144x256.size a) ∧
  (∀ a, (k0_off110 arg16 arg17) a + S1x1x144x256.size a ≤ S32x2x144x256.size a) ∧
  (∀ a, (k0_off111 arg16 arg17) a + S1x1x144x256.size a ≤ S32x2x144x256.size a) ∧
  (∀ a, (k0_off112 arg16 arg17) a + S1x1x1x256.size a ≤ S32x2x1x256.size a) ∧
  (∀ a, (k0_off113 arg16 arg17) a + S1x1x1x256.size a ≤ S32x2x1x256.size a) ∧
  (256 ∣ (k0_mult16 arg16 arg17).toNat) ∧
  (∀ a, (k0_off114 arg16 arg17) a + S1x256x128.size a ≤ S1x8192x128.size a) ∧
  (∀ a, (k0_off115 arg16 arg17) a + S1x1x128x256.size a ≤ S32x2x128x256.size a) ∧
  (∀ a, (k0_off116 arg16 arg17) a + S1x1x128x256.size a ≤ S32x2x128x256.size a) ∧
  (∀ a, (k0_off117 arg16 arg17) a + S1x144x256.size a ≤ S32x144x256.size a) ∧
  (∀ a, (k0_off118 arg16 arg17) a + S1x1x144x256.size a ≤ S32x2x144x256.size a) ∧
  (∀ a, (k0_off119 arg16 arg17) a + S1x1x144x256.size a ≤ S32x2x144x256.size a) ∧
  (∀ a, (k0_off120 arg16 arg17) a + S1x1x1x256.size a ≤ S32x2x1x256.size a) ∧
  (∀ a, (k0_off121 arg16 arg17) a + S1x1x1x256.size a ≤ S32x2x1x256.size a) ∧
  (256 ∣ (k0_mult17 arg16 arg17).toNat) ∧
  (∀ a, (k0_off122 arg16 arg17) a + S1x256x128.size a ≤ S1x8192x128.size a) ∧
  (∀ a, (k0_off123 arg16 arg17) a + S1x1x128x256.size a ≤ S32x2x128x256.size a) ∧
  (∀ a, (k0_off124 arg16 arg17) a + S1x1x128x256.size a ≤ S32x2x128x256.size a) ∧
  (∀ a, (k0_off125 arg16 arg17) a + S1x144x256.size a ≤ S32x144x256.size a) ∧
  (∀ a, (k0_off126 arg16 arg17) a + S1x1x144x256.size a ≤ S32x2x144x256.size a) ∧
  (∀ a, (k0_off127 arg16 arg17) a + S1x1x144x256.size a ≤ S32x2x144x256.size a) ∧
  (∀ a, (k0_off128 arg16 arg17) a + S1x1x1x256.size a ≤ S32x2x1x256.size a) ∧
  (∀ a, (k0_off129 arg16 arg17) a + S1x1x1x256.size a ≤ S32x2x1x256.size a)
def k0_chk1_4 (arg16 : BitVec 32) (arg17 : BitVec 32) : Prop :=
  (256 ∣ (k0_mult18 arg16 arg17).toNat) ∧
  (∀ a, (k0_off130 arg16 arg17) a + S1x256x128.size a ≤ S1x8192x128.size a) ∧
  (∀ a, (k0_off131 arg16 arg17) a + S1x1x128x256.size a ≤ S32x2x128x256.size a) ∧
  (∀ a, (k0_off132 arg16 arg17) a + S1x1x128x256.size a ≤ S32x2x128x256.size a) ∧
  (∀ a, (k0_off133 arg16 arg17) a + S1x144x256.size a ≤ S32x144x256.size a) ∧
  (∀ a, (k0_off134 arg16 arg17) a + S1x1x144x256.size a ≤ S32x2x144x256.size a) ∧
  (∀ a, (k0_off135 arg16 arg17) a + S1x1x144x256.size a ≤ S32x2x144x256.size a) ∧
  (∀ a, (k0_off136 arg16 arg17) a + S1x1x1x256.size a ≤ S32x2x1x256.size a) ∧
  (∀ a, (k0_off137 arg16 arg17) a + S1x1x1x256.size a ≤ S32x2x1x256.size a) ∧
  (256 ∣ (k0_mult19 arg16 arg17).toNat) ∧
  (∀ a, (k0_off138 arg16 arg17) a + S1x256x128.size a ≤ S1x8192x128.size a) ∧
  (∀ a, (k0_off139 arg16 arg17) a + S1x1x128x256.size a ≤ S32x2x128x256.size a) ∧
  (∀ a, (k0_off140 arg16 arg17) a + S1x1x128x256.size a ≤ S32x2x128x256.size a) ∧
  (∀ a, (k0_off141 arg16 arg17) a + S1x144x256.size a ≤ S32x144x256.size a) ∧
  (∀ a, (k0_off142 arg16 arg17) a + S1x1x144x256.size a ≤ S32x2x144x256.size a) ∧
  (∀ a, (k0_off143 arg16 arg17) a + S1x1x144x256.size a ≤ S32x2x144x256.size a) ∧
  (∀ a, (k0_off144 arg16 arg17) a + S1x1x1x256.size a ≤ S32x2x1x256.size a) ∧
  (∀ a, (k0_off145 arg16 arg17) a + S1x1x1x256.size a ≤ S32x2x1x256.size a) ∧
  (256 ∣ (k0_mult20 arg16 arg17).toNat) ∧
  (∀ a, (k0_off146 arg16 arg17) a + S1x256x128.size a ≤ S1x8192x128.size a) ∧
  (∀ a, (k0_off147 arg16 arg17) a + S1x1x128x256.size a ≤ S32x2x128x256.size a) ∧
  (∀ a, (k0_off148 arg16 arg17) a + S1x1x128x256.size a ≤ S32x2x128x256.size a) ∧
  (∀ a, (k0_off149 arg16 arg17) a + S1x144x256.size a ≤ S32x144x256.size a) ∧
  (∀ a, (k0_off150 arg16 arg17) a + S1x1x144x256.size a ≤ S32x2x144x256.size a) ∧
  (∀ a, (k0_off151 arg16 arg17) a + S1x1x144x256.size a ≤ S32x2x144x256.size a) ∧
  (∀ a, (k0_off152 arg16 arg17) a + S1x1x1x256.size a ≤ S32x2x1x256.size a) ∧
  (∀ a, (k0_off153 arg16 arg17) a + S1x1x1x256.size a ≤ S32x2x1x256.size a) ∧
  (256 ∣ (k0_mult21 arg16 arg17).toNat) ∧
  (∀ a, (k0_off154 arg16 arg17) a + S1x256x128.size a ≤ S1x8192x128.size a) ∧
  (∀ a, (k0_off155 arg16 arg17) a + S1x1x128x256.size a ≤ S32x2x128x256.size a) ∧
  (∀ a, (k0_off156 arg16 arg17) a + S1x1x128x256.size a ≤ S32x2x128x256.size a) ∧
  (∀ a, (k0_off157 arg16 arg17) a + S1x144x256.size a ≤ S32x144x256.size a)
def k0_chk1_5 (arg16 : BitVec 32) (arg17 : BitVec 32) : Prop :=
  (∀ a, (k0_off158 arg16 arg17) a + S1x1x144x256.size a ≤ S32x2x144x256.size a) ∧
  (∀ a, (k0_off159 arg16 arg17) a + S1x1x144x256.size a ≤ S32x2x144x256.size a) ∧
  (∀ a, (k0_off160 arg16 arg17) a + S1x1x1x256.size a ≤ S32x2x1x256.size a) ∧
  (∀ a, (k0_off161 arg16 arg17) a + S1x1x1x256.size a ≤ S32x2x1x256.size a) ∧
  (256 ∣ (k0_mult22 arg16 arg17).toNat) ∧
  (∀ a, (k0_off162 arg16 arg17) a + S1x256x128.size a ≤ S1x8192x128.size a) ∧
  (∀ a, (k0_off163 arg16 arg17) a + S1x1x128x256.size a ≤ S32x2x128x256.size a) ∧
  (∀ a, (k0_off164 arg16 arg17) a + S1x1x128x256.size a ≤ S32x2x128x256.size a) ∧
  (∀ a, (k0_off165 arg16 arg17) a + S1x144x256.size a ≤ S32x144x256.size a) ∧
  (∀ a, (k0_off166 arg16 arg17) a + S1x1x144x256.size a ≤ S32x2x144x256.size a) ∧
  (∀ a, (k0_off167 arg16 arg17) a + S1x1x144x256.size a ≤ S32x2x144x256.size a) ∧
  (∀ a, (k0_off168 arg16 arg17) a + S1x1x1x256.size a ≤ S32x2x1x256.size a) ∧
  (∀ a, (k0_off169 arg16 arg17) a + S1x1x1x256.size a ≤ S32x2x1x256.size a) ∧
  (256 ∣ (k0_mult23 arg16 arg17).toNat) ∧
  (∀ a, (k0_off170 arg16 arg17) a + S1x256x128.size a ≤ S1x8192x128.size a) ∧
  (∀ a, (k0_off171 arg16 arg17) a + S1x1x128x256.size a ≤ S32x2x128x256.size a) ∧
  (∀ a, (k0_off172 arg16 arg17) a + S1x1x128x256.size a ≤ S32x2x128x256.size a) ∧
  (∀ a, (k0_off173 arg16 arg17) a + S1x144x256.size a ≤ S32x144x256.size a) ∧
  (∀ a, (k0_off174 arg16 arg17) a + S1x1x144x256.size a ≤ S32x2x144x256.size a) ∧
  (∀ a, (k0_off175 arg16 arg17) a + S1x1x144x256.size a ≤ S32x2x144x256.size a) ∧
  (∀ a, (k0_off176 arg16 arg17) a + S1x1x1x256.size a ≤ S32x2x1x256.size a) ∧
  (∀ a, (k0_off177 arg16 arg17) a + S1x1x1x256.size a ≤ S32x2x1x256.size a) ∧
  (256 ∣ (k0_mult24 arg16 arg17).toNat) ∧
  (∀ a, (k0_off178 arg16 arg17) a + S1x256x128.size a ≤ S1x8192x128.size a) ∧
  (∀ a, (k0_off179 arg16 arg17) a + S1x1x128x256.size a ≤ S32x2x128x256.size a) ∧
  (∀ a, (k0_off180 arg16 arg17) a + S1x1x128x256.size a ≤ S32x2x128x256.size a) ∧
  (∀ a, (k0_off181 arg16 arg17) a + S1x144x256.size a ≤ S32x144x256.size a) ∧
  (∀ a, (k0_off182 arg16 arg17) a + S1x1x144x256.size a ≤ S32x2x144x256.size a) ∧
  (∀ a, (k0_off183 arg16 arg17) a + S1x1x144x256.size a ≤ S32x2x144x256.size a) ∧
  (∀ a, (k0_off184 arg16 arg17) a + S1x1x1x256.size a ≤ S32x2x1x256.size a) ∧
  (∀ a, (k0_off185 arg16 arg17) a + S1x1x1x256.size a ≤ S32x2x1x256.size a) ∧
  (256 ∣ (k0_mult25 arg16 arg17).toNat)
def k0_chk1_6 (arg16 : BitVec 32) (arg17 : BitVec 32) : Prop :=
  (∀ a, (k0_off186 arg16 arg17) a + S1x256x128.size a ≤ S1x8192x128.size a) ∧
  (∀ a, (k0_off187 arg16 arg17) a + S1x1x128x256.size a ≤ S32x2x128x256.size a) ∧
  (∀ a, (k0_off188 arg16 arg17) a + S1x1x128x256.size a ≤ S32x2x128x256.size a) ∧
  (∀ a, (k0_off189 arg16 arg17) a + S1x144x256.size a ≤ S32x144x256.size a) ∧
  (∀ a, (k0_off190 arg16 arg17) a + S1x1x144x256.size a ≤ S32x2x144x256.size a) ∧
  (∀ a, (k0_off191 arg16 arg17) a + S1x1x144x256.size a ≤ S32x2x144x256.size a) ∧
  (∀ a, (k0_off192 arg16 arg17) a + S1x1x1x256.size a ≤ S32x2x1x256.size a) ∧
  (∀ a, (k0_off193 arg16 arg17) a + S1x1x1x256.size a ≤ S32x2x1x256.size a) ∧
  (256 ∣ (k0_mult26 arg16 arg17).toNat) ∧
  (∀ a, (k0_off194 arg16 arg17) a + S1x256x128.size a ≤ S1x8192x128.size a) ∧
  (∀ a, (k0_off195 arg16 arg17) a + S1x1x128x256.size a ≤ S32x2x128x256.size a) ∧
  (∀ a, (k0_off196 arg16 arg17) a + S1x1x128x256.size a ≤ S32x2x128x256.size a) ∧
  (∀ a, (k0_off197 arg16 arg17) a + S1x144x256.size a ≤ S32x144x256.size a) ∧
  (∀ a, (k0_off198 arg16 arg17) a + S1x1x144x256.size a ≤ S32x2x144x256.size a) ∧
  (∀ a, (k0_off199 arg16 arg17) a + S1x1x144x256.size a ≤ S32x2x144x256.size a) ∧
  (∀ a, (k0_off200 arg16 arg17) a + S1x1x1x256.size a ≤ S32x2x1x256.size a) ∧
  (∀ a, (k0_off201 arg16 arg17) a + S1x1x1x256.size a ≤ S32x2x1x256.size a) ∧
  (256 ∣ (k0_mult27 arg16 arg17).toNat) ∧
  (∀ a, (k0_off202 arg16 arg17) a + S1x256x128.size a ≤ S1x8192x128.size a) ∧
  (∀ a, (k0_off203 arg16 arg17) a + S1x1x128x256.size a ≤ S32x2x128x256.size a) ∧
  (∀ a, (k0_off204 arg16 arg17) a + S1x1x128x256.size a ≤ S32x2x128x256.size a) ∧
  (∀ a, (k0_off205 arg16 arg17) a + S1x144x256.size a ≤ S32x144x256.size a) ∧
  (∀ a, (k0_off206 arg16 arg17) a + S1x1x144x256.size a ≤ S32x2x144x256.size a) ∧
  (∀ a, (k0_off207 arg16 arg17) a + S1x1x144x256.size a ≤ S32x2x144x256.size a) ∧
  (∀ a, (k0_off208 arg16 arg17) a + S1x1x1x256.size a ≤ S32x2x1x256.size a) ∧
  (∀ a, (k0_off209 arg16 arg17) a + S1x1x1x256.size a ≤ S32x2x1x256.size a) ∧
  (256 ∣ (k0_mult28 arg16 arg17).toNat) ∧
  (∀ a, (k0_off210 arg16 arg17) a + S1x256x128.size a ≤ S1x8192x128.size a) ∧
  (∀ a, (k0_off211 arg16 arg17) a + S1x1x128x256.size a ≤ S32x2x128x256.size a) ∧
  (∀ a, (k0_off212 arg16 arg17) a + S1x1x128x256.size a ≤ S32x2x128x256.size a) ∧
  (∀ a, (k0_off213 arg16 arg17) a + S1x144x256.size a ≤ S32x144x256.size a) ∧
  (∀ a, (k0_off214 arg16 arg17) a + S1x1x144x256.size a ≤ S32x2x144x256.size a)
def k0_chk1_7 (arg16 : BitVec 32) (arg17 : BitVec 32) : Prop :=
  (∀ a, (k0_off215 arg16 arg17) a + S1x1x144x256.size a ≤ S32x2x144x256.size a) ∧
  (∀ a, (k0_off216 arg16 arg17) a + S1x1x1x256.size a ≤ S32x2x1x256.size a) ∧
  (∀ a, (k0_off217 arg16 arg17) a + S1x1x1x256.size a ≤ S32x2x1x256.size a) ∧
  (256 ∣ (k0_mult29 arg16 arg17).toNat) ∧
  (∀ a, (k0_off218 arg16 arg17) a + S1x256x128.size a ≤ S1x8192x128.size a) ∧
  (∀ a, (k0_off219 arg16 arg17) a + S1x1x128x256.size a ≤ S32x2x128x256.size a) ∧
  (∀ a, (k0_off220 arg16 arg17) a + S1x1x128x256.size a ≤ S32x2x128x256.size a) ∧
  (∀ a, (k0_off221 arg16 arg17) a + S1x144x256.size a ≤ S32x144x256.size a) ∧
  (∀ a, (k0_off222 arg16 arg17) a + S1x1x144x256.size a ≤ S32x2x144x256.size a) ∧
  (∀ a, (k0_off223 arg16 arg17) a + S1x1x144x256.size a ≤ S32x2x144x256.size a) ∧
  (∀ a, (k0_off224 arg16 arg17) a + S1x1x1x256.size a ≤ S32x2x1x256.size a) ∧
  (∀ a, (k0_off225 arg16 arg17) a + S1x1x1x256.size a ≤ S32x2x1x256.size a) ∧
  (256 ∣ (k0_mult30 arg16 arg17).toNat) ∧
  (∀ a, (k0_off226 arg16 arg17) a + S1x256x128.size a ≤ S1x8192x128.size a) ∧
  (∀ a, (k0_off227 arg16 arg17) a + S1x1x128x256.size a ≤ S32x2x128x256.size a) ∧
  (∀ a, (k0_off228 arg16 arg17) a + S1x1x128x256.size a ≤ S32x2x128x256.size a) ∧
  (∀ a, (k0_off229 arg16 arg17) a + S1x144x256.size a ≤ S32x144x256.size a) ∧
  (∀ a, (k0_off230 arg16 arg17) a + S1x1x144x256.size a ≤ S32x2x144x256.size a) ∧
  (∀ a, (k0_off231 arg16 arg17) a + S1x1x144x256.size a ≤ S32x2x144x256.size a) ∧
  (∀ a, (k0_off232 arg16 arg17) a + S1x1x1x256.size a ≤ S32x2x1x256.size a) ∧
  (∀ a, (k0_off233 arg16 arg17) a + S1x1x1x256.size a ≤ S32x2x1x256.size a) ∧
  (256 ∣ (k0_mult31 arg16 arg17).toNat) ∧
  (∀ a, (k0_off234 arg16 arg17) a + S1x256x128.size a ≤ S1x8192x128.size a) ∧
  (∀ a, (k0_off235 arg16 arg17) a + S1x1x128x256.size a ≤ S32x2x128x256.size a) ∧
  (∀ a, (k0_off236 arg16 arg17) a + S1x1x128x256.size a ≤ S32x2x128x256.size a) ∧
  (∀ a, (k0_off237 arg16 arg17) a + S1x144x256.size a ≤ S32x144x256.size a) ∧
  (∀ a, (k0_off238 arg16 arg17) a + S1x1x144x256.size a ≤ S32x2x144x256.size a) ∧
  (∀ a, (k0_off239 arg16 arg17) a + S1x1x144x256.size a ≤ S32x2x144x256.size a) ∧
  (∀ a, (k0_off240 arg16 arg17) a + S1x1x1x256.size a ≤ S32x2x1x256.size a) ∧
  (∀ a, (k0_off241 arg16 arg17) a + S1x1x1x256.size a ≤ S32x2x1x256.size a) ∧
  (256 ∣ (k0_mult32 arg16 arg17).toNat) ∧
  (∀ a, (k0_off242 arg16 arg17) a + S1x256x128.size a ≤ S1x8192x128.size a)
def k0_chk1_8 (arg16 : BitVec 32) (arg17 : BitVec 32) : Prop :=
  (∀ a, (k0_off243 arg16 arg17) a + S1x1x128x256.size a ≤ S32x2x128x256.size a) ∧
  (∀ a, (k0_off244 arg16 arg17) a + S1x1x128x256.size a ≤ S32x2x128x256.size a) ∧
  (∀ a, (k0_off245 arg16 arg17) a + S1x144x256.size a ≤ S32x144x256.size a) ∧
  (∀ a, (k0_off246 arg16 arg17) a + S1x1x144x256.size a ≤ S32x2x144x256.size a) ∧
  (∀ a, (k0_off247 arg16 arg17) a + S1x1x144x256.size a ≤ S32x2x144x256.size a) ∧
  (∀ a, (k0_off248 arg16 arg17) a + S1x1x1x256.size a ≤ S32x2x1x256.size a) ∧
  (∀ a, (k0_off249 arg16 arg17) a + S1x1x1x256.size a ≤ S32x2x1x256.size a) ∧
  (256 ∣ (k0_mult33 arg16 arg17).toNat) ∧
  (∀ a, (k0_off250 arg16 arg17) a + S1x256x128.size a ≤ S1x8192x128.size a) ∧
  (∀ a, (k0_off251 arg16 arg17) a + S1x1x128x256.size a ≤ S32x2x128x256.size a) ∧
  (∀ a, (k0_off252 arg16 arg17) a + S1x1x128x256.size a ≤ S32x2x128x256.size a) ∧
  (∀ a, (k0_off253 arg16 arg17) a + S1x144x256.size a ≤ S32x144x256.size a) ∧
  (∀ a, (k0_off254 arg16 arg17) a + S1x1x144x256.size a ≤ S32x2x144x256.size a) ∧
  (∀ a, (k0_off255 arg16 arg17) a + S1x1x144x256.size a ≤ S32x2x144x256.size a) ∧
  (∀ a, (k0_off256 arg16 arg17) a + S1x1x1x256.size a ≤ S32x2x1x256.size a) ∧
  (∀ a, (k0_off257 arg16 arg17) a + S1x1x1x256.size a ≤ S32x2x1x256.size a) ∧
  (256 ∣ (k0_mult34 arg16 arg17).toNat) ∧
  (∀ a, (k0_off258 arg16 arg17) a + S1x256x128.size a ≤ S1x8192x128.size a) ∧
  (∀ a, (k0_off259 arg16 arg17) a + S1x1x128x256.size a ≤ S32x2x128x256.size a) ∧
  (∀ a, (k0_off260 arg16 arg17) a + S1x1x128x256.size a ≤ S32x2x128x256.size a) ∧
  (∀ a, (k0_off261 arg16 arg17) a + S1x144x256.size a ≤ S32x144x256.size a) ∧
  (∀ a, (k0_off262 arg16 arg17) a + S1x1x144x256.size a ≤ S32x2x144x256.size a) ∧
  (∀ a, (k0_off263 arg16 arg17) a + S1x1x144x256.size a ≤ S32x2x144x256.size a) ∧
  (∀ a, (k0_off264 arg16 arg17) a + S1x1x1x256.size a ≤ S32x2x1x256.size a) ∧
  (∀ a, (k0_off265 arg16 arg17) a + S1x1x1x256.size a ≤ S32x2x1x256.size a)
def k0_chk1 (arg16 : BitVec 32) (arg17 : BitVec 32) : Prop :=
  k0_chk1_0 arg16 arg17 ∧
  k0_chk1_1 arg16 arg17 ∧
  k0_chk1_2 arg16 arg17 ∧
  k0_chk1_3 arg16 arg17 ∧
  k0_chk1_4 arg16 arg17 ∧
  k0_chk1_5 arg16 arg17 ∧
  k0_chk1_6 arg16 arg17 ∧
  k0_chk1_7 arg16 arg17 ∧
  k0_chk1_8 arg16 arg17
theorem k0_mult3_dvd : ∀ (arg16 : BitVec 32) (arg17 : BitVec 32) (k0_hw1 : k0_chk1 arg16 arg17), 256 ∣ (k0_mult3 arg16 arg17).toNat := fun arg16 arg17 k0_hw1 => k0_hw1.1.1
theorem k0_off9_inb : ∀ (arg16 : BitVec 32) (arg17 : BitVec 32) (k0_hw1 : k0_chk1 arg16 arg17), ∀ a, (k0_off9 arg16 arg17) a + S1x256x128.size a ≤ S1x8192x128.size a := fun arg16 arg17 k0_hw1 => k0_hw1.1.2.1
theorem k0_off10_inb : ∀ (arg16 : BitVec 32) (arg17 : BitVec 32) (k0_hw1 : k0_chk1 arg16 arg17), ∀ a, (k0_off10 arg16 arg17) a + S1x1x128x256.size a ≤ S32x2x128x256.size a := fun arg16 arg17 k0_hw1 => k0_hw1.1.2.2.1
theorem k0_off11_inb : ∀ (arg16 : BitVec 32) (arg17 : BitVec 32) (k0_hw1 : k0_chk1 arg16 arg17), ∀ a, (k0_off11 arg16 arg17) a + S1x1x128x256.size a ≤ S32x2x128x256.size a := fun arg16 arg17 k0_hw1 => k0_hw1.1.2.2.2.1
theorem k0_mult4_dvd : ∀ (arg16 : BitVec 32) (arg17 : BitVec 32) (k0_hw1 : k0_chk1 arg16 arg17), 256 ∣ (k0_mult4 arg16 arg17).toNat := fun arg16 arg17 k0_hw1 => k0_hw1.1.2.2.2.2.1
theorem k0_off18_inb : ∀ (arg16 : BitVec 32) (arg17 : BitVec 32) (k0_hw1 : k0_chk1 arg16 arg17), ∀ a, (k0_off18 arg16 arg17) a + S1x256x128.size a ≤ S1x8192x128.size a := fun arg16 arg17 k0_hw1 => k0_hw1.1.2.2.2.2.2.1
theorem k0_off19_inb : ∀ (arg16 : BitVec 32) (arg17 : BitVec 32) (k0_hw1 : k0_chk1 arg16 arg17), ∀ a, (k0_off19 arg16 arg17) a + S1x1x128x256.size a ≤ S32x2x128x256.size a := fun arg16 arg17 k0_hw1 => k0_hw1.1.2.2.2.2.2.2.1
theorem k0_off20_inb : ∀ (arg16 : BitVec 32) (arg17 : BitVec 32) (k0_hw1 : k0_chk1 arg16 arg17), ∀ a, (k0_off20 arg16 arg17) a + S1x1x128x256.size a ≤ S32x2x128x256.size a := fun arg16 arg17 k0_hw1 => k0_hw1.1.2.2.2.2.2.2.2.1
theorem k0_off21_inb : ∀ (arg16 : BitVec 32) (arg17 : BitVec 32) (k0_hw1 : k0_chk1 arg16 arg17), ∀ a, (k0_off21 arg17) a + S1x144x256.size a ≤ S32x144x256.size a := fun arg16 arg17 k0_hw1 => k0_hw1.1.2.2.2.2.2.2.2.2.1
theorem k0_off24_inb : ∀ (arg16 : BitVec 32) (arg17 : BitVec 32) (k0_hw1 : k0_chk1 arg16 arg17), ∀ a, (k0_off24 arg16 arg17) a + S1x1x1x256.size a ≤ S32x2x1x256.size a := fun arg16 arg17 k0_hw1 => k0_hw1.1.2.2.2.2.2.2.2.2.2.1
theorem k0_off25_inb : ∀ (arg16 : BitVec 32) (arg17 : BitVec 32) (k0_hw1 : k0_chk1 arg16 arg17), ∀ a, (k0_off25 arg16 arg17) a + S1x1x1x256.size a ≤ S32x2x1x256.size a := fun arg16 arg17 k0_hw1 => k0_hw1.1.2.2.2.2.2.2.2.2.2.2.1
theorem k0_mult5_dvd : ∀ (arg16 : BitVec 32) (arg17 : BitVec 32) (k0_hw1 : k0_chk1 arg16 arg17), 256 ∣ (k0_mult5 arg16 arg17).toNat := fun arg16 arg17 k0_hw1 => k0_hw1.1.2.2.2.2.2.2.2.2.2.2.2.1
theorem k0_off26_inb : ∀ (arg16 : BitVec 32) (arg17 : BitVec 32) (k0_hw1 : k0_chk1 arg16 arg17), ∀ a, (k0_off26 arg16 arg17) a + S1x256x128.size a ≤ S1x8192x128.size a := fun arg16 arg17 k0_hw1 => k0_hw1.1.2.2.2.2.2.2.2.2.2.2.2.2.1
theorem k0_off27_inb : ∀ (arg16 : BitVec 32) (arg17 : BitVec 32) (k0_hw1 : k0_chk1 arg16 arg17), ∀ a, (k0_off27 arg16 arg17) a + S1x1x128x256.size a ≤ S32x2x128x256.size a := fun arg16 arg17 k0_hw1 => k0_hw1.1.2.2.2.2.2.2.2.2.2.2.2.2.2.1
theorem k0_off28_inb : ∀ (arg16 : BitVec 32) (arg17 : BitVec 32) (k0_hw1 : k0_chk1 arg16 arg17), ∀ a, (k0_off28 arg16 arg17) a + S1x1x128x256.size a ≤ S32x2x128x256.size a := fun arg16 arg17 k0_hw1 => k0_hw1.1.2.2.2.2.2.2.2.2.2.2.2.2.2.2.1
theorem k0_off29_inb : ∀ (arg16 : BitVec 32) (arg17 : BitVec 32) (k0_hw1 : k0_chk1 arg16 arg17), ∀ a, (k0_off29 arg16 arg17) a + S1x144x256.size a ≤ S32x144x256.size a := fun arg16 arg17 k0_hw1 => k0_hw1.1.2.2.2.2.2.2.2.2.2.2.2.2.2.2.2.1
theorem k0_off30_inb : ∀ (arg16 : BitVec 32) (arg17 : BitVec 32) (k0_hw1 : k0_chk1 arg16 arg17), ∀ a, (k0_off30 arg16 arg17) a + S1x1x144x256.size a ≤ S32x2x144x256.size a := fun arg16 arg17 k0_hw1 => k0_hw1.1.2.2.2.2.2.2.2.2.2.2.2.2.2.2.2.2.1
theorem k0_off31_inb : ∀ (arg16 : BitVec 32) (arg17 : BitVec 32) (k0_hw1 : k0_chk1 arg16 arg17), ∀ a, (k0_off31 arg16 arg17) a + S1x1x144x256.size a ≤ S32x2x144x256.size a := fun arg16 arg17 k0_hw1 => k0_hw1.1.2.2.2.2.2.2.2.2.2.2.2.2.2.2.2.2.2.1
theorem k0_off32_inb : ∀ (arg16 : BitVec 32) (arg17 : BitVec 32) (k0_hw1 : k0_chk1 arg16 arg17), ∀ a, (k0_off32 arg16 arg17) a + S1x1x1x256.size a ≤ S32x2x1x256.size a := fun arg16 arg17 k0_hw1 => k0_hw1.1.2.2.2.2.2.2.2.2.2.2.2.2.2.2.2.2.2.2.1
theorem k0_off33_inb : ∀ (arg16 : BitVec 32) (arg17 : BitVec 32) (k0_hw1 : k0_chk1 arg16 arg17), ∀ a, (k0_off33 arg16 arg17) a + S1x1x1x256.size a ≤ S32x2x1x256.size a := fun arg16 arg17 k0_hw1 => k0_hw1.1.2.2.2.2.2.2.2.2.2.2.2.2.2.2.2.2.2.2.2.1
theorem k0_mult6_dvd : ∀ (arg16 : BitVec 32) (arg17 : BitVec 32) (k0_hw1 : k0_chk1 arg16 arg17), 256 ∣ (k0_mult6 arg16 arg17).toNat := fun arg16 arg17 k0_hw1 => k0_hw1.1.2.2.2.2.2.2.2.2.2.2.2.2.2.2.2.2.2.2.2.2.1
theorem k0_off34_inb : ∀ (arg16 : BitVec 32) (arg17 : BitVec 32) (k0_hw1 : k0_chk1 arg16 arg17), ∀ a, (k0_off34 arg16 arg17) a + S1x256x128.size a ≤ S1x8192x128.size a := fun arg16 arg17 k0_hw1 => k0_hw1.1.2.2.2.2.2.2.2.2.2.2.2.2.2.2.2.2.2.2.2.2.2.1
theorem k0_off35_inb : ∀ (arg16 : BitVec 32) (arg17 : BitVec 32) (k0_hw1 : k0_chk1 arg16 arg17), ∀ a, (k0_off35 arg16 arg17) a + S1x1x128x256.size a ≤ S32x2x128x256.size a := fun arg16 arg17 k0_hw1 => k0_hw1.1.2.2.2.2.2.2.2.2.2.2.2.2.2.2.2.2.2.2.2.2.2.2.1
theorem k0_off36_inb : ∀ (arg16 : BitVec 32) (arg17 : BitVec 32) (k0_hw1 : k0_chk1 arg16 arg17), ∀ a, (k0_off36 arg16 arg17) a + S1x1x128x256.size a ≤ S32x2x128x256.size a := fun arg16 arg17 k0_hw1 => k0_hw1.1.2.2.2.2.2.2.2.2.2.2.2.2.2.2.2.2.2.2.2.2.2.2.2.1
theorem k0_off37_inb : ∀ (arg16 : BitVec 32) (arg17 : BitVec 32) (k0_hw1 : k0_chk1 arg16 arg17), ∀ a, (k0_off37 arg16 arg17) a + S1x144x256.size a ≤ S32x144x256.size a := fun arg16 arg17 k0_hw1 => k0_hw1.1.2.2.2.2.2.2.2.2.2.2.2.2.2.2.2.2.2.2.2.2.2.2.2.2.1
theorem k0_off38_inb : ∀ (arg16 : BitVec 32) (arg17 : BitVec 32) (k0_hw1 : k0_chk1 arg16 arg17), ∀ a, (k0_off38 arg16 arg17) a + S1x1x144x256.size a ≤ S32x2x144x256.size a := fun arg16 arg17 k0_hw1 => k0_hw1.1.2.2.2.2.2.2.2.2.2.2.2.2.2.2.2.2.2.2.2.2.2.2.2.2.2.1
theorem k0_off39_inb : ∀ (arg16 : BitVec 32) (arg17 : BitVec 32) (k0_hw1 : k0_chk1 arg16 arg17), ∀ a, (k0_off39 arg16 arg17) a + S1x1x144x256.size a ≤ S32x2x144x256.size a := fun arg16 arg17 k0_hw1 => k0_hw1.1.2.2.2.2.2.2.2.2.2.2.2.2.2.2.2.2.2.2.2.2.2.2.2.2.2.2.1
theorem k0_off40_inb : ∀ (arg16 : BitVec 32) (arg17 : BitVec 32) (k0_hw1 : k0_chk1 arg16 arg17), ∀ a, (k0_off40 arg16 arg17) a + S1x1x1x256.size a ≤ S32x2x1x256.size a := fun arg16 arg17 k0_hw1 => k0_hw1.1.2.2.2.2.2.2.2.2.2.2.2.2.2.2.2.2.2.2.2.2.2.2.2.2.2.2.2.1
theorem k0_off41_inb : ∀ (arg16 : BitVec 32) (arg17 : BitVec 32) (k0_hw1 : k0_chk1 arg16 arg17), ∀ a, (k0_off41 arg16 arg17) a + S1x1x1x256.size a ≤ S32x2x1x256.size a := fun arg16 arg17 k0_hw1 => k0_hw1.1.2.2.2.2.2.2.2.2.2.2.2.2.2.2.2.2.2.2.2.2.2.2.2.2.2.2.2.2.1
theorem k0_mult7_dvd : ∀ (arg16 : BitVec 32) (arg17 : BitVec 32) (k0_hw1 : k0_chk1 arg16 arg17), 256 ∣ (k0_mult7 arg16 arg17).toNat := fun arg16 arg17 k0_hw1 => k0_hw1.1.2.2.2.2.2.2.2.2.2.2.2.2.2.2.2.2.2.2.2.2.2.2.2.2.2.2.2.2.2.1
theorem k0_off42_inb : ∀ (arg16 : BitVec 32) (arg17 : BitVec 32) (k0_hw1 : k0_chk1 arg16 arg17), ∀ a, (k0_off42 arg16 arg17) a + S1x256x128.size a ≤ S1x8192x128.size a := fun arg16 arg17 k0_hw1 => k0_hw1.1.2.2.2.2.2.2.2.2.2.2.2.2.2.2.2.2.2.2.2.2.2.2.2.2.2.2.2.2.2.2.1
theorem k0_off43_inb : ∀ (arg16 : BitVec 32) (arg17 : BitVec 32) (k0_hw1 : k0_chk1 arg16 arg17), ∀ a, (k0_off43 arg16 arg17) a + S1x1x128x256.size a ≤ S32x2x128x256.size a := fun arg16 arg17 k0_hw1 => k0_hw1.1.2.2.2.2.2.2.2.2.2.2.2.2.2.2.2.2.2.2.2.2.2.2.2.2.2.2.2.2.2.2.2
theorem k0_off44_inb : ∀ (arg16 : BitVec 32) (arg17 : BitVec 32) (k0_hw1 : k0_chk1 arg16 arg17), ∀ a, (k0_off44 arg16 arg17) a + S1x1x128x256.size a ≤ S32x2x128x256.size a := fun arg16 arg17 k0_hw1 => k0_hw1.2.1.1
theorem k0_off45_inb : ∀ (arg16 : BitVec 32) (arg17 : BitVec 32) (k0_hw1 : k0_chk1 arg16 arg17), ∀ a, (k0_off45 arg16 arg17) a + S1x144x256.size a ≤ S32x144x256.size a := fun arg16 arg17 k0_hw1 => k0_hw1.2.1.2.1
theorem k0_off46_inb : ∀ (arg16 : BitVec 32) (arg17 : BitVec 32) (k0_hw1 : k0_chk1 arg16 arg17), ∀ a, (k0_off46 arg16 arg17) a + S1x1x144x256.size a ≤ S32x2x144x256.size a := fun arg16 arg17 k0_hw1 => k0_hw1.2.1.2.2.1
theorem k0_off47_inb : ∀ (arg16 : BitVec 32) (arg17 : BitVec 32) (k0_hw1 : k0_chk1 arg16 arg17), ∀ a, (k0_off47 arg16 arg17) a + S1x1x144x256.size a ≤ S32x2x144x256.size a := fun arg16 arg17 k0_hw1 => k0_hw1.2.1.2.2.2.1
theorem k0_off48_inb : ∀ (arg16 : BitVec 32) (arg17 : BitVec 32) (k0_hw1 : k0_chk1 arg16 arg17), ∀ a, (k0_off48 arg16 arg17) a + S1x1x1x256.size a ≤ S32x2x1x256.size a := fun arg16 arg17 k0_hw1 => k0_hw1.2.1.2.2.2.2.1
theorem k0_off49_inb : ∀ (arg16 : BitVec 32) (arg17 : BitVec 32) (k0_hw1 : k0_chk1 arg16 arg17), ∀ a, (k0_off49 arg16 arg17) a + S1x1x1x256.size a ≤ S32x2x1x256.size a := fun arg16 arg17 k0_hw1 => k0_hw1.2.1.2.2.2.2.2.1
theorem k0_mult8_dvd : ∀ (arg16 : BitVec 32) (arg17 : BitVec 32) (k0_hw1 : k0_chk1 arg16 arg17), 256 ∣ (k0_mult8 arg16 arg17).toNat := fun arg16 arg17 k0_hw1 => k0_hw1.2.1.2.2.2.2.2.2.1
theorem k0_off50_inb : ∀ (arg16 : BitVec 32) (arg17 : BitVec 32) (k0_hw1 : k0_chk1 arg16 arg17), ∀ a, (k0_off50 arg16 arg17) a + S1x256x128.size a ≤ S1x8192x128.size a := fun arg16 arg17 k0_hw1 => k0_hw1.2.1.2.2.2.2.2.2.2.1
theorem k0_off51_inb : ∀ (arg16 : BitVec 32) (arg17 : BitVec 32) (k0_hw1 : k0_chk1 arg16 arg17), ∀ a, (k0_off51 arg16 arg17) a + S1x1x128x256.size a ≤ S32x2x128x256.size a := fun arg16 arg17 k0_hw1 => k0_hw1.2.1.2.2.2.2.2.2.2.2.1
theorem k0_off52_inb : ∀ (arg16 : BitVec 32) (arg17 : BitVec 32) (k0_hw1 : k0_chk1 arg16 arg17), ∀ a, (k0_off52 arg16 arg17) a + S1x1x128x256.size a ≤ S32x2x128x256.size a := fun arg16 arg17 k0_hw1 => k0_hw1.2.1.2.2.2.2.2.2.2.2.2.1
theorem k0_off53_inb : ∀ (arg16 : BitVec 32) (arg17 : BitVec 32) (k0_hw1 : k0_chk1 arg16 arg17), ∀ a, (k0_off53 arg16 arg17) a + S1x144x256.size a ≤ S32x144x256.size a := fun arg16 arg17 k0_hw1 => k0_hw1.2.1.2.2.2.2.2.2.2.2.2.2.1
theorem k0_off54_inb : ∀ (arg16 : BitVec 32) (arg17 : BitVec 32) (k0_hw1 : k0_chk1 arg16 arg17), ∀ a, (k0_off54 arg16 arg17) a + S1x1x144x256.size a ≤ S32x2x144x256.size a := fun arg16 arg17 k0_hw1 => k0_hw1.2.1.2.2.2.2.2.2.2.2.2.2.2.1
theorem k0_off55_inb : ∀ (arg16 : BitVec 32) (arg17 : BitVec 32) (k0_hw1 : k0_chk1 arg16 arg17), ∀ a, (k0_off55 arg16 arg17) a + S1x1x144x256.size a ≤ S32x2x144x256.size a := fun arg16 arg17 k0_hw1 => k0_hw1.2.1.2.2.2.2.2.2.2.2.2.2.2.2.1
theorem k0_off56_inb : ∀ (arg16 : BitVec 32) (arg17 : BitVec 32) (k0_hw1 : k0_chk1 arg16 arg17), ∀ a, (k0_off56 arg16 arg17) a + S1x1x1x256.size a ≤ S32x2x1x256.size a := fun arg16 arg17 k0_hw1 => k0_hw1.2.1.2.2.2.2.2.2.2.2.2.2.2.2.2.1
theorem k0_off57_inb : ∀ (arg16 : BitVec 32) (arg17 : BitVec 32) (k0_hw1 : k0_chk1 arg16 arg17), ∀ a, (k0_off57 arg16 arg17) a + S1x1x1x256.size a ≤ S32x2x1x256.size a := fun arg16 arg17 k0_hw1 => k0_hw1.2.1.2.2.2.2.2.2.2.2.2.2.2.2.2.2.1
theorem k0_mult9_dvd : ∀ (arg16 : BitVec 32) (arg17 : BitVec 32) (k0_hw1 : k0_chk1 arg16 arg17), 256 ∣ (k0_mult9 arg16 arg17).toNat := fun arg16 arg17 k0_hw1 => k0_hw1.2.1.2.2.2.2.2.2.2.2.2.2.2.2.2.2.2.1
theorem k0_off58_inb : ∀ (arg16 : BitVec 32) (arg17 : BitVec 32) (k0_hw1 : k0_chk1 arg16 arg17), ∀ a, (k0_off58 arg16 arg17) a + S1x256x128.size a ≤ S1x8192x128.size a := fun arg16 arg17 k0_hw1 => k0_hw1.2.1.2.2.2.2.2.2.2.2.2.2.2.2.2.2.2.2.1
theorem k0_off59_inb : ∀ (arg16 : BitVec 32) (arg17 : BitVec 32) (k0_hw1 : k0_chk1 arg16 arg17), ∀ a, (k0_off59 arg16 arg17) a + S1x1x128x256.size a ≤ S32x2x128x256.size a := fun arg16 arg17 k0_hw1 => k0_hw1.2.1.2.2.2.2.2.2.2.2.2.2.2.2.2.2.2.2.2.1
theorem k0_off60_inb : ∀ (arg16 : BitVec 32) (arg17 : BitVec 32) (k0_hw1 : k0_chk1 arg16 arg17), ∀ a, (k0_off60 arg16 arg17) a + S1x1x128x256.size a ≤ S32x2x128x256.size a := fun arg16 arg17 k0_hw1 => k0_hw1.2.1.2.2.2.2.2.2.2.2.2.2.2.2.2.2.2.2.2.2.1
theorem k0_off61_inb : ∀ (arg16 : BitVec 32) (arg17 : BitVec 32) (k0_hw1 : k0_chk1 arg16 arg17), ∀ a, (k0_off61 arg16 arg17) a + S1x144x256.size a ≤ S32x144x256.size a := fun arg16 arg17 k0_hw1 => k0_hw1.2.1.2.2.2.2.2.2.2.2.2.2.2.2.2.2.2.2.2.2.2.1
theorem k0_off62_inb : ∀ (arg16 : BitVec 32) (arg17 : BitVec 32) (k0_hw1 : k0_chk1 arg16 arg17), ∀ a, (k0_off62 arg16 arg17) a + S1x1x144x256.size a ≤ S32x2x144x256.size a := fun arg16 arg17 k0_hw1 => k0_hw1.2.1.2.2.2.2.2.2.2.2.2.2.2.2.2.2.2.2.2.2.2.2.1
theorem k0_off63_inb : ∀ (arg16 : BitVec 32) (arg17 : BitVec 32) (k0_hw1 : k0_chk1 arg16 arg17), ∀ a, (k0_off63 arg16 arg17) a + S1x1x144x256.size a ≤ S32x2x144x256.size a := fun arg16 arg17 k0_hw1 => k0_hw1.2.1.2.2.2.2.2.2.2.2.2.2.2.2.2.2.2.2.2.2.2.2.2.1
theorem k0_off64_inb : ∀ (arg16 : BitVec 32) (arg17 : BitVec 32) (k0_hw1 : k0_chk1 arg16 arg17), ∀ a, (k0_off64 arg16 arg17) a + S1x1x1x256.size a ≤ S32x2x1x256.size a := fun arg16 arg17 k0_hw1 => k0_hw1.2.1.2.2.2.2.2.2.2.2.2.2.2.2.2.2.2.2.2.2.2.2.2.2.1
theorem k0_off65_inb : ∀ (arg16 : BitVec 32) (arg17 : BitVec 32) (k0_hw1 : k0_chk1 arg16 arg17), ∀ a, (k0_off65 arg16 arg17) a + S1x1x1x256.size a ≤ S32x2x1x256.size a := fun arg16 arg17 k0_hw1 => k0_hw1.2.1.2.2.2.2.2.2.2.2.2.2.2.2.2.2.2.2.2.2.2.2.2.2.2.1
theorem k0_mult10_dvd : ∀ (arg16 : BitVec 32) (arg17 : BitVec 32) (k0_hw1 : k0_chk1 arg16 arg17), 256 ∣ (k0_mult10 arg16 arg17).toNat := fun arg16 arg17 k0_hw1 => k0_hw1.2.1.2.2.2.2.2.2.2.2.2.2.2.2.2.2.2.2.2.2.2.2.2.2.2.2.1
theorem k0_off66_inb : ∀ (arg16 : BitVec 32) (arg17 : BitVec 32) (k0_hw1 : k0_chk1 arg16 arg17), ∀ a, (k0_off66 arg16 arg17) a + S1x256x128.size a ≤ S1x8192x128.size a := fun arg16 arg17 k0_hw1 => k0_hw1.2.1.2.2.2.2.2.2.2.2.2.2.2.2.2.2.2.2.2.2.2.2.2.2.2.2.2.1
theorem k0_off67_inb : ∀ (arg16 : BitVec 32) (arg17 : BitVec 32) (k0_hw1 : k0_chk1 arg16 arg17), ∀ a, (k0_off67 arg16 arg17) a + S1x1x128x256.size a ≤ S32x2x128x256.size a := fun arg16 arg17 k0_hw1 => k0_hw1.2.1.2.2.2.2.2.2.2.2.2.2.2.2.2.2.2.2.2.2.2.2.2.2.2.2.2.2.1
theorem k0_off68_inb : ∀ (arg16 : BitVec 32) (arg17 : BitVec 32) (k0_hw1 : k0_chk1 arg16 arg17), ∀ a, (k0_off68 arg16 arg17) a + S1x1x128x256.size a ≤ S32x2x128x256.size a := fun arg16 arg17 k0_hw1 => k0_hw1.2.1.2.2.2.2.2.2.2.2.2.2.2.2.2.2.2.2.2.2.2.2.2.2.2.2.2.2.2.1
theorem k0_off69_inb : ∀ (arg16 : BitVec 32) (arg17 : BitVec 32) (k0_hw1 : k0_chk1 arg16 arg17), ∀ a, (k0_off69 arg16 arg17) a + S1x144x256.size a ≤ S32x144x256.size a := fun arg16 arg17 k0_hw1 => k0_hw1.2.1.2.2.2.2.2.2.2.2.2.2.2.2.2.2.2.2.2.2.2.2.2.2.2.2.2.2.2.2.1
theorem k0_off70_inb : ∀ (arg16 : BitVec 32) (arg17 : BitVec 32) (k0_hw1 : k0_chk1 arg16 arg17), ∀ a, (k0_off70 arg16 arg17) a + S1x1x144x256.size a ≤ S32x2x144x256.size a := fun arg16 arg17 k0_hw1 => k0_hw1.2.1.2.2.2.2.2.2.2.2.2.2.2.2.2.2.2.2.2.2.2.2.2.2.2.2.2.2.2.2.2.1
theorem k0_off71_inb : ∀ (arg16 : BitVec 32) (arg17 : BitVec 32) (k0_hw1 : k0_chk1 arg16 arg17), ∀ a, (k0_off71 arg16 arg17) a + S1x1x144x256.size a ≤ S32x2x144x256.size a := fun arg16 arg17 k0_hw1 => k0_hw1.2.1.2.2.2.2.2.2.2.2.2.2.2.2.2.2.2.2.2.2.2.2.2.2.2.2.2.2.2.2.2.2.1
theorem k0_off72_inb : ∀ (arg16 : BitVec 32) (arg17 : BitVec 32) (k0_hw1 : k0_chk1 arg16 arg17), ∀ a, (k0_off72 arg16 arg17) a + S1x1x1x256.size a ≤ S32x2x1x256.size a := fun arg16 arg17 k0_hw1 => k0_hw1.2.1.2.2.2.2.2.2.2.2.2.2.2.2.2.2.2.2.2.2.2.2.2.2.2.2.2.2.2.2.2.2.2
theorem k0_off73_inb : ∀ (arg16 : BitVec 32) (arg17 : BitVec 32) (k0_hw1 : k0_chk1 arg16 arg17), ∀ a, (k0_off73 arg16 arg17) a + S1x1x1x256.size a ≤ S32x2x1x256.size a := fun arg16 arg17 k0_hw1 => k0_hw1.2.2.1.1
theorem k0_mult11_dvd : ∀ (arg16 : BitVec 32) (arg17 : BitVec 32) (k0_hw1 : k0_chk1 arg16 arg17), 256 ∣ (k0_mult11 arg16 arg17).toNat := fun arg16 arg17 k0_hw1 => k0_hw1.2.2.1.2.1
theorem k0_off74_inb : ∀ (arg16 : BitVec 32) (arg17 : BitVec 32) (k0_hw1 : k0_chk1 arg16 arg17), ∀ a, (k0_off74 arg16 arg17) a + S1x256x128.size a ≤ S1x8192x128.size a := fun arg16 arg17 k0_hw1 => k0_hw1.2.2.1.2.2.1
theorem k0_off75_inb : ∀ (arg16 : BitVec 32) (arg17 : BitVec 32) (k0_hw1 : k0_chk1 arg16 arg17), ∀ a, (k0_off75 arg16 arg17) a + S1x1x128x256.size a ≤ S32x2x128x256.size a := fun arg16 arg17 k0_hw1 => k0_hw1.2.2.1.2.2.2.1
theorem k0_off76_inb : ∀ (arg16 : BitVec 32) (arg17 : BitVec 32) (k0_hw1 : k0_chk1 arg16 arg17), ∀ a, (k0_off76 arg16 arg17) a + S1x1x128x256.size a ≤ S32x2x128x256.size a := fun arg16 arg17 k0_hw1 => k0_hw1.2.2.1.2.2.2.2.1
theorem k0_off77_inb : ∀ (arg16 : BitVec 32) (arg17 : BitVec 32) (k0_hw1 : k0_chk1 arg16 arg17), ∀ a, (k0_off77 arg16 arg17) a + S1x144x256.size a ≤ S32x144x256.size a := fun arg16 arg17 k0_hw1 => k0_hw1.2.2.1.2.2.2.2.2.1
theorem k0_off78_inb : ∀ (arg16 : BitVec 32) (arg17 : BitVec 32) (k0_hw1 : k0_chk1 arg16 arg17), ∀ a, (k0_off78 arg16 arg17) a + S1x1x144x256.size a ≤ S32x2x144x256.size a := fun arg16 arg17 k0_hw1 => k0_hw1.2.2.1.2.2.2.2.2.2.1
theorem k0_off79_inb : ∀ (arg16 : BitVec 32) (arg17 : BitVec 32) (k0_hw1 : k0_chk1 arg16 arg17), ∀ a, (k0_off79 arg16 arg17) a + S1x1x144x256.size a ≤ S32x2x144x256.size a := fun arg16 arg17 k0_hw1 => k0_hw1.2.2.1.2.2.2.2.2.2.2.1
theorem k0_off80_inb : ∀ (arg16 : BitVec 32) (arg17 : BitVec 32) (k0_hw1 : k0_chk1 arg16 arg17), ∀ a, (k0_off80 arg16 arg17) a + S1x1x1x256.size a ≤ S32x2x1x256.size a := fun arg16 arg17 k0_hw1 => k0_hw1.2.2.1.2.2.2.2.2.2.2.2.1
theorem k0_off81_inb : ∀ (arg16 : BitVec 32) (arg17 : BitVec 32) (k0_hw1 : k0_chk1 arg16 arg17), ∀ a, (k0_off81 arg16 arg17) a + S1x1x1x256.size a ≤ S32x2x1x256.size a := fun arg16 arg17 k0_hw1 => k0_hw1.2.2.1.2.2.2.2.2.2.2.2.2.1
theorem k0_mult12_dvd : ∀ (arg16 : BitVec 32) (arg17 : BitVec 32) (k0_hw1 : k0_chk1 arg16 arg17), 256 ∣ (k0_mult12 arg16 arg17).toNat := fun arg16 arg17 k0_hw1 => k0_hw1.2.2.1.2.2.2.2.2.2.2.2.2.2.1
theorem k0_off82_inb : ∀ (arg16 : BitVec 32) (arg17 : BitVec 32) (k0_hw1 : k0_chk1 arg16 arg17), ∀ a, (k0_off82 arg16 arg17) a + S1x256x128.size a ≤ S1x8192x128.size a := fun arg16 arg17 k0_hw1 => k0_hw1.2.2.1.2.2.2.2.2.2.2.2.2.2.2.1
theorem k0_off83_inb : ∀ (arg16 : BitVec 32) (arg17 : BitVec 32) (k0_hw1 : k0_chk1 arg16 arg17), ∀ a, (k0_off83 arg16 arg17) a + S1x1x128x256.size a ≤ S32x2x128x256.size a := fun arg16 arg17 k0_hw1 => k0_hw1.2.2.1.2.2.2.2.2.2.2.2.2.2.2.2.1
theorem k0_off84_inb : ∀ (arg16 : BitVec 32) (arg17 : BitVec 32) (k0_hw1 : k0_chk1 arg16 arg17), ∀ a, (k0_off84 arg16 arg17) a + S1x1x128x256.size a ≤ S32x2x128x256.size a := fun arg16 arg17 k0_hw1 => k0_hw1.2.2.1.2.2.2.2.2.2.2.2.2.2.2.2.2.1
theorem k0_off85_inb : ∀ (arg16 : BitVec 32) (arg17 : BitVec 32) (k0_hw1 : k0_chk1 arg16 arg17), ∀ a, (k0_off85 arg16 arg17) a + S1x144x256.size a ≤ S32x144x256.size a := fun arg16 arg17 k0_hw1 => k0_hw1.2.2.1.2.2.2.2.2.2.2.2.2.2.2.2.2.2.1
theorem k0_off86_inb : ∀ (arg16 : BitVec 32) (arg17 : BitVec 32) (k0_hw1 : k0_chk1 arg16 arg17), ∀ a, (k0_off86 arg16 arg17) a + S1x1x144x256.size a ≤ S32x2x144x256.size a := fun arg16 arg17 k0_hw1 => k0_hw1.2.2.1.2.2.2.2.2.2.2.2.2.2.2.2.2.2.2.1
theorem k0_off87_inb : ∀ (arg16 : BitVec 32) (arg17 : BitVec 32) (k0_hw1 : k0_chk1 arg16 arg17), ∀ a, (k0_off87 arg16 arg17) a + S1x1x144x256.size a ≤ S32x2x144x256.size a := fun arg16 arg17 k0_hw1 => k0_hw1.2.2.1.2.2.2.2.2.2.2.2.2.2.2.2.2.2.2.2.1
theorem k0_off88_inb : ∀ (arg16 : BitVec 32) (arg17 : BitVec 32) (k0_hw1 : k0_chk1 arg16 arg17), ∀ a, (k0_off88 arg16 arg17) a + S1x1x1x256.size a ≤ S32x2x1x256.size a := fun arg16 arg17 k0_hw1 => k0_hw1.2.2.1.2.2.2.2.2.2.2.2.2.2.2.2.2.2.2.2.2.1
theorem k0_off89_inb : ∀ (arg16 : BitVec 32) (arg17 : BitVec 32) (k0_hw1 : k0_chk1 arg16 arg17), ∀ a, (k0_off89 arg16 arg17) a + S1x1x1x256.size a ≤ S32x2x1x256.size a := fun arg16 arg17 k0_hw1 => k0_hw1.2.2.1.2.2.2.2.2.2.2.2.2.2.2.2.2.2.2.2.2.2.1
theorem k0_mult13_dvd : ∀ (arg16 : BitVec 32) (arg17 : BitVec 32) (k0_hw1 : k0_chk1 arg16 arg17), 256 ∣ (k0_mult13 arg16 arg17).toNat := fun arg16 arg17 k0_hw1 => k0_hw1.2.2.1.2.2.2.2.2.2.2.2.2.2.2.2.2.2.2.2.2.2.2.1
theorem k0_off90_inb : ∀ (arg16 : BitVec 32) (arg17 : BitVec 32) (k0_hw1 : k0_chk1 arg16 arg17), ∀ a, (k0_off90 arg16 arg17) a + S1x256x128.size a ≤ S1x8192x128.size a := fun arg16 arg17 k0_hw1 => k0_hw1.2.2.1.2.2.2.2.2.2.2.2.2.2.2.2.2.2.2.2.2.2.2.2.1
theorem k0_off91_inb : ∀ (arg16 : BitVec 32) (arg17 : BitVec 32) (k0_hw1 : k0_chk1 arg16 arg17), ∀ a, (k0_off91 arg16 arg17) a + S1x1x128x256.size a ≤ S32x2x128x256.size a := fun arg16 arg17 k0_hw1 => k0_hw1.2.2.1.2.2.2.2.2.2.2.2.2.2.2.2.2.2.2.2.2.2.2.2.2.1
theorem k0_off92_inb : ∀ (arg16 : BitVec 32) (arg17 : BitVec 32) (k0_hw1 : k0_chk1 arg16 arg17), ∀ a, (k0_off92 arg16 arg17) a + S1x1x128x256.size a ≤ S32x2x128x256.size a := fun arg16 arg17 k0_hw1 => k0_hw1.2.2.1.2.2.2.2.2.2.2.2.2.2.2.2.2.2.2.2.2.2.2.2.2.2.1
theorem k0_off93_inb : ∀ (arg16 : BitVec 32) (arg17 : BitVec 32) (k0_hw1 : k0_chk1 arg16 arg17), ∀ a, (k0_off93 arg16 arg17) a + S1x144x256.size a ≤ S32x144x256.size a := fun arg16 arg17 k0_hw1 => k0_hw1.2.2.1.2.2.2.2.2.2.2.2.2.2.2.2.2.2.2.2.2.2.2.2.2.2.2.1
theorem k0_off94_inb : ∀ (arg16 : BitVec 32) (arg17 : BitVec 32) (k0_hw1 : k0_chk1 arg16 arg17), ∀ a, (k0_off94 arg16 arg17) a + S1x1x144x256.size a ≤ S32x2x144x256.size a := fun arg16 arg17 k0_hw1 => k0_hw1.2.2.1.2.2.2.2.2.2.2.2.2.2.2.2.2.2.2.2.2.2.2.2.2.2.2.2.1
theorem k0_off95_inb : ∀ (arg16 : BitVec 32) (arg17 : BitVec 32) (k0_hw1 : k0_chk1 arg16 arg17), ∀ a, (k0_off95 arg16 arg17) a + S1x1x144x256.size a ≤ S32x2x144x256.size a := fun arg16 arg17 k0_hw1 => k0_hw1.2.2.1.2.2.2.2.2.2.2.2.2.2.2.2.2.2.2.2.2.2.2.2.2.2.2.2.2.1
theorem k0_off96_inb : ∀ (arg16 : BitVec 32) (arg17 : BitVec 32) (k0_hw1 : k0_chk1 arg16 arg17), ∀ a, (k0_off96 arg16 arg17) a + S1x1x1x256.size a ≤ S32x2x1x256.size a := fun arg16 arg17 k0_hw1 => k0_hw1.2.2.1.2.2.2.2.2.2.2.2.2.2.2.2.2.2.2.2.2.2.2.2.2.2.2.2.2.2.1
theorem k0_off97_inb : ∀ (arg16 : BitVec 32) (arg17 : BitVec 32) (k0_hw1 : k0_chk1 arg16 arg17), ∀ a, (k0_off97 arg16 arg17) a + S1x1x1x256.size a ≤ S32x2x1x256.size a := fun arg16 arg17 k0_hw1 => k0_hw1.2.2.1.2.2.2.2.2.2.2.2.2.2.2.2.2.2.2.2.2.2.2.2.2.2.2.2.2.2.2.1
theorem k0_mult14_dvd : ∀ (arg16 : BitVec 32) (arg17 : BitVec 32) (k0_hw1 : k0_chk1 arg16 arg17), 256 ∣ (k0_mult14 arg16 arg17).toNat := fun arg16 arg17 k0_hw1 => k0_hw1.2.2.1.2.2.2.2.2.2.2.2.2.2.2.2.2.2.2.2.2.2.2.2.2.2.2.2.2.2.2.2.1
theorem k0_off98_inb : ∀ (arg16 : BitVec 32) (arg17 : BitVec 32) (k0_hw1 : k0_chk1 arg16 arg17), ∀ a, (k0_off98 arg16 arg17) a + S1x256x128.size a ≤ S1x8192x128.size a := fun arg16 arg17 k0_hw1 => k0_hw1.2.2.1.2.2.2.2.2.2.2.2.2.2.2.2.2.2.2.2.2.2.2.2.2.2.2.2.2.2.2.2.2.1
theorem k0_off99_inb : ∀ (arg16 : BitVec 32) (arg17 : BitVec 32) (k0_hw1 : k0_chk1 arg16 arg17), ∀ a, (k0_off99 arg16 arg17) a + S1x1x128x256.size a ≤ S32x2x128x256.size a := fun arg16 arg17 k0_hw1 => k0_hw1.2.2.1.2.2.2.2.2.2.2.2.2.2.2.2.2.2.2.2.2.2.2.2.2.2.2.2.2.2.2.2.2.2.1
theorem k0_off100_inb : ∀ (arg16 : BitVec 32) (arg17 : BitVec 32) (k0_hw1 : k0_chk1 arg16 arg17), ∀ a, (k0_off100 arg16 arg17) a + S1x1x128x256.size a ≤ S32x2x128x256.size a := fun arg16 arg17 k0_hw1 => k0_hw1.2.2.1.2.2.2.2.2.2.2.2.2.2.2.2.2.2.2.2.2.2.2.2.2.2.2.2.2.2.2.2.2.2.2
theorem k0_off101_inb : ∀ (arg16 : BitVec 32) (arg17 : BitVec 32) (k0_hw1 : k0_chk1 arg16 arg17), ∀ a, (k0_off101 arg16 arg17) a + S1x144x256.size a ≤ S32x144x256.size a := fun arg16 arg17 k0_hw1 => k0_hw1.2.2.2.1.1
theorem k0_off102_inb : ∀ (arg16 : BitVec 32) (arg17 : BitVec 32) (k0_hw1 : k0_chk1 arg16 arg17), ∀ a, (k0_off102 arg16 arg17) a + S1x1x144x256.size a ≤ S32x2x144x256.size a := fun arg16 arg17 k0_hw1 => k0_hw1.2.2.2.1.2.1
theorem k0_off103_inb : ∀ (arg16 : BitVec 32) (arg17 : BitVec 32) (k0_hw1 : k0_chk1 arg16 arg17), ∀ a, (k0_off103 arg16 arg17) a + S1x1x144x256.size a ≤ S32x2x144x256.size a := fun arg16 arg17 k0_hw1 => k0_hw1.2.2.2.1.2.2.1
theorem k0_off104_inb : ∀ (arg16 : BitVec 32) (arg17 : BitVec 32) (k0_hw1 : k0_chk1 arg16 arg17), ∀ a, (k0_off104 arg16 arg17) a + S1x1x1x256.size a ≤ S32x2x1x256.size a := fun arg16 arg17 k0_hw1 => k0_hw1.2.2.2.1.2.2.2.1
theorem k0_off105_inb : ∀ (arg16 : BitVec 32) (arg17 : BitVec 32) (k0_hw1 : k0_chk1 arg16 arg17), ∀ a, (k0_off105 arg16 arg17) a + S1x1x1x256.size a ≤ S32x2x1x256.size a := fun arg16 arg17 k0_hw1 => k0_hw1.2.2.2.1.2.2.2.2.1
theorem k0_mult15_dvd : ∀ (arg16 : BitVec 32) (arg17 : BitVec 32) (k0_hw1 : k0_chk1 arg16 arg17), 256 ∣ (k0_mult15 arg16 arg17).toNat := fun arg16 arg17 k0_hw1 => k0_hw1.2.2.2.1.2.2.2.2.2.1
theorem k0_off106_inb : ∀ (arg16 : BitVec 32) (arg17 : BitVec 32) (k0_hw1 : k0_chk1 arg16 arg17), ∀ a, (k0_off106 arg16 arg17) a + S1x256x128.size a ≤ S1x8192x128.size a := fun arg16 arg17 k0_hw1 => k0_hw1.2.2.2.1.2.2.2.2.2.2.1
theorem k0_off107_inb : ∀ (arg16 : BitVec 32) (arg17 : BitVec 32) (k0_hw1 : k0_chk1 arg16 arg17), ∀ a, (k0_off107 arg16 arg17) a + S1x1x128x256.size a ≤ S32x2x128x256.size a := fun arg16 arg17 k0_hw1 => k0_hw1.2.2.2.1.2.2.2.2.2.2.2.1
theorem k0_off108_inb : ∀ (arg16 : BitVec 32) (arg17 : BitVec 32) (k0_hw1 : k0_chk1 arg16 arg17), ∀ a, (k0_off108 arg16 arg17) a + S1x1x128x256.size a ≤ S32x2x128x256.size a := fun arg16 arg17 k0_hw1 => k0_hw1.2.2.2.1.2.2.2.2.2.2.2.2.1
theorem k0_off109_inb : ∀ (arg16 : BitVec 32) (arg17 : BitVec 32) (k0_hw1 : k0_chk1 arg16 arg17), ∀ a, (k0_off109 arg16 arg17) a + S1x144x256.size a ≤ S32x144x256.size a := fun arg16 arg17 k0_hw1 => k0_hw1.2.2.2.1.2.2.2.2.2.2.2.2.2.1
theorem k0_off110_inb : ∀ (arg16 : BitVec 32) (arg17 : BitVec 32) (k0_hw1 : k0_chk1 arg16 arg17), ∀ a, (k0_off110 arg16 arg17) a + S1x1x144x256.size a ≤ S32x2x144x256.size a := fun arg16 arg17 k0_hw1 => k0_hw1.2.2.2.1.2.2.2.2.2.2.2.2.2.2.1
theorem k0_off111_inb : ∀ (arg16 : BitVec 32) (arg17 : BitVec 32) (k0_hw1 : k0_chk1 arg16 arg17), ∀ a, (k0_off111 arg16 arg17) a + S1x1x144x256.size a ≤ S32x2x144x256.size a := fun arg16 arg17 k0_hw1 => k0_hw1.2.2.2.1.2.2.2.2.2.2.2.2.2.2.2.1
theorem k0_off112_inb : ∀ (arg16 : BitVec 32) (arg17 : BitVec 32) (k0_hw1 : k0_chk1 arg16 arg17), ∀ a, (k0_off112 arg16 arg17) a + S1x1x1x256.size a ≤ S32x2x1x256.size a := fun arg16 arg17 k0_hw1 => k0_hw1.2.2.2.1.2.2.2.2.2.2.2.2.2.2.2.2.1
theorem k0_off113_inb : ∀ (arg16 : BitVec 32) (arg17 : BitVec 32) (k0_hw1 : k0_chk1 arg16 arg17), ∀ a, (k0_off113 arg16 arg17) a + S1x1x1x256.size a ≤ S32x2x1x256.size a := fun arg16 arg17 k0_hw1 => k0_hw1.2.2.2.1.2.2.2.2.2.2.2.2.2.2.2.2.2.1
theorem k0_mult16_dvd : ∀ (arg16 : BitVec 32) (arg17 : BitVec 32) (k0_hw1 : k0_chk1 arg16 arg17), 256 ∣ (k0_mult16 arg16 arg17).toNat := fun arg16 arg17 k0_hw1 => k0_hw1.2.2.2.1.2.2.2.2.2.2.2.2.2.2.2.2.2.2.1
theorem k0_off114_inb : ∀ (arg16 : BitVec 32) (arg17 : BitVec 32) (k0_hw1 : k0_chk1 arg16 arg17), ∀ a, (k0_off114 arg16 arg17) a + S1x256x128.size a ≤ S1x8192x128.size a := fun arg16 arg17 k0_hw1 => k0_hw1.2.2.2.1.2.2.2.2.2.2.2.2.2.2.2.2.2.2.2.1
theorem k0_off115_inb : ∀ (arg16 : BitVec 32) (arg17 : BitVec 32) (k0_hw1 : k0_chk1 arg16 arg17), ∀ a, (k0_off115 arg16 arg17) a + S1x1x128x256.size a ≤ S32x2x128x256.size a := fun arg16 arg17 k0_hw1 => k0_hw1.2.2.2.1.2.2.2.2.2.2.2.2.2.2.2.2.2.2.2.2.1
theorem k0_off116_inb : ∀ (arg16 : BitVec 32) (arg17 : BitVec 32) (k0_hw1 : k0_chk1 arg16 arg17), ∀ a, (k0_off116 arg16 arg17) a + S1x1x128x256.size a ≤ S32x2x128x256.size a := fun arg16 arg17 k0_hw1 => k0_hw1.2.2.2.1.2.2.2.2.2.2.2.2.2.2.2.2.2.2.2.2.2.1
theorem k0_off117_inb : ∀ (arg16 : BitVec 32) (arg17 : BitVec 32) (k0_hw1 : k0_chk1 arg16 arg17), ∀ a, (k0_off117 arg16 arg17) a + S1x144x256.size a ≤ S32x144x256.size a := fun arg16 arg17 k0_hw1 => k0_hw1.2.2.2.1.2.2.2.2.2.2.2.2.2.2.2.2.2.2.2.2.2.2.1
theorem k0_off118_inb : ∀ (arg16 : BitVec 32) (arg17 : BitVec 32) (k0_hw1 : k0_chk1 arg16 arg17), ∀ a, (k0_off118 arg16 arg17) a + S1x1x144x256.size a ≤ S32x2x144x256.size a := fun arg16 arg17 k0_hw1 => k0_hw1.2.2.2.1.2.2.2.2.2.2.2.2.2.2.2.2.2.2.2.2.2.2.2.1
theorem k0_off119_inb : ∀ (arg16 : BitVec 32) (arg17 : BitVec 32) (k0_hw1 : k0_chk1 arg16 arg17), ∀ a, (k0_off119 arg16 arg17) a + S1x1x144x256.size a ≤ S32x2x144x256.size a := fun arg16 arg17 k0_hw1 => k0_hw1.2.2.2.1.2.2.2.2.2.2.2.2.2.2.2.2.2.2.2.2.2.2.2.2.1
theorem k0_off120_inb : ∀ (arg16 : BitVec 32) (arg17 : BitVec 32) (k0_hw1 : k0_chk1 arg16 arg17), ∀ a, (k0_off120 arg16 arg17) a + S1x1x1x256.size a ≤ S32x2x1x256.size a := fun arg16 arg17 k0_hw1 => k0_hw1.2.2.2.1.2.2.2.2.2.2.2.2.2.2.2.2.2.2.2.2.2.2.2.2.2.1
theorem k0_off121_inb : ∀ (arg16 : BitVec 32) (arg17 : BitVec 32) (k0_hw1 : k0_chk1 arg16 arg17), ∀ a, (k0_off121 arg16 arg17) a + S1x1x1x256.size a ≤ S32x2x1x256.size a := fun arg16 arg17 k0_hw1 => k0_hw1.2.2.2.1.2.2.2.2.2.2.2.2.2.2.2.2.2.2.2.2.2.2.2.2.2.2.1
theorem k0_mult17_dvd : ∀ (arg16 : BitVec 32) (arg17 : BitVec 32) (k0_hw1 : k0_chk1 arg16 arg17), 256 ∣ (k0_mult17 arg16 arg17).toNat := fun arg16 arg17 k0_hw1 => k0_hw1.2.2.2.1.2.2.2.2.2.2.2.2.2.2.2.2.2.2.2.2.2.2.2.2.2.2.2.1
theorem k0_off122_inb : ∀ (arg16 : BitVec 32) (arg17 : BitVec 32) (k0_hw1 : k0_chk1 arg16 arg17), ∀ a, (k0_off122 arg16 arg17) a + S1x256x128.size a ≤ S1x8192x128.size a := fun arg16 arg17 k0_hw1 => k0_hw1.2.2.2.1.2.2.2.2.2.2.2.2.2.2.2.2.2.2.2.2.2.2.2.2.2.2.2.2.1
theorem k0_off123_inb : ∀ (arg16 : BitVec 32) (arg17 : BitVec 32) (k0_hw1 : k0_chk1 arg16 arg17), ∀ a, (k0_off123 arg16 arg17) a + S1x1x128x256.size a ≤ S32x2x128x256.size a := fun arg16 arg17 k0_hw1 => k0_hw1.2.2.2.1.2.2.2.2.2.2.2.2.2.2.2.2.2.2.2.2.2.2.2.2.2.2.2.2.2.1
theorem k0_off124_inb : ∀ (arg16 : BitVec 32) (arg17 : BitVec 32) (k0_hw1 : k0_chk1 arg16 arg17), ∀ a, (k0_off124 arg16 arg17) a + S1x1x128x256.size a ≤ S32x2x128x256.size a := fun arg16 arg17 k0_hw1 => k0_hw1.2.2.2.1.2.2.2.2.2.2.2.2.2.2.2.2.2.2.2.2.2.2.2.2.2.2.2.2.2.2.1
theorem k0_off125_inb : ∀ (arg16 : BitVec 32) (arg17 : BitVec 32) (k0_hw1 : k0_chk1 arg16 arg17), ∀ a, (k0_off125 arg16 arg17) a + S1x144x256.size a ≤ S32x144x256.size a := fun arg16 arg17 k0_hw1 => k0_hw1.2.2.2.1.2.2.2.2.2.2.2.2.2.2.2.2.2.2.2.2.2.2.2.2.2.2.2.2.2.2.2.1
theorem k0_off126_inb : ∀ (arg16 : BitVec 32) (arg17 : BitVec 32) (k0_hw1 : k0_chk1 arg16 arg17), ∀ a, (k0_off126 arg16 arg17) a + S1x1x144x256.size a ≤ S32x2x144x256.size a := fun arg16 arg17 k0_hw1 => k0_hw1.2.2.2.1.2.2.2.2.2.2.2.2.2.2.2.2.2.2.2.2.2.2.2.2.2.2.2.2.2.2.2.2.1
theorem k0_off127_inb : ∀ (arg16 : BitVec 32) (arg17 : BitVec 32) (k0_hw1 : k0_chk1 arg16 arg17), ∀ a, (k0_off127 arg16 arg17) a + S1x1x144x256.size a ≤ S32x2x144x256.size a := fun arg16 arg17 k0_hw1 => k0_hw1.2.2.2.1.2.2.2.2.2.2.2.2.2.2.2.2.2.2.2.2.2.2.2.2.2.2.2.2.2.2.2.2.2.1
theorem k0_off128_inb : ∀ (arg16 : BitVec 32) (arg17 : BitVec 32) (k0_hw1 : k0_chk1 arg16 arg17), ∀ a, (k0_off128 arg16 arg17) a + S1x1x1x256.size a ≤ S32x2x1x256.size a := fun arg16 arg17 k0_hw1 => k0_hw1.2.2.2.1.2.2.2.2.2.2.2.2.2.2.2.2.2.2.2.2.2.2.2.2.2.2.2.2.2.2.2.2.2.2.1
theorem k0_off129_inb : ∀ (arg16 : BitVec 32) (arg17 : BitVec 32) (k0_hw1 : k0_chk1 arg16 arg17), ∀ a, (k0_off129 arg16 arg17) a + S1x1x1x256.size a ≤ S32x2x1x256.size a := fun arg16 arg17 k0_hw1 => k0_hw1.2.2.2.1.2.2.2.2.2.2.2.2.2.2.2.2.2.2.2.2.2.2.2.2.2.2.2.2.2.2.2.2.2.2.2
theorem k0_mult18_dvd : ∀ (arg16 : BitVec 32) (arg17 : BitVec 32) (k0_hw1 : k0_chk1 arg16 arg17), 256 ∣ (k0_mult18 arg16 arg17).toNat := fun arg16 arg17 k0_hw1 => k0_hw1.2.2.2.2.1.1
theorem k0_off130_inb : ∀ (arg16 : BitVec 32) (arg17 : BitVec 32) (k0_hw1 : k0_chk1 arg16 arg17), ∀ a, (k0_off130 arg16 arg17) a + S1x256x128.size a ≤ S1x8192x128.size a := fun arg16 arg17 k0_hw1 => k0_hw1.2.2.2.2.1.2.1
theorem k0_off131_inb : ∀ (arg16 : BitVec 32) (arg17 : BitVec 32) (k0_hw1 : k0_chk1 arg16 arg17), ∀ a, (k0_off131 arg16 arg17) a + S1x1x128x256.size a ≤ S32x2x128x256.size a := fun arg16 arg17 k0_hw1 => k0_hw1.2.2.2.2.1.2.2.1
theorem k0_off132_inb : ∀ (arg16 : BitVec 32) (arg17 : BitVec 32) (k0_hw1 : k0_chk1 arg16 arg17), ∀ a, (k0_off132 arg16 arg17) a + S1x1x128x256.size a ≤ S32x2x128x256.size a := fun arg16 arg17 k0_hw1 => k0_hw1.2.2.2.2.1.2.2.2.1
theorem k0_off133_inb : ∀ (arg16 : BitVec 32) (arg17 : BitVec 32) (k0_hw1 : k0_chk1 arg16 arg17), ∀ a, (k0_off133 arg16 arg17) a + S1x144x256.size a ≤ S32x144x256.size a := fun arg16 arg17 k0_hw1 => k0_hw1.2.2.2.2.1.2.2.2.2.1
theorem k0_off134_inb : ∀ (arg16 : BitVec 32) (arg17 : BitVec 32) (k0_hw1 : k0_chk1 arg16 arg17), ∀ a, (k0_off134 arg16 arg17) a + S1x1x144x256.size a ≤ S32x2x144x256.size a := fun arg16 arg17 k0_hw1 => k0_hw1.2.2.2.2.1.2.2.2.2.2.1
theorem k0_off135_inb : ∀ (arg16 : BitVec 32) (arg17 : BitVec 32) (k0_hw1 : k0_chk1 arg16 arg17), ∀ a, (k0_off135 arg16 arg17) a + S1x1x144x256.size a ≤ S32x2x144x256.size a := fun arg16 arg17 k0_hw1 => k0_hw1.2.2.2.2.1.2.2.2.2.2.2.1
theorem k0_off136_inb : ∀ (arg16 : BitVec 32) (arg17 : BitVec 32) (k0_hw1 : k0_chk1 arg16 arg17), ∀ a, (k0_off136 arg16 arg17) a + S1x1x1x256.size a ≤ S32x2x1x256.size a := fun arg16 arg17 k0_hw1 => k0_hw1.2.2.2.2.1.2.2.2.2.2.2.2.1
theorem k0_off137_inb : ∀ (arg16 : BitVec 32) (arg17 : BitVec 32) (k0_hw1 : k0_chk1 arg16 arg17), ∀ a, (k0_off137 arg16 arg17) a + S1x1x1x256.size a ≤ S32x2x1x256.size a := fun arg16 arg17 k0_hw1 => k0_hw1.2.2.2.2.1.2.2.2.2.2.2.2.2.1
theorem k0_mult19_dvd : ∀ (arg16 : BitVec 32) (arg17 : BitVec 32) (k0_hw1 : k0_chk1 arg16 arg17), 256 ∣ (k0_mult19 arg16 arg17).toNat := fun arg16 arg17 k0_hw1 => k0_hw1.2.2.2.2.1.2.2.2.2.2.2.2.2.2.1
theorem k0_off138_inb : ∀ (arg16 : BitVec 32) (arg17 : BitVec 32) (k0_hw1 : k0_chk1 arg16 arg17), ∀ a, (k0_off138 arg16 arg17) a + S1x256x128.size a ≤ S1x8192x128.size a := fun arg16 arg17 k0_hw1 => k0_hw1.2.2.2.2.1.2.2.2.2.2.2.2.2.2.2.1
theorem k0_off139_inb : ∀ (arg16 : BitVec 32) (arg17 : BitVec 32) (k0_hw1 : k0_chk1 arg16 arg17), ∀ a, (k0_off139 arg16 arg17) a + S1x1x128x256.size a ≤ S32x2x128x256.size a := fun arg16 arg17 k0_hw1 => k0_hw1.2.2.2.2.1.2.2.2.2.2.2.2.2.2.2.2.1
theorem k0_off140_inb : ∀ (arg16 : BitVec 32) (arg17 : BitVec 32) (k0_hw1 : k0_chk1 arg16 arg17), ∀ a, (k0_off140 arg16 arg17) a + S1x1x128x256.size a ≤ S32x2x128x256.size a := fun arg16 arg17 k0_hw1 => k0_hw1.2.2.2.2.1.2.2.2.2.2.2.2.2.2.2.2.2.1
theorem k0_off141_inb : ∀ (arg16 : BitVec 32) (arg17 : BitVec 32) (k0_hw1 : k0_chk1 arg16 arg17), ∀ a, (k0_off141 arg16 arg17) a + S1x144x256.size a ≤ S32x144x256.size a := fun arg16 arg17 k0_hw1 => k0_hw1.2.2.2.2.1.2.2.2.2.2.2.2.2.2.2.2.2.2.1
theorem k0_off142_inb : ∀ (arg16 : BitVec 32) (arg17 : BitVec 32) (k0_hw1 : k0_chk1 arg16 arg17), ∀ a, (k0_off142 arg16 arg17) a + S1x1x144x256.size a ≤ S32x2x144x256.size a := fun arg16 arg17 k0_hw1 => k0_hw1.2.2.2.2.1.2.2.2.2.2.2.2.2.2.2.2.2.2.2.1
theorem k0_off143_inb : ∀ (arg16 : BitVec 32) (arg17 : BitVec 32) (k0_hw1 : k0_chk1 arg16 arg17), ∀ a, (k0_off143 arg16 arg17) a + S1x1x144x256.size a ≤ S32x2x144x256.size a := fun arg16 arg17 k0_hw1 => k0_hw1.2.2.2.2.1.2.2.2.2.2.2.2.2.2.2.2.2.2.2.2.1
theorem k0_off144_inb : ∀ (arg16 : BitVec 32) (arg17 : BitVec 32) (k0_hw1 : k0_chk1 arg16 arg17), ∀ a, (k0_off144 arg16 arg17) a + S1x1x1x256.size a ≤ S32x2x1x256.size a := fun arg16 arg17 k0_hw1 => k0_hw1.2.2.2.2.1.2.2.2.2.2.2.2.2.2.2.2.2.2.2.2.2.1
theorem k0_off145_inb : ∀ (arg16 : BitVec 32) (arg17 : BitVec 32) (k0_hw1 : k0_chk1 arg16 arg17), ∀ a, (k0_off145 arg16 arg17) a + S1x1x1x256.size a ≤ S32x2x1x256.size a := fun arg16 arg17 k0_hw1 => k0_hw1.2.2.2.2.1.2.2.2.2.2.2.2.2.2.2.2.2.2.2.2.2.2.1
theorem k0_mult20_dvd : ∀ (arg16 : BitVec 32) (arg17 : BitVec 32) (k0_hw1 : k0_chk1 arg16 arg17), 256 ∣ (k0_mult20 arg16 arg17).toNat := fun arg16 arg17 k0_hw1 => k0_hw1.2.2.2.2.1.2.2.2.2.2.2.2.2.2.2.2.2.2.2.2.2.2.2.1
theorem k0_off146_inb : ∀ (arg16 : BitVec 32) (arg17 : BitVec 32) (k0_hw1 : k0_chk1 arg16 arg17), ∀ a, (k0_off146 arg16 arg17) a + S1x256x128.size a ≤ S1x8192x128.size a := fun arg16 arg17 k0_hw1 => k0_hw1.2.2.2.2.1.2.2.2.2.2.2.2.2.2.2.2.2.2.2.2.2.2.2.2.1
theorem k0_off147_inb : ∀ (arg16 : BitVec 32) (arg17 : BitVec 32) (k0_hw1 : k0_chk1 arg16 arg17), ∀ a, (k0_off147 arg16 arg17) a + S1x1x128x256.size a ≤ S32x2x128x256.size a := fun arg16 arg17 k0_hw1 => k0_hw1.2.2.2.2.1.2.2.2.2.2.2.2.2.2.2.2.2.2.2.2.2.2.2.2.2.1
theorem k0_off148_inb : ∀ (arg16 : BitVec 32) (arg17 : BitVec 32) (k0_hw1 : k0_chk1 arg16 arg17), ∀ a, (k0_off148 arg16 arg17) a + S1x1x128x256.size a ≤ S32x2x128x256.size a := fun arg16 arg17 k0_hw1 => k0_hw1.2.2.2.2.1.2.2.2.2.2.2.2.2.2.2.2.2.2.2.2.2.2.2.2.2.2.1
theorem k0_off149_inb : ∀ (arg16 : BitVec 32) (arg17 : BitVec 32) (k0_hw1 : k0_chk1 arg16 arg17), ∀ a, (k0_off149 arg16 arg17) a + S1x144x256.size a ≤ S32x144x256.size a := fun arg16 arg17 k0_hw1 => k0_hw1.2.2.2.2.1.2.2.2.2.2.2.2.2.2.2.2.2.2.2.2.2.2.2.2.2.2.2.1
theorem k0_off150_inb : ∀ (arg16 : BitVec 32) (arg17 : BitVec 32) (k0_hw1 : k0_chk1 arg16 arg17), ∀ a, (k0_off150 arg16 arg17) a + S1x1x144x256.size a ≤ S32x2x144x256.size a := fun arg16 arg17 k0_hw1 => k0_hw1.2.2.2.2.1.2.2.2.2.2.2.2.2.2.2.2.2.2.2.2.2.2.2.2.2.2.2.2.1
theorem k0_off151_inb : ∀ (arg16 : BitVec 32) (arg17 : BitVec 32) (k0_hw1 : k0_chk1 arg16 arg17), ∀ a, (k0_off151 arg16 arg17) a + S1x1x144x256.size a ≤ S32x2x144x256.size a := fun arg16 arg17 k0_hw1 => k0_hw1.2.2.2.2.1.2.2.2.2.2.2.2.2.2.2.2.2.2.2.2.2.2.2.2.2.2.2.2.2.1
theorem k0_off152_inb : ∀ (arg16 : BitVec 32) (arg17 : BitVec 32) (k0_hw1 : k0_chk1 arg16 arg17), ∀ a, (k0_off152 arg16 arg17) a + S1x1x1x256.size a ≤ S32x2x1x256.size a := fun arg16 arg17 k0_hw1 => k0_hw1.2.2.2.2.1.2.2.2.2.2.2.2.2.2.2.2.2.2.2.2.2.2.2.2.2.2.2.2.2.2.1
theorem k0_off153_inb : ∀ (arg16 : BitVec 32) (arg17 : BitVec 32) (k0_hw1 : k0_chk1 arg16 arg17), ∀ a, (k0_off153 arg16 arg17) a + S1x1x1x256.size a ≤ S32x2x1x256.size a := fun arg16 arg17 k0_hw1 => k0_hw1.2.2.2.2.1.2.2.2.2.2.2.2.2.2.2.2.2.2.2.2.2.2.2.2.2.2.2.2.2.2.2.1
theorem k0_mult21_dvd : ∀ (arg16 : BitVec 32) (arg17 : BitVec 32) (k0_hw1 : k0_chk1 arg16 arg17), 256 ∣ (k0_mult21 arg16 arg17).toNat := fun arg16 arg17 k0_hw1 => k0_hw1.2.2.2.2.1.2.2.2.2.2.2.2.2.2.2.2.2.2.2.2.2.2.2.2.2.2.2.2.2.2.2.2.1
theorem k0_off154_inb : ∀ (arg16 : BitVec 32) (arg17 : BitVec 32) (k0_hw1 : k0_chk1 arg16 arg17), ∀ a, (k0_off154 arg16 arg17) a + S1x256x128.size a ≤ S1x8192x128.size a := fun arg16 arg17 k0_hw1 => k0_hw1.2.2.2.2.1.2.2.2.2.2.2.2.2.2.2.2.2.2.2.2.2.2.2.2.2.2.2.2.2.2.2.2.2.1
theorem k0_off155_inb : ∀ (arg16 : BitVec 32) (arg17 : BitVec 32) (k0_hw1 : k0_chk1 arg16 arg17), ∀ a, (k0_off155 arg16 arg17) a + S1x1x128x256.size a ≤ S32x2x128x256.size a := fun arg16 arg17 k0_hw1 => k0_hw1.2.2.2.2.1.2.2.2.2.2.2.2.2.2.2.2.2.2.2.2.2.2.2.2.2.2.2.2.2.2.2.2.2.2.1
theorem k0_off156_inb : ∀ (arg16 : BitVec 32) (arg17 : BitVec 32) (k0_hw1 : k0_chk1 arg16 arg17), ∀ a, (k0_off156 arg16 arg17) a + S1x1x128x256.size a ≤ S32x2x128x256.size a := fun arg16 arg17 k0_hw1 => k0_hw1.2.2.2.2.1.2.2.2.2.2.2.2.2.2.2.2.2.2.2.2.2.2.2.2.2.2.2.2.2.2.2.2.2.2.2.1
theorem k0_off157_inb : ∀ (arg16 : BitVec 32) (arg17 : BitVec 32) (k0_hw1 : k0_chk1 arg16 arg17), ∀ a, (k0_off157 arg16 arg17) a + S1x144x256.size a ≤ S32x144x256.size a := fun arg16 arg17 k0_hw1 => k0_hw1.2.2.2.2.1.2.2.2.2.2.2.2.2.2.2.2.2.2.2.2.2.2.2.2.2.2.2.2.2.2.2.2.2.2.2.2
theorem k0_off158_inb : ∀ (arg16 : BitVec 32) (arg17 : BitVec 32) (k0_hw1 : k0_chk1 arg16 arg17), ∀ a, (k0_off158 arg16 arg17) a + S1x1x144x256.size a ≤ S32x2x144x256.size a := fun arg16 arg17 k0_hw1 => k0_hw1.2.2.2.2.2.1.1
theorem k0_off159_inb : ∀ (arg16 : BitVec 32) (arg17 : BitVec 32) (k0_hw1 : k0_chk1 arg16 arg17), ∀ a, (k0_off159 arg16 arg17) a + S1x1x144x256.size a ≤ S32x2x144x256.size a := fun arg16 arg17 k0_hw1 => k0_hw1.2.2.2.2.2.1.2.1
theorem k0_off160_inb : ∀ (arg16 : BitVec 32) (arg17 : BitVec 32) (k0_hw1 : k0_chk1 arg16 arg17), ∀ a, (k0_off160 arg16 arg17) a + S1x1x1x256.size a ≤ S32x2x1x256.size a := fun arg16 arg17 k0_hw1 => k0_hw1.2.2.2.2.2.1.2.2.1
theorem k0_off161_inb : ∀ (arg16 : BitVec 32) (arg17 : BitVec 32) (k0_hw1 : k0_chk1 arg16 arg17), ∀ a, (k0_off161 arg16 arg17) a + S1x1x1x256.size a ≤ S32x2x1x256.size a := fun arg16 arg17 k0_hw1 => k0_hw1.2.2.2.2.2.1.2.2.2.1
theorem k0_mult22_dvd : ∀ (arg16 : BitVec 32) (arg17 : BitVec 32) (k0_hw1 : k0_chk1 arg16 arg17), 256 ∣ (k0_mult22 arg16 arg17).toNat := fun arg16 arg17 k0_hw1 => k0_hw1.2.2.2.2.2.1.2.2.2.2.1
theorem k0_off162_inb : ∀ (arg16 : BitVec 32) (arg17 : BitVec 32) (k0_hw1 : k0_chk1 arg16 arg17), ∀ a, (k0_off162 arg16 arg17) a + S1x256x128.size a ≤ S1x8192x128.size a := fun arg16 arg17 k0_hw1 => k0_hw1.2.2.2.2.2.1.2.2.2.2.2.1
theorem k0_off163_inb : ∀ (arg16 : BitVec 32) (arg17 : BitVec 32) (k0_hw1 : k0_chk1 arg16 arg17), ∀ a, (k0_off163 arg16 arg17) a + S1x1x128x256.size a ≤ S32x2x128x256.size a := fun arg16 arg17 k0_hw1 => k0_hw1.2.2.2.2.2.1.2.2.2.2.2.2.1
theorem k0_off164_inb : ∀ (arg16 : BitVec 32) (arg17 : BitVec 32) (k0_hw1 : k0_chk1 arg16 arg17), ∀ a, (k0_off164 arg16 arg17) a + S1x1x128x256.size a ≤ S32x2x128x256.size a := fun arg16 arg17 k0_hw1 => k0_hw1.2.2.2.2.2.1.2.2.2.2.2.2.2.1
theorem k0_off165_inb : ∀ (arg16 : BitVec 32) (arg17 : BitVec 32) (k0_hw1 : k0_chk1 arg16 arg17), ∀ a, (k0_off165 arg16 arg17) a + S1x144x256.size a ≤ S32x144x256.size a := fun arg16 arg17 k0_hw1 => k0_hw1.2.2.2.2.2.1.2.2.2.2.2.2.2.2.1
theorem k0_off166_inb : ∀ (arg16 : BitVec 32) (arg17 : BitVec 32) (k0_hw1 : k0_chk1 arg16 arg17), ∀ a, (k0_off166 arg16 arg17) a + S1x1x144x256.size a ≤ S32x2x144x256.size a := fun arg16 arg17 k0_hw1 => k0_hw1.2.2.2.2.2.1.2.2.2.2.2.2.2.2.2.1
theorem k0_off167_inb : ∀ (arg16 : BitVec 32) (arg17 : BitVec 32) (k0_hw1 : k0_chk1 arg16 arg17), ∀ a, (k0_off167 arg16 arg17) a + S1x1x144x256.size a ≤ S32x2x144x256.size a := fun arg16 arg17 k0_hw1 => k0_hw1.2.2.2.2.2.1.2.2.2.2.2.2.2.2.2.2.1
theorem k0_off168_inb : ∀ (arg16 : BitVec 32) (arg17 : BitVec 32) (k0_hw1 : k0_chk1 arg16 arg17), ∀ a, (k0_off168 arg16 arg17) a + S1x1x1x256.size a ≤ S32x2x1x256.size a := fun arg16 arg17 k0_hw1 => k0_hw1.2.2.2.2.2.1.2.2.2.2.2.2.2.2.2.2.2.1
theorem k0_off169_inb : ∀ (arg16 : BitVec 32) (arg17 : BitVec 32) (k0_hw1 : k0_chk1 arg16 arg17), ∀ a, (k0_off169 arg16 arg17) a + S1x1x1x256.size a ≤ S32x2x1x256.size a := fun arg16 arg17 k0_hw1 => k0_hw1.2.2.2.2.2.1.2.2.2.2.2.2.2.2.2.2.2.2.1
theorem k0_mult23_dvd : ∀ (arg16 : BitVec 32) (arg17 : BitVec 32) (k0_hw1 : k0_chk1 arg16 arg17), 256 ∣ (k0_mult23 arg16 arg17).toNat := fun arg16 arg17 k0_hw1 => k0_hw1.2.2.2.2.2.1.2.2.2.2.2.2.2.2.2.2.2.2.2.1
theorem k0_off170_inb : ∀ (arg16 : BitVec 32) (arg17 : BitVec 32) (k0_hw1 : k0_chk1 arg16 arg17), ∀ a, (k0_off170 arg16 arg17) a + S1x256x128.size a ≤ S1x8192x128.size a := fun arg16 arg17 k0_hw1 => k0_hw1.2.2.2.2.2.1.2.2.2.2.2.2.2.2.2.2.2.2.2.2.1
theorem k0_off171_inb : ∀ (arg16 : BitVec 32) (arg17 : BitVec 32) (k0_hw1 : k0_chk1 arg16 arg17), ∀ a, (k0_off171 arg16 arg17) a + S1x1x128x256.size a ≤ S32x2x128x256.size a := fun arg16 arg17 k0_hw1 => k0_hw1.2.2.2.2.2.1.2.2.2.2.2.2.2.2.2.2.2.2.2.2.2.1
theorem k0_off172_inb : ∀ (arg16 : BitVec 32) (arg17 : BitVec 32) (k0_hw1 : k0_chk1 arg16 arg17), ∀ a, (k0_off172 arg16 arg17) a + S1x1x128x256.size a ≤ S32x2x128x256.size a := fun arg16 arg17 k0_hw1 => k0_hw1.2.2.2.2.2.1.2.2.2.2.2.2.2.2.2.2.2.2.2.2.2.2.1
theorem k0_off173_inb : ∀ (arg16 : BitVec 32) (arg17 : BitVec 32) (k0_hw1 : k0_chk1 arg16 arg17), ∀ a, (k0_off173 arg16 arg17) a + S1x144x256.size a ≤ S32x144x256.size a := fun arg16 arg17 k0_hw1 => k0_hw1.2.2.2.2.2.1.2.2.2.2.2.2.2.2.2.2.2.2.2.2.2.2.2.1
theorem k0_off174_inb : ∀ (arg16 : BitVec 32) (arg17 : BitVec 32) (k0_hw1 : k0_chk1 arg16 arg17), ∀ a, (k0_off174 arg16 arg17) a + S1x1x144x256.size a ≤ S32x2x144x256.size a := fun arg16 arg17 k0_hw1 => k0_hw1.2.2.2.2.2.1.2.2.2.2.2.2.2.2.2.2.2.2.2.2.2.2.2.2.1
theorem k0_off175_inb : ∀ (arg16 : BitVec 32) (arg17 : BitVec 32) (k0_hw1 : k0_chk1 arg16 arg17), ∀ a, (k0_off175 arg16 arg17) a + S1x1x144x256.size a ≤ S32x2x144x256.size a := fun arg16 arg17 k0_hw1 => k0_hw1.2.2.2.2.2.1.2.2.2.2.2.2.2.2.2.2.2.2.2.2.2.2.2.2.2.1
theorem k0_off176_inb : ∀ (arg16 : BitVec 32) (arg17 : BitVec 32) (k0_hw1 : k0_chk1 arg16 arg17), ∀ a, (k0_off176 arg16 arg17) a + S1x1x1x256.size a ≤ S32x2x1x256.size a := fun arg16 arg17 k0_hw1 => k0_hw1.2.2.2.2.2.1.2.2.2.2.2.2.2.2.2.2.2.2.2.2.2.2.2.2.2.2.1
theorem k0_off177_inb : ∀ (arg16 : BitVec 32) (arg17 : BitVec 32) (k0_hw1 : k0_chk1 arg16 arg17), ∀ a, (k0_off177 arg16 arg17) a + S1x1x1x256.size a ≤ S32x2x1x256.size a := fun arg16 arg17 k0_hw1 => k0_hw1.2.2.2.2.2.1.2.2.2.2.2.2.2.2.2.2.2.2.2.2.2.2.2.2.2.2.2.1
theorem k0_mult24_dvd : ∀ (arg16 : BitVec 32) (arg17 : BitVec 32) (k0_hw1 : k0_chk1 arg16 arg17), 256 ∣ (k0_mult24 arg16 arg17).toNat := fun arg16 arg17 k0_hw1 => k0_hw1.2.2.2.2.2.1.2.2.2.2.2.2.2.2.2.2.2.2.2.2.2.2.2.2.2.2.2.2.1
theorem k0_off178_inb : ∀ (arg16 : BitVec 32) (arg17 : BitVec 32) (k0_hw1 : k0_chk1 arg16 arg17), ∀ a, (k0_off178 arg16 arg17) a + S1x256x128.size a ≤ S1x8192x128.size a := fun arg16 arg17 k0_hw1 => k0_hw1.2.2.2.2.2.1.2.2.2.2.2.2.2.2.2.2.2.2.2.2.2.2.2.2.2.2.2.2.2.1
theorem k0_off179_inb : ∀ (arg16 : BitVec 32) (arg17 : BitVec 32) (k0_hw1 : k0_chk1 arg16 arg17), ∀ a, (k0_off179 arg16 arg17) a + S1x1x128x256.size a ≤ S32x2x128x256.size a := fun arg16 arg17 k0_hw1 => k0_hw1.2.2.2.2.2.1.2.2.2.2.2.2.2.2.2.2.2.2.2.2.2.2.2.2.2.2.2.2.2.2.1
theorem k0_off180_inb : ∀ (arg16 : BitVec 32) (arg17 : BitVec 32) (k0_hw1 : k0_chk1 arg16 arg17), ∀ a, (k0_off180 arg16 arg17) a + S1x1x128x256.size a ≤ S32x2x128x256.size a := fun arg16 arg17 k0_hw1 => k0_hw1.2.2.2.2.2.1.2.2.2.2.2.2.2.2.2.2.2.2.2.2.2.2.2.2.2.2.2.2.2.2.2.1
theorem k0_off181_inb : ∀ (arg16 : BitVec 32) (arg17 : BitVec 32) (k0_hw1 : k0_chk1 arg16 arg17), ∀ a, (k0_off181 arg16 arg17) a + S1x144x256.size a ≤ S32x144x256.size a := fun arg16 arg17 k0_hw1 => k0_hw1.2.2.2.2.2.1.2.2.2.2.2.2.2.2.2.2.2.2.2.2.2.2.2.2.2.2.2.2.2.2.2.2.1
theorem k0_off182_inb : ∀ (arg16 : BitVec 32) (arg17 : BitVec 32) (k0_hw1 : k0_chk1 arg16 arg17), ∀ a, (k0_off182 arg16 arg17) a + S1x1x144x256.size a ≤ S32x2x144x256.size a := fun arg16 arg17 k0_hw1 => k0_hw1.2.2.2.2.2.1.2.2.2.2.2.2.2.2.2.2.2.2.2.2.2.2.2.2.2.2.2.2.2.2.2.2.2.1
theorem k0_off183_inb : ∀ (arg16 : BitVec 32) (arg17 : BitVec 32) (k0_hw1 : k0_chk1 arg16 arg17), ∀ a, (k0_off183 arg16 arg17) a + S1x1x144x256.size a ≤ S32x2x144x256.size a := fun arg16 arg17 k0_hw1 => k0_hw1.2.2.2.2.2.1.2.2.2.2.2.2.2.2.2.2.2.2.2.2.2.2.2.2.2.2.2.2.2.2.2.2.2.2.1
theorem k0_off184_inb : ∀ (arg16 : BitVec 32) (arg17 : BitVec 32) (k0_hw1 : k0_chk1 arg16 arg17), ∀ a, (k0_off184 arg16 arg17) a + S1x1x1x256.size a ≤ S32x2x1x256.size a := fun arg16 arg17 k0_hw1 => k0_hw1.2.2.2.2.2.1.2.2.2.2.2.2.2.2.2.2.2.2.2.2.2.2.2.2.2.2.2.2.2.2.2.2.2.2.2.1
theorem k0_off185_inb : ∀ (arg16 : BitVec 32) (arg17 : BitVec 32) (k0_hw1 : k0_chk1 arg16 arg17), ∀ a, (k0_off185 arg16 arg17) a + S1x1x1x256.size a ≤ S32x2x1x256.size a := fun arg16 arg17 k0_hw1 => k0_hw1.2.2.2.2.2.1.2.2.2.2.2.2.2.2.2.2.2.2.2.2.2.2.2.2.2.2.2.2.2.2.2.2.2.2.2.2.1
theorem k0_mult25_dvd : ∀ (arg16 : BitVec 32) (arg17 : BitVec 32) (k0_hw1 : k0_chk1 arg16 arg17), 256 ∣ (k0_mult25 arg16 arg17).toNat := fun arg16 arg17 k0_hw1 => k0_hw1.2.2.2.2.2.1.2.2.2.2.2.2.2.2.2.2.2.2.2.2.2.2.2.2.2.2.2.2.2.2.2.2.2.2.2.2.2
theorem k0_off186_inb : ∀ (arg16 : BitVec 32) (arg17 : BitVec 32) (k0_hw1 : k0_chk1 arg16 arg17), ∀ a, (k0_off186 arg16 arg17) a + S1x256x128.size a ≤ S1x8192x128.size a := fun arg16 arg17 k0_hw1 => k0_hw1.2.2.2.2.2.2.1.1
theorem k0_off187_inb : ∀ (arg16 : BitVec 32) (arg17 : BitVec 32) (k0_hw1 : k0_chk1 arg16 arg17), ∀ a, (k0_off187 arg16 arg17) a + S1x1x128x256.size a ≤ S32x2x128x256.size a := fun arg16 arg17 k0_hw1 => k0_hw1.2.2.2.2.2.2.1.2.1
theorem k0_off188_inb : ∀ (arg16 : BitVec 32) (arg17 : BitVec 32) (k0_hw1 : k0_chk1 arg16 arg17), ∀ a, (k0_off188 arg16 arg17) a + S1x1x128x256.size a ≤ S32x2x128x256.size a := fun arg16 arg17 k0_hw1 => k0_hw1.2.2.2.2.2.2.1.2.2.1
theorem k0_off189_inb : ∀ (arg16 : BitVec 32) (arg17 : BitVec 32) (k0_hw1 : k0_chk1 arg16 arg17), ∀ a, (k0_off189 arg16 arg17) a + S1x144x256.size a ≤ S32x144x256.size a := fun arg16 arg17 k0_hw1 => k0_hw1.2.2.2.2.2.2.1.2.2.2.1
theorem k0_off190_inb : ∀ (arg16 : BitVec 32) (arg17 : BitVec 32) (k0_hw1 : k0_chk1 arg16 arg17), ∀ a, (k0_off190 arg16 arg17) a + S1x1x144x256.size a ≤ S32x2x144x256.size a := fun arg16 arg17 k0_hw1 => k0_hw1.2.2.2.2.2.2.1.2.2.2.2.1
theorem k0_off191_inb : ∀ (arg16 : BitVec 32) (arg17 : BitVec 32) (k0_hw1 : k0_chk1 arg16 arg17), ∀ a, (k0_off191 arg16 arg17) a + S1x1x144x256.size a ≤ S32x2x144x256.size a := fun arg16 arg17 k0_hw1 => k0_hw1.2.2.2.2.2.2.1.2.2.2.2.2.1
theorem k0_off192_inb : ∀ (arg16 : BitVec 32) (arg17 : BitVec 32) (k0_hw1 : k0_chk1 arg16 arg17), ∀ a, (k0_off192 arg16 arg17) a + S1x1x1x256.size a ≤ S32x2x1x256.size a := fun arg16 arg17 k0_hw1 => k0_hw1.2.2.2.2.2.2.1.2.2.2.2.2.2.1
theorem k0_off193_inb : ∀ (arg16 : BitVec 32) (arg17 : BitVec 32) (k0_hw1 : k0_chk1 arg16 arg17), ∀ a, (k0_off193 arg16 arg17) a + S1x1x1x256.size a ≤ S32x2x1x256.size a := fun arg16 arg17 k0_hw1 => k0_hw1.2.2.2.2.2.2.1.2.2.2.2.2.2.2.1
theorem k0_mult26_dvd : ∀ (arg16 : BitVec 32) (arg17 : BitVec 32) (k0_hw1 : k0_chk1 arg16 arg17), 256 ∣ (k0_mult26 arg16 arg17).toNat := fun arg16 arg17 k0_hw1 => k0_hw1.2.2.2.2.2.2.1.2.2.2.2.2.2.2.2.1
theorem k0_off194_inb : ∀ (arg16 : BitVec 32) (arg17 : BitVec 32) (k0_hw1 : k0_chk1 arg16 arg17), ∀ a, (k0_off194 arg16 arg17) a + S1x256x128.size a ≤ S1x8192x128.size a := fun arg16 arg17 k0_hw1 => k0_hw1.2.2.2.2.2.2.1.2.2.2.2.2.2.2.2.2.1
theorem k0_off195_inb : ∀ (arg16 : BitVec 32) (arg17 : BitVec 32) (k0_hw1 : k0_chk1 arg16 arg17), ∀ a, (k0_off195 arg16 arg17) a + S1x1x128x256.size a ≤ S32x2x128x256.size a := fun arg16 arg17 k0_hw1 => k0_hw1.2.2.2.2.2.2.1.2.2.2.2.2.2.2.2.2.2.1
theorem k0_off196_inb : ∀ (arg16 : BitVec 32) (arg17 : BitVec 32) (k0_hw1 : k0_chk1 arg16 arg17), ∀ a, (k0_off196 arg16 arg17) a + S1x1x128x256.size a ≤ S32x2x128x256.size a := fun arg16 arg17 k0_hw1 => k0_hw1.2.2.2.2.2.2.1.2.2.2.2.2.2.2.2.2.2.2.1
theorem k0_off197_inb : ∀ (arg16 : BitVec 32) (arg17 : BitVec 32) (k0_hw1 : k0_chk1 arg16 arg17), ∀ a, (k0_off197 arg16 arg17) a + S1x144x256.size a ≤ S32x144x256.size a := fun arg16 arg17 k0_hw1 => k0_hw1.2.2.2.2.2.2.1.2.2.2.2.2.2.2.2.2.2.2.2.1
theorem k0_off198_inb : ∀ (arg16 : BitVec 32) (arg17 : BitVec 32) (k0_hw1 : k0_chk1 arg16 arg17), ∀ a, (k0_off198 arg16 arg17) a + S1x1x144x256.size a ≤ S32x2x144x256.size a := fun arg16 arg17 k0_hw1 => k0_hw1.2.2.2.2.2.2.1.2.2.2.2.2.2.2.2.2.2.2.2.2.1
theorem k0_off199_inb : ∀ (arg16 : BitVec 32) (arg17 : BitVec 32) (k0_hw1 : k0_chk1 arg16 arg17), ∀ a, (k0_off199 arg16 arg17) a + S1x1x144x256.size a ≤ S32x2x144x256.size a := fun arg16 arg17 k0_hw1 => k0_hw1.2.2.2.2.2.2.1.2.2.2.2.2.2.2.2.2.2.2.2.2.2.1
theorem k0_off200_inb : ∀ (arg16 : BitVec 32) (arg17 : BitVec 32) (k0_hw1 : k0_chk1 arg16 arg17), ∀ a, (k0_off200 arg16 arg17) a + S1x1x1x256.size a ≤ S32x2x1x256.size a := fun arg16 arg17 k0_hw1 => k0_hw1.2.2.2.2.2.2.1.2.2.2.2.2.2.2.2.2.2.2.2.2.2.2.1
theorem k0_off201_inb : ∀ (arg16 : BitVec 32) (arg17 : BitVec 32) (k0_hw1 : k0_chk1 arg16 arg17), ∀ a, (k0_off201 arg16 arg17) a + S1x1x1x256.size a ≤ S32x2x1x256.size a := fun arg16 arg17 k0_hw1 => k0_hw1.2.2.2.2.2.2.1.2.2.2.2.2.2.2.2.2.2.2.2.2.2.2.2.1
theorem k0_mult27_dvd : ∀ (arg16 : BitVec 32) (arg17 : BitVec 32) (k0_hw1 : k0_chk1 arg16 arg17), 256 ∣ (k0_mult27 arg16 arg17).toNat := fun arg16 arg17 k0_hw1 => k0_hw1.2.2.2.2.2.2.1.2.2.2.2.2.2.2.2.2.2.2.2.2.2.2.2.2.1
theorem k0_off202_inb : ∀ (arg16 : BitVec 32) (arg17 : BitVec 32) (k0_hw1 : k0_chk1 arg16 arg17), ∀ a, (k0_off202 arg16 arg17) a + S1x256x128.size a ≤ S1x8192x128.size a := fun arg16 arg17 k0_hw1 => k0_hw1.2.2.2.2.2.2.1.2.2.2.2.2.2.2.2.2.2.2.2.2.2.2.2.2.2.1
theorem k0_off203_inb : ∀ (arg16 : BitVec 32) (arg17 : BitVec 32) (k0_hw1 : k0_chk1 arg16 arg17), ∀ a, (k0_off203 arg16 arg17) a + S1x1x128x256.size a ≤ S32x2x128x256.size a := fun arg16 arg17 k0_hw1 => k0_hw1.2.2.2.2.2.2.1.2.2.2.2.2.2.2.2.2.2.2.2.2.2.2.2.2.2.2.1
theorem k0_off204_inb : ∀ (arg16 : BitVec 32) (arg17 : BitVec 32) (k0_hw1 : k0_chk1 arg16 arg17), ∀ a, (k0_off204 arg16 arg17) a + S1x1x128x256.size a ≤ S32x2x128x256.size a := fun arg16 arg17 k0_hw1 => k0_hw1.2.2.2.2.2.2.1.2.2.2.2.2.2.2.2.2.2.2.2.2.2.2.2.2.2.2.2.1
theorem k0_off205_inb : ∀ (arg16 : BitVec 32) (arg17 : BitVec 32) (k0_hw1 : k0_chk1 arg16 arg17), ∀ a, (k0_off205 arg16 arg17) a + S1x144x256.size a ≤ S32x144x256.size a := fun arg16 arg17 k0_hw1 => k0_hw1.2.2.2.2.2.2.1.2.2.2.2.2.2.2.2.2.2.2.2.2.2.2.2.2.2.2.2.2.1
theorem k0_off206_inb : ∀ (arg16 : BitVec 32) (arg17 : BitVec 32) (k0_hw1 : k0_chk1 arg16 arg17), ∀ a, (k0_off206 arg16 arg17) a + S1x1x144x256.size a ≤ S32x2x144x256.size a := fun arg16 arg17 k0_hw1 => k0_hw1.2.2.2.2.2.2.1.2.2.2.2.2.2.2.2.2.2.2.2.2.2.2.2.2.2.2.2.2.2.1
theorem k0_off207_inb : ∀ (arg16 : BitVec 32) (arg17 : BitVec 32) (k0_hw1 : k0_chk1 arg16 arg17), ∀ a, (k0_off207 arg16 arg17) a + S1x1x144x256.size a ≤ S32x2x144x256.size a := fun arg16 arg17 k0_hw1 => k0_hw1.2.2.2.2.2.2.1.2.2.2.2.2.2.2.2.2.2.2.2.2.2.2.2.2.2.2.2.2.2.2.1
theorem k0_off208_inb : ∀ (arg16 : BitVec 32) (arg17 : BitVec 32) (k0_hw1 : k0_chk1 arg16 arg17), ∀ a, (k0_off208 arg16 arg17) a + S1x1x1x256.size a ≤ S32x2x1x256.size a := fun arg16 arg17 k0_hw1 => k0_hw1.2.2.2.2.2.2.1.2.2.2.2.2.2.2.2.2.2.2.2.2.2.2.2.2.2.2.2.2.2.2.2.1
theorem k0_off209_inb : ∀ (arg16 : BitVec 32) (arg17 : BitVec 32) (k0_hw1 : k0_chk1 arg16 arg17), ∀ a, (k0_off209 arg16 arg17) a + S1x1x1x256.size a ≤ S32x2x1x256.size a := fun arg16 arg17 k0_hw1 => k0_hw1.2.2.2.2.2.2.1.2.2.2.2.2.2.2.2.2.2.2.2.2.2.2.2.2.2.2.2.2.2.2.2.2.1
theorem k0_mult28_dvd : ∀ (arg16 : BitVec 32) (arg17 : BitVec 32) (k0_hw1 : k0_chk1 arg16 arg17), 256 ∣ (k0_mult28 arg16 arg17).toNat := fun arg16 arg17 k0_hw1 => k0_hw1.2.2.2.2.2.2.1.2.2.2.2.2.2.2.2.2.2.2.2.2.2.2.2.2.2.2.2.2.2.2.2.2.2.1
theorem k0_off210_inb : ∀ (arg16 : BitVec 32) (arg17 : BitVec 32) (k0_hw1 : k0_chk1 arg16 arg17), ∀ a, (k0_off210 arg16 arg17) a + S1x256x128.size a ≤ S1x8192x128.size a := fun arg16 arg17 k0_hw1 => k0_hw1.2.2.2.2.2.2.1.2.2.2.2.2.2.2.2.2.2.2.2.2.2.2.2.2.2.2.2.2.2.2.2.2.2.2.1
theorem k0_off211_inb : ∀ (arg16 : BitVec 32) (arg17 : BitVec 32) (k0_hw1 : k0_chk1 arg16 arg17), ∀ a, (k0_off211 arg16 arg17) a + S1x1x128x256.size a ≤ S32x2x128x256.size a := fun arg16 arg17 k0_hw1 => k0_hw1.2.2.2.2.2.2.1.2.2.2.2.2.2.2.2.2.2.2.2.2.2.2.2.2.2.2.2.2.2.2.2.2.2.2.2.1
theorem k0_off212_inb : ∀ (arg16 : BitVec 32) (arg17 : BitVec 32) (k0_hw1 : k0_chk1 arg16 arg17), ∀ a, (k0_off212 arg16 arg17) a + S1x1x128x256.size a ≤ S32x2x128x256.size a := fun arg16 arg17 k0_hw1 => k0_hw1.2.2.2.2.2.2.1.2.2.2.2.2.2.2.2.2.2.2.2.2.2.2.2.2.2.2.2.2.2.2.2.2.2.2.2.2.1
theorem k0_off213_inb : ∀ (arg16 : BitVec 32) (arg17 : BitVec 32) (k0_hw1 : k0_chk1 arg16 arg17), ∀ a, (k0_off213 arg16 arg17) a + S1x144x256.size a ≤ S32x144x256.size a := fun arg16 arg17 k0_hw1 => k0_hw1.2.2.2.2.2.2.1.2.2.2.2.2.2.2.2.2.2.2.2.2.2.2.2.2.2.2.2.2.2.2.2.2.2.2.2.2.2.1
theorem k0_off214_inb : ∀ (arg16 : BitVec 32) (arg17 : BitVec 32) (k0_hw1 : k0_chk1 arg16 arg17), ∀ a, (k0_off214 arg16 arg17) a + S1x1x144x256.size a ≤ S32x2x144x256.size a := fun arg16 arg17 k0_hw1 => k0_hw1.2.2.2.2.2.2.1.2.2.2.2.2.2.2.2.2.2.2.2.2.2.2.2.2.2.2.2.2.2.2.2.2.2.2.2.2.2.2
theorem k0_off215_inb : ∀ (arg16 : BitVec 32) (arg17 : BitVec 32) (k0_hw1 : k0_chk1 arg16 arg17), ∀ a, (k0_off215 arg16 arg17) a + S1x1x144x256.size a ≤ S32x2x144x256.size a := fun arg16 arg17 k0_hw1 => k0_hw1.2.2.2.2.2.2.2.1.1
theorem k0_off216_inb : ∀ (arg16 : BitVec 32) (arg17 : BitVec 32) (k0_hw1 : k0_chk1 arg16 arg17), ∀ a, (k0_off216 arg16 arg17) a + S1x1x1x256.size a ≤ S32x2x1x256.size a := fun arg16 arg17 k0_hw1 => k0_hw1.2.2.2.2.2.2.2.1.2.1
theorem k0_off217_inb : ∀ (arg16 : BitVec 32) (arg17 : BitVec 32) (k0_hw1 : k0_chk1 arg16 arg17), ∀ a, (k0_off217 arg16 arg17) a + S1x1x1x256.size a ≤ S32x2x1x256.size a := fun arg16 arg17 k0_hw1 => k0_hw1.2.2.2.2.2.2.2.1.2.2.1
theorem k0_mult29_dvd : ∀ (arg16 : BitVec 32) (arg17 : BitVec 32) (k0_hw1 : k0_chk1 arg16 arg17), 256 ∣ (k0_mult29 arg16 arg17).toNat := fun arg16 arg17 k0_hw1 => k0_hw1.2.2.2.2.2.2.2.1.2.2.2.1
theorem k0_off218_inb : ∀ (arg16 : BitVec 32) (arg17 : BitVec 32) (k0_hw1 : k0_chk1 arg16 arg17), ∀ a, (k0_off218 arg16 arg17) a + S1x256x128.size a ≤ S1x8192x128.size a := fun arg16 arg17 k0_hw1 => k0_hw1.2.2.2.2.2.2.2.1.2.2.2.2.1
theorem k0_off219_inb : ∀ (arg16 : BitVec 32) (arg17 : BitVec 32) (k0_hw1 : k0_chk1 arg16 arg17), ∀ a, (k0_off219 arg16 arg17) a + S1x1x128x256.size a ≤ S32x2x128x256.size a := fun arg16 arg17 k0_hw1 => k0_hw1.2.2.2.2.2.2.2.1.2.2.2.2.2.1
theorem k0_off220_inb : ∀ (arg16 : BitVec 32) (arg17 : BitVec 32) (k0_hw1 : k0_chk1 arg16 arg17), ∀ a, (k0_off220 arg16 arg17) a + S1x1x128x256.size a ≤ S32x2x128x256.size a := fun arg16 arg17 k0_hw1 => k0_hw1.2.2.2.2.2.2.2.1.2.2.2.2.2.2.1
theorem k0_off221_inb : ∀ (arg16 : BitVec 32) (arg17 : BitVec 32) (k0_hw1 : k0_chk1 arg16 arg17), ∀ a, (k0_off221 arg16 arg17) a + S1x144x256.size a ≤ S32x144x256.size a := fun arg16 arg17 k0_hw1 => k0_hw1.2.2.2.2.2.2.2.1.2.2.2.2.2.2.2.1
theorem k0_off222_inb : ∀ (arg16 : BitVec 32) (arg17 : BitVec 32) (k0_hw1 : k0_chk1 arg16 arg17), ∀ a, (k0_off222 arg16 arg17) a + S1x1x144x256.size a ≤ S32x2x144x256.size a := fun arg16 arg17 k0_hw1 => k0_hw1.2.2.2.2.2.2.2.1.2.2.2.2.2.2.2.2.1
theorem k0_off223_inb : ∀ (arg16 : BitVec 32) (arg17 : BitVec 32) (k0_hw1 : k0_chk1 arg16 arg17), ∀ a, (k0_off223 arg16 arg17) a + S1x1x144x256.size a ≤ S32x2x144x256.size a := fun arg16 arg17 k0_hw1 => k0_hw1.2.2.2.2.2.2.2.1.2.2.2.2.2.2.2.2.2.1
theorem k0_off224_inb : ∀ (arg16 : BitVec 32) (arg17 : BitVec 32) (k0_hw1 : k0_chk1 arg16 arg17), ∀ a, (k0_off224 arg16 arg17) a + S1x1x1x256.size a ≤ S32x2x1x256.size a := fun arg16 arg17 k0_hw1 => k0_hw1.2.2.2.2.2.2.2.1.2.2.2.2.2.2.2.2.2.2.1
theorem k0_off225_inb : ∀ (arg16 : BitVec 32) (arg17 : BitVec 32) (k0_hw1 : k0_chk1 arg16 arg17), ∀ a, (k0_off225 arg16 arg17) a + S1x1x1x256.size a ≤ S32x2x1x256.size a := fun arg16 arg17 k0_hw1 => k0_hw1.2.2.2.2.2.2.2.1.2.2.2.2.2.2.2.2.2.2.2.1
theorem k0_mult30_dvd : ∀ (arg16 : BitVec 32) (arg17 : BitVec 32) (k0_hw1 : k0_chk1 arg16 arg17), 256 ∣ (k0_mult30 arg16 arg17).toNat := fun arg16 arg17 k0_hw1 => k0_hw1.2.2.2.2.2.2.2.1.2.2.2.2.2.2.2.2.2.2.2.2.1
theorem k0_off226_inb : ∀ (arg16 : BitVec 32) (arg17 : BitVec 32) (k0_hw1 : k0_chk1 arg16 arg17), ∀ a, (k0_off226 arg16 arg17) a + S1x256x128.size a ≤ S1x8192x128.size a := fun arg16 arg17 k0_hw1 => k0_hw1.2.2.2.2.2.2.2.1.2.2.2.2.2.2.2.2.2.2.2.2.2.1
theorem k0_off227_inb : ∀ (arg16 : BitVec 32) (arg17 : BitVec 32) (k0_hw1 : k0_chk1 arg16 arg17), ∀ a, (k0_off227 arg16 arg17) a + S1x1x128x256.size a ≤ S32x2x128x256.size a := fun arg16 arg17 k0_hw1 => k0_hw1.2.2.2.2.2.2.2.1.2.2.2.2.2.2.2.2.2.2.2.2.2.2.1
theorem k0_off228_inb : ∀ (arg16 : BitVec 32) (arg17 : BitVec 32) (k0_hw1 : k0_chk1 arg16 arg17), ∀ a, (k0_off228 arg16 arg17) a + S1x1x128x256.size a ≤ S32x2x128x256.size a := fun arg16 arg17 k0_hw1 => k0_hw1.2.2.2.2.2.2.2.1.2.2.2.2.2.2.2.2.2.2.2.2.2.2.2.1
theorem k0_off229_inb : ∀ (arg16 : BitVec 32) (arg17 : BitVec 32) (k0_hw1 : k0_chk1 arg16 arg17), ∀ a, (k0_off229 arg16 arg17) a + S1x144x256.size a ≤ S32x144x256.size a := fun arg16 arg17 k0_hw1 => k0_hw1.2.2.2.2.2.2.2.1.2.2.2.2.2.2.2.2.2.2.2.2.2.2.2.2.1
theorem k0_off230_inb : ∀ (arg16 : BitVec 32) (arg17 : BitVec 32) (k0_hw1 : k0_chk1 arg16 arg17), ∀ a, (k0_off230 arg16 arg17) a + S1x1x144x256.size a ≤ S32x2x144x256.size a := fun arg16 arg17 k0_hw1 => k0_hw1.2.2.2.2.2.2.2.1.2.2.2.2.2.2.2.2.2.2.2.2.2.2.2.2.2.1
theorem k0_off231_inb : ∀ (arg16 : BitVec 32) (arg17 : BitVec 32) (k0_hw1 : k0_chk1 arg16 arg17), ∀ a, (k0_off231 arg16 arg17) a + S1x1x144x256.size a ≤ S32x2x144x256.size a := fun arg16 arg17 k0_hw1 => k0_hw1.2.2.2.2.2.2.2.1.2.2.2.2.2.2.2.2.2.2.2.2.2.2.2.2.2.2.1
theorem k0_off232_inb : ∀ (arg16 : BitVec 32) (arg17 : BitVec 32) (k0_hw1 : k0_chk1 arg16 arg17), ∀ a, (k0_off232 arg16 arg17) a + S1x1x1x256.size a ≤ S32x2x1x256.size a := fun arg16 arg17 k0_hw1 => k0_hw1.2.2.2.2.2.2.2.1.2.2.2.2.2.2.2.2.2.2.2.2.2.2.2.2.2.2.2.1
theorem k0_off233_inb : ∀ (arg16 : BitVec 32) (arg17 : BitVec 32) (k0_hw1 : k0_chk1 arg16 arg17), ∀ a, (k0_off233 arg16 arg17) a + S1x1x1x256.size a ≤ S32x2x1x256.size a := fun arg16 arg17 k0_hw1 => k0_hw1.2.2.2.2.2.2.2.1.2.2.2.2.2.2.2.2.2.2.2.2.2.2.2.2.2.2.2.2.1
theorem k0_mult31_dvd : ∀ (arg16 : BitVec 32) (arg17 : BitVec 32) (k0_hw1 : k0_chk1 arg16 arg17), 256 ∣ (k0_mult31 arg16 arg17).toNat := fun arg16 arg17 k0_hw1 => k0_hw1.2.2.2.2.2.2.2.1.2.2.2.2.2.2.2.2.2.2.2.2.2.2.2.2.2.2.2.2.2.1
theorem k0_off234_inb : ∀ (arg16 : BitVec 32) (arg17 : BitVec 32) (k0_hw1 : k0_chk1 arg16 arg17), ∀ a, (k0_off234 arg16 arg17) a + S1x256x128.size a ≤ S1x8192x128.size a := fun arg16 arg17 k0_hw1 => k0_hw1.2.2.2.2.2.2.2.1.2.2.2.2.2.2.2.2.2.2.2.2.2.2.2.2.2.2.2.2.2.2.1
theorem k0_off235_inb : ∀ (arg16 : BitVec 32) (arg17 : BitVec 32) (k0_hw1 : k0_chk1 arg16 arg17), ∀ a, (k0_off235 arg16 arg17) a + S1x1x128x256.size a ≤ S32x2x128x256.size a := fun arg16 arg17 k0_hw1 => k0_hw1.2.2.2.2.2.2.2.1.2.2.2.2.2.2.2.2.2.2.2.2.2.2.2.2.2.2.2.2.2.2.2.1
theorem k0_off236_inb : ∀ (arg16 : BitVec 32) (arg17 : BitVec 32) (k0_hw1 : k0_chk1 arg16 arg17), ∀ a, (k0_off236 arg16 arg17) a + S1x1x128x256.size a ≤ S32x2x128x256.size a := fun arg16 arg17 k0_hw1 => k0_hw1.2.2.2.2.2.2.2.1.2.2.2.2.2.2.2.2.2.2.2.2.2.2.2.2.2.2.2.2.2.2.2.2.1
theorem k0_off237_inb : ∀ (arg16 : BitVec 32) (arg17 : BitVec 32) (k0_hw1 : k0_chk1 arg16 arg17), ∀ a, (k0_off237 arg16 arg17) a + S1x144x256.size a ≤ S32x144x256.size a := fun arg16 arg17 k0_hw1 => k0_hw1.2.2.2.2.2.2.2.1.2.2.2.2.2.2.2.2.2.2.2.2.2.2.2.2.2.2.2.2.2.2.2.2.2.1
theorem k0_off238_inb : ∀ (arg16 : BitVec 32) (arg17 : BitVec 32) (k0_hw1 : k0_chk1 arg16 arg17), ∀ a, (k0_off238 arg16 arg17) a + S1x1x144x256.size a ≤ S32x2x144x256.size a := fun arg16 arg17 k0_hw1 => k0_hw1.2.2.2.2.2.2.2.1.2.2.2.2.2.2.2.2.2.2.2.2.2.2.2.2.2.2.2.2.2.2.2.2.2.2.1
theorem k0_off239_inb : ∀ (arg16 : BitVec 32) (arg17 : BitVec 32) (k0_hw1 : k0_chk1 arg16 arg17), ∀ a, (k0_off239 arg16 arg17) a + S1x1x144x256.size a ≤ S32x2x144x256.size a := fun arg16 arg17 k0_hw1 => k0_hw1.2.2.2.2.2.2.2.1.2.2.2.2.2.2.2.2.2.2.2.2.2.2.2.2.2.2.2.2.2.2.2.2.2.2.2.1
theorem k0_off240_inb : ∀ (arg16 : BitVec 32) (arg17 : BitVec 32) (k0_hw1 : k0_chk1 arg16 arg17), ∀ a, (k0_off240 arg16 arg17) a + S1x1x1x256.size a ≤ S32x2x1x256.size a := fun arg16 arg17 k0_hw1 => k0_hw1.2.2.2.2.2.2.2.1.2.2.2.2.2.2.2.2.2.2.2.2.2.2.2.2.2.2.2.2.2.2.2.2.2.2.2.2.1
theorem k0_off241_inb : ∀ (arg16 : BitVec 32) (arg17 : BitVec 32) (k0_hw1 : k0_chk1 arg16 arg17), ∀ a, (k0_off241 arg16 arg17) a + S1x1x1x256.size a ≤ S32x2x1x256.size a := fun arg16 arg17 k0_hw1 => k0_hw1.2.2.2.2.2.2.2.1.2.2.2.2.2.2.2.2.2.2.2.2.2.2.2.2.2.2.2.2.2.2.2.2.2.2.2.2.2.1
theorem k0_mult32_dvd : ∀ (arg16 : BitVec 32) (arg17 : BitVec 32) (k0_hw1 : k0_chk1 arg16 arg17), 256 ∣ (k0_mult32 arg16 arg17).toNat := fun arg16 arg17 k0_hw1 => k0_hw1.2.2.2.2.2.2.2.1.2.2.2.2.2.2.2.2.2.2.2.2.2.2.2.2.2.2.2.2.2.2.2.2.2.2.2.2.2.2.1
theorem k0_off242_inb : ∀ (arg16 : BitVec 32) (arg17 : BitVec 32) (k0_hw1 : k0_chk1 arg16 arg17), ∀ a, (k0_off242 arg16 arg17) a + S1x256x128.size a ≤ S1x8192x128.size a := fun arg16 arg17 k0_hw1 => k0_hw1.2.2.2.2.2.2.2.1.2.2.2.2.2.2.2.2.2.2.2.2.2.2.2.2.2.2.2.2.2.2.2.2.2.2.2.2.2.2.2
theorem k0_off243_inb : ∀ (arg16 : BitVec 32) (arg17 : BitVec 32) (k0_hw1 : k0_chk1 arg16 arg17), ∀ a, (k0_off243 arg16 arg17) a + S1x1x128x256.size a ≤ S32x2x128x256.size a := fun arg16 arg17 k0_hw1 => k0_hw1.2.2.2.2.2.2.2.2.1
theorem k0_off244_inb : ∀ (arg16 : BitVec 32) (arg17 : BitVec 32) (k0_hw1 : k0_chk1 arg16 arg17), ∀ a, (k0_off244 arg16 arg17) a + S1x1x128x256.size a ≤ S32x2x128x256.size a := fun arg16 arg17 k0_hw1 => k0_hw1.2.2.2.2.2.2.2.2.2.1
theorem k0_off245_inb : ∀ (arg16 : BitVec 32) (arg17 : BitVec 32) (k0_hw1 : k0_chk1 arg16 arg17), ∀ a, (k0_off245 arg16 arg17) a + S1x144x256.size a ≤ S32x144x256.size a := fun arg16 arg17 k0_hw1 => k0_hw1.2.2.2.2.2.2.2.2.2.2.1
theorem k0_off246_inb : ∀ (arg16 : BitVec 32) (arg17 : BitVec 32) (k0_hw1 : k0_chk1 arg16 arg17), ∀ a, (k0_off246 arg16 arg17) a + S1x1x144x256.size a ≤ S32x2x144x256.size a := fun arg16 arg17 k0_hw1 => k0_hw1.2.2.2.2.2.2.2.2.2.2.2.1
theorem k0_off247_inb : ∀ (arg16 : BitVec 32) (arg17 : BitVec 32) (k0_hw1 : k0_chk1 arg16 arg17), ∀ a, (k0_off247 arg16 arg17) a + S1x1x144x256.size a ≤ S32x2x144x256.size a := fun arg16 arg17 k0_hw1 => k0_hw1.2.2.2.2.2.2.2.2.2.2.2.2.1
theorem k0_off248_inb : ∀ (arg16 : BitVec 32) (arg17 : BitVec 32) (k0_hw1 : k0_chk1 arg16 arg17), ∀ a, (k0_off248 arg16 arg17) a + S1x1x1x256.size a ≤ S32x2x1x256.size a := fun arg16 arg17 k0_hw1 => k0_hw1.2.2.2.2.2.2.2.2.2.2.2.2.2.1
theorem k0_off249_inb : ∀ (arg16 : BitVec 32) (arg17 : BitVec 32) (k0_hw1 : k0_chk1 arg16 arg17), ∀ a, (k0_off249 arg16 arg17) a + S1x1x1x256.size a ≤ S32x2x1x256.size a := fun arg16 arg17 k0_hw1 => k0_hw1.2.2.2.2.2.2.2.2.2.2.2.2.2.2.1
theorem k0_mult33_dvd : ∀ (arg16 : BitVec 32) (arg17 : BitVec 32) (k0_hw1 : k0_chk1 arg16 arg17), 256 ∣ (k0_mult33 arg16 arg17).toNat := fun arg16 arg17 k0_hw1 => k0_hw1.2.2.2.2.2.2.2.2.2.2.2.2.2.2.2.1
theorem k0_off250_inb : ∀ (arg16 : BitVec 32) (arg17 : BitVec 32) (k0_hw1 : k0_chk1 arg16 arg17), ∀ a, (k0_off250 arg16 arg17) a + S1x256x128.size a ≤ S1x8192x128.size a := fun arg16 arg17 k0_hw1 => k0_hw1.2.2.2.2.2.2.2.2.2.2.2.2.2.2.2.2.1
theorem k0_off251_inb : ∀ (arg16 : BitVec 32) (arg17 : BitVec 32) (k0_hw1 : k0_chk1 arg16 arg17), ∀ a, (k0_off251 arg16 arg17) a + S1x1x128x256.size a ≤ S32x2x128x256.size a := fun arg16 arg17 k0_hw1 => k0_hw1.2.2.2.2.2.2.2.2.2.2.2.2.2.2.2.2.2.1
theorem k0_off252_inb : ∀ (arg16 : BitVec 32) (arg17 : BitVec 32) (k0_hw1 : k0_chk1 arg16 arg17), ∀ a, (k0_off252 arg16 arg17) a + S1x1x128x256.size a ≤ S32x2x128x256.size a := fun arg16 arg17 k0_hw1 => k0_hw1.2.2.2.2.2.2.2.2.2.2.2.2.2.2.2.2.2.2.1
theorem k0_off253_inb : ∀ (arg16 : BitVec 32) (arg17 : BitVec 32) (k0_hw1 : k0_chk1 arg16 arg17), ∀ a, (k0_off253 arg16 arg17) a + S1x144x256.size a ≤ S32x144x256.size a := fun arg16 arg17 k0_hw1 => k0_hw1.2.2.2.2.2.2.2.2.2.2.2.2.2.2.2.2.2.2.2.1
theorem k0_off254_inb : ∀ (arg16 : BitVec 32) (arg17 : BitVec 32) (k0_hw1 : k0_chk1 arg16 arg17), ∀ a, (k0_off254 arg16 arg17) a + S1x1x144x256.size a ≤ S32x2x144x256.size a := fun arg16 arg17 k0_hw1 => k0_hw1.2.2.2.2.2.2.2.2.2.2.2.2.2.2.2.2.2.2.2.2.1
theorem k0_off255_inb : ∀ (arg16 : BitVec 32) (arg17 : BitVec 32) (k0_hw1 : k0_chk1 arg16 arg17), ∀ a, (k0_off255 arg16 arg17) a + S1x1x144x256.size a ≤ S32x2x144x256.size a := fun arg16 arg17 k0_hw1 => k0_hw1.2.2.2.2.2.2.2.2.2.2.2.2.2.2.2.2.2.2.2.2.2.1
theorem k0_off256_inb : ∀ (arg16 : BitVec 32) (arg17 : BitVec 32) (k0_hw1 : k0_chk1 arg16 arg17), ∀ a, (k0_off256 arg16 arg17) a + S1x1x1x256.size a ≤ S32x2x1x256.size a := fun arg16 arg17 k0_hw1 => k0_hw1.2.2.2.2.2.2.2.2.2.2.2.2.2.2.2.2.2.2.2.2.2.2.1
theorem k0_off257_inb : ∀ (arg16 : BitVec 32) (arg17 : BitVec 32) (k0_hw1 : k0_chk1 arg16 arg17), ∀ a, (k0_off257 arg16 arg17) a + S1x1x1x256.size a ≤ S32x2x1x256.size a := fun arg16 arg17 k0_hw1 => k0_hw1.2.2.2.2.2.2.2.2.2.2.2.2.2.2.2.2.2.2.2.2.2.2.2.1
theorem k0_mult34_dvd : ∀ (arg16 : BitVec 32) (arg17 : BitVec 32) (k0_hw1 : k0_chk1 arg16 arg17), 256 ∣ (k0_mult34 arg16 arg17).toNat := fun arg16 arg17 k0_hw1 => k0_hw1.2.2.2.2.2.2.2.2.2.2.2.2.2.2.2.2.2.2.2.2.2.2.2.2.1
theorem k0_off258_inb : ∀ (arg16 : BitVec 32) (arg17 : BitVec 32) (k0_hw1 : k0_chk1 arg16 arg17), ∀ a, (k0_off258 arg16 arg17) a + S1x256x128.size a ≤ S1x8192x128.size a := fun arg16 arg17 k0_hw1 => k0_hw1.2.2.2.2.2.2.2.2.2.2.2.2.2.2.2.2.2.2.2.2.2.2.2.2.2.1
theorem k0_off259_inb : ∀ (arg16 : BitVec 32) (arg17 : BitVec 32) (k0_hw1 : k0_chk1 arg16 arg17), ∀ a, (k0_off259 arg16 arg17) a + S1x1x128x256.size a ≤ S32x2x128x256.size a := fun arg16 arg17 k0_hw1 => k0_hw1.2.2.2.2.2.2.2.2.2.2.2.2.2.2.2.2.2.2.2.2.2.2.2.2.2.2.1
theorem k0_off260_inb : ∀ (arg16 : BitVec 32) (arg17 : BitVec 32) (k0_hw1 : k0_chk1 arg16 arg17), ∀ a, (k0_off260 arg16 arg17) a + S1x1x128x256.size a ≤ S32x2x128x256.size a := fun arg16 arg17 k0_hw1 => k0_hw1.2.2.2.2.2.2.2.2.2.2.2.2.2.2.2.2.2.2.2.2.2.2.2.2.2.2.2.1
theorem k0_off261_inb : ∀ (arg16 : BitVec 32) (arg17 : BitVec 32) (k0_hw1 : k0_chk1 arg16 arg17), ∀ a, (k0_off261 arg16 arg17) a + S1x144x256.size a ≤ S32x144x256.size a := fun arg16 arg17 k0_hw1 => k0_hw1.2.2.2.2.2.2.2.2.2.2.2.2.2.2.2.2.2.2.2.2.2.2.2.2.2.2.2.2.1
theorem k0_off262_inb : ∀ (arg16 : BitVec 32) (arg17 : BitVec 32) (k0_hw1 : k0_chk1 arg16 arg17), ∀ a, (k0_off262 arg16 arg17) a + S1x1x144x256.size a ≤ S32x2x144x256.size a := fun arg16 arg17 k0_hw1 => k0_hw1.2.2.2.2.2.2.2.2.2.2.2.2.2.2.2.2.2.2.2.2.2.2.2.2.2.2.2.2.2.1
theorem k0_off263_inb : ∀ (arg16 : BitVec 32) (arg17 : BitVec 32) (k0_hw1 : k0_chk1 arg16 arg17), ∀ a, (k0_off263 arg16 arg17) a + S1x1x144x256.size a ≤ S32x2x144x256.size a := fun arg16 arg17 k0_hw1 => k0_hw1.2.2.2.2.2.2.2.2.2.2.2.2.2.2.2.2.2.2.2.2.2.2.2.2.2.2.2.2.2.2.1
theorem k0_off264_inb : ∀ (arg16 : BitVec 32) (arg17 : BitVec 32) (k0_hw1 : k0_chk1 arg16 arg17), ∀ a, (k0_off264 arg16 arg17) a + S1x1x1x256.size a ≤ S32x2x1x256.size a := fun arg16 arg17 k0_hw1 => k0_hw1.2.2.2.2.2.2.2.2.2.2.2.2.2.2.2.2.2.2.2.2.2.2.2.2.2.2.2.2.2.2.2.1
theorem k0_off265_inb : ∀ (arg16 : BitVec 32) (arg17 : BitVec 32) (k0_hw1 : k0_chk1 arg16 arg17), ∀ a, (k0_off265 arg16 arg17) a + S1x1x1x256.size a ≤ S32x2x1x256.size a := fun arg16 arg17 k0_hw1 => k0_hw1.2.2.2.2.2.2.2.2.2.2.2.2.2.2.2.2.2.2.2.2.2.2.2.2.2.2.2.2.2.2.2.2

def k0_mult35 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c256_i32_40 : BitVec 32 := 256#32
  let v39 : BitVec 32 := Scalar.muli v38 c256_i32_40
  v39

def k0_off266 (v30_1 : BitVec 32) (v30_0 : BitVec 32) : Fin 3 → Nat :=
  let c0_41 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c256_i32_40 : BitVec 32 := 256#32
  let v39 : BitVec 32 := Scalar.muli v38 c256_i32_40
  let v40 : BitVec 32 := v39
  let v41 : Index := Scalar.indexCast v40
  let c0_42 : Index := 0#32
  ![0, v41.toNat, 0]
def k0_off267 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v44 : Index := Scalar.indexCast v37
  let c0_43 : Index := 0#32
  let c0_44 : Index := 0#32
  let c0_45 : Index := 0#32
  ![v44.toNat, 0, 0, 0]
def k0_off268 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v51 : Index := Scalar.indexCast v37
  let c1_51 : Index := 1#32
  let c0_52 : Index := 0#32
  let c0_53 : Index := 0#32
  ![v51.toNat, 1, 0, 0]
def k0_off269 (v30_3 : BitVec 32) : Fin 3 → Nat :=
  let v58 : Index := Scalar.indexCast v30_3
  let c0_59 : Index := 0#32
  let c0_60 : Index := 0#32
  ![v58.toNat, 0, 0]

def k0_off270 (v30_2 : BitVec 32) : Fin 4 → Nat :=
  let v66 : Index := Scalar.indexCast v30_2
  let c0_70 : Index := 0#32
  let c0_71 : Index := 0#32
  let c0_72 : Index := 0#32
  ![v66.toNat, 0, 0, 0]

def k0_off271 (v30_3 : BitVec 32) : Fin 3 → Nat :=
  let v76 : Index := Scalar.indexCast v30_3
  let c0_76 : Index := 0#32
  let c0_77 : Index := 0#32
  ![v76.toNat, 0, 0]

def k0_chk6 (v30_3 : BitVec 32) : Prop :=
  (∀ a, (k0_off269 v30_3) a + S1x144x256.size a ≤ S32x144x256.size a) ∧
  (∀ a, (k0_off271 v30_3) a + S1x144x256.size a ≤ S32x144x256.size a)
theorem k0_off269_inb : ∀ (v30_3 : BitVec 32) (k0_hw6 : k0_chk6 v30_3), ∀ a, (k0_off269 v30_3) a + S1x144x256.size a ≤ S32x144x256.size a := fun v30_3 k0_hw6 => k0_hw6.1
theorem k0_off271_inb : ∀ (v30_3 : BitVec 32) (k0_hw6 : k0_chk6 v30_3), ∀ a, (k0_off271 v30_3) a + S1x144x256.size a ≤ S32x144x256.size a := fun v30_3 k0_hw6 => k0_hw6.2

def k0_off272 (v30_2 : BitVec 32) : Fin 4 → Nat :=
  let v84 : Index := Scalar.indexCast v30_2
  let c1_87 : Index := 1#32
  let c0_88 : Index := 0#32
  let c0_89 : Index := 0#32
  ![v84.toNat, 1, 0, 0]

def k0_chk7 (v30_2 : BitVec 32) : Prop :=
  (∀ a, (k0_off270 v30_2) a + S1x1x144x256.size a ≤ S32x2x144x256.size a) ∧
  (∀ a, (k0_off272 v30_2) a + S1x1x144x256.size a ≤ S32x2x144x256.size a)
theorem k0_off270_inb : ∀ (v30_2 : BitVec 32) (k0_hw7 : k0_chk7 v30_2), ∀ a, (k0_off270 v30_2) a + S1x1x144x256.size a ≤ S32x2x144x256.size a := fun v30_2 k0_hw7 => k0_hw7.1
theorem k0_off272_inb : ∀ (v30_2 : BitVec 32) (k0_hw7 : k0_chk7 v30_2), ∀ a, (k0_off272 v30_2) a + S1x1x144x256.size a ≤ S32x2x144x256.size a := fun v30_2 k0_hw7 => k0_hw7.2

def k0_off273 (v30_0 : BitVec 32) : Fin 4 → Nat :=
  let v96 : Index := Scalar.indexCast v30_0
  let c0_97 : Index := 0#32
  let c0_98 : Index := 0#32
  let c0_99 : Index := 0#32
  ![v96.toNat, 0, 0, 0]
def k0_off274 (v30_0 : BitVec 32) : Fin 4 → Nat :=
  let v120 : Index := Scalar.indexCast v30_0
  let c1_116 : Index := 1#32
  let c0_117 : Index := 0#32
  let c0_118 : Index := 0#32
  ![v120.toNat, 1, 0, 0]
def k0_mult36 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c256_i32_137 : BitVec 32 := 256#32
  let v150 : BitVec 32 := Scalar.muli v149 c256_i32_137
  v150
def k0_off275 (v30_1 : BitVec 32) (v30_0 : BitVec 32) : Fin 3 → Nat :=
  let c0_138 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c256_i32_137 : BitVec 32 := 256#32
  let v150 : BitVec 32 := Scalar.muli v149 c256_i32_137
  let v151 : BitVec 32 := v150
  let v152 : Index := Scalar.indexCast v151
  let c0_139 : Index := 0#32
  ![0, v152.toNat, 0]
def k0_off276 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v155 : Index := Scalar.indexCast v148
  let c0_140 : Index := 0#32
  let c0_141 : Index := 0#32
  let c0_142 : Index := 0#32
  ![v155.toNat, 0, 0, 0]
def k0_off277 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v162 : Index := Scalar.indexCast v148
  let c1_148 : Index := 1#32
  let c0_149 : Index := 0#32
  let c0_150 : Index := 0#32
  ![v162.toNat, 1, 0, 0]
def k0_off278 (v30_1 : BitVec 32) : Fin 3 → Nat :=
  let v169 : Index := Scalar.indexCast v30_1
  let c0_156 : Index := 0#32
  let c0_157 : Index := 0#32
  ![v169.toNat, 0, 0]

def k0_chk8 (v30_1 : BitVec 32) : Prop :=
  (∀ a, (k0_off278 v30_1) a + S1x144x256.size a ≤ S32x144x256.size a)
theorem k0_off278_inb : ∀ (v30_1 : BitVec 32) (k0_hw8 : k0_chk8 v30_1), ∀ a, (k0_off278 v30_1) a + S1x144x256.size a ≤ S32x144x256.size a := fun v30_1 k0_hw8 => k0_hw8

def k0_off279 (v30_0 : BitVec 32) : Fin 4 → Nat :=
  let v177 : Index := Scalar.indexCast v30_0
  let c0_167 : Index := 0#32
  let c0_168 : Index := 0#32
  let c0_169 : Index := 0#32
  ![v177.toNat, 0, 0, 0]
def k0_off280 (v30_0 : BitVec 32) : Fin 4 → Nat :=
  let v195 : Index := Scalar.indexCast v30_0
  let c1_184 : Index := 1#32
  let c0_185 : Index := 0#32
  let c0_186 : Index := 0#32
  ![v195.toNat, 1, 0, 0]
def k0_off281 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v207 : Index := Scalar.indexCast v37
  let c0_194 : Index := 0#32
  let c0_195 : Index := 0#32
  let c0_196 : Index := 0#32
  ![v207.toNat, 0, 0, 0]
def k0_off282 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v231 : Index := Scalar.indexCast v37
  let c1_213 : Index := 1#32
  let c0_214 : Index := 0#32
  let c0_215 : Index := 0#32
  ![v231.toNat, 1, 0, 0]
def k0_mult37 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c256_i32_234 : BitVec 32 := 256#32
  let v261 : BitVec 32 := Scalar.muli v260 c256_i32_234
  v261
def k0_off283 (v30_1 : BitVec 32) (v30_0 : BitVec 32) : Fin 3 → Nat :=
  let c0_235 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c256_i32_234 : BitVec 32 := 256#32
  let v261 : BitVec 32 := Scalar.muli v260 c256_i32_234
  let v262 : BitVec 32 := v261
  let v263 : Index := Scalar.indexCast v262
  let c0_236 : Index := 0#32
  ![0, v263.toNat, 0]
def k0_off284 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v266 : Index := Scalar.indexCast v259
  let c0_237 : Index := 0#32
  let c0_238 : Index := 0#32
  let c0_239 : Index := 0#32
  ![v266.toNat, 0, 0, 0]
def k0_off285 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v273 : Index := Scalar.indexCast v259
  let c1_245 : Index := 1#32
  let c0_246 : Index := 0#32
  let c0_247 : Index := 0#32
  ![v273.toNat, 1, 0, 0]
def k0_off286 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let v280 : Index := Scalar.indexCast v38
  let c0_253 : Index := 0#32
  let c0_254 : Index := 0#32
  ![v280.toNat, 0, 0]
def k0_off287 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v288 : Index := Scalar.indexCast v37
  let c0_264 : Index := 0#32
  let c0_265 : Index := 0#32
  let c0_266 : Index := 0#32
  ![v288.toNat, 0, 0, 0]
def k0_off288 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v306 : Index := Scalar.indexCast v37
  let c1_281 : Index := 1#32
  let c0_282 : Index := 0#32
  let c0_283 : Index := 0#32
  ![v306.toNat, 1, 0, 0]
def k0_off289 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v318 : Index := Scalar.indexCast v148
  let c0_291 : Index := 0#32
  let c0_292 : Index := 0#32
  let c0_293 : Index := 0#32
  ![v318.toNat, 0, 0, 0]
def k0_off290 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v342 : Index := Scalar.indexCast v148
  let c1_310 : Index := 1#32
  let c0_311 : Index := 0#32
  let c0_312 : Index := 0#32
  ![v342.toNat, 1, 0, 0]
def k0_mult38 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c256_i32_331 : BitVec 32 := 256#32
  let v372 : BitVec 32 := Scalar.muli v371 c256_i32_331
  v372
def k0_off291 (v30_1 : BitVec 32) (v30_0 : BitVec 32) : Fin 3 → Nat :=
  let c0_332 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c256_i32_331 : BitVec 32 := 256#32
  let v372 : BitVec 32 := Scalar.muli v371 c256_i32_331
  let v373 : BitVec 32 := v372
  let v374 : Index := Scalar.indexCast v373
  let c0_333 : Index := 0#32
  ![0, v374.toNat, 0]
def k0_off292 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v377 : Index := Scalar.indexCast v370
  let c0_334 : Index := 0#32
  let c0_335 : Index := 0#32
  let c0_336 : Index := 0#32
  ![v377.toNat, 0, 0, 0]
def k0_off293 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v384 : Index := Scalar.indexCast v370
  let c1_342 : Index := 1#32
  let c0_343 : Index := 0#32
  let c0_344 : Index := 0#32
  ![v384.toNat, 1, 0, 0]
def k0_off294 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let v391 : Index := Scalar.indexCast v149
  let c0_350 : Index := 0#32
  let c0_351 : Index := 0#32
  ![v391.toNat, 0, 0]
def k0_off295 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v399 : Index := Scalar.indexCast v148
  let c0_361 : Index := 0#32
  let c0_362 : Index := 0#32
  let c0_363 : Index := 0#32
  ![v399.toNat, 0, 0, 0]
def k0_off296 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v417 : Index := Scalar.indexCast v148
  let c1_378 : Index := 1#32
  let c0_379 : Index := 0#32
  let c0_380 : Index := 0#32
  ![v417.toNat, 1, 0, 0]
def k0_off297 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v429 : Index := Scalar.indexCast v259
  let c0_388 : Index := 0#32
  let c0_389 : Index := 0#32
  let c0_390 : Index := 0#32
  ![v429.toNat, 0, 0, 0]
def k0_off298 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v453 : Index := Scalar.indexCast v259
  let c1_407 : Index := 1#32
  let c0_408 : Index := 0#32
  let c0_409 : Index := 0#32
  ![v453.toNat, 1, 0, 0]
def k0_mult39 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c256_i32_428 : BitVec 32 := 256#32
  let v483 : BitVec 32 := Scalar.muli v482 c256_i32_428
  v483
def k0_off299 (v30_1 : BitVec 32) (v30_0 : BitVec 32) : Fin 3 → Nat :=
  let c0_429 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c256_i32_428 : BitVec 32 := 256#32
  let v483 : BitVec 32 := Scalar.muli v482 c256_i32_428
  let v484 : BitVec 32 := v483
  let v485 : Index := Scalar.indexCast v484
  let c0_430 : Index := 0#32
  ![0, v485.toNat, 0]
def k0_off300 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v488 : Index := Scalar.indexCast v481
  let c0_431 : Index := 0#32
  let c0_432 : Index := 0#32
  let c0_433 : Index := 0#32
  ![v488.toNat, 0, 0, 0]
def k0_off301 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v495 : Index := Scalar.indexCast v481
  let c1_439 : Index := 1#32
  let c0_440 : Index := 0#32
  let c0_441 : Index := 0#32
  ![v495.toNat, 1, 0, 0]
def k0_off302 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let v502 : Index := Scalar.indexCast v260
  let c0_447 : Index := 0#32
  let c0_448 : Index := 0#32
  ![v502.toNat, 0, 0]
def k0_off303 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v510 : Index := Scalar.indexCast v259
  let c0_458 : Index := 0#32
  let c0_459 : Index := 0#32
  let c0_460 : Index := 0#32
  ![v510.toNat, 0, 0, 0]
def k0_off304 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v528 : Index := Scalar.indexCast v259
  let c1_475 : Index := 1#32
  let c0_476 : Index := 0#32
  let c0_477 : Index := 0#32
  ![v528.toNat, 1, 0, 0]
def k0_off305 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v540 : Index := Scalar.indexCast v370
  let c0_485 : Index := 0#32
  let c0_486 : Index := 0#32
  let c0_487 : Index := 0#32
  ![v540.toNat, 0, 0, 0]
def k0_off306 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v564 : Index := Scalar.indexCast v370
  let c1_504 : Index := 1#32
  let c0_505 : Index := 0#32
  let c0_506 : Index := 0#32
  ![v564.toNat, 1, 0, 0]
def k0_mult40 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c256_i32_525 : BitVec 32 := 256#32
  let v594 : BitVec 32 := Scalar.muli v593 c256_i32_525
  v594
def k0_off307 (v30_1 : BitVec 32) (v30_0 : BitVec 32) : Fin 3 → Nat :=
  let c0_526 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c256_i32_525 : BitVec 32 := 256#32
  let v594 : BitVec 32 := Scalar.muli v593 c256_i32_525
  let v595 : BitVec 32 := v594
  let v596 : Index := Scalar.indexCast v595
  let c0_527 : Index := 0#32
  ![0, v596.toNat, 0]
def k0_off308 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v599 : Index := Scalar.indexCast v592
  let c0_528 : Index := 0#32
  let c0_529 : Index := 0#32
  let c0_530 : Index := 0#32
  ![v599.toNat, 0, 0, 0]
def k0_off309 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v606 : Index := Scalar.indexCast v592
  let c1_536 : Index := 1#32
  let c0_537 : Index := 0#32
  let c0_538 : Index := 0#32
  ![v606.toNat, 1, 0, 0]
def k0_off310 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let v613 : Index := Scalar.indexCast v371
  let c0_544 : Index := 0#32
  let c0_545 : Index := 0#32
  ![v613.toNat, 0, 0]
def k0_off311 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v621 : Index := Scalar.indexCast v370
  let c0_555 : Index := 0#32
  let c0_556 : Index := 0#32
  let c0_557 : Index := 0#32
  ![v621.toNat, 0, 0, 0]
def k0_off312 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v639 : Index := Scalar.indexCast v370
  let c1_572 : Index := 1#32
  let c0_573 : Index := 0#32
  let c0_574 : Index := 0#32
  ![v639.toNat, 1, 0, 0]
def k0_off313 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v651 : Index := Scalar.indexCast v481
  let c0_582 : Index := 0#32
  let c0_583 : Index := 0#32
  let c0_584 : Index := 0#32
  ![v651.toNat, 0, 0, 0]
def k0_off314 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v675 : Index := Scalar.indexCast v481
  let c1_601 : Index := 1#32
  let c0_602 : Index := 0#32
  let c0_603 : Index := 0#32
  ![v675.toNat, 1, 0, 0]
def k0_mult41 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c256_i32_622 : BitVec 32 := 256#32
  let v705 : BitVec 32 := Scalar.muli v704 c256_i32_622
  v705
def k0_off315 (v30_1 : BitVec 32) (v30_0 : BitVec 32) : Fin 3 → Nat :=
  let c0_623 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c256_i32_622 : BitVec 32 := 256#32
  let v705 : BitVec 32 := Scalar.muli v704 c256_i32_622
  let v706 : BitVec 32 := v705
  let v707 : Index := Scalar.indexCast v706
  let c0_624 : Index := 0#32
  ![0, v707.toNat, 0]
def k0_off316 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v710 : Index := Scalar.indexCast v703
  let c0_625 : Index := 0#32
  let c0_626 : Index := 0#32
  let c0_627 : Index := 0#32
  ![v710.toNat, 0, 0, 0]
def k0_off317 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v717 : Index := Scalar.indexCast v703
  let c1_633 : Index := 1#32
  let c0_634 : Index := 0#32
  let c0_635 : Index := 0#32
  ![v717.toNat, 1, 0, 0]
def k0_off318 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let v724 : Index := Scalar.indexCast v482
  let c0_641 : Index := 0#32
  let c0_642 : Index := 0#32
  ![v724.toNat, 0, 0]
def k0_off319 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v732 : Index := Scalar.indexCast v481
  let c0_652 : Index := 0#32
  let c0_653 : Index := 0#32
  let c0_654 : Index := 0#32
  ![v732.toNat, 0, 0, 0]
def k0_off320 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v750 : Index := Scalar.indexCast v481
  let c1_669 : Index := 1#32
  let c0_670 : Index := 0#32
  let c0_671 : Index := 0#32
  ![v750.toNat, 1, 0, 0]
def k0_off321 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v762 : Index := Scalar.indexCast v592
  let c0_679 : Index := 0#32
  let c0_680 : Index := 0#32
  let c0_681 : Index := 0#32
  ![v762.toNat, 0, 0, 0]
def k0_off322 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v786 : Index := Scalar.indexCast v592
  let c1_698 : Index := 1#32
  let c0_699 : Index := 0#32
  let c0_700 : Index := 0#32
  ![v786.toNat, 1, 0, 0]
def k0_mult42 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c256_i32_719 : BitVec 32 := 256#32
  let v816 : BitVec 32 := Scalar.muli v815 c256_i32_719
  v816
def k0_off323 (v30_1 : BitVec 32) (v30_0 : BitVec 32) : Fin 3 → Nat :=
  let c0_720 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c256_i32_719 : BitVec 32 := 256#32
  let v816 : BitVec 32 := Scalar.muli v815 c256_i32_719
  let v817 : BitVec 32 := v816
  let v818 : Index := Scalar.indexCast v817
  let c0_721 : Index := 0#32
  ![0, v818.toNat, 0]
def k0_off324 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v821 : Index := Scalar.indexCast v814
  let c0_722 : Index := 0#32
  let c0_723 : Index := 0#32
  let c0_724 : Index := 0#32
  ![v821.toNat, 0, 0, 0]
def k0_off325 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v828 : Index := Scalar.indexCast v814
  let c1_730 : Index := 1#32
  let c0_731 : Index := 0#32
  let c0_732 : Index := 0#32
  ![v828.toNat, 1, 0, 0]
def k0_off326 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let v835 : Index := Scalar.indexCast v593
  let c0_738 : Index := 0#32
  let c0_739 : Index := 0#32
  ![v835.toNat, 0, 0]
def k0_off327 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v843 : Index := Scalar.indexCast v592
  let c0_749 : Index := 0#32
  let c0_750 : Index := 0#32
  let c0_751 : Index := 0#32
  ![v843.toNat, 0, 0, 0]
def k0_off328 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v861 : Index := Scalar.indexCast v592
  let c1_766 : Index := 1#32
  let c0_767 : Index := 0#32
  let c0_768 : Index := 0#32
  ![v861.toNat, 1, 0, 0]
def k0_off329 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v873 : Index := Scalar.indexCast v703
  let c0_776 : Index := 0#32
  let c0_777 : Index := 0#32
  let c0_778 : Index := 0#32
  ![v873.toNat, 0, 0, 0]
def k0_off330 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v897 : Index := Scalar.indexCast v703
  let c1_795 : Index := 1#32
  let c0_796 : Index := 0#32
  let c0_797 : Index := 0#32
  ![v897.toNat, 1, 0, 0]
def k0_mult43 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c256_i32_816 : BitVec 32 := 256#32
  let v927 : BitVec 32 := Scalar.muli v926 c256_i32_816
  v927
def k0_off331 (v30_1 : BitVec 32) (v30_0 : BitVec 32) : Fin 3 → Nat :=
  let c0_817 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c256_i32_816 : BitVec 32 := 256#32
  let v927 : BitVec 32 := Scalar.muli v926 c256_i32_816
  let v928 : BitVec 32 := v927
  let v929 : Index := Scalar.indexCast v928
  let c0_818 : Index := 0#32
  ![0, v929.toNat, 0]
def k0_off332 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v932 : Index := Scalar.indexCast v925
  let c0_819 : Index := 0#32
  let c0_820 : Index := 0#32
  let c0_821 : Index := 0#32
  ![v932.toNat, 0, 0, 0]
def k0_off333 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v939 : Index := Scalar.indexCast v925
  let c1_827 : Index := 1#32
  let c0_828 : Index := 0#32
  let c0_829 : Index := 0#32
  ![v939.toNat, 1, 0, 0]
def k0_off334 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let v946 : Index := Scalar.indexCast v704
  let c0_835 : Index := 0#32
  let c0_836 : Index := 0#32
  ![v946.toNat, 0, 0]
def k0_off335 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v954 : Index := Scalar.indexCast v703
  let c0_846 : Index := 0#32
  let c0_847 : Index := 0#32
  let c0_848 : Index := 0#32
  ![v954.toNat, 0, 0, 0]
def k0_off336 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v972 : Index := Scalar.indexCast v703
  let c1_863 : Index := 1#32
  let c0_864 : Index := 0#32
  let c0_865 : Index := 0#32
  ![v972.toNat, 1, 0, 0]
def k0_off337 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v984 : Index := Scalar.indexCast v814
  let c0_873 : Index := 0#32
  let c0_874 : Index := 0#32
  let c0_875 : Index := 0#32
  ![v984.toNat, 0, 0, 0]
def k0_off338 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v1008 : Index := Scalar.indexCast v814
  let c1_892 : Index := 1#32
  let c0_893 : Index := 0#32
  let c0_894 : Index := 0#32
  ![v1008.toNat, 1, 0, 0]
def k0_mult44 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c256_i32_913 : BitVec 32 := 256#32
  let v1038 : BitVec 32 := Scalar.muli v1037 c256_i32_913
  v1038
def k0_off339 (v30_1 : BitVec 32) (v30_0 : BitVec 32) : Fin 3 → Nat :=
  let c0_914 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c256_i32_913 : BitVec 32 := 256#32
  let v1038 : BitVec 32 := Scalar.muli v1037 c256_i32_913
  let v1039 : BitVec 32 := v1038
  let v1040 : Index := Scalar.indexCast v1039
  let c0_915 : Index := 0#32
  ![0, v1040.toNat, 0]
def k0_off340 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1043 : Index := Scalar.indexCast v1036
  let c0_916 : Index := 0#32
  let c0_917 : Index := 0#32
  let c0_918 : Index := 0#32
  ![v1043.toNat, 0, 0, 0]
def k0_off341 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1050 : Index := Scalar.indexCast v1036
  let c1_924 : Index := 1#32
  let c0_925 : Index := 0#32
  let c0_926 : Index := 0#32
  ![v1050.toNat, 1, 0, 0]
def k0_off342 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let v1057 : Index := Scalar.indexCast v815
  let c0_932 : Index := 0#32
  let c0_933 : Index := 0#32
  ![v1057.toNat, 0, 0]
def k0_off343 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v1065 : Index := Scalar.indexCast v814
  let c0_943 : Index := 0#32
  let c0_944 : Index := 0#32
  let c0_945 : Index := 0#32
  ![v1065.toNat, 0, 0, 0]
def k0_off344 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v1083 : Index := Scalar.indexCast v814
  let c1_960 : Index := 1#32
  let c0_961 : Index := 0#32
  let c0_962 : Index := 0#32
  ![v1083.toNat, 1, 0, 0]
def k0_off345 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1095 : Index := Scalar.indexCast v925
  let c0_970 : Index := 0#32
  let c0_971 : Index := 0#32
  let c0_972 : Index := 0#32
  ![v1095.toNat, 0, 0, 0]
def k0_off346 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1119 : Index := Scalar.indexCast v925
  let c1_989 : Index := 1#32
  let c0_990 : Index := 0#32
  let c0_991 : Index := 0#32
  ![v1119.toNat, 1, 0, 0]
def k0_mult45 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c256_i32_1010 : BitVec 32 := 256#32
  let v1149 : BitVec 32 := Scalar.muli v1148 c256_i32_1010
  v1149
def k0_off347 (v30_1 : BitVec 32) (v30_0 : BitVec 32) : Fin 3 → Nat :=
  let c0_1011 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c256_i32_1010 : BitVec 32 := 256#32
  let v1149 : BitVec 32 := Scalar.muli v1148 c256_i32_1010
  let v1150 : BitVec 32 := v1149
  let v1151 : Index := Scalar.indexCast v1150
  let c0_1012 : Index := 0#32
  ![0, v1151.toNat, 0]
def k0_off348 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1154 : Index := Scalar.indexCast v1147
  let c0_1013 : Index := 0#32
  let c0_1014 : Index := 0#32
  let c0_1015 : Index := 0#32
  ![v1154.toNat, 0, 0, 0]
def k0_off349 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1161 : Index := Scalar.indexCast v1147
  let c1_1021 : Index := 1#32
  let c0_1022 : Index := 0#32
  let c0_1023 : Index := 0#32
  ![v1161.toNat, 1, 0, 0]
def k0_off350 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let v1168 : Index := Scalar.indexCast v926
  let c0_1029 : Index := 0#32
  let c0_1030 : Index := 0#32
  ![v1168.toNat, 0, 0]
def k0_off351 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1176 : Index := Scalar.indexCast v925
  let c0_1040 : Index := 0#32
  let c0_1041 : Index := 0#32
  let c0_1042 : Index := 0#32
  ![v1176.toNat, 0, 0, 0]
def k0_off352 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1194 : Index := Scalar.indexCast v925
  let c1_1057 : Index := 1#32
  let c0_1058 : Index := 0#32
  let c0_1059 : Index := 0#32
  ![v1194.toNat, 1, 0, 0]
def k0_off353 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1206 : Index := Scalar.indexCast v1036
  let c0_1067 : Index := 0#32
  let c0_1068 : Index := 0#32
  let c0_1069 : Index := 0#32
  ![v1206.toNat, 0, 0, 0]
def k0_off354 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1230 : Index := Scalar.indexCast v1036
  let c1_1086 : Index := 1#32
  let c0_1087 : Index := 0#32
  let c0_1088 : Index := 0#32
  ![v1230.toNat, 1, 0, 0]
def k0_mult46 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c256_i32_1107 : BitVec 32 := 256#32
  let v1260 : BitVec 32 := Scalar.muli v1259 c256_i32_1107
  v1260
def k0_off355 (v30_1 : BitVec 32) (v30_0 : BitVec 32) : Fin 3 → Nat :=
  let c0_1108 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c256_i32_1107 : BitVec 32 := 256#32
  let v1260 : BitVec 32 := Scalar.muli v1259 c256_i32_1107
  let v1261 : BitVec 32 := v1260
  let v1262 : Index := Scalar.indexCast v1261
  let c0_1109 : Index := 0#32
  ![0, v1262.toNat, 0]
def k0_off356 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1265 : Index := Scalar.indexCast v1258
  let c0_1110 : Index := 0#32
  let c0_1111 : Index := 0#32
  let c0_1112 : Index := 0#32
  ![v1265.toNat, 0, 0, 0]
def k0_off357 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1272 : Index := Scalar.indexCast v1258
  let c1_1118 : Index := 1#32
  let c0_1119 : Index := 0#32
  let c0_1120 : Index := 0#32
  ![v1272.toNat, 1, 0, 0]
def k0_off358 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let v1279 : Index := Scalar.indexCast v1037
  let c0_1126 : Index := 0#32
  let c0_1127 : Index := 0#32
  ![v1279.toNat, 0, 0]
def k0_off359 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1287 : Index := Scalar.indexCast v1036
  let c0_1137 : Index := 0#32
  let c0_1138 : Index := 0#32
  let c0_1139 : Index := 0#32
  ![v1287.toNat, 0, 0, 0]
def k0_off360 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1305 : Index := Scalar.indexCast v1036
  let c1_1154 : Index := 1#32
  let c0_1155 : Index := 0#32
  let c0_1156 : Index := 0#32
  ![v1305.toNat, 1, 0, 0]
def k0_off361 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1317 : Index := Scalar.indexCast v1147
  let c0_1164 : Index := 0#32
  let c0_1165 : Index := 0#32
  let c0_1166 : Index := 0#32
  ![v1317.toNat, 0, 0, 0]
def k0_off362 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1341 : Index := Scalar.indexCast v1147
  let c1_1183 : Index := 1#32
  let c0_1184 : Index := 0#32
  let c0_1185 : Index := 0#32
  ![v1341.toNat, 1, 0, 0]
def k0_mult47 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c256_i32_1204 : BitVec 32 := 256#32
  let v1371 : BitVec 32 := Scalar.muli v1370 c256_i32_1204
  v1371
def k0_off363 (v30_1 : BitVec 32) (v30_0 : BitVec 32) : Fin 3 → Nat :=
  let c0_1205 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c256_i32_1204 : BitVec 32 := 256#32
  let v1371 : BitVec 32 := Scalar.muli v1370 c256_i32_1204
  let v1372 : BitVec 32 := v1371
  let v1373 : Index := Scalar.indexCast v1372
  let c0_1206 : Index := 0#32
  ![0, v1373.toNat, 0]
def k0_off364 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1376 : Index := Scalar.indexCast v1369
  let c0_1207 : Index := 0#32
  let c0_1208 : Index := 0#32
  let c0_1209 : Index := 0#32
  ![v1376.toNat, 0, 0, 0]
def k0_off365 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1383 : Index := Scalar.indexCast v1369
  let c1_1215 : Index := 1#32
  let c0_1216 : Index := 0#32
  let c0_1217 : Index := 0#32
  ![v1383.toNat, 1, 0, 0]
def k0_off366 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let v1390 : Index := Scalar.indexCast v1148
  let c0_1223 : Index := 0#32
  let c0_1224 : Index := 0#32
  ![v1390.toNat, 0, 0]
def k0_off367 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1398 : Index := Scalar.indexCast v1147
  let c0_1234 : Index := 0#32
  let c0_1235 : Index := 0#32
  let c0_1236 : Index := 0#32
  ![v1398.toNat, 0, 0, 0]
def k0_off368 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1416 : Index := Scalar.indexCast v1147
  let c1_1251 : Index := 1#32
  let c0_1252 : Index := 0#32
  let c0_1253 : Index := 0#32
  ![v1416.toNat, 1, 0, 0]
def k0_off369 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1428 : Index := Scalar.indexCast v1258
  let c0_1261 : Index := 0#32
  let c0_1262 : Index := 0#32
  let c0_1263 : Index := 0#32
  ![v1428.toNat, 0, 0, 0]
def k0_off370 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1452 : Index := Scalar.indexCast v1258
  let c1_1280 : Index := 1#32
  let c0_1281 : Index := 0#32
  let c0_1282 : Index := 0#32
  ![v1452.toNat, 1, 0, 0]
def k0_mult48 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c256_i32_1301 : BitVec 32 := 256#32
  let v1482 : BitVec 32 := Scalar.muli v1481 c256_i32_1301
  v1482
def k0_off371 (v30_1 : BitVec 32) (v30_0 : BitVec 32) : Fin 3 → Nat :=
  let c0_1302 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c256_i32_1301 : BitVec 32 := 256#32
  let v1482 : BitVec 32 := Scalar.muli v1481 c256_i32_1301
  let v1483 : BitVec 32 := v1482
  let v1484 : Index := Scalar.indexCast v1483
  let c0_1303 : Index := 0#32
  ![0, v1484.toNat, 0]
def k0_off372 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1487 : Index := Scalar.indexCast v1480
  let c0_1304 : Index := 0#32
  let c0_1305 : Index := 0#32
  let c0_1306 : Index := 0#32
  ![v1487.toNat, 0, 0, 0]
def k0_off373 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1494 : Index := Scalar.indexCast v1480
  let c1_1312 : Index := 1#32
  let c0_1313 : Index := 0#32
  let c0_1314 : Index := 0#32
  ![v1494.toNat, 1, 0, 0]
def k0_off374 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let v1501 : Index := Scalar.indexCast v1259
  let c0_1320 : Index := 0#32
  let c0_1321 : Index := 0#32
  ![v1501.toNat, 0, 0]
def k0_off375 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1509 : Index := Scalar.indexCast v1258
  let c0_1331 : Index := 0#32
  let c0_1332 : Index := 0#32
  let c0_1333 : Index := 0#32
  ![v1509.toNat, 0, 0, 0]
def k0_off376 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1527 : Index := Scalar.indexCast v1258
  let c1_1348 : Index := 1#32
  let c0_1349 : Index := 0#32
  let c0_1350 : Index := 0#32
  ![v1527.toNat, 1, 0, 0]
def k0_off377 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1539 : Index := Scalar.indexCast v1369
  let c0_1358 : Index := 0#32
  let c0_1359 : Index := 0#32
  let c0_1360 : Index := 0#32
  ![v1539.toNat, 0, 0, 0]
def k0_off378 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1563 : Index := Scalar.indexCast v1369
  let c1_1377 : Index := 1#32
  let c0_1378 : Index := 0#32
  let c0_1379 : Index := 0#32
  ![v1563.toNat, 1, 0, 0]
def k0_mult49 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c256_i32_1398 : BitVec 32 := 256#32
  let v1593 : BitVec 32 := Scalar.muli v1592 c256_i32_1398
  v1593
def k0_off379 (v30_1 : BitVec 32) (v30_0 : BitVec 32) : Fin 3 → Nat :=
  let c0_1399 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c256_i32_1398 : BitVec 32 := 256#32
  let v1593 : BitVec 32 := Scalar.muli v1592 c256_i32_1398
  let v1594 : BitVec 32 := v1593
  let v1595 : Index := Scalar.indexCast v1594
  let c0_1400 : Index := 0#32
  ![0, v1595.toNat, 0]
def k0_off380 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1598 : Index := Scalar.indexCast v1591
  let c0_1401 : Index := 0#32
  let c0_1402 : Index := 0#32
  let c0_1403 : Index := 0#32
  ![v1598.toNat, 0, 0, 0]
def k0_off381 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1605 : Index := Scalar.indexCast v1591
  let c1_1409 : Index := 1#32
  let c0_1410 : Index := 0#32
  let c0_1411 : Index := 0#32
  ![v1605.toNat, 1, 0, 0]
def k0_off382 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let v1612 : Index := Scalar.indexCast v1370
  let c0_1417 : Index := 0#32
  let c0_1418 : Index := 0#32
  ![v1612.toNat, 0, 0]
def k0_off383 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1620 : Index := Scalar.indexCast v1369
  let c0_1428 : Index := 0#32
  let c0_1429 : Index := 0#32
  let c0_1430 : Index := 0#32
  ![v1620.toNat, 0, 0, 0]
def k0_off384 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1638 : Index := Scalar.indexCast v1369
  let c1_1445 : Index := 1#32
  let c0_1446 : Index := 0#32
  let c0_1447 : Index := 0#32
  ![v1638.toNat, 1, 0, 0]
def k0_off385 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1650 : Index := Scalar.indexCast v1480
  let c0_1455 : Index := 0#32
  let c0_1456 : Index := 0#32
  let c0_1457 : Index := 0#32
  ![v1650.toNat, 0, 0, 0]
def k0_off386 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1674 : Index := Scalar.indexCast v1480
  let c1_1474 : Index := 1#32
  let c0_1475 : Index := 0#32
  let c0_1476 : Index := 0#32
  ![v1674.toNat, 1, 0, 0]
def k0_mult50 (v30_1 : BitVec 32) (v30_0 : BitVec 32) : BitVec 32 :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c1_i32_1489 : BitVec 32 := 1#32
  let v1696 : BitVec 32 := Scalar.addi v1592 c1_i32_1489
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1697 : BitVec 1 := Scalar.cmpi .sge v1696 v1591
  let c0_i32_1492 : BitVec 32 := 0#32
  let c1_i32_1491 : BitVec 32 := 1#32
  let v1700 : BitVec 32 := Scalar.addi v1592 c1_i32_1491
  let v1701 : BitVec 32 := Scalar.select v1697 c0_i32_1492 v1700
  let c31_i32_1494 : BitVec 32 := 31#32
  let v1703 : BitVec 32 := Scalar.minsi v1701 c31_i32_1494
  let c256_i32_1495 : BitVec 32 := 256#32
  let v1704 : BitVec 32 := Scalar.muli v1703 c256_i32_1495
  v1704
def k0_off387 (v30_1 : BitVec 32) (v30_0 : BitVec 32) : Fin 3 → Nat :=
  let c0_1496 : Index := 0#32
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c1_i32_1489 : BitVec 32 := 1#32
  let v1696 : BitVec 32 := Scalar.addi v1592 c1_i32_1489
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1697 : BitVec 1 := Scalar.cmpi .sge v1696 v1591
  let c0_i32_1492 : BitVec 32 := 0#32
  let c1_i32_1491 : BitVec 32 := 1#32
  let v1700 : BitVec 32 := Scalar.addi v1592 c1_i32_1491
  let v1701 : BitVec 32 := Scalar.select v1697 c0_i32_1492 v1700
  let c31_i32_1494 : BitVec 32 := 31#32
  let v1703 : BitVec 32 := Scalar.minsi v1701 c31_i32_1494
  let c256_i32_1495 : BitVec 32 := 256#32
  let v1704 : BitVec 32 := Scalar.muli v1703 c256_i32_1495
  let v1705 : BitVec 32 := v1704
  let v1706 : Index := Scalar.indexCast v1705
  let c0_1497 : Index := 0#32
  ![0, v1706.toNat, 0]
def k0_off388 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c1_i32_1489 : BitVec 32 := 1#32
  let v1696 : BitVec 32 := Scalar.addi v1592 c1_i32_1489
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1697 : BitVec 1 := Scalar.cmpi .sge v1696 v1591
  let c1_i32_1490 : BitVec 32 := 1#32
  let v1698 : BitVec 32 := Scalar.addi v1591 c1_i32_1490
  let v1699 : BitVec 32 := Scalar.select v1697 v1698 v1591
  let c31_i32_1493 : BitVec 32 := 31#32
  let v1702 : BitVec 32 := Scalar.minsi v1699 c31_i32_1493
  let v1709 : Index := Scalar.indexCast v1702
  let c0_1498 : Index := 0#32
  let c0_1499 : Index := 0#32
  let c0_1500 : Index := 0#32
  ![v1709.toNat, 0, 0, 0]
def k0_off389 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let c1_i32_1489 : BitVec 32 := 1#32
  let v1696 : BitVec 32 := Scalar.addi v1592 c1_i32_1489
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1697 : BitVec 1 := Scalar.cmpi .sge v1696 v1591
  let c1_i32_1490 : BitVec 32 := 1#32
  let v1698 : BitVec 32 := Scalar.addi v1591 c1_i32_1490
  let v1699 : BitVec 32 := Scalar.select v1697 v1698 v1591
  let c31_i32_1493 : BitVec 32 := 31#32
  let v1702 : BitVec 32 := Scalar.minsi v1699 c31_i32_1493
  let v1716 : Index := Scalar.indexCast v1702
  let c1_1506 : Index := 1#32
  let c0_1507 : Index := 0#32
  let c0_1508 : Index := 0#32
  ![v1716.toNat, 1, 0, 0]
def k0_off390 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let v1723 : Index := Scalar.indexCast v1481
  let c0_1514 : Index := 0#32
  let c0_1515 : Index := 0#32
  ![v1723.toNat, 0, 0]
def k0_off391 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1731 : Index := Scalar.indexCast v1480
  let c0_1525 : Index := 0#32
  let c0_1526 : Index := 0#32
  let c0_1527 : Index := 0#32
  ![v1731.toNat, 0, 0, 0]
def k0_off392 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1749 : Index := Scalar.indexCast v1480
  let c1_1542 : Index := 1#32
  let c0_1543 : Index := 0#32
  let c0_1544 : Index := 0#32
  ![v1749.toNat, 1, 0, 0]
def k0_off393 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1761 : Index := Scalar.indexCast v1591
  let c0_1552 : Index := 0#32
  let c0_1553 : Index := 0#32
  let c0_1554 : Index := 0#32
  ![v1761.toNat, 0, 0, 0]
def k0_off394 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1785 : Index := Scalar.indexCast v1591
  let c1_1571 : Index := 1#32
  let c0_1572 : Index := 0#32
  let c0_1573 : Index := 0#32
  ![v1785.toNat, 1, 0, 0]
def k0_off395 (v30_1 : BitVec 32) (v30_0 : BitVec 32) : Fin 3 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c0_i32_1395 : BitVec 32 := 0#32
  let c1_i32_1394 : BitVec 32 := 1#32
  let v1589 : BitVec 32 := Scalar.addi v1481 c1_i32_1394
  let v1590 : BitVec 32 := Scalar.select v1586 c0_i32_1395 v1589
  let c31_i32_1397 : BitVec 32 := 31#32
  let v1592 : BitVec 32 := Scalar.minsi v1590 c31_i32_1397
  let v1807 : Index := Scalar.indexCast v1592
  let c0_1586 : Index := 0#32
  let c0_1587 : Index := 0#32
  ![v1807.toNat, 0, 0]
def k0_off396 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1815 : Index := Scalar.indexCast v1591
  let c0_1597 : Index := 0#32
  let c0_1598 : Index := 0#32
  let c0_1599 : Index := 0#32
  ![v1815.toNat, 0, 0, 0]
def k0_off397 (v30_1 : BitVec 32) (v30_0 : BitVec 32) : Fin 4 → Nat :=
  let c1_i32_35 : BitVec 32 := 1#32
  let v31 : BitVec 32 := Scalar.addi v30_1 c1_i32_35
  let v32 : BitVec 1 := Scalar.cmpi .sge v31 v30_0
  let c0_i32_38 : BitVec 32 := 0#32
  let c1_i32_37 : BitVec 32 := 1#32
  let v35 : BitVec 32 := Scalar.addi v30_1 c1_i32_37
  let v36 : BitVec 32 := Scalar.select v32 c0_i32_38 v35
  let c31_i32_39 : BitVec 32 := 31#32
  let v38 : BitVec 32 := Scalar.minsi v36 c31_i32_39
  let c1_i32_131 : BitVec 32 := 1#32
  let v142 : BitVec 32 := Scalar.addi v38 c1_i32_131
  let c1_i32_36 : BitVec 32 := 1#32
  let v33 : BitVec 32 := Scalar.addi v30_0 c1_i32_36
  let v34 : BitVec 32 := Scalar.select v32 v33 v30_0
  let c31_i32 : BitVec 32 := 31#32
  let v37 : BitVec 32 := Scalar.minsi v34 c31_i32
  let v143 : BitVec 1 := Scalar.cmpi .sge v142 v37
  let c0_i32_134 : BitVec 32 := 0#32
  let c1_i32_133 : BitVec 32 := 1#32
  let v146 : BitVec 32 := Scalar.addi v38 c1_i32_133
  let v147 : BitVec 32 := Scalar.select v143 c0_i32_134 v146
  let c31_i32_136 : BitVec 32 := 31#32
  let v149 : BitVec 32 := Scalar.minsi v147 c31_i32_136
  let c1_i32_228 : BitVec 32 := 1#32
  let v253 : BitVec 32 := Scalar.addi v149 c1_i32_228
  let c1_i32_132 : BitVec 32 := 1#32
  let v144 : BitVec 32 := Scalar.addi v37 c1_i32_132
  let v145 : BitVec 32 := Scalar.select v143 v144 v37
  let c31_i32_135 : BitVec 32 := 31#32
  let v148 : BitVec 32 := Scalar.minsi v145 c31_i32_135
  let v254 : BitVec 1 := Scalar.cmpi .sge v253 v148
  let c0_i32_231 : BitVec 32 := 0#32
  let c1_i32_230 : BitVec 32 := 1#32
  let v257 : BitVec 32 := Scalar.addi v149 c1_i32_230
  let v258 : BitVec 32 := Scalar.select v254 c0_i32_231 v257
  let c31_i32_233 : BitVec 32 := 31#32
  let v260 : BitVec 32 := Scalar.minsi v258 c31_i32_233
  let c1_i32_325 : BitVec 32 := 1#32
  let v364 : BitVec 32 := Scalar.addi v260 c1_i32_325
  let c1_i32_229 : BitVec 32 := 1#32
  let v255 : BitVec 32 := Scalar.addi v148 c1_i32_229
  let v256 : BitVec 32 := Scalar.select v254 v255 v148
  let c31_i32_232 : BitVec 32 := 31#32
  let v259 : BitVec 32 := Scalar.minsi v256 c31_i32_232
  let v365 : BitVec 1 := Scalar.cmpi .sge v364 v259
  let c0_i32_328 : BitVec 32 := 0#32
  let c1_i32_327 : BitVec 32 := 1#32
  let v368 : BitVec 32 := Scalar.addi v260 c1_i32_327
  let v369 : BitVec 32 := Scalar.select v365 c0_i32_328 v368
  let c31_i32_330 : BitVec 32 := 31#32
  let v371 : BitVec 32 := Scalar.minsi v369 c31_i32_330
  let c1_i32_422 : BitVec 32 := 1#32
  let v475 : BitVec 32 := Scalar.addi v371 c1_i32_422
  let c1_i32_326 : BitVec 32 := 1#32
  let v366 : BitVec 32 := Scalar.addi v259 c1_i32_326
  let v367 : BitVec 32 := Scalar.select v365 v366 v259
  let c31_i32_329 : BitVec 32 := 31#32
  let v370 : BitVec 32 := Scalar.minsi v367 c31_i32_329
  let v476 : BitVec 1 := Scalar.cmpi .sge v475 v370
  let c0_i32_425 : BitVec 32 := 0#32
  let c1_i32_424 : BitVec 32 := 1#32
  let v479 : BitVec 32 := Scalar.addi v371 c1_i32_424
  let v480 : BitVec 32 := Scalar.select v476 c0_i32_425 v479
  let c31_i32_427 : BitVec 32 := 31#32
  let v482 : BitVec 32 := Scalar.minsi v480 c31_i32_427
  let c1_i32_519 : BitVec 32 := 1#32
  let v586 : BitVec 32 := Scalar.addi v482 c1_i32_519
  let c1_i32_423 : BitVec 32 := 1#32
  let v477 : BitVec 32 := Scalar.addi v370 c1_i32_423
  let v478 : BitVec 32 := Scalar.select v476 v477 v370
  let c31_i32_426 : BitVec 32 := 31#32
  let v481 : BitVec 32 := Scalar.minsi v478 c31_i32_426
  let v587 : BitVec 1 := Scalar.cmpi .sge v586 v481
  let c0_i32_522 : BitVec 32 := 0#32
  let c1_i32_521 : BitVec 32 := 1#32
  let v590 : BitVec 32 := Scalar.addi v482 c1_i32_521
  let v591 : BitVec 32 := Scalar.select v587 c0_i32_522 v590
  let c31_i32_524 : BitVec 32 := 31#32
  let v593 : BitVec 32 := Scalar.minsi v591 c31_i32_524
  let c1_i32_616 : BitVec 32 := 1#32
  let v697 : BitVec 32 := Scalar.addi v593 c1_i32_616
  let c1_i32_520 : BitVec 32 := 1#32
  let v588 : BitVec 32 := Scalar.addi v481 c1_i32_520
  let v589 : BitVec 32 := Scalar.select v587 v588 v481
  let c31_i32_523 : BitVec 32 := 31#32
  let v592 : BitVec 32 := Scalar.minsi v589 c31_i32_523
  let v698 : BitVec 1 := Scalar.cmpi .sge v697 v592
  let c0_i32_619 : BitVec 32 := 0#32
  let c1_i32_618 : BitVec 32 := 1#32
  let v701 : BitVec 32 := Scalar.addi v593 c1_i32_618
  let v702 : BitVec 32 := Scalar.select v698 c0_i32_619 v701
  let c31_i32_621 : BitVec 32 := 31#32
  let v704 : BitVec 32 := Scalar.minsi v702 c31_i32_621
  let c1_i32_713 : BitVec 32 := 1#32
  let v808 : BitVec 32 := Scalar.addi v704 c1_i32_713
  let c1_i32_617 : BitVec 32 := 1#32
  let v699 : BitVec 32 := Scalar.addi v592 c1_i32_617
  let v700 : BitVec 32 := Scalar.select v698 v699 v592
  let c31_i32_620 : BitVec 32 := 31#32
  let v703 : BitVec 32 := Scalar.minsi v700 c31_i32_620
  let v809 : BitVec 1 := Scalar.cmpi .sge v808 v703
  let c0_i32_716 : BitVec 32 := 0#32
  let c1_i32_715 : BitVec 32 := 1#32
  let v812 : BitVec 32 := Scalar.addi v704 c1_i32_715
  let v813 : BitVec 32 := Scalar.select v809 c0_i32_716 v812
  let c31_i32_718 : BitVec 32 := 31#32
  let v815 : BitVec 32 := Scalar.minsi v813 c31_i32_718
  let c1_i32_810 : BitVec 32 := 1#32
  let v919 : BitVec 32 := Scalar.addi v815 c1_i32_810
  let c1_i32_714 : BitVec 32 := 1#32
  let v810 : BitVec 32 := Scalar.addi v703 c1_i32_714
  let v811 : BitVec 32 := Scalar.select v809 v810 v703
  let c31_i32_717 : BitVec 32 := 31#32
  let v814 : BitVec 32 := Scalar.minsi v811 c31_i32_717
  let v920 : BitVec 1 := Scalar.cmpi .sge v919 v814
  let c0_i32_813 : BitVec 32 := 0#32
  let c1_i32_812 : BitVec 32 := 1#32
  let v923 : BitVec 32 := Scalar.addi v815 c1_i32_812
  let v924 : BitVec 32 := Scalar.select v920 c0_i32_813 v923
  let c31_i32_815 : BitVec 32 := 31#32
  let v926 : BitVec 32 := Scalar.minsi v924 c31_i32_815
  let c1_i32_907 : BitVec 32 := 1#32
  let v1030 : BitVec 32 := Scalar.addi v926 c1_i32_907
  let c1_i32_811 : BitVec 32 := 1#32
  let v921 : BitVec 32 := Scalar.addi v814 c1_i32_811
  let v922 : BitVec 32 := Scalar.select v920 v921 v814
  let c31_i32_814 : BitVec 32 := 31#32
  let v925 : BitVec 32 := Scalar.minsi v922 c31_i32_814
  let v1031 : BitVec 1 := Scalar.cmpi .sge v1030 v925
  let c0_i32_910 : BitVec 32 := 0#32
  let c1_i32_909 : BitVec 32 := 1#32
  let v1034 : BitVec 32 := Scalar.addi v926 c1_i32_909
  let v1035 : BitVec 32 := Scalar.select v1031 c0_i32_910 v1034
  let c31_i32_912 : BitVec 32 := 31#32
  let v1037 : BitVec 32 := Scalar.minsi v1035 c31_i32_912
  let c1_i32_1004 : BitVec 32 := 1#32
  let v1141 : BitVec 32 := Scalar.addi v1037 c1_i32_1004
  let c1_i32_908 : BitVec 32 := 1#32
  let v1032 : BitVec 32 := Scalar.addi v925 c1_i32_908
  let v1033 : BitVec 32 := Scalar.select v1031 v1032 v925
  let c31_i32_911 : BitVec 32 := 31#32
  let v1036 : BitVec 32 := Scalar.minsi v1033 c31_i32_911
  let v1142 : BitVec 1 := Scalar.cmpi .sge v1141 v1036
  let c0_i32_1007 : BitVec 32 := 0#32
  let c1_i32_1006 : BitVec 32 := 1#32
  let v1145 : BitVec 32 := Scalar.addi v1037 c1_i32_1006
  let v1146 : BitVec 32 := Scalar.select v1142 c0_i32_1007 v1145
  let c31_i32_1009 : BitVec 32 := 31#32
  let v1148 : BitVec 32 := Scalar.minsi v1146 c31_i32_1009
  let c1_i32_1101 : BitVec 32 := 1#32
  let v1252 : BitVec 32 := Scalar.addi v1148 c1_i32_1101
  let c1_i32_1005 : BitVec 32 := 1#32
  let v1143 : BitVec 32 := Scalar.addi v1036 c1_i32_1005
  let v1144 : BitVec 32 := Scalar.select v1142 v1143 v1036
  let c31_i32_1008 : BitVec 32 := 31#32
  let v1147 : BitVec 32 := Scalar.minsi v1144 c31_i32_1008
  let v1253 : BitVec 1 := Scalar.cmpi .sge v1252 v1147
  let c0_i32_1104 : BitVec 32 := 0#32
  let c1_i32_1103 : BitVec 32 := 1#32
  let v1256 : BitVec 32 := Scalar.addi v1148 c1_i32_1103
  let v1257 : BitVec 32 := Scalar.select v1253 c0_i32_1104 v1256
  let c31_i32_1106 : BitVec 32 := 31#32
  let v1259 : BitVec 32 := Scalar.minsi v1257 c31_i32_1106
  let c1_i32_1198 : BitVec 32 := 1#32
  let v1363 : BitVec 32 := Scalar.addi v1259 c1_i32_1198
  let c1_i32_1102 : BitVec 32 := 1#32
  let v1254 : BitVec 32 := Scalar.addi v1147 c1_i32_1102
  let v1255 : BitVec 32 := Scalar.select v1253 v1254 v1147
  let c31_i32_1105 : BitVec 32 := 31#32
  let v1258 : BitVec 32 := Scalar.minsi v1255 c31_i32_1105
  let v1364 : BitVec 1 := Scalar.cmpi .sge v1363 v1258
  let c0_i32_1201 : BitVec 32 := 0#32
  let c1_i32_1200 : BitVec 32 := 1#32
  let v1367 : BitVec 32 := Scalar.addi v1259 c1_i32_1200
  let v1368 : BitVec 32 := Scalar.select v1364 c0_i32_1201 v1367
  let c31_i32_1203 : BitVec 32 := 31#32
  let v1370 : BitVec 32 := Scalar.minsi v1368 c31_i32_1203
  let c1_i32_1295 : BitVec 32 := 1#32
  let v1474 : BitVec 32 := Scalar.addi v1370 c1_i32_1295
  let c1_i32_1199 : BitVec 32 := 1#32
  let v1365 : BitVec 32 := Scalar.addi v1258 c1_i32_1199
  let v1366 : BitVec 32 := Scalar.select v1364 v1365 v1258
  let c31_i32_1202 : BitVec 32 := 31#32
  let v1369 : BitVec 32 := Scalar.minsi v1366 c31_i32_1202
  let v1475 : BitVec 1 := Scalar.cmpi .sge v1474 v1369
  let c0_i32_1298 : BitVec 32 := 0#32
  let c1_i32_1297 : BitVec 32 := 1#32
  let v1478 : BitVec 32 := Scalar.addi v1370 c1_i32_1297
  let v1479 : BitVec 32 := Scalar.select v1475 c0_i32_1298 v1478
  let c31_i32_1300 : BitVec 32 := 31#32
  let v1481 : BitVec 32 := Scalar.minsi v1479 c31_i32_1300
  let c1_i32_1392 : BitVec 32 := 1#32
  let v1585 : BitVec 32 := Scalar.addi v1481 c1_i32_1392
  let c1_i32_1296 : BitVec 32 := 1#32
  let v1476 : BitVec 32 := Scalar.addi v1369 c1_i32_1296
  let v1477 : BitVec 32 := Scalar.select v1475 v1476 v1369
  let c31_i32_1299 : BitVec 32 := 31#32
  let v1480 : BitVec 32 := Scalar.minsi v1477 c31_i32_1299
  let v1586 : BitVec 1 := Scalar.cmpi .sge v1585 v1480
  let c1_i32_1393 : BitVec 32 := 1#32
  let v1587 : BitVec 32 := Scalar.addi v1480 c1_i32_1393
  let v1588 : BitVec 32 := Scalar.select v1586 v1587 v1480
  let c31_i32_1396 : BitVec 32 := 31#32
  let v1591 : BitVec 32 := Scalar.minsi v1588 c31_i32_1396
  let v1833 : Index := Scalar.indexCast v1591
  let c1_1614 : Index := 1#32
  let c0_1615 : Index := 0#32
  let c0_1616 : Index := 0#32
  ![v1833.toNat, 1, 0, 0]

variable {F : FTy → Type} [FloatOps F]

def k0_chk5_0 (v30_1 : BitVec 32) (v30_0 : BitVec 32) : Prop :=
  (256 ∣ (k0_mult35 v30_1 v30_0).toNat) ∧
  (∀ a, (k0_off266 v30_1 v30_0) a + S1x256x128.size a ≤ S1x8192x128.size a) ∧
  (∀ a, (k0_off267 v30_1 v30_0) a + S1x1x128x256.size a ≤ S32x2x128x256.size a) ∧
  (∀ a, (k0_off268 v30_1 v30_0) a + S1x1x128x256.size a ≤ S32x2x128x256.size a) ∧
  (∀ a, (k0_off273 v30_0) a + S1x1x1x256.size a ≤ S32x2x1x256.size a) ∧
  (∀ a, (k0_off274 v30_0) a + S1x1x1x256.size a ≤ S32x2x1x256.size a) ∧
  (256 ∣ (k0_mult36 v30_1 v30_0).toNat) ∧
  (∀ a, (k0_off275 v30_1 v30_0) a + S1x256x128.size a ≤ S1x8192x128.size a) ∧
  (∀ a, (k0_off276 v30_1 v30_0) a + S1x1x128x256.size a ≤ S32x2x128x256.size a) ∧
  (∀ a, (k0_off277 v30_1 v30_0) a + S1x1x128x256.size a ≤ S32x2x128x256.size a) ∧
  (∀ a, (k0_off279 v30_0) a + S1x1x144x256.size a ≤ S32x2x144x256.size a) ∧
  (∀ a, (k0_off280 v30_0) a + S1x1x144x256.size a ≤ S32x2x144x256.size a) ∧
  (∀ a, (k0_off281 v30_1 v30_0) a + S1x1x1x256.size a ≤ S32x2x1x256.size a) ∧
  (∀ a, (k0_off282 v30_1 v30_0) a + S1x1x1x256.size a ≤ S32x2x1x256.size a) ∧
  (256 ∣ (k0_mult37 v30_1 v30_0).toNat) ∧
  (∀ a, (k0_off283 v30_1 v30_0) a + S1x256x128.size a ≤ S1x8192x128.size a) ∧
  (∀ a, (k0_off284 v30_1 v30_0) a + S1x1x128x256.size a ≤ S32x2x128x256.size a) ∧
  (∀ a, (k0_off285 v30_1 v30_0) a + S1x1x128x256.size a ≤ S32x2x128x256.size a) ∧
  (∀ a, (k0_off286 v30_1 v30_0) a + S1x144x256.size a ≤ S32x144x256.size a) ∧
  (∀ a, (k0_off287 v30_1 v30_0) a + S1x1x144x256.size a ≤ S32x2x144x256.size a) ∧
  (∀ a, (k0_off288 v30_1 v30_0) a + S1x1x144x256.size a ≤ S32x2x144x256.size a) ∧
  (∀ a, (k0_off289 v30_1 v30_0) a + S1x1x1x256.size a ≤ S32x2x1x256.size a) ∧
  (∀ a, (k0_off290 v30_1 v30_0) a + S1x1x1x256.size a ≤ S32x2x1x256.size a) ∧
  (256 ∣ (k0_mult38 v30_1 v30_0).toNat) ∧
  (∀ a, (k0_off291 v30_1 v30_0) a + S1x256x128.size a ≤ S1x8192x128.size a) ∧
  (∀ a, (k0_off292 v30_1 v30_0) a + S1x1x128x256.size a ≤ S32x2x128x256.size a) ∧
  (∀ a, (k0_off293 v30_1 v30_0) a + S1x1x128x256.size a ≤ S32x2x128x256.size a) ∧
  (∀ a, (k0_off294 v30_1 v30_0) a + S1x144x256.size a ≤ S32x144x256.size a) ∧
  (∀ a, (k0_off295 v30_1 v30_0) a + S1x1x144x256.size a ≤ S32x2x144x256.size a) ∧
  (∀ a, (k0_off296 v30_1 v30_0) a + S1x1x144x256.size a ≤ S32x2x144x256.size a) ∧
  (∀ a, (k0_off297 v30_1 v30_0) a + S1x1x1x256.size a ≤ S32x2x1x256.size a) ∧
  (∀ a, (k0_off298 v30_1 v30_0) a + S1x1x1x256.size a ≤ S32x2x1x256.size a)
def k0_chk5_1 (v30_1 : BitVec 32) (v30_0 : BitVec 32) : Prop :=
  (256 ∣ (k0_mult39 v30_1 v30_0).toNat) ∧
  (∀ a, (k0_off299 v30_1 v30_0) a + S1x256x128.size a ≤ S1x8192x128.size a) ∧
  (∀ a, (k0_off300 v30_1 v30_0) a + S1x1x128x256.size a ≤ S32x2x128x256.size a) ∧
  (∀ a, (k0_off301 v30_1 v30_0) a + S1x1x128x256.size a ≤ S32x2x128x256.size a) ∧
  (∀ a, (k0_off302 v30_1 v30_0) a + S1x144x256.size a ≤ S32x144x256.size a) ∧
  (∀ a, (k0_off303 v30_1 v30_0) a + S1x1x144x256.size a ≤ S32x2x144x256.size a) ∧
  (∀ a, (k0_off304 v30_1 v30_0) a + S1x1x144x256.size a ≤ S32x2x144x256.size a) ∧
  (∀ a, (k0_off305 v30_1 v30_0) a + S1x1x1x256.size a ≤ S32x2x1x256.size a) ∧
  (∀ a, (k0_off306 v30_1 v30_0) a + S1x1x1x256.size a ≤ S32x2x1x256.size a) ∧
  (256 ∣ (k0_mult40 v30_1 v30_0).toNat) ∧
  (∀ a, (k0_off307 v30_1 v30_0) a + S1x256x128.size a ≤ S1x8192x128.size a) ∧
  (∀ a, (k0_off308 v30_1 v30_0) a + S1x1x128x256.size a ≤ S32x2x128x256.size a) ∧
  (∀ a, (k0_off309 v30_1 v30_0) a + S1x1x128x256.size a ≤ S32x2x128x256.size a) ∧
  (∀ a, (k0_off310 v30_1 v30_0) a + S1x144x256.size a ≤ S32x144x256.size a) ∧
  (∀ a, (k0_off311 v30_1 v30_0) a + S1x1x144x256.size a ≤ S32x2x144x256.size a) ∧
  (∀ a, (k0_off312 v30_1 v30_0) a + S1x1x144x256.size a ≤ S32x2x144x256.size a) ∧
  (∀ a, (k0_off313 v30_1 v30_0) a + S1x1x1x256.size a ≤ S32x2x1x256.size a) ∧
  (∀ a, (k0_off314 v30_1 v30_0) a + S1x1x1x256.size a ≤ S32x2x1x256.size a) ∧
  (256 ∣ (k0_mult41 v30_1 v30_0).toNat) ∧
  (∀ a, (k0_off315 v30_1 v30_0) a + S1x256x128.size a ≤ S1x8192x128.size a) ∧
  (∀ a, (k0_off316 v30_1 v30_0) a + S1x1x128x256.size a ≤ S32x2x128x256.size a) ∧
  (∀ a, (k0_off317 v30_1 v30_0) a + S1x1x128x256.size a ≤ S32x2x128x256.size a) ∧
  (∀ a, (k0_off318 v30_1 v30_0) a + S1x144x256.size a ≤ S32x144x256.size a) ∧
  (∀ a, (k0_off319 v30_1 v30_0) a + S1x1x144x256.size a ≤ S32x2x144x256.size a) ∧
  (∀ a, (k0_off320 v30_1 v30_0) a + S1x1x144x256.size a ≤ S32x2x144x256.size a) ∧
  (∀ a, (k0_off321 v30_1 v30_0) a + S1x1x1x256.size a ≤ S32x2x1x256.size a) ∧
  (∀ a, (k0_off322 v30_1 v30_0) a + S1x1x1x256.size a ≤ S32x2x1x256.size a) ∧
  (256 ∣ (k0_mult42 v30_1 v30_0).toNat) ∧
  (∀ a, (k0_off323 v30_1 v30_0) a + S1x256x128.size a ≤ S1x8192x128.size a) ∧
  (∀ a, (k0_off324 v30_1 v30_0) a + S1x1x128x256.size a ≤ S32x2x128x256.size a) ∧
  (∀ a, (k0_off325 v30_1 v30_0) a + S1x1x128x256.size a ≤ S32x2x128x256.size a) ∧
  (∀ a, (k0_off326 v30_1 v30_0) a + S1x144x256.size a ≤ S32x144x256.size a)
def k0_chk5_2 (v30_1 : BitVec 32) (v30_0 : BitVec 32) : Prop :=
  (∀ a, (k0_off327 v30_1 v30_0) a + S1x1x144x256.size a ≤ S32x2x144x256.size a) ∧
  (∀ a, (k0_off328 v30_1 v30_0) a + S1x1x144x256.size a ≤ S32x2x144x256.size a) ∧
  (∀ a, (k0_off329 v30_1 v30_0) a + S1x1x1x256.size a ≤ S32x2x1x256.size a) ∧
  (∀ a, (k0_off330 v30_1 v30_0) a + S1x1x1x256.size a ≤ S32x2x1x256.size a) ∧
  (256 ∣ (k0_mult43 v30_1 v30_0).toNat) ∧
  (∀ a, (k0_off331 v30_1 v30_0) a + S1x256x128.size a ≤ S1x8192x128.size a) ∧
  (∀ a, (k0_off332 v30_1 v30_0) a + S1x1x128x256.size a ≤ S32x2x128x256.size a) ∧
  (∀ a, (k0_off333 v30_1 v30_0) a + S1x1x128x256.size a ≤ S32x2x128x256.size a) ∧
  (∀ a, (k0_off334 v30_1 v30_0) a + S1x144x256.size a ≤ S32x144x256.size a) ∧
  (∀ a, (k0_off335 v30_1 v30_0) a + S1x1x144x256.size a ≤ S32x2x144x256.size a) ∧
  (∀ a, (k0_off336 v30_1 v30_0) a + S1x1x144x256.size a ≤ S32x2x144x256.size a) ∧
  (∀ a, (k0_off337 v30_1 v30_0) a + S1x1x1x256.size a ≤ S32x2x1x256.size a) ∧
  (∀ a, (k0_off338 v30_1 v30_0) a + S1x1x1x256.size a ≤ S32x2x1x256.size a) ∧
  (256 ∣ (k0_mult44 v30_1 v30_0).toNat) ∧
  (∀ a, (k0_off339 v30_1 v30_0) a + S1x256x128.size a ≤ S1x8192x128.size a) ∧
  (∀ a, (k0_off340 v30_1 v30_0) a + S1x1x128x256.size a ≤ S32x2x128x256.size a) ∧
  (∀ a, (k0_off341 v30_1 v30_0) a + S1x1x128x256.size a ≤ S32x2x128x256.size a) ∧
  (∀ a, (k0_off342 v30_1 v30_0) a + S1x144x256.size a ≤ S32x144x256.size a) ∧
  (∀ a, (k0_off343 v30_1 v30_0) a + S1x1x144x256.size a ≤ S32x2x144x256.size a) ∧
  (∀ a, (k0_off344 v30_1 v30_0) a + S1x1x144x256.size a ≤ S32x2x144x256.size a) ∧
  (∀ a, (k0_off345 v30_1 v30_0) a + S1x1x1x256.size a ≤ S32x2x1x256.size a) ∧
  (∀ a, (k0_off346 v30_1 v30_0) a + S1x1x1x256.size a ≤ S32x2x1x256.size a) ∧
  (256 ∣ (k0_mult45 v30_1 v30_0).toNat) ∧
  (∀ a, (k0_off347 v30_1 v30_0) a + S1x256x128.size a ≤ S1x8192x128.size a) ∧
  (∀ a, (k0_off348 v30_1 v30_0) a + S1x1x128x256.size a ≤ S32x2x128x256.size a) ∧
  (∀ a, (k0_off349 v30_1 v30_0) a + S1x1x128x256.size a ≤ S32x2x128x256.size a) ∧
  (∀ a, (k0_off350 v30_1 v30_0) a + S1x144x256.size a ≤ S32x144x256.size a) ∧
  (∀ a, (k0_off351 v30_1 v30_0) a + S1x1x144x256.size a ≤ S32x2x144x256.size a) ∧
  (∀ a, (k0_off352 v30_1 v30_0) a + S1x1x144x256.size a ≤ S32x2x144x256.size a) ∧
  (∀ a, (k0_off353 v30_1 v30_0) a + S1x1x1x256.size a ≤ S32x2x1x256.size a) ∧
  (∀ a, (k0_off354 v30_1 v30_0) a + S1x1x1x256.size a ≤ S32x2x1x256.size a) ∧
  (256 ∣ (k0_mult46 v30_1 v30_0).toNat)
def k0_chk5_3 (v30_1 : BitVec 32) (v30_0 : BitVec 32) : Prop :=
  (∀ a, (k0_off355 v30_1 v30_0) a + S1x256x128.size a ≤ S1x8192x128.size a) ∧
  (∀ a, (k0_off356 v30_1 v30_0) a + S1x1x128x256.size a ≤ S32x2x128x256.size a) ∧
  (∀ a, (k0_off357 v30_1 v30_0) a + S1x1x128x256.size a ≤ S32x2x128x256.size a) ∧
  (∀ a, (k0_off358 v30_1 v30_0) a + S1x144x256.size a ≤ S32x144x256.size a) ∧
  (∀ a, (k0_off359 v30_1 v30_0) a + S1x1x144x256.size a ≤ S32x2x144x256.size a) ∧
  (∀ a, (k0_off360 v30_1 v30_0) a + S1x1x144x256.size a ≤ S32x2x144x256.size a) ∧
  (∀ a, (k0_off361 v30_1 v30_0) a + S1x1x1x256.size a ≤ S32x2x1x256.size a) ∧
  (∀ a, (k0_off362 v30_1 v30_0) a + S1x1x1x256.size a ≤ S32x2x1x256.size a) ∧
  (256 ∣ (k0_mult47 v30_1 v30_0).toNat) ∧
  (∀ a, (k0_off363 v30_1 v30_0) a + S1x256x128.size a ≤ S1x8192x128.size a) ∧
  (∀ a, (k0_off364 v30_1 v30_0) a + S1x1x128x256.size a ≤ S32x2x128x256.size a) ∧
  (∀ a, (k0_off365 v30_1 v30_0) a + S1x1x128x256.size a ≤ S32x2x128x256.size a) ∧
  (∀ a, (k0_off366 v30_1 v30_0) a + S1x144x256.size a ≤ S32x144x256.size a) ∧
  (∀ a, (k0_off367 v30_1 v30_0) a + S1x1x144x256.size a ≤ S32x2x144x256.size a) ∧
  (∀ a, (k0_off368 v30_1 v30_0) a + S1x1x144x256.size a ≤ S32x2x144x256.size a) ∧
  (∀ a, (k0_off369 v30_1 v30_0) a + S1x1x1x256.size a ≤ S32x2x1x256.size a) ∧
  (∀ a, (k0_off370 v30_1 v30_0) a + S1x1x1x256.size a ≤ S32x2x1x256.size a) ∧
  (256 ∣ (k0_mult48 v30_1 v30_0).toNat) ∧
  (∀ a, (k0_off371 v30_1 v30_0) a + S1x256x128.size a ≤ S1x8192x128.size a) ∧
  (∀ a, (k0_off372 v30_1 v30_0) a + S1x1x128x256.size a ≤ S32x2x128x256.size a) ∧
  (∀ a, (k0_off373 v30_1 v30_0) a + S1x1x128x256.size a ≤ S32x2x128x256.size a) ∧
  (∀ a, (k0_off374 v30_1 v30_0) a + S1x144x256.size a ≤ S32x144x256.size a) ∧
  (∀ a, (k0_off375 v30_1 v30_0) a + S1x1x144x256.size a ≤ S32x2x144x256.size a) ∧
  (∀ a, (k0_off376 v30_1 v30_0) a + S1x1x144x256.size a ≤ S32x2x144x256.size a) ∧
  (∀ a, (k0_off377 v30_1 v30_0) a + S1x1x1x256.size a ≤ S32x2x1x256.size a) ∧
  (∀ a, (k0_off378 v30_1 v30_0) a + S1x1x1x256.size a ≤ S32x2x1x256.size a) ∧
  (256 ∣ (k0_mult49 v30_1 v30_0).toNat) ∧
  (∀ a, (k0_off379 v30_1 v30_0) a + S1x256x128.size a ≤ S1x8192x128.size a) ∧
  (∀ a, (k0_off380 v30_1 v30_0) a + S1x1x128x256.size a ≤ S32x2x128x256.size a) ∧
  (∀ a, (k0_off381 v30_1 v30_0) a + S1x1x128x256.size a ≤ S32x2x128x256.size a) ∧
  (∀ a, (k0_off382 v30_1 v30_0) a + S1x144x256.size a ≤ S32x144x256.size a) ∧
  (∀ a, (k0_off383 v30_1 v30_0) a + S1x1x144x256.size a ≤ S32x2x144x256.size a)
def k0_chk5_4 (v30_1 : BitVec 32) (v30_0 : BitVec 32) : Prop :=
  (∀ a, (k0_off384 v30_1 v30_0) a + S1x1x144x256.size a ≤ S32x2x144x256.size a) ∧
  (∀ a, (k0_off385 v30_1 v30_0) a + S1x1x1x256.size a ≤ S32x2x1x256.size a) ∧
  (∀ a, (k0_off386 v30_1 v30_0) a + S1x1x1x256.size a ≤ S32x2x1x256.size a) ∧
  (256 ∣ (k0_mult50 v30_1 v30_0).toNat) ∧
  (∀ a, (k0_off387 v30_1 v30_0) a + S1x256x128.size a ≤ S1x8192x128.size a) ∧
  (∀ a, (k0_off388 v30_1 v30_0) a + S1x1x128x256.size a ≤ S32x2x128x256.size a) ∧
  (∀ a, (k0_off389 v30_1 v30_0) a + S1x1x128x256.size a ≤ S32x2x128x256.size a) ∧
  (∀ a, (k0_off390 v30_1 v30_0) a + S1x144x256.size a ≤ S32x144x256.size a) ∧
  (∀ a, (k0_off391 v30_1 v30_0) a + S1x1x144x256.size a ≤ S32x2x144x256.size a) ∧
  (∀ a, (k0_off392 v30_1 v30_0) a + S1x1x144x256.size a ≤ S32x2x144x256.size a) ∧
  (∀ a, (k0_off393 v30_1 v30_0) a + S1x1x1x256.size a ≤ S32x2x1x256.size a) ∧
  (∀ a, (k0_off394 v30_1 v30_0) a + S1x1x1x256.size a ≤ S32x2x1x256.size a) ∧
  (∀ a, (k0_off395 v30_1 v30_0) a + S1x144x256.size a ≤ S32x144x256.size a) ∧
  (∀ a, (k0_off396 v30_1 v30_0) a + S1x1x144x256.size a ≤ S32x2x144x256.size a) ∧
  (∀ a, (k0_off397 v30_1 v30_0) a + S1x1x144x256.size a ≤ S32x2x144x256.size a)
def k0_chk5 (v30_1 : BitVec 32) (v30_0 : BitVec 32) : Prop :=
  k0_chk5_0 v30_1 v30_0 ∧
  k0_chk5_1 v30_1 v30_0 ∧
  k0_chk5_2 v30_1 v30_0 ∧
  k0_chk5_3 v30_1 v30_0 ∧
  k0_chk5_4 v30_1 v30_0
theorem k0_mult35_dvd : ∀ (v30_1 : BitVec 32) (v30_0 : BitVec 32) (k0_hw5 : k0_chk5 v30_1 v30_0), 256 ∣ (k0_mult35 v30_1 v30_0).toNat := fun v30_1 v30_0 k0_hw5 => k0_hw5.1.1
theorem k0_off266_inb : ∀ (v30_1 : BitVec 32) (v30_0 : BitVec 32) (k0_hw5 : k0_chk5 v30_1 v30_0), ∀ a, (k0_off266 v30_1 v30_0) a + S1x256x128.size a ≤ S1x8192x128.size a := fun v30_1 v30_0 k0_hw5 => k0_hw5.1.2.1
theorem k0_off267_inb : ∀ (v30_1 : BitVec 32) (v30_0 : BitVec 32) (k0_hw5 : k0_chk5 v30_1 v30_0), ∀ a, (k0_off267 v30_1 v30_0) a + S1x1x128x256.size a ≤ S32x2x128x256.size a := fun v30_1 v30_0 k0_hw5 => k0_hw5.1.2.2.1
theorem k0_off268_inb : ∀ (v30_1 : BitVec 32) (v30_0 : BitVec 32) (k0_hw5 : k0_chk5 v30_1 v30_0), ∀ a, (k0_off268 v30_1 v30_0) a + S1x1x128x256.size a ≤ S32x2x128x256.size a := fun v30_1 v30_0 k0_hw5 => k0_hw5.1.2.2.2.1
theorem k0_off273_inb : ∀ (v30_1 : BitVec 32) (v30_0 : BitVec 32) (k0_hw5 : k0_chk5 v30_1 v30_0), ∀ a, (k0_off273 v30_0) a + S1x1x1x256.size a ≤ S32x2x1x256.size a := fun v30_1 v30_0 k0_hw5 => k0_hw5.1.2.2.2.2.1
theorem k0_off274_inb : ∀ (v30_1 : BitVec 32) (v30_0 : BitVec 32) (k0_hw5 : k0_chk5 v30_1 v30_0), ∀ a, (k0_off274 v30_0) a + S1x1x1x256.size a ≤ S32x2x1x256.size a := fun v30_1 v30_0 k0_hw5 => k0_hw5.1.2.2.2.2.2.1
theorem k0_mult36_dvd : ∀ (v30_1 : BitVec 32) (v30_0 : BitVec 32) (k0_hw5 : k0_chk5 v30_1 v30_0), 256 ∣ (k0_mult36 v30_1 v30_0).toNat := fun v30_1 v30_0 k0_hw5 => k0_hw5.1.2.2.2.2.2.2.1
theorem k0_off275_inb : ∀ (v30_1 : BitVec 32) (v30_0 : BitVec 32) (k0_hw5 : k0_chk5 v30_1 v30_0), ∀ a, (k0_off275 v30_1 v30_0) a + S1x256x128.size a ≤ S1x8192x128.size a := fun v30_1 v30_0 k0_hw5 => k0_hw5.1.2.2.2.2.2.2.2.1
theorem k0_off276_inb : ∀ (v30_1 : BitVec 32) (v30_0 : BitVec 32) (k0_hw5 : k0_chk5 v30_1 v30_0), ∀ a, (k0_off276 v30_1 v30_0) a + S1x1x128x256.size a ≤ S32x2x128x256.size a := fun v30_1 v30_0 k0_hw5 => k0_hw5.1.2.2.2.2.2.2.2.2.1
theorem k0_off277_inb : ∀ (v30_1 : BitVec 32) (v30_0 : BitVec 32) (k0_hw5 : k0_chk5 v30_1 v30_0), ∀ a, (k0_off277 v30_1 v30_0) a + S1x1x128x256.size a ≤ S32x2x128x256.size a := fun v30_1 v30_0 k0_hw5 => k0_hw5.1.2.2.2.2.2.2.2.2.2.1
theorem k0_off279_inb : ∀ (v30_1 : BitVec 32) (v30_0 : BitVec 32) (k0_hw5 : k0_chk5 v30_1 v30_0), ∀ a, (k0_off279 v30_0) a + S1x1x144x256.size a ≤ S32x2x144x256.size a := fun v30_1 v30_0 k0_hw5 => k0_hw5.1.2.2.2.2.2.2.2.2.2.2.1
theorem k0_off280_inb : ∀ (v30_1 : BitVec 32) (v30_0 : BitVec 32) (k0_hw5 : k0_chk5 v30_1 v30_0), ∀ a, (k0_off280 v30_0) a + S1x1x144x256.size a ≤ S32x2x144x256.size a := fun v30_1 v30_0 k0_hw5 => k0_hw5.1.2.2.2.2.2.2.2.2.2.2.2.1
theorem k0_off281_inb : ∀ (v30_1 : BitVec 32) (v30_0 : BitVec 32) (k0_hw5 : k0_chk5 v30_1 v30_0), ∀ a, (k0_off281 v30_1 v30_0) a + S1x1x1x256.size a ≤ S32x2x1x256.size a := fun v30_1 v30_0 k0_hw5 => k0_hw5.1.2.2.2.2.2.2.2.2.2.2.2.2.1
theorem k0_off282_inb : ∀ (v30_1 : BitVec 32) (v30_0 : BitVec 32) (k0_hw5 : k0_chk5 v30_1 v30_0), ∀ a, (k0_off282 v30_1 v30_0) a + S1x1x1x256.size a ≤ S32x2x1x256.size a := fun v30_1 v30_0 k0_hw5 => k0_hw5.1.2.2.2.2.2.2.2.2.2.2.2.2.2.1
theorem k0_mult37_dvd : ∀ (v30_1 : BitVec 32) (v30_0 : BitVec 32) (k0_hw5 : k0_chk5 v30_1 v30_0), 256 ∣ (k0_mult37 v30_1 v30_0).toNat := fun v30_1 v30_0 k0_hw5 => k0_hw5.1.2.2.2.2.2.2.2.2.2.2.2.2.2.2.1
theorem k0_off283_inb : ∀ (v30_1 : BitVec 32) (v30_0 : BitVec 32) (k0_hw5 : k0_chk5 v30_1 v30_0), ∀ a, (k0_off283 v30_1 v30_0) a + S1x256x128.size a ≤ S1x8192x128.size a := fun v30_1 v30_0 k0_hw5 => k0_hw5.1.2.2.2.2.2.2.2.2.2.2.2.2.2.2.2.1
theorem k0_off284_inb : ∀ (v30_1 : BitVec 32) (v30_0 : BitVec 32) (k0_hw5 : k0_chk5 v30_1 v30_0), ∀ a, (k0_off284 v30_1 v30_0) a + S1x1x128x256.size a ≤ S32x2x128x256.size a := fun v30_1 v30_0 k0_hw5 => k0_hw5.1.2.2.2.2.2.2.2.2.2.2.2.2.2.2.2.2.1
theorem k0_off285_inb : ∀ (v30_1 : BitVec 32) (v30_0 : BitVec 32) (k0_hw5 : k0_chk5 v30_1 v30_0), ∀ a, (k0_off285 v30_1 v30_0) a + S1x1x128x256.size a ≤ S32x2x128x256.size a := fun v30_1 v30_0 k0_hw5 => k0_hw5.1.2.2.2.2.2.2.2.2.2.2.2.2.2.2.2.2.2.1
theorem k0_off286_inb : ∀ (v30_1 : BitVec 32) (v30_0 : BitVec 32) (k0_hw5 : k0_chk5 v30_1 v30_0), ∀ a, (k0_off286 v30_1 v30_0) a + S1x144x256.size a ≤ S32x144x256.size a := fun v30_1 v30_0 k0_hw5 => k0_hw5.1.2.2.2.2.2.2.2.2.2.2.2.2.2.2.2.2.2.2.1
theorem k0_off287_inb : ∀ (v30_1 : BitVec 32) (v30_0 : BitVec 32) (k0_hw5 : k0_chk5 v30_1 v30_0), ∀ a, (k0_off287 v30_1 v30_0) a + S1x1x144x256.size a ≤ S32x2x144x256.size a := fun v30_1 v30_0 k0_hw5 => k0_hw5.1.2.2.2.2.2.2.2.2.2.2.2.2.2.2.2.2.2.2.2.1
theorem k0_off288_inb : ∀ (v30_1 : BitVec 32) (v30_0 : BitVec 32) (k0_hw5 : k0_chk5 v30_1 v30_0), ∀ a, (k0_off288 v30_1 v30_0) a + S1x1x144x256.size a ≤ S32x2x144x256.size a := fun v30_1 v30_0 k0_hw5 => k0_hw5.1.2.2.2.2.2.2.2.2.2.2.2.2.2.2.2.2.2.2.2.2.1
theorem k0_off289_inb : ∀ (v30_1 : BitVec 32) (v30_0 : BitVec 32) (k0_hw5 : k0_chk5 v30_1 v30_0), ∀ a, (k0_off289 v30_1 v30_0) a + S1x1x1x256.size a ≤ S32x2x1x256.size a := fun v30_1 v30_0 k0_hw5 => k0_hw5.1.2.2.2.2.2.2.2.2.2.2.2.2.2.2.2.2.2.2.2.2.2.1
theorem k0_off290_inb : ∀ (v30_1 : BitVec 32) (v30_0 : BitVec 32) (k0_hw5 : k0_chk5 v30_1 v30_0), ∀ a, (k0_off290 v30_1 v30_0) a + S1x1x1x256.size a ≤ S32x2x1x256.size a := fun v30_1 v30_0 k0_hw5 => k0_hw5.1.2.2.2.2.2.2.2.2.2.2.2.2.2.2.2.2.2.2.2.2.2.2.1
theorem k0_mult38_dvd : ∀ (v30_1 : BitVec 32) (v30_0 : BitVec 32) (k0_hw5 : k0_chk5 v30_1 v30_0), 256 ∣ (k0_mult38 v30_1 v30_0).toNat := fun v30_1 v30_0 k0_hw5 => k0_hw5.1.2.2.2.2.2.2.2.2.2.2.2.2.2.2.2.2.2.2.2.2.2.2.2.1
theorem k0_off291_inb : ∀ (v30_1 : BitVec 32) (v30_0 : BitVec 32) (k0_hw5 : k0_chk5 v30_1 v30_0), ∀ a, (k0_off291 v30_1 v30_0) a + S1x256x128.size a ≤ S1x8192x128.size a := fun v30_1 v30_0 k0_hw5 => k0_hw5.1.2.2.2.2.2.2.2.2.2.2.2.2.2.2.2.2.2.2.2.2.2.2.2.2.1
theorem k0_off292_inb : ∀ (v30_1 : BitVec 32) (v30_0 : BitVec 32) (k0_hw5 : k0_chk5 v30_1 v30_0), ∀ a, (k0_off292 v30_1 v30_0) a + S1x1x128x256.size a ≤ S32x2x128x256.size a := fun v30_1 v30_0 k0_hw5 => k0_hw5.1.2.2.2.2.2.2.2.2.2.2.2.2.2.2.2.2.2.2.2.2.2.2.2.2.2.1
theorem k0_off293_inb : ∀ (v30_1 : BitVec 32) (v30_0 : BitVec 32) (k0_hw5 : k0_chk5 v30_1 v30_0), ∀ a, (k0_off293 v30_1 v30_0) a + S1x1x128x256.size a ≤ S32x2x128x256.size a := fun v30_1 v30_0 k0_hw5 => k0_hw5.1.2.2.2.2.2.2.2.2.2.2.2.2.2.2.2.2.2.2.2.2.2.2.2.2.2.2.1
theorem k0_off294_inb : ∀ (v30_1 : BitVec 32) (v30_0 : BitVec 32) (k0_hw5 : k0_chk5 v30_1 v30_0), ∀ a, (k0_off294 v30_1 v30_0) a + S1x144x256.size a ≤ S32x144x256.size a := fun v30_1 v30_0 k0_hw5 => k0_hw5.1.2.2.2.2.2.2.2.2.2.2.2.2.2.2.2.2.2.2.2.2.2.2.2.2.2.2.2.1
theorem k0_off295_inb : ∀ (v30_1 : BitVec 32) (v30_0 : BitVec 32) (k0_hw5 : k0_chk5 v30_1 v30_0), ∀ a, (k0_off295 v30_1 v30_0) a + S1x1x144x256.size a ≤ S32x2x144x256.size a := fun v30_1 v30_0 k0_hw5 => k0_hw5.1.2.2.2.2.2.2.2.2.2.2.2.2.2.2.2.2.2.2.2.2.2.2.2.2.2.2.2.2.1
theorem k0_off296_inb : ∀ (v30_1 : BitVec 32) (v30_0 : BitVec 32) (k0_hw5 : k0_chk5 v30_1 v30_0), ∀ a, (k0_off296 v30_1 v30_0) a + S1x1x144x256.size a ≤ S32x2x144x256.size a := fun v30_1 v30_0 k0_hw5 => k0_hw5.1.2.2.2.2.2.2.2.2.2.2.2.2.2.2.2.2.2.2.2.2.2.2.2.2.2.2.2.2.2.1
theorem k0_off297_inb : ∀ (v30_1 : BitVec 32) (v30_0 : BitVec 32) (k0_hw5 : k0_chk5 v30_1 v30_0), ∀ a, (k0_off297 v30_1 v30_0) a + S1x1x1x256.size a ≤ S32x2x1x256.size a := fun v30_1 v30_0 k0_hw5 => k0_hw5.1.2.2.2.2.2.2.2.2.2.2.2.2.2.2.2.2.2.2.2.2.2.2.2.2.2.2.2.2.2.2.1
theorem k0_off298_inb : ∀ (v30_1 : BitVec 32) (v30_0 : BitVec 32) (k0_hw5 : k0_chk5 v30_1 v30_0), ∀ a, (k0_off298 v30_1 v30_0) a + S1x1x1x256.size a ≤ S32x2x1x256.size a := fun v30_1 v30_0 k0_hw5 => k0_hw5.1.2.2.2.2.2.2.2.2.2.2.2.2.2.2.2.2.2.2.2.2.2.2.2.2.2.2.2.2.2.2.2
theorem k0_mult39_dvd : ∀ (v30_1 : BitVec 32) (v30_0 : BitVec 32) (k0_hw5 : k0_chk5 v30_1 v30_0), 256 ∣ (k0_mult39 v30_1 v30_0).toNat := fun v30_1 v30_0 k0_hw5 => k0_hw5.2.1.1
theorem k0_off299_inb : ∀ (v30_1 : BitVec 32) (v30_0 : BitVec 32) (k0_hw5 : k0_chk5 v30_1 v30_0), ∀ a, (k0_off299 v30_1 v30_0) a + S1x256x128.size a ≤ S1x8192x128.size a := fun v30_1 v30_0 k0_hw5 => k0_hw5.2.1.2.1
theorem k0_off300_inb : ∀ (v30_1 : BitVec 32) (v30_0 : BitVec 32) (k0_hw5 : k0_chk5 v30_1 v30_0), ∀ a, (k0_off300 v30_1 v30_0) a + S1x1x128x256.size a ≤ S32x2x128x256.size a := fun v30_1 v30_0 k0_hw5 => k0_hw5.2.1.2.2.1
theorem k0_off301_inb : ∀ (v30_1 : BitVec 32) (v30_0 : BitVec 32) (k0_hw5 : k0_chk5 v30_1 v30_0), ∀ a, (k0_off301 v30_1 v30_0) a + S1x1x128x256.size a ≤ S32x2x128x256.size a := fun v30_1 v30_0 k0_hw5 => k0_hw5.2.1.2.2.2.1
theorem k0_off302_inb : ∀ (v30_1 : BitVec 32) (v30_0 : BitVec 32) (k0_hw5 : k0_chk5 v30_1 v30_0), ∀ a, (k0_off302 v30_1 v30_0) a + S1x144x256.size a ≤ S32x144x256.size a := fun v30_1 v30_0 k0_hw5 => k0_hw5.2.1.2.2.2.2.1
theorem k0_off303_inb : ∀ (v30_1 : BitVec 32) (v30_0 : BitVec 32) (k0_hw5 : k0_chk5 v30_1 v30_0), ∀ a, (k0_off303 v30_1 v30_0) a + S1x1x144x256.size a ≤ S32x2x144x256.size a := fun v30_1 v30_0 k0_hw5 => k0_hw5.2.1.2.2.2.2.2.1
theorem k0_off304_inb : ∀ (v30_1 : BitVec 32) (v30_0 : BitVec 32) (k0_hw5 : k0_chk5 v30_1 v30_0), ∀ a, (k0_off304 v30_1 v30_0) a + S1x1x144x256.size a ≤ S32x2x144x256.size a := fun v30_1 v30_0 k0_hw5 => k0_hw5.2.1.2.2.2.2.2.2.1
theorem k0_off305_inb : ∀ (v30_1 : BitVec 32) (v30_0 : BitVec 32) (k0_hw5 : k0_chk5 v30_1 v30_0), ∀ a, (k0_off305 v30_1 v30_0) a + S1x1x1x256.size a ≤ S32x2x1x256.size a := fun v30_1 v30_0 k0_hw5 => k0_hw5.2.1.2.2.2.2.2.2.2.1
theorem k0_off306_inb : ∀ (v30_1 : BitVec 32) (v30_0 : BitVec 32) (k0_hw5 : k0_chk5 v30_1 v30_0), ∀ a, (k0_off306 v30_1 v30_0) a + S1x1x1x256.size a ≤ S32x2x1x256.size a := fun v30_1 v30_0 k0_hw5 => k0_hw5.2.1.2.2.2.2.2.2.2.2.1
theorem k0_mult40_dvd : ∀ (v30_1 : BitVec 32) (v30_0 : BitVec 32) (k0_hw5 : k0_chk5 v30_1 v30_0), 256 ∣ (k0_mult40 v30_1 v30_0).toNat := fun v30_1 v30_0 k0_hw5 => k0_hw5.2.1.2.2.2.2.2.2.2.2.2.1
theorem k0_off307_inb : ∀ (v30_1 : BitVec 32) (v30_0 : BitVec 32) (k0_hw5 : k0_chk5 v30_1 v30_0), ∀ a, (k0_off307 v30_1 v30_0) a + S1x256x128.size a ≤ S1x8192x128.size a := fun v30_1 v30_0 k0_hw5 => k0_hw5.2.1.2.2.2.2.2.2.2.2.2.2.1
theorem k0_off308_inb : ∀ (v30_1 : BitVec 32) (v30_0 : BitVec 32) (k0_hw5 : k0_chk5 v30_1 v30_0), ∀ a, (k0_off308 v30_1 v30_0) a + S1x1x128x256.size a ≤ S32x2x128x256.size a := fun v30_1 v30_0 k0_hw5 => k0_hw5.2.1.2.2.2.2.2.2.2.2.2.2.2.1
theorem k0_off309_inb : ∀ (v30_1 : BitVec 32) (v30_0 : BitVec 32) (k0_hw5 : k0_chk5 v30_1 v30_0), ∀ a, (k0_off309 v30_1 v30_0) a + S1x1x128x256.size a ≤ S32x2x128x256.size a := fun v30_1 v30_0 k0_hw5 => k0_hw5.2.1.2.2.2.2.2.2.2.2.2.2.2.2.1
theorem k0_off310_inb : ∀ (v30_1 : BitVec 32) (v30_0 : BitVec 32) (k0_hw5 : k0_chk5 v30_1 v30_0), ∀ a, (k0_off310 v30_1 v30_0) a + S1x144x256.size a ≤ S32x144x256.size a := fun v30_1 v30_0 k0_hw5 => k0_hw5.2.1.2.2.2.2.2.2.2.2.2.2.2.2.2.1
theorem k0_off311_inb : ∀ (v30_1 : BitVec 32) (v30_0 : BitVec 32) (k0_hw5 : k0_chk5 v30_1 v30_0), ∀ a, (k0_off311 v30_1 v30_0) a + S1x1x144x256.size a ≤ S32x2x144x256.size a := fun v30_1 v30_0 k0_hw5 => k0_hw5.2.1.2.2.2.2.2.2.2.2.2.2.2.2.2.2.1
theorem k0_off312_inb : ∀ (v30_1 : BitVec 32) (v30_0 : BitVec 32) (k0_hw5 : k0_chk5 v30_1 v30_0), ∀ a, (k0_off312 v30_1 v30_0) a + S1x1x144x256.size a ≤ S32x2x144x256.size a := fun v30_1 v30_0 k0_hw5 => k0_hw5.2.1.2.2.2.2.2.2.2.2.2.2.2.2.2.2.2.1
theorem k0_off313_inb : ∀ (v30_1 : BitVec 32) (v30_0 : BitVec 32) (k0_hw5 : k0_chk5 v30_1 v30_0), ∀ a, (k0_off313 v30_1 v30_0) a + S1x1x1x256.size a ≤ S32x2x1x256.size a := fun v30_1 v30_0 k0_hw5 => k0_hw5.2.1.2.2.2.2.2.2.2.2.2.2.2.2.2.2.2.2.1
theorem k0_off314_inb : ∀ (v30_1 : BitVec 32) (v30_0 : BitVec 32) (k0_hw5 : k0_chk5 v30_1 v30_0), ∀ a, (k0_off314 v30_1 v30_0) a + S1x1x1x256.size a ≤ S32x2x1x256.size a := fun v30_1 v30_0 k0_hw5 => k0_hw5.2.1.2.2.2.2.2.2.2.2.2.2.2.2.2.2.2.2.2.1
theorem k0_mult41_dvd : ∀ (v30_1 : BitVec 32) (v30_0 : BitVec 32) (k0_hw5 : k0_chk5 v30_1 v30_0), 256 ∣ (k0_mult41 v30_1 v30_0).toNat := fun v30_1 v30_0 k0_hw5 => k0_hw5.2.1.2.2.2.2.2.2.2.2.2.2.2.2.2.2.2.2.2.2.1
theorem k0_off315_inb : ∀ (v30_1 : BitVec 32) (v30_0 : BitVec 32) (k0_hw5 : k0_chk5 v30_1 v30_0), ∀ a, (k0_off315 v30_1 v30_0) a + S1x256x128.size a ≤ S1x8192x128.size a := fun v30_1 v30_0 k0_hw5 => k0_hw5.2.1.2.2.2.2.2.2.2.2.2.2.2.2.2.2.2.2.2.2.2.1
theorem k0_off316_inb : ∀ (v30_1 : BitVec 32) (v30_0 : BitVec 32) (k0_hw5 : k0_chk5 v30_1 v30_0), ∀ a, (k0_off316 v30_1 v30_0) a + S1x1x128x256.size a ≤ S32x2x128x256.size a := fun v30_1 v30_0 k0_hw5 => k0_hw5.2.1.2.2.2.2.2.2.2.2.2.2.2.2.2.2.2.2.2.2.2.2.1
theorem k0_off317_inb : ∀ (v30_1 : BitVec 32) (v30_0 : BitVec 32) (k0_hw5 : k0_chk5 v30_1 v30_0), ∀ a, (k0_off317 v30_1 v30_0) a + S1x1x128x256.size a ≤ S32x2x128x256.size a := fun v30_1 v30_0 k0_hw5 => k0_hw5.2.1.2.2.2.2.2.2.2.2.2.2.2.2.2.2.2.2.2.2.2.2.2.1
theorem k0_off318_inb : ∀ (v30_1 : BitVec 32) (v30_0 : BitVec 32) (k0_hw5 : k0_chk5 v30_1 v30_0), ∀ a, (k0_off318 v30_1 v30_0) a + S1x144x256.size a ≤ S32x144x256.size a := fun v30_1 v30_0 k0_hw5 => k0_hw5.2.1.2.2.2.2.2.2.2.2.2.2.2.2.2.2.2.2.2.2.2.2.2.2.1
theorem k0_off319_inb : ∀ (v30_1 : BitVec 32) (v30_0 : BitVec 32) (k0_hw5 : k0_chk5 v30_1 v30_0), ∀ a, (k0_off319 v30_1 v30_0) a + S1x1x144x256.size a ≤ S32x2x144x256.size a := fun v30_1 v30_0 k0_hw5 => k0_hw5.2.1.2.2.2.2.2.2.2.2.2.2.2.2.2.2.2.2.2.2.2.2.2.2.2.1
theorem k0_off320_inb : ∀ (v30_1 : BitVec 32) (v30_0 : BitVec 32) (k0_hw5 : k0_chk5 v30_1 v30_0), ∀ a, (k0_off320 v30_1 v30_0) a + S1x1x144x256.size a ≤ S32x2x144x256.size a := fun v30_1 v30_0 k0_hw5 => k0_hw5.2.1.2.2.2.2.2.2.2.2.2.2.2.2.2.2.2.2.2.2.2.2.2.2.2.2.1
theorem k0_off321_inb : ∀ (v30_1 : BitVec 32) (v30_0 : BitVec 32) (k0_hw5 : k0_chk5 v30_1 v30_0), ∀ a, (k0_off321 v30_1 v30_0) a + S1x1x1x256.size a ≤ S32x2x1x256.size a := fun v30_1 v30_0 k0_hw5 => k0_hw5.2.1.2.2.2.2.2.2.2.2.2.2.2.2.2.2.2.2.2.2.2.2.2.2.2.2.2.1
theorem k0_off322_inb : ∀ (v30_1 : BitVec 32) (v30_0 : BitVec 32) (k0_hw5 : k0_chk5 v30_1 v30_0), ∀ a, (k0_off322 v30_1 v30_0) a + S1x1x1x256.size a ≤ S32x2x1x256.size a := fun v30_1 v30_0 k0_hw5 => k0_hw5.2.1.2.2.2.2.2.2.2.2.2.2.2.2.2.2.2.2.2.2.2.2.2.2.2.2.2.2.1
theorem k0_mult42_dvd : ∀ (v30_1 : BitVec 32) (v30_0 : BitVec 32) (k0_hw5 : k0_chk5 v30_1 v30_0), 256 ∣ (k0_mult42 v30_1 v30_0).toNat := fun v30_1 v30_0 k0_hw5 => k0_hw5.2.1.2.2.2.2.2.2.2.2.2.2.2.2.2.2.2.2.2.2.2.2.2.2.2.2.2.2.2.1
theorem k0_off323_inb : ∀ (v30_1 : BitVec 32) (v30_0 : BitVec 32) (k0_hw5 : k0_chk5 v30_1 v30_0), ∀ a, (k0_off323 v30_1 v30_0) a + S1x256x128.size a ≤ S1x8192x128.size a := fun v30_1 v30_0 k0_hw5 => k0_hw5.2.1.2.2.2.2.2.2.2.2.2.2.2.2.2.2.2.2.2.2.2.2.2.2.2.2.2.2.2.2.1
theorem k0_off324_inb : ∀ (v30_1 : BitVec 32) (v30_0 : BitVec 32) (k0_hw5 : k0_chk5 v30_1 v30_0), ∀ a, (k0_off324 v30_1 v30_0) a + S1x1x128x256.size a ≤ S32x2x128x256.size a := fun v30_1 v30_0 k0_hw5 => k0_hw5.2.1.2.2.2.2.2.2.2.2.2.2.2.2.2.2.2.2.2.2.2.2.2.2.2.2.2.2.2.2.2.1
theorem k0_off325_inb : ∀ (v30_1 : BitVec 32) (v30_0 : BitVec 32) (k0_hw5 : k0_chk5 v30_1 v30_0), ∀ a, (k0_off325 v30_1 v30_0) a + S1x1x128x256.size a ≤ S32x2x128x256.size a := fun v30_1 v30_0 k0_hw5 => k0_hw5.2.1.2.2.2.2.2.2.2.2.2.2.2.2.2.2.2.2.2.2.2.2.2.2.2.2.2.2.2.2.2.2.1
theorem k0_off326_inb : ∀ (v30_1 : BitVec 32) (v30_0 : BitVec 32) (k0_hw5 : k0_chk5 v30_1 v30_0), ∀ a, (k0_off326 v30_1 v30_0) a + S1x144x256.size a ≤ S32x144x256.size a := fun v30_1 v30_0 k0_hw5 => k0_hw5.2.1.2.2.2.2.2.2.2.2.2.2.2.2.2.2.2.2.2.2.2.2.2.2.2.2.2.2.2.2.2.2.2
theorem k0_off327_inb : ∀ (v30_1 : BitVec 32) (v30_0 : BitVec 32) (k0_hw5 : k0_chk5 v30_1 v30_0), ∀ a, (k0_off327 v30_1 v30_0) a + S1x1x144x256.size a ≤ S32x2x144x256.size a := fun v30_1 v30_0 k0_hw5 => k0_hw5.2.2.1.1
theorem k0_off328_inb : ∀ (v30_1 : BitVec 32) (v30_0 : BitVec 32) (k0_hw5 : k0_chk5 v30_1 v30_0), ∀ a, (k0_off328 v30_1 v30_0) a + S1x1x144x256.size a ≤ S32x2x144x256.size a := fun v30_1 v30_0 k0_hw5 => k0_hw5.2.2.1.2.1
theorem k0_off329_inb : ∀ (v30_1 : BitVec 32) (v30_0 : BitVec 32) (k0_hw5 : k0_chk5 v30_1 v30_0), ∀ a, (k0_off329 v30_1 v30_0) a + S1x1x1x256.size a ≤ S32x2x1x256.size a := fun v30_1 v30_0 k0_hw5 => k0_hw5.2.2.1.2.2.1
theorem k0_off330_inb : ∀ (v30_1 : BitVec 32) (v30_0 : BitVec 32) (k0_hw5 : k0_chk5 v30_1 v30_0), ∀ a, (k0_off330 v30_1 v30_0) a + S1x1x1x256.size a ≤ S32x2x1x256.size a := fun v30_1 v30_0 k0_hw5 => k0_hw5.2.2.1.2.2.2.1
theorem k0_mult43_dvd : ∀ (v30_1 : BitVec 32) (v30_0 : BitVec 32) (k0_hw5 : k0_chk5 v30_1 v30_0), 256 ∣ (k0_mult43 v30_1 v30_0).toNat := fun v30_1 v30_0 k0_hw5 => k0_hw5.2.2.1.2.2.2.2.1
theorem k0_off331_inb : ∀ (v30_1 : BitVec 32) (v30_0 : BitVec 32) (k0_hw5 : k0_chk5 v30_1 v30_0), ∀ a, (k0_off331 v30_1 v30_0) a + S1x256x128.size a ≤ S1x8192x128.size a := fun v30_1 v30_0 k0_hw5 => k0_hw5.2.2.1.2.2.2.2.2.1
theorem k0_off332_inb : ∀ (v30_1 : BitVec 32) (v30_0 : BitVec 32) (k0_hw5 : k0_chk5 v30_1 v30_0), ∀ a, (k0_off332 v30_1 v30_0) a + S1x1x128x256.size a ≤ S32x2x128x256.size a := fun v30_1 v30_0 k0_hw5 => k0_hw5.2.2.1.2.2.2.2.2.2.1
theorem k0_off333_inb : ∀ (v30_1 : BitVec 32) (v30_0 : BitVec 32) (k0_hw5 : k0_chk5 v30_1 v30_0), ∀ a, (k0_off333 v30_1 v30_0) a + S1x1x128x256.size a ≤ S32x2x128x256.size a := fun v30_1 v30_0 k0_hw5 => k0_hw5.2.2.1.2.2.2.2.2.2.2.1
theorem k0_off334_inb : ∀ (v30_1 : BitVec 32) (v30_0 : BitVec 32) (k0_hw5 : k0_chk5 v30_1 v30_0), ∀ a, (k0_off334 v30_1 v30_0) a + S1x144x256.size a ≤ S32x144x256.size a := fun v30_1 v30_0 k0_hw5 => k0_hw5.2.2.1.2.2.2.2.2.2.2.2.1
theorem k0_off335_inb : ∀ (v30_1 : BitVec 32) (v30_0 : BitVec 32) (k0_hw5 : k0_chk5 v30_1 v30_0), ∀ a, (k0_off335 v30_1 v30_0) a + S1x1x144x256.size a ≤ S32x2x144x256.size a := fun v30_1 v30_0 k0_hw5 => k0_hw5.2.2.1.2.2.2.2.2.2.2.2.2.1
theorem k0_off336_inb : ∀ (v30_1 : BitVec 32) (v30_0 : BitVec 32) (k0_hw5 : k0_chk5 v30_1 v30_0), ∀ a, (k0_off336 v30_1 v30_0) a + S1x1x144x256.size a ≤ S32x2x144x256.size a := fun v30_1 v30_0 k0_hw5 => k0_hw5.2.2.1.2.2.2.2.2.2.2.2.2.2.1
theorem k0_off337_inb : ∀ (v30_1 : BitVec 32) (v30_0 : BitVec 32) (k0_hw5 : k0_chk5 v30_1 v30_0), ∀ a, (k0_off337 v30_1 v30_0) a + S1x1x1x256.size a ≤ S32x2x1x256.size a := fun v30_1 v30_0 k0_hw5 => k0_hw5.2.2.1.2.2.2.2.2.2.2.2.2.2.2.1
theorem k0_off338_inb : ∀ (v30_1 : BitVec 32) (v30_0 : BitVec 32) (k0_hw5 : k0_chk5 v30_1 v30_0), ∀ a, (k0_off338 v30_1 v30_0) a + S1x1x1x256.size a ≤ S32x2x1x256.size a := fun v30_1 v30_0 k0_hw5 => k0_hw5.2.2.1.2.2.2.2.2.2.2.2.2.2.2.2.1
theorem k0_mult44_dvd : ∀ (v30_1 : BitVec 32) (v30_0 : BitVec 32) (k0_hw5 : k0_chk5 v30_1 v30_0), 256 ∣ (k0_mult44 v30_1 v30_0).toNat := fun v30_1 v30_0 k0_hw5 => k0_hw5.2.2.1.2.2.2.2.2.2.2.2.2.2.2.2.2.1
theorem k0_off339_inb : ∀ (v30_1 : BitVec 32) (v30_0 : BitVec 32) (k0_hw5 : k0_chk5 v30_1 v30_0), ∀ a, (k0_off339 v30_1 v30_0) a + S1x256x128.size a ≤ S1x8192x128.size a := fun v30_1 v30_0 k0_hw5 => k0_hw5.2.2.1.2.2.2.2.2.2.2.2.2.2.2.2.2.2.1
theorem k0_off340_inb : ∀ (v30_1 : BitVec 32) (v30_0 : BitVec 32) (k0_hw5 : k0_chk5 v30_1 v30_0), ∀ a, (k0_off340 v30_1 v30_0) a + S1x1x128x256.size a ≤ S32x2x128x256.size a := fun v30_1 v30_0 k0_hw5 => k0_hw5.2.2.1.2.2.2.2.2.2.2.2.2.2.2.2.2.2.2.1
theorem k0_off341_inb : ∀ (v30_1 : BitVec 32) (v30_0 : BitVec 32) (k0_hw5 : k0_chk5 v30_1 v30_0), ∀ a, (k0_off341 v30_1 v30_0) a + S1x1x128x256.size a ≤ S32x2x128x256.size a := fun v30_1 v30_0 k0_hw5 => k0_hw5.2.2.1.2.2.2.2.2.2.2.2.2.2.2.2.2.2.2.2.1
theorem k0_off342_inb : ∀ (v30_1 : BitVec 32) (v30_0 : BitVec 32) (k0_hw5 : k0_chk5 v30_1 v30_0), ∀ a, (k0_off342 v30_1 v30_0) a + S1x144x256.size a ≤ S32x144x256.size a := fun v30_1 v30_0 k0_hw5 => k0_hw5.2.2.1.2.2.2.2.2.2.2.2.2.2.2.2.2.2.2.2.2.1
theorem k0_off343_inb : ∀ (v30_1 : BitVec 32) (v30_0 : BitVec 32) (k0_hw5 : k0_chk5 v30_1 v30_0), ∀ a, (k0_off343 v30_1 v30_0) a + S1x1x144x256.size a ≤ S32x2x144x256.size a := fun v30_1 v30_0 k0_hw5 => k0_hw5.2.2.1.2.2.2.2.2.2.2.2.2.2.2.2.2.2.2.2.2.2.1
theorem k0_off344_inb : ∀ (v30_1 : BitVec 32) (v30_0 : BitVec 32) (k0_hw5 : k0_chk5 v30_1 v30_0), ∀ a, (k0_off344 v30_1 v30_0) a + S1x1x144x256.size a ≤ S32x2x144x256.size a := fun v30_1 v30_0 k0_hw5 => k0_hw5.2.2.1.2.2.2.2.2.2.2.2.2.2.2.2.2.2.2.2.2.2.2.1
theorem k0_off345_inb : ∀ (v30_1 : BitVec 32) (v30_0 : BitVec 32) (k0_hw5 : k0_chk5 v30_1 v30_0), ∀ a, (k0_off345 v30_1 v30_0) a + S1x1x1x256.size a ≤ S32x2x1x256.size a := fun v30_1 v30_0 k0_hw5 => k0_hw5.2.2.1.2.2.2.2.2.2.2.2.2.2.2.2.2.2.2.2.2.2.2.2.1
theorem k0_off346_inb : ∀ (v30_1 : BitVec 32) (v30_0 : BitVec 32) (k0_hw5 : k0_chk5 v30_1 v30_0), ∀ a, (k0_off346 v30_1 v30_0) a + S1x1x1x256.size a ≤ S32x2x1x256.size a := fun v30_1 v30_0 k0_hw5 => k0_hw5.2.2.1.2.2.2.2.2.2.2.2.2.2.2.2.2.2.2.2.2.2.2.2.2.1
theorem k0_mult45_dvd : ∀ (v30_1 : BitVec 32) (v30_0 : BitVec 32) (k0_hw5 : k0_chk5 v30_1 v30_0), 256 ∣ (k0_mult45 v30_1 v30_0).toNat := fun v30_1 v30_0 k0_hw5 => k0_hw5.2.2.1.2.2.2.2.2.2.2.2.2.2.2.2.2.2.2.2.2.2.2.2.2.2.1
theorem k0_off347_inb : ∀ (v30_1 : BitVec 32) (v30_0 : BitVec 32) (k0_hw5 : k0_chk5 v30_1 v30_0), ∀ a, (k0_off347 v30_1 v30_0) a + S1x256x128.size a ≤ S1x8192x128.size a := fun v30_1 v30_0 k0_hw5 => k0_hw5.2.2.1.2.2.2.2.2.2.2.2.2.2.2.2.2.2.2.2.2.2.2.2.2.2.2.1
theorem k0_off348_inb : ∀ (v30_1 : BitVec 32) (v30_0 : BitVec 32) (k0_hw5 : k0_chk5 v30_1 v30_0), ∀ a, (k0_off348 v30_1 v30_0) a + S1x1x128x256.size a ≤ S32x2x128x256.size a := fun v30_1 v30_0 k0_hw5 => k0_hw5.2.2.1.2.2.2.2.2.2.2.2.2.2.2.2.2.2.2.2.2.2.2.2.2.2.2.2.1
theorem k0_off349_inb : ∀ (v30_1 : BitVec 32) (v30_0 : BitVec 32) (k0_hw5 : k0_chk5 v30_1 v30_0), ∀ a, (k0_off349 v30_1 v30_0) a + S1x1x128x256.size a ≤ S32x2x128x256.size a := fun v30_1 v30_0 k0_hw5 => k0_hw5.2.2.1.2.2.2.2.2.2.2.2.2.2.2.2.2.2.2.2.2.2.2.2.2.2.2.2.2.1
theorem k0_off350_inb : ∀ (v30_1 : BitVec 32) (v30_0 : BitVec 32) (k0_hw5 : k0_chk5 v30_1 v30_0), ∀ a, (k0_off350 v30_1 v30_0) a + S1x144x256.size a ≤ S32x144x256.size a := fun v30_1 v30_0 k0_hw5 => k0_hw5.2.2.1.2.2.2.2.2.2.2.2.2.2.2.2.2.2.2.2.2.2.2.2.2.2.2.2.2.2.1
theorem k0_off351_inb : ∀ (v30_1 : BitVec 32) (v30_0 : BitVec 32) (k0_hw5 : k0_chk5 v30_1 v30_0), ∀ a, (k0_off351 v30_1 v30_0) a + S1x1x144x256.size a ≤ S32x2x144x256.size a := fun v30_1 v30_0 k0_hw5 => k0_hw5.2.2.1.2.2.2.2.2.2.2.2.2.2.2.2.2.2.2.2.2.2.2.2.2.2.2.2.2.2.2.1
theorem k0_off352_inb : ∀ (v30_1 : BitVec 32) (v30_0 : BitVec 32) (k0_hw5 : k0_chk5 v30_1 v30_0), ∀ a, (k0_off352 v30_1 v30_0) a + S1x1x144x256.size a ≤ S32x2x144x256.size a := fun v30_1 v30_0 k0_hw5 => k0_hw5.2.2.1.2.2.2.2.2.2.2.2.2.2.2.2.2.2.2.2.2.2.2.2.2.2.2.2.2.2.2.2.1
theorem k0_off353_inb : ∀ (v30_1 : BitVec 32) (v30_0 : BitVec 32) (k0_hw5 : k0_chk5 v30_1 v30_0), ∀ a, (k0_off353 v30_1 v30_0) a + S1x1x1x256.size a ≤ S32x2x1x256.size a := fun v30_1 v30_0 k0_hw5 => k0_hw5.2.2.1.2.2.2.2.2.2.2.2.2.2.2.2.2.2.2.2.2.2.2.2.2.2.2.2.2.2.2.2.2.1
theorem k0_off354_inb : ∀ (v30_1 : BitVec 32) (v30_0 : BitVec 32) (k0_hw5 : k0_chk5 v30_1 v30_0), ∀ a, (k0_off354 v30_1 v30_0) a + S1x1x1x256.size a ≤ S32x2x1x256.size a := fun v30_1 v30_0 k0_hw5 => k0_hw5.2.2.1.2.2.2.2.2.2.2.2.2.2.2.2.2.2.2.2.2.2.2.2.2.2.2.2.2.2.2.2.2.2.1
theorem k0_mult46_dvd : ∀ (v30_1 : BitVec 32) (v30_0 : BitVec 32) (k0_hw5 : k0_chk5 v30_1 v30_0), 256 ∣ (k0_mult46 v30_1 v30_0).toNat := fun v30_1 v30_0 k0_hw5 => k0_hw5.2.2.1.2.2.2.2.2.2.2.2.2.2.2.2.2.2.2.2.2.2.2.2.2.2.2.2.2.2.2.2.2.2.2
theorem k0_off355_inb : ∀ (v30_1 : BitVec 32) (v30_0 : BitVec 32) (k0_hw5 : k0_chk5 v30_1 v30_0), ∀ a, (k0_off355 v30_1 v30_0) a + S1x256x128.size a ≤ S1x8192x128.size a := fun v30_1 v30_0 k0_hw5 => k0_hw5.2.2.2.1.1
theorem k0_off356_inb : ∀ (v30_1 : BitVec 32) (v30_0 : BitVec 32) (k0_hw5 : k0_chk5 v30_1 v30_0), ∀ a, (k0_off356 v30_1 v30_0) a + S1x1x128x256.size a ≤ S32x2x128x256.size a := fun v30_1 v30_0 k0_hw5 => k0_hw5.2.2.2.1.2.1
theorem k0_off357_inb : ∀ (v30_1 : BitVec 32) (v30_0 : BitVec 32) (k0_hw5 : k0_chk5 v30_1 v30_0), ∀ a, (k0_off357 v30_1 v30_0) a + S1x1x128x256.size a ≤ S32x2x128x256.size a := fun v30_1 v30_0 k0_hw5 => k0_hw5.2.2.2.1.2.2.1
theorem k0_off358_inb : ∀ (v30_1 : BitVec 32) (v30_0 : BitVec 32) (k0_hw5 : k0_chk5 v30_1 v30_0), ∀ a, (k0_off358 v30_1 v30_0) a + S1x144x256.size a ≤ S32x144x256.size a := fun v30_1 v30_0 k0_hw5 => k0_hw5.2.2.2.1.2.2.2.1
theorem k0_off359_inb : ∀ (v30_1 : BitVec 32) (v30_0 : BitVec 32) (k0_hw5 : k0_chk5 v30_1 v30_0), ∀ a, (k0_off359 v30_1 v30_0) a + S1x1x144x256.size a ≤ S32x2x144x256.size a := fun v30_1 v30_0 k0_hw5 => k0_hw5.2.2.2.1.2.2.2.2.1
theorem k0_off360_inb : ∀ (v30_1 : BitVec 32) (v30_0 : BitVec 32) (k0_hw5 : k0_chk5 v30_1 v30_0), ∀ a, (k0_off360 v30_1 v30_0) a + S1x1x144x256.size a ≤ S32x2x144x256.size a := fun v30_1 v30_0 k0_hw5 => k0_hw5.2.2.2.1.2.2.2.2.2.1
theorem k0_off361_inb : ∀ (v30_1 : BitVec 32) (v30_0 : BitVec 32) (k0_hw5 : k0_chk5 v30_1 v30_0), ∀ a, (k0_off361 v30_1 v30_0) a + S1x1x1x256.size a ≤ S32x2x1x256.size a := fun v30_1 v30_0 k0_hw5 => k0_hw5.2.2.2.1.2.2.2.2.2.2.1
theorem k0_off362_inb : ∀ (v30_1 : BitVec 32) (v30_0 : BitVec 32) (k0_hw5 : k0_chk5 v30_1 v30_0), ∀ a, (k0_off362 v30_1 v30_0) a + S1x1x1x256.size a ≤ S32x2x1x256.size a := fun v30_1 v30_0 k0_hw5 => k0_hw5.2.2.2.1.2.2.2.2.2.2.2.1
theorem k0_mult47_dvd : ∀ (v30_1 : BitVec 32) (v30_0 : BitVec 32) (k0_hw5 : k0_chk5 v30_1 v30_0), 256 ∣ (k0_mult47 v30_1 v30_0).toNat := fun v30_1 v30_0 k0_hw5 => k0_hw5.2.2.2.1.2.2.2.2.2.2.2.2.1
theorem k0_off363_inb : ∀ (v30_1 : BitVec 32) (v30_0 : BitVec 32) (k0_hw5 : k0_chk5 v30_1 v30_0), ∀ a, (k0_off363 v30_1 v30_0) a + S1x256x128.size a ≤ S1x8192x128.size a := fun v30_1 v30_0 k0_hw5 => k0_hw5.2.2.2.1.2.2.2.2.2.2.2.2.2.1
theorem k0_off364_inb : ∀ (v30_1 : BitVec 32) (v30_0 : BitVec 32) (k0_hw5 : k0_chk5 v30_1 v30_0), ∀ a, (k0_off364 v30_1 v30_0) a + S1x1x128x256.size a ≤ S32x2x128x256.size a := fun v30_1 v30_0 k0_hw5 => k0_hw5.2.2.2.1.2.2.2.2.2.2.2.2.2.2.1
theorem k0_off365_inb : ∀ (v30_1 : BitVec 32) (v30_0 : BitVec 32) (k0_hw5 : k0_chk5 v30_1 v30_0), ∀ a, (k0_off365 v30_1 v30_0) a + S1x1x128x256.size a ≤ S32x2x128x256.size a := fun v30_1 v30_0 k0_hw5 => k0_hw5.2.2.2.1.2.2.2.2.2.2.2.2.2.2.2.1
theorem k0_off366_inb : ∀ (v30_1 : BitVec 32) (v30_0 : BitVec 32) (k0_hw5 : k0_chk5 v30_1 v30_0), ∀ a, (k0_off366 v30_1 v30_0) a + S1x144x256.size a ≤ S32x144x256.size a := fun v30_1 v30_0 k0_hw5 => k0_hw5.2.2.2.1.2.2.2.2.2.2.2.2.2.2.2.2.1
theorem k0_off367_inb : ∀ (v30_1 : BitVec 32) (v30_0 : BitVec 32) (k0_hw5 : k0_chk5 v30_1 v30_0), ∀ a, (k0_off367 v30_1 v30_0) a + S1x1x144x256.size a ≤ S32x2x144x256.size a := fun v30_1 v30_0 k0_hw5 => k0_hw5.2.2.2.1.2.2.2.2.2.2.2.2.2.2.2.2.2.1
theorem k0_off368_inb : ∀ (v30_1 : BitVec 32) (v30_0 : BitVec 32) (k0_hw5 : k0_chk5 v30_1 v30_0), ∀ a, (k0_off368 v30_1 v30_0) a + S1x1x144x256.size a ≤ S32x2x144x256.size a := fun v30_1 v30_0 k0_hw5 => k0_hw5.2.2.2.1.2.2.2.2.2.2.2.2.2.2.2.2.2.2.1
theorem k0_off369_inb : ∀ (v30_1 : BitVec 32) (v30_0 : BitVec 32) (k0_hw5 : k0_chk5 v30_1 v30_0), ∀ a, (k0_off369 v30_1 v30_0) a + S1x1x1x256.size a ≤ S32x2x1x256.size a := fun v30_1 v30_0 k0_hw5 => k0_hw5.2.2.2.1.2.2.2.2.2.2.2.2.2.2.2.2.2.2.2.1
theorem k0_off370_inb : ∀ (v30_1 : BitVec 32) (v30_0 : BitVec 32) (k0_hw5 : k0_chk5 v30_1 v30_0), ∀ a, (k0_off370 v30_1 v30_0) a + S1x1x1x256.size a ≤ S32x2x1x256.size a := fun v30_1 v30_0 k0_hw5 => k0_hw5.2.2.2.1.2.2.2.2.2.2.2.2.2.2.2.2.2.2.2.2.1
theorem k0_mult48_dvd : ∀ (v30_1 : BitVec 32) (v30_0 : BitVec 32) (k0_hw5 : k0_chk5 v30_1 v30_0), 256 ∣ (k0_mult48 v30_1 v30_0).toNat := fun v30_1 v30_0 k0_hw5 => k0_hw5.2.2.2.1.2.2.2.2.2.2.2.2.2.2.2.2.2.2.2.2.2.1
theorem k0_off371_inb : ∀ (v30_1 : BitVec 32) (v30_0 : BitVec 32) (k0_hw5 : k0_chk5 v30_1 v30_0), ∀ a, (k0_off371 v30_1 v30_0) a + S1x256x128.size a ≤ S1x8192x128.size a := fun v30_1 v30_0 k0_hw5 => k0_hw5.2.2.2.1.2.2.2.2.2.2.2.2.2.2.2.2.2.2.2.2.2.2.1
theorem k0_off372_inb : ∀ (v30_1 : BitVec 32) (v30_0 : BitVec 32) (k0_hw5 : k0_chk5 v30_1 v30_0), ∀ a, (k0_off372 v30_1 v30_0) a + S1x1x128x256.size a ≤ S32x2x128x256.size a := fun v30_1 v30_0 k0_hw5 => k0_hw5.2.2.2.1.2.2.2.2.2.2.2.2.2.2.2.2.2.2.2.2.2.2.2.1
theorem k0_off373_inb : ∀ (v30_1 : BitVec 32) (v30_0 : BitVec 32) (k0_hw5 : k0_chk5 v30_1 v30_0), ∀ a, (k0_off373 v30_1 v30_0) a + S1x1x128x256.size a ≤ S32x2x128x256.size a := fun v30_1 v30_0 k0_hw5 => k0_hw5.2.2.2.1.2.2.2.2.2.2.2.2.2.2.2.2.2.2.2.2.2.2.2.2.1
theorem k0_off374_inb : ∀ (v30_1 : BitVec 32) (v30_0 : BitVec 32) (k0_hw5 : k0_chk5 v30_1 v30_0), ∀ a, (k0_off374 v30_1 v30_0) a + S1x144x256.size a ≤ S32x144x256.size a := fun v30_1 v30_0 k0_hw5 => k0_hw5.2.2.2.1.2.2.2.2.2.2.2.2.2.2.2.2.2.2.2.2.2.2.2.2.2.1
theorem k0_off375_inb : ∀ (v30_1 : BitVec 32) (v30_0 : BitVec 32) (k0_hw5 : k0_chk5 v30_1 v30_0), ∀ a, (k0_off375 v30_1 v30_0) a + S1x1x144x256.size a ≤ S32x2x144x256.size a := fun v30_1 v30_0 k0_hw5 => k0_hw5.2.2.2.1.2.2.2.2.2.2.2.2.2.2.2.2.2.2.2.2.2.2.2.2.2.2.1
theorem k0_off376_inb : ∀ (v30_1 : BitVec 32) (v30_0 : BitVec 32) (k0_hw5 : k0_chk5 v30_1 v30_0), ∀ a, (k0_off376 v30_1 v30_0) a + S1x1x144x256.size a ≤ S32x2x144x256.size a := fun v30_1 v30_0 k0_hw5 => k0_hw5.2.2.2.1.2.2.2.2.2.2.2.2.2.2.2.2.2.2.2.2.2.2.2.2.2.2.2.1
theorem k0_off377_inb : ∀ (v30_1 : BitVec 32) (v30_0 : BitVec 32) (k0_hw5 : k0_chk5 v30_1 v30_0), ∀ a, (k0_off377 v30_1 v30_0) a + S1x1x1x256.size a ≤ S32x2x1x256.size a := fun v30_1 v30_0 k0_hw5 => k0_hw5.2.2.2.1.2.2.2.2.2.2.2.2.2.2.2.2.2.2.2.2.2.2.2.2.2.2.2.2.1
theorem k0_off378_inb : ∀ (v30_1 : BitVec 32) (v30_0 : BitVec 32) (k0_hw5 : k0_chk5 v30_1 v30_0), ∀ a, (k0_off378 v30_1 v30_0) a + S1x1x1x256.size a ≤ S32x2x1x256.size a := fun v30_1 v30_0 k0_hw5 => k0_hw5.2.2.2.1.2.2.2.2.2.2.2.2.2.2.2.2.2.2.2.2.2.2.2.2.2.2.2.2.2.1
theorem k0_mult49_dvd : ∀ (v30_1 : BitVec 32) (v30_0 : BitVec 32) (k0_hw5 : k0_chk5 v30_1 v30_0), 256 ∣ (k0_mult49 v30_1 v30_0).toNat := fun v30_1 v30_0 k0_hw5 => k0_hw5.2.2.2.1.2.2.2.2.2.2.2.2.2.2.2.2.2.2.2.2.2.2.2.2.2.2.2.2.2.2.1
theorem k0_off379_inb : ∀ (v30_1 : BitVec 32) (v30_0 : BitVec 32) (k0_hw5 : k0_chk5 v30_1 v30_0), ∀ a, (k0_off379 v30_1 v30_0) a + S1x256x128.size a ≤ S1x8192x128.size a := fun v30_1 v30_0 k0_hw5 => k0_hw5.2.2.2.1.2.2.2.2.2.2.2.2.2.2.2.2.2.2.2.2.2.2.2.2.2.2.2.2.2.2.2.1
theorem k0_off380_inb : ∀ (v30_1 : BitVec 32) (v30_0 : BitVec 32) (k0_hw5 : k0_chk5 v30_1 v30_0), ∀ a, (k0_off380 v30_1 v30_0) a + S1x1x128x256.size a ≤ S32x2x128x256.size a := fun v30_1 v30_0 k0_hw5 => k0_hw5.2.2.2.1.2.2.2.2.2.2.2.2.2.2.2.2.2.2.2.2.2.2.2.2.2.2.2.2.2.2.2.2.1
theorem k0_off381_inb : ∀ (v30_1 : BitVec 32) (v30_0 : BitVec 32) (k0_hw5 : k0_chk5 v30_1 v30_0), ∀ a, (k0_off381 v30_1 v30_0) a + S1x1x128x256.size a ≤ S32x2x128x256.size a := fun v30_1 v30_0 k0_hw5 => k0_hw5.2.2.2.1.2.2.2.2.2.2.2.2.2.2.2.2.2.2.2.2.2.2.2.2.2.2.2.2.2.2.2.2.2.1
theorem k0_off382_inb : ∀ (v30_1 : BitVec 32) (v30_0 : BitVec 32) (k0_hw5 : k0_chk5 v30_1 v30_0), ∀ a, (k0_off382 v30_1 v30_0) a + S1x144x256.size a ≤ S32x144x256.size a := fun v30_1 v30_0 k0_hw5 => k0_hw5.2.2.2.1.2.2.2.2.2.2.2.2.2.2.2.2.2.2.2.2.2.2.2.2.2.2.2.2.2.2.2.2.2.2.1
theorem k0_off383_inb : ∀ (v30_1 : BitVec 32) (v30_0 : BitVec 32) (k0_hw5 : k0_chk5 v30_1 v30_0), ∀ a, (k0_off383 v30_1 v30_0) a + S1x1x144x256.size a ≤ S32x2x144x256.size a := fun v30_1 v30_0 k0_hw5 => k0_hw5.2.2.2.1.2.2.2.2.2.2.2.2.2.2.2.2.2.2.2.2.2.2.2.2.2.2.2.2.2.2.2.2.2.2.2
theorem k0_off384_inb : ∀ (v30_1 : BitVec 32) (v30_0 : BitVec 32) (k0_hw5 : k0_chk5 v30_1 v30_0), ∀ a, (k0_off384 v30_1 v30_0) a + S1x1x144x256.size a ≤ S32x2x144x256.size a := fun v30_1 v30_0 k0_hw5 => k0_hw5.2.2.2.2.1
theorem k0_off385_inb : ∀ (v30_1 : BitVec 32) (v30_0 : BitVec 32) (k0_hw5 : k0_chk5 v30_1 v30_0), ∀ a, (k0_off385 v30_1 v30_0) a + S1x1x1x256.size a ≤ S32x2x1x256.size a := fun v30_1 v30_0 k0_hw5 => k0_hw5.2.2.2.2.2.1
theorem k0_off386_inb : ∀ (v30_1 : BitVec 32) (v30_0 : BitVec 32) (k0_hw5 : k0_chk5 v30_1 v30_0), ∀ a, (k0_off386 v30_1 v30_0) a + S1x1x1x256.size a ≤ S32x2x1x256.size a := fun v30_1 v30_0 k0_hw5 => k0_hw5.2.2.2.2.2.2.1
theorem k0_mult50_dvd : ∀ (v30_1 : BitVec 32) (v30_0 : BitVec 32) (k0_hw5 : k0_chk5 v30_1 v30_0), 256 ∣ (k0_mult50 v30_1 v30_0).toNat := fun v30_1 v30_0 k0_hw5 => k0_hw5.2.2.2.2.2.2.2.1
theorem k0_off387_inb : ∀ (v30_1 : BitVec 32) (v30_0 : BitVec 32) (k0_hw5 : k0_chk5 v30_1 v30_0), ∀ a, (k0_off387 v30_1 v30_0) a + S1x256x128.size a ≤ S1x8192x128.size a := fun v30_1 v30_0 k0_hw5 => k0_hw5.2.2.2.2.2.2.2.2.1
theorem k0_off388_inb : ∀ (v30_1 : BitVec 32) (v30_0 : BitVec 32) (k0_hw5 : k0_chk5 v30_1 v30_0), ∀ a, (k0_off388 v30_1 v30_0) a + S1x1x128x256.size a ≤ S32x2x128x256.size a := fun v30_1 v30_0 k0_hw5 => k0_hw5.2.2.2.2.2.2.2.2.2.1
theorem k0_off389_inb : ∀ (v30_1 : BitVec 32) (v30_0 : BitVec 32) (k0_hw5 : k0_chk5 v30_1 v30_0), ∀ a, (k0_off389 v30_1 v30_0) a + S1x1x128x256.size a ≤ S32x2x128x256.size a := fun v30_1 v30_0 k0_hw5 => k0_hw5.2.2.2.2.2.2.2.2.2.2.1
theorem k0_off390_inb : ∀ (v30_1 : BitVec 32) (v30_0 : BitVec 32) (k0_hw5 : k0_chk5 v30_1 v30_0), ∀ a, (k0_off390 v30_1 v30_0) a + S1x144x256.size a ≤ S32x144x256.size a := fun v30_1 v30_0 k0_hw5 => k0_hw5.2.2.2.2.2.2.2.2.2.2.2.1
theorem k0_off391_inb : ∀ (v30_1 : BitVec 32) (v30_0 : BitVec 32) (k0_hw5 : k0_chk5 v30_1 v30_0), ∀ a, (k0_off391 v30_1 v30_0) a + S1x1x144x256.size a ≤ S32x2x144x256.size a := fun v30_1 v30_0 k0_hw5 => k0_hw5.2.2.2.2.2.2.2.2.2.2.2.2.1
theorem k0_off392_inb : ∀ (v30_1 : BitVec 32) (v30_0 : BitVec 32) (k0_hw5 : k0_chk5 v30_1 v30_0), ∀ a, (k0_off392 v30_1 v30_0) a + S1x1x144x256.size a ≤ S32x2x144x256.size a := fun v30_1 v30_0 k0_hw5 => k0_hw5.2.2.2.2.2.2.2.2.2.2.2.2.2.1
theorem k0_off393_inb : ∀ (v30_1 : BitVec 32) (v30_0 : BitVec 32) (k0_hw5 : k0_chk5 v30_1 v30_0), ∀ a, (k0_off393 v30_1 v30_0) a + S1x1x1x256.size a ≤ S32x2x1x256.size a := fun v30_1 v30_0 k0_hw5 => k0_hw5.2.2.2.2.2.2.2.2.2.2.2.2.2.2.1
theorem k0_off394_inb : ∀ (v30_1 : BitVec 32) (v30_0 : BitVec 32) (k0_hw5 : k0_chk5 v30_1 v30_0), ∀ a, (k0_off394 v30_1 v30_0) a + S1x1x1x256.size a ≤ S32x2x1x256.size a := fun v30_1 v30_0 k0_hw5 => k0_hw5.2.2.2.2.2.2.2.2.2.2.2.2.2.2.2.1
theorem k0_off395_inb : ∀ (v30_1 : BitVec 32) (v30_0 : BitVec 32) (k0_hw5 : k0_chk5 v30_1 v30_0), ∀ a, (k0_off395 v30_1 v30_0) a + S1x144x256.size a ≤ S32x144x256.size a := fun v30_1 v30_0 k0_hw5 => k0_hw5.2.2.2.2.2.2.2.2.2.2.2.2.2.2.2.2.1
theorem k0_off396_inb : ∀ (v30_1 : BitVec 32) (v30_0 : BitVec 32) (k0_hw5 : k0_chk5 v30_1 v30_0), ∀ a, (k0_off396 v30_1 v30_0) a + S1x1x144x256.size a ≤ S32x2x144x256.size a := fun v30_1 v30_0 k0_hw5 => k0_hw5.2.2.2.2.2.2.2.2.2.2.2.2.2.2.2.2.2.1
theorem k0_off397_inb : ∀ (v30_1 : BitVec 32) (v30_0 : BitVec 32) (k0_hw5 : k0_chk5 v30_1 v30_0), ∀ a, (k0_off397 v30_1 v30_0) a + S1x1x144x256.size a ≤ S32x2x144x256.size a := fun v30_1 v30_0 k0_hw5 => k0_hw5.2.2.2.2.2.2.2.2.2.2.2.2.2.2.2.2.2.2

def k0_mult51 : BitVec 32 :=
  let c0_i32_1620 : BitVec 32 := 0#32
  let c256_i32_1621 : BitVec 32 := 256#32
  let v1843 : BitVec 32 := Scalar.muli c0_i32_1620 c256_i32_1621
  v1843
def k0_off398 : Fin 3 → Nat :=
  let c0_1622 : Index := 0#32
  let c0_i32_1620 : BitVec 32 := 0#32
  let c256_i32_1621 : BitVec 32 := 256#32
  let v1843 : BitVec 32 := Scalar.muli c0_i32_1620 c256_i32_1621
  let v1844 : BitVec 32 := v1843
  let v1845 : Index := Scalar.indexCast v1844
  let c0_1623 : Index := 0#32
  ![0, v1845.toNat, 0]
def k0_mult52 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c256_i32_1661 : BitVec 32 := 256#32
  let v1872 : BitVec 32 := Scalar.muli v1871 c256_i32_1661
  v1872
def k0_off399 : Fin 3 → Nat :=
  let c0_1662 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c256_i32_1661 : BitVec 32 := 256#32
  let v1872 : BitVec 32 := Scalar.muli v1871 c256_i32_1661
  let v1873 : BitVec 32 := v1872
  let v1874 : Index := Scalar.indexCast v1873
  let c0_1663 : Index := 0#32
  ![0, v1874.toNat, 0]
def k0_off400 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v1877 : Index := Scalar.indexCast v1870
  let c0_1664 : Index := 0#32
  let c0_1665 : Index := 0#32
  let c0_1666 : Index := 0#32
  ![v1877.toNat, 0, 0, 0]
def k0_off401 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v1884 : Index := Scalar.indexCast v1870
  let c1_1672 : Index := 1#32
  let c0_1673 : Index := 0#32
  let c0_1674 : Index := 0#32
  ![v1884.toNat, 1, 0, 0]
def k0_mult53 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c256_i32_1758 : BitVec 32 := 256#32
  let v1989 : BitVec 32 := Scalar.muli v1988 c256_i32_1758
  v1989
def k0_off402 : Fin 3 → Nat :=
  let c0_1759 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c256_i32_1758 : BitVec 32 := 256#32
  let v1989 : BitVec 32 := Scalar.muli v1988 c256_i32_1758
  let v1990 : BitVec 32 := v1989
  let v1991 : Index := Scalar.indexCast v1990
  let c0_1760 : Index := 0#32
  ![0, v1991.toNat, 0]
def k0_off403 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v1994 : Index := Scalar.indexCast v1987
  let c0_1761 : Index := 0#32
  let c0_1762 : Index := 0#32
  let c0_1763 : Index := 0#32
  ![v1994.toNat, 0, 0, 0]
def k0_off404 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v2001 : Index := Scalar.indexCast v1987
  let c1_1769 : Index := 1#32
  let c0_1770 : Index := 0#32
  let c0_1771 : Index := 0#32
  ![v2001.toNat, 1, 0, 0]
def k0_off405 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v2051 : Index := Scalar.indexCast v1870
  let c0_1816 : Index := 0#32
  let c0_1817 : Index := 0#32
  let c0_1818 : Index := 0#32
  ![v2051.toNat, 0, 0, 0]
def k0_off406 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v2080 : Index := Scalar.indexCast v1870
  let c1_1836 : Index := 1#32
  let c0_1837 : Index := 0#32
  let c0_1838 : Index := 0#32
  ![v2080.toNat, 1, 0, 0]
def k0_mult54 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c256_i32_1855 : BitVec 32 := 256#32
  let v2106 : BitVec 32 := Scalar.muli v2105 c256_i32_1855
  v2106
def k0_off407 : Fin 3 → Nat :=
  let c0_1856 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c256_i32_1855 : BitVec 32 := 256#32
  let v2106 : BitVec 32 := Scalar.muli v2105 c256_i32_1855
  let v2107 : BitVec 32 := v2106
  let v2108 : Index := Scalar.indexCast v2107
  let c0_1857 : Index := 0#32
  ![0, v2108.toNat, 0]
def k0_off408 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2111 : Index := Scalar.indexCast v2104
  let c0_1858 : Index := 0#32
  let c0_1859 : Index := 0#32
  let c0_1860 : Index := 0#32
  ![v2111.toNat, 0, 0, 0]
def k0_off409 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2118 : Index := Scalar.indexCast v2104
  let c1_1866 : Index := 1#32
  let c0_1867 : Index := 0#32
  let c0_1868 : Index := 0#32
  ![v2118.toNat, 1, 0, 0]
def k0_off410 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let v2125 : Index := Scalar.indexCast v1871
  let c0_1874 : Index := 0#32
  let c0_1875 : Index := 0#32
  ![v2125.toNat, 0, 0]
def k0_off411 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v2133 : Index := Scalar.indexCast v1870
  let c0_1885 : Index := 0#32
  let c0_1886 : Index := 0#32
  let c0_1887 : Index := 0#32
  ![v2133.toNat, 0, 0, 0]
def k0_off412 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let v2151 : Index := Scalar.indexCast v1870
  let c1_1902 : Index := 1#32
  let c0_1903 : Index := 0#32
  let c0_1904 : Index := 0#32
  ![v2151.toNat, 1, 0, 0]
def k0_off413 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v2168 : Index := Scalar.indexCast v1987
  let c0_1913 : Index := 0#32
  let c0_1914 : Index := 0#32
  let c0_1915 : Index := 0#32
  ![v2168.toNat, 0, 0, 0]
def k0_off414 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v2197 : Index := Scalar.indexCast v1987
  let c1_1933 : Index := 1#32
  let c0_1934 : Index := 0#32
  let c0_1935 : Index := 0#32
  ![v2197.toNat, 1, 0, 0]
def k0_mult55 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c256_i32_1952 : BitVec 32 := 256#32
  let v2223 : BitVec 32 := Scalar.muli v2222 c256_i32_1952
  v2223
def k0_off415 : Fin 3 → Nat :=
  let c0_1953 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c256_i32_1952 : BitVec 32 := 256#32
  let v2223 : BitVec 32 := Scalar.muli v2222 c256_i32_1952
  let v2224 : BitVec 32 := v2223
  let v2225 : Index := Scalar.indexCast v2224
  let c0_1954 : Index := 0#32
  ![0, v2225.toNat, 0]
def k0_off416 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2228 : Index := Scalar.indexCast v2221
  let c0_1955 : Index := 0#32
  let c0_1956 : Index := 0#32
  let c0_1957 : Index := 0#32
  ![v2228.toNat, 0, 0, 0]
def k0_off417 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2235 : Index := Scalar.indexCast v2221
  let c1_1963 : Index := 1#32
  let c0_1964 : Index := 0#32
  let c0_1965 : Index := 0#32
  ![v2235.toNat, 1, 0, 0]
def k0_off418 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let v2242 : Index := Scalar.indexCast v1988
  let c0_1971 : Index := 0#32
  let c0_1972 : Index := 0#32
  ![v2242.toNat, 0, 0]
def k0_off419 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v2250 : Index := Scalar.indexCast v1987
  let c0_1982 : Index := 0#32
  let c0_1983 : Index := 0#32
  let c0_1984 : Index := 0#32
  ![v2250.toNat, 0, 0, 0]
def k0_off420 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let v2268 : Index := Scalar.indexCast v1987
  let c1_1999 : Index := 1#32
  let c0_2000 : Index := 0#32
  let c0_2001 : Index := 0#32
  ![v2268.toNat, 1, 0, 0]
def k0_off421 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2285 : Index := Scalar.indexCast v2104
  let c0_2010 : Index := 0#32
  let c0_2011 : Index := 0#32
  let c0_2012 : Index := 0#32
  ![v2285.toNat, 0, 0, 0]
def k0_off422 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2314 : Index := Scalar.indexCast v2104
  let c1_2030 : Index := 1#32
  let c0_2031 : Index := 0#32
  let c0_2032 : Index := 0#32
  ![v2314.toNat, 1, 0, 0]
def k0_mult56 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c256_i32_2049 : BitVec 32 := 256#32
  let v2340 : BitVec 32 := Scalar.muli v2339 c256_i32_2049
  v2340
def k0_off423 : Fin 3 → Nat :=
  let c0_2050 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c256_i32_2049 : BitVec 32 := 256#32
  let v2340 : BitVec 32 := Scalar.muli v2339 c256_i32_2049
  let v2341 : BitVec 32 := v2340
  let v2342 : Index := Scalar.indexCast v2341
  let c0_2051 : Index := 0#32
  ![0, v2342.toNat, 0]
def k0_off424 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2345 : Index := Scalar.indexCast v2338
  let c0_2052 : Index := 0#32
  let c0_2053 : Index := 0#32
  let c0_2054 : Index := 0#32
  ![v2345.toNat, 0, 0, 0]
def k0_off425 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2352 : Index := Scalar.indexCast v2338
  let c1_2060 : Index := 1#32
  let c0_2061 : Index := 0#32
  let c0_2062 : Index := 0#32
  ![v2352.toNat, 1, 0, 0]
def k0_off426 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let v2359 : Index := Scalar.indexCast v2105
  let c0_2068 : Index := 0#32
  let c0_2069 : Index := 0#32
  ![v2359.toNat, 0, 0]
def k0_off427 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2367 : Index := Scalar.indexCast v2104
  let c0_2079 : Index := 0#32
  let c0_2080 : Index := 0#32
  let c0_2081 : Index := 0#32
  ![v2367.toNat, 0, 0, 0]
def k0_off428 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let v2385 : Index := Scalar.indexCast v2104
  let c1_2096 : Index := 1#32
  let c0_2097 : Index := 0#32
  let c0_2098 : Index := 0#32
  ![v2385.toNat, 1, 0, 0]
def k0_off429 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2402 : Index := Scalar.indexCast v2221
  let c0_2107 : Index := 0#32
  let c0_2108 : Index := 0#32
  let c0_2109 : Index := 0#32
  ![v2402.toNat, 0, 0, 0]
def k0_off430 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2431 : Index := Scalar.indexCast v2221
  let c1_2127 : Index := 1#32
  let c0_2128 : Index := 0#32
  let c0_2129 : Index := 0#32
  ![v2431.toNat, 1, 0, 0]
def k0_mult57 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c256_i32_2146 : BitVec 32 := 256#32
  let v2457 : BitVec 32 := Scalar.muli v2456 c256_i32_2146
  v2457
def k0_off431 : Fin 3 → Nat :=
  let c0_2147 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c256_i32_2146 : BitVec 32 := 256#32
  let v2457 : BitVec 32 := Scalar.muli v2456 c256_i32_2146
  let v2458 : BitVec 32 := v2457
  let v2459 : Index := Scalar.indexCast v2458
  let c0_2148 : Index := 0#32
  ![0, v2459.toNat, 0]
def k0_off432 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2462 : Index := Scalar.indexCast v2455
  let c0_2149 : Index := 0#32
  let c0_2150 : Index := 0#32
  let c0_2151 : Index := 0#32
  ![v2462.toNat, 0, 0, 0]
def k0_off433 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2469 : Index := Scalar.indexCast v2455
  let c1_2157 : Index := 1#32
  let c0_2158 : Index := 0#32
  let c0_2159 : Index := 0#32
  ![v2469.toNat, 1, 0, 0]
def k0_off434 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let v2476 : Index := Scalar.indexCast v2222
  let c0_2165 : Index := 0#32
  let c0_2166 : Index := 0#32
  ![v2476.toNat, 0, 0]
def k0_off435 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2484 : Index := Scalar.indexCast v2221
  let c0_2176 : Index := 0#32
  let c0_2177 : Index := 0#32
  let c0_2178 : Index := 0#32
  ![v2484.toNat, 0, 0, 0]
def k0_off436 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let v2502 : Index := Scalar.indexCast v2221
  let c1_2193 : Index := 1#32
  let c0_2194 : Index := 0#32
  let c0_2195 : Index := 0#32
  ![v2502.toNat, 1, 0, 0]
def k0_off437 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2519 : Index := Scalar.indexCast v2338
  let c0_2204 : Index := 0#32
  let c0_2205 : Index := 0#32
  let c0_2206 : Index := 0#32
  ![v2519.toNat, 0, 0, 0]
def k0_off438 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2548 : Index := Scalar.indexCast v2338
  let c1_2224 : Index := 1#32
  let c0_2225 : Index := 0#32
  let c0_2226 : Index := 0#32
  ![v2548.toNat, 1, 0, 0]
def k0_mult58 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c256_i32_2243 : BitVec 32 := 256#32
  let v2574 : BitVec 32 := Scalar.muli v2573 c256_i32_2243
  v2574
def k0_off439 : Fin 3 → Nat :=
  let c0_2244 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c256_i32_2243 : BitVec 32 := 256#32
  let v2574 : BitVec 32 := Scalar.muli v2573 c256_i32_2243
  let v2575 : BitVec 32 := v2574
  let v2576 : Index := Scalar.indexCast v2575
  let c0_2245 : Index := 0#32
  ![0, v2576.toNat, 0]
def k0_off440 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2579 : Index := Scalar.indexCast v2572
  let c0_2246 : Index := 0#32
  let c0_2247 : Index := 0#32
  let c0_2248 : Index := 0#32
  ![v2579.toNat, 0, 0, 0]
def k0_off441 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2586 : Index := Scalar.indexCast v2572
  let c1_2254 : Index := 1#32
  let c0_2255 : Index := 0#32
  let c0_2256 : Index := 0#32
  ![v2586.toNat, 1, 0, 0]
def k0_off442 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let v2593 : Index := Scalar.indexCast v2339
  let c0_2262 : Index := 0#32
  let c0_2263 : Index := 0#32
  ![v2593.toNat, 0, 0]
def k0_off443 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2601 : Index := Scalar.indexCast v2338
  let c0_2273 : Index := 0#32
  let c0_2274 : Index := 0#32
  let c0_2275 : Index := 0#32
  ![v2601.toNat, 0, 0, 0]
def k0_off444 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let v2619 : Index := Scalar.indexCast v2338
  let c1_2290 : Index := 1#32
  let c0_2291 : Index := 0#32
  let c0_2292 : Index := 0#32
  ![v2619.toNat, 1, 0, 0]
def k0_off445 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2636 : Index := Scalar.indexCast v2455
  let c0_2301 : Index := 0#32
  let c0_2302 : Index := 0#32
  let c0_2303 : Index := 0#32
  ![v2636.toNat, 0, 0, 0]
def k0_off446 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2665 : Index := Scalar.indexCast v2455
  let c1_2321 : Index := 1#32
  let c0_2322 : Index := 0#32
  let c0_2323 : Index := 0#32
  ![v2665.toNat, 1, 0, 0]
def k0_mult59 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c256_i32_2340 : BitVec 32 := 256#32
  let v2691 : BitVec 32 := Scalar.muli v2690 c256_i32_2340
  v2691
def k0_off447 : Fin 3 → Nat :=
  let c0_2341 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c256_i32_2340 : BitVec 32 := 256#32
  let v2691 : BitVec 32 := Scalar.muli v2690 c256_i32_2340
  let v2692 : BitVec 32 := v2691
  let v2693 : Index := Scalar.indexCast v2692
  let c0_2342 : Index := 0#32
  ![0, v2693.toNat, 0]
def k0_off448 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2696 : Index := Scalar.indexCast v2689
  let c0_2343 : Index := 0#32
  let c0_2344 : Index := 0#32
  let c0_2345 : Index := 0#32
  ![v2696.toNat, 0, 0, 0]
def k0_off449 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2703 : Index := Scalar.indexCast v2689
  let c1_2351 : Index := 1#32
  let c0_2352 : Index := 0#32
  let c0_2353 : Index := 0#32
  ![v2703.toNat, 1, 0, 0]
def k0_off450 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let v2710 : Index := Scalar.indexCast v2456
  let c0_2359 : Index := 0#32
  let c0_2360 : Index := 0#32
  ![v2710.toNat, 0, 0]
def k0_off451 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2718 : Index := Scalar.indexCast v2455
  let c0_2370 : Index := 0#32
  let c0_2371 : Index := 0#32
  let c0_2372 : Index := 0#32
  ![v2718.toNat, 0, 0, 0]
def k0_off452 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let v2736 : Index := Scalar.indexCast v2455
  let c1_2387 : Index := 1#32
  let c0_2388 : Index := 0#32
  let c0_2389 : Index := 0#32
  ![v2736.toNat, 1, 0, 0]
def k0_off453 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2753 : Index := Scalar.indexCast v2572
  let c0_2398 : Index := 0#32
  let c0_2399 : Index := 0#32
  let c0_2400 : Index := 0#32
  ![v2753.toNat, 0, 0, 0]
def k0_off454 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2782 : Index := Scalar.indexCast v2572
  let c1_2418 : Index := 1#32
  let c0_2419 : Index := 0#32
  let c0_2420 : Index := 0#32
  ![v2782.toNat, 1, 0, 0]
def k0_mult60 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c256_i32_2437 : BitVec 32 := 256#32
  let v2808 : BitVec 32 := Scalar.muli v2807 c256_i32_2437
  v2808
def k0_off455 : Fin 3 → Nat :=
  let c0_2438 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c256_i32_2437 : BitVec 32 := 256#32
  let v2808 : BitVec 32 := Scalar.muli v2807 c256_i32_2437
  let v2809 : BitVec 32 := v2808
  let v2810 : Index := Scalar.indexCast v2809
  let c0_2439 : Index := 0#32
  ![0, v2810.toNat, 0]
def k0_off456 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v2813 : Index := Scalar.indexCast v2806
  let c0_2440 : Index := 0#32
  let c0_2441 : Index := 0#32
  let c0_2442 : Index := 0#32
  ![v2813.toNat, 0, 0, 0]
def k0_off457 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v2820 : Index := Scalar.indexCast v2806
  let c1_2448 : Index := 1#32
  let c0_2449 : Index := 0#32
  let c0_2450 : Index := 0#32
  ![v2820.toNat, 1, 0, 0]
def k0_off458 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let v2827 : Index := Scalar.indexCast v2573
  let c0_2456 : Index := 0#32
  let c0_2457 : Index := 0#32
  ![v2827.toNat, 0, 0]
def k0_off459 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2835 : Index := Scalar.indexCast v2572
  let c0_2467 : Index := 0#32
  let c0_2468 : Index := 0#32
  let c0_2469 : Index := 0#32
  ![v2835.toNat, 0, 0, 0]
def k0_off460 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let v2853 : Index := Scalar.indexCast v2572
  let c1_2484 : Index := 1#32
  let c0_2485 : Index := 0#32
  let c0_2486 : Index := 0#32
  ![v2853.toNat, 1, 0, 0]
def k0_off461 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2870 : Index := Scalar.indexCast v2689
  let c0_2495 : Index := 0#32
  let c0_2496 : Index := 0#32
  let c0_2497 : Index := 0#32
  ![v2870.toNat, 0, 0, 0]
def k0_off462 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2899 : Index := Scalar.indexCast v2689
  let c1_2515 : Index := 1#32
  let c0_2516 : Index := 0#32
  let c0_2517 : Index := 0#32
  ![v2899.toNat, 1, 0, 0]
def k0_mult61 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c256_i32_2534 : BitVec 32 := 256#32
  let v2925 : BitVec 32 := Scalar.muli v2924 c256_i32_2534
  v2925
def k0_off463 : Fin 3 → Nat :=
  let c0_2535 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c256_i32_2534 : BitVec 32 := 256#32
  let v2925 : BitVec 32 := Scalar.muli v2924 c256_i32_2534
  let v2926 : BitVec 32 := v2925
  let v2927 : Index := Scalar.indexCast v2926
  let c0_2536 : Index := 0#32
  ![0, v2927.toNat, 0]
def k0_off464 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v2930 : Index := Scalar.indexCast v2923
  let c0_2537 : Index := 0#32
  let c0_2538 : Index := 0#32
  let c0_2539 : Index := 0#32
  ![v2930.toNat, 0, 0, 0]
def k0_off465 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v2937 : Index := Scalar.indexCast v2923
  let c1_2545 : Index := 1#32
  let c0_2546 : Index := 0#32
  let c0_2547 : Index := 0#32
  ![v2937.toNat, 1, 0, 0]
def k0_off466 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let v2944 : Index := Scalar.indexCast v2690
  let c0_2553 : Index := 0#32
  let c0_2554 : Index := 0#32
  ![v2944.toNat, 0, 0]
def k0_off467 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2952 : Index := Scalar.indexCast v2689
  let c0_2564 : Index := 0#32
  let c0_2565 : Index := 0#32
  let c0_2566 : Index := 0#32
  ![v2952.toNat, 0, 0, 0]
def k0_off468 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let v2970 : Index := Scalar.indexCast v2689
  let c1_2581 : Index := 1#32
  let c0_2582 : Index := 0#32
  let c0_2583 : Index := 0#32
  ![v2970.toNat, 1, 0, 0]
def k0_off469 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v2987 : Index := Scalar.indexCast v2806
  let c0_2592 : Index := 0#32
  let c0_2593 : Index := 0#32
  let c0_2594 : Index := 0#32
  ![v2987.toNat, 0, 0, 0]
def k0_off470 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v3016 : Index := Scalar.indexCast v2806
  let c1_2612 : Index := 1#32
  let c0_2613 : Index := 0#32
  let c0_2614 : Index := 0#32
  ![v3016.toNat, 1, 0, 0]
def k0_mult62 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c256_i32_2631 : BitVec 32 := 256#32
  let v3042 : BitVec 32 := Scalar.muli v3041 c256_i32_2631
  v3042
def k0_off471 : Fin 3 → Nat :=
  let c0_2632 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c256_i32_2631 : BitVec 32 := 256#32
  let v3042 : BitVec 32 := Scalar.muli v3041 c256_i32_2631
  let v3043 : BitVec 32 := v3042
  let v3044 : Index := Scalar.indexCast v3043
  let c0_2633 : Index := 0#32
  ![0, v3044.toNat, 0]
def k0_off472 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3047 : Index := Scalar.indexCast v3040
  let c0_2634 : Index := 0#32
  let c0_2635 : Index := 0#32
  let c0_2636 : Index := 0#32
  ![v3047.toNat, 0, 0, 0]
def k0_off473 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3054 : Index := Scalar.indexCast v3040
  let c1_2642 : Index := 1#32
  let c0_2643 : Index := 0#32
  let c0_2644 : Index := 0#32
  ![v3054.toNat, 1, 0, 0]
def k0_off474 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let v3061 : Index := Scalar.indexCast v2807
  let c0_2650 : Index := 0#32
  let c0_2651 : Index := 0#32
  ![v3061.toNat, 0, 0]
def k0_off475 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v3069 : Index := Scalar.indexCast v2806
  let c0_2661 : Index := 0#32
  let c0_2662 : Index := 0#32
  let c0_2663 : Index := 0#32
  ![v3069.toNat, 0, 0, 0]
def k0_off476 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let v3087 : Index := Scalar.indexCast v2806
  let c1_2678 : Index := 1#32
  let c0_2679 : Index := 0#32
  let c0_2680 : Index := 0#32
  ![v3087.toNat, 1, 0, 0]
def k0_off477 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v3104 : Index := Scalar.indexCast v2923
  let c0_2689 : Index := 0#32
  let c0_2690 : Index := 0#32
  let c0_2691 : Index := 0#32
  ![v3104.toNat, 0, 0, 0]
def k0_off478 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v3133 : Index := Scalar.indexCast v2923
  let c1_2709 : Index := 1#32
  let c0_2710 : Index := 0#32
  let c0_2711 : Index := 0#32
  ![v3133.toNat, 1, 0, 0]
def k0_mult63 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c256_i32_2728 : BitVec 32 := 256#32
  let v3159 : BitVec 32 := Scalar.muli v3158 c256_i32_2728
  v3159
def k0_off479 : Fin 3 → Nat :=
  let c0_2729 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c256_i32_2728 : BitVec 32 := 256#32
  let v3159 : BitVec 32 := Scalar.muli v3158 c256_i32_2728
  let v3160 : BitVec 32 := v3159
  let v3161 : Index := Scalar.indexCast v3160
  let c0_2730 : Index := 0#32
  ![0, v3161.toNat, 0]
def k0_off480 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3164 : Index := Scalar.indexCast v3157
  let c0_2731 : Index := 0#32
  let c0_2732 : Index := 0#32
  let c0_2733 : Index := 0#32
  ![v3164.toNat, 0, 0, 0]
def k0_off481 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3171 : Index := Scalar.indexCast v3157
  let c1_2739 : Index := 1#32
  let c0_2740 : Index := 0#32
  let c0_2741 : Index := 0#32
  ![v3171.toNat, 1, 0, 0]
def k0_off482 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let v3178 : Index := Scalar.indexCast v2924
  let c0_2747 : Index := 0#32
  let c0_2748 : Index := 0#32
  ![v3178.toNat, 0, 0]
def k0_off483 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v3186 : Index := Scalar.indexCast v2923
  let c0_2758 : Index := 0#32
  let c0_2759 : Index := 0#32
  let c0_2760 : Index := 0#32
  ![v3186.toNat, 0, 0, 0]
def k0_off484 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let v3204 : Index := Scalar.indexCast v2923
  let c1_2775 : Index := 1#32
  let c0_2776 : Index := 0#32
  let c0_2777 : Index := 0#32
  ![v3204.toNat, 1, 0, 0]
def k0_off485 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3221 : Index := Scalar.indexCast v3040
  let c0_2786 : Index := 0#32
  let c0_2787 : Index := 0#32
  let c0_2788 : Index := 0#32
  ![v3221.toNat, 0, 0, 0]
def k0_off486 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3250 : Index := Scalar.indexCast v3040
  let c1_2806 : Index := 1#32
  let c0_2807 : Index := 0#32
  let c0_2808 : Index := 0#32
  ![v3250.toNat, 1, 0, 0]
def k0_mult64 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c256_i32_2825 : BitVec 32 := 256#32
  let v3276 : BitVec 32 := Scalar.muli v3275 c256_i32_2825
  v3276
def k0_off487 : Fin 3 → Nat :=
  let c0_2826 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c256_i32_2825 : BitVec 32 := 256#32
  let v3276 : BitVec 32 := Scalar.muli v3275 c256_i32_2825
  let v3277 : BitVec 32 := v3276
  let v3278 : Index := Scalar.indexCast v3277
  let c0_2827 : Index := 0#32
  ![0, v3278.toNat, 0]
def k0_off488 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3281 : Index := Scalar.indexCast v3274
  let c0_2828 : Index := 0#32
  let c0_2829 : Index := 0#32
  let c0_2830 : Index := 0#32
  ![v3281.toNat, 0, 0, 0]
def k0_off489 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3288 : Index := Scalar.indexCast v3274
  let c1_2836 : Index := 1#32
  let c0_2837 : Index := 0#32
  let c0_2838 : Index := 0#32
  ![v3288.toNat, 1, 0, 0]
def k0_off490 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let v3295 : Index := Scalar.indexCast v3041
  let c0_2844 : Index := 0#32
  let c0_2845 : Index := 0#32
  ![v3295.toNat, 0, 0]
def k0_off491 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3303 : Index := Scalar.indexCast v3040
  let c0_2855 : Index := 0#32
  let c0_2856 : Index := 0#32
  let c0_2857 : Index := 0#32
  ![v3303.toNat, 0, 0, 0]
def k0_off492 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let v3321 : Index := Scalar.indexCast v3040
  let c1_2872 : Index := 1#32
  let c0_2873 : Index := 0#32
  let c0_2874 : Index := 0#32
  ![v3321.toNat, 1, 0, 0]
def k0_off493 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3338 : Index := Scalar.indexCast v3157
  let c0_2883 : Index := 0#32
  let c0_2884 : Index := 0#32
  let c0_2885 : Index := 0#32
  ![v3338.toNat, 0, 0, 0]
def k0_off494 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3367 : Index := Scalar.indexCast v3157
  let c1_2903 : Index := 1#32
  let c0_2904 : Index := 0#32
  let c0_2905 : Index := 0#32
  ![v3367.toNat, 1, 0, 0]
def k0_mult65 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c256_i32_2922 : BitVec 32 := 256#32
  let v3393 : BitVec 32 := Scalar.muli v3392 c256_i32_2922
  v3393
def k0_off495 : Fin 3 → Nat :=
  let c0_2923 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c256_i32_2922 : BitVec 32 := 256#32
  let v3393 : BitVec 32 := Scalar.muli v3392 c256_i32_2922
  let v3394 : BitVec 32 := v3393
  let v3395 : Index := Scalar.indexCast v3394
  let c0_2924 : Index := 0#32
  ![0, v3395.toNat, 0]
def k0_off496 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3398 : Index := Scalar.indexCast v3391
  let c0_2925 : Index := 0#32
  let c0_2926 : Index := 0#32
  let c0_2927 : Index := 0#32
  ![v3398.toNat, 0, 0, 0]
def k0_off497 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3405 : Index := Scalar.indexCast v3391
  let c1_2933 : Index := 1#32
  let c0_2934 : Index := 0#32
  let c0_2935 : Index := 0#32
  ![v3405.toNat, 1, 0, 0]
def k0_off498 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let v3412 : Index := Scalar.indexCast v3158
  let c0_2941 : Index := 0#32
  let c0_2942 : Index := 0#32
  ![v3412.toNat, 0, 0]
def k0_off499 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3420 : Index := Scalar.indexCast v3157
  let c0_2952 : Index := 0#32
  let c0_2953 : Index := 0#32
  let c0_2954 : Index := 0#32
  ![v3420.toNat, 0, 0, 0]
def k0_off500 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let v3438 : Index := Scalar.indexCast v3157
  let c1_2969 : Index := 1#32
  let c0_2970 : Index := 0#32
  let c0_2971 : Index := 0#32
  ![v3438.toNat, 1, 0, 0]
def k0_off501 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3455 : Index := Scalar.indexCast v3274
  let c0_2980 : Index := 0#32
  let c0_2981 : Index := 0#32
  let c0_2982 : Index := 0#32
  ![v3455.toNat, 0, 0, 0]
def k0_off502 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3484 : Index := Scalar.indexCast v3274
  let c1_3000 : Index := 1#32
  let c0_3001 : Index := 0#32
  let c0_3002 : Index := 0#32
  ![v3484.toNat, 1, 0, 0]
def k0_mult66 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c256_i32_3019 : BitVec 32 := 256#32
  let v3510 : BitVec 32 := Scalar.muli v3509 c256_i32_3019
  v3510
def k0_off503 : Fin 3 → Nat :=
  let c0_3020 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c256_i32_3019 : BitVec 32 := 256#32
  let v3510 : BitVec 32 := Scalar.muli v3509 c256_i32_3019
  let v3511 : BitVec 32 := v3510
  let v3512 : Index := Scalar.indexCast v3511
  let c0_3021 : Index := 0#32
  ![0, v3512.toNat, 0]
def k0_off504 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3515 : Index := Scalar.indexCast v3508
  let c0_3022 : Index := 0#32
  let c0_3023 : Index := 0#32
  let c0_3024 : Index := 0#32
  ![v3515.toNat, 0, 0, 0]
def k0_off505 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3522 : Index := Scalar.indexCast v3508
  let c1_3030 : Index := 1#32
  let c0_3031 : Index := 0#32
  let c0_3032 : Index := 0#32
  ![v3522.toNat, 1, 0, 0]
def k0_off506 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let v3529 : Index := Scalar.indexCast v3275
  let c0_3038 : Index := 0#32
  let c0_3039 : Index := 0#32
  ![v3529.toNat, 0, 0]
def k0_off507 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3537 : Index := Scalar.indexCast v3274
  let c0_3049 : Index := 0#32
  let c0_3050 : Index := 0#32
  let c0_3051 : Index := 0#32
  ![v3537.toNat, 0, 0, 0]
def k0_off508 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let v3555 : Index := Scalar.indexCast v3274
  let c1_3066 : Index := 1#32
  let c0_3067 : Index := 0#32
  let c0_3068 : Index := 0#32
  ![v3555.toNat, 1, 0, 0]
def k0_off509 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3572 : Index := Scalar.indexCast v3391
  let c0_3077 : Index := 0#32
  let c0_3078 : Index := 0#32
  let c0_3079 : Index := 0#32
  ![v3572.toNat, 0, 0, 0]
def k0_off510 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3601 : Index := Scalar.indexCast v3391
  let c1_3097 : Index := 1#32
  let c0_3098 : Index := 0#32
  let c0_3099 : Index := 0#32
  ![v3601.toNat, 1, 0, 0]
def k0_mult67 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c256_i32_3116 : BitVec 32 := 256#32
  let v3627 : BitVec 32 := Scalar.muli v3626 c256_i32_3116
  v3627
def k0_off511 : Fin 3 → Nat :=
  let c0_3117 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c256_i32_3116 : BitVec 32 := 256#32
  let v3627 : BitVec 32 := Scalar.muli v3626 c256_i32_3116
  let v3628 : BitVec 32 := v3627
  let v3629 : Index := Scalar.indexCast v3628
  let c0_3118 : Index := 0#32
  ![0, v3629.toNat, 0]
def k0_off512 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3632 : Index := Scalar.indexCast v3625
  let c0_3119 : Index := 0#32
  let c0_3120 : Index := 0#32
  let c0_3121 : Index := 0#32
  ![v3632.toNat, 0, 0, 0]
def k0_off513 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3639 : Index := Scalar.indexCast v3625
  let c1_3127 : Index := 1#32
  let c0_3128 : Index := 0#32
  let c0_3129 : Index := 0#32
  ![v3639.toNat, 1, 0, 0]
def k0_off514 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let v3646 : Index := Scalar.indexCast v3392
  let c0_3135 : Index := 0#32
  let c0_3136 : Index := 0#32
  ![v3646.toNat, 0, 0]
def k0_off515 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3654 : Index := Scalar.indexCast v3391
  let c0_3146 : Index := 0#32
  let c0_3147 : Index := 0#32
  let c0_3148 : Index := 0#32
  ![v3654.toNat, 0, 0, 0]
def k0_off516 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let v3672 : Index := Scalar.indexCast v3391
  let c1_3163 : Index := 1#32
  let c0_3164 : Index := 0#32
  let c0_3165 : Index := 0#32
  ![v3672.toNat, 1, 0, 0]
def k0_off517 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3689 : Index := Scalar.indexCast v3508
  let c0_3174 : Index := 0#32
  let c0_3175 : Index := 0#32
  let c0_3176 : Index := 0#32
  ![v3689.toNat, 0, 0, 0]
def k0_off518 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3718 : Index := Scalar.indexCast v3508
  let c1_3194 : Index := 1#32
  let c0_3195 : Index := 0#32
  let c0_3196 : Index := 0#32
  ![v3718.toNat, 1, 0, 0]
def k0_mult68 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c256_i32_3213 : BitVec 32 := 256#32
  let v3744 : BitVec 32 := Scalar.muli v3743 c256_i32_3213
  v3744
def k0_off519 : Fin 3 → Nat :=
  let c0_3214 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c256_i32_3213 : BitVec 32 := 256#32
  let v3744 : BitVec 32 := Scalar.muli v3743 c256_i32_3213
  let v3745 : BitVec 32 := v3744
  let v3746 : Index := Scalar.indexCast v3745
  let c0_3215 : Index := 0#32
  ![0, v3746.toNat, 0]
def k0_off520 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v3749 : Index := Scalar.indexCast v3742
  let c0_3216 : Index := 0#32
  let c0_3217 : Index := 0#32
  let c0_3218 : Index := 0#32
  ![v3749.toNat, 0, 0, 0]
def k0_off521 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v3756 : Index := Scalar.indexCast v3742
  let c1_3224 : Index := 1#32
  let c0_3225 : Index := 0#32
  let c0_3226 : Index := 0#32
  ![v3756.toNat, 1, 0, 0]
def k0_off522 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let v3763 : Index := Scalar.indexCast v3509
  let c0_3232 : Index := 0#32
  let c0_3233 : Index := 0#32
  ![v3763.toNat, 0, 0]
def k0_off523 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3771 : Index := Scalar.indexCast v3508
  let c0_3243 : Index := 0#32
  let c0_3244 : Index := 0#32
  let c0_3245 : Index := 0#32
  ![v3771.toNat, 0, 0, 0]
def k0_off524 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let v3789 : Index := Scalar.indexCast v3508
  let c1_3260 : Index := 1#32
  let c0_3261 : Index := 0#32
  let c0_3262 : Index := 0#32
  ![v3789.toNat, 1, 0, 0]
def k0_off525 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3806 : Index := Scalar.indexCast v3625
  let c0_3271 : Index := 0#32
  let c0_3272 : Index := 0#32
  let c0_3273 : Index := 0#32
  ![v3806.toNat, 0, 0, 0]
def k0_off526 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3835 : Index := Scalar.indexCast v3625
  let c1_3291 : Index := 1#32
  let c0_3292 : Index := 0#32
  let c0_3293 : Index := 0#32
  ![v3835.toNat, 1, 0, 0]
def k0_mult69 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c256_i32_3310 : BitVec 32 := 256#32
  let v3861 : BitVec 32 := Scalar.muli v3860 c256_i32_3310
  v3861
def k0_off527 : Fin 3 → Nat :=
  let c0_3311 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c256_i32_3310 : BitVec 32 := 256#32
  let v3861 : BitVec 32 := Scalar.muli v3860 c256_i32_3310
  let v3862 : BitVec 32 := v3861
  let v3863 : Index := Scalar.indexCast v3862
  let c0_3312 : Index := 0#32
  ![0, v3863.toNat, 0]
def k0_off528 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v3866 : Index := Scalar.indexCast v3859
  let c0_3313 : Index := 0#32
  let c0_3314 : Index := 0#32
  let c0_3315 : Index := 0#32
  ![v3866.toNat, 0, 0, 0]
def k0_off529 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v3873 : Index := Scalar.indexCast v3859
  let c1_3321 : Index := 1#32
  let c0_3322 : Index := 0#32
  let c0_3323 : Index := 0#32
  ![v3873.toNat, 1, 0, 0]
def k0_off530 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let v3880 : Index := Scalar.indexCast v3626
  let c0_3329 : Index := 0#32
  let c0_3330 : Index := 0#32
  ![v3880.toNat, 0, 0]
def k0_off531 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3888 : Index := Scalar.indexCast v3625
  let c0_3340 : Index := 0#32
  let c0_3341 : Index := 0#32
  let c0_3342 : Index := 0#32
  ![v3888.toNat, 0, 0, 0]
def k0_off532 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let v3906 : Index := Scalar.indexCast v3625
  let c1_3357 : Index := 1#32
  let c0_3358 : Index := 0#32
  let c0_3359 : Index := 0#32
  ![v3906.toNat, 1, 0, 0]
def k0_off533 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v3923 : Index := Scalar.indexCast v3742
  let c0_3368 : Index := 0#32
  let c0_3369 : Index := 0#32
  let c0_3370 : Index := 0#32
  ![v3923.toNat, 0, 0, 0]
def k0_off534 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v3952 : Index := Scalar.indexCast v3742
  let c1_3388 : Index := 1#32
  let c0_3389 : Index := 0#32
  let c0_3390 : Index := 0#32
  ![v3952.toNat, 1, 0, 0]
def k0_mult70 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c256_i32_3407 : BitVec 32 := 256#32
  let v3978 : BitVec 32 := Scalar.muli v3977 c256_i32_3407
  v3978
def k0_off535 : Fin 3 → Nat :=
  let c0_3408 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c256_i32_3407 : BitVec 32 := 256#32
  let v3978 : BitVec 32 := Scalar.muli v3977 c256_i32_3407
  let v3979 : BitVec 32 := v3978
  let v3980 : Index := Scalar.indexCast v3979
  let c0_3409 : Index := 0#32
  ![0, v3980.toNat, 0]
def k0_off536 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v3983 : Index := Scalar.indexCast v3976
  let c0_3410 : Index := 0#32
  let c0_3411 : Index := 0#32
  let c0_3412 : Index := 0#32
  ![v3983.toNat, 0, 0, 0]
def k0_off537 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v3990 : Index := Scalar.indexCast v3976
  let c1_3418 : Index := 1#32
  let c0_3419 : Index := 0#32
  let c0_3420 : Index := 0#32
  ![v3990.toNat, 1, 0, 0]
def k0_off538 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let v3997 : Index := Scalar.indexCast v3743
  let c0_3426 : Index := 0#32
  let c0_3427 : Index := 0#32
  ![v3997.toNat, 0, 0]
def k0_off539 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v4005 : Index := Scalar.indexCast v3742
  let c0_3437 : Index := 0#32
  let c0_3438 : Index := 0#32
  let c0_3439 : Index := 0#32
  ![v4005.toNat, 0, 0, 0]
def k0_off540 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let v4023 : Index := Scalar.indexCast v3742
  let c1_3454 : Index := 1#32
  let c0_3455 : Index := 0#32
  let c0_3456 : Index := 0#32
  ![v4023.toNat, 1, 0, 0]
def k0_off541 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v4040 : Index := Scalar.indexCast v3859
  let c0_3465 : Index := 0#32
  let c0_3466 : Index := 0#32
  let c0_3467 : Index := 0#32
  ![v4040.toNat, 0, 0, 0]
def k0_off542 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v4069 : Index := Scalar.indexCast v3859
  let c1_3485 : Index := 1#32
  let c0_3486 : Index := 0#32
  let c0_3487 : Index := 0#32
  ![v4069.toNat, 1, 0, 0]
def k0_mult71 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c256_i32_3504 : BitVec 32 := 256#32
  let v4095 : BitVec 32 := Scalar.muli v4094 c256_i32_3504
  v4095
def k0_off543 : Fin 3 → Nat :=
  let c0_3505 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c256_i32_3504 : BitVec 32 := 256#32
  let v4095 : BitVec 32 := Scalar.muli v4094 c256_i32_3504
  let v4096 : BitVec 32 := v4095
  let v4097 : Index := Scalar.indexCast v4096
  let c0_3506 : Index := 0#32
  ![0, v4097.toNat, 0]
def k0_off544 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4100 : Index := Scalar.indexCast v4093
  let c0_3507 : Index := 0#32
  let c0_3508 : Index := 0#32
  let c0_3509 : Index := 0#32
  ![v4100.toNat, 0, 0, 0]
def k0_off545 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4107 : Index := Scalar.indexCast v4093
  let c1_3515 : Index := 1#32
  let c0_3516 : Index := 0#32
  let c0_3517 : Index := 0#32
  ![v4107.toNat, 1, 0, 0]
def k0_off546 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let v4114 : Index := Scalar.indexCast v3860
  let c0_3523 : Index := 0#32
  let c0_3524 : Index := 0#32
  ![v4114.toNat, 0, 0]
def k0_off547 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v4122 : Index := Scalar.indexCast v3859
  let c0_3534 : Index := 0#32
  let c0_3535 : Index := 0#32
  let c0_3536 : Index := 0#32
  ![v4122.toNat, 0, 0, 0]
def k0_off548 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let v4140 : Index := Scalar.indexCast v3859
  let c1_3551 : Index := 1#32
  let c0_3552 : Index := 0#32
  let c0_3553 : Index := 0#32
  ![v4140.toNat, 1, 0, 0]
def k0_off549 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v4157 : Index := Scalar.indexCast v3976
  let c0_3562 : Index := 0#32
  let c0_3563 : Index := 0#32
  let c0_3564 : Index := 0#32
  ![v4157.toNat, 0, 0, 0]
def k0_off550 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v4186 : Index := Scalar.indexCast v3976
  let c1_3582 : Index := 1#32
  let c0_3583 : Index := 0#32
  let c0_3584 : Index := 0#32
  ![v4186.toNat, 1, 0, 0]
def k0_mult72 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c256_i32_3601 : BitVec 32 := 256#32
  let v4212 : BitVec 32 := Scalar.muli v4211 c256_i32_3601
  v4212
def k0_off551 : Fin 3 → Nat :=
  let c0_3602 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c256_i32_3601 : BitVec 32 := 256#32
  let v4212 : BitVec 32 := Scalar.muli v4211 c256_i32_3601
  let v4213 : BitVec 32 := v4212
  let v4214 : Index := Scalar.indexCast v4213
  let c0_3603 : Index := 0#32
  ![0, v4214.toNat, 0]
def k0_off552 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4217 : Index := Scalar.indexCast v4210
  let c0_3604 : Index := 0#32
  let c0_3605 : Index := 0#32
  let c0_3606 : Index := 0#32
  ![v4217.toNat, 0, 0, 0]
def k0_off553 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4224 : Index := Scalar.indexCast v4210
  let c1_3612 : Index := 1#32
  let c0_3613 : Index := 0#32
  let c0_3614 : Index := 0#32
  ![v4224.toNat, 1, 0, 0]
def k0_off554 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let v4231 : Index := Scalar.indexCast v3977
  let c0_3620 : Index := 0#32
  let c0_3621 : Index := 0#32
  ![v4231.toNat, 0, 0]
def k0_off555 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v4239 : Index := Scalar.indexCast v3976
  let c0_3631 : Index := 0#32
  let c0_3632 : Index := 0#32
  let c0_3633 : Index := 0#32
  ![v4239.toNat, 0, 0, 0]
def k0_off556 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let v4257 : Index := Scalar.indexCast v3976
  let c1_3648 : Index := 1#32
  let c0_3649 : Index := 0#32
  let c0_3650 : Index := 0#32
  ![v4257.toNat, 1, 0, 0]
def k0_off557 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4274 : Index := Scalar.indexCast v4093
  let c0_3659 : Index := 0#32
  let c0_3660 : Index := 0#32
  let c0_3661 : Index := 0#32
  ![v4274.toNat, 0, 0, 0]
def k0_off558 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4303 : Index := Scalar.indexCast v4093
  let c1_3679 : Index := 1#32
  let c0_3680 : Index := 0#32
  let c0_3681 : Index := 0#32
  ![v4303.toNat, 1, 0, 0]
def k0_mult73 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c256_i32_3698 : BitVec 32 := 256#32
  let v4329 : BitVec 32 := Scalar.muli v4328 c256_i32_3698
  v4329
def k0_off559 : Fin 3 → Nat :=
  let c0_3699 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c256_i32_3698 : BitVec 32 := 256#32
  let v4329 : BitVec 32 := Scalar.muli v4328 c256_i32_3698
  let v4330 : BitVec 32 := v4329
  let v4331 : Index := Scalar.indexCast v4330
  let c0_3700 : Index := 0#32
  ![0, v4331.toNat, 0]
def k0_off560 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4334 : Index := Scalar.indexCast v4327
  let c0_3701 : Index := 0#32
  let c0_3702 : Index := 0#32
  let c0_3703 : Index := 0#32
  ![v4334.toNat, 0, 0, 0]
def k0_off561 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4341 : Index := Scalar.indexCast v4327
  let c1_3709 : Index := 1#32
  let c0_3710 : Index := 0#32
  let c0_3711 : Index := 0#32
  ![v4341.toNat, 1, 0, 0]
def k0_off562 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let v4348 : Index := Scalar.indexCast v4094
  let c0_3717 : Index := 0#32
  let c0_3718 : Index := 0#32
  ![v4348.toNat, 0, 0]
def k0_off563 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4356 : Index := Scalar.indexCast v4093
  let c0_3728 : Index := 0#32
  let c0_3729 : Index := 0#32
  let c0_3730 : Index := 0#32
  ![v4356.toNat, 0, 0, 0]
def k0_off564 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let v4374 : Index := Scalar.indexCast v4093
  let c1_3745 : Index := 1#32
  let c0_3746 : Index := 0#32
  let c0_3747 : Index := 0#32
  ![v4374.toNat, 1, 0, 0]
def k0_off565 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4391 : Index := Scalar.indexCast v4210
  let c0_3756 : Index := 0#32
  let c0_3757 : Index := 0#32
  let c0_3758 : Index := 0#32
  ![v4391.toNat, 0, 0, 0]
def k0_off566 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4420 : Index := Scalar.indexCast v4210
  let c1_3776 : Index := 1#32
  let c0_3777 : Index := 0#32
  let c0_3778 : Index := 0#32
  ![v4420.toNat, 1, 0, 0]
def k0_mult74 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c256_i32_3795 : BitVec 32 := 256#32
  let v4446 : BitVec 32 := Scalar.muli v4445 c256_i32_3795
  v4446
def k0_off567 : Fin 3 → Nat :=
  let c0_3796 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c256_i32_3795 : BitVec 32 := 256#32
  let v4446 : BitVec 32 := Scalar.muli v4445 c256_i32_3795
  let v4447 : BitVec 32 := v4446
  let v4448 : Index := Scalar.indexCast v4447
  let c0_3797 : Index := 0#32
  ![0, v4448.toNat, 0]
def k0_off568 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4451 : Index := Scalar.indexCast v4444
  let c0_3798 : Index := 0#32
  let c0_3799 : Index := 0#32
  let c0_3800 : Index := 0#32
  ![v4451.toNat, 0, 0, 0]
def k0_off569 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4458 : Index := Scalar.indexCast v4444
  let c1_3806 : Index := 1#32
  let c0_3807 : Index := 0#32
  let c0_3808 : Index := 0#32
  ![v4458.toNat, 1, 0, 0]
def k0_off570 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let v4465 : Index := Scalar.indexCast v4211
  let c0_3814 : Index := 0#32
  let c0_3815 : Index := 0#32
  ![v4465.toNat, 0, 0]
def k0_off571 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4473 : Index := Scalar.indexCast v4210
  let c0_3825 : Index := 0#32
  let c0_3826 : Index := 0#32
  let c0_3827 : Index := 0#32
  ![v4473.toNat, 0, 0, 0]
def k0_off572 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let v4491 : Index := Scalar.indexCast v4210
  let c1_3842 : Index := 1#32
  let c0_3843 : Index := 0#32
  let c0_3844 : Index := 0#32
  ![v4491.toNat, 1, 0, 0]
def k0_off573 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4508 : Index := Scalar.indexCast v4327
  let c0_3853 : Index := 0#32
  let c0_3854 : Index := 0#32
  let c0_3855 : Index := 0#32
  ![v4508.toNat, 0, 0, 0]
def k0_off574 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4537 : Index := Scalar.indexCast v4327
  let c1_3873 : Index := 1#32
  let c0_3874 : Index := 0#32
  let c0_3875 : Index := 0#32
  ![v4537.toNat, 1, 0, 0]
def k0_mult75 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c256_i32_3892 : BitVec 32 := 256#32
  let v4563 : BitVec 32 := Scalar.muli v4562 c256_i32_3892
  v4563
def k0_off575 : Fin 3 → Nat :=
  let c0_3893 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c256_i32_3892 : BitVec 32 := 256#32
  let v4563 : BitVec 32 := Scalar.muli v4562 c256_i32_3892
  let v4564 : BitVec 32 := v4563
  let v4565 : Index := Scalar.indexCast v4564
  let c0_3894 : Index := 0#32
  ![0, v4565.toNat, 0]
def k0_off576 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4568 : Index := Scalar.indexCast v4561
  let c0_3895 : Index := 0#32
  let c0_3896 : Index := 0#32
  let c0_3897 : Index := 0#32
  ![v4568.toNat, 0, 0, 0]
def k0_off577 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4575 : Index := Scalar.indexCast v4561
  let c1_3903 : Index := 1#32
  let c0_3904 : Index := 0#32
  let c0_3905 : Index := 0#32
  ![v4575.toNat, 1, 0, 0]
def k0_off578 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let v4582 : Index := Scalar.indexCast v4328
  let c0_3911 : Index := 0#32
  let c0_3912 : Index := 0#32
  ![v4582.toNat, 0, 0]
def k0_off579 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4590 : Index := Scalar.indexCast v4327
  let c0_3922 : Index := 0#32
  let c0_3923 : Index := 0#32
  let c0_3924 : Index := 0#32
  ![v4590.toNat, 0, 0, 0]
def k0_off580 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let v4608 : Index := Scalar.indexCast v4327
  let c1_3939 : Index := 1#32
  let c0_3940 : Index := 0#32
  let c0_3941 : Index := 0#32
  ![v4608.toNat, 1, 0, 0]
def k0_off581 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4625 : Index := Scalar.indexCast v4444
  let c0_3950 : Index := 0#32
  let c0_3951 : Index := 0#32
  let c0_3952 : Index := 0#32
  ![v4625.toNat, 0, 0, 0]
def k0_off582 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4654 : Index := Scalar.indexCast v4444
  let c1_3970 : Index := 1#32
  let c0_3971 : Index := 0#32
  let c0_3972 : Index := 0#32
  ![v4654.toNat, 1, 0, 0]
def k0_mult76 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c256_i32_3989 : BitVec 32 := 256#32
  let v4680 : BitVec 32 := Scalar.muli v4679 c256_i32_3989
  v4680
def k0_off583 : Fin 3 → Nat :=
  let c0_3990 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c256_i32_3989 : BitVec 32 := 256#32
  let v4680 : BitVec 32 := Scalar.muli v4679 c256_i32_3989
  let v4681 : BitVec 32 := v4680
  let v4682 : Index := Scalar.indexCast v4681
  let c0_3991 : Index := 0#32
  ![0, v4682.toNat, 0]
def k0_off584 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4685 : Index := Scalar.indexCast v4678
  let c0_3992 : Index := 0#32
  let c0_3993 : Index := 0#32
  let c0_3994 : Index := 0#32
  ![v4685.toNat, 0, 0, 0]
def k0_off585 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4692 : Index := Scalar.indexCast v4678
  let c1_4000 : Index := 1#32
  let c0_4001 : Index := 0#32
  let c0_4002 : Index := 0#32
  ![v4692.toNat, 1, 0, 0]
def k0_off586 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let v4699 : Index := Scalar.indexCast v4445
  let c0_4008 : Index := 0#32
  let c0_4009 : Index := 0#32
  ![v4699.toNat, 0, 0]
def k0_off587 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4707 : Index := Scalar.indexCast v4444
  let c0_4019 : Index := 0#32
  let c0_4020 : Index := 0#32
  let c0_4021 : Index := 0#32
  ![v4707.toNat, 0, 0, 0]
def k0_off588 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let v4725 : Index := Scalar.indexCast v4444
  let c1_4036 : Index := 1#32
  let c0_4037 : Index := 0#32
  let c0_4038 : Index := 0#32
  ![v4725.toNat, 1, 0, 0]
def k0_off589 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4742 : Index := Scalar.indexCast v4561
  let c0_4047 : Index := 0#32
  let c0_4048 : Index := 0#32
  let c0_4049 : Index := 0#32
  ![v4742.toNat, 0, 0, 0]
def k0_off590 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4771 : Index := Scalar.indexCast v4561
  let c1_4067 : Index := 1#32
  let c0_4068 : Index := 0#32
  let c0_4069 : Index := 0#32
  ![v4771.toNat, 1, 0, 0]
def k0_mult77 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c256_i32_4086 : BitVec 32 := 256#32
  let v4797 : BitVec 32 := Scalar.muli v4796 c256_i32_4086
  v4797
def k0_off591 : Fin 3 → Nat :=
  let c0_4087 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c256_i32_4086 : BitVec 32 := 256#32
  let v4797 : BitVec 32 := Scalar.muli v4796 c256_i32_4086
  let v4798 : BitVec 32 := v4797
  let v4799 : Index := Scalar.indexCast v4798
  let c0_4088 : Index := 0#32
  ![0, v4799.toNat, 0]
def k0_off592 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v4802 : Index := Scalar.indexCast v4795
  let c0_4089 : Index := 0#32
  let c0_4090 : Index := 0#32
  let c0_4091 : Index := 0#32
  ![v4802.toNat, 0, 0, 0]
def k0_off593 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v4809 : Index := Scalar.indexCast v4795
  let c1_4097 : Index := 1#32
  let c0_4098 : Index := 0#32
  let c0_4099 : Index := 0#32
  ![v4809.toNat, 1, 0, 0]
def k0_off594 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let v4816 : Index := Scalar.indexCast v4562
  let c0_4105 : Index := 0#32
  let c0_4106 : Index := 0#32
  ![v4816.toNat, 0, 0]
def k0_off595 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4824 : Index := Scalar.indexCast v4561
  let c0_4116 : Index := 0#32
  let c0_4117 : Index := 0#32
  let c0_4118 : Index := 0#32
  ![v4824.toNat, 0, 0, 0]
def k0_off596 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let v4842 : Index := Scalar.indexCast v4561
  let c1_4133 : Index := 1#32
  let c0_4134 : Index := 0#32
  let c0_4135 : Index := 0#32
  ![v4842.toNat, 1, 0, 0]
def k0_off597 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4859 : Index := Scalar.indexCast v4678
  let c0_4144 : Index := 0#32
  let c0_4145 : Index := 0#32
  let c0_4146 : Index := 0#32
  ![v4859.toNat, 0, 0, 0]
def k0_off598 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4888 : Index := Scalar.indexCast v4678
  let c1_4164 : Index := 1#32
  let c0_4165 : Index := 0#32
  let c0_4166 : Index := 0#32
  ![v4888.toNat, 1, 0, 0]
def k0_mult78 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c256_i32_4183 : BitVec 32 := 256#32
  let v4914 : BitVec 32 := Scalar.muli v4913 c256_i32_4183
  v4914
def k0_off599 : Fin 3 → Nat :=
  let c0_4184 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c256_i32_4183 : BitVec 32 := 256#32
  let v4914 : BitVec 32 := Scalar.muli v4913 c256_i32_4183
  let v4915 : BitVec 32 := v4914
  let v4916 : Index := Scalar.indexCast v4915
  let c0_4185 : Index := 0#32
  ![0, v4916.toNat, 0]
def k0_off600 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v4919 : Index := Scalar.indexCast v4912
  let c0_4186 : Index := 0#32
  let c0_4187 : Index := 0#32
  let c0_4188 : Index := 0#32
  ![v4919.toNat, 0, 0, 0]
def k0_off601 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v4926 : Index := Scalar.indexCast v4912
  let c1_4194 : Index := 1#32
  let c0_4195 : Index := 0#32
  let c0_4196 : Index := 0#32
  ![v4926.toNat, 1, 0, 0]
def k0_off602 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let v4933 : Index := Scalar.indexCast v4679
  let c0_4202 : Index := 0#32
  let c0_4203 : Index := 0#32
  ![v4933.toNat, 0, 0]
def k0_off603 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4941 : Index := Scalar.indexCast v4678
  let c0_4213 : Index := 0#32
  let c0_4214 : Index := 0#32
  let c0_4215 : Index := 0#32
  ![v4941.toNat, 0, 0, 0]
def k0_off604 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let v4959 : Index := Scalar.indexCast v4678
  let c1_4230 : Index := 1#32
  let c0_4231 : Index := 0#32
  let c0_4232 : Index := 0#32
  ![v4959.toNat, 1, 0, 0]
def k0_off605 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v4976 : Index := Scalar.indexCast v4795
  let c0_4241 : Index := 0#32
  let c0_4242 : Index := 0#32
  let c0_4243 : Index := 0#32
  ![v4976.toNat, 0, 0, 0]
def k0_off606 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v5005 : Index := Scalar.indexCast v4795
  let c1_4261 : Index := 1#32
  let c0_4262 : Index := 0#32
  let c0_4263 : Index := 0#32
  ![v5005.toNat, 1, 0, 0]
def k0_mult79 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c256_i32_4280 : BitVec 32 := 256#32
  let v5031 : BitVec 32 := Scalar.muli v5030 c256_i32_4280
  v5031
def k0_off607 : Fin 3 → Nat :=
  let c0_4281 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c256_i32_4280 : BitVec 32 := 256#32
  let v5031 : BitVec 32 := Scalar.muli v5030 c256_i32_4280
  let v5032 : BitVec 32 := v5031
  let v5033 : Index := Scalar.indexCast v5032
  let c0_4282 : Index := 0#32
  ![0, v5033.toNat, 0]
def k0_off608 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5036 : Index := Scalar.indexCast v5029
  let c0_4283 : Index := 0#32
  let c0_4284 : Index := 0#32
  let c0_4285 : Index := 0#32
  ![v5036.toNat, 0, 0, 0]
def k0_off609 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5043 : Index := Scalar.indexCast v5029
  let c1_4291 : Index := 1#32
  let c0_4292 : Index := 0#32
  let c0_4293 : Index := 0#32
  ![v5043.toNat, 1, 0, 0]
def k0_off610 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let v5050 : Index := Scalar.indexCast v4796
  let c0_4299 : Index := 0#32
  let c0_4300 : Index := 0#32
  ![v5050.toNat, 0, 0]
def k0_off611 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v5058 : Index := Scalar.indexCast v4795
  let c0_4310 : Index := 0#32
  let c0_4311 : Index := 0#32
  let c0_4312 : Index := 0#32
  ![v5058.toNat, 0, 0, 0]
def k0_off612 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let v5076 : Index := Scalar.indexCast v4795
  let c1_4327 : Index := 1#32
  let c0_4328 : Index := 0#32
  let c0_4329 : Index := 0#32
  ![v5076.toNat, 1, 0, 0]
def k0_off613 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v5093 : Index := Scalar.indexCast v4912
  let c0_4338 : Index := 0#32
  let c0_4339 : Index := 0#32
  let c0_4340 : Index := 0#32
  ![v5093.toNat, 0, 0, 0]
def k0_off614 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v5122 : Index := Scalar.indexCast v4912
  let c1_4358 : Index := 1#32
  let c0_4359 : Index := 0#32
  let c0_4360 : Index := 0#32
  ![v5122.toNat, 1, 0, 0]
def k0_mult80 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c256_i32_4377 : BitVec 32 := 256#32
  let v5148 : BitVec 32 := Scalar.muli v5147 c256_i32_4377
  v5148
def k0_off615 : Fin 3 → Nat :=
  let c0_4378 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c256_i32_4377 : BitVec 32 := 256#32
  let v5148 : BitVec 32 := Scalar.muli v5147 c256_i32_4377
  let v5149 : BitVec 32 := v5148
  let v5150 : Index := Scalar.indexCast v5149
  let c0_4379 : Index := 0#32
  ![0, v5150.toNat, 0]
def k0_off616 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5153 : Index := Scalar.indexCast v5146
  let c0_4380 : Index := 0#32
  let c0_4381 : Index := 0#32
  let c0_4382 : Index := 0#32
  ![v5153.toNat, 0, 0, 0]
def k0_off617 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5160 : Index := Scalar.indexCast v5146
  let c1_4388 : Index := 1#32
  let c0_4389 : Index := 0#32
  let c0_4390 : Index := 0#32
  ![v5160.toNat, 1, 0, 0]
def k0_off618 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let v5167 : Index := Scalar.indexCast v4913
  let c0_4396 : Index := 0#32
  let c0_4397 : Index := 0#32
  ![v5167.toNat, 0, 0]
def k0_off619 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v5175 : Index := Scalar.indexCast v4912
  let c0_4407 : Index := 0#32
  let c0_4408 : Index := 0#32
  let c0_4409 : Index := 0#32
  ![v5175.toNat, 0, 0, 0]
def k0_off620 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let v5193 : Index := Scalar.indexCast v4912
  let c1_4424 : Index := 1#32
  let c0_4425 : Index := 0#32
  let c0_4426 : Index := 0#32
  ![v5193.toNat, 1, 0, 0]
def k0_off621 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5210 : Index := Scalar.indexCast v5029
  let c0_4435 : Index := 0#32
  let c0_4436 : Index := 0#32
  let c0_4437 : Index := 0#32
  ![v5210.toNat, 0, 0, 0]
def k0_off622 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5239 : Index := Scalar.indexCast v5029
  let c1_4455 : Index := 1#32
  let c0_4456 : Index := 0#32
  let c0_4457 : Index := 0#32
  ![v5239.toNat, 1, 0, 0]
def k0_mult81 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c256_i32_4474 : BitVec 32 := 256#32
  let v5265 : BitVec 32 := Scalar.muli v5264 c256_i32_4474
  v5265
def k0_off623 : Fin 3 → Nat :=
  let c0_4475 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c256_i32_4474 : BitVec 32 := 256#32
  let v5265 : BitVec 32 := Scalar.muli v5264 c256_i32_4474
  let v5266 : BitVec 32 := v5265
  let v5267 : Index := Scalar.indexCast v5266
  let c0_4476 : Index := 0#32
  ![0, v5267.toNat, 0]
def k0_off624 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5270 : Index := Scalar.indexCast v5263
  let c0_4477 : Index := 0#32
  let c0_4478 : Index := 0#32
  let c0_4479 : Index := 0#32
  ![v5270.toNat, 0, 0, 0]
def k0_off625 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5277 : Index := Scalar.indexCast v5263
  let c1_4485 : Index := 1#32
  let c0_4486 : Index := 0#32
  let c0_4487 : Index := 0#32
  ![v5277.toNat, 1, 0, 0]
def k0_off626 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let v5284 : Index := Scalar.indexCast v5030
  let c0_4493 : Index := 0#32
  let c0_4494 : Index := 0#32
  ![v5284.toNat, 0, 0]
def k0_off627 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5292 : Index := Scalar.indexCast v5029
  let c0_4504 : Index := 0#32
  let c0_4505 : Index := 0#32
  let c0_4506 : Index := 0#32
  ![v5292.toNat, 0, 0, 0]
def k0_off628 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let v5310 : Index := Scalar.indexCast v5029
  let c1_4521 : Index := 1#32
  let c0_4522 : Index := 0#32
  let c0_4523 : Index := 0#32
  ![v5310.toNat, 1, 0, 0]
def k0_off629 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5327 : Index := Scalar.indexCast v5146
  let c0_4532 : Index := 0#32
  let c0_4533 : Index := 0#32
  let c0_4534 : Index := 0#32
  ![v5327.toNat, 0, 0, 0]
def k0_off630 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5356 : Index := Scalar.indexCast v5146
  let c1_4552 : Index := 1#32
  let c0_4553 : Index := 0#32
  let c0_4554 : Index := 0#32
  ![v5356.toNat, 1, 0, 0]
def k0_mult82 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c1_i32_4568 : BitVec 32 := 1#32
  let v5379 : BitVec 32 := Scalar.addi v5264 c1_i32_4568
  let c31_i32_4570 : BitVec 32 := 31#32
  let v5381 : BitVec 32 := Scalar.minsi v5379 c31_i32_4570
  let c256_i32_4571 : BitVec 32 := 256#32
  let v5382 : BitVec 32 := Scalar.muli v5381 c256_i32_4571
  v5382
def k0_off631 : Fin 3 → Nat :=
  let c0_4572 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c1_i32_4568 : BitVec 32 := 1#32
  let v5379 : BitVec 32 := Scalar.addi v5264 c1_i32_4568
  let c31_i32_4570 : BitVec 32 := 31#32
  let v5381 : BitVec 32 := Scalar.minsi v5379 c31_i32_4570
  let c256_i32_4571 : BitVec 32 := 256#32
  let v5382 : BitVec 32 := Scalar.muli v5381 c256_i32_4571
  let v5383 : BitVec 32 := v5382
  let v5384 : Index := Scalar.indexCast v5383
  let c0_4573 : Index := 0#32
  ![0, v5384.toNat, 0]
def k0_off632 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5387 : Index := Scalar.indexCast v5380
  let c0_4574 : Index := 0#32
  let c0_4575 : Index := 0#32
  let c0_4576 : Index := 0#32
  ![v5387.toNat, 0, 0, 0]
def k0_off633 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5394 : Index := Scalar.indexCast v5380
  let c1_4582 : Index := 1#32
  let c0_4583 : Index := 0#32
  let c0_4584 : Index := 0#32
  ![v5394.toNat, 1, 0, 0]
def k0_off634 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let v5401 : Index := Scalar.indexCast v5147
  let c0_4590 : Index := 0#32
  let c0_4591 : Index := 0#32
  ![v5401.toNat, 0, 0]
def k0_off635 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5409 : Index := Scalar.indexCast v5146
  let c0_4601 : Index := 0#32
  let c0_4602 : Index := 0#32
  let c0_4603 : Index := 0#32
  ![v5409.toNat, 0, 0, 0]
def k0_off636 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let v5427 : Index := Scalar.indexCast v5146
  let c1_4618 : Index := 1#32
  let c0_4619 : Index := 0#32
  let c0_4620 : Index := 0#32
  ![v5427.toNat, 1, 0, 0]
def k0_off637 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5444 : Index := Scalar.indexCast v5263
  let c0_4629 : Index := 0#32
  let c0_4630 : Index := 0#32
  let c0_4631 : Index := 0#32
  ![v5444.toNat, 0, 0, 0]
def k0_off638 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5473 : Index := Scalar.indexCast v5263
  let c1_4649 : Index := 1#32
  let c0_4650 : Index := 0#32
  let c0_4651 : Index := 0#32
  ![v5473.toNat, 1, 0, 0]
def k0_mult83 : BitVec 32 :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c1_i32_4568 : BitVec 32 := 1#32
  let v5379 : BitVec 32 := Scalar.addi v5264 c1_i32_4568
  let c31_i32_4570 : BitVec 32 := 31#32
  let v5381 : BitVec 32 := Scalar.minsi v5379 c31_i32_4570
  let c1_i32_4665 : BitVec 32 := 1#32
  let v5496 : BitVec 32 := Scalar.addi v5381 c1_i32_4665
  let c31_i32_4667 : BitVec 32 := 31#32
  let v5498 : BitVec 32 := Scalar.minsi v5496 c31_i32_4667
  let c256_i32_4668 : BitVec 32 := 256#32
  let v5499 : BitVec 32 := Scalar.muli v5498 c256_i32_4668
  v5499
def k0_off639 : Fin 3 → Nat :=
  let c0_4669 : Index := 0#32
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c1_i32_4568 : BitVec 32 := 1#32
  let v5379 : BitVec 32 := Scalar.addi v5264 c1_i32_4568
  let c31_i32_4570 : BitVec 32 := 31#32
  let v5381 : BitVec 32 := Scalar.minsi v5379 c31_i32_4570
  let c1_i32_4665 : BitVec 32 := 1#32
  let v5496 : BitVec 32 := Scalar.addi v5381 c1_i32_4665
  let c31_i32_4667 : BitVec 32 := 31#32
  let v5498 : BitVec 32 := Scalar.minsi v5496 c31_i32_4667
  let c256_i32_4668 : BitVec 32 := 256#32
  let v5499 : BitVec 32 := Scalar.muli v5498 c256_i32_4668
  let v5500 : BitVec 32 := v5499
  let v5501 : Index := Scalar.indexCast v5500
  let c0_4670 : Index := 0#32
  ![0, v5501.toNat, 0]
def k0_off640 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let c1_i32_4664 : BitVec 32 := 1#32
  let v5495 : BitVec 32 := Scalar.addi v5380 c1_i32_4664
  let c31_i32_4666 : BitVec 32 := 31#32
  let v5497 : BitVec 32 := Scalar.minsi v5495 c31_i32_4666
  let v5504 : Index := Scalar.indexCast v5497
  let c0_4671 : Index := 0#32
  let c0_4672 : Index := 0#32
  let c0_4673 : Index := 0#32
  ![v5504.toNat, 0, 0, 0]
def k0_off641 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let c1_i32_4664 : BitVec 32 := 1#32
  let v5495 : BitVec 32 := Scalar.addi v5380 c1_i32_4664
  let c31_i32_4666 : BitVec 32 := 31#32
  let v5497 : BitVec 32 := Scalar.minsi v5495 c31_i32_4666
  let v5511 : Index := Scalar.indexCast v5497
  let c1_4679 : Index := 1#32
  let c0_4680 : Index := 0#32
  let c0_4681 : Index := 0#32
  ![v5511.toNat, 1, 0, 0]
def k0_off642 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let v5518 : Index := Scalar.indexCast v5264
  let c0_4687 : Index := 0#32
  let c0_4688 : Index := 0#32
  ![v5518.toNat, 0, 0]
def k0_off643 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5526 : Index := Scalar.indexCast v5263
  let c0_4698 : Index := 0#32
  let c0_4699 : Index := 0#32
  let c0_4700 : Index := 0#32
  ![v5526.toNat, 0, 0, 0]
def k0_off644 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let v5544 : Index := Scalar.indexCast v5263
  let c1_4715 : Index := 1#32
  let c0_4716 : Index := 0#32
  let c0_4717 : Index := 0#32
  ![v5544.toNat, 1, 0, 0]
def k0_off645 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5561 : Index := Scalar.indexCast v5380
  let c0_4726 : Index := 0#32
  let c0_4727 : Index := 0#32
  let c0_4728 : Index := 0#32
  ![v5561.toNat, 0, 0, 0]
def k0_off646 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5590 : Index := Scalar.indexCast v5380
  let c1_4746 : Index := 1#32
  let c0_4747 : Index := 0#32
  let c0_4748 : Index := 0#32
  ![v5590.toNat, 1, 0, 0]
def k0_off647 : Fin 3 → Nat :=
  let c0_i32_1653 : BitVec 32 := 0#32
  let c1_i32_1658 : BitVec 32 := 1#32
  let v1869 : BitVec 32 := Scalar.addi c0_i32_1653 c1_i32_1658
  let c31_i32_1660 : BitVec 32 := 31#32
  let v1871 : BitVec 32 := Scalar.minsi v1869 c31_i32_1660
  let c1_i32_1755 : BitVec 32 := 1#32
  let v1986 : BitVec 32 := Scalar.addi v1871 c1_i32_1755
  let c31_i32_1757 : BitVec 32 := 31#32
  let v1988 : BitVec 32 := Scalar.minsi v1986 c31_i32_1757
  let c1_i32_1852 : BitVec 32 := 1#32
  let v2103 : BitVec 32 := Scalar.addi v1988 c1_i32_1852
  let c31_i32_1854 : BitVec 32 := 31#32
  let v2105 : BitVec 32 := Scalar.minsi v2103 c31_i32_1854
  let c1_i32_1949 : BitVec 32 := 1#32
  let v2220 : BitVec 32 := Scalar.addi v2105 c1_i32_1949
  let c31_i32_1951 : BitVec 32 := 31#32
  let v2222 : BitVec 32 := Scalar.minsi v2220 c31_i32_1951
  let c1_i32_2046 : BitVec 32 := 1#32
  let v2337 : BitVec 32 := Scalar.addi v2222 c1_i32_2046
  let c31_i32_2048 : BitVec 32 := 31#32
  let v2339 : BitVec 32 := Scalar.minsi v2337 c31_i32_2048
  let c1_i32_2143 : BitVec 32 := 1#32
  let v2454 : BitVec 32 := Scalar.addi v2339 c1_i32_2143
  let c31_i32_2145 : BitVec 32 := 31#32
  let v2456 : BitVec 32 := Scalar.minsi v2454 c31_i32_2145
  let c1_i32_2240 : BitVec 32 := 1#32
  let v2571 : BitVec 32 := Scalar.addi v2456 c1_i32_2240
  let c31_i32_2242 : BitVec 32 := 31#32
  let v2573 : BitVec 32 := Scalar.minsi v2571 c31_i32_2242
  let c1_i32_2337 : BitVec 32 := 1#32
  let v2688 : BitVec 32 := Scalar.addi v2573 c1_i32_2337
  let c31_i32_2339 : BitVec 32 := 31#32
  let v2690 : BitVec 32 := Scalar.minsi v2688 c31_i32_2339
  let c1_i32_2434 : BitVec 32 := 1#32
  let v2805 : BitVec 32 := Scalar.addi v2690 c1_i32_2434
  let c31_i32_2436 : BitVec 32 := 31#32
  let v2807 : BitVec 32 := Scalar.minsi v2805 c31_i32_2436
  let c1_i32_2531 : BitVec 32 := 1#32
  let v2922 : BitVec 32 := Scalar.addi v2807 c1_i32_2531
  let c31_i32_2533 : BitVec 32 := 31#32
  let v2924 : BitVec 32 := Scalar.minsi v2922 c31_i32_2533
  let c1_i32_2628 : BitVec 32 := 1#32
  let v3039 : BitVec 32 := Scalar.addi v2924 c1_i32_2628
  let c31_i32_2630 : BitVec 32 := 31#32
  let v3041 : BitVec 32 := Scalar.minsi v3039 c31_i32_2630
  let c1_i32_2725 : BitVec 32 := 1#32
  let v3156 : BitVec 32 := Scalar.addi v3041 c1_i32_2725
  let c31_i32_2727 : BitVec 32 := 31#32
  let v3158 : BitVec 32 := Scalar.minsi v3156 c31_i32_2727
  let c1_i32_2822 : BitVec 32 := 1#32
  let v3273 : BitVec 32 := Scalar.addi v3158 c1_i32_2822
  let c31_i32_2824 : BitVec 32 := 31#32
  let v3275 : BitVec 32 := Scalar.minsi v3273 c31_i32_2824
  let c1_i32_2919 : BitVec 32 := 1#32
  let v3390 : BitVec 32 := Scalar.addi v3275 c1_i32_2919
  let c31_i32_2921 : BitVec 32 := 31#32
  let v3392 : BitVec 32 := Scalar.minsi v3390 c31_i32_2921
  let c1_i32_3016 : BitVec 32 := 1#32
  let v3507 : BitVec 32 := Scalar.addi v3392 c1_i32_3016
  let c31_i32_3018 : BitVec 32 := 31#32
  let v3509 : BitVec 32 := Scalar.minsi v3507 c31_i32_3018
  let c1_i32_3113 : BitVec 32 := 1#32
  let v3624 : BitVec 32 := Scalar.addi v3509 c1_i32_3113
  let c31_i32_3115 : BitVec 32 := 31#32
  let v3626 : BitVec 32 := Scalar.minsi v3624 c31_i32_3115
  let c1_i32_3210 : BitVec 32 := 1#32
  let v3741 : BitVec 32 := Scalar.addi v3626 c1_i32_3210
  let c31_i32_3212 : BitVec 32 := 31#32
  let v3743 : BitVec 32 := Scalar.minsi v3741 c31_i32_3212
  let c1_i32_3307 : BitVec 32 := 1#32
  let v3858 : BitVec 32 := Scalar.addi v3743 c1_i32_3307
  let c31_i32_3309 : BitVec 32 := 31#32
  let v3860 : BitVec 32 := Scalar.minsi v3858 c31_i32_3309
  let c1_i32_3404 : BitVec 32 := 1#32
  let v3975 : BitVec 32 := Scalar.addi v3860 c1_i32_3404
  let c31_i32_3406 : BitVec 32 := 31#32
  let v3977 : BitVec 32 := Scalar.minsi v3975 c31_i32_3406
  let c1_i32_3501 : BitVec 32 := 1#32
  let v4092 : BitVec 32 := Scalar.addi v3977 c1_i32_3501
  let c31_i32_3503 : BitVec 32 := 31#32
  let v4094 : BitVec 32 := Scalar.minsi v4092 c31_i32_3503
  let c1_i32_3598 : BitVec 32 := 1#32
  let v4209 : BitVec 32 := Scalar.addi v4094 c1_i32_3598
  let c31_i32_3600 : BitVec 32 := 31#32
  let v4211 : BitVec 32 := Scalar.minsi v4209 c31_i32_3600
  let c1_i32_3695 : BitVec 32 := 1#32
  let v4326 : BitVec 32 := Scalar.addi v4211 c1_i32_3695
  let c31_i32_3697 : BitVec 32 := 31#32
  let v4328 : BitVec 32 := Scalar.minsi v4326 c31_i32_3697
  let c1_i32_3792 : BitVec 32 := 1#32
  let v4443 : BitVec 32 := Scalar.addi v4328 c1_i32_3792
  let c31_i32_3794 : BitVec 32 := 31#32
  let v4445 : BitVec 32 := Scalar.minsi v4443 c31_i32_3794
  let c1_i32_3889 : BitVec 32 := 1#32
  let v4560 : BitVec 32 := Scalar.addi v4445 c1_i32_3889
  let c31_i32_3891 : BitVec 32 := 31#32
  let v4562 : BitVec 32 := Scalar.minsi v4560 c31_i32_3891
  let c1_i32_3986 : BitVec 32 := 1#32
  let v4677 : BitVec 32 := Scalar.addi v4562 c1_i32_3986
  let c31_i32_3988 : BitVec 32 := 31#32
  let v4679 : BitVec 32 := Scalar.minsi v4677 c31_i32_3988
  let c1_i32_4083 : BitVec 32 := 1#32
  let v4794 : BitVec 32 := Scalar.addi v4679 c1_i32_4083
  let c31_i32_4085 : BitVec 32 := 31#32
  let v4796 : BitVec 32 := Scalar.minsi v4794 c31_i32_4085
  let c1_i32_4180 : BitVec 32 := 1#32
  let v4911 : BitVec 32 := Scalar.addi v4796 c1_i32_4180
  let c31_i32_4182 : BitVec 32 := 31#32
  let v4913 : BitVec 32 := Scalar.minsi v4911 c31_i32_4182
  let c1_i32_4277 : BitVec 32 := 1#32
  let v5028 : BitVec 32 := Scalar.addi v4913 c1_i32_4277
  let c31_i32_4279 : BitVec 32 := 31#32
  let v5030 : BitVec 32 := Scalar.minsi v5028 c31_i32_4279
  let c1_i32_4374 : BitVec 32 := 1#32
  let v5145 : BitVec 32 := Scalar.addi v5030 c1_i32_4374
  let c31_i32_4376 : BitVec 32 := 31#32
  let v5147 : BitVec 32 := Scalar.minsi v5145 c31_i32_4376
  let c1_i32_4471 : BitVec 32 := 1#32
  let v5262 : BitVec 32 := Scalar.addi v5147 c1_i32_4471
  let c31_i32_4473 : BitVec 32 := 31#32
  let v5264 : BitVec 32 := Scalar.minsi v5262 c31_i32_4473
  let c1_i32_4568 : BitVec 32 := 1#32
  let v5379 : BitVec 32 := Scalar.addi v5264 c1_i32_4568
  let c31_i32_4570 : BitVec 32 := 31#32
  let v5381 : BitVec 32 := Scalar.minsi v5379 c31_i32_4570
  let v5612 : Index := Scalar.indexCast v5381
  let c0_4761 : Index := 0#32
  let c0_4762 : Index := 0#32
  ![v5612.toNat, 0, 0]
def k0_off648 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5620 : Index := Scalar.indexCast v5380
  let c0_4772 : Index := 0#32
  let c0_4773 : Index := 0#32
  let c0_4774 : Index := 0#32
  ![v5620.toNat, 0, 0, 0]
def k0_off649 : Fin 4 → Nat :=
  let c0_i32_1652 : BitVec 32 := 0#32
  let c1_i32_1657 : BitVec 32 := 1#32
  let v1868 : BitVec 32 := Scalar.addi c0_i32_1652 c1_i32_1657
  let c31_i32_1659 : BitVec 32 := 31#32
  let v1870 : BitVec 32 := Scalar.minsi v1868 c31_i32_1659
  let c1_i32_1754 : BitVec 32 := 1#32
  let v1985 : BitVec 32 := Scalar.addi v1870 c1_i32_1754
  let c31_i32_1756 : BitVec 32 := 31#32
  let v1987 : BitVec 32 := Scalar.minsi v1985 c31_i32_1756
  let c1_i32_1851 : BitVec 32 := 1#32
  let v2102 : BitVec 32 := Scalar.addi v1987 c1_i32_1851
  let c31_i32_1853 : BitVec 32 := 31#32
  let v2104 : BitVec 32 := Scalar.minsi v2102 c31_i32_1853
  let c1_i32_1948 : BitVec 32 := 1#32
  let v2219 : BitVec 32 := Scalar.addi v2104 c1_i32_1948
  let c31_i32_1950 : BitVec 32 := 31#32
  let v2221 : BitVec 32 := Scalar.minsi v2219 c31_i32_1950
  let c1_i32_2045 : BitVec 32 := 1#32
  let v2336 : BitVec 32 := Scalar.addi v2221 c1_i32_2045
  let c31_i32_2047 : BitVec 32 := 31#32
  let v2338 : BitVec 32 := Scalar.minsi v2336 c31_i32_2047
  let c1_i32_2142 : BitVec 32 := 1#32
  let v2453 : BitVec 32 := Scalar.addi v2338 c1_i32_2142
  let c31_i32_2144 : BitVec 32 := 31#32
  let v2455 : BitVec 32 := Scalar.minsi v2453 c31_i32_2144
  let c1_i32_2239 : BitVec 32 := 1#32
  let v2570 : BitVec 32 := Scalar.addi v2455 c1_i32_2239
  let c31_i32_2241 : BitVec 32 := 31#32
  let v2572 : BitVec 32 := Scalar.minsi v2570 c31_i32_2241
  let c1_i32_2336 : BitVec 32 := 1#32
  let v2687 : BitVec 32 := Scalar.addi v2572 c1_i32_2336
  let c31_i32_2338 : BitVec 32 := 31#32
  let v2689 : BitVec 32 := Scalar.minsi v2687 c31_i32_2338
  let c1_i32_2433 : BitVec 32 := 1#32
  let v2804 : BitVec 32 := Scalar.addi v2689 c1_i32_2433
  let c31_i32_2435 : BitVec 32 := 31#32
  let v2806 : BitVec 32 := Scalar.minsi v2804 c31_i32_2435
  let c1_i32_2530 : BitVec 32 := 1#32
  let v2921 : BitVec 32 := Scalar.addi v2806 c1_i32_2530
  let c31_i32_2532 : BitVec 32 := 31#32
  let v2923 : BitVec 32 := Scalar.minsi v2921 c31_i32_2532
  let c1_i32_2627 : BitVec 32 := 1#32
  let v3038 : BitVec 32 := Scalar.addi v2923 c1_i32_2627
  let c31_i32_2629 : BitVec 32 := 31#32
  let v3040 : BitVec 32 := Scalar.minsi v3038 c31_i32_2629
  let c1_i32_2724 : BitVec 32 := 1#32
  let v3155 : BitVec 32 := Scalar.addi v3040 c1_i32_2724
  let c31_i32_2726 : BitVec 32 := 31#32
  let v3157 : BitVec 32 := Scalar.minsi v3155 c31_i32_2726
  let c1_i32_2821 : BitVec 32 := 1#32
  let v3272 : BitVec 32 := Scalar.addi v3157 c1_i32_2821
  let c31_i32_2823 : BitVec 32 := 31#32
  let v3274 : BitVec 32 := Scalar.minsi v3272 c31_i32_2823
  let c1_i32_2918 : BitVec 32 := 1#32
  let v3389 : BitVec 32 := Scalar.addi v3274 c1_i32_2918
  let c31_i32_2920 : BitVec 32 := 31#32
  let v3391 : BitVec 32 := Scalar.minsi v3389 c31_i32_2920
  let c1_i32_3015 : BitVec 32 := 1#32
  let v3506 : BitVec 32 := Scalar.addi v3391 c1_i32_3015
  let c31_i32_3017 : BitVec 32 := 31#32
  let v3508 : BitVec 32 := Scalar.minsi v3506 c31_i32_3017
  let c1_i32_3112 : BitVec 32 := 1#32
  let v3623 : BitVec 32 := Scalar.addi v3508 c1_i32_3112
  let c31_i32_3114 : BitVec 32 := 31#32
  let v3625 : BitVec 32 := Scalar.minsi v3623 c31_i32_3114
  let c1_i32_3209 : BitVec 32 := 1#32
  let v3740 : BitVec 32 := Scalar.addi v3625 c1_i32_3209
  let c31_i32_3211 : BitVec 32 := 31#32
  let v3742 : BitVec 32 := Scalar.minsi v3740 c31_i32_3211
  let c1_i32_3306 : BitVec 32 := 1#32
  let v3857 : BitVec 32 := Scalar.addi v3742 c1_i32_3306
  let c31_i32_3308 : BitVec 32 := 31#32
  let v3859 : BitVec 32 := Scalar.minsi v3857 c31_i32_3308
  let c1_i32_3403 : BitVec 32 := 1#32
  let v3974 : BitVec 32 := Scalar.addi v3859 c1_i32_3403
  let c31_i32_3405 : BitVec 32 := 31#32
  let v3976 : BitVec 32 := Scalar.minsi v3974 c31_i32_3405
  let c1_i32_3500 : BitVec 32 := 1#32
  let v4091 : BitVec 32 := Scalar.addi v3976 c1_i32_3500
  let c31_i32_3502 : BitVec 32 := 31#32
  let v4093 : BitVec 32 := Scalar.minsi v4091 c31_i32_3502
  let c1_i32_3597 : BitVec 32 := 1#32
  let v4208 : BitVec 32 := Scalar.addi v4093 c1_i32_3597
  let c31_i32_3599 : BitVec 32 := 31#32
  let v4210 : BitVec 32 := Scalar.minsi v4208 c31_i32_3599
  let c1_i32_3694 : BitVec 32 := 1#32
  let v4325 : BitVec 32 := Scalar.addi v4210 c1_i32_3694
  let c31_i32_3696 : BitVec 32 := 31#32
  let v4327 : BitVec 32 := Scalar.minsi v4325 c31_i32_3696
  let c1_i32_3791 : BitVec 32 := 1#32
  let v4442 : BitVec 32 := Scalar.addi v4327 c1_i32_3791
  let c31_i32_3793 : BitVec 32 := 31#32
  let v4444 : BitVec 32 := Scalar.minsi v4442 c31_i32_3793
  let c1_i32_3888 : BitVec 32 := 1#32
  let v4559 : BitVec 32 := Scalar.addi v4444 c1_i32_3888
  let c31_i32_3890 : BitVec 32 := 31#32
  let v4561 : BitVec 32 := Scalar.minsi v4559 c31_i32_3890
  let c1_i32_3985 : BitVec 32 := 1#32
  let v4676 : BitVec 32 := Scalar.addi v4561 c1_i32_3985
  let c31_i32_3987 : BitVec 32 := 31#32
  let v4678 : BitVec 32 := Scalar.minsi v4676 c31_i32_3987
  let c1_i32_4082 : BitVec 32 := 1#32
  let v4793 : BitVec 32 := Scalar.addi v4678 c1_i32_4082
  let c31_i32_4084 : BitVec 32 := 31#32
  let v4795 : BitVec 32 := Scalar.minsi v4793 c31_i32_4084
  let c1_i32_4179 : BitVec 32 := 1#32
  let v4910 : BitVec 32 := Scalar.addi v4795 c1_i32_4179
  let c31_i32_4181 : BitVec 32 := 31#32
  let v4912 : BitVec 32 := Scalar.minsi v4910 c31_i32_4181
  let c1_i32_4276 : BitVec 32 := 1#32
  let v5027 : BitVec 32 := Scalar.addi v4912 c1_i32_4276
  let c31_i32_4278 : BitVec 32 := 31#32
  let v5029 : BitVec 32 := Scalar.minsi v5027 c31_i32_4278
  let c1_i32_4373 : BitVec 32 := 1#32
  let v5144 : BitVec 32 := Scalar.addi v5029 c1_i32_4373
  let c31_i32_4375 : BitVec 32 := 31#32
  let v5146 : BitVec 32 := Scalar.minsi v5144 c31_i32_4375
  let c1_i32_4470 : BitVec 32 := 1#32
  let v5261 : BitVec 32 := Scalar.addi v5146 c1_i32_4470
  let c31_i32_4472 : BitVec 32 := 31#32
  let v5263 : BitVec 32 := Scalar.minsi v5261 c31_i32_4472
  let c1_i32_4567 : BitVec 32 := 1#32
  let v5378 : BitVec 32 := Scalar.addi v5263 c1_i32_4567
  let c31_i32_4569 : BitVec 32 := 31#32
  let v5380 : BitVec 32 := Scalar.minsi v5378 c31_i32_4569
  let v5638 : Index := Scalar.indexCast v5380
  let c1_4789 : Index := 1#32
  let c0_4790 : Index := 0#32
  let c0_4791 : Index := 0#32
  ![v5638.toNat, 1, 0, 0]
@[reducible] def k0_t3_loop : Scf.Loop 32 :=
  let c0_i32_4800 : BitVec 32 := 0#32
  let c32_i32_4801 : BitVec 32 := 32#32
  let v5665 : BitVec 32 := Scalar.addi c0_i32_4800 c32_i32_4801
  let c1_i32_4802 : BitVec 32 := 1#32
  ⟨c0_i32_4800, v5665, c1_i32_4802⟩
def k0_off650 (k0_t3 : Fin k0_t3_loop.trips) : Fin 4 → Nat :=
  let c0_i32_4800 : BitVec 32 := 0#32
  let c1_i32_4802 : BitVec 32 := 1#32
  let arg15 : BitVec 32 := Scf.iv c0_i32_4800 c1_i32_4802 k0_t3
  let v5666 : Index := Scalar.indexCast arg15
  let c0_4804 : Index := 0#32
  let c128 : Index := 128#32
  let c0_4805 : Index := 0#32
  ![v5666.toNat, 0, 128, 0]
def k0_off651 (k0_t3 : Fin k0_t3_loop.trips) : Fin 4 → Nat :=
  let c0_i32_4800 : BitVec 32 := 0#32
  let c1_i32_4802 : BitVec 32 := 1#32
  let arg15 : BitVec 32 := Scf.iv c0_i32_4800 c1_i32_4802 k0_t3
  let v5671 : Index := Scalar.indexCast arg15
  let c1_4807 : Index := 1#32
  let c128_4808 : Index := 128#32
  let c0_4809 : Index := 0#32
  ![v5671.toNat, 1, 128, 0]
def k0_off652 (k0_t3 : Fin k0_t3_loop.trips) : Fin 4 → Nat :=
  let c0_i32_4800 : BitVec 32 := 0#32
  let c1_i32_4802 : BitVec 32 := 1#32
  let arg15 : BitVec 32 := Scf.iv c0_i32_4800 c1_i32_4802 k0_t3
  let v5676 : Index := Scalar.indexCast arg15
  let c0_4810 : Index := 0#32
  let c0_4811 : Index := 0#32
  let c0_4812 : Index := 0#32
  ![v5676.toNat, 0, 0, 0]
def k0_off653 (k0_t3 : Fin k0_t3_loop.trips) : Fin 4 → Nat :=
  let c0_i32_4800 : BitVec 32 := 0#32
  let c1_i32_4802 : BitVec 32 := 1#32
  let arg15 : BitVec 32 := Scf.iv c0_i32_4800 c1_i32_4802 k0_t3
  let v5681 : Index := Scalar.indexCast arg15
  let c1_4813 : Index := 1#32
  let c0_4814 : Index := 0#32
  let c0_4815 : Index := 0#32
  ![v5681.toNat, 1, 0, 0]
def k0_mult84 (k0_t3 : Fin k0_t3_loop.trips) : BitVec 32 :=
  let c0_i32_4800 : BitVec 32 := 0#32
  let c1_i32_4802 : BitVec 32 := 1#32
  let arg15 : BitVec 32 := Scf.iv c0_i32_4800 c1_i32_4802 k0_t3
  let c256_i32_4822 : BitVec 32 := 256#32
  let v5704 : BitVec 32 := Scalar.muli arg15 c256_i32_4822
  v5704
def k0_off654 (k0_t3 : Fin k0_t3_loop.trips) : Fin 3 → Nat :=
  let c0_4823 : Index := 0#32
  let c0_i32_4800 : BitVec 32 := 0#32
  let c1_i32_4802 : BitVec 32 := 1#32
  let arg15 : BitVec 32 := Scf.iv c0_i32_4800 c1_i32_4802 k0_t3
  let c256_i32_4822 : BitVec 32 := 256#32
  let v5704 : BitVec 32 := Scalar.muli arg15 c256_i32_4822
  let v5705 : BitVec 32 := v5704
  let v5706 : Index := Scalar.indexCast v5705
  let c0_4824 : Index := 0#32
  ![0, v5706.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "qscale" => some (((8 * (Real.log 2))⁻¹ : ℝ) : EReal)
  | _ => none
variable {F : FTy → Type} [FloatOps F] [Named F]
variable {F : FTy → Type} [FloatOps F] [Named F]
-- ==== ReferenceIdeal.lean ====
abbrev S2x8192x3072 : Shape := ⟨3, ![2, 8192, 3072]⟩
abbrev S1x64 : Shape := ⟨2, ![1, 64]⟩
abbrev S1x128 : Shape := ⟨2, ![1, 128]⟩
abbrev S2x8192x1024 : Shape := ⟨3, ![2, 8192, 1024]⟩
abbrev S2x8192x8x2x64 : Shape := ⟨5, ![2, 8192, 8, 2, 64]⟩
abbrev S2x8x2x8192x64 : Shape := ⟨5, ![2, 8, 2, 8192, 64]⟩
abbrev S2x8192x8x128 : Shape := ⟨4, ![2, 8192, 8, 128]⟩
abbrev S2x8x8192x128 : Shape := ⟨4, ![2, 8, 8192, 128]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x1x8192x64 : Shape := ⟨5, ![2, 8, 1, 8192, 64]⟩
abbrev S2x8x8192x64 : Shape := ⟨4, ![2, 8, 8192, 64]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S128 : Shape := ⟨1, ![128]⟩
abbrev S1x1x1x128 : Shape := ⟨4, ![1, 1, 1, 128]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x8x2x64, .f32⟩
  | .hbm, ⟨10, _⟩ => ⟨S2x8x2x8192x64, .f32⟩
  | .hbm, ⟨11, _⟩ => ⟨S2x8192x8x2x64, .f32⟩
  | .hbm, ⟨12, _⟩ => ⟨S2x8x2x8192x64, .f32⟩
  | .hbm, ⟨13, _⟩ => ⟨S2x8192x8x128, .f32⟩
  | .hbm, ⟨14, _⟩ => ⟨S2x8x8192x128, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .i32⟩
  | .hbm, ⟨31, _⟩ => ⟨S1x8192, .i32⟩
  | .hbm, ⟨32, _⟩ => ⟨S8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S2x8x1x8192x64, .f32⟩
  | .hbm, ⟨38, _⟩ => ⟨S2x8x8192x64, .f32⟩
  | .hbm, ⟨39, _⟩ => ⟨S2x8x1x8192x64, .f32⟩
  | .hbm, ⟨40, _⟩ => ⟨S2x8x8192x64, .f32⟩
  | .hbm, ⟨41, _⟩ => ⟨S2x8x8192x8192, .f32⟩
  | .hbm, ⟨42, _⟩ => ⟨S_, .f32⟩
  | .hbm, ⟨43, _⟩ => ⟨S2x8x8192x8192, .f32⟩
  | .hbm, ⟨44, _⟩ => ⟨S2x8x8192x8192, .f32⟩
  | .hbm, ⟨45, _⟩ => ⟨S2x8x1x8192x64, .f32⟩
  | .hbm, ⟨46, _⟩ => ⟨S2x8x8192x64, .f32⟩
  | .hbm, ⟨47, _⟩ => ⟨S2x8x1x8192x64, .f32⟩
  | .hbm, ⟨48, _⟩ => ⟨S2x8x8192x64, .f32⟩
  | .hbm, ⟨49, _⟩ => ⟨S2x8x8192x8192, .f32⟩
  | .hbm, ⟨50, _⟩ => ⟨S_, .f32⟩
  | .hbm, ⟨51, _⟩ => ⟨S2x8x8192x8192, .f32⟩
  | .hbm, ⟨52, _⟩ => ⟨S2x8x8192x8192, .f32⟩
  | .hbm, ⟨53, _⟩ => ⟨S_, .f32⟩
  | .hbm, ⟨54, _⟩ => ⟨S_, .f32⟩
  | .hbm, ⟨55, _⟩ => ⟨S2x8x8192x8192, .i1⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S2x8x8192, .f32⟩
  | .hbm, ⟨60, _⟩ => ⟨S_, .f32⟩
  | .hbm, ⟨61, _⟩ => ⟨S2x8x8192, .f32⟩
  | .hbm, ⟨62, _⟩ => ⟨S2x8x8192, .f32⟩
  | .hbm, ⟨63, _⟩ => ⟨S2x8x8192x1, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S_, .f32⟩
  | .hbm, ⟨68, _⟩ => ⟨S2x8x8192, .f32⟩
  | .hbm, ⟨69, _⟩ => ⟨S2x8x8192x1, .f32⟩
  | .hbm, ⟨70, _⟩ => ⟨S2x8x8192x8192, .f32⟩
  | .hbm, ⟨71, _⟩ => ⟨S2x8x8192x8192, .f32⟩
  | .hbm, ⟨72, _⟩ => ⟨S_, .f32⟩
  | .hbm, ⟨73, _⟩ => ⟨S_, .f32⟩
  | .hbm, ⟨74, _⟩ => ⟨S2x8x8192x8192, .i1⟩
  | .hbm, ⟨75, _⟩ => ⟨S2x8x8192x8192, .f32⟩
  | .hbm, ⟨76, _⟩ => ⟨S2x8x8192x8192, .f32⟩
  | .hbm, ⟨77, _⟩ => ⟨S_, .f32⟩
  | .hbm, ⟨78, _⟩ => ⟨S2x8x8192, .f32⟩
  | .hbm, ⟨79, _⟩ => ⟨S_, .f32⟩
  | .hbm, ⟨80, _⟩ => ⟨S2x8x8192, .f32⟩
  | .hbm, ⟨81, _⟩ => ⟨S2x8x8192, .f32⟩
  | .hbm, ⟨82, _⟩ => ⟨S2x8x8192x1, .f32⟩
  | .hbm, ⟨83, _⟩ => ⟨S2x8x8192x8192, .f32⟩
  | .hbm, ⟨84, _⟩ => ⟨S2x8x8192x8192, .f32⟩
  | .hbm, ⟨85, _⟩ => ⟨S2x8x8192x8192, .f32⟩
  | .hbm, ⟨86, _⟩ => ⟨S_, .f32⟩
  | .hbm, ⟨87, _⟩ => ⟨S2x8x8192, .f32⟩
  | .hbm, ⟨88, _⟩ => ⟨S2x8x8192x1, .f32⟩
  | .hbm, ⟨89, _⟩ => ⟨S2x8x8192x8192, .f32⟩
  | .hbm, ⟨90, _⟩ => ⟨S2x8x8192x8192, .f32⟩
  | .hbm, ⟨91, _⟩ => ⟨S2x8x8192x8192, .f32⟩
  | .hbm, ⟨92, _⟩ => ⟨S2x8x8192x8192, .f32⟩
  | .hbm, ⟨93, _⟩ => ⟨S2x8x8192x8192, .f32⟩
  | .hbm, ⟨94, _⟩ => ⟨S2x8x8192x128, .f32⟩
  | .hbm, ⟨95, _⟩ => ⟨S2x8x8192x128, .f32⟩
  | .hbm, ⟨96, _⟩ => ⟨S_, .f32⟩
  | .hbm, ⟨97, _⟩ => ⟨S2x8x8192, .f32⟩
  | .hbm, ⟨98, _⟩ => ⟨S2x8x8192x1, .f32⟩
  | .hbm, ⟨99, _⟩ => ⟨S_, .f32⟩
  | .hbm, ⟨100, _⟩ => ⟨S2x8x8192x1, .f32⟩
  | .hbm, ⟨101, _⟩ => ⟨S2x8x8192x1, .f32⟩
  | .hbm, ⟨102, _⟩ => ⟨S_, .f32⟩
  | .hbm, ⟨103, _⟩ => ⟨S2x8x8192x1, .f32⟩
  | .hbm, ⟨104, _⟩ => ⟨S2x8x8192x1, .f32⟩
  | .hbm, ⟨105, _⟩ => ⟨S2x8x8192x1, .f32⟩
  | .hbm, ⟨106, _⟩ => ⟨S2x8x8192x128, .f32⟩
  | .hbm, ⟨107, _⟩ => ⟨S2x8x8192x128, .f32⟩
  | .hbm, ⟨108, _⟩ => ⟨S128, .f32⟩
  | .hbm, ⟨109, _⟩ => ⟨S1x1x1x128, .f32⟩
  | .hbm, ⟨110, _⟩ => ⟨S2x8x8192x128, .f32⟩
  | .hbm, ⟨111, _⟩ => ⟨S2x8x8192x128, .f32⟩
  | .hbm, ⟨112, _⟩ => ⟨S_, .f32⟩
  | .hbm, ⟨113, _⟩ => ⟨S2x8x8192x128, .f32⟩
  | .hbm, ⟨114, _⟩ => ⟨S2x8x8192x128, .f32⟩
  | .hbm, ⟨115, _⟩ => ⟨S2x8192x8x128, .f32⟩
  | .hbm, ⟨116, _⟩ => ⟨S2x8192x1024, .f32⟩
  | .hbm, ⟨117, _⟩ => ⟨S2x8192x1024, .bf16⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel2.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S1x1024x4096, .f32⟩
  | .hbm, ⟨11, _⟩ => ⟨S1024x4096, .f32⟩
  | .hbm, ⟨12, _⟩ => ⟨S1x4096x1024, .f32⟩
  | .hbm, ⟨13, _⟩ => ⟨S4096x1024, .f32⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x4096, .f32⟩
  | .hbm, ⟨30, _⟩ => ⟨S1024x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S1x4096x1024, .f32⟩
  | .hbm, ⟨37, _⟩ => ⟨S4096x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S1x1024x4096, .f32⟩
  | .hbm, ⟨11, _⟩ => ⟨S1024x4096, .f32⟩
  | .hbm, ⟨12, _⟩ => ⟨S1x4096x1024, .f32⟩
  | .hbm, ⟨13, _⟩ => ⟨S4096x1024, .f32⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x4096, .f32⟩
  | .hbm, ⟨31, _⟩ => ⟨S1024x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S1x4096x1024, .f32⟩
  | .hbm, ⟨38, _⟩ => ⟨S4096x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S16384x3072 : Shape := ⟨2, ![16384, 3072]⟩
abbrev S1024x1024 : Shape := ⟨2, ![1024, 1024]⟩
abbrev S1024x1 : Shape := ⟨2, ![1024, 1]⟩
abbrev S1024x2048 : Shape := ⟨2, ![1024, 2048]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1024x3072, .f32⟩
  | .hbm, ⟨6, _⟩ => ⟨S1x1024, .f32⟩
  | .hbm, ⟨7, _⟩ => ⟨S1024x3072, .bf16⟩
  | .hbm, ⟨8, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x1024 : Shape := ⟨2, ![16384, 1024]⟩
abbrev S2x1024 : Shape := ⟨2, ![2, 1024]⟩
abbrev S1x1024x3072 : Shape := ⟨3, ![1, 1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1024x3072 : Shape := ⟨2, ![1024, 3072]⟩
abbrev S16384x3072 : Shape := ⟨2, ![16384, 3072]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3072, .f32⟩
  | .hbm, ⟨22, _⟩ => ⟨S16384x3072, .f32⟩
  | .hbm, ⟨23, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S1x1024x3072 : Shape := ⟨3, ![1, 1024, 3072]⟩
abbrev S1x3x512 : Shape := ⟨3, ![1, 3, 512]⟩
abbrev S1x1024 : Shape := ⟨2, ![1, 1024]⟩
abbrev S1024 : Shape := ⟨1, ![1024]⟩
abbrev S1024x3072 : Shape := ⟨2, ![1024, 3072]⟩
abbrev S3x512 : Shape := ⟨2, ![3, 512]⟩
abbrev S16384x1536 : Shape := ⟨2, ![16384, 1536]⟩
abbrev S16384x512 : Shape := ⟨2, ![16384, 512]⟩
abbrev S1024x1024 : Shape := ⟨2, ![1024, 1024]⟩
abbrev S1024x1536 : Shape := ⟨2, ![1024, 1536]⟩
abbrev S1024x512 : Shape := ⟨2, ![1024, 512]⟩
abbrev S1032x512 : Shape := ⟨2, ![1032, 512]⟩
abbrev S8x512 : Shape := ⟨2, ![8, 512]⟩
abbrev S1024x1 : Shape := ⟨2, ![1024, 1]⟩
abbrev S1x512 : Shape := ⟨2, ![1, 512]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x3x512, .f32⟩
  | .hbm, ⟨4, _⟩ => ⟨S1x1024, .f32⟩
  | .hbm, ⟨5, _⟩ => ⟨S1024, .f32⟩
  | .hbm, ⟨6, _⟩ => ⟨S1024x3072, .f32⟩
  | .hbm, ⟨7, _⟩ => ⟨S3x512, .f32⟩
  | .hbm, ⟨8, _⟩ => ⟨S1x1024, .f32⟩
  | .hbm, ⟨9, _⟩ => ⟨S1024x3072, .bf16⟩
  | .hbm, ⟨10, _⟩ => ⟨S16384x1536, .bf16⟩
  | .hbm, ⟨11, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S3x512, .f32⟩
  | .local _ .vmem, ⟨5, _⟩ => ⟨S1024x1536, .bf16⟩
  | .local _ .vmem, ⟨6, _⟩ => ⟨S1024x1536, .bf16⟩
  | .local _ .vmem, ⟨7, _⟩ => ⟨S1024x512, .bf16⟩
  | .local _ .vmem, ⟨8, _⟩ => ⟨S1024x512, .bf16⟩
  | .local _ .vmem, ⟨9, _⟩ => ⟨S1032x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S2x1024 : Shape := ⟨2, ![2, 1024]⟩
abbrev S1x1024x3072 : Shape := ⟨3, ![1, 1024, 3072]⟩
abbrev S1x3x512 : Shape := ⟨3, ![1, 3, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1024x3072 : Shape := ⟨2, ![1024, 3072]⟩
abbrev S16384x3072 : Shape := ⟨2, ![16384, 3072]⟩
abbrev S16384x1536 : Shape := ⟨2, ![16384, 1536]⟩
abbrev S16384x512 : Shape := ⟨2, ![16384, 512]⟩
abbrev S2x8192x512 : Shape := ⟨3, ![2, 8192, 512]⟩
abbrev S2x8194x512 : Shape := ⟨3, ![2, 8194, 512]⟩
abbrev S1x1x512 : Shape := ⟨3, ![1, 1, 512]⟩
abbrev S512 : Shape := ⟨1, ![512]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x3x512, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x3072, .f32⟩
  | .hbm, ⟨23, _⟩ => ⟨S16384x3072, .f32⟩
  | .hbm, ⟨24, _⟩ => ⟨S16384x1536, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S2x8192x512, .f32⟩
  | .hbm, ⟨30, _⟩ => ⟨S_, .i32⟩
  | .hbm, ⟨31, _⟩ => ⟨S_, .f32⟩
  | .hbm, ⟨32, _⟩ => ⟨S2x8194x512, .f32⟩
  | .hbm, ⟨33, _⟩ => ⟨S2x8192x512, .f32⟩
  | .hbm, ⟨34, _⟩ => ⟨S1x1x512, .f32⟩
  | .hbm, ⟨35, _⟩ => ⟨S512, .f32⟩
  | .hbm, ⟨36, _⟩ => ⟨S1x1x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S1x1x512, .f32⟩
  | .hbm, ⟨41, _⟩ => ⟨S512, .f32⟩
  | .hbm, ⟨42, _⟩ => ⟨S1x1x512, .f32⟩
  | .hbm, ⟨43, _⟩ => ⟨S2x8192x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S1x1x512, .f32⟩
  | .hbm, ⟨48, _⟩ => ⟨S512, .f32⟩
  | .hbm, ⟨49, _⟩ => ⟨S1x1x512, .f32⟩
  | .hbm, ⟨50, _⟩ => ⟨S2x8192x512, .f32⟩
  | .hbm, ⟨51, _⟩ => ⟨S2x8192x512, .f32⟩
  | .hbm, ⟨52, _⟩ => ⟨S2x8192x512, .f32⟩
  | .hbm, ⟨53, _⟩ => ⟨S16384x1536, .bf16⟩
  | .hbm, ⟨54, _⟩ => ⟨S16384x512, .f32⟩
  | .hbm, ⟨55, _⟩ => ⟨S16384x512, .f32⟩
  | .hbm, ⟨56, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Steps.lean ====
/- One step of the attention kernel, written once over its buffers: the scores of the next pair of
   tiles, the accumulation of the pair before, the softmax of the pair in hand. The printed body is
   a sequence of these steps (Body.lean says so); everything proved about it is proved here step by step. -/
module

public import proofs.«01_k».proof.Proof.Gen.KernelIdeal

@[expose] public section

noncomputable section

namespace Cert.Proof.Steps

open Cert.KernelIdeal Cert.KernelIdeal.Facts₀
open Idealize.ShloMosaic Idealize.SL.Sem

variable {F : FTy → Type} [FloatOps F] [Named F]

/-- The buffers a step goes over: the keys' block and the scratch buffers. -/
structure Bufs where
  /-- the keys of the head -/
  k : Memref sig .tc .vmem S1x8192x128 .bf16
  /-- the transposed queries, one tile per row tile and map -/
  qt : Memref sig .tc .vmem S32x2x128x256 .bf16
  /-- the transposed values with rows of ones below, one tile per column tile -/
  vt : Memref sig .tc .vmem S32x144x256 .bf16
  /-- the scores, by slot and map -/
  s : Memref sig .tc .vmem S2x2x256x256 .f32
  /-- the exponentials, by slot and map -/
  p : Memref sig .tc .vmem S2x2x256x256 .bf16
  /-- that buffer is a whole one -/
  hp : p.IsWhole
  /-- the factors of the old sums, by slot and map -/
  a : Memref sig .tc .vmem S2x2x1x256 .f32
  /-- the running maxima, by row tile and map -/
  m : Memref sig .tc .vmem S32x2x1x256 .f32
  /-- the running sums, by row tile and map -/
  acc : Memref sig .tc .vmem S32x2x144x256 .f32

/-! ## In bounds -/

/-- A row of four axes is in bounds when each axis is. -/
theorem inb4 {s : Fin 4 → ℕ} {a b c d a' b' c' d' : ℕ} (ha : a + a' ≤ s 0) (hb : b + b' ≤ s 1)
    (hc : c + c' ≤ s 2) (hd : d + d' ≤ s 3) :
    ∀ x, (![a, b, c, d] : Fin 4 → ℕ) x + (![a', b', c', d'] : Fin 4 → ℕ) x ≤ s x := by
  intro x; fin_cases x
  · exact ha
  · exact hb
  · exact hc
  · exact hd

/-- A row of three axes is in bounds when each axis is. -/
theorem inb3 {s : Fin 3 → ℕ} {a b c a' b' c' : ℕ} (ha : a + a' ≤ s 0) (hb : b + b' ≤ s 1)
    (hc : c + c' ≤ s 2) :
    ∀ x, (![a, b, c] : Fin 3 → ℕ) x + (![a', b', c'] : Fin 3 → ℕ) x ≤ s x := by
  intro x; fin_cases x
  · exact ha
  · exact hb
  · exact hc

/-- The word of column tile `j`'s first key. -/
abbrev kword (j : BitVec 32) : BitVec 32 := Scalar.indexCast (Scalar.muli j 256#32)

/-- A key tile's first row. -/
theorem kword_toNat {j : BitVec 32} (h : j.toNat < 32) : (kword j).toNat = 256 * j.toNat := by
  show (j * 256#32).toNat = _
  rw [BitVec.toNat_mul]
  show j.toNat * 256 % 2 ^ 32 = _
  omega

/-- A key tile lies in the keys. -/
theorem inb_k {j : BitVec 32} (h : j.toNat < 32) :
    ∀ x, (![0, (kword j).toNat, 0] : Fin 3 → ℕ) x + S1x256x128.size x ≤ S1x8192x128.size x := by
  refine inb3 (by decide) ?_ (by decide)
  rw [kword_toNat h]; show _ ≤ 8192; omega

/-- A transposed query tile lies in its buffer. -/
theorem inb_qt {i : BitVec 32} (h : i.toNat < 32) {mp : ℕ} (hm : mp ≤ 1) :
    ∀ x, (![i.toNat, mp, 0, 0] : Fin 4 → ℕ) x + S1x1x128x256.size x ≤ S32x2x128x256.size x :=
  inb4 (by show _ ≤ 32; omega) (by show _ ≤ 2; omega) (by decide) (by decide)

/-- A transposed value tile lies in its buffer. -/
theorem inb_vt {j : BitVec 32} (h : j.toNat < 32) :
    ∀ x, (![j.toNat, 0, 0] : Fin 3 → ℕ) x + S1x144x256.size x ≤ S32x144x256.size x :=
  inb3 (by show _ ≤ 32; omega) (by decide) (by decide)

/-- A score tile lies in its buffer. -/
theorem inb_s {sl mp : ℕ} (h : sl ≤ 1) (hm : mp ≤ 1) :
    ∀ x, (![sl, mp, 0, 0] : Fin 4 → ℕ) x + S1x1x256x256.size x ≤ S2x2x256x256.size x :=
  inb4 (by show _ ≤ 2; omega) (by show _ ≤ 2; omega) (by decide) (by decide)

/-- A row of factors lies in its buffer. -/
theorem inb_a {sl mp : ℕ} (h : sl ≤ 1) (hm : mp ≤ 1) :
    ∀ x, (![sl, mp, 0, 0] : Fin 4 → ℕ) x + S1x1x1x256.size x ≤ S2x2x1x256.size x :=
  inb4 (by show _ ≤ 2; omega) (by show _ ≤ 2; omega) (by decide) (by decide)

/-- A row of maxima lies in its buffer. -/
theorem inb_m {i : BitVec 32} (h : i.toNat < 32) {mp : ℕ} (hm : mp ≤ 1) :
    ∀ x, (![i.toNat, mp, 0, 0] : Fin 4 → ℕ) x + S1x1x1x256.size x ≤ S32x2x1x256.size x :=
  inb4 (by show _ ≤ 32; omega) (by show _ ≤ 2; omega) (by decide) (by decide)

/-- An accumulator tile lies in its buffer. -/
theorem inb_acc {i : BitVec 32} (h : i.toNat < 32) {mp : ℕ} (hm : mp ≤ 1) :
    ∀ x, (![i.toNat, mp, 0, 0] : Fin 4 → ℕ) x + S1x1x144x256.size x ≤ S32x2x144x256.size x :=
  inb4 (by show _ ≤ 32; omega) (by show _ ≤ 2; omega) (by decide) (by decide)

/-- A tile of exponentials is whole packed rows. -/
theorem packed_p {sl mp : ℕ} (h : sl ≤ 1) (hm : mp ≤ 1) :
    (Rect.unit (s := S2x2x256x256) ![sl, mp, 0, 0] S1x1x256x256.size (inb_s h hm)).PackedRows (EltTy.packing .bf16) := by
  interval_cases sl <;> interval_cases mp
  · exact packedbf16_S2x2x256x256_S1x1x256x256_0_0_0_0
  · exact packedbf16_S2x2x256x256_S1x1x256x256_0_1_0_0
  · exact packedbf16_S2x2x256x256_S1x1x256x256_1_0_0_0
  · exact packedbf16_S2x2x256x256_S1x1x256x256_1_1_0_0

/-! ## The values of a step -/

/-- A tile of scores, keys down and queries across: keys times transposed queries. -/
def payS (k : Vec F S1x256x128 .bf16) (q : Vec F S1x1x128x256 .bf16) : FVec F S1x1x256x256 .f32 :=
  shapeCast S1x1x256x256
    (matmul dot_S256x128_S128x256_S256x256_1_0_0_1_n_n none (shapeCast S256x128 k shapeCasts_S1x256x128_S256x128)
      (shapeCast S128x256 q shapeCasts_S1x1x128x256_S128x256) (constant S256x256 .f32 0x00000000#32))
    shapeCasts_S256x256_S1x1x256x256

/-- The new sums: the factor times the old sums, plus values times exponentials. -/
def payAcc (vt : Vec F S1x144x256 .bf16) (p : Vec F S1x1x256x256 .bf16) (a : Vec F S1x1x1x256 .f32)
    (acc : Vec F S1x1x144x256 .f32) : FVec F S1x1x144x256 .f32 :=
  shapeCast S1x1x144x256
    (addf (mulf (broadcastTo S144x256 (shapeCast S1x256 a shapeCasts_S1x1x1x256_S1x256 : FVec F S1x256 .f32) broadcasts_S1x256_S144x256)
        (shapeCast S144x256 acc shapeCasts_S1x1x144x256_S144x256))
      (matmul dot_S144x256_S256x256_S144x256_1_0_0_1_n_n none (shapeCast S144x256 vt shapeCasts_S1x144x256_S144x256 : FVec F S144x256 .bf16)
        (shapeCast S256x256 p shapeCasts_S1x1x256x256_S256x256 : FVec F S256x256 .bf16) (constant S144x256 .f32 0x00000000#32)))
    shapeCasts_S144x256_S1x1x144x256

/-- The scores as the softmax takes them: on the diagonal, the keys after the query are masked. -/
def scoreOf (diag : Bool) (s : Vec F S1x1x256x256 .f32) : FVec F S256x256 .f32 :=
  match diag with
  | false => shapeCast S256x256 s shapeCasts_S1x1x256x256_S256x256
  | true => select (cmpi .sle (iota .tc S256x256 32 [0] iota_S256x256_d0_w32) (iota .tc S256x256 32 [1] iota_S256x256_d1_w32))
      (shapeCast S256x256 s shapeCasts_S1x1x256x256_S256x256 : FVec F S256x256 .f32)
      (broadcast S256x256 (Named.named κ "mask" 0xF149F2CA#32 : F .f32))

/-- The new maxima. -/
def maxOf (st : FVec F S256x256 .f32) (m : Vec F S1x1x1x256 .f32) : FVec F S1x256 .f32 :=
  maximumf (shapeCast S1x256 m shapeCasts_S1x1x1x256_S1x256)
    (shapeCast S1x256 (multiReduction .maximumf [0] S256 st 0xFF800000#32 reduces_S256x256_S256 (.inl rfl) rfl)
      shapeCasts_S256_S1x256)

/-- The new maxima, as they are stored. -/
def payM (st : FVec F S256x256 .f32) (m : Vec F S1x1x1x256 .f32) : FVec F S1x1x1x256 .f32 :=
  shapeCast S1x1x1x256 (maxOf st m) shapeCasts_S1x256_S1x1x1x256

/-- The factor of the old sums: `2 ^ (old maximum - new maximum)`. -/
def payA (st : FVec F S256x256 .f32) (m : Vec F S1x1x1x256 .f32) : FVec F S1x1x1x256 .f32 :=
  shapeCast S1x1x1x256 (exp2 (subf (shapeCast S1x256 m shapeCasts_S1x1x1x256_S1x256 : FVec F S1x256 .f32) (maxOf st m))) shapeCasts_S1x256_S1x1x1x256

/-- The exponentials `2 ^ (score - new maximum)`. -/
def payP (st : FVec F S256x256 .f32) (m : Vec F S1x1x1x256 .f32) : FVec F S1x1x256x256 .bf16 :=
  shapeCast S1x1x256x256
    (truncf .bf16 (exp2 (subf st (broadcastTo S256x256 (maxOf st m) broadcasts_S1x256_S256x256))) bitsLt_bf16_f32)
    shapeCasts_S256x256_S1x1x256x256

/-! ## The step's operations -/

/-- The scores of one map from its queries' tile. -/
def scores1 (B : Bufs) (k : Vec F S1x256x128 .bf16) (i : BitVec 32) (hi : i.toNat < 32) (sl : ℕ) (hs : sl ≤ 1) (mp : ℕ) (hm : mp ≤ 1) :
    Prog (TpuEff nD τ sig (Elt F) Λ₀ .tc) PUnit := do
  let q : Vec F S1x1x128x256 .bf16 ← Prog.lift (.load B.qt (Rect.unit (s := S32x2x128x256) ![i.toNat, mp, 0, 0] S1x1x128x256.size (inb_qt hi hm)).toLoadRect (View.loadsAt_vmem h_S1x1x128x256))
  let _o : Vec F S1x1x256x256 .f32 ← Prog.lift (.load B.s (Rect.unit (s := S2x2x256x256) ![sl, mp, 0, 0] S1x1x256x256.size (inb_s hs hm)).toLoadRect (View.loadsAt_vmem h_S1x1x256x256))
  Prog.lift (.store B.s (Rect.unit (s := S2x2x256x256) ![sl, mp, 0, 0] S1x1x256x256.size (inb_s hs hm)) (payS k q) Finset.univ (View.stores_vmem_bits_univ h_S1x1x256x256 rfl) (.inl rfl))

/-- The scores of row tile `i` and column tile `j` into a slot. -/
def scoresP (B : Bufs) (i j : BitVec 32) (hi : i.toNat < 32) (hj : j.toNat < 32) (sl : ℕ) (hs : sl ≤ 1) :
    Prog (TpuEff nD τ sig (Elt F) Λ₀ .tc) PUnit := do
  let k : Vec F S1x256x128 .bf16 ← Prog.lift (.load B.k (Rect.unit (s := S1x8192x128) ![0, (kword j).toNat, 0] S1x256x128.size (inb_k hj)).toLoadRect (View.loadsAt_vmem h_S1x256x128))
  scores1 B k i hi sl hs 0 (by decide)
  scores1 B k i hi sl hs 1 (by decide)

/-- The accumulation of one map. -/
def acc1 (B : Bufs) (i j : BitVec 32) (hi : i.toNat < 32) (hj : j.toNat < 32) (sl : ℕ) (hs : sl ≤ 1) (mp : ℕ) (hm : mp ≤ 1) :
    Prog (TpuEff nD τ sig (Elt F) Λ₀ .tc) PUnit := do
  let v : Vec F S1x144x256 .bf16 ← Prog.lift (.load B.vt (Rect.unit (s := S32x144x256) ![j.toNat, 0, 0] S1x144x256.size (inb_vt hj)).toLoadRect (View.loadsAt_vmem h_S1x144x256))
  let p : Vec F S1x1x256x256 .bf16 ← Prog.lift (.load B.p (Rect.unit (s := S2x2x256x256) ![sl, mp, 0, 0] S1x1x256x256.size (inb_s hs hm)).toLoadRect (View.loadsAt_vmem h_S1x1x256x256))
  let a : Vec F S1x1x1x256 .f32 ← Prog.lift (.load B.a (Rect.unit (s := S2x2x1x256) ![sl, mp, 0, 0] S1x1x1x256.size (inb_a hs hm)).toLoadRect (View.loadsAt_vmem h_S1x1x1x256))
  let c : Vec F S1x1x144x256 .f32 ← Prog.lift (.load B.acc (Rect.unit (s := S32x2x144x256) ![i.toNat, mp, 0, 0] S1x1x144x256.size (inb_acc hi hm)).toLoadRect (View.loadsAt_vmem h_S1x1x144x256))
  let _o : Vec F S1x1x144x256 .f32 ← Prog.lift (.load B.acc (Rect.unit (s := S32x2x144x256) ![i.toNat, mp, 0, 0] S1x1x144x256.size (inb_acc hi hm)).toLoadRect (View.loadsAt_vmem h_S1x1x144x256))
  Prog.lift (.store B.acc (Rect.unit (s := S32x2x144x256) ![i.toNat, mp, 0, 0] S1x1x144x256.size (inb_acc hi hm)) (payAcc v p a c) Finset.univ (View.stores_vmem_bits_univ h_S1x1x144x256 rfl) (.inl rfl))

/-- The accumulation of the pair whose exponentials are in a slot. -/
def accP (B : Bufs) (i j : BitVec 32) (hi : i.toNat < 32) (hj : j.toNat < 32) (sl : ℕ) (hs : sl ≤ 1) :
    Prog (TpuEff nD τ sig (Elt F) Λ₀ .tc) PUnit := do
  acc1 B i j hi hj sl hs 0 (by decide)
  acc1 B i j hi hj sl hs 1 (by decide)

/-- The softmax of one map. -/
def soft1 (B : Bufs) (diag : Bool) (i : BitVec 32) (hi : i.toNat < 32) (sl : ℕ) (hs : sl ≤ 1) (mp : ℕ) (hm : mp ≤ 1) :
    Prog (TpuEff nD τ sig (Elt F) Λ₀ .tc) PUnit := do
  let s : Vec F S1x1x256x256 .f32 ← Prog.lift (.load B.s (Rect.unit (s := S2x2x256x256) ![sl, mp, 0, 0] S1x1x256x256.size (inb_s hs hm)).toLoadRect (View.loadsAt_vmem h_S1x1x256x256))
  let m : Vec F S1x1x1x256 .f32 ← Prog.lift (.load B.m (Rect.unit (s := S32x2x1x256) ![i.toNat, mp, 0, 0] S1x1x1x256.size (inb_m hi hm)).toLoadRect (View.loadsAt_vmem h_S1x1x1x256))
  let _o : Vec F S1x1x1x256 .f32 ← Prog.lift (.load B.a (Rect.unit (s := S2x2x1x256) ![sl, mp, 0, 0] S1x1x1x256.size (inb_a hs hm)).toLoadRect (View.loadsAt_vmem h_S1x1x1x256))
  Prog.lift (.store B.a (Rect.unit (s := S2x2x1x256) ![sl, mp, 0, 0] S1x1x1x256.size (inb_a hs hm)) (payA (scoreOf diag s) m) Finset.univ (View.stores_vmem_bits_univ h_S1x1x1x256 rfl) (.inl rfl))
  let _o : Vec F S1x1x256x256 .bf16 ← Prog.lift (.load B.p (Rect.unit (s := S2x2x256x256) ![sl, mp, 0, 0] S1x1x256x256.size (inb_s hs hm)).toLoadRect (View.loadsAt_vmem h_S1x1x256x256))
  Prog.lift (.store B.p (Rect.unit (s := S2x2x256x256) ![sl, mp, 0, 0] S1x1x256x256.size (inb_s hs hm)) (payP (scoreOf diag s) m) Finset.univ (View.stores_vmem h_S1x1x256x256 (B.hp.storeExact_slice rfl _ (packed_p hs hm)) (fun _ => rfl)) (.inl rfl))
  let _o : Vec F S1x1x1x256 .f32 ← Prog.lift (.load B.m (Rect.unit (s := S32x2x1x256) ![i.toNat, mp, 0, 0] S1x1x1x256.size (inb_m hi hm)).toLoadRect (View.loadsAt_vmem h_S1x1x1x256))
  Prog.lift (.store B.m (Rect.unit (s := S32x2x1x256) ![i.toNat, mp, 0, 0] S1x1x1x256.size (inb_m hi hm)) (payM (scoreOf diag s) m) Finset.univ (View.stores_vmem_bits_univ h_S1x1x1x256 rfl) (.inl rfl))

/-- The softmax of the scores in a slot, which are row tile `i`'s. -/
def softP (B : Bufs) (diag : Bool) (i : BitVec 32) (hi : i.toNat < 32) (sl : ℕ) (hs : sl ≤ 1) :
    Prog (TpuEff nD τ sig (Elt F) Λ₀ .tc) PUnit := do
  soft1 B diag i hi sl hs 0 (by decide)
  soft1 B diag i hi sl hs 1 (by decide)

/-- A pair of tiles that lie inside the grid of tiles. -/
structure Pair where
  /-- the row tile -/
  i : BitVec 32
  /-- the column tile -/
  j : BitVec 32
  hi : i.toNat < 32
  hj : j.toNat < 32

/-- One step: the scores of the next pair into the other slot, the accumulation of the pair before
    out of the other slot, the softmax of the pair in hand in this slot. -/
def stepP (B : Bufs) (diag : Bool) (nxt cur prv : Pair) (sl : ℕ) (hs : sl ≤ 1) :
    Prog (TpuEff nD τ sig (Elt F) Λ₀ .tc) PUnit := do
  scoresP B nxt.i nxt.j nxt.hi nxt.hj (1 - sl) (Nat.sub_le 1 sl)
  accP B prv.i prv.j prv.hi prv.hj (1 - sl) (Nat.sub_le 1 sl)
  softP B diag cur.i cur.hi sl hs

/-- The row tile after the pair, in the order along the rows below the diagonal. -/
abbrev nxtI (i j : BitVec 32) : BitVec 32 :=
  Scalar.minsi (Scalar.select (Scalar.cmpi .sge (Scalar.addi j 1#32) i) (Scalar.addi i 1#32) i) 31#32
/-- The column tile after the pair, in that order. -/
abbrev nxtJ (i j : BitVec 32) : BitVec 32 :=
  Scalar.minsi (Scalar.select (Scalar.cmpi .sge (Scalar.addi j 1#32) i) 0#32 (Scalar.addi j 1#32)) 31#32

/-- A tile number, clamped, is below 32. -/
theorem minsi_lt {x : BitVec 32} (h : x.toNat < 33) : (Scalar.minsi x 31#32).toNat < 32 := by
  show (if x.slt 31#32 then x else 31#32).toNat < 32
  split
  · rename_i h'
    rw [BitVec.slt_iff_toInt_lt, BitVec.toInt_eq_toNat_cond, BitVec.toInt_eq_toNat_cond] at h'
    have : (31#32 : BitVec 32).toNat = 31 := rfl
    rw [this] at h'
    split at h' <;> split at h' <;> omega
  · decide

/-- Adding one to a tile number does not wrap. -/
theorem add_one_toNat {x : BitVec 32} (h : x.toNat < 32) : (Scalar.addi x 1#32).toNat = x.toNat + 1 := by
  show (x + 1#32).toNat = _
  rw [BitVec.toNat_add]
  show (x.toNat + 1) % 2 ^ 32 = _
  omega

/-- A choice of two words below a bound is below it. -/
theorem select_lt {c : BitVec 1} {x y : BitVec 32} {n : ℕ} (hx : x.toNat < n) (hy : y.toNat < n) :
    (Scalar.select c x y).toNat < n := by
  unfold Scalar.select; split <;> assumption

/-- The pair after a pair, in the order along the rows below the diagonal. -/
def Pair.next (c : Pair) : Pair where
  i := nxtI c.i c.j
  j := nxtJ c.i c.j
  hi := minsi_lt (select_lt (by rw [add_one_toNat c.hi]; exact Nat.succ_lt_succ c.hi) (Nat.lt_succ_of_lt c.hi))
  hj := minsi_lt (select_lt (by decide) (by rw [add_one_toNat c.hj]; exact Nat.succ_lt_succ c.hj))

/-- `n` steps along the rows, the slots alternating. -/
def stepsP (B : Bufs) (n : ℕ) : (cur prv : Pair) → (sl : ℕ) → sl ≤ 1 → Prog (TpuEff nD τ sig (Elt F) Λ₀ .tc) PUnit :=
  Nat.rec (fun _ _ _ _ => pure ⟨⟩)
    (fun _ rest cur prv sl hs => do
      stepP B false cur.next cur prv sl hs
      rest cur.next cur (1 - sl) (Nat.sub_le 1 sl)) n

/-- The pair `n` steps on, and the one before it. -/
def pairs (n : ℕ) : Pair → Pair → Pair × Pair :=
  Nat.rec (fun c p => (c, p)) (fun _ rest c _ => rest c.next c) n

/-- The diagonal pair of a row tile, the last one again after the last. -/
def diagPair (t : ℕ) : Pair where
  i := BitVec.ofNat 32 (min t 31)
  j := BitVec.ofNat 32 (min t 31)
  hi := by rw [BitVec.toNat_ofNat]; omega
  hj := by rw [BitVec.toNat_ofNat]; omega

end Cert.Proof.Steps
-- ==== Proof.Body.lean ====
/- The body of the attention kernel, written as a sequence of steps, and the printed body IS that
   sequence: the two unfold to the same operations on the same rectangles. -/
module

public import proofs.«01_k».proof.Proof.Steps
public import Idealize.ShloMosaic.Lib.Tactic

@[expose] public section

noncomputable section

namespace Cert.Proof.Steps

open Cert.KernelIdeal Cert.KernelIdeal.Facts₀
open Idealize.ShloMosaic Idealize.SL.Sem Idealize.ShloMosaic.Tactic

variable {F : FTy → Type} [FloatOps F] [Named F]

/-! ## What the checked offsets say of the words -/

/-- A word that passed this run-time check is a tile number. -/
theorem chk4_lt {i : BitVec 32} (h : k0_chk4 i) : i.toNat < 32 := h.1 0
/-- A word that passed this run-time check is a tile number. -/
theorem chk3_lt {i : BitVec 32} (h : k0_chk3 i) : i.toNat < 32 := h.1 0
/-- A word that passed this run-time check is a tile number. -/
theorem chk2_lt {i : BitVec 32} (h : k0_chk2 i) : i.toNat < 32 := h.1 0
/-- A word that passed this run-time check is a tile number. -/
theorem chk1_lt {i j : BitVec 32} (h : k0_chk1 i j) : j.toNat < 32 := h.1.2.2.2.2.2.2.2.2.1 0
/-- A word that passed this run-time check is a tile number. -/
theorem chk7_lt {i : BitVec 32} (h : k0_chk7 i) : i.toNat < 32 := h.1 0
/-- A word that passed this run-time check is a tile number. -/
theorem chk6_lt {i : BitVec 32} (h : k0_chk6 i) : i.toNat < 32 := h.1 0

/-- A word that passed this run-time check is a tile number. -/
theorem chk8_lt {i : BitVec 32} (h : k0_chk8 i) : i.toNat < 32 := h 0
/-- A word that passed this run-time check is a tile number. -/
theorem chk5_lt {i j : BitVec 32} (h : k0_chk5 j i) : i.toNat < 32 := h.1.2.2.2.2.1 0

/-! ## The loop along the rows -/

/-- One trip of the kernel's loop along the rows: thirty-two steps. -/
def tripS (B : Bufs) : BitVec 32 × BitVec 32 × BitVec 32 × BitVec 32 →
    Prog (TpuEff nD τ sig (Elt F) Λ₀ .tc) (BitVec 32 × BitVec 32 × BitVec 32 × BitVec 32) :=
  fun (a, b, c, d) => do
    have h4 : k0_chk4 a := (← Prog.lift (TpuEff.assume (k0_chk4 a) (k0_chk4.dec a))).down
    have h3 : k0_chk3 c := (← Prog.lift (TpuEff.assume (k0_chk3 c) (k0_chk3.dec c))).down
    have h2 : k0_chk2 d := (← Prog.lift (TpuEff.assume (k0_chk2 d) (k0_chk2.dec d))).down
    have h1 : k0_chk1 a b := (← Prog.lift (TpuEff.assume (k0_chk1 a b) (k0_chk1.dec a b))).down
    stepsP B 32 ⟨a, b, chk4_lt h4, chk1_lt h1⟩ ⟨c, d, chk3_lt h3, chk2_lt h2⟩ 0 (by decide)
    let r := pairs 32 ⟨a, b, chk4_lt h4, chk1_lt h1⟩ ⟨c, d, chk3_lt h3, chk2_lt h2⟩
    pure (r.1.i, r.1.j, r.2.i, r.2.j)

/-! ## The diagonal -/

/-- The steps along the diagonal from the `t`-th, `n` of them. -/
def diagP (B : Bufs) (n : ℕ) : (t sl : ℕ) → sl ≤ 1 → Prog (TpuEff nD τ sig (Elt F) Λ₀ .tc) PUnit :=
  Nat.rec (fun _ _ _ => pure ⟨⟩)
    (fun _ rest t sl hs => do
      stepP B true (diagPair (t + 1)) (diagPair t) (diagPair (t - 1)) sl hs
      rest (t + 1) (1 - sl) (Nat.sub_le 1 sl)) n

/-- Zero exponentials of slot 1. -/
def zeroP : FVec F S1x2x256x256 .bf16 :=
  shapeCast S1x2x256x256 (broadcast S2x256x256 (Scalar.ofBits .bf16 0x0000#16 : F .bf16) : FVec F S2x256x256 .bf16) shapeCasts_S2x256x256_S1x2x256x256

/-- Factors one of slot 1. -/
def oneA : FVec F S1x2x1x256 .f32 :=
  shapeCast S1x2x1x256 (broadcast S2x1x256 (Scalar.ofBits .f32 0x3F800000#32 : F .f32) : FVec F S2x1x256 .f32) shapeCasts_S2x1x256_S1x2x1x256

/-- The start of a run: the first pair's scores into slot 0, nothing to accumulate in slot 1. -/
def startP (B : Bufs) (c : Pair) : Prog (TpuEff nD τ sig (Elt F) Λ₀ .tc) PUnit := do
  scoresP B c.i c.j c.hi c.hj 0 (by decide)
  let _o : Vec F S1x2x256x256 .bf16 ← Prog.lift (.load B.p (Rect.unit (s := S2x2x256x256) ![1, 0, 0, 0] S1x2x256x256.size inb_S2x2x256x256_S1x2x256x256_1_0_0_0).toLoadRect (View.loadsAt_vmem h_S1x2x256x256))
  Prog.lift (.store B.p (Rect.unit (s := S2x2x256x256) ![1, 0, 0, 0] S1x2x256x256.size inb_S2x2x256x256_S1x2x256x256_1_0_0_0) zeroP Finset.univ (View.stores_vmem h_S1x2x256x256 (B.hp.storeExact_slice rfl _ packedbf16_S2x2x256x256_S1x2x256x256_1_0_0_0) (fun _ => rfl)) (.inl rfl))
  let _o : Vec F S1x2x1x256 .f32 ← Prog.lift (.load B.a (Rect.unit (s := S2x2x1x256) ![1, 0, 0, 0] S1x2x1x256.size inb_S2x2x1x256_S1x2x1x256_1_0_0_0).toLoadRect (View.loadsAt_vmem h_S1x2x1x256))
  Prog.lift (.store B.a (Rect.unit (s := S2x2x1x256) ![1, 0, 0, 0] S1x2x1x256.size inb_S2x2x1x256_S1x2x1x256_1_0_0_0) oneA Finset.univ (View.stores_vmem_bits_univ h_S1x2x1x256 rfl) (.inl rfl))

/-- The first pair of the rows. -/
def pair10 : Pair := ⟨1#32, 0#32, by decide, by decide⟩

/-! ## Before the runs: queries, values, maxima and sums of every tile -/

/-- The transposed queries of a tile, scaled. -/
def payQ (q : Vec F S1x256x128 .bf16) : FVec F S128x256 .f32 :=
  mulf (transpose S128x256 [1, 0] (extf .f32 (shapeCast S256x128 q shapeCasts_S1x256x128_S256x128 : FVec F S256x128 .bf16) bitsLt_bf16_f32 : FVec F S256x128 .f32)
      transposes_S256x128_p1_0_S128x256)
    (broadcast S128x256 (Named.named κ "qscale" 0x3E38AA3B#32 : F .f32))

/-- The lower half of the features. -/
def loHalf : IVec S128x256 1 := cmpi .slt (iota .tc S128x256 32 [0] iota_S128x256_d0_w32) (broadcast S128x256 64#32)

/-- The queries of the first map: the lower half of the features, zero above. -/
def payQ0 (q : Vec F S1x256x128 .bf16) : FVec F S1x1x128x256 .bf16 :=
  shapeCast S1x1x128x256 (truncf .bf16 (select loHalf (payQ q) (broadcast S128x256 (Scalar.ofBits .f32 0x00000000#32 : F .f32)) : FVec F S128x256 .f32) bitsLt_bf16_f32)
    shapeCasts_S128x256_S1x1x128x256

/-- The queries of the second map: the upper half of the features, zero below. -/
def payQ1 (q : Vec F S1x256x128 .bf16) : FVec F S1x1x128x256 .bf16 :=
  shapeCast S1x1x128x256 (truncf .bf16 (select loHalf (broadcast S128x256 (Scalar.ofBits .f32 0x00000000#32 : F .f32)) (payQ q) : FVec F S128x256 .f32) bitsLt_bf16_f32)
    shapeCasts_S128x256_S1x1x128x256

/-- The transposed values of a tile. -/
def payV (v : Vec F S1x256x128 .bf16) : FVec F S1x128x256 .bf16 :=
  shapeCast S1x128x256 (truncf .bf16 (transpose S128x256 [1, 0] (extf .f32 (shapeCast S256x128 v shapeCasts_S1x256x128_S256x128 : FVec F S256x128 .bf16) bitsLt_bf16_f32 : FVec F S256x128 .f32)
      transposes_S256x128_p1_0_S128x256) bitsLt_bf16_f32) shapeCasts_S128x256_S1x128x256

/-- The rows of ones below the values. -/
def payOnes : FVec F S1x16x256 .bf16 :=
  shapeCast S1x16x256 (broadcast S16x256 (Scalar.ofBits .bf16 0x3F80#16 : F .bf16) : FVec F S16x256 .bf16) shapeCasts_S16x256_S1x16x256

/-- The maxima before any score. -/
def payM0 : FVec F S1x2x1x256 .f32 :=
  shapeCast S1x2x1x256 (broadcast S2x1x256 (Named.named κ "mask" 0xF149F2CA#32 : F .f32) : FVec F S2x1x256 .f32) shapeCasts_S2x1x256_S1x2x1x256

/-- The sums before any score. -/
def payAcc0 : FVec F S1x2x144x256 .f32 :=
  shapeCast S1x2x144x256 (broadcast S2x144x256 (Scalar.ofBits .f32 0x00000000#32 : F .f32) : FVec F S2x144x256 .f32) shapeCasts_S2x144x256_S1x2x144x256

/-- One tile's preparation. -/
def prepP (B : Bufs) (hqt : B.qt.IsWhole) (hvt : B.vt.IsWhole) (q v : Memref sig .tc .vmem S1x8192x128 .bf16) (t : Fin k0_t1_loop.trips) :
    Prog (TpuEff nD τ sig (Elt F) Λ₀ .tc) PUnit := do
  let x : Vec F S1x256x128 .bf16 ← Prog.lift (.load q (Rect.unit (s := S1x8192x128) (k0_off1 t) S1x256x128.size (k0_off1_inb t)).toLoadRect (View.loadsAt_vmem h_S1x256x128))
  let _o : Vec F S1x1x128x256 .bf16 ← Prog.lift (.load B.qt (Rect.unit (s := S32x2x128x256) (k0_off2 t) S1x1x128x256.size (k0_off2_inb t)).toLoadRect (View.loadsAt_vmem h_S1x1x128x256))
  Prog.lift (.store B.qt (Rect.unit (s := S32x2x128x256) (k0_off2 t) S1x1x128x256.size (k0_off2_inb t)) (payQ0 x) Finset.univ (View.stores_vmem h_S1x1x128x256 (hqt.storeExact_slice rfl _ (k0_off2_packedbf16 t)) (fun _ => rfl)) (.inl rfl))
  let _o : Vec F S1x1x128x256 .bf16 ← Prog.lift (.load B.qt (Rect.unit (s := S32x2x128x256) (k0_off3 t) S1x1x128x256.size (k0_off3_inb t)).toLoadRect (View.loadsAt_vmem h_S1x1x128x256))
  Prog.lift (.store B.qt (Rect.unit (s := S32x2x128x256) (k0_off3 t) S1x1x128x256.size (k0_off3_inb t)) (payQ1 x) Finset.univ (View.stores_vmem h_S1x1x128x256 (hqt.storeExact_slice rfl _ (k0_off3_packedbf16 t)) (fun _ => rfl)) (.inl rfl))
  let y : Vec F S1x256x128 .bf16 ← Prog.lift (.load v (Rect.unit (s := S1x8192x128) (k0_off1 t) S1x256x128.size (k0_off1_inb t)).toLoadRect (View.loadsAt_vmem h_S1x256x128))
  let _o : Vec F S1x128x256 .bf16 ← Prog.lift (.load B.vt (Rect.unit (s := S32x144x256) (k0_off4 t) S1x128x256.size (k0_off4_inb t)).toLoadRect (View.loadsAt_vmem h_S1x128x256))
  Prog.lift (.store B.vt (Rect.unit (s := S32x144x256) (k0_off4 t) S1x128x256.size (k0_off4_inb t)) (payV y) Finset.univ (View.stores_vmem h_S1x128x256 (hvt.storeExact_slice rfl _ (k0_off4_packedbf16 t)) (fun _ => rfl)) (.inl rfl))
  let _o : Vec F S1x16x256 .bf16 ← Prog.lift (.load B.vt (Rect.unit (s := S32x144x256) (k0_off5 t) S1x16x256.size (k0_off5_inb t)).toLoadRect (View.loadsAt_vmem h_S1x16x256))
  Prog.lift (.store B.vt (Rect.unit (s := S32x144x256) (k0_off5 t) S1x16x256.size (k0_off5_inb t)) payOnes Finset.univ (View.stores_vmem h_S1x16x256 (hvt.storeExact_slice rfl _ (k0_off5_packedbf16 t)) (fun _ => rfl)) (.inl rfl))
  let _o : Vec F S1x2x1x256 .f32 ← Prog.lift (.load B.m (Rect.unit (s := S32x2x1x256) (k0_off6 t) S1x2x1x256.size (k0_off6_inb t)).toLoadRect (View.loadsAt_vmem h_S1x2x1x256))
  Prog.lift (.store B.m (Rect.unit (s := S32x2x1x256) (k0_off6 t) S1x2x1x256.size (k0_off6_inb t)) payM0 Finset.univ (View.stores_vmem_bits_univ h_S1x2x1x256 rfl) (.inl rfl))
  let _o : Vec F S1x2x144x256 .f32 ← Prog.lift (.load B.acc (Rect.unit (s := S32x2x144x256) (k0_off7 t) S1x2x144x256.size (k0_off7_inb t)).toLoadRect (View.loadsAt_vmem h_S1x2x144x256))
  Prog.lift (.store B.acc (Rect.unit (s := S32x2x144x256) (k0_off7 t) S1x2x144x256.size (k0_off7_inb t)) payAcc0 Finset.univ (View.stores_vmem_bits_univ h_S1x2x144x256 rfl) (.inl rfl))

/-! ## After the runs: quotients, their difference, its norm -/

/-- `exp` of the inner product of two rows of the four vectors. -/
def payE (off1 off2 : Fin 2 → ℕ) (h1 : S4x64.Slices off1 S1x64) (h2 : S4x64.Slices off2 S1x64) (l : FVec F S4x64 .f32) : FVec F S1x1 .f32 :=
  exp (shapeCast S1x1 (multiReduction .add [1] S1
    (mulf (extractStridedSlice S1x64 off1 l h1 : FVec F S1x64 .f32) (extractStridedSlice S1x64 off2 l h2)) 0x00000000#32 reduces_S1x64_S1 (.inl rfl) rfl) shapeCasts_S1_S1x1)

/-- The weight of the second map. -/
def payLam (l : Vec F S4x64 .f32) : FVec F S1x1 .f32 :=
  addf (subf (payE ![0, 0] ![1, 0] slices_S4x64_o0_0_S1x64 slices_S4x64_o1_0_S1x64 (shapeCast S4x64 l shapeCasts_S4x64_S4x64))
      (payE ![2, 0] ![3, 0] slices_S4x64_o2_0_S1x64 slices_S4x64_o3_0_S1x64 (shapeCast S4x64 l shapeCasts_S4x64_S4x64)))
    (broadcast S1x1 (Scalar.ofBits .f32 0x3EB60549#32 : F .f32))

/-- The difference of the two maps' quotients. -/
def payD (lam : FVec F S1x1 .f32) (l1 l2 : Vec F S1x1x1x256 .f32) (o1 o2 : Vec F S1x1x128x256 .f32) : FVec F S128x256 .f32 :=
  subf
    (mulf (shapeCast S128x256 o1 shapeCasts_S1x1x128x256_S128x256)
      (broadcastTo S128x256 (divf (broadcast S1x256 (Scalar.ofBits .f32 0x3F800000#32 : F .f32)) (shapeCast S1x256 l1 shapeCasts_S1x1x1x256_S1x256 : FVec F S1x256 .f32)) broadcasts_S1x256_S128x256))
    (mulf (shapeCast S128x256 o2 shapeCasts_S1x1x128x256_S128x256)
      (broadcastTo S128x256 (divf (broadcastTo S1x256 lam broadcasts_S1x1_S1x256) (shapeCast S1x256 l2 shapeCasts_S1x1x1x256_S1x256 : FVec F S1x256 .f32)) broadcasts_S1x256_S128x256))

/-- The normed difference, transposed back. -/
def payO (d : FVec F S128x256 .f32) (g : Vec F S128x256 .f32) : FVec F S1x256x128 .bf16 :=
  shapeCast S1x256x128
    (truncf .bf16 (transpose S256x128 [1, 0]
      (mulf (mulf (mulf d (broadcastTo S128x256
            (rsqrt (addf (divf (shapeCast S1x256 (multiReduction .add [0] S256 (mulf d d) 0x00000000#32 reduces_S128x256_S256 (.inl rfl) rfl) shapeCasts_S256_S1x256)
              (broadcast S1x256 (Scalar.ofBits .f32 0x43000000#32 : F .f32))) (broadcast S1x256 (Scalar.ofBits .f32 0x358637BD#32 : F .f32))) : FVec F S1x256 .f32)
            broadcasts_S1x256_S128x256))
          (shapeCast S128x256 g shapeCasts_S128x256_S128x256))
        (broadcast S128x256 (Scalar.ofBits .f32 0x3F24FD5C#32 : F .f32)))
      transposes_S128x256_p1_0_S256x128) bitsLt_bf16_f32)
    shapeCasts_S256x128_S1x256x128

/-- One tile's end. -/
def finP (B : Bufs) (g : Memref sig .tc .vmem S128x256 .f32) (o : Memref sig .tc .vmem S1x8192x128 .bf16) (ho : o.IsWhole) (lam : FVec F S1x1 .f32) (t : Fin k0_t3_loop.trips) :
    Prog (TpuEff nD τ sig (Elt F) Λ₀ .tc) PUnit := do
  let l1 : Vec F S1x1x1x256 .f32 ← Prog.lift (.load B.acc (Rect.unit (s := S32x2x144x256) (k0_off650 t) S1x1x1x256.size (k0_off650_inb t)).toLoadRect (View.loadsAt_vmem h_S1x1x1x256))
  let l2 : Vec F S1x1x1x256 .f32 ← Prog.lift (.load B.acc (Rect.unit (s := S32x2x144x256) (k0_off651 t) S1x1x1x256.size (k0_off651_inb t)).toLoadRect (View.loadsAt_vmem h_S1x1x1x256))
  let o1 : Vec F S1x1x128x256 .f32 ← Prog.lift (.load B.acc (Rect.unit (s := S32x2x144x256) (k0_off652 t) S1x1x128x256.size (k0_off652_inb t)).toLoadRect (View.loadsAt_vmem h_S1x1x128x256))
  let o2 : Vec F S1x1x128x256 .f32 ← Prog.lift (.load B.acc (Rect.unit (s := S32x2x144x256) (k0_off653 t) S1x1x128x256.size (k0_off653_inb t)).toLoadRect (View.loadsAt_vmem h_S1x1x128x256))
  let gg : Vec F S128x256 .f32 ← Prog.lift (.load g (Rect.unit (s := S128x256) ![0, 0] S128x256.size inb_S128x256_S128x256_0_0).toLoadRect (View.loadsAt_vmem h_S128x256))
  let _o : Vec F S1x256x128 .bf16 ← Prog.lift (.load o (Rect.unit (s := S1x8192x128) (k0_off654 t) S1x256x128.size (k0_off654_inb t)).toLoadRect (View.loadsAt_vmem h_S1x256x128))
  Prog.lift (.store o (Rect.unit (s := S1x8192x128) (k0_off654 t) S1x256x128.size (k0_off654_inb t)) (payO (payD lam l1 l2 o1 o2) gg) Finset.univ (View.stores_vmem h_S1x256x128 (ho.storeExact_slice rfl _ (k0_off654_packedbf16 t)) (fun _ => rfl)) (.inl rfl))

/-! ## The body -/

/-- The loop of the tiles' ends. -/
def finishP (B : Bufs) (g : Memref sig .tc .vmem S128x256 .f32) (o : Memref sig .tc .vmem S1x8192x128 .bf16) (ho : o.IsWhole) (lam : FVec F S1x1 .f32) :
    Prog (TpuEff nD τ sig (Elt F) Λ₀ .tc) PUnit := do
  Scf.Loop.for k0_t3_loop k0_t3_ok ⟨⟩ fun t _ => finP B g o ho lam t
  pure ⟨⟩

/-- The checks after the loop along the rows. -/
structure Checked (w : BitVec 32 × BitVec 32 × BitVec 32 × BitVec 32) : Prop where
  h8 : k0_chk8 w.2.1
  h7 : k0_chk7 w.2.2.1
  h6 : k0_chk6 w.2.2.2
  h5 : k0_chk5 w.2.1 w.1

/-- The pair in hand after the loop. -/
def Checked.cur {w : BitVec 32 × BitVec 32 × BitVec 32 × BitVec 32} (h : Checked w) : Pair := ⟨w.1, w.2.1, chk5_lt h.h5, chk8_lt h.h8⟩
/-- The pair before it. -/
def Checked.prv {w : BitVec 32 × BitVec 32 × BitVec 32 × BitVec 32} (h : Checked w) : Pair := ⟨w.2.2.1, w.2.2.2, chk7_lt h.h7, chk6_lt h.h6⟩

/-- The checks, as operations. -/
def checkP (w : BitVec 32 × BitVec 32 × BitVec 32 × BitVec 32) : Prog (TpuEff nD τ sig (Elt F) Λ₀ .tc) (PLift (Checked w)) := do
  have h8 : k0_chk8 w.2.1 := (← Prog.lift (TpuEff.assume (k0_chk8 w.2.1) (k0_chk8.dec w.2.1))).down
  have h7 : k0_chk7 w.2.2.1 := (← Prog.lift (TpuEff.assume (k0_chk7 w.2.2.1) (k0_chk7.dec w.2.2.1))).down
  have h6 : k0_chk6 w.2.2.2 := (← Prog.lift (TpuEff.assume (k0_chk6 w.2.2.2) (k0_chk6.dec w.2.2.2))).down
  have h5 : k0_chk5 w.2.1 w.1 := (← Prog.lift (TpuEff.assume (k0_chk5 w.2.1 w.1) (k0_chk5.dec w.2.1 w.1))).down
  pure ⟨⟨h8, h7, h6, h5⟩⟩

/-- What follows the loop along the rows: its remaining steps, the run along the diagonal, the ends. -/
def tailP (B : Bufs) (lam : Memref sig .tc .vmem S4x64 .f32) (g : Memref sig .tc .vmem S128x256 .f32)
    (o : Memref sig .tc .vmem S1x8192x128 .bf16) (ho : o.IsWhole) (w : BitVec 32 × BitVec 32 × BitVec 32 × BitVec 32) :
    Prog (TpuEff nD τ sig (Elt F) Λ₀ .tc) PUnit := do
  let h ← checkP w
  stepsP B 16 h.down.cur h.down.prv 0 (by decide)
  let l := (pairs 16 h.down.cur h.down.prv).2
  accP B l.i l.j l.hi l.hj 1 (by decide)
  startP B (diagPair 0)
  diagP B 32 0 0 (by decide)
  accP B (diagPair 31).i (diagPair 31).j (diagPair 31).hi (diagPair 31).hj 1 (by decide)
  let l : Vec F S4x64 .f32 ← Prog.lift (.load lam (Rect.unit (s := S4x64) ![0, 0] S4x64.size inb_S4x64_S4x64_0_0).toLoadRect (View.loadsAt_vmem h_S4x64))
  finishP B g o ho (payLam l)
  pure ⟨⟩

/-- The body of the kernel. -/
def bodyP (B : Bufs) (hqt : B.qt.IsWhole) (hvt : B.vt.IsWhole) (lam : Memref sig .tc .vmem S4x64 .f32) (g : Memref sig .tc .vmem S128x256 .f32)
    (q v o : Memref sig .tc .vmem S1x8192x128 .bf16) (ho : o.IsWhole) : Prog (TpuEff nD τ sig (Elt F) Λ₀ .tc) PUnit := do
  Scf.Loop.for k0_t1_loop k0_t1_ok ⟨⟩ fun t _ => prepP B hqt hvt q v t
  startP B pair10
  let w ← Scf.Loop.for k0_t2_loop k0_t2_ok (1#32, 0#32, 1#32, 0#32) fun _ => tripS B
  tailP B lam g o ho w

/-! ## The printed body is that sequence -/

section

variable (i : grid0.Coords)
  (arg2 : Memref sig .tc .vmem S4x64 .f32) (harg2 : arg2.IsWhole)
  (arg3 : Memref sig .tc .vmem S128x256 .f32) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x8192x128 .bf16) (harg6 : arg6.IsWhole)
  (arg7 : Memref sig .tc .vmem S1x8192x128 .bf16) (harg7 : arg7.IsWhole)
  (arg8 : Memref sig .tc .vmem S32x2x128x256 .bf16) (harg8 : arg8.IsWhole)
  (arg9 : Memref sig .tc .vmem S32x144x256 .bf16) (harg9 : arg9.IsWhole)
  (arg10 : Memref sig .tc .vmem S2x2x256x256 .f32) (harg10 : arg10.IsWhole)
  (arg11 : Memref sig .tc .vmem S2x2x256x256 .bf16) (harg11 : arg11.IsWhole)
  (arg12 : Memref sig .tc .vmem S2x2x1x256 .f32) (harg12 : arg12.IsWhole)
  (arg13 : Memref sig .tc .vmem S32x2x1x256 .f32) (harg13 : arg13.IsWhole)
  (arg14 : Memref sig .tc .vmem S32x2x144x256 .f32) (harg14 : arg14.IsWhole)

/-- The body's first part: the loop of the tiles' preparation, the first scores, the exponentials' slot read. -/
theorem part121_eq : k0_part121 (F := F) i arg2 harg2 arg3 harg3 arg4 harg4 arg5 harg5 arg6 harg6 arg7 harg7 arg8 harg8 arg9 harg9 arg10 harg10 arg11 harg11 arg12 harg12 arg13 harg13 arg14 harg14 = (do
    Scf.Loop.for k0_t1_loop k0_t1_ok ⟨⟩ fun t _ => prepP ⟨arg5, arg8, arg9, arg10, arg11, harg11, arg12, arg13, arg14⟩ harg8 harg9 arg4 arg6 t
    scoresP ⟨arg5, arg8, arg9, arg10, arg11, harg11, arg12, arg13, arg14⟩ 1#32 0#32 (by decide) (by decide) 0 (by decide)
    let o : Vec F S1x2x256x256 .bf16 ← Prog.lift (.load arg11 (Rect.unit (s := S2x2x256x256) ![1, 0, 0, 0] S1x2x256x256.size inb_S2x2x256x256_S1x2x256x256_1_0_0_0).toLoadRect (View.loadsAt_vmem h_S1x2x256x256))
    pure ⟨broadcast S2x256x256 (Scalar.ofBits .bf16 0x0000#16), o⟩) := by
  sl_kernel_rfl

/-- Its second part: slot 1 cleared, the loop along the rows, the first scores after it. -/
theorem part122_eq (o : Vec F S1x2x256x256 .bf16) : k0_part122 (F := F) i arg2 harg2 arg3 harg3 arg4 harg4 arg5 harg5 arg6 harg6 arg7 harg7 arg8 harg8 arg9 harg9 arg10 harg10 arg11 harg11 arg12 harg12 arg13 harg13 arg14 harg14 (broadcast S2x256x256 (Scalar.ofBits .bf16 0x0000#16)) o = (do
    Prog.lift (.store arg11 (Rect.unit (s := S2x2x256x256) ![1, 0, 0, 0] S1x2x256x256.size inb_S2x2x256x256_S1x2x256x256_1_0_0_0) zeroP Finset.univ (View.stores_vmem h_S1x2x256x256 (harg11.storeExact_slice rfl _ packedbf16_S2x2x256x256_S1x2x256x256_1_0_0_0) (fun _ => rfl)) (.inl rfl))
    let _o : Vec F S1x2x1x256 .f32 ← Prog.lift (.load arg12 (Rect.unit (s := S2x2x1x256) ![1, 0, 0, 0] S1x2x1x256.size inb_S2x2x1x256_S1x2x1x256_1_0_0_0).toLoadRect (View.loadsAt_vmem h_S1x2x1x256))
    Prog.lift (.store arg12 (Rect.unit (s := S2x2x1x256) ![1, 0, 0, 0] S1x2x1x256.size inb_S2x2x1x256_S1x2x1x256_1_0_0_0) oneA Finset.univ (View.stores_vmem_bits_univ h_S1x2x1x256 rfl) (.inl rfl))
    let w ← Scf.Loop.for k0_t2_loop k0_t2_ok (1#32, 0#32, 1#32, 0#32) fun _ => tripS ⟨arg5, arg8, arg9, arg10, arg11, harg11, arg12, arg13, arg14⟩
    let h ← checkP w
    let k : Vec F S1x256x128 .bf16 ← Prog.lift (.load arg5 (Rect.unit (s := S1x8192x128) ![0, (kword h.down.cur.next.j).toNat, 0] S1x256x128.size (inb_k h.down.cur.next.hj)).toLoadRect (View.loadsAt_vmem h_S1x256x128))
    let q : Vec F S1x1x128x256 .bf16 ← Prog.lift (.load arg8 (Rect.unit (s := S32x2x128x256) ![h.down.cur.next.i.toNat, 0, 0, 0] S1x1x128x256.size (inb_qt h.down.cur.next.hi (by decide))).toLoadRect (View.loadsAt_vmem h_S1x1x128x256))
    pure ⟨w.1, w.2.1, w.2.2.1, w.2.2.2, h.down.h8, h.down.h7, h.down.h6, h.down.h5, h.down.cur.next.i, h.down.cur.next.j,
      shapeCast S256x128 k shapeCasts_S1x256x128_S256x128,
      matmul dot_S256x128_S128x256_S256x256_1_0_0_1_n_n none (shapeCast S256x128 k shapeCasts_S1x256x128_S256x128 : FVec F S256x128 .bf16)
        (shapeCast S128x256 q shapeCasts_S1x1x128x256_S128x256 : FVec F S128x256 .bf16) (constant S256x256 .f32 0x00000000#32)⟩) := by
  sl_kernel_rfl

/-- The printed body is the sequence of steps. -/
theorem body_eq : cc0_diff_attn (F := F) i arg2 harg2 arg3 harg3 arg4 harg4 arg5 harg5 arg6 harg6 arg7 harg7 arg8 harg8 arg9 harg9 arg10 harg10 arg11 harg11 arg12 harg12 arg13 harg13 arg14 harg14 = bodyP ⟨arg5, arg8, arg9, arg10, arg11, harg11, arg12, arg13, arg14⟩ harg8 harg9 arg2 arg3 arg4 arg6 arg7 harg7 := by
  unfold cc0_diff_attn k0_part304
  simp only [part121_eq, bind_assoc, pure_bind, part122_eq]
  sl_kernel_rfl

end

end Cert.Proof.Steps
-- ==== Proof.Mem.lean ====
/- Buffers by tiles: a scratch buffer's contents written as one tile per pair of leading coordinates, what a
   load or store of a tile is of them, and the rules of a load and a store of a buffer held so. -/
module

public import proofs.«01_k».proof.Proof.Gen.KernelIdeal
public import Idealize.ShloMosaic.Lib.VecWindow
public import Idealize.ShloMosaic.Lib.Pipeline.Kit
public import Idealize.ShloMosaic.Lib.Tactic

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Tiles -/

section Tiles

variable {α : Type} {a b c d : ℕ}

/-- A tile of a buffer of four axes. -/
abbrev T4 (α : Type) (c d : ℕ) : Type := ((x : Fin 4) → Fin ((![1, 1, c, d] : Fin 4 → ℕ) x)) → α
/-- A tile of a buffer of three axes. -/
abbrev T3 (α : Type) (c d : ℕ) : Type := ((x : Fin 3) → Fin ((![1, c, d] : Fin 3 → ℕ) x)) → α

/-- An index of four axes from its coordinates. -/
def mk4 (i : Fin a) (j : Fin b) (k : Fin c) (l : Fin d) : (x : Fin 4) → Fin ((![a, b, c, d] : Fin 4 → ℕ) x)
  | 0 => i
  | 1 => j
  | 2 => k
  | 3 => l

/-- An index of three axes from its coordinates. -/
def mk3 (i : Fin a) (j : Fin b) (k : Fin c) : (x : Fin 3) → Fin ((![a, b, c] : Fin 3 → ℕ) x)
  | 0 => i
  | 1 => j
  | 2 => k

/-- Two indices of four axes are one when their coordinates are. -/
theorem ext4 {s : Fin 4 → ℕ} {x y : (i : Fin 4) → Fin (s i)} (h0 : (x 0).val = (y 0).val) (h1 : (x 1).val = (y 1).val)
    (h2 : (x 2).val = (y 2).val) (h3 : (x 3).val = (y 3).val) : x = y := by
  funext i; refine Fin.ext ?_; fin_cases i
  · exact h0
  · exact h1
  · exact h2
  · exact h3

/-- Two indices of three axes are one when their coordinates are. -/
theorem ext3 {s : Fin 3 → ℕ} {x y : (i : Fin 3) → Fin (s i)} (h0 : (x 0).val = (y 0).val) (h1 : (x 1).val = (y 1).val)
    (h2 : (x 2).val = (y 2).val) : x = y := by
  funext i; refine Fin.ext ?_; fin_cases i
  · exact h0
  · exact h1
  · exact h2

/-- The contents made of tiles, one per pair of leading coordinates. -/
def flat4 (T : ℕ → ℕ → T4 α c d) : ((x : Fin 4) → Fin ((![a, b, c, d] : Fin 4 → ℕ) x)) → α :=
  fun y => T (y 0).val (y 1).val (mk4 0 0 (y 2) (y 3))

/-- The contents made of tiles, one per leading coordinate. -/
def flat3 (T : ℕ → T3 α c d) : ((x : Fin 3) → Fin ((![a, c, d] : Fin 3 → ℕ) x)) → α :=
  fun y => T (y 0).val (mk3 0 (y 1) (y 2))

/-- Any contents are made of tiles. -/
theorem exists_flat4 (ha : 0 < a) (hb : 0 < b) (X : ((x : Fin 4) → Fin ((![a, b, c, d] : Fin 4 → ℕ) x)) → α) :
    ∃ T, X = flat4 T := by
  refine ⟨fun i j z => X (mk4 ⟨i % a, Nat.mod_lt _ ha⟩ ⟨j % b, Nat.mod_lt _ hb⟩ (z 2) (z 3)), ?_⟩
  funext y
  show X y = X _
  congr 1
  refine ext4 (Nat.mod_eq_of_lt ?_).symm (Nat.mod_eq_of_lt ?_).symm rfl rfl
  · exact (y 0).isLt
  · exact (y 1).isLt

/-- Any contents are made of tiles. -/
theorem exists_flat3 (ha : 0 < a) (X : ((x : Fin 3) → Fin ((![a, c, d] : Fin 3 → ℕ) x)) → α) :
    ∃ T, X = flat3 T := by
  refine ⟨fun i z => X (mk3 ⟨i % a, Nat.mod_lt _ ha⟩ (z 1) (z 2)), ?_⟩
  funext y
  show X y = X _
  congr 1
  refine ext3 (Nat.mod_eq_of_lt ?_).symm rfl rfl
  exact (y 0).isLt

/-- The tiles with one replaced. -/
def upd {β : Type} (T : ℕ → ℕ → β) (i j : ℕ) (w : β) : ℕ → ℕ → β := fun i' j' => if i' = i ∧ j' = j then w else T i' j'

/-- The tiles with a row of them replaced. -/
def updRow {β : Type} (T : ℕ → ℕ → β) (i : ℕ) (w : β) : ℕ → ℕ → β := fun i' j' => if i' = i then w else T i' j'

/-- The tiles with one replaced. -/
def upd1 {β : Type} (T : ℕ → β) (i : ℕ) (w : β) : ℕ → β := fun i' => if i' = i then w else T i'

/-- The written entry reads the new value. -/
@[simp] theorem upd_same {β : Type} (T : ℕ → ℕ → β) (i j : ℕ) (w : β) : upd T i j w i j = w := by simp [upd]
theorem upd_ne {β : Type} (T : ℕ → ℕ → β) {i j i' j' : ℕ} (w : β) (h : ¬(i' = i ∧ j' = j)) : upd T i j w i' j' = T i' j' := by
  simp [upd, h]

/-- A tile loaded. -/
theorem window_flat4 (T : ℕ → ℕ → T4 α c d) (i j : ℕ) (inb : ∀ x, (![i, j, 0, 0] : Fin 4 → ℕ) x + (![1, 1, c, d] : Fin 4 → ℕ) x ≤ (![a, b, c, d] : Fin 4 → ℕ) x) :
    VecWindow.window (s := ⟨4, ![a, b, c, d]⟩) (flat4 T) ![i, j, 0, 0] ![1, 1, c, d] inb = T i j := by
  funext z
  have h0 : (z 0).val = 0 := by have : (z 0).val < 1 := (z 0).isLt; omega
  have h1 : (z 1).val = 0 := by have : (z 1).val < 1 := (z 1).isLt; omega
  show T (i + 1 * (z 0).val) (j + 1 * (z 1).val) _ = T i j z
  rw [h0, h1]
  congr 1
  refine ext4 h0.symm h1.symm ?_ ?_
  · show 0 + 1 * (z 2).val = (z 2).val; omega
  · show 0 + 1 * (z 3).val = (z 3).val; omega

/-- Some rows of a tile. -/
def subT {c' : ℕ} (r : ℕ) (h : r + c' ≤ c) (X : T4 α c d) : T4 α c' d :=
  fun z => X (mk4 0 0 ⟨r + (z 2).val, by have : (z 2).val < c' := (z 2).isLt; omega⟩ (z 3))

/-- Some rows of a tile loaded. -/
theorem window_flat4_sub {c' : ℕ} (r : ℕ) (h : r + c' ≤ c) (T : ℕ → ℕ → T4 α c d) (i j : ℕ)
    (inb : ∀ x, (![i, j, r, 0] : Fin 4 → ℕ) x + (![1, 1, c', d] : Fin 4 → ℕ) x ≤ (![a, b, c, d] : Fin 4 → ℕ) x) :
    VecWindow.window (s := ⟨4, ![a, b, c, d]⟩) (flat4 T) ![i, j, r, 0] ![1, 1, c', d] inb = subT r h (T i j) := by
  funext z
  have h0 : (z 0).val = 0 := by have : (z 0).val < 1 := (z 0).isLt; omega
  have h1 : (z 1).val = 0 := by have : (z 1).val < 1 := (z 1).isLt; omega
  show T (i + 1 * (z 0).val) (j + 1 * (z 1).val) _ = T i j _
  rw [h0, h1]
  congr 1
  refine ext4 rfl rfl ?_ ?_
  · show r + 1 * (z 2).val = r + (z 2).val; omega
  · show 0 + 1 * (z 3).val = (z 3).val; omega

/-- A tile stored. -/
theorem put_flat4 (T : ℕ → ℕ → T4 α c d) (i j : ℕ) (w : T4 α c d) :
    VecWindow.put (s := ⟨4, ![a, b, c, d]⟩) (flat4 T) ![i, j, 0, 0] ![1, 1, c, d] w = flat4 (upd T i j w) := by
  funext y
  have hy2 : (y 2).val < c := (y 2).isLt
  have hy3 : (y 3).val < d := (y 3).isLt
  unfold VecWindow.put
  split_ifs with h
  · have e0 : i ≤ (y 0).val ∧ (y 0).val < i + 1 := h 0
    have e1 : j ≤ (y 1).val ∧ (y 1).val < j + 1 := h 1
    show _ = upd T i j w (y 0).val (y 1).val _
    rw [show (y 0).val = i by omega, show (y 1).val = j by omega, upd_same]
    congr 1
    refine ext4 ?_ ?_ ?_ ?_
    · show (y 0).val - i = 0; omega
    · show (y 1).val - j = 0; omega
    · show (y 2).val - 0 = (y 2).val; omega
    · show (y 3).val - 0 = (y 3).val; omega
  · have : ¬((y 0).val = i ∧ (y 1).val = j) := fun e => h (by
      intro x; fin_cases x
      · show i ≤ (y 0).val ∧ (y 0).val < i + 1; omega
      · show j ≤ (y 1).val ∧ (y 1).val < j + 1; omega
      · show 0 ≤ (y 2).val ∧ (y 2).val < 0 + c; omega
      · show 0 ≤ (y 3).val ∧ (y 3).val < 0 + d; omega)
    show _ = upd T i j w (y 0).val (y 1).val _
    rw [upd_ne _ _ this]; rfl

/-- One value stored over a row of tiles. -/
theorem put_flat4_row (T : ℕ → ℕ → T4 α c d) (i : ℕ) (v : α) :
    VecWindow.put (s := ⟨4, ![a, b, c, d]⟩) (flat4 T) ![i, 0, 0, 0] ![1, b, c, d] (fun _ => v) = flat4 (updRow T i fun _ => v) := by
  funext y
  have hy1 : (y 1).val < b := (y 1).isLt
  have hy2 : (y 2).val < c := (y 2).isLt
  have hy3 : (y 3).val < d := (y 3).isLt
  unfold VecWindow.put
  split_ifs with h
  · have e0 : i ≤ (y 0).val ∧ (y 0).val < i + 1 := h 0
    show v = updRow T i (fun _ => v) (y 0).val (y 1).val _
    simp [updRow, show (y 0).val = i by omega]
  · have : ¬((y 0).val = i) := fun e => h (by
      intro x; fin_cases x
      · show i ≤ (y 0).val ∧ (y 0).val < i + 1; omega
      · show 0 ≤ (y 1).val ∧ (y 1).val < 0 + b; omega
      · show 0 ≤ (y 2).val ∧ (y 2).val < 0 + c; omega
      · show 0 ≤ (y 3).val ∧ (y 3).val < 0 + d; omega)
    show _ = updRow T i (fun _ => v) (y 0).val (y 1).val _
    simp [updRow, this, flat4]

/-- A tile loaded. -/
theorem window_flat3 (T : ℕ → T3 α c d) (i : ℕ) (inb : ∀ x, (![i, 0, 0] : Fin 3 → ℕ) x + (![1, c, d] : Fin 3 → ℕ) x ≤ (![a, c, d] : Fin 3 → ℕ) x) :
    VecWindow.window (s := ⟨3, ![a, c, d]⟩) (flat3 T) ![i, 0, 0] ![1, c, d] inb = T i := by
  funext z
  have h0 : (z 0).val = 0 := by have : (z 0).val < 1 := (z 0).isLt; omega
  show T (i + 1 * (z 0).val) _ = T i z
  rw [h0]
  congr 1
  refine ext3 h0.symm ?_ ?_
  · show 0 + 1 * (z 1).val = (z 1).val; omega
  · show 0 + 1 * (z 2).val = (z 2).val; omega

/-- A tile of rows `w` over rows of one value. -/
def stackT {c1 : ℕ} (w : T3 α c1 d) (v : α) : T3 α c d :=
  fun z => if h : (z 1).val < c1 then w (mk3 0 ⟨(z 1).val, h⟩ (z 2)) else v

/-- A tile stored in two parts: rows `w`, and one value below. -/
theorem put_flat3_stack {c1 c2 : ℕ} (hc : c1 + c2 = c) (T : ℕ → T3 α c d) (i : ℕ) (w : T3 α c1 d) (v : α) :
    VecWindow.put (s := ⟨3, ![a, c, d]⟩) (VecWindow.put (s := ⟨3, ![a, c, d]⟩) (flat3 T) ![i, 0, 0] ![1, c1, d] w) ![i, c1, 0] ![1, c2, d] (fun _ => v)
      = flat3 (upd1 T i (stackT w v)) := by
  funext y
  have hy1 : (y 1).val < c := (y 1).isLt
  have hy2 : (y 2).val < d := (y 2).isLt
  show _ = upd1 T i (stackT w v) (y 0).val _
  unfold VecWindow.put
  split_ifs with h1 h2
  · have e0 : i ≤ (y 0).val ∧ (y 0).val < i + 1 := h1 0
    have e1 : c1 ≤ (y 1).val ∧ (y 1).val < c1 + c2 := h1 1
    rw [upd1, if_pos (by omega)]
    symm; exact dif_neg (by show ¬ (y 1).val < c1; omega)
  · have e0 : i ≤ (y 0).val ∧ (y 0).val < i + 1 := h2 0
    have e1 : 0 ≤ (y 1).val ∧ (y 1).val < 0 + c1 := h2 1
    rw [upd1, if_pos (by omega)]
    symm; refine (dif_pos (by show (y 1).val < c1; omega)).trans ?_
    congr 1
    refine ext3 ?_ ?_ ?_
    · show 0 = (y 0).val - i; omega
    · show (y 1).val = (y 1).val - 0; omega
    · show (y 2).val = (y 2).val - 0; omega
  · have : ¬ (y 0).val = i := fun e => by
      by_cases hlt : (y 1).val < c1
      · refine h2 fun x => ?_
        fin_cases x
        · show i ≤ (y 0).val ∧ (y 0).val < i + 1; omega
        · show 0 ≤ (y 1).val ∧ (y 1).val < 0 + c1; omega
        · show 0 ≤ (y 2).val ∧ (y 2).val < 0 + d; omega
      · refine h1 fun x => ?_
        fin_cases x
        · show i ≤ (y 0).val ∧ (y 0).val < i + 1; omega
        · show c1 ≤ (y 1).val ∧ (y 1).val < c1 + c2; omega
        · show 0 ≤ (y 2).val ∧ (y 2).val < 0 + d; omega
    rw [upd1, if_neg this]; rfl

/-- Rows `256 j` to `256 j + 255` of a block of 8192 rows. -/
def rowsT (X : ((x : Fin 3) → Fin ((![1, 8192, 128] : Fin 3 → ℕ) x)) → α) (j : ℕ) : T3 α 256 128 :=
  fun z => X (mk3 0 ⟨(256 * j + (z 1).val) % 8192, Nat.mod_lt _ (by decide)⟩ (z 2))

/-- Those rows loaded. -/
theorem window_rows (X : ((x : Fin 3) → Fin ((![1, 8192, 128] : Fin 3 → ℕ) x)) → α) (j : ℕ)
    (inb : ∀ x, (![0, 256 * j, 0] : Fin 3 → ℕ) x + (![1, 256, 128] : Fin 3 → ℕ) x ≤ (![1, 8192, 128] : Fin 3 → ℕ) x) :
    VecWindow.window (s := ⟨3, ![1, 8192, 128]⟩) X ![0, 256 * j, 0] ![1, 256, 128] inb = rowsT X j := by
  funext z
  have h1 : 256 * j + 256 ≤ 8192 := inb 1
  have h0 : (z 0).val = 0 := by have : (z 0).val < 1 := (z 0).isLt; omega
  have hz : (z 1).val < 256 := (z 1).isLt
  show X _ = X _
  congr 1
  refine ext3 ?_ ?_ ?_
  · show 0 + 1 * (z 0).val = 0; omega
  · show 256 * j + 1 * (z 1).val = (256 * j + (z 1).val) % 8192; rw [Nat.mod_eq_of_lt (by omega)]; omega
  · show 0 + 1 * (z 2).val = (z 2).val; omega

/-- A whole array of two axes loaded. -/
theorem window_full2 (X : ((x : Fin 2) → Fin ((![a, b] : Fin 2 → ℕ) x)) → α)
    (inb : ∀ x, (![0, 0] : Fin 2 → ℕ) x + (![a, b] : Fin 2 → ℕ) x ≤ (![a, b] : Fin 2 → ℕ) x) :
    VecWindow.window (s := ⟨2, ![a, b]⟩) X ![0, 0] ![a, b] inb = X := by
  funext z
  show X _ = X z
  congr 1
  funext x; refine Fin.ext ?_; fin_cases x
  · show 0 + 1 * (z 0).val = (z 0).val; omega
  · show 0 + 1 * (z 1).val = (z 1).val; omega

/-- The contents made of 32 tiles of 256 rows. -/
def rowsF (T : ℕ → T3 α 256 128) : ((x : Fin 3) → Fin ((![1, 8192, 128] : Fin 3 → ℕ) x)) → α :=
  fun y => T ((y 1).val / 256) (mk3 0 ⟨(y 1).val % 256, Nat.mod_lt _ (by decide)⟩ (y 2))

/-- Any contents are made of such tiles. -/
theorem exists_rowsF (X : ((x : Fin 3) → Fin ((![1, 8192, 128] : Fin 3 → ℕ) x)) → α) : ∃ T, X = rowsF T := by
  refine ⟨rowsT X, funext fun y => ?_⟩
  have h1 : (y 1).val < 8192 := (y 1).isLt
  have h0 : (y 0).val < 1 := (y 0).isLt
  show X y = X _
  congr 1
  refine ext3 ?_ ?_ rfl
  · show (y 0).val = 0; omega
  · show (y 1).val = (256 * ((y 1).val / 256) + (y 1).val % 256) % 8192
    rw [Nat.div_add_mod, Nat.mod_eq_of_lt h1]

/-- A tile of 256 rows stored. -/
theorem put_rowsF (T : ℕ → T3 α 256 128) (j : ℕ) (w : T3 α 256 128) :
    VecWindow.put (s := ⟨3, ![1, 8192, 128]⟩) (rowsF T) ![0, 256 * j, 0] ![1, 256, 128] w = rowsF (upd1 T j w) := by
  funext y
  have hy2 : (y 2).val < 128 := (y 2).isLt
  have h0 : (y 0).val < 1 := (y 0).isLt
  show _ = upd1 T j w ((y 1).val / 256) _
  unfold VecWindow.put
  split_ifs with h
  · have e1 : 256 * j ≤ (y 1).val ∧ (y 1).val < 256 * j + 256 := h 1
    rw [upd1, if_pos (by omega)]
    congr 1
    refine ext3 ?_ ?_ ?_
    · show (y 0).val - 0 = 0; omega
    · show (y 1).val - 256 * j = (y 1).val % 256; omega
    · show (y 2).val - 0 = (y 2).val; omega
  · have : ¬ (y 1).val / 256 = j := fun e => h (by
      intro x; fin_cases x
      · show 0 ≤ (y 0).val ∧ (y 0).val < 0 + 1; omega
      · show 256 * j ≤ (y 1).val ∧ (y 1).val < 256 * j + 256; omega
      · show 0 ≤ (y 2).val ∧ (y 2).val < 0 + 128; omega)
    rw [upd1, if_neg this]; rfl

end Tiles

/-! ## Loads and stores of a buffer held at an array -/

variable {F : FTy → Type} [FloatOps F] [Named F]

local notation "𝕄" => MT nD τ sig Unit (Elt F) ℕ (UR sig nD τ) ℕ

/-- Memref `M` held whole, reading `X`. -/
abbrev bt (c : Dev nD) {s : Shape} {e : EltTy} (M : Memref sig .tc .vmem s e) (X : s.Idx → Elt F e) : sProp 𝕄 :=
  M.view.loc (c : Thread nD τ) ↦[M.view.set]{fullShare} M.view.rep X

/-- A program run to its return. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A load of a rectangle. -/
theorem wp_ld (c : Dev nD) {α : Type} {s : Shape} {e : EltTy} {M : Memref sig .tc .vmem s e} {X : s.Idx → Elt F e} {off off' size : Fin s.rank → ℕ}
    {inb : ∀ a, off a + size a ≤ s.size a} {hl : M.view.LoadsAt (Rect.unit off size inb).toLoadRect}
    {k : ((Rect.unit off size inb).shape.Idx → Elt F e) → Prog (TpuEff nD τ sig (Elt F) Λ₀ .tc) α} {Q : α → sProp 𝕄} (h : off = off') :
    bt c M X ⊢ iprop((bt c M X -∗ WP c (k (VecWindow.window X off' size (h ▸ inb))) Q)
      -∗ WP c (Prog.lift (.load M (Rect.unit off size inb).toLoadRect hl) >>= k) Q) := by
  have hS : M.view.setOn (Rect.unit off size inb).toLoadRect.set ⊆ M.view.set := M.view.setOn_subset_set _
  rw [← View.readAt_rep_unit M.view X inb h (h ▸ inb)]
  exact show _ ⊢ iprop(_ -∗ wp frame (wpE (defs₀ (F := F)) Variants.none (c : Thread nD τ) none) Set.univ _ Q) from
    wp_load (defs := defs₀ (F := F)) Variants.none (c : Thread nD τ) none Set.univ (hl := hl) (k := k) (Q := Q) (q := fullShare) (f := M.view.rep X) hS

/-- A store of a rectangle. -/
theorem wp_st (c : Dev nD) {α : Type} {s : Shape} {e : EltTy} {M : Memref sig .tc .vmem s e} {X : s.Idx → Elt F e} {off off' size : Fin s.rank → ℕ}
    {inb : ∀ a, off a + size a ≤ s.size a} {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) α} {Q : α → sProp 𝕄} (h : off = off') {Y : s.Idx → Elt F e}
    (hY : VecWindow.put X off' size w = Y) :
    bt c M X ⊢ iprop((bt c M Y -∗ WP c (k ⟨⟩) Q)
      -∗ WP c (Prog.lift (.store M (Rect.unit off size inb) w Finset.univ hx hm) >>= k) Q) := by
  have hS : (M.access (Rect.unit off size inb)).set ⊆ M.view.set := by
    rw [View.set_slice]; exact M.view.setOn_subset_set _
  have h1 := wp_store_writes₀ (defs := defs₀ (F := F)) Variants.none (c : Thread nD τ) none Set.univ (hx := hx) (hm := hm) (k := k) (Q := Q) (f := M.view.rep X) (w := w) hS
  refine h1.trans (wand_mono_left (wand_mono_left ?_))
  exact pointsTo_rep_of_read (c : Thread nD τ) M _ fullShare Y ((View.read_writes_rep_unit M.view X inb w h).trans hY)

end Cert.Proof.Steps
-- ==== Proof.Triples.lean ====
/- What each step of the attention kernel leaves in its buffers, as a function of what it finds. -/
module

public import proofs.«01_k».proof.Proof.Body
public import proofs.«01_k».proof.Proof.Mem

@[expose] public section

noncomputable section

namespace Cert.Proof.Steps

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The scratch buffers' contents, by tiles. -/
structure St (F : FTy → Type) where
  /-- the transposed queries, by row tile and map -/
  qt : ℕ → ℕ → T4 (F .bf16) 128 256
  /-- the transposed values over ones, by column tile -/
  vt : ℕ → T3 (F .bf16) 144 256
  /-- the scores, by slot and map -/
  s : ℕ → ℕ → T4 (F .f32) 256 256
  /-- the exponentials, by slot and map -/
  p : ℕ → ℕ → T4 (F .bf16) 256 256
  /-- the factors, by slot and map -/
  a : ℕ → ℕ → T4 (F .f32) 1 256
  /-- the maxima, by row tile and map -/
  m : ℕ → ℕ → T4 (F .f32) 1 256
  /-- the sums, by row tile and map -/
  acc : ℕ → ℕ → T4 (F .f32) 144 256

/-- The contents of the keys' block. -/
abbrev KBlk (F : FTy → Type) : Type := ((x : Fin 3) → Fin ((![1, 8192, 128] : Fin 3 → ℕ) x)) → F .bf16

/-- The scratch buffers and the keys' block, held. -/
def own (c : Dev nD) (B : Bufs) (kx : KBlk F) (σ : St F) : sProp 𝕄 :=
  iprop(bt c B.k kx ∗ bt c B.qt (flat4 σ.qt) ∗ bt c B.vt (flat3 σ.vt) ∗ bt c B.s (flat4 σ.s) ∗ bt c B.p (flat4 σ.p)
    ∗ bt c B.a (flat4 σ.a) ∗ bt c B.m (flat4 σ.m) ∗ bt c B.acc (flat4 σ.acc))

/-! ## What the steps do -/

/-- Scores of one map. -/
def scores1F (k : T3 (F .bf16) 256 128) (i sl mp : ℕ) (σ : St F) : St F :=
  { σ with s := upd σ.s sl mp (payS k (σ.qt i mp)) }
/-- Scores of both maps. -/
def scoresF (kx : KBlk F) (i j sl : ℕ) (σ : St F) : St F :=
  scores1F (rowsT kx j) i sl 1 (scores1F (rowsT kx j) i sl 0 σ)
/-- Accumulation of one map. -/
def acc1F (i j sl mp : ℕ) (σ : St F) : St F :=
  { σ with acc := upd σ.acc i mp (payAcc (σ.vt j) (σ.p sl mp) (σ.a sl mp) (σ.acc i mp)) }
/-- Accumulation of both maps. -/
def accF (i j sl : ℕ) (σ : St F) : St F := acc1F i j sl 1 (acc1F i j sl 0 σ)
/-- Softmax of one map. -/
def soft1F (diag : Bool) (i sl mp : ℕ) (σ : St F) : St F :=
  { σ with
    a := upd σ.a sl mp (payA (scoreOf diag (σ.s sl mp)) (σ.m i mp))
    p := upd σ.p sl mp (payP (scoreOf diag (σ.s sl mp)) (σ.m i mp))
    m := upd σ.m i mp (payM (scoreOf diag (σ.s sl mp)) (σ.m i mp)) }
/-- Softmax of both maps. -/
def softF (diag : Bool) (i sl : ℕ) (σ : St F) : St F := soft1F diag i sl 1 (soft1F diag i sl 0 σ)

/-- The pairs' words as numbers. -/
abbrev Pair.ni (c : Pair) : ℕ := c.i.toNat
/-- The pairs' words as numbers. -/
abbrev Pair.nj (c : Pair) : ℕ := c.j.toNat

/-- One step. -/
def stepF (kx : KBlk F) (diag : Bool) (nxt cur prv : Pair) (sl : ℕ) (σ : St F) : St F :=
  softF diag cur.ni sl (accF prv.ni prv.nj (1 - sl) (scoresF kx nxt.ni nxt.nj (1 - sl) σ))

/-- The start of a run. -/
def startF (kx : KBlk F) (c : Pair) (σ : St F) : St F :=
  { scoresF kx c.ni c.nj 0 σ with
    p := updRow σ.p 1 fun _ => FloatOps.ofBits (F := F) .bf16 0x0000#16
    a := updRow σ.a 1 fun _ => FloatOps.ofBits (F := F) .f32 0x3F800000#32 }

/-- A tile's preparation. -/
def prepF (qx vx : KBlk F) (t : ℕ) (σ : St F) : St F :=
  { σ with
    qt := upd (upd σ.qt t 0 (payQ0 (rowsT qx t))) t 1 (payQ1 (rowsT qx t))
    vt := upd1 σ.vt t (stackT (payV (rowsT vx t)) (FloatOps.ofBits (F := F) .bf16 0x3F80#16))
    m := updRow σ.m t fun _ => Named.named κ "mask" 0xF149F2CA#32
    acc := updRow σ.acc t fun _ => FloatOps.ofBits (F := F) .f32 0x00000000#32 }

/-- A tile of the result, from the sums of its two maps. -/
def finT (lam : FVec F S1x1 .f32) (g : Vec F S128x256 .f32) (A : ℕ → T4 (F .f32) 144 256) : T3 (F .bf16) 256 128 :=
  payO (payD lam (subT 128 (by decide) (A 0)) (subT 128 (by decide) (A 1)) (subT 0 (by decide) (A 0)) (subT 0 (by decide) (A 1))) g

/-! ## The rules -/

section Rules

variable (c : Dev nD)

/-- One program after another. -/
theorem seqW {α β : Type} {P : sProp 𝕄} {P' : α → sProp 𝕄} {p : Prog (TpuEff nD τ sig (Elt F) Λ₀ .tc) α} {k : α → Prog (TpuEff nD τ sig (Elt F) Λ₀ .tc) β}
    {Q : β → sProp 𝕄} (h1 : P ⊢ WP c p P') (h2 : ∀ a, P' a ⊢ WP c (k a) Q) : P ⊢ WP c (p >>= k) Q := by
  unfold WP; rw [wp_bind]
  exact h1.trans (wp_mono _ _ _ h2)

/-- A store at a program's end. -/
theorem wp_st_end {s : Shape} {e : EltTy} {M : Memref sig .tc .vmem s e} {X : s.Idx → Elt F e} {off off' size : Fin s.rank → ℕ}
    {inb : ∀ a, off a + size a ≤ s.size a} {w : (Rect.unit off size inb).shape.Idx → Elt F e}
    {hx : (M.access (Rect.unit off size inb)).Stores Finset.univ} {hm : Finset.univ = Finset.univ ∨ ∀ a, (Rect.unit off size inb).stride a = 1}
    {Q : PUnit → sProp 𝕄} (h : off = off') {Y : s.Idx → Elt F e} (hY : VecWindow.put X off' size w = Y) :
    bt c M X ⊢ iprop((bt c M Y -∗ Q ⟨⟩) -∗ WP c (Prog.lift (.store M (Rect.unit off size inb) w Finset.univ hx hm)) Q) := by
  have := wp_st c (M := M) (X := X) (inb := inb) (w := w) (hx := hx) (hm := hm) (k := fun _ => .ret ⟨⟩) (Q := Q) h hY
  exact this.trans (wand_mono_left (wand_mono_right (le_wp_ret _ _ _ _ _)))

variable (B : Bufs) (kx : KBlk F)

/-- The scores of one map. -/
theorem scores1_tr (k : T3 (F .bf16) 256 128) (i : BitVec 32) (hi : i.toNat < 32) (sl : ℕ) (hs : sl ≤ 1) (mp : ℕ) (hm : mp ≤ 1) (σ : St F) :
    own c B kx σ ⊢ WP c (scores1 B k i hi sl hs mp hm) fun _ => own c B kx (scores1F k i.toNat sl mp σ) := by
  unfold own scores1 scores1F
  iintro ⟨Hk, Hqt, Hvt, Hs, Hp, Ha, Hm, Hacc⟩
  iapply (wp_ld c rfl) $$ Hqt
  iintro Hqt
  iapply (wp_ld c rfl) $$ Hs
  iintro Hs
  iapply (wp_st_end c rfl (put_flat4 _ _ _ _)) $$ Hs
  iintro Hs
  rw [window_flat4]
  isplitl [Hk]; · iexact Hk
  isplitl [Hqt]; · iexact Hqt
  isplitl [Hvt]; · iexact Hvt
  isplitl [Hs]; · iexact Hs
  isplitl [Hp]; · iexact Hp
  isplitl [Ha]; · iexact Ha
  isplitl [Hm]; · iexact Hm
  iexact Hacc

/-- The scores of both maps. -/
theorem scoresP_tr (i j : BitVec 32) (hi : i.toNat < 32) (hj : j.toNat < 32) (sl : ℕ) (hs : sl ≤ 1) (σ : St F) :
    own c B kx σ ⊢ WP c (scoresP B i j hi hj sl hs) fun _ => own c B kx (scoresF kx i.toNat j.toNat sl σ) := by
  have key : own c B kx σ ⊢ WP c (do
      scores1 B (rowsT kx j.toNat) i hi sl hs 0 (by decide)
      scores1 B (rowsT kx j.toNat) i hi sl hs 1 (by decide)) fun _ => own c B kx (scoresF kx i.toNat j.toNat sl σ) :=
    seqW c (scores1_tr c B kx _ i hi sl hs 0 (by decide) σ) fun _ => scores1_tr c B kx _ i hi sl hs 1 (by decide) _
  have hu : own c B kx σ = iprop(bt c B.k kx ∗ bt c B.qt (flat4 σ.qt) ∗ bt c B.vt (flat3 σ.vt) ∗ bt c B.s (flat4 σ.s) ∗ bt c B.p (flat4 σ.p)
    ∗ bt c B.a (flat4 σ.a) ∗ bt c B.m (flat4 σ.m) ∗ bt c B.acc (flat4 σ.acc)) := rfl
  unfold scoresP
  rw [hu]
  iintro ⟨Hk, Hqt, Hvt, Hs, Hp, Ha, Hm, Hacc⟩
  iapply (wp_ld c (show _ = ![0, 256 * j.toNat, 0] by rw [kword_toNat hj])) $$ Hk
  iintro Hk
  rw [window_rows]
  iapply key
  rw [hu]
  isplitl [Hk]; · iexact Hk
  isplitl [Hqt]; · iexact Hqt
  isplitl [Hvt]; · iexact Hvt
  isplitl [Hs]; · iexact Hs
  isplitl [Hp]; · iexact Hp
  isplitl [Ha]; · iexact Ha
  isplitl [Hm]; · iexact Hm
  iexact Hacc

/-- The accumulation of one map. -/
theorem acc1_tr (i j : BitVec 32) (hi : i.toNat < 32) (hj : j.toNat < 32) (sl : ℕ) (hs : sl ≤ 1) (mp : ℕ) (hm : mp ≤ 1) (σ : St F) :
    own c B kx σ ⊢ WP c (acc1 B i j hi hj sl hs mp hm) fun _ => own c B kx (acc1F i.toNat j.toNat sl mp σ) := by
  unfold own acc1 acc1F
  iintro ⟨Hk, Hqt, Hvt, Hs, Hp, Ha, Hm, Hacc⟩
  iapply (wp_ld c rfl) $$ Hvt
  iintro Hvt
  iapply (wp_ld c rfl) $$ Hp
  iintro Hp
  iapply (wp_ld c rfl) $$ Ha
  iintro Ha
  iapply (wp_ld c rfl) $$ Hacc
  iintro Hacc
  iapply (wp_ld c rfl) $$ Hacc
  iintro Hacc
  iapply (wp_st_end c rfl (put_flat4 _ _ _ _)) $$ Hacc
  iintro Hacc
  rw [window_flat4, window_flat4, window_flat4, window_flat3]
  isplitl [Hk]; · iexact Hk
  isplitl [Hqt]; · iexact Hqt
  isplitl [Hvt]; · iexact Hvt
  isplitl [Hs]; · iexact Hs
  isplitl [Hp]; · iexact Hp
  isplitl [Ha]; · iexact Ha
  isplitl [Hm]; · iexact Hm
  iexact Hacc

/-- The accumulation of both maps. -/
theorem accP_tr (i j : BitVec 32) (hi : i.toNat < 32) (hj : j.toNat < 32) (sl : ℕ) (hs : sl ≤ 1) (σ : St F) :
    own c B kx σ ⊢ WP c (accP B i j hi hj sl hs) fun _ => own c B kx (accF i.toNat j.toNat sl σ) :=
  seqW c (acc1_tr c B kx i j hi hj sl hs 0 (by decide) σ) fun _ => acc1_tr c B kx i j hi hj sl hs 1 (by decide) _

/-- The softmax of one map. -/
theorem soft1_tr (diag : Bool) (i : BitVec 32) (hi : i.toNat < 32) (sl : ℕ) (hs : sl ≤ 1) (mp : ℕ) (hm : mp ≤ 1) (σ : St F) :
    own c B kx σ ⊢ WP c (soft1 B diag i hi sl hs mp hm) fun _ => own c B kx (soft1F diag i.toNat sl mp σ) := by
  unfold own soft1 soft1F
  iintro ⟨Hk, Hqt, Hvt, Hs, Hp, Ha, Hm, Hacc⟩
  iapply (wp_ld c rfl) $$ Hs
  iintro Hs
  iapply (wp_ld c rfl) $$ Hm
  iintro Hm
  iapply (wp_ld c rfl) $$ Ha
  iintro Ha
  iapply (wp_st c rfl (put_flat4 _ _ _ _)) $$ Ha
  iintro Ha
  iapply (wp_ld c rfl) $$ Hp
  iintro Hp
  iapply (wp_st c rfl (put_flat4 _ _ _ _)) $$ Hp
  iintro Hp
  iapply (wp_ld c rfl) $$ Hm
  iintro Hm
  iapply (wp_st_end c rfl (put_flat4 _ _ _ _)) $$ Hm
  iintro Hm
  rw [window_flat4, window_flat4]
  isplitl [Hk]; · iexact Hk
  isplitl [Hqt]; · iexact Hqt
  isplitl [Hvt]; · iexact Hvt
  isplitl [Hs]; · iexact Hs
  isplitl [Hp]; · iexact Hp
  isplitl [Ha]; · iexact Ha
  isplitl [Hm]; · iexact Hm
  iexact Hacc

/-- The softmax of both maps. -/
theorem softP_tr (diag : Bool) (i : BitVec 32) (hi : i.toNat < 32) (sl : ℕ) (hs : sl ≤ 1) (σ : St F) :
    own c B kx σ ⊢ WP c (softP B diag i hi sl hs) fun _ => own c B kx (softF diag i.toNat sl σ) :=
  seqW c (soft1_tr c B kx diag i hi sl hs 0 (by decide) σ) fun _ => soft1_tr c B kx diag i hi sl hs 1 (by decide) _

/-- One step. -/
theorem stepP_tr (diag : Bool) (nxt cur prv : Pair) (sl : ℕ) (hs : sl ≤ 1) (σ : St F) :
    own c B kx σ ⊢ WP c (stepP B diag nxt cur prv sl hs) fun _ => own c B kx (stepF kx diag nxt cur prv sl σ) :=
  seqW c (scoresP_tr c B kx nxt.i nxt.j nxt.hi nxt.hj (1 - sl) (Nat.sub_le 1 sl) σ) fun _ =>
    seqW c (accP_tr c B kx prv.i prv.j prv.hi prv.hj (1 - sl) (Nat.sub_le 1 sl) _) fun _ => softP_tr c B kx diag cur.i cur.hi sl hs _

/-- The start of a run. -/
theorem startP_tr (pr : Pair) (σ : St F) :
    own c B kx σ ⊢ WP c (startP B pr) fun _ => own c B kx (startF kx pr σ) := by
  unfold startP
  refine seqW c (scoresP_tr c B kx pr.i pr.j pr.hi pr.hj 0 (by decide) σ) fun _ => ?_
  unfold own startF
  iintro ⟨Hk, Hqt, Hvt, Hs, Hp, Ha, Hm, Hacc⟩
  iapply (wp_ld c rfl) $$ Hp
  iintro Hp
  iapply (wp_st c rfl (put_flat4_row _ 1 (FloatOps.ofBits (F := F) .bf16 0x0000#16))) $$ Hp
  iintro Hp
  iapply (wp_ld c rfl) $$ Ha
  iintro Ha
  iapply (wp_st_end c rfl (put_flat4_row _ 1 (FloatOps.ofBits (F := F) .f32 0x3F800000#32))) $$ Ha
  iintro Ha
  isplitl [Hk]; · iexact Hk
  isplitl [Hqt]; · iexact Hqt
  isplitl [Hvt]; · iexact Hvt
  isplitl [Hs]; · iexact Hs
  isplitl [Hp]; · iexact Hp
  isplitl [Ha]; · iexact Ha
  isplitl [Hm]; · iexact Hm
  iexact Hacc

/-- One tile's preparation. -/
theorem prepP_tr (hqt : B.qt.IsWhole) (hvt : B.vt.IsWhole) (q v : Memref sig .tc .vmem S1x8192x128 .bf16) (qx vx : KBlk F)
    (t : Fin k0_t1_loop.trips) (σ : St F) :
    iprop(own c B kx σ ∗ bt c q qx ∗ bt c v vx) ⊢ WP c (prepP B hqt hvt q v t) fun _ => iprop(own c B kx (prepF qx vx t.val σ) ∗ bt c q qx ∗ bt c v vx) := by
  unfold own prepP prepF
  iintro ⟨⟨Hk, Hqt, Hvt, Hs, Hp, Ha, Hm, Hacc⟩, Hq, Hv⟩
  iapply (wp_ld c (Gen.k0_off1_eq t)) $$ Hq
  iintro Hq
  iapply (wp_ld c rfl) $$ Hqt
  iintro Hqt
  iapply (wp_st c (Gen.k0_off2_eq t) (put_flat4 _ _ _ _)) $$ Hqt
  iintro Hqt
  iapply (wp_ld c rfl) $$ Hqt
  iintro Hqt
  iapply (wp_st c (Gen.k0_off3_eq t) (put_flat4 _ _ _ _)) $$ Hqt
  iintro Hqt
  iapply (wp_ld c (Gen.k0_off1_eq t)) $$ Hv
  iintro Hv
  iapply (wp_ld c rfl) $$ Hvt
  iintro Hvt
  iapply (wp_st c (Gen.k0_off4_eq t) rfl) $$ Hvt
  iintro Hvt
  iapply (wp_ld c rfl) $$ Hvt
  iintro Hvt
  iapply (wp_st c (Gen.k0_off5_eq t) (put_flat3_stack (c1 := 128) (c2 := 16) rfl _ t.val _ (FloatOps.ofBits (F := F) .bf16 0x3F80#16))) $$ Hvt
  iintro Hvt
  iapply (wp_ld c rfl) $$ Hm
  iintro Hm
  iapply (wp_st c (Gen.k0_off6_eq t) (put_flat4_row _ t.val (Named.named κ "mask" 0xF149F2CA#32 : F .f32))) $$ Hm
  iintro Hm
  iapply (wp_ld c rfl) $$ Hacc
  iintro Hacc
  iapply (wp_st_end c (Gen.k0_off7_eq t) (put_flat4_row _ t.val (FloatOps.ofBits (F := F) .f32 0x00000000#32))) $$ Hacc
  iintro Hacc
  rw [window_rows, window_rows]
  isplitr [Hq Hv]
  · skip
    isplitl [Hk]; · iexact Hk
    isplitl [Hqt]; · iexact Hqt
    isplitl [Hvt]; · iexact Hvt
    isplitl [Hs]; · iexact Hs
    isplitl [Hp]; · iexact Hp
    isplitl [Ha]; · iexact Ha
    isplitl [Hm]; · iexact Hm
    iexact Hacc
  isplitl [Hq]; · iexact Hq
  iexact Hv

/-- One tile's end. -/
theorem finP_tr (g : Memref sig .tc .vmem S128x256 .f32) (o : Memref sig .tc .vmem S1x8192x128 .bf16) (ho : o.IsWhole) (lam : FVec F S1x1 .f32)
    (gx : Vec F S128x256 .f32) (T : ℕ → T3 (F .bf16) 256 128) (t : Fin k0_t3_loop.trips) (σ : St F) :
    iprop(own c B kx σ ∗ bt c g gx ∗ bt c o (rowsF T))
      ⊢ WP c (finP B g o ho lam t) fun _ => iprop(own c B kx σ ∗ bt c g gx ∗ bt c o (rowsF (upd1 T t.val (finT lam gx (σ.acc t.val))))) := by
  unfold own finP finT
  iintro ⟨⟨Hk, Hqt, Hvt, Hs, Hp, Ha, Hm, Hacc⟩, Hg, Ho⟩
  iapply (wp_ld c (Gen.k0_off650_eq t)) $$ Hacc
  iintro Hacc
  iapply (wp_ld c (Gen.k0_off651_eq t)) $$ Hacc
  iintro Hacc
  iapply (wp_ld c (Gen.k0_off652_eq t)) $$ Hacc
  iintro Hacc
  iapply (wp_ld c (Gen.k0_off653_eq t)) $$ Hacc
  iintro Hacc
  iapply (wp_ld c rfl) $$ Hg
  iintro Hg
  iapply (wp_ld c rfl) $$ Ho
  iintro Ho
  iapply (wp_st_end c (Gen.k0_off654_eq t) (put_rowsF _ _ _)) $$ Ho
  iintro Ho
  rw [window_full2, window_flat4_sub 128 (by decide), window_flat4_sub 128 (by decide), window_flat4_sub 0 (by decide), window_flat4_sub 0 (by decide)]
  isplitr [Hg Ho]
  · skip
    isplitl [Hk]; · iexact Hk
    isplitl [Hqt]; · iexact Hqt
    isplitl [Hvt]; · iexact Hvt
    isplitl [Hs]; · iexact Hs
    isplitl [Hp]; · iexact Hp
    isplitl [Ha]; · iexact Ha
    isplitl [Hm]; · iexact Hm
    iexact Hacc
  isplitl [Hg]; · iexact Hg
  iexact Ho

end Rules

end Cert.Proof.Steps
-- ==== Proof.Pipe.lean ====
/- The kernel overlaps three pairs of tiles in a step; what it holds is what running the pairs one after another
   would leave, but for one accumulation still to be done. This file states the run one after another (`seqF`), the
   relation between the two (`Inv`), and that a step keeps it. -/
module

public import proofs.«01_k».proof.Proof.Triples

@[expose] public section

noncomputable section

namespace Cert.Proof.Steps

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the scratch buffers hold unchanged during the runs, with the keys: the operands of every pair. -/
structure Ops (F : FTy → Type) where
  /-- the keys' block -/
  kx : KBlk F
  /-- the transposed queries, by row tile and map -/
  qt : ℕ → ℕ → T4 (F .bf16) 128 256
  /-- the transposed values over ones, by column tile -/
  vt : ℕ → T3 (F .bf16) 144 256

/-- Running maxima and sums, by row tile and map. -/
structure MA (F : FTy → Type) where
  /-- the maxima -/
  m : ℕ → ℕ → T4 (F .f32) 1 256
  /-- the sums -/
  acc : ℕ → ℕ → T4 (F .f32) 144 256

/-- The scores of a pair as the softmax takes them. -/
def scT (O : Ops F) (diag : Bool) (i j mp : ℕ) : FVec F S256x256 .f32 := scoreOf diag (payS (rowsT O.kx j) (O.qt i mp))

/-- One map's maxima after a pair. -/
def seqM (O : Ops F) (diag : Bool) (i j mp : ℕ) (M : T4 (F .f32) 1 256) : T4 (F .f32) 1 256 := payM (scT O diag i j mp) M

/-- One map's sums after a pair. -/
def seqA (O : Ops F) (diag : Bool) (i j mp : ℕ) (M : T4 (F .f32) 1 256) (A : T4 (F .f32) 144 256) : T4 (F .f32) 144 256 :=
  payAcc (O.vt j) (payP (scT O diag i j mp) M) (payA (scT O diag i j mp) M) A

/-- A pair processed on its own. -/
def seqF (O : Ops F) (diag : Bool) (i j : ℕ) (V : MA F) : MA F where
  m := upd (upd V.m i 0 (seqM O diag i j 0 (V.m i 0))) i 1 (seqM O diag i j 1 (V.m i 1))
  acc := upd (upd V.acc i 0 (seqA O diag i j 0 (V.m i 0) (V.acc i 0))) i 1 (seqA O diag i j 1 (V.m i 1) (V.acc i 1))

/-- The pairs along the rows one after another. -/
def seqN (O : Ops F) (n : ℕ) : Pair → MA F → MA F :=
  Nat.rec (fun _ V => V) (fun _ rest c V => rest c.next (seqF O false c.ni c.nj V)) n

/-- The pairs along the diagonal one after another. -/
def seqD (O : Ops F) (n : ℕ) : ℕ → MA F → MA F :=
  Nat.rec (fun _ V => V) (fun _ rest t V => rest (t + 1) (seqF O true (diagPair t).ni (diagPair t).nj V)) n

/-- The state of the buffers when pair `cur` is in hand in slot `sl`, `prv` still to be accumulated out of the
    other slot, and `V` what the pairs before `cur` leave. -/
structure Inv (O : Ops F) (cur prv : Pair) (sl : ℕ) (V : MA F) (σ : St F) : Prop where
  qt : σ.qt = O.qt
  vt : σ.vt = O.vt
  s0 : σ.s sl 0 = payS (rowsT O.kx cur.nj) (O.qt cur.ni 0)
  s1 : σ.s sl 1 = payS (rowsT O.kx cur.nj) (O.qt cur.ni 1)
  m : σ.m = V.m
  acc : (accF prv.ni prv.nj (1 - sl) σ).acc = V.acc

/-! ## The fields of a step's parts -/

/-- Writing map 0 leaves map 1. -/
theorem upd_other {β : Type} (T : ℕ → ℕ → β) (i : ℕ) (w : β) : upd T i 0 w i 1 = T i 1 := upd_ne _ _ (by omega)

/-- After both maps are written, map 0 reads its own value. -/
theorem upd2_zero {β : Type} (T : ℕ → ℕ → β) (i : ℕ) (w w' : β) : upd (upd T i 0 w) i 1 w' i 0 = w := by
  rw [upd_ne _ _ (by omega), upd_same]

/-- After both maps are written, map 1 reads its own value. -/
theorem upd2_one {β : Type} (T : ℕ → ℕ → β) (i : ℕ) (w w' : β) : upd (upd T i 0 w) i 1 w' i 1 = w' := upd_same _ _ _ _

/-- Writing both maps of one tile leaves the other tiles. -/
theorem upd2_else {β : Type} (T : ℕ → ℕ → β) {i i' : ℕ} (h : i' ≠ i) (j : ℕ) (w w' : β) : upd (upd T i 0 w) i 1 w' i' j = T i' j := by
  rw [upd_ne _ _ (by omega), upd_ne _ _ (by omega)]

/-- The maxima after a softmax. -/
theorem softF_m (d : Bool) (i sl : ℕ) (τ : St F) : (softF d i sl τ).m
    = upd (upd τ.m i 0 (payM (scoreOf d (τ.s sl 0)) (τ.m i 0))) i 1 (payM (scoreOf d (τ.s sl 1)) (τ.m i 1)) := by
  show upd (upd τ.m i 0 _) i 1 (payM (scoreOf d (τ.s sl 1)) (upd τ.m i 0 _ i 1)) = _
  rw [upd_other]

/-- The exponentials after a softmax. -/
theorem softF_p0 (d : Bool) (i sl : ℕ) (τ : St F) : (softF d i sl τ).p sl 0 = payP (scoreOf d (τ.s sl 0)) (τ.m i 0) :=
  upd2_zero _ _ _ _
/-- The exponentials after a softmax. -/
theorem softF_p1 (d : Bool) (i sl : ℕ) (τ : St F) : (softF d i sl τ).p sl 1 = payP (scoreOf d (τ.s sl 1)) (τ.m i 1) := by
  refine (upd2_one _ _ _ _).trans ?_
  show payP (scoreOf d (τ.s sl 1)) (upd τ.m i 0 _ i 1) = _
  rw [upd_other]
/-- The factors after a softmax. -/
theorem softF_a0 (d : Bool) (i sl : ℕ) (τ : St F) : (softF d i sl τ).a sl 0 = payA (scoreOf d (τ.s sl 0)) (τ.m i 0) :=
  upd2_zero _ _ _ _
/-- The factors after a softmax. -/
theorem softF_a1 (d : Bool) (i sl : ℕ) (τ : St F) : (softF d i sl τ).a sl 1 = payA (scoreOf d (τ.s sl 1)) (τ.m i 1) := by
  refine (upd2_one _ _ _ _).trans ?_
  show payA (scoreOf d (τ.s sl 1)) (upd τ.m i 0 _ i 1) = _
  rw [upd_other]

/-- The sums after an accumulation. -/
theorem accF_acc (i j sl : ℕ) (τ : St F) : (accF i j sl τ).acc
    = upd (upd τ.acc i 0 (payAcc (τ.vt j) (τ.p sl 0) (τ.a sl 0) (τ.acc i 0))) i 1 (payAcc (τ.vt j) (τ.p sl 1) (τ.a sl 1) (τ.acc i 1)) := by
  show upd (upd τ.acc i 0 _) i 1 (payAcc (τ.vt j) (τ.p sl 1) (τ.a sl 1) (upd τ.acc i 0 _ i 1)) = _
  rw [upd_other]

/-- The scores after a pair's scores. -/
theorem scoresF_s (kx : KBlk F) (i j sl : ℕ) (τ : St F) : (scoresF kx i j sl τ).s
    = upd (upd τ.s sl 0 (payS (rowsT kx j) (τ.qt i 0))) sl 1 (payS (rowsT kx j) (τ.qt i 1)) := rfl

/-- A step keeps the relation. -/
theorem Inv.step {O : Ops F} {cur prv : Pair} {sl : ℕ} {V : MA F} {σ : St F} (h : Inv O cur prv sl V σ) (hs : sl ≤ 1) (diag : Bool) (nxt : Pair) :
    Inv O nxt cur (1 - sl) (seqF O diag cur.ni cur.nj V) (stepF O.kx diag nxt cur prv sl σ) := by
  obtain ⟨hqt, hvt, h0, h1, hm, hacc⟩ := h
  have hne : sl ≠ 1 - sl := by omega
  unfold stepF
  generalize hτ : accF prv.ni prv.nj (1 - sl) (scoresF O.kx nxt.ni nxt.nj (1 - sl) σ) = τ
  have tqt : τ.qt = O.qt := by rw [← hτ]; exact hqt
  have tvt : τ.vt = O.vt := by rw [← hτ]; exact hvt
  have tm : τ.m = V.m := by rw [← hτ]; exact hm
  have tacc : τ.acc = V.acc := by rw [← hτ]; exact hacc
  have ts0 : τ.s sl 0 = payS (rowsT O.kx cur.nj) (O.qt cur.ni 0) := by rw [← hτ]; exact (upd2_else _ hne _ _ _).trans h0
  have ts1 : τ.s sl 1 = payS (rowsT O.kx cur.nj) (O.qt cur.ni 1) := by rw [← hτ]; exact (upd2_else _ hne _ _ _).trans h1
  have tn0 : τ.s (1 - sl) 0 = payS (rowsT O.kx nxt.nj) (O.qt nxt.ni 0) := by rw [← hτ, ← hqt]; exact upd2_zero _ _ _ _
  have tn1 : τ.s (1 - sl) 1 = payS (rowsT O.kx nxt.nj) (O.qt nxt.ni 1) := by rw [← hτ, ← hqt]; exact upd2_one _ _ _ _
  refine ⟨tqt, tvt, tn0, tn1, ?_, ?_⟩
  · rw [softF_m, ts0, ts1, tm]; rfl
  · rw [show 1 - (1 - sl) = sl by omega, accF_acc, softF_p0, softF_p1, softF_a0, softF_a1, ts0, ts1, tm]
    show upd (upd τ.acc _ 0 (payAcc (τ.vt _) _ _ (τ.acc _ 0))) _ 1 (payAcc (τ.vt _) _ _ (τ.acc _ 1)) = _
    rw [tacc, tvt]; rfl

/-- The start of a run puts the relation in place: the accumulation still to be done is that of slot 1's zeros. -/
theorem Inv.start {O : Ops F} {σ : St F} (hqt : σ.qt = O.qt) (hvt : σ.vt = O.vt) (pr : Pair) (V : MA F) (hm : σ.m = V.m)
    (hacc : upd (upd σ.acc pr.ni 0 (payAcc (O.vt pr.nj) (fun _ => FloatOps.ofBits (F := F) .bf16 0x0000#16) (fun _ => FloatOps.ofBits (F := F) .f32 0x3F800000#32) (σ.acc pr.ni 0))) pr.ni 1
      (payAcc (O.vt pr.nj) (fun _ => FloatOps.ofBits (F := F) .bf16 0x0000#16) (fun _ => FloatOps.ofBits (F := F) .f32 0x3F800000#32) (σ.acc pr.ni 1)) = V.acc) :
    Inv O pr pr 0 V (startF O.kx pr σ) := by
  refine ⟨hqt, hvt, ?_, ?_, hm, ?_⟩
  · rw [← hqt]; exact (congrFun (congrFun (scoresF_s O.kx pr.ni pr.nj 0 σ) 0) 0).trans (upd2_zero _ 0 _ _)
  · rw [← hqt]; exact (congrFun (congrFun (scoresF_s O.kx pr.ni pr.nj 0 σ) 0) 1).trans (upd2_one _ 0 _ _)
  · rw [← hacc, accF_acc, ← hvt]; rfl

/-! ## Runs of steps -/

section Rules

variable (c : Dev nD) (B : Bufs)

/-- The buffers held at contents of which `P` holds. -/
def ownX (kx : KBlk F) (P : St F → Prop) : sProp 𝕄 := iprop(∃ σ, ⌜P σ⌝ ∗ own c B kx σ)

/-- A step that keeps a property. -/
theorem ownX_of {kx : KBlk F} {P P' : St F → Prop} {p : Prog (TpuEff nD τ sig (Elt F) Λ₀ .tc) PUnit} (f : St F → St F)
    (h : ∀ σ, own c B kx σ ⊢ WP c p fun _ => own c B kx (f σ)) (hP : ∀ σ, P σ → P' (f σ)) :
    ownX c B kx P ⊢ WP c p fun _ => ownX c B kx P' := by
  unfold ownX
  iintro ⟨%σ, %hσ, H⟩
  have h2 : WP c p (fun _ => own c B kx (f σ)) ⊢ WP c p fun _ => iprop(∃ σ, ⌜P' σ⌝ ∗ own c B kx σ) :=
    wp_mono _ _ _ fun _ => by
      iintro H
      iexists (f σ)
      isplitr
      · ipureintro; exact hP σ hσ
      · iexact H
  iapply ((h σ).trans h2)
  iexact H

/-- A return. -/
theorem retW {α : Type} {P : sProp 𝕄} {Q : α → sProp 𝕄} (a : α) (h : P ⊢ Q a) : P ⊢ WP c (pure a : Prog (TpuEff nD τ sig (Elt F) Λ₀ .tc) α) Q :=
  h.trans (le_wp_ret _ _ _ a Q)

/-- The slot `n` steps on. -/
def slotN (n : ℕ) : ℕ → ℕ := Nat.rec (fun sl => sl) (fun _ rest sl => rest (1 - sl)) n

/-- The steps along the rows. -/
theorem stepsP_tr (O : Ops F) (n : ℕ) : ∀ (cur prv : Pair) (sl : ℕ) (hs : sl ≤ 1) (V : MA F),
    ownX c B O.kx (Inv O cur prv sl V) ⊢ WP c (stepsP B n cur prv sl hs)
      fun _ => ownX c B O.kx (Inv O (pairs n cur prv).1 (pairs n cur prv).2 (slotN n sl) (seqN O n cur V)) := by
  induction n with
  | zero => exact fun cur prv sl hs V => retW c _ .rfl
  | succ n ih =>
    intro cur prv sl hs V
    exact seqW c (ownX_of c B _ (fun σ => stepP_tr c B O.kx false cur.next cur prv sl hs σ) fun σ h => h.step hs false cur.next) fun _ =>
        ih cur.next cur (1 - sl) (Nat.sub_le 1 sl) (seqF O false cur.ni cur.nj V)

/-- The steps along the diagonal. -/
theorem diagP_tr (O : Ops F) (n : ℕ) : ∀ (t sl : ℕ) (hs : sl ≤ 1) (V : MA F),
    ownX c B O.kx (Inv O (diagPair t) (diagPair (t - 1)) sl V) ⊢ WP c (diagP B n t sl hs)
      fun _ => ownX c B O.kx (Inv O (diagPair (t + n)) (diagPair (t + n - 1)) (slotN n sl) (seqD O n t V)) := by
  induction n with
  | zero => exact fun t sl hs V => retW c _ .rfl
  | succ n ih =>
    intro t sl hs V
    have := ih (t + 1) (1 - sl) (Nat.sub_le 1 sl) (seqF O true (diagPair t).ni (diagPair t).nj V)
    rw [show t + 1 + n = t + (n + 1) by omega] at this
    exact seqW c (ownX_of c B _ (fun σ => stepP_tr c B O.kx true (diagPair (t + 1)) (diagPair t) (diagPair (t - 1)) sl hs σ)
      fun σ h => h.step hs true (diagPair (t + 1))) fun _ => this

end Rules

end Cert.Proof.Steps
-- ==== Proof.Run.lean ====
/- The kernel's body from its first operation to its last: what it leaves in the result's block is a function of
   the blocks it is given, whatever the scratch buffers held. -/
module

public import proofs.«01_k».proof.Proof.Pipe

@[expose] public section

noncomputable section

namespace Cert.Proof.Steps

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What the body computes -/

/-- The operands of the pairs, from the blocks of queries, keys and values. -/
def opsOf (qx kx vx : KBlk F) : Ops F where
  kx := kx
  qt i mp := if mp = 0 then payQ0 (rowsT qx i) else payQ1 (rowsT qx i)
  vt j := stackT (payV (rowsT vx j)) (FloatOps.ofBits (F := F) .bf16 0x3F80#16)

/-- Maxima and sums before any pair. -/
def maInit : MA F where
  m _ _ _ := Named.named κ "mask" 0xF149F2CA#32
  acc _ _ _ := FloatOps.ofBits (F := F) .f32 0x00000000#32

/-- The accumulation of nothing a run starts with, at the row tile of its first pair. -/
def bump (O : Ops F) (i j : ℕ) (V : MA F) : MA F where
  m := V.m
  acc := upd (upd V.acc i 0 (payAcc (O.vt j) (fun _ => FloatOps.ofBits (F := F) .bf16 0x0000#16) (fun _ => FloatOps.ofBits (F := F) .f32 0x3F800000#32) (V.acc i 0))) i 1
      (payAcc (O.vt j) (fun _ => FloatOps.ofBits (F := F) .bf16 0x0000#16) (fun _ => FloatOps.ofBits (F := F) .f32 0x3F800000#32) (V.acc i 1))

/-- Maxima and sums after the run along the rows. -/
def maRows (O : Ops F) : MA F := seqN O 496 pair10 (bump O 1 0 maInit)

/-- Maxima and sums after the run along the diagonal. -/
def maAll (O : Ops F) : MA F := seqD O 32 0 (bump O 0 0 (maRows O))

/-- The tiles of the result. -/
def outT (qx kx vx : KBlk F) (lam : Vec F S4x64 .f32) (g : Vec F S128x256 .f32) (t : ℕ) : T3 (F .bf16) 256 128 :=
  finT (payLam lam) g ((maAll (opsOf qx kx vx)).acc t)

/-! ## The counts of the pairs -/

/-- Stepping the pairs in two parts. -/
theorem pairs_add (a b : ℕ) : ∀ c p : Pair, pairs (a + b) c p = pairs b (pairs a c p).1 (pairs a c p).2 := by
  induction a with
  | zero => intro c p; rw [Nat.zero_add]; rfl
  | succ a ih => intro c p; rw [Nat.succ_add]; exact ih c.next c

/-- Running the steps in two parts. -/
theorem seqN_add (O : Ops F) (a b : ℕ) : ∀ (c p : Pair) (V : MA F), seqN O (a + b) c V = seqN O b (pairs a c p).1 (seqN O a c V) := by
  induction a with
  | zero => intro c p V; rw [Nat.zero_add]; rfl
  | succ a ih => intro c p V; rw [Nat.succ_add]; exact ih c.next c _

/-- The pairs a trip of the loop along the rows starts from. -/
abbrev atTrip (k : ℕ) : Pair × Pair := pairs (32 * k) pair10 pair10

/-- The checks hold at every trip. -/
theorem trip_checks : ∀ k : Fin 15, k0_chk4 (atTrip k).1.i ∧ k0_chk3 (atTrip k).2.i ∧ k0_chk2 (atTrip k).2.j ∧ k0_chk1 (atTrip k).1.i (atTrip k).1.j := by
  decide +kernel

/-- The checks hold after the loop. -/
theorem tail_checks : k0_chk8 (atTrip 15).1.j ∧ k0_chk7 (atTrip 15).2.i ∧ k0_chk6 (atTrip 15).2.j ∧ k0_chk5 (atTrip 15).1.j (atTrip 15).1.i := by
  decide +kernel

/-- The first loop runs 32 times. -/
theorem trips1 : k0_t1_loop.trips = 32 := by decide +kernel
/-- The second loop runs 15 times. -/
theorem trips2 : k0_t2_loop.trips = 15 := by decide +kernel
/-- The third loop runs 32 times. -/
theorem trips3 : k0_t3_loop.trips = 32 := by decide +kernel

/-- No trip done. -/
theorem atTrip_zero : atTrip 0 = (pair10, pair10) := rfl

/-- No pair done. -/
theorem seqN_zero (O : Ops F) (p : Pair) (V : MA F) : seqN O (32 * 0) p V = V := rfl

/-! ## The rules -/

attribute [local irreducible] pairs seqN seqD

section Rules

variable (c : Dev nD) (B : Bufs)

/-- Between runs: the buffers hold the operands and what the pairs so far leave. -/
structure Rest (O : Ops F) (V : MA F) (σ : St F) : Prop where
  qt : σ.qt = O.qt
  vt : σ.vt = O.vt
  m : σ.m = V.m
  acc : σ.acc = V.acc

/-- The start of a run. -/
theorem start_tr (O : Ops F) (pr : Pair) (V : MA F) :
    ownX c B O.kx (Rest O V) ⊢ WP c (startP B pr) fun _ => ownX c B O.kx (Inv O pr pr 0 (bump O pr.ni pr.nj V)) :=
  ownX_of c B _ (startP_tr c B O.kx pr) fun σ h => Inv.start h.qt h.vt pr _ h.m (by rw [h.acc]; rfl)

/-- The end of a run: its last accumulation. -/
theorem last_tr (O : Ops F) (cur prv : Pair) (V : MA F) :
    ownX c B O.kx (Inv O cur prv 0 V) ⊢ WP c (accP B prv.i prv.j prv.hi prv.hj 1 (by decide)) fun _ => ownX c B O.kx (Rest O V) :=
  ownX_of c B _ (accP_tr c B O.kx prv.i prv.j prv.hi prv.hj 1 (by decide)) fun _ h => ⟨h.qt, h.vt, h.m, h.acc⟩

/-- A check that holds. -/
theorem assumeW {α : Type} {P : sProp 𝕄} {A : Prop} {d : Decidable A} {k : PLift A → Prog (TpuEff nD τ sig (Elt F) Λ₀ .tc) α} {Q : α → sProp 𝕄} (h : A)
    (hk : P ⊢ WP c (k ⟨h⟩) Q) : P ⊢ WP c (Prog.lift (.assume A d) >>= k) Q :=
  hk.trans (wp_assume Variants.none (c : Thread nD τ) none Set.univ h)

/-- A counted loop by an invariant. -/
theorem forW {σ : Type} (l : Scf.Loop 32) (hok : l.OK) (init : σ) (body : Fin l.trips → σ → Prog (TpuEff nD τ sig (Elt F) Λ₀ .tc) σ) (I : ℕ → σ → sProp 𝕄)
    (hbody : ∀ (k : Fin l.trips) (acc : σ), I k.val acc ⊢ WP c (body k acc) (I (k.val + 1))) :
    I 0 init ⊢ WP c (Scf.Loop.for l hok init body) (I l.trips) := by
  iintro H
  iapply (Scf.wp_for frame (wpE (defs₀ (F := F)) Variants.none (c : Thread nD τ) none) Set.univ l.lb l.ub l.st hok init body I hbody (Q := I l.trips))
  isplitl [H]; · iexact H
  iintro %acc H
  iexact H

/-- A program beside what it does not touch. -/
theorem frameW {α : Type} {P R : sProp 𝕄} {Q : α → sProp 𝕄} {p : Prog (TpuEff nD τ sig (Elt F) Λ₀ .tc) α} (h : P ⊢ WP c p Q) :
    iprop(P ∗ R) ⊢ WP c p fun a => iprop(Q a ∗ R) :=
  (sep_mono_left h).trans (wp_frame_r _ _ _)

/-- A fact in front of an assertion. -/
theorem pureL {φ : Prop} {P G : sProp 𝕄} (h : φ → P ⊢ G) : iprop(⌜φ⌝ ∗ P) ⊢ G := by
  iintro ⟨%hφ, H⟩
  iapply (h hφ)
  iexact H

/-- A state with its property. -/
theorem ownX_intro {kx : KBlk F} {P : St F → Prop} (σ : St F) (h : P σ) : own c B kx σ ⊢ ownX c B kx P := by
  unfold ownX
  iintro H
  iexists σ
  isplitr
  · ipureintro; exact h
  · iexact H

/-- From every state with a property. -/
theorem ownX_elim {kx : KBlk F} {P : St F → Prop} {R G : sProp 𝕄} (h : ∀ σ, P σ → iprop(own c B kx σ ∗ R) ⊢ G) :
    iprop(ownX c B kx P ∗ R) ⊢ G := by
  unfold ownX
  iintro ⟨⟨%σ, %hσ, H⟩, HR⟩
  iapply (h σ hσ)
  isplitl [H]; · iexact H
  iexact HR

/-- A program's result weakened. -/
theorem consW {α : Type} {P : sProp 𝕄} {Q Q' : α → sProp 𝕄} {p : Prog (TpuEff nD τ sig (Elt F) Λ₀ .tc) α} (h : P ⊢ WP c p Q) (hQ : ∀ a, Q a ⊢ Q' a) :
    P ⊢ WP c p Q' := h.trans (wp_mono _ _ _ hQ)

/-- The words of a pair and the one before it. -/
def wordsOf (p : Pair × Pair) : BitVec 32 × BitVec 32 × BitVec 32 × BitVec 32 := (p.1.i, p.1.j, p.2.i, p.2.j)

/-- The invariant of the loop along the rows: pair `p.1` in hand, `p.2` the one before. -/
def rowsInv (O : Ops F) (p : Pair × Pair) (V : MA F) (w : BitVec 32 × BitVec 32 × BitVec 32 × BitVec 32) : sProp 𝕄 :=
  iprop(⌜w = wordsOf p⌝ ∗ ownX c B O.kx (Inv O p.1 p.2 0 V))

/-- A trip of the loop along the rows. -/
theorem trip_tr (O : Ops F) (V : MA F) (p : Pair × Pair)
    (h : k0_chk4 p.1.i ∧ k0_chk3 p.2.i ∧ k0_chk2 p.2.j ∧ k0_chk1 p.1.i p.1.j) (w : BitVec 32 × BitVec 32 × BitVec 32 × BitVec 32) :
    rowsInv c B O p V w ⊢ WP c (tripS B w) (rowsInv c B O (pairs 32 p.1 p.2) (seqN O 32 p.1 V)) := by
  obtain ⟨h4, h3, h2, h1⟩ := h
  refine pureL fun hw => ?_
  subst hw
  refine assumeW c h4 (assumeW c h3 (assumeW c h2 (assumeW c h1 ?_)))
  refine seqW c (stepsP_tr c B O 32 p.1 p.2 0 (by decide) _) fun _ => ?_
  refine retW c _ ?_
  unfold rowsInv
  iintro H
  isplitr
  · ipureintro; rfl
  · iexact H

/-- The checks after the loop along the rows. -/
theorem check_tr (p : Pair × Pair) (h : k0_chk8 p.1.j ∧ k0_chk7 p.2.i ∧ k0_chk6 p.2.j ∧ k0_chk5 p.1.j p.1.i) (P : sProp 𝕄) :
    P ⊢ WP c (checkP (F := F) (wordsOf p)) fun _ => P :=
  assumeW c h.1 (assumeW c h.2.1 (assumeW c h.2.2.1 (assumeW c h.2.2.2 (retW c _ .rfl))))

/-- What follows the loop along the rows, given what its end does. -/
theorem runs_tr (lam : Memref sig .tc .vmem S4x64 .f32) (g : Memref sig .tc .vmem S128x256 .f32)
    (o : Memref sig .tc .vmem S1x8192x128 .bf16) (ho : o.IsWhole) (O : Ops F) {R : sProp 𝕄} {Q : PUnit → sProp 𝕄} (V : MA F) (p : Pair × Pair)
    (h : k0_chk8 p.1.j ∧ k0_chk7 p.2.i ∧ k0_chk6 p.2.j ∧ k0_chk5 p.1.j p.1.i)
    (hk : iprop(ownX c B O.kx (Rest O (seqD O 32 0 (bump O (diagPair 0).ni (diagPair 0).nj (seqN O 16 p.1 V)))) ∗ R) ⊢ WP c (do
        let l : Vec F S4x64 .f32 ← Prog.lift (.load lam (Rect.unit (s := S4x64) ![0, 0] S4x64.size inb_S4x64_S4x64_0_0).toLoadRect (View.loadsAt_vmem h_S4x64))
        finishP B g o ho (payLam l)
        pure PUnit.unit) Q) :
    iprop(ownX c B O.kx (Inv O p.1 p.2 0 V) ∗ R) ⊢ WP c (tailP B lam g o ho (wordsOf p)) Q := by
  unfold tailP
  refine seqW c (check_tr c p h _) fun h => ?_
  refine seqW c (frameW c (stepsP_tr c B O 16 p.1 p.2 0 (by decide) _)) fun _ => ?_
  refine seqW c (frameW c (last_tr c B O _ _ _)) fun _ => ?_
  refine seqW c (frameW c (start_tr c B O (diagPair 0) _)) fun _ => ?_
  refine seqW c (frameW c (diagP_tr c B O 32 0 0 (by decide) _)) fun _ => ?_
  exact seqW c (frameW c (last_tr c B O (diagPair 32) (diagPair 31) _)) fun _ => hk

end Rules

/-- Contents agree when their tiles do. -/
theorem flat4_congr {α : Type} {a b c d : ℕ} {T T' : ℕ → ℕ → T4 α c d} (h : ∀ i < a, ∀ j < b, T i j = T' i j) :
    flat4 (a := a) (b := b) T = flat4 T' := by
  funext y
  show T (y 0).val (y 1).val _ = T' (y 0).val (y 1).val _
  rw [h _ (y 0).isLt _ (y 1).isLt]

/-- Contents agree when their tiles do. -/
theorem flat3_congr {α : Type} {a c d : ℕ} {T T' : ℕ → T3 α c d} (h : ∀ i < a, T i = T' i) : flat3 (a := a) T = flat3 T' := by
  funext y
  show T (y 0).val _ = T' (y 0).val _
  rw [h _ (y 0).isLt]

/-- Contents made of row tiles agree when the tiles do. -/
theorem rowsF_congr {α : Type} {T T' : ℕ → T3 α 256 128} (h : ∀ i < 32, T i = T' i) : rowsF T = rowsF T' := by
  funext y
  have h1 : (y 1).val < 8192 := (y 1).isLt
  show T ((y 1).val / 256) _ = T' ((y 1).val / 256) _
  rw [h _ (by omega)]

section Body

variable (c : Dev nD) (B : Bufs)

/-- The first `n` row tiles are prepared. -/
structure Ready (O : Ops F) (n : ℕ) (σ : St F) : Prop where
  qt0 : ∀ i < n, σ.qt i 0 = O.qt i 0
  qt1 : ∀ i < n, σ.qt i 1 = O.qt i 1
  vt : ∀ i < n, σ.vt i = O.vt i
  m : ∀ i < n, ∀ mp, σ.m i mp = maInit.m i mp
  acc : ∀ i < n, ∀ mp, σ.acc i mp = maInit.acc i mp

/-- One more tile prepared. -/
theorem Ready.succ {qx kx vx : KBlk F} {n : ℕ} {σ : St F} (h : Ready (opsOf qx kx vx) n σ) :
    Ready (opsOf qx kx vx) (n + 1) (prepF qx vx n σ) where
  qt0 i hi := by
    rcases Nat.lt_succ_iff_lt_or_eq.mp hi with h' | rfl
    · exact (upd_ne _ _ (by omega)).trans ((upd_ne _ _ (by omega)).trans (h.qt0 i h'))
    · exact (upd_ne _ _ (by omega)).trans (upd_same _ _ _ _)
  qt1 i hi := by
    rcases Nat.lt_succ_iff_lt_or_eq.mp hi with h' | rfl
    · exact (upd_ne _ _ (by omega)).trans ((upd_ne _ _ (by omega)).trans (h.qt1 i h'))
    · exact upd_same _ _ _ _
  vt i hi := by
    rcases Nat.lt_succ_iff_lt_or_eq.mp hi with h' | rfl
    · exact (if_neg (by omega)).trans (h.vt i h')
    · exact if_pos rfl
  m i hi mp := by
    rcases Nat.lt_succ_iff_lt_or_eq.mp hi with h' | rfl
    · exact (if_neg (by omega)).trans (h.m i h' mp)
    · exact if_pos rfl
  acc i hi mp := by
    rcases Nat.lt_succ_iff_lt_or_eq.mp hi with h' | rfl
    · exact (if_neg (by omega)).trans (h.acc i h' mp)
    · exact if_pos rfl

/-- All tiles prepared: the buffers hold the operands, no maxima and no sums. -/
theorem Ready.rest {O : Ops F} {σ : St F} (h : Ready O 32 σ) :
    own c B O.kx σ ⊢ ownX c B O.kx (Rest O maInit) := by
  have e : own c B O.kx σ = own c B O.kx ({ σ with qt := O.qt, vt := O.vt, m := maInit.m, acc := maInit.acc } : St F) := by
    unfold own
    rw [flat4_congr (T := σ.qt) (T' := O.qt) fun i hi j hj => by
        rcases (show j = 0 ∨ j = 1 by omega) with rfl | rfl
        exacts [h.qt0 i hi, h.qt1 i hi],
      flat3_congr (T := σ.vt) (T' := O.vt) h.vt,
      flat4_congr (T := σ.m) (T' := maInit.m) fun i hi j _ => h.m i hi j,
      flat4_congr (T := σ.acc) (T' := maInit.acc) fun i hi j _ => h.acc i hi j]
  rw [e]
  exact ownX_intro c B _ ⟨rfl, rfl, rfl, rfl⟩

/-- The loop of the tiles' preparation. -/
theorem prep_tr (hqt : B.qt.IsWhole) (hvt : B.vt.IsWhole) (q v : Memref sig .tc .vmem S1x8192x128 .bf16) (qx kx vx : KBlk F) (σ : St F) :
    iprop(own c B kx σ ∗ bt c q qx ∗ bt c v vx)
      ⊢ WP c (Scf.Loop.for k0_t1_loop k0_t1_ok ⟨⟩ fun t _ => prepP B hqt hvt q v t)
        fun _ => iprop(ownX c B kx (Rest (opsOf qx kx vx) maInit) ∗ bt c q qx ∗ bt c v vx) := by
  have loop := forW c k0_t1_loop k0_t1_ok (⟨⟩ : PUnit) (fun t _ => prepP B hqt hvt q v t)
    (fun n _ => iprop(ownX c B kx (Ready (opsOf qx kx vx) n) ∗ bt c q qx ∗ bt c v vx)) fun t _ =>
      ownX_elim c B fun τ h => consW c (prepP_tr c B kx hqt hvt q v qx vx t τ) fun _ => sep_mono_left (ownX_intro c B _ h.succ)
  refine .trans ?_ (consW c loop fun _ => sep_mono_left ?_)
  · exact sep_mono_left (ownX_intro c B σ ⟨by omega, by omega, by omega, by omega, by omega⟩)
  · have := ownX_elim c B (R := iprop(emp)) fun τ (h : Ready (opsOf qx kx vx) k0_t1_loop.trips τ) => sep_emp_elim.trans ((trips1 ▸ h : Ready (opsOf qx kx vx) 32 τ).rest c B)
    exact sep_emp_intro.trans this

/-- The loop of the tiles' ends. -/
theorem finish_tr (g : Memref sig .tc .vmem S128x256 .f32) (o : Memref sig .tc .vmem S1x8192x128 .bf16) (ho : o.IsWhole) (lam : FVec F S1x1 .f32)
    (kx : KBlk F) (gx : Vec F S128x256 .f32) (X : KBlk F) (σ : St F) :
    iprop(own c B kx σ ∗ bt c g gx ∗ bt c o X)
      ⊢ WP c (finishP B g o ho lam)
        fun _ => iprop(own c B kx σ ∗ bt c g gx ∗ bt c o (rowsF fun t => finT lam gx (σ.acc t))) := by
  have loop := forW c k0_t3_loop k0_t3_ok (⟨⟩ : PUnit) (fun t _ => finP B g o ho lam t)
    (fun n _ => iprop(∃ T, ⌜∀ i < n, T i = finT lam gx (σ.acc i)⌝ ∗ own c B kx σ ∗ bt c g gx ∗ bt c o (rowsF T))) fun t _ => by
      iintro ⟨%T, %h, H⟩
      have step := consW c (finP_tr c B kx g o ho lam gx T t σ) (Q' := fun _ => iprop(∃ T, ⌜∀ i < t.val + 1, T i = finT lam gx (σ.acc i)⌝ ∗ own c B kx σ ∗ bt c g gx ∗ bt c o (rowsF T))) fun _ => by
        iintro H
        iexists (upd1 T t.val (finT lam gx (σ.acc t.val)))
        isplitr
        · ipureintro
          intro i hi
          rcases Nat.lt_succ_iff_lt_or_eq.mp hi with h' | h'
          · exact (if_neg (by omega)).trans (h i h')
          · rw [h']; exact if_pos rfl
        · iexact H
      iapply step
      iexact H
  obtain ⟨T, rfl⟩ := exists_rowsF X
  unfold finishP
  refine seqW c (.trans ?_ loop) fun _ => retW c _ ?_
  · iintro H
    iexists T
    isplitr
    · ipureintro; omega
    · iexact H
  · iintro ⟨%T', %h, H⟩
    rw [rowsF_congr fun i hi => h i (trips3.symm ▸ hi)]
    iexact H

/-- A trip of that loop from the `n`-th pair on. -/
theorem trip_add (O : Ops F) (V : MA F) (n : ℕ)
    (h : k0_chk4 (pairs n pair10 pair10).1.i ∧ k0_chk3 (pairs n pair10 pair10).2.i ∧ k0_chk2 (pairs n pair10 pair10).2.j ∧ k0_chk1 (pairs n pair10 pair10).1.i (pairs n pair10 pair10).1.j)
    (w : BitVec 32 × BitVec 32 × BitVec 32 × BitVec 32) :
    rowsInv c B O (pairs n pair10 pair10) (seqN O n pair10 V) w
      ⊢ WP c (tripS B w) (rowsInv c B O (pairs (n + 32) pair10 pair10) (seqN O (n + 32) pair10 V)) := by
  rw [seqN_add O n 32 pair10 pair10, pairs_add]
  exact trip_tr c B O _ _ h w

/-- The loop along the rows. -/
theorem rows_tr (O : Ops F) (V : MA F) :
    ownX c B O.kx (Inv O pair10 pair10 0 V)
      ⊢ WP c (Scf.Loop.for k0_t2_loop k0_t2_ok (1#32, 0#32, 1#32, 0#32) fun _ => tripS (F := F) B)
        fun w => iprop(⌜w = wordsOf (atTrip 15)⌝ ∗ ownX c B O.kx (Inv O (atTrip 15).1 (atTrip 15).2 0 (seqN O (32 * 15) pair10 V))) := by
  have loop := forW c k0_t2_loop k0_t2_ok (1#32, 0#32, 1#32, 0#32) (fun _ => tripS (F := F) B)
    (fun n => rowsInv c B O (atTrip n) (seqN O (32 * n) pair10 V)) fun k w => by
      have hk : k.val < 15 := trips2 ▸ k.isLt
      have := trip_add c B O V (32 * k.val) (trip_checks ⟨k.val, hk⟩) w
      have e : 32 * (k.val + 1) = 32 * k.val + 32 := rfl
      rw [← e] at this
      unfold atTrip; exact this
  refine .trans ?_ (consW c loop fun w => ?_)
  · unfold rowsInv
    rw [atTrip_zero, seqN_zero]
    iintro H
    isplitr
    · ipureintro; rfl
    · iexact H
  · rw [trips2]
    exact .rfl

/-- What follows the loop along the rows: the result's block is then the function of the other blocks. -/
theorem tail_tr (lam : Memref sig .tc .vmem S4x64 .f32) (g : Memref sig .tc .vmem S128x256 .f32)
    (q v o : Memref sig .tc .vmem S1x8192x128 .bf16) (ho : o.IsWhole) (qx kx vx X : KBlk F) (lx : Vec F S4x64 .f32) (gx : Vec F S128x256 .f32)
    (p : Pair × Pair) (V : MA F) (h : k0_chk8 p.1.j ∧ k0_chk7 p.2.i ∧ k0_chk6 p.2.j ∧ k0_chk5 p.1.j p.1.i)
    (hV : seqD (opsOf qx kx vx) 32 0 (bump (opsOf qx kx vx) (diagPair 0).ni (diagPair 0).nj (seqN (opsOf qx kx vx) 16 p.1 V)) = maAll (opsOf qx kx vx))
    (w : BitVec 32 × BitVec 32 × BitVec 32 × BitVec 32) :
    iprop(((⌜w = wordsOf p⌝ ∗ ownX c B kx (Inv (opsOf qx kx vx) p.1 p.2 0 V)) ∗ bt c q qx ∗ bt c v vx) ∗ bt c lam lx ∗ bt c g gx ∗ bt c o X)
      ⊢ WP c (tailP B lam g o ho w)
        fun _ => iprop((ownX c B kx (fun _ => True) ∗ bt c q qx ∗ bt c v vx) ∗ bt c lam lx ∗ bt c g gx ∗ bt c o (rowsF (outT qx kx vx lx gx))) := by
  have last : iprop(ownX c B kx (Rest (opsOf qx kx vx) (maAll (opsOf qx kx vx))) ∗ (bt c q qx ∗ bt c v vx) ∗ bt c lam lx ∗ bt c g gx ∗ bt c o X)
      ⊢ WP c (do
        let l : Vec F S4x64 .f32 ← Prog.lift (.load lam (Rect.unit (s := S4x64) ![0, 0] S4x64.size inb_S4x64_S4x64_0_0).toLoadRect (View.loadsAt_vmem h_S4x64))
        finishP B g o ho (payLam l)
        pure PUnit.unit) fun _ => iprop((ownX c B kx (fun _ => True) ∗ bt c q qx ∗ bt c v vx) ∗ bt c lam lx ∗ bt c g gx ∗ bt c o (rowsF (outT qx kx vx lx gx))) := by
    refine ownX_elim c B fun τ hτ => ?_
    have fin : iprop(own c B kx τ ∗ bt c g gx ∗ bt c o X) ⊢ WP c (finishP B g o ho (payLam lx) >>= fun _ => pure PUnit.unit)
        fun _ => iprop(ownX c B kx (fun _ => True) ∗ bt c g gx ∗ bt c o (rowsF (outT qx kx vx lx gx))) := by
      refine seqW c (finish_tr c B g o ho (payLam lx) kx gx X τ) fun _ => retW c _ ?_
      rw [hτ.acc]
      exact sep_mono_left (ownX_intro c B τ trivial)
    iintro ⟨H, ⟨Hq, Hv⟩, Hl, Hg, Ho⟩
    iapply (wp_ld c rfl) $$ Hl
    iintro Hl
    rw [window_full2]
    have fr := consW c (frameW c (R := iprop(bt c q qx ∗ bt c v vx ∗ bt c lam lx)) fin)
      (Q' := fun _ => iprop((ownX c B kx (fun _ => True) ∗ bt c q qx ∗ bt c v vx) ∗ bt c lam lx ∗ bt c g gx ∗ bt c o (rowsF (outT qx kx vx lx gx)))) fun _ => by
        iintro ⟨⟨H, Hg, Ho⟩, Hq, Hv, Hl⟩
        isplitl [H Hq Hv]
        · isplitl [H]; · iexact H
          isplitl [Hq]; · iexact Hq
          iexact Hv
        isplitl [Hl]; · iexact Hl
        isplitl [Hg]; · iexact Hg
        iexact Ho
    iapply fr
    isplitl [H Hg Ho]
    · isplitl [H]; · iexact H
      isplitl [Hg]; · iexact Hg
      iexact Ho
    isplitl [Hq]; · iexact Hq
    isplitl [Hv]; · iexact Hv
    iexact Hl
  have tail := runs_tr c B lam g o ho (opsOf qx kx vx) V p h (hV.symm ▸ last)
  have start : iprop(⌜w = wordsOf p⌝ ∗ ownX c B (opsOf qx kx vx).kx (Inv (opsOf qx kx vx) p.1 p.2 0 V) ∗ (bt c q qx ∗ bt c v vx) ∗ bt c lam lx ∗ bt c g gx ∗ bt c o X)
      ⊢ WP c (tailP B lam g o ho w)
        fun _ => iprop((ownX c B kx (fun _ => True) ∗ bt c q qx ∗ bt c v vx) ∗ bt c lam lx ∗ bt c g gx ∗ bt c o (rowsF (outT qx kx vx lx gx))) :=
    pureL fun hw => by subst hw; exact tail
  exact (sep_assoc.1.trans sep_assoc.1).trans start

/-- The whole body: the result's block is the function of the other blocks. -/
theorem body_tr (hqt : B.qt.IsWhole) (hvt : B.vt.IsWhole) (lam : Memref sig .tc .vmem S4x64 .f32) (g : Memref sig .tc .vmem S128x256 .f32)
    (q v o : Memref sig .tc .vmem S1x8192x128 .bf16) (ho : o.IsWhole) (qx kx vx X : KBlk F) (lx : Vec F S4x64 .f32) (gx : Vec F S128x256 .f32) (σ : St F) :
    iprop((own c B kx σ ∗ bt c q qx ∗ bt c v vx) ∗ bt c lam lx ∗ bt c g gx ∗ bt c o X)
      ⊢ WP c (bodyP B hqt hvt lam g q v o ho)
        fun _ => iprop((ownX c B kx (fun _ => True) ∗ bt c q qx ∗ bt c v vx) ∗ bt c lam lx ∗ bt c g gx ∗ bt c o (rowsF (outT qx kx vx lx gx))) := by
  refine seqW c (frameW c (prep_tr c B hqt hvt q v qx kx vx σ)) fun _ => ?_
  refine seqW c (frameW c (frameW c (start_tr c B (opsOf qx kx vx) pair10 maInit))) fun _ => ?_
  refine seqW c (frameW c (frameW c (rows_tr c B (opsOf qx kx vx) _))) fun w => ?_
  exact tail_tr c B lam g q v o ho qx kx vx X lx gx (atTrip 15) _ tail_checks
    (by rw [← seqN_add (opsOf qx kx vx) (32 * 15) 16 pair10 pair10]; rfl) w

end Body

end Cert.Proof.Steps
-- ==== Proof.Launch.lean ====
/- The attention kernel's launch: the blocks its grid points take and leave, and its run from start to end. -/
module

public import proofs.«01_k».proof.Proof.Run
public import proofs.«01_k».proof.Proof.Gen.KernelIdeal.Frame
public import Idealize.ShloMosaic.Lib.Claim
public import Idealize.ShloMosaic.Adequacy
public import Idealize.ShloMosaic.Init

@[expose] public section

noncomputable section

namespace Cert.Proof.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref's ownership, as the rules of the body state it. -/
theorem bt_of_owns (c : Dev nD) {s : Shape} {e : EltTy} (M : Memref sig .tc .vmem s e) (X : s.Idx → Elt F e) :
    (owns (c : Thread nD τ) M fullShare X : sProp 𝕄) ⊢ bt c M X := by
  unfold owns
  iintro ⟨%f, %hf, H⟩
  iapply (pointsTo_rep_of_read (c : Thread nD τ) M f fullShare X hf)
  iexact H

/-- And back. -/
theorem owns_of_bt (c : Dev nD) {s : Shape} {e : EltTy} (M : Memref sig .tc .vmem s e) (X : s.Idx → Elt F e) :
    (bt c M X : sProp 𝕄) ⊢ owns (c : Thread nD τ) M fullShare X := by
  unfold owns
  iintro H
  iexists (M.view.rep X)
  isplitr
  · ipureintro; exact View.read_rep M.view X
  · iexact H

variable (m : (ℓ : Loc nD τ sig) → Buf (Elt F) ℓ) (ρ : Dev nD → PrngReg)

/-- The proof data: every input's buffer at its block, the result's at the body's function of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsF (outT (iblk m c 2 t) (iblk m c 3 t) (iblk m c 4 t) (iblk m c 0 t) (iblk m c 1 t))
  Φ _ := Pipeline.ΦA spec0 c
  q w := Pipeline.shareOf spec0 w
  owed _ := 0

/-- The arrays are the region's at its entry. -/
theorem A_eq (c : Dev nD) (w : Fin cfg0.W) : (dats m 0 c).A w = V m c (Pipeline.arrRef spec0 w) := by
  dsimp only [dats]

/-- After a point, this input's buffer holds the point's block. -/
theorem after0_0 (c : Dev nD) (t : Fin cfg0.N) : (dats m 0 c).after 0 t = iblk m c 0 t := by dsimp only [dats]
/-- After a point, this input's buffer holds the point's block. -/
theorem after0_1 (c : Dev nD) (t : Fin cfg0.N) : (dats m 0 c).after 1 t = iblk m c 1 t := by dsimp only [dats]
/-- After a point, this input's buffer holds the point's block. -/
theorem after0_2 (c : Dev nD) (t : Fin cfg0.N) : (dats m 0 c).after 2 t = iblk m c 2 t := by dsimp only [dats]
/-- After a point, this input's buffer holds the point's block. -/
theorem after0_3 (c : Dev nD) (t : Fin cfg0.N) : (dats m 0 c).after 3 t = iblk m c 3 t := by dsimp only [dats]
/-- After a point, this input's buffer holds the point's block. -/
theorem after0_4 (c : Dev nD) (t : Fin cfg0.N) : (dats m 0 c).after 4 t = iblk m c 4 t := by dsimp only [dats]
/-- After a point, the result's buffer holds what the point leaves. -/
theorem after0_5 (c : Dev nD) (t : Fin cfg0.N) : (dats m 0 c).after 5 t
    = rowsF (outT (iblk m c 2 t) (iblk m c 3 t) (iblk m c 4 t) (iblk m c 0 t) (iblk m c 1 t)) := by dsimp only [dats]
/-- Before a point, this input's buffer holds the point's block. -/
theorem before0_0 (c : Dev nD) (t : Fin cfg0.N) (d) : (dats m 0 c).before 0 t d = iblk m c 0 t :=
  before0_0_of m (dats m 0 c) (A_eq m c 0) (after0_0 m c) t d
/-- Before a point, this input's buffer holds the point's block. -/
theorem before0_1 (c : Dev nD) (t : Fin cfg0.N) (d) : (dats m 0 c).before 1 t d = iblk m c 1 t :=
  before0_1_of m (dats m 0 c) (A_eq m c 1) (after0_1 m c) t d
/-- Before a point, this input's buffer holds the point's block. -/
theorem before0_2 (c : Dev nD) (t : Fin cfg0.N) (d) : (dats m 0 c).before 2 t d = iblk m c 2 t :=
  before0_2_of m (dats m 0 c) (A_eq m c 2) (after0_2 m c) t d
/-- Before a point, this input's buffer holds the point's block. -/
theorem before0_3 (c : Dev nD) (t : Fin cfg0.N) (d) : (dats m 0 c).before 3 t d = iblk m c 3 t :=
  before0_3_of m (dats m 0 c) (A_eq m c 3) (after0_3 m c) t d
/-- Before a point, this input's buffer holds the point's block. -/
theorem before0_4 (c : Dev nD) (t : Fin cfg0.N) (d) : (dats m 0 c).before 4 t d = iblk m c 4 t :=
  before0_4_of m (dats m 0 c) (A_eq m c 4) (after0_4 m c) t d

/-- The scratch buffers of the body at a core. -/
abbrev scr (k : Memref sig .tc .vmem S1x8192x128 .bf16) : Bufs :=
  ⟨k, Memref.whole cc0_scratch0, Memref.whole cc0_scratch1, Memref.whole cc0_scratch2, Memref.whole cc0_scratch3, Memref.isWhole_whole _,
    Memref.whole cc0_scratch4, Memref.whole cc0_scratch5, Memref.whole cc0_scratch6⟩

/-- The scratch buffers, whatever they hold, are a state. -/
theorem own_of_rest (c : Dev nD) (k : Memref sig .tc .vmem S1x8192x128 .bf16) (kx : KBlk F) :
    iprop(bt c k kx ∗ Pipeline.scopedRest (Ix := Unit) (Name := ℕ) (U := UR sig nD τ) (Lvl := ℕ) (Val := Elt F) spec0 c)
      ⊢ iprop(∃ σ, own c (scr k) kx σ) := by
  rw [scopedRest0_eq]
  iintro ⟨Hk, ⟨%f0, H0⟩, ⟨%f1, H1⟩, ⟨%f2, H2⟩, ⟨%f3, H3⟩, ⟨%f4, H4⟩, ⟨%f5, H5⟩, ⟨%f6, H6⟩⟩
  obtain ⟨T0, h0⟩ := exists_flat4 (by decide) (by decide) (f0 : S32x2x128x256.Idx → Elt F .bf16)
  obtain ⟨T1, h1⟩ := exists_flat3 (by decide) (f1 : S32x144x256.Idx → Elt F .bf16)
  obtain ⟨T2, h2⟩ := exists_flat4 (by decide) (by decide) (f2 : S2x2x256x256.Idx → Elt F .f32)
  obtain ⟨T3', h3⟩ := exists_flat4 (by decide) (by decide) (f3 : S2x2x256x256.Idx → Elt F .bf16)
  obtain ⟨T4', h4⟩ := exists_flat4 (by decide) (by decide) (f4 : S2x2x1x256.Idx → Elt F .f32)
  obtain ⟨T5, h5⟩ := exists_flat4 (by decide) (by decide) (f5 : S32x2x1x256.Idx → Elt F .f32)
  obtain ⟨T6, h6⟩ := exists_flat4 (by decide) (by decide) (f6 : S32x2x144x256.Idx → Elt F .f32)
  iexists (⟨T0, T1, T2, T3', T4', T5, T6⟩ : St F)
  unfold own
  have e (b : Ref sig .tc) (f : Buf (Elt F) ((c : Thread nD τ).loc b)) : (((c : Thread nD τ).loc b) ↦{fullShare} f : sProp 𝕄) ⊢ owns (c : Thread nD τ) (Memref.whole b) fullShare f := by
    rw [owns_whole]
  isplitl [Hk]; · iexact Hk
  isplitl [H0]
  · iapply ((e cc0_scratch0 f0).trans (h0 ▸ bt_of_owns c _ _)); iexact H0
  isplitl [H1]
  · iapply ((e cc0_scratch1 f1).trans (h1 ▸ bt_of_owns c _ _)); iexact H1
  isplitl [H2]
  · iapply ((e cc0_scratch2 f2).trans (h2 ▸ bt_of_owns c _ _)); iexact H2
  isplitl [H3]
  · iapply ((e cc0_scratch3 f3).trans (h3 ▸ bt_of_owns c _ _)); iexact H3
  isplitl [H4]
  · iapply ((e cc0_scratch4 f4).trans (h4 ▸ bt_of_owns c _ _)); iexact H4
  isplitl [H5]
  · iapply ((e cc0_scratch5 f5).trans (h5 ▸ bt_of_owns c _ _)); iexact H5
  · iapply ((e cc0_scratch6 f6).trans (h6 ▸ bt_of_owns c _ _)); iexact H6

/-- And back. -/
theorem rest_of_own (c : Dev nD) (k : Memref sig .tc .vmem S1x8192x128 .bf16) (kx : KBlk F) :
    ownX c (scr k) kx (fun _ => True)
      ⊢ iprop(bt c k kx ∗ Pipeline.scopedRest (Ix := Unit) (Name := ℕ) (U := UR sig nD τ) (Lvl := ℕ) (Val := Elt F) spec0 c) := by
  rw [scopedRest0_eq]
  unfold ownX own
  iintro ⟨%σ, -, Hk, H0, H1, H2, H3, H4, H5, H6⟩
  have e (b : Ref sig .tc) (f : Buf (Elt F) ((c : Thread nD τ).loc b)) :
      owns (c : Thread nD τ) (Memref.whole b) fullShare f ⊢ (((c : Thread nD τ).loc b) ↦{fullShare} f : sProp 𝕄) := by
    rw [owns_whole]
  isplitl [Hk]; · iexact Hk
  isplitl [H0]
  · iexists _; iapply ((owns_of_bt c _ _).trans (e cc0_scratch0 _)); iexact H0
  isplitl [H1]
  · iexists _; iapply ((owns_of_bt c _ _).trans (e cc0_scratch1 _)); iexact H1
  isplitl [H2]
  · iexists _; iapply ((owns_of_bt c _ _).trans (e cc0_scratch2 _)); iexact H2
  isplitl [H3]
  · iexists _; iapply ((owns_of_bt c _ _).trans (e cc0_scratch3 _)); iexact H3
  isplitl [H4]
  · iexists _; iapply ((owns_of_bt c _ _).trans (e cc0_scratch4 _)); iexact H4
  isplitl [H5]
  · iexists _; iapply ((owns_of_bt c _ _).trans (e cc0_scratch5 _)); iexact H5
  · iexists _; iapply ((owns_of_bt c _ _).trans (e cc0_scratch6 _)); iexact H6

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ WP c (bodyAt0 t) (fun _ => bodyPost m c t) := by
  unfold bodyPre bodyPost bodyAt0
  rw [body_eq]
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  iintro ⟨⟨Hs, Hr⟩, Ho, ⟨%d0, H0⟩, ⟨%d1, H1⟩, ⟨%d2, H2⟩, ⟨%d3, H3⟩, ⟨%d4, H4⟩, ⟨%d5, H5⟩⟩
  ihave H0 := (bt_of_owns c (st0_0 t) _) $$ H0
  ihave H1 := (bt_of_owns c (st0_1 t) _) $$ H1
  ihave H2 := (bt_of_owns c (st0_2 t) _) $$ H2
  ihave H3 := (bt_of_owns c (st0_3 t) _) $$ H3
  ihave H4 := (bt_of_owns c (st0_4 t) _) $$ H4
  ihave H5 := (bt_of_owns c (st0_5 t) _) $$ H5
  ihave H := (own_of_rest c (st0_3 t) (iblk m c 3 t)) $$ [H3 Hs]
  · isplitl [H3]; · iexact H3
    iexact Hs
  icases H with ⟨%σ, H⟩
  have run := consW c (frameW c (R := iprop((dats m 0 c).owesAt () t.castSucc ∗ ∃ r, prngReg c r))
    (body_tr c (scr (st0_3 t)) (Memref.isWhole_whole _) (Memref.isWhole_whole _) (st0_0 t) (st0_1 t) (st0_2 t) (st0_4 t) (st0_5 t)
      (hstage0_5 ((cfg0.slots t 5).cast nbuf0_5)) (iblk m c 2 t) (iblk m c 3 t) (iblk m c 4 t) ((dats m 0 c).before 5 t d5) (iblk m c 0 t) (iblk m c 1 t) σ))
    (Q' := fun _ => iprop((Pipeline.scopedRest (Ix := Unit) (Name := ℕ) (U := UR sig nD τ) (Lvl := ℕ) (Val := Elt F) spec0 c ∗ ∃ r, prngReg c r)
      ∗ (dats m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare
          (rowsF (outT (iblk m c 2 t) (iblk m c 3 t) (iblk m c 4 t) (iblk m c 0 t) (iblk m c 1 t))))) fun _ => by
      iintro ⟨⟨⟨H, H2, H4⟩, H0, H1, H5⟩, Ho, Hr⟩
      ihave H := (rest_of_own c (st0_3 t) (iblk m c 3 t)) $$ H
      icases H with ⟨H3, Hs⟩
      isplitl [Hs Hr]
      · isplitl [Hs]; · iexact Hs
        iexact Hr
      isplitl [Ho]; · iexact Ho
      isplitl [H0]; · iapply (owns_of_bt c (st0_0 t) _); iexact H0
      isplitl [H1]; · iapply (owns_of_bt c (st0_1 t) _); iexact H1
      isplitl [H2]; · iapply (owns_of_bt c (st0_2 t) _); iexact H2
      isplitl [H3]; · iapply (owns_of_bt c (st0_3 t) _); iexact H3
      isplitl [H4]; · iapply (owns_of_bt c (st0_4 t) _); iexact H4
      iapply (owns_of_bt c (st0_5 t) _); iexact H5
  iapply run
  isplitl [H H0 H1 H2 H4 H5]
  · isplitl [H H2 H4]
    · isplitl [H]; · iexact H
      isplitl [H2]; · iexact H2
      iexact H4
    isplitl [H0]; · iexact H0
    isplitl [H1]; · iexact H1
    iexact H5
  isplitl [Ho]; · iexact Ho
  iexact Hr

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

/-! ## The run -/

set_option backward.isDefEq.respectTransparency.types false in
/-- The launch: the arrays end as the proof data says, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Steps
-- ==== Proof.Read.lean ====
/- The payloads of the kernel's body read at an index, over the extended reals. -/
module

public import proofs.«01_k».proof.Proof.Run
public import Idealize.ShloMosaic.Lib.Pointwise

@[expose] public section

noncomputable section

namespace Cert.Proof.Steps

open Idealize.ShloMosaic Cert.KernelIdeal Cert.KernelIdeal.Facts

/-- The name `mask` is minus infinity. -/
theorem mask_bot : (Named.named κ "mask" 0xF149F2CA#32 : Ideal .f32) = ⊥ := rfl

/-- The pattern of minus infinity. -/
theorem ofBits_neg_inf : Ideal.ofBits .f32 0xFF800000#32 = ⊥ := by
  simp [Ideal.ofBits, Ideal.ieee]

/-- A word below `2 ^ 31` read as a signed number. -/
theorem ofNat_toInt {n : ℕ} (h : n < 2 ^ 31) : (BitVec.ofNat 32 n).toInt = n := by
  rw [BitVec.toInt_eq_toNat_cond, BitVec.toNat_ofNat, Nat.mod_eq_of_lt (by omega), if_pos (by omega)]

/-- A choice by comparing two small numbers. -/
theorem select_sle {α : Type} {n m : ℕ} (hn : n < 2 ^ 31) (hm : m < 2 ^ 31) (A B : α) :
    Scalar.select (IntOp.cmpi .sle (BitVec.ofNat 32 n) (BitVec.ofNat 32 m)) A B = if n ≤ m then A else B := by
  have h : (BitVec.ofNat 32 n).sle (BitVec.ofNat 32 m) = decide (n ≤ m) := by
    rw [BitVec.sle_eq_decide, ofNat_toInt hn, ofNat_toInt hm]; simp
  show (if BitVec.ofBool ((BitVec.ofNat 32 n).sle (BitVec.ofNat 32 m)) = 1#1 then A else B) = _
  rw [h]; by_cases hh : n ≤ m <;> simp [hh]

/-- A choice by a strict comparison of two small numbers. -/
theorem select_slt {α : Type} {n m : ℕ} (hn : n < 2 ^ 31) (hm : m < 2 ^ 31) (A B : α) :
    Scalar.select (IntOp.cmpi .slt (BitVec.ofNat 32 n) (BitVec.ofNat 32 m)) A B = if n < m then A else B := by
  have h : (BitVec.ofNat 32 n).slt (BitVec.ofNat 32 m) = decide (n < m) := by
    rw [BitVec.slt_eq_decide, ofNat_toInt hn, ofNat_toInt hm]; simp
  show (if BitVec.ofBool ((BitVec.ofNat 32 n).slt (BitVec.ofNat 32 m)) = 1#1 then A else B) = _
  rw [h]; by_cases hh : n < m <;> simp [hh]

/-- A score: a key's row times a query's column. -/
theorem payS_apply (k : Vec Ideal S1x256x128 .bf16) (q : Vec Ideal S1x1x128x256 .bf16) (r c : Fin 256) :
    payS k q (ix4 0 0 r c) = ∑ d : Fin 128, k (ix3 0 r d) * q (ix4 0 0 d c) := by
  pointwise [payS]

/-- A sum after a tile. -/
theorem payAcc_apply (vt : Vec Ideal S1x144x256 .bf16) (p : Vec Ideal S1x1x256x256 .bf16) (a : Vec Ideal S1x1x1x256 .f32)
    (acc : Vec Ideal S1x1x144x256 .f32) (r : Fin 144) (c : Fin 256) :
    payAcc vt p a acc (ix4 0 0 r c)
      = a (ix4 0 0 0 c) * acc (ix4 0 0 r c) + ∑ k : Fin 256, vt (ix3 0 r k) * p (ix4 0 0 k c) := by
  pointwise [payAcc]

/-- Below the diagonal every score counts. -/
theorem scoreOf_false (s : Vec Ideal S1x1x256x256 .f32) (r c : Fin 256) : scoreOf false s (ix2 r c) = s (ix4 0 0 r c) := by
  pointwise [scoreOf]

/-- On the diagonal the keys up to the query count. -/
theorem scoreOf_true (s : Vec Ideal S1x1x256x256 .f32) (r c : Fin 256) :
    scoreOf true s (ix2 r c) = if r.val ≤ c.val then s (ix4 0 0 r c) else ⊥ := by
  pointwise [scoreOf, mask_bot]
  exact select_sle (by omega) (by omega) _ _

/-- A maximum after a tile. -/
theorem payM_apply (st : FVec Ideal S256x256 .f32) (m : Vec Ideal S1x1x1x256 .f32) (c : Fin 256) :
    payM st m (ix4 0 0 0 c) = max (m (ix4 0 0 0 c)) ((Finset.univ : Finset (Fin 256)).fold max ⊥ fun k => st (ix2 k c)) := by
  pointwise [payM, maxOf]
  rw [ofBits_neg_inf]

/-- The factor of the old sums. -/
theorem payA_apply (st : FVec Ideal S256x256 .f32) (m : Vec Ideal S1x1x1x256 .f32) (c : Fin 256) :
    payA st m (ix4 0 0 0 c) = Ideal.exp2 (m (ix4 0 0 0 c) - payM st m (ix4 0 0 0 c)) := by
  pointwise [payA, payM]
  rfl

/-- An exponential. -/
theorem payP_apply (st : FVec Ideal S256x256 .f32) (m : Vec Ideal S1x1x1x256 .f32) (r c : Fin 256) :
    payP st m (ix4 0 0 r c) = Ideal.exp2 (st (ix2 r c) - payM st m (ix4 0 0 0 c)) := by
  pointwise [payP, payM]
  rfl

/-- A query of the first map. -/
theorem payQ0_apply (q : Vec Ideal S1x256x128 .bf16) (d : Fin 128) (c : Fin 256) :
    payQ0 q (ix4 0 0 d c) = if d.val < 64 then q (ix3 0 c d) * (((8 * Real.log 2)⁻¹ : ℝ) : EReal) else 0 := by
  pointwise [payQ0, payQ, loHalf]
  exact select_slt (by omega) (by decide) _ _

/-- A query of the second map. -/
theorem payQ1_apply (q : Vec Ideal S1x256x128 .bf16) (d : Fin 128) (c : Fin 256) :
    payQ1 q (ix4 0 0 d c) = if d.val < 64 then 0 else q (ix3 0 c d) * (((8 * Real.log 2)⁻¹ : ℝ) : EReal) := by
  pointwise [payQ1, payQ, loHalf]
  exact select_slt (by omega) (by decide) _ _

/-- A transposed value. -/
theorem payV_apply (v : Vec Ideal S1x256x128 .bf16) (d : Fin 128) (k : Fin 256) : payV v (ix3 0 d k) = v (ix3 0 k d) := by
  pointwise [payV]

/-- The weight of the second map. -/
theorem payLam_apply (l : Vec Ideal S4x64 .f32) :
    payLam l (ix2 0 0) = Ideal.exp (∑ k : Fin 64, l (ix2 0 k) * l (ix2 1 k)) - Ideal.exp (∑ k : Fin 64, l (ix2 2 k) * l (ix2 3 k))
      + Ideal.ofBits .f32 0x3EB60549#32 := by
  pointwise [payLam, payE]

/-- The difference of the two quotients. -/
theorem payD_apply (lam : FVec Ideal S1x1 .f32) (l1 l2 : Vec Ideal S1x1x1x256 .f32) (o1 o2 : Vec Ideal S1x1x128x256 .f32)
    (d : Fin 128) (c : Fin 256) :
    payD lam l1 l2 o1 o2 (ix2 d c) = o1 (ix4 0 0 d c) * Ideal.div 1 (l1 (ix4 0 0 0 c))
      - o2 (ix4 0 0 d c) * Ideal.div (lam (ix2 0 0)) (l2 (ix4 0 0 0 c)) := by
  pointwise [payD]

/-- An entry of the result. -/
theorem payO_apply (D : FVec Ideal S128x256 .f32) (g : Vec Ideal S128x256 .f32) (c : Fin 256) (d : Fin 128) :
    payO D g (ix3 0 c d) = D (ix2 d c) * Ideal.rsqrt (Ideal.div (∑ e : Fin 128, D (ix2 e c) * D (ix2 e c)) (Ideal.ofBits .f32 0x43000000#32)
      + Ideal.ofBits .f32 0x358637BD#32) * g (ix2 d c) * Ideal.ofBits .f32 0x3F24FD5C#32 := by
  pointwise [payO]

end Cert.Proof.Steps
-- ==== Proof.Online.lean ====
/- The online softmax over the extended reals: a running maximum and running sums stand for plain sums of powers of
   two, whatever real number the maximum is. -/
module

public import Idealize.ShloMosaic.PureOps.Ideal
public import Mathlib.Analysis.SpecialFunctions.Pow.Real

@[expose] public section

noncomputable section

namespace Cert.Proof.Steps

open Idealize.ShloMosaic

/-- A sum of real numbers is the same sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of numbers that are real or minus infinity, one of them real, is real. -/
theorem fold_real {ι : Type*} (s : Finset ι) (f : ι → EReal) (h : ∀ k ∈ s, f k ≠ ⊤) (hex : ∃ k ∈ s, f k ≠ ⊥) :
    ∃ M : ℝ, s.fold max ⊥ f = M := by
  have hs : s.fold max ⊥ f = s.sup f := rfl
  rw [hs]
  have ht : s.sup f ≠ ⊤ := ((Finset.sup_lt_iff bot_lt_top).2 fun k hk => lt_top_iff_ne_top.2 (h k hk)).ne
  obtain ⟨k, hk, hb⟩ := hex
  have hbot : s.sup f ≠ ⊥ := ((bot_lt_iff_ne_bot.2 hb).trans_le (Finset.le_sup hk)).ne'
  exact ⟨(s.sup f).toReal, (EReal.coe_toReal ht hbot).symm⟩

/-- A power of two of a difference. -/
theorem exp2_sub (a b : ℝ) : Ideal.exp2 ((a : EReal) - (b : EReal)) = (((2 : ℝ) ^ (a - b) : ℝ) : EReal) := rfl

/-- A column's running maximum `m` and sums `A` stand for the sums `E`: nothing yet, or `A = 2 ^ (-m) E`. -/
def OkCol {D : Type} (m : EReal) (A : D → EReal) (E : D → ℝ) : Prop :=
  (m = ⊥ ∧ ∀ d, A d = 0 ∧ E d = 0) ∨ ∃ M : ℝ, m = M ∧ ∀ d, A d = (((2 : ℝ) ^ (-M) * E d : ℝ) : EReal)

/-- One tile of scores: the sums stood for grow by the powers of two of the tile's scores times its values. -/
theorem OkCol.step {D K : Type} [Fintype K] {m : EReal} {A : D → EReal} {E : D → ℝ} (h : OkCol m A E) (st : K → EReal) (tt : K → ℝ)
    (al : K → Prop) [DecidablePred al] (hst : ∀ k, st k = if al k then (tt k : EReal) else ⊥) (hex : ∃ k, al k) (V : D → K → ℝ) (m' : EReal)
    (hm' : m' = max m ((Finset.univ : Finset K).fold max ⊥ st)) :
    OkCol m' (fun d => Ideal.exp2 (m - m') * A d + ∑ k, (V d k : EReal) * Ideal.exp2 (st k - m'))
      (fun d => E d + ∑ k, if al k then (2 : ℝ) ^ (tt k) * V d k else 0) := by
  obtain ⟨N, hN⟩ := fold_real Finset.univ st (fun k _ => by rw [hst k]; split <;> simp)
    (by obtain ⟨k, hk⟩ := hex; exact ⟨k, Finset.mem_univ _, by rw [hst k, if_pos hk]; simp⟩)
  have hreal : ∃ M' : ℝ, m' = M' := by
    rw [hm', hN]
    rcases h with ⟨h, _⟩ | ⟨M, h, _⟩
    · exact ⟨N, by rw [h]; simp⟩
    · exact ⟨max M N, by rw [h]; exact (EReal.coe_strictMono.monotone.map_max).symm⟩
  obtain ⟨M', hM'⟩ := hreal
  refine .inr ⟨M', hM', fun d => ?_⟩
  rw [hM']
  have hsum : ∑ k, (V d k : EReal) * Ideal.exp2 (st k - M')
      = ((∑ k, V d k * (if al k then (2 : ℝ) ^ (tt k - M') else 0) : ℝ) : EReal) := by
    rw [coe_sum]
    refine Finset.sum_congr rfl fun k _ => ?_
    rw [hst k, EReal.coe_mul]
    split
    · rw [exp2_sub]
    · rw [EReal.bot_sub, Ideal.exp2_bot]; simp
  have hs2 : ∑ k, V d k * (if al k then (2 : ℝ) ^ (tt k - M') else 0)
      = (2 : ℝ) ^ (-M') * ∑ k, if al k then (2 : ℝ) ^ (tt k) * V d k else 0 := by
    rw [Finset.mul_sum]
    refine Finset.sum_congr rfl fun k _ => ?_
    split
    · rw [sub_eq_add_neg, Real.rpow_add (by norm_num)]; ring
    · simp
  beta_reduce
  rw [hsum, hs2]
  rcases h with ⟨hm, hA⟩ | ⟨M, hm, hA⟩
  · rw [(hA d).1, (hA d).2, mul_zero, zero_add, zero_add]
  · rw [hm, hA d, exp2_sub, ← EReal.coe_mul, ← EReal.coe_add, mul_add, ← mul_assoc, ← Real.rpow_add (by norm_num)]
    rw [show M - M' + -M = -M' by ring]

/-- The tiles before row tile `i` and the diagonal tile up to column `q` are the numbers up to `256 i + q`. -/
theorem sum_tiles (f : ℕ → ℝ) (i : ℕ) (q : Fin 256) :
    (∑ j ∈ Finset.range i, ∑ k : Fin 256, f (256 * j + k)) + (∑ k : Fin 256, if k.val ≤ q.val then f (256 * i + k) else 0)
      = ∑ n ∈ Finset.range (256 * i + q.val + 1), f n := by
  have h1 : ∀ i, ∑ j ∈ Finset.range i, ∑ k : Fin 256, f (256 * j + k) = ∑ n ∈ Finset.range (256 * i), f n := by
    intro i
    induction i with
    | zero => simp
    | succ i ih => rw [Finset.sum_range_succ, ih, Nat.mul_succ, Finset.sum_range_add, Finset.sum_range (fun x => f (256 * i + x))]
  rw [h1, Nat.add_assoc, Finset.sum_range_add]
  congr 1
  rw [← Finset.sum_range (fun k => if k ≤ q.val then f (256 * i + k) else 0), ← Finset.sum_filter]
  refine Finset.sum_congr ?_ fun _ _ => rfl
  ext x; have := q.isLt; simp only [Finset.mem_filter, Finset.mem_range]; omega

/-- A masked sum over all keys is the sum over the keys up to the query. -/
theorem sum_masked (f : ℕ → ℝ) (N r : ℕ) (hr : r < N) :
    (∑ n : Fin N, if n.val ≤ r then f n else 0) = ∑ n ∈ Finset.range (r + 1), f n := by
  rw [← Finset.sum_range (fun k => if k ≤ r then f k else 0), ← Finset.sum_filter]
  refine Finset.sum_congr ?_ fun _ _ => rfl
  ext x; simp only [Finset.mem_filter, Finset.mem_range]; omega

end Cert.Proof.Steps
-- ==== Proof.Fold.lean ====
/- What the pairs of tiles leave over the extended reals: for each query, the sums over the keys up to it. -/
module

public import proofs.«01_k».proof.Proof.Read
public import proofs.«01_k».proof.Proof.Online

@[expose] public section

noncomputable section

namespace Cert.Proof.Steps

open Idealize.ShloMosaic Cert.KernelIdeal Cert.KernelIdeal.Facts

/-- The operands are real: scores `t mp r n` of query `r` and key `n`, values `v n d`. -/
structure RealOps (O : Ops Ideal) (t : ℕ → ℕ → ℕ → ℝ) (v : ℕ → Fin 144 → ℝ) : Prop where
  hs : ∀ (i j mp : ℕ) (k q : Fin 256), mp < 2 → payS (F := Ideal) (rowsT O.kx j) (O.qt i mp) (ix4 0 0 k q) = ((t mp (256 * i + q) (256 * j + k) : ℝ) : EReal)
  hv : ∀ (j : ℕ) (d : Fin 144) (k : Fin 256), O.vt j (ix3 0 d k) = ((v (256 * j + k) d : ℝ) : EReal)

/-- Maxima and sums stand for `E`. -/
def Good (V : MA Ideal) (E : ℕ → ℕ → Fin 256 → Fin 144 → ℝ) : Prop :=
  ∀ (i mp : ℕ) (q : Fin 256), mp < 2 → OkCol (V.m i mp (ix4 0 0 0 q)) (fun d => V.acc i mp (ix4 0 0 d q)) (E i mp q)

/-- Does key `k` of a tile count for query `q`? -/
def counts (diag : Bool) (k q : Fin 256) : Prop := diag = true → k.val ≤ q.val

instance (diag : Bool) (q : Fin 256) : DecidablePred fun k => counts diag k q := fun _ => by unfold counts; infer_instance

variable {t : ℕ → ℕ → ℕ → ℝ} {v : ℕ → Fin 144 → ℝ}

/-- What a tile adds. -/
def con (t : ℕ → ℕ → ℕ → ℝ) (v : ℕ → Fin 144 → ℝ) (diag : Bool) (i j mp : ℕ) (q : Fin 256) (d : Fin 144) : ℝ :=
  ∑ k : Fin 256, if counts diag k q then (2 : ℝ) ^ (t mp (256 * i + q) (256 * j + k)) * v (256 * j + k) d else 0

/-- One map of one tile. -/
theorem seq_ok {O : Ops Ideal} (hO : RealOps O t v) (diag : Bool) (i j mp : ℕ) (hm : mp < 2) (q : Fin 256) {M : T4 (Ideal .f32) 1 256} {A : T4 (Ideal .f32) 144 256}
    {E : Fin 144 → ℝ} (h : OkCol (M (ix4 0 0 0 q)) (fun d => A (ix4 0 0 d q)) E) :
    OkCol (seqM O diag i j mp M (ix4 0 0 0 q)) (fun d => seqA O diag i j mp M A (ix4 0 0 d q)) (fun d => E d + con t v diag i j mp q d) := by
  have hsc : ∀ k, scT O diag i j mp (ix2 k q) = if counts diag k q then ((t mp (256 * i + q) (256 * j + k) : ℝ) : EReal) else ⊥ := by
    intro k
    unfold scT counts
    cases diag with
    | false => rw [scoreOf_false, hO.hs _ _ _ _ _ hm]; simp
    | true => rw [scoreOf_true, hO.hs _ _ _ _ _ hm]; simp
  have := h.step (fun k => scT O diag i j mp (ix2 k q)) (fun k => t mp (256 * i + q) (256 * j + k)) (fun k => counts diag k q) hsc
    ⟨q, fun _ => le_rfl⟩ (fun d k => v (256 * j + k) d) (seqM O diag i j mp M (ix4 0 0 0 q)) (payM_apply _ _ _)
  have e : (fun d => seqA O diag i j mp M A (ix4 0 0 d q))
      = fun d => Ideal.exp2 (M (ix4 0 0 0 q) - seqM O diag i j mp M (ix4 0 0 0 q)) * A (ix4 0 0 d q)
        + ∑ k : Fin 256, ((v (256 * j + k) d : ℝ) : EReal) * Ideal.exp2 (scT O diag i j mp (ix2 k q) - seqM O diag i j mp M (ix4 0 0 0 q)) := by
    funext d
    unfold seqA
    rw [payAcc_apply, payA_apply]
    refine congrArg₂ (· + ·) rfl (Finset.sum_congr rfl fun k _ => ?_)
    rw [hO.hv, payP_apply]; rfl
  rw [e]
  exact this

/-- A pair of tiles. -/
theorem Good.step {O : Ops Ideal} (hO : RealOps O t v) (diag : Bool) (i j : ℕ) {V : MA Ideal} {E : ℕ → ℕ → Fin 256 → Fin 144 → ℝ} (h : Good V E) :
    Good (seqF O diag i j V) (fun i' mp q d => if i' = i then E i' mp q d + con t v diag i j mp q d else E i' mp q d) := by
  intro i' mp q hm
  by_cases hi : i' = i
  · subst hi
    have := seq_ok hO diag i' j mp hm q (h i' mp q hm)
    simp only [if_true]
    interval_cases mp
    · simpa only [seqF, upd2_zero] using this
    · simpa only [seqF, upd, and_self, if_true] using this
  · have := h i' mp q hm
    simp only [if_neg hi]
    simpa only [seqF, upd, hi, false_and, if_false] using this

/-- Accumulating nothing changes nothing. -/
theorem Good.bump {O : Ops Ideal} (hO : RealOps O t v) (i j : ℕ) {V : MA Ideal} {E : ℕ → ℕ → Fin 256 → Fin 144 → ℝ} (h : Good V E) :
    Good (bump O i j V) E := by
  have key : ∀ (mp : ℕ) (q : Fin 256) (d : Fin 144),
      payAcc (O.vt j) (fun _ => FloatOps.ofBits (F := Ideal) .bf16 0x0000#16) (fun _ => FloatOps.ofBits (F := Ideal) .f32 0x3F800000#32) (V.acc i mp) (ix4 0 0 d q)
        = V.acc i mp (ix4 0 0 d q) := by
    intro mp q d
    rw [payAcc_apply, Ideal.ofBits_def, Ideal.ofBits_def, Ideal.ofBits_one_f32, Ideal.ofBits_zero_bf16, one_mul]
    simp
  intro i' mp q hm
  have e : (fun d : Fin 144 => (Steps.bump O i j V).acc i' mp (ix4 0 0 d q)) = fun d => V.acc i' mp (ix4 0 0 d q) := by
    funext d
    unfold Steps.bump upd
    dsimp only
    split
    · rename_i hh; obtain ⟨rfl, rfl⟩ := hh; exact key _ _ _
    · split
      · rename_i hh; obtain ⟨rfl, rfl⟩ := hh; exact key _ _ _
      · rfl
  rw [e]
  exact h i' mp q hm

/-- The sums of `c i` whole tiles and, where `g i`, the diagonal tile. -/
def sumsOf (t : ℕ → ℕ → ℕ → ℝ) (v : ℕ → Fin 144 → ℝ) (c : ℕ → ℕ) (g : ℕ → Bool) (i mp : ℕ) (q : Fin 256) (d : Fin 144) : ℝ :=
  (∑ j ∈ Finset.range (c i), con t v false i j mp q d) + if g i then con t v true i i mp q d else 0

/-- A whole tile, the next of its row. -/
theorem Good.row {O : Ops Ideal} (hO : RealOps O t v) {i j : ℕ} {V : MA Ideal} {c c' : ℕ → ℕ} {g : ℕ → Bool} (h : Good V (sumsOf t v c g))
    (hc : c i = j) (hc' : ∀ i', c' i' = if i' = i then j + 1 else c i') : Good (seqF O false i j V) (sumsOf t v c' g) := by
  convert h.step hO false i j using 1
  funext i' mp q d
  unfold sumsOf
  rw [hc' i']
  by_cases hi : i' = i
  · subst hi
    rw [if_pos rfl, if_pos rfl, Finset.sum_range_succ, hc]; ring
  · rw [if_neg hi, if_neg hi]

/-- A diagonal tile. -/
theorem Good.diag {O : Ops Ideal} (hO : RealOps O t v) {i : ℕ} {V : MA Ideal} {c : ℕ → ℕ} {g g' : ℕ → Bool} (h : Good V (sumsOf t v c g))
    (hg : g i = false) (hg' : ∀ i', g' i' = if i' = i then true else g i') : Good (seqF O true i i V) (sumsOf t v c g') := by
  convert h.step hO true i i using 1
  funext i' mp q d
  unfold sumsOf
  rw [hg' i']
  by_cases hi : i' = i
  · subst hi
    rw [if_pos rfl, if_pos rfl, hg]; simp
  · rw [if_neg hi, if_neg hi]

/-- Before any pair. -/
theorem Good.init : Good maInit (sumsOf t v (fun _ => 0) fun _ => false) := by
  intro i mp q _
  refine .inl ⟨rfl, fun d => ⟨?_, by simp [sumsOf]⟩⟩
  show Ideal.ofBits .f32 0x00000000#32 = 0
  exact Ideal.ofBits_zero_f32

/-! ## The order of the pairs -/

/-- The pair after a pair, in numbers. -/
theorem next_nums (c : Pair) (h : c.nj < c.ni) (h' : c.ni < 31 ∨ c.nj + 1 < c.ni) :
    c.next.ni = (if c.nj + 1 = c.ni then c.ni + 1 else c.ni) ∧ c.next.nj = if c.nj + 1 = c.ni then 0 else c.nj + 1 := by
  have key : ∀ a b : Fin 32, b.val < a.val → (a.val < 31 ∨ b.val + 1 < a.val) →
      (nxtI (BitVec.ofNat 32 a.val) (BitVec.ofNat 32 b.val)).toNat = (if b.val + 1 = a.val then a.val + 1 else a.val)
      ∧ (nxtJ (BitVec.ofNat 32 a.val) (BitVec.ofNat 32 b.val)).toNat = if b.val + 1 = a.val then 0 else b.val + 1 := by
    decide +kernel
  have := key ⟨c.ni, c.hi⟩ ⟨c.nj, c.hj⟩ h h'
  simpa only [Pair.ni, Pair.nj, BitVec.ofNat_toNat, BitVec.setWidth_eq, Pair.next] using this

/-- How many tiles of each row come before pair `(i, j)`. -/
def before (i j i' : ℕ) : ℕ := if i' < i then i' else if i' = i then j else 0

/-- After `k` pairs along the rows. -/
theorem rows_good {O : Ops Ideal} (hO : RealOps O t v) {V : MA Ideal} (hV : Good V (sumsOf t v (before 1 0) fun _ => false)) :
    ∀ k, k ≤ 495 → (pairs k pair10 pair10).1.nj < (pairs k pair10 pair10).1.ni
      ∧ (pairs k pair10 pair10).1.ni * ((pairs k pair10 pair10).1.ni - 1) + 2 * (pairs k pair10 pair10).1.nj = 2 * k
      ∧ Good (seqN O k pair10 V) (sumsOf t v (before (pairs k pair10 pair10).1.ni (pairs k pair10 pair10).1.nj) fun _ => false) := by
  intro k
  induction k with
  | zero => exact fun _ => ⟨by decide, by decide, hV⟩
  | succ k ih =>
    intro hk
    obtain ⟨h1, h2, h3⟩ := ih (by omega)
    have e1 : (pairs (k + 1) pair10 pair10).1 = (pairs k pair10 pair10).1.next := by rw [pairs_add]; rfl
    have e2 : seqN O (k + 1) pair10 V = seqF O false (pairs k pair10 pair10).1.ni (pairs k pair10 pair10).1.nj (seqN O k pair10 V) := by
      rw [seqN_add O k 1 pair10 pair10]; rfl
    rw [e1, e2]
    generalize (pairs k pair10 pair10).1 = c at h1 h2 h3
    have hlt : c.ni < 32 := c.hi
    have hcase : c.ni < 31 ∨ c.nj + 1 < c.ni := by
      by_contra hc
      have hi : c.ni = 31 := by omega
      have hj : c.nj = 30 := by omega
      rw [hi, hj] at h2; omega
    obtain ⟨n1, n2⟩ := next_nums c h1 hcase
    rw [n1, n2]
    refine ⟨by split <;> omega, ?_, h3.row hO (by simp [before]) fun i' => ?_⟩
    · split
      · rename_i hj
        obtain ⟨a, ha⟩ : ∃ a, c.ni = a + 1 := ⟨c.nj, hj.symm⟩
        rw [ha] at h2 hj ⊢
        have : c.nj = a := by omega
        rw [this] at h2
        simp only [Nat.add_sub_cancel] at h2 ⊢
        ring_nf at h2 ⊢
        omega
      · omega
    · unfold before
      split <;> split_ifs <;> omega

end Cert.Proof.Steps
-- ==== Proof.Total.lean ====
/- A tile of the kernel's result over the extended reals: the normed difference of two softmax averages. -/
module

public import proofs.«01_k».proof.Proof.Fold

@[expose] public section

noncomputable section

namespace Cert.Proof.Steps

open Idealize.ShloMosaic Cert.KernelIdeal Cert.KernelIdeal.Facts

variable {t : ℕ → ℕ → ℕ → ℝ} {v : ℕ → Fin 144 → ℝ}

/-- After the run along the rows every row tile has its tiles below the diagonal. -/
theorem maRows_good {O : Ops Ideal} (hO : RealOps O t v) : Good (maRows O) (sumsOf t v (before 31 31) fun _ => false) := by
  have h0 : Good (Steps.bump O 1 0 maInit) (sumsOf t v (before 1 0) fun _ => false) := by
    have e : before 1 0 = fun _ => 0 := by funext i; unfold before; split_ifs <;> omega
    rw [e]
    exact Good.init.bump hO 1 0
  obtain ⟨h1, h2, h3⟩ := rows_good hO h0 495 le_rfl
  have e2 : maRows O = seqF O false (pairs 495 pair10 pair10).1.ni (pairs 495 pair10 pair10).1.nj (seqN O 495 pair10 (Steps.bump O 1 0 maInit)) := by
    unfold maRows
    rw [show 496 = 495 + 1 from rfl, seqN_add O 495 1 pair10 pair10]; rfl
  rw [e2]
  generalize (pairs 495 pair10 pair10).1 = c at h1 h2 h3
  have hlt : c.ni < 32 := c.hi
  have hi : c.ni = 31 ∧ c.nj = 30 := by
    generalize c.ni = a at *
    generalize c.nj = b at *
    interval_cases a <;> omega
  rw [hi.1, hi.2] at h3
  rw [hi.1, hi.2]
  exact h3.row hO (by decide) fun i' => by unfold before; split_ifs <;> omega

/-- The run along the diagonal. -/
theorem diag_good {O : Ops Ideal} (hO : RealOps O t v) (c : ℕ → ℕ) : ∀ (n s : ℕ) (V : MA Ideal), s + n ≤ 32 →
    Good V (sumsOf t v c fun i => decide (i < s)) → Good (seqD O n s V) (sumsOf t v c fun i => decide (i < s + n)) := by
  intro n
  induction n with
  | zero => exact fun s V _ h => h
  | succ n ih =>
    intro s V hs h
    have e : (diagPair s).ni = s := by
      show (BitVec.ofNat 32 (min s 31)).toNat = s
      rw [BitVec.toNat_ofNat]; omega
    have e' : (diagPair s).nj = s := e
    show Good (seqD O n (s + 1) (seqF O true (diagPair s).ni (diagPair s).nj V)) _
    rw [e, e', show s + (n + 1) = s + 1 + n by omega]
    refine ih (s + 1) _ (by omega) (h.diag hO (by simp) fun i' => ?_)
    split
    · rename_i hh; subst hh; simp
    · exact decide_eq_decide.2 (by omega)

/-- What all the pairs leave: each query's sums over the keys up to it. -/
theorem maAll_ok {O : Ops Ideal} (hO : RealOps O t v) (i mp : ℕ) (hi : i < 32) (hm : mp < 2) (q : Fin 256) :
    OkCol ((maAll O).m i mp (ix4 0 0 0 q)) (fun d => (maAll O).acc i mp (ix4 0 0 d q))
      (fun d => ∑ n ∈ Finset.range (256 * i + q + 1), (2 : ℝ) ^ (t mp (256 * i + q) n) * v n d) := by
  have h := diag_good hO (before 31 31) 32 0 _ (by decide)
    (by simpa using (maRows_good hO).bump hO 0 0) i mp q hm
  refine cast (congrArg _ ?_) h
  funext d
  unfold sumsOf
  symm
  rw [← sum_tiles (fun n => (2 : ℝ) ^ (t mp (256 * i + q) n) * v n d) i q]
  have hb : before 31 31 i = i := by unfold before; split_ifs <;> omega
  rw [hb]
  refine congrArg₂ (· + ·) (Finset.sum_congr rfl fun j _ => Finset.sum_congr rfl fun k _ => ?_) ?_
  · simp [counts]
  · rw [if_pos (by simpa using hi)]
    exact Finset.sum_congr rfl fun k _ => by simp [counts]

/-! ## The operands -/

/-- The two ways to write an index of three axes. -/
theorem mk3_ix3 {a b c : ℕ} (i : Fin a) (j : Fin b) (k : Fin c) : mk3 i j k = ix3 i j k := by
  funext x; match x with | ⟨0, _⟩ => rfl | ⟨1, _⟩ => rfl | ⟨2, _⟩ => rfl

/-- The two ways to write an index of four axes. -/
theorem mk4_ix4 {a b c d : ℕ} (i : Fin a) (j : Fin b) (k : Fin c) (l : Fin d) : mk4 i j k l = ix4 i j k l := by
  funext x; match x with | ⟨0, _⟩ => rfl | ⟨1, _⟩ => rfl | ⟨2, _⟩ => rfl | ⟨3, _⟩ => rfl

/-- A tile of rows at an index. -/
theorem rowsT_apply {α : Type} (X : ((x : Fin 3) → Fin ((![1, 8192, 128] : Fin 3 → ℕ) x)) → α) (j : ℕ) (r : Fin 256) (d : Fin 128) :
    rowsT X j (ix3 0 r d) = X (ix3 0 ⟨(256 * j + r.val) % 8192, Nat.mod_lt _ (by decide)⟩ d) :=
  congrArg X (mk3_ix3 _ _ _)

/-- Is feature `d` one of map `mp`'s? -/
def half (mp : ℕ) (d : Fin 128) : Prop := if mp = 0 then d.val < 64 else ¬ d.val < 64

instance (mp : ℕ) : DecidablePred (half mp) := fun _ => by unfold half; infer_instance

/-- The score of a query and a key, in powers of two. -/
def scoreR (qr kr : ℕ → Fin 128 → ℝ) (mp r n : ℕ) : ℝ :=
  ∑ d : Fin 128, kr n d * if half mp d then qr r d * (8 * Real.log 2)⁻¹ else 0

/-- The values of a key, over ones. -/
def valR (vr : ℕ → Fin 128 → ℝ) (n : ℕ) (d : Fin 144) : ℝ := if h : d.val < 128 then vr n ⟨d.val, h⟩ else 1

/-- A block of queries, keys or values is real: its rows are `xr`. -/
def RealBlk (x : KBlk Ideal) (xr : ℕ → Fin 128 → ℝ) : Prop :=
  ∀ (n : Fin 8192) (d : Fin 128), x (ix3 0 n d) = ((xr n.val d : ℝ) : EReal)

/-- Real blocks make real operands. -/
theorem opsOf_real {qx kx vx : KBlk Ideal} {qr kr vr : ℕ → Fin 128 → ℝ} (hq : RealBlk qx qr) (hk : RealBlk kx kr) (hv : RealBlk vx vr) :
    RealOps (opsOf qx kx vx) (fun mp r n => scoreR qr kr mp (r % 8192) (n % 8192)) (fun n d => valR vr (n % 8192) d) where
  hs i j mp k q hm := by
    rw [payS_apply]
    unfold scoreR
    rw [coe_sum]
    refine Finset.sum_congr rfl fun d _ => ?_
    rw [EReal.coe_mul]
    refine congrArg₂ (· * ·) ((rowsT_apply kx j k d).trans (hk _ _)) ?_
    have hqq : rowsT qx i (ix3 0 q d) = _ := (rowsT_apply qx i q d).trans (hq _ _)
    unfold half
    interval_cases mp
    · refine (payQ0_apply (rowsT (α := Ideal .bf16) qx i) d q).trans ?_
      rw [hqq]
      simp only [if_true]
      split
      · rw [← EReal.coe_mul]
      · rfl
    · refine (payQ1_apply (rowsT (α := Ideal .bf16) qx i) d q).trans ?_
      rw [hqq]
      simp only [one_ne_zero, if_false]
      split
      · rfl
      · rw [← EReal.coe_mul]
  hv j d k := by
    show stackT (payV (rowsT vx j)) (FloatOps.ofBits (F := Ideal) .bf16 0x3F80#16) (ix3 0 d k) = _
    unfold stackT valR
    by_cases h : d.val < 128
    · rw [dif_pos (show ((ix3 0 d k : (⟨3, ![1, 144, 256]⟩ : Shape).Idx) 1).val < 128 from h), dif_pos h]
      have e : payV (F := Ideal) (rowsT (α := Ideal .bf16) vx j) (ix3 0 ⟨d.val, h⟩ k) = ((vr ((256 * j + k.val) % 8192) ⟨d.val, h⟩ : ℝ) : EReal) :=
        (payV_apply (rowsT (α := Ideal .bf16) vx j) ⟨d.val, h⟩ k).trans ((rowsT_apply vx j k _).trans (hv _ _))
      rw [← e]
      exact congrArg (payV (F := Ideal) (rowsT (α := Ideal .bf16) vx j)) (mk3_ix3 _ _ _)
    · rw [dif_neg (show ¬((ix3 0 d k : (⟨3, ![1, 144, 256]⟩ : Shape).Idx) 1).val < 128 from h), dif_neg h, Ideal.ofBits_def]
      exact Ideal.ofBits_one_bf16

/-! ## The result -/

/-- The sum of the exponentials of query `r`'s scores. -/
def den (qr kr : ℕ → Fin 128 → ℝ) (mp r : ℕ) : ℝ := ∑ n ∈ Finset.range (r + 1), (2 : ℝ) ^ scoreR qr kr mp r n

/-- The sum of the values times those exponentials. -/
def num (qr kr vr : ℕ → Fin 128 → ℝ) (mp r : ℕ) (d : Fin 128) : ℝ :=
  ∑ n ∈ Finset.range (r + 1), (2 : ℝ) ^ scoreR qr kr mp r n * vr n d

/-- The softmax's denominator is positive. -/
theorem den_pos (qr kr : ℕ → Fin 128 → ℝ) (mp r : ℕ) : 0 < den qr kr mp r :=
  Finset.sum_pos (fun _ _ => Real.rpow_pos_of_pos (by norm_num) _) ⟨0, by simp⟩

/-- The difference of the two averages. -/
def diffR (qr kr vr : ℕ → Fin 128 → ℝ) (lam : ℝ) (r : ℕ) (d : Fin 128) : ℝ :=
  num qr kr vr 0 r d / den qr kr 0 r - lam * (num qr kr vr 1 r d / den qr kr 1 r)

/-- A row divided by its root mean square, times a gain and the constant factor. -/
def normed (w : Fin 128 → EReal) (g : EReal) (d : Fin 128) : EReal :=
  w d * Ideal.rsqrt (Ideal.div (∑ e : Fin 128, w e * w e) (Ideal.ofBits .f32 0x43000000#32) + Ideal.ofBits .f32 0x358637BD#32) * g
    * Ideal.ofBits .f32 0x3F24FD5C#32

/-- A quotient of real numbers. -/
theorem div_coe (a b : ℝ) (hb : b ≠ 0) : Ideal.div a b = ((a / b : ℝ) : EReal) := by
  unfold Ideal.div
  rw [if_neg (by exact_mod_cast hb), ← EReal.coe_inv, ← EReal.coe_mul, div_eq_mul_inv]

/-- The lower part of a tile at an index. -/
theorem subT_apply {α : Type} {c' : ℕ} (r : ℕ) (h : r + c' ≤ 144) (X : T4 α 144 256) (d : Fin c') (q : Fin 256) :
    subT r h X (ix4 0 0 d q) = X (ix4 0 0 ⟨r + d.val, by omega⟩ q) := by
  unfold subT; exact congrArg X (mk4_ix4 _ _ _ _)

/-- One map's quotient, times a number. -/
theorem quot {qr kr vr : ℕ → Fin 128 → ℝ} {O : Ops Ideal}
    (hO : RealOps O (fun mp r n => scoreR qr kr mp (r % 8192) (n % 8192)) (fun n d => valR vr (n % 8192) d)) (i mp : ℕ) (hi : i < 32) (hm : mp < 2)
    (q : Fin 256) (d : Fin 128) (x : ℝ) :
    subT 0 (by decide) ((maAll O).acc i mp) (ix4 0 0 d q) * Ideal.div (x : EReal) (subT 128 (by decide) ((maAll O).acc i mp) (ix4 0 0 (0 : Fin 1) q))
      = ((x * (num qr kr vr mp (256 * i + q) d / den qr kr mp (256 * i + q)) : ℝ) : EReal) := by
  have hq := q.isLt
  rw [subT_apply, subT_apply]
  have hn : ∀ d : Fin 144, ∑ n ∈ Finset.range (256 * i + q.val + 1),
      (2 : ℝ) ^ scoreR qr kr mp ((256 * i + q.val) % 8192) (n % 8192) * valR vr (n % 8192) d
      = ∑ n ∈ Finset.range (256 * i + q.val + 1), (2 : ℝ) ^ scoreR qr kr mp (256 * i + q.val) n * valR vr n d := by
    intro d
    refine Finset.sum_congr rfl fun n hn => ?_
    have := Finset.mem_range.1 hn
    rw [Nat.mod_eq_of_lt (by omega), Nat.mod_eq_of_lt (by omega)]
  have h := maAll_ok hO i mp hi hm q
  simp only [hn] at h
  have h1 : ∑ n ∈ Finset.range (256 * i + q.val + 1), (2 : ℝ) ^ scoreR qr kr mp (256 * i + q.val) n * valR vr n ⟨0 + d.val, by omega⟩
      = num qr kr vr mp (256 * i + q.val) d := by
    refine Finset.sum_congr rfl fun n _ => ?_
    simp [valR]
  have h2 : ∑ n ∈ Finset.range (256 * i + q.val + 1), (2 : ℝ) ^ scoreR qr kr mp (256 * i + q.val) n * valR vr n ⟨128 + (0 : Fin 1).val, by decide⟩
      = den qr kr mp (256 * i + q.val) := by
    refine Finset.sum_congr rfl fun n _ => ?_
    simp [valR]
  have hpos := den_pos qr kr mp (256 * i + q.val)
  rcases h with ⟨_, h⟩ | ⟨M, _, h⟩
  · exact absurd ((h2.symm.trans (h ⟨128 + (0 : Fin 1).val, by decide⟩).2)) hpos.ne'
  · have e1 := h ⟨0 + d.val, by omega⟩
    have e2 := h ⟨128 + (0 : Fin 1).val, by decide⟩
    beta_reduce at e1 e2
    rw [h1] at e1
    rw [h2] at e2
    have hp : (0 : ℝ) < (2 : ℝ) ^ (-M) := Real.rpow_pos_of_pos (by norm_num) _
    rw [e1, e2, div_coe _ _ (mul_pos hp hpos).ne', ← EReal.coe_mul]
    congr 1
    field_simp

/-- An entry of the kernel's result. -/
theorem outT_apply {qx kx vx : KBlk Ideal} {qr kr vr : ℕ → Fin 128 → ℝ} (hq : RealBlk qx qr) (hk : RealBlk kx kr) (hv : RealBlk vx vr)
    (l : Vec Ideal S4x64 .f32) (lam : ℝ) (hl : payLam l (ix2 0 0) = (lam : EReal)) (g : Vec Ideal S128x256 .f32) (i : ℕ) (hi : i < 32)
    (q : Fin 256) (d : Fin 128) :
    outT qx kx vx l g i (ix3 0 q d) = normed (fun e => ((diffR qr kr vr lam (256 * i + q) e : ℝ) : EReal)) (g (ix2 d q)) d := by
  have hO := opsOf_real hq hk hv
  have hD : ∀ e : Fin 128, payD (payLam l) (subT 128 (by decide) ((maAll (opsOf qx kx vx)).acc i 0)) (subT 128 (by decide) ((maAll (opsOf qx kx vx)).acc i 1))
      (subT 0 (by decide) ((maAll (opsOf qx kx vx)).acc i 0)) (subT 0 (by decide) ((maAll (opsOf qx kx vx)).acc i 1)) (ix2 e q)
      = ((diffR qr kr vr lam (256 * i + q) e : ℝ) : EReal) := by
    intro e
    rw [payD_apply, hl]
    have q0 := quot hO i 0 hi (by decide) q e 1
    have q1 := quot hO i 1 hi (by decide) q e lam
    rw [EReal.coe_one, one_mul] at q0
    unfold diffR
    rw [EReal.coe_sub]
    exact congrArg₂ (· - ·) q0 q1
  unfold outT finT
  rw [payO_apply]
  unfold normed
  simp only [hD]

end Cert.Proof.Steps
-- ==== Proof.Ref.lean ====
/- The reference's result read at an index, over the extended reals. -/
module

public import proofs.«01_k».proof.Proof.Total
public import proofs.«01_k».proof.Proof.Gen.ReferenceIdeal.Run
public import Idealize.ShloMosaic.Lib.Pointwise
public import Idealize.ShloMosaic.Lib.KernelVsHost

@[expose] public section

noncomputable section

namespace Cert.Proof.Ref

open Cert.ReferenceIdeal Cert.ReferenceIdeal.Gen Idealize.ShloMosaic Idealize.ShloMosaic.TcCoe Idealize.ShloMosaic.StableHlo

/-- The queries of the first map. -/
def q0 (p : FVec Ideal S2x8192x3072 .f32) : FVec Ideal S2x8x8192x64 .f32 :=
  shapeCast _ (extractStridedSlice S2x8x1x8192x64 ![0, 0, 0, 0, 0] (transpose S2x8x2x8192x64 [0, 2, 3, 1, 4] (shapeCast _ (extractStridedSlice S2x8192x1024 ![0, 0, 0] p slices_S2x8192x3072_S2x8192x1024_0_0_0) shapeCasts_S2x8192x1024_S2x8192x8x2x64) transposes_S2x8192x8x2x64_S2x8x2x8192x64_0_2_3_1_4) slices_S2x8x2x8192x64_S2x8x1x8192x64_0_0_0_0_0) shapeCasts_S2x8x1x8192x64_S2x8x8192x64

/-- The queries of the second map. -/
def q1 (p : FVec Ideal S2x8192x3072 .f32) : FVec Ideal S2x8x8192x64 .f32 :=
  shapeCast _ (extractStridedSlice S2x8x1x8192x64 ![0, 0, 1, 0, 0] (transpose S2x8x2x8192x64 [0, 2, 3, 1, 4] (shapeCast _ (extractStridedSlice S2x8192x1024 ![0, 0, 0] p slices_S2x8192x3072_S2x8192x1024_0_0_0) shapeCasts_S2x8192x1024_S2x8192x8x2x64) transposes_S2x8192x8x2x64_S2x8x2x8192x64_0_2_3_1_4) slices_S2x8x2x8192x64_S2x8x1x8192x64_0_0_1_0_0) shapeCasts_S2x8x1x8192x64_S2x8x8192x64

/-- The keys of the first map. -/
def k0 (p : FVec Ideal S2x8192x3072 .f32) : FVec Ideal S2x8x8192x64 .f32 :=
  shapeCast _ (extractStridedSlice S2x8x1x8192x64 ![0, 0, 0, 0, 0] (transpose S2x8x2x8192x64 [0, 2, 3, 1, 4] (shapeCast _ (extractStridedSlice S2x8192x1024 ![0, 0, 1024] p slices_S2x8192x3072_S2x8192x1024_0_0_1024) shapeCasts_S2x8192x1024_S2x8192x8x2x64) transposes_S2x8192x8x2x64_S2x8x2x8192x64_0_2_3_1_4) slices_S2x8x2x8192x64_S2x8x1x8192x64_0_0_0_0_0) shapeCasts_S2x8x1x8192x64_S2x8x8192x64

/-- The keys of the second map. -/
def k1 (p : FVec Ideal S2x8192x3072 .f32) : FVec Ideal S2x8x8192x64 .f32 :=
  shapeCast _ (extractStridedSlice S2x8x1x8192x64 ![0, 0, 1, 0, 0] (transpose S2x8x2x8192x64 [0, 2, 3, 1, 4] (shapeCast _ (extractStridedSlice S2x8192x1024 ![0, 0, 1024] p slices_S2x8192x3072_S2x8192x1024_0_0_1024) shapeCasts_S2x8192x1024_S2x8192x8x2x64) transposes_S2x8192x8x2x64_S2x8x2x8192x64_0_2_3_1_4) slices_S2x8x2x8192x64_S2x8x1x8192x64_0_0_1_0_0) shapeCasts_S2x8x1x8192x64_S2x8x8192x64

/-- The values. -/
def vals (p : FVec Ideal S2x8192x3072 .f32) : FVec Ideal S2x8x8192x128 .f32 :=
  transpose S2x8x8192x128 [0, 2, 1, 3] (shapeCast _ (extractStridedSlice S2x8192x1024 ![0, 0, 2048] p slices_S2x8192x3072_S2x8192x1024_0_0_2048) shapeCasts_S2x8192x1024_S2x8192x8x128) transposes_S2x8192x8x128_S2x8x8192x128_0_2_1_3

/-- The scaled scores. -/
def scores (q k : FVec Ideal S2x8x8192x64 .f32) : FVec Ideal S2x8x8192x8192 .f32 :=
  mulf (Host.dotGeneral dot_S2x8x8192x64_S2x8x8192x64_S2x8x8192x8192_3_3_2_2_01_01 none q k) (broadcastInDim S2x8x8192x8192 ![] bcast_S_S2x8x8192x8192 (constant S_ .f32 0x3E000000#32))

/-- The scores of the keys up to the query, minus infinity elsewhere. -/
def masked (s : FVec Ideal S2x8x8192x8192 .f32) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S2x8x8192x8192 ![] bcast_S_S2x8x8192x8192 (id (constant S_ .f32 0xFF800000#32)))

/-- The largest score of each query. -/
def top (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- The exponentials of the scores over the largest. -/
def expo (s : FVec Ideal S2x8x8192x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (top s))))

/-- The softmax of the scores. -/
def soft (s : FVec Ideal S2x8x8192x8192 .f32) : FVec Ideal S2x8x8192x8192 .f32 :=
  Host.divf (expo s) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (expo s) (constant S_ .f32 0x00000000#32) reducesTo_S2x8x8192x8192_S2x8x8192_d3 h_S_)))

/-- The weight of the second map. -/
def lamV (a b c d : FVec Ideal S1x64 .f32) : FVec Ideal S_ .f32 :=
  addf (subf (Host.exp (Host.reduceAdd (mulf (shapeCast _ a shapeCasts_S1x64_S64) (shapeCast _ b shapeCasts_S1x64_S64)) (constant S_ .f32 0x00000000#32) reducesTo_S64_S_d0 h_S_)) (Host.exp (Host.reduceAdd (mulf (shapeCast _ c shapeCasts_S1x64_S64) (shapeCast _ d shapeCasts_S1x64_S64)) (constant S_ .f32 0x00000000#32) reducesTo_S64_S_d0 h_S_))) (constant S_ .f32 0x3EB60549#32)

/-- The difference of the two maps applied to the values. -/
def mixed (w0 w1 : FVec Ideal S2x8x8192x8192 .f32) (l : FVec Ideal S_ .f32) (v : FVec Ideal S2x8x8192x128 .f32) : FVec Ideal S2x8x8192x128 .f32 :=
  Host.dotGeneral dot_S2x8x8192x8192_S2x8x8192x128_S2x8x8192x128_3_2_2_3_01_01 none (subf w0 (mulf (broadcastInDim S2x8x8192x8192 ![] bcast_S_S2x8x8192x8192 l) w1)) v

/-- The mean square of each row. -/
def meanSq (o : FVec Ideal S2x8x8192x128 .f32) : FVec Ideal S2x8x8192x1 .f32 :=
  Host.divf (broadcastInDim S2x8x8192x1 ![0, 1, 2] bcast_S2x8x8192_S2x8x8192x1_0_1_2 (Host.reduceAdd (mulf o o) (constant S_ .f32 0x00000000#32) reducesTo_S2x8x8192x128_S2x8x8192_d3 h_S_)) (broadcastInDim S2x8x8192x1 ![] bcast_S_S2x8x8192x1 (constant S_ .f32 0x43000000#32))

/-- The result before the heads are joined. -/
def gained (o : FVec Ideal S2x8x8192x128 .f32) (g : FVec Ideal S1x128 .f32) : FVec Ideal S2x8x8192x128 .f32 :=
  mulf (mulf (mulf o (broadcastInDim S2x8x8192x128 ![0, 1, 2, 3] bcast_S2x8x8192x1_S2x8x8192x128_0_1_2_3 (Host.rsqrt (addf (meanSq o) (broadcastInDim S2x8x8192x1 ![] bcast_S_S2x8x8192x1 (constant S_ .f32 0x358637BD#32)))))) (broadcastInDim S2x8x8192x128 ![0, 1, 2, 3] bcast_S1x1x1x128_S2x8x8192x128_0_1_2_3 (broadcastInDim S1x1x1x128 ![3] bcast_S128_S1x1x1x128_3 (shapeCast _ g shapeCasts_S1x128_S128)))) (broadcastInDim S2x8x8192x128 ![] bcast_S_S2x8x8192x128 (constant S_ .f32 0x3F24FD5C#32))

/-- The heads joined. -/
def joined (o : FVec Ideal S2x8x8192x128 .f32) : FVec Ideal S2x8192x1024 .bf16 :=
  truncf .bf16 (shapeCast _ (transpose S2x8192x8x128 [0, 2, 1, 3] o transposes_S2x8x8192x128_S2x8192x8x128_0_2_1_3) shapeCasts_S2x8192x8x128_S2x8192x1024) bitsLt_bf16_f32

/-- The difference of the two maps, from the arguments. -/
def attn (p : FVec Ideal S2x8192x3072 .f32) (l1 l2 l3 l4 : FVec Ideal S1x64 .f32) : FVec Ideal S2x8x8192x128 .f32 :=
  mixed (soft (masked (scores (q0 p) (k0 p)))) (soft (masked (scores (q1 p) (k1 p)))) (lamV l1 l2 l3 l4) (vals p)

set_option maxRecDepth 8192 in
/-- The reference's result, in stages. -/
theorem out_eq (m : (ℓ : Loc nD τ sig) → Buf (Elt Ideal) ℓ) (c : Dev nD) :
    Cert.ReferenceIdeal.Value.res_out0 m c = joined (gained (attn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5))) := rfl

/-- The first map's queries at an index. -/
theorem q0_apply (p : FVec Ideal S2x8192x3072 .f32) (b : Fin 2) (h : Fin 8) (r : Fin 8192) (d : Fin 64) :
    q0 p (ix4 b h r d) = p (ix3 b r ⟨h.val * 128 + d.val, by omega⟩) := by
  pointwise [q0]

/-- The second map's queries at an index. -/
theorem q1_apply (p : FVec Ideal S2x8192x3072 .f32) (b : Fin 2) (h : Fin 8) (r : Fin 8192) (d : Fin 64) :
    q1 p (ix4 b h r d) = p (ix3 b r ⟨h.val * 128 + 64 + d.val, by omega⟩) := by
  pointwise [q1]

/-- The first map's keys at an index. -/
theorem k0_apply (p : FVec Ideal S2x8192x3072 .f32) (b : Fin 2) (h : Fin 8) (r : Fin 8192) (d : Fin 64) :
    k0 p (ix4 b h r d) = p (ix3 b r ⟨1024 + (h.val * 128 + d.val), by omega⟩) := by
  pointwise [k0]

/-- The second map's keys at an index. -/
theorem k1_apply (p : FVec Ideal S2x8192x3072 .f32) (b : Fin 2) (h : Fin 8) (r : Fin 8192) (d : Fin 64) :
    k1 p (ix4 b h r d) = p (ix3 b r ⟨1024 + (h.val * 128 + 64 + d.val), by omega⟩) := by
  pointwise [k1]

/-- The values at an index. -/
theorem vals_apply (p : FVec Ideal S2x8192x3072 .f32) (b : Fin 2) (h : Fin 8) (r : Fin 8192) (d : Fin 128) :
    vals p (ix4 b h r d) = p (ix3 b r ⟨2048 + (h.val * 128 + d.val), by omega⟩) := by
  pointwise [vals]

/-- A score. -/
theorem scores_apply (q k : FVec Ideal S2x8x8192x64 .f32) (b : Fin 2) (h : Fin 8) (r n : Fin 8192) :
    scores q k (ix4 b h r n) = (∑ d : Fin 64, q (ix4 b h r d) * k (ix4 b h n d)) * Ideal.ofBits .f32 0x3E000000#32 := by
  pointwise [scores]

/-- A masked score. -/
theorem masked_apply (s : FVec Ideal S2x8x8192x8192 .f32) (b : Fin 2) (h : Fin 8) (r n : Fin 8192) :
    masked s (ix4 b h r n) = if n.val ≤ r.val then s (ix4 b h r n) else ⊥ := by
  pointwise [masked]
  rw [show id (constant (F := Ideal) S_ .f32 0xFF800000#32) ix0 = ⊥ from Steps.ofBits_neg_inf]
  exact Steps.select_sle (by omega) (by omega) _ _

/-- A largest element along the last axis, from minus infinity. -/
theorem reduce_max {n0 n1 n2 n3 : ℕ} (x : FVec Ideal ⟨4, ![n0, n1, n2, n3]⟩ .f32) (z : FVec Ideal S_ .f32) (hz : z (Shape.Idx.first h_S_) = ⊥)
    (hr : (⟨4, ![n0, n1, n2, n3]⟩ : Shape).ReducesTo [3] ⟨3, ![n0, n1, n2]⟩) (b : Fin n0) (h : Fin n1) (r : Fin n2) :
    Host.reduce (FloatOps.maximumf (F := Ideal) (φ := .f32)) x z hr h_S_ (ix3 b h r)
      = (Finset.univ : Finset (Fin n3)).fold max ⊥ fun n => x (ix4 b h r n) := by
  rw [show (FloatOps.maximumf (F := Ideal) (φ := .f32)) = max from rfl, Host.reduce_eq_fold, Shape.ReducesTo.fold_fiber_r4_a3, hz]
  rfl

/-- A maximum with minus infinity. -/
theorem max_left {s : Shape} (x y : FVec Ideal s .f32) (i : s.Idx) (hx : x i = ⊥) : maximumf x y i = y i := by
  show max (x i) (y i) = y i
  rw [hx]
  exact max_eq_right bot_le

/-- The largest score. -/
theorem top_apply (s : FVec Ideal S2x8x8192x8192 .f32) (b : Fin 2) (h : Fin 8) (r : Fin 8192) :
    top s (ix3 b h r) = Finset.univ.fold max ⊥ fun n : Fin 8192 => s (ix4 b h r n) := by
  unfold top
  rw [max_left _ _ _ Steps.ofBits_neg_inf]
  exact reduce_max s _ Steps.ofBits_neg_inf _ b h r

/-- An exponential. -/
theorem expo_apply (s : FVec Ideal S2x8x8192x8192 .f32) (b : Fin 2) (h : Fin 8) (r n : Fin 8192) :
    expo s (ix4 b h r n) = Ideal.exp (s (ix4 b h r n) - top s (ix3 b h r)) := by
  pointwise [expo]

/-- An entry of the softmax. -/
theorem soft_apply (s : FVec Ideal S2x8x8192x8192 .f32) (b : Fin 2) (h : Fin 8) (r n : Fin 8192) :
    soft s (ix4 b h r n) = Ideal.div (expo s (ix4 b h r n)) (∑ n : Fin 8192, expo s (ix4 b h r n)) := by
  pointwise [soft]

/-- The weight of the second map. -/
theorem lamV_apply (a b c d : FVec Ideal S1x64 .f32) (i : S_.Idx) :
    lamV a b c d i = Ideal.exp (∑ e : Fin 64, a (ix2 0 e) * b (ix2 0 e)) - Ideal.exp (∑ e : Fin 64, c (ix2 0 e) * d (ix2 0 e))
      + Ideal.ofBits .f32 0x3EB60549#32 := by
  pointwise [lamV]

/-- An entry of the difference applied to the values. -/
theorem mixed_apply (w0 w1 : FVec Ideal S2x8x8192x8192 .f32) (l : FVec Ideal S_ .f32) (v : FVec Ideal S2x8x8192x128 .f32)
    (b : Fin 2) (h : Fin 8) (r : Fin 8192) (d : Fin 128) :
    mixed w0 w1 l v (ix4 b h r d) = ∑ n : Fin 8192, (w0 (ix4 b h r n) - l ix0 * w1 (ix4 b h r n)) * v (ix4 b h n d) := by
  pointwise [mixed]

/-- An entry of the normed rows. -/
theorem gained_apply (o : FVec Ideal S2x8x8192x128 .f32) (g : FVec Ideal S1x128 .f32) (b : Fin 2) (h : Fin 8) (r : Fin 8192) (d : Fin 128) :
    gained o g (ix4 b h r d) = Steps.normed (fun e => o (ix4 b h r e)) (g (ix2 0 d)) d := by
  pointwise [gained, meanSq]
  rfl

/-- An entry of the joined heads. -/
theorem joined_apply (o : FVec Ideal S2x8x8192x128 .f32) (b : Fin 2) (h : Fin 8) (r : Fin 8192) (d : Fin 128) :
    joined o (ix3 b r ⟨h.val * 128 + d.val, by omega⟩) = o (ix4 b h r d) := by
  pointwise [joined]

/-! ## With real operands -/

/-- The rows of `o` and the 127 columns after it. -/
def col (P : Fin 2 → Fin 8192 → Fin 3072 → ℝ) (b : Fin 2) (o n : ℕ) (d : Fin 128) : ℝ :=
  P b ⟨n % 8192, Nat.mod_lt _ (by decide)⟩ ⟨(o + d.val) % 3072, Nat.mod_lt _ (by decide)⟩

/-- The projection is real. -/
def RealP (p : FVec Ideal S2x8192x3072 .f32) (P : Fin 2 → Fin 8192 → Fin 3072 → ℝ) : Prop :=
  ∀ b n j, p (ix3 b n j) = ((P b n j : ℝ) : EReal)

/-- An entry of a real projection as one of `col`. -/
theorem RealP.at {p : FVec Ideal S2x8192x3072 .f32} {P : Fin 2 → Fin 8192 → Fin 3072 → ℝ} (hp : RealP p P) (b : Fin 2) (n : Fin 8192)
    (j : Fin 3072) (o : ℕ) (d : Fin 128) (hj : j.val = o + d.val) : p (ix3 b n j) = ((col P b o n.val d : ℝ) : EReal) := by
  rw [hp]
  unfold col
  congr 2
  · exact (Fin.ext (show n.val = n.val % 8192 from (Nat.mod_eq_of_lt n.isLt).symm))
  · exact Fin.ext ((Nat.mod_eq_of_lt (hj ▸ j.isLt)).trans hj.symm).symm

/-- An eighth. -/
theorem ofBits_eighth : Ideal.ofBits .f32 0x3E000000#32 = ((1 / 8 : ℝ) : EReal) := by
  simp [Ideal.ofBits, Ideal.ieee]
  rw [← EReal.coe_mul]
  norm_num

/-- A sum over 128 features by halves. -/
theorem sum_halves {M : Type*} [AddCommMonoid M] (f : Fin 128 → M) :
    ∑ d : Fin 128, f d = (∑ d : Fin 64, f ⟨d.val, by omega⟩) + ∑ d : Fin 64, f ⟨64 + d.val, by omega⟩ :=
  Fin.sum_univ_add (a := 64) (b := 64) f

/-- The first map's score, as the first halves' product. -/
theorem scoreR_zero (qr kr : ℕ → Fin 128 → ℝ) (r n : ℕ) :
    (∑ d : Fin 64, qr r ⟨d.val, by omega⟩ * kr n ⟨d.val, by omega⟩) * (1 / 8) = Steps.scoreR qr kr 0 r n * Real.log 2 := by
  have hl : Real.log 2 ≠ 0 := (Real.log_pos (by norm_num)).ne'
  unfold Steps.scoreR
  rw [sum_halves, add_mul, Finset.sum_mul, Finset.sum_mul, Finset.sum_mul]
  rw [Finset.sum_eq_zero (s := Finset.univ) (f := fun d : Fin 64 => (kr n ⟨64 + d.val, _⟩ * if Steps.half 0 ⟨64 + d.val, _⟩ then _ else 0) * Real.log 2)
    (fun d _ => by rw [if_neg (by simp [Steps.half])]; ring), add_zero]
  refine Finset.sum_congr rfl fun d _ => ?_
  rw [if_pos (by simp [Steps.half])]
  field_simp

/-- The second map's score, as the second halves' product. -/
theorem scoreR_one (qr kr : ℕ → Fin 128 → ℝ) (r n : ℕ) :
    (∑ d : Fin 64, qr r ⟨64 + d.val, by omega⟩ * kr n ⟨64 + d.val, by omega⟩) * (1 / 8) = Steps.scoreR qr kr 1 r n * Real.log 2 := by
  have hl : Real.log 2 ≠ 0 := (Real.log_pos (by norm_num)).ne'
  unfold Steps.scoreR
  rw [sum_halves, add_mul, Finset.sum_mul, Finset.sum_mul, Finset.sum_mul]
  rw [Finset.sum_eq_zero (s := Finset.univ) (f := fun d : Fin 64 => (kr n ⟨d.val, _⟩ * if Steps.half 1 ⟨d.val, _⟩ then _ else 0) * Real.log 2)
    (fun d _ => by rw [if_neg (by simp [Steps.half])]; ring), zero_add]
  refine Finset.sum_congr rfl fun d _ => ?_
  rw [if_pos (by simp [Steps.half])]
  field_simp

section
variable {p : FVec Ideal S2x8192x3072 .f32} {P : Fin 2 → Fin 8192 → Fin 3072 → ℝ} (hp : RealP p P) (b : Fin 2) (h : Fin 8)
include hp

/-- A score of the first map. -/
theorem scores0_real (r n : Fin 8192) : scores (q0 p) (k0 p) (ix4 b h r n)
    = ((Steps.scoreR (col P b (h.val * 128)) (col P b (1024 + h.val * 128)) 0 r n * Real.log 2 : ℝ) : EReal) := by
  rw [scores_apply, ofBits_eighth, ← scoreR_zero, EReal.coe_mul, Steps.coe_sum]
  refine congrArg (· * _) (Finset.sum_congr rfl fun d _ => ?_)
  rw [q0_apply, k0_apply, EReal.coe_mul]
  exact congrArg₂ (· * ·) (hp.at _ _ _ _ ⟨d.val, by omega⟩ rfl) (hp.at _ _ _ _ ⟨d.val, by omega⟩ (by simp; omega))

/-- A score of the second map. -/
theorem scores1_real (r n : Fin 8192) : scores (q1 p) (k1 p) (ix4 b h r n)
    = ((Steps.scoreR (col P b (h.val * 128)) (col P b (1024 + h.val * 128)) 1 r n * Real.log 2 : ℝ) : EReal) := by
  rw [scores_apply, ofBits_eighth, ← scoreR_one, EReal.coe_mul, Steps.coe_sum]
  refine congrArg (· * _) (Finset.sum_congr rfl fun d _ => ?_)
  rw [q1_apply, k1_apply, EReal.coe_mul]
  exact congrArg₂ (· * ·) (hp.at _ _ _ _ ⟨64 + d.val, by omega⟩ (by simp; omega)) (hp.at _ _ _ _ ⟨64 + d.val, by omega⟩ (by simp; omega))

end

/-- An entry of the softmax of real scores. -/
theorem soft_real (s : FVec Ideal S2x8x8192x8192 .f32) (b : Fin 2) (h : Fin 8) (r : Fin 8192) (T : ℕ → ℝ)
    (hs : ∀ n : Fin 8192, s (ix4 b h r n) = ((T n * Real.log 2 : ℝ) : EReal)) (n : Fin 8192) :
    soft (masked s) (ix4 b h r n)
      = ((if n.val ≤ r.val then (2 : ℝ) ^ T n / ∑ k ∈ Finset.range (r.val + 1), (2 : ℝ) ^ T k else 0 : ℝ) : EReal) := by
  have hm : ∀ n : Fin 8192, masked s (ix4 b h r n) = if n.val ≤ r.val then ((T n * Real.log 2 : ℝ) : EReal) else ⊥ := fun n => by
    rw [masked_apply, hs]
  obtain ⟨M, hM⟩ := Steps.fold_real Finset.univ (fun n : Fin 8192 => masked s (ix4 b h r n))
    (fun k _ => by rw [hm]; by_cases hk : k.val ≤ r.val; rw [if_pos hk]; exact EReal.coe_ne_top _; rw [if_neg hk]; exact bot_ne_top)
    ⟨r, Finset.mem_univ _, by rw [hm, if_pos le_rfl]; exact EReal.coe_ne_bot _⟩
  have he : ∀ n : Fin 8192, expo (masked s) (ix4 b h r n) = ((if n.val ≤ r.val then (2 : ℝ) ^ T n * Real.exp (-M) else 0 : ℝ) : EReal) := fun n => by
    rw [expo_apply, top_apply, hM, hm]
    by_cases hk : n.val ≤ r.val
    · rw [if_pos hk, if_pos hk, ← EReal.coe_sub, Ideal.exp_coe, Real.rpow_def_of_pos (by norm_num), ← Real.exp_add]
      exact congrArg (fun x : ℝ => ((Real.exp x : ℝ) : EReal)) (by ring)
    · rw [if_neg hk, if_neg hk]; rfl
  have hsum : ∑ n : Fin 8192, expo (masked s) (ix4 b h r n) = (((∑ k ∈ Finset.range (r.val + 1), (2 : ℝ) ^ T k) * Real.exp (-M) : ℝ) : EReal) := by
    simp only [he]
    rw [← Steps.coe_sum, Steps.sum_masked (fun n => (2 : ℝ) ^ T n * Real.exp (-M)) 8192 r.val r.isLt, Finset.sum_mul]
  have hpos : 0 < ∑ k ∈ Finset.range (r.val + 1), (2 : ℝ) ^ T k :=
    Finset.sum_pos (fun _ _ => Real.rpow_pos_of_pos (by norm_num) _) ⟨0, by simp⟩
  have hx := Real.exp_pos (-M)
  rw [soft_apply, hsum, he, Steps.div_coe _ _ (mul_pos hpos hx).ne']
  by_cases hk : n.val ≤ r.val
  · rw [if_pos hk, if_pos hk, mul_div_mul_right _ _ hx.ne']
  · rw [if_neg hk, if_neg hk, zero_div]

/-- An entry of the difference. -/
theorem attn_real {p : FVec Ideal S2x8192x3072 .f32} {P : Fin 2 → Fin 8192 → Fin 3072 → ℝ} (hp : RealP p P)
    (l1 l2 l3 l4 : FVec Ideal S1x64 .f32) (lam : ℝ) (hl : lamV l1 l2 l3 l4 ix0 = ((lam : ℝ) : EReal))
    (b : Fin 2) (h : Fin 8) (r : Fin 8192) (d : Fin 128) :
    attn p l1 l2 l3 l4 (ix4 b h r d) = ((Steps.diffR (col P b (h.val * 128)) (col P b (1024 + h.val * 128)) (col P b (2048 + h.val * 128)) lam r d : ℝ) : EReal) := by
  unfold attn
  rw [mixed_apply, hl]
  have e : ∀ n : Fin 8192, (soft (masked (scores (q0 p) (k0 p))) (ix4 b h r n) - ((lam : ℝ) : EReal) * soft (masked (scores (q1 p) (k1 p))) (ix4 b h r n)) * vals p (ix4 b h n d)
      = ((if n.val ≤ r.val then ((2 : ℝ) ^ Steps.scoreR (col P b (h.val * 128)) (col P b (1024 + h.val * 128)) 0 r n / Steps.den (col P b (h.val * 128)) (col P b (1024 + h.val * 128)) 0 r
        - lam * ((2 : ℝ) ^ Steps.scoreR (col P b (h.val * 128)) (col P b (1024 + h.val * 128)) 1 r n / Steps.den (col P b (h.val * 128)) (col P b (1024 + h.val * 128)) 1 r))
        * col P b (2048 + h.val * 128) n d else 0 : ℝ) : EReal) := fun n => by
    rw [soft_real _ b h r _ (fun n => scores0_real hp b h r n) n, soft_real _ b h r _ (fun n => scores1_real hp b h r n) n, vals_apply,
      hp.at b n _ (2048 + h.val * 128) d (by simp; omega), ← EReal.coe_mul, ← EReal.coe_sub, ← EReal.coe_mul]
    by_cases hk : n.val ≤ r.val
    · rw [if_pos hk, if_pos hk, if_pos hk]; rfl
    · rw [if_neg hk, if_neg hk, if_neg hk]; simp
  simp only [e]
  rw [← Steps.coe_sum, Steps.sum_masked (fun n => ((2 : ℝ) ^ Steps.scoreR (col P b (h.val * 128)) (col P b (1024 + h.val * 128)) 0 r n / Steps.den (col P b (h.val * 128)) (col P b (1024 + h.val * 128)) 0 r
        - lam * ((2 : ℝ) ^ Steps.scoreR (col P b (h.val * 128)) (col P b (1024 + h.val * 128)) 1 r n / Steps.den (col P b (h.val * 128)) (col P b (1024 + h.val * 128)) 1 r))
        * col P b (2048 + h.val * 128) n d) 8192 r.val r.isLt]
  congr 1
  unfold Steps.diffR Steps.num
  rw [Finset.sum_div, Finset.sum_div, Finset.mul_sum, ← Finset.sum_sub_distrib]
  refine Finset.sum_congr rfl fun n _ => ?_
  ring

/-- An entry of the reference's result. -/
theorem result_real {p : FVec Ideal S2x8192x3072 .f32} {P : Fin 2 → Fin 8192 → Fin 3072 → ℝ} (hp : RealP p P)
    (l1 l2 l3 l4 : FVec Ideal S1x64 .f32) (lam : ℝ) (hl : lamV l1 l2 l3 l4 ix0 = ((lam : ℝ) : EReal)) (g : FVec Ideal S1x128 .f32)
    (b : Fin 2) (h : Fin 8) (r : Fin 8192) (d : Fin 128) :
    joined (gained (attn p l1 l2 l3 l4) g) (ix3 b r ⟨h.val * 128 + d.val, by omega⟩)
      = Steps.normed (fun e => ((Steps.diffR (col P b (h.val * 128)) (col P b (1024 + h.val * 128)) (col P b (2048 + h.val * 128)) lam r e : ℝ) : EReal)) (g (ix2 0 d)) d := by
  rw [joined_apply, gained_apply]
  simp only [attn_real hp l1 l2 l3 l4 lam hl]

end Cert.Proof.Ref
-- ==== Proof.Arr.lean ====
/- The kernel's result array over the extended reals is the reference's. -/
module

public import proofs.«01_k».proof.Proof.Ref
public import proofs.«01_k».proof.Proof.Launch
public import Idealize.ShloMosaic.Lib.Pipeline.ValueKit

@[expose] public section

noncomputable section

namespace Cert.Proof.Steps

open Idealize.ShloMosaic Idealize.ShloMosaic.TcCoe Cert.KernelIdeal Cert.KernelIdeal.Gen
open Idealize.ShloMosaic.StableHlo

variable (m : (ℓ : Loc nD τ sig) → Buf (Elt Ideal) ℓ) (c : Dev nD)

/-- The host's cast of the projection. -/
theorem V_v9 : V m c main_v9 = truncf (F := Ideal) .bf16 (m ((c.tc : Thread nD τ).loc main_arg0)) bitsLt_bf16_f32 := by
  unfold V
  after_results

/-- One vector as a row. -/
def rowV (x : FVec Ideal S1x64 .f32) : FVec Ideal S1x64 .f32 := broadcastInDim S1x64 ![1] bcast_S64_S1x64_1 (shapeCast S64 x shapeCasts_S1x64_S64)

/-- The four vectors of the second map's weight, one row each. -/
theorem V_v8 : V m c main_v8 = concatenate S4x64 0 [⟨S1x64, rowV (m ((c.tc : Thread nD τ).loc main_arg1))⟩, ⟨S1x64, rowV (m ((c.tc : Thread nD τ).loc main_arg2))⟩,
    ⟨S1x64, rowV (m ((c.tc : Thread nD τ).loc main_arg3))⟩, ⟨S1x64, rowV (m ((c.tc : Thread nD τ).loc main_arg4))⟩] concatenates_S1x64_S1x64_S1x64_S1x64_S4x64_d0 := by
  unfold V
  after_results_simp
  rfl

/-- The gain, copied along the queries. -/
theorem V_v12 : V m c main_v12 = broadcastInDim S128x256 ![0, 1] bcast_S128x1_S128x256_0_1
    (shapeCast S128x1 (shapeCast S128 (m ((c.tc : Thread nD τ).loc main_arg5)) shapeCasts_S1x128_S128) shapeCasts_S128_S128x1) := by
  unfold V
  after_results
  rfl

/-- The batch of a point. -/
def bOf (t : Fin cfg0.N) : Fin 2 := ⟨(grid0.coords t 0).val, (grid0.coords t 0).isLt⟩

/-- The head of a point. -/
def hOf (t : Fin cfg0.N) : Fin 8 := ⟨(grid0.coords t 1).val, (grid0.coords t 1).isLt⟩

/-- The lambda vectors' one block. -/
theorem idx0 : ∀ t : Fin cfg0.N, win0_0.index t = ![0, 0] := (by decide +kernel : ∀ t : Fin grid0.N, _)
/-- The gain's one block. -/
theorem idx1 : ∀ t : Fin cfg0.N, win0_1.index t = ![0, 0] := (by decide +kernel : ∀ t : Fin grid0.N, _)
/-- The queries' block of a point: its sequence and head. -/
theorem idx2 : ∀ t : Fin cfg0.N, win0_2.index t = ![(bOf t).val, 0, (hOf t).val] := (by decide +kernel : ∀ t : Fin grid0.N, _)
/-- The keys' block of a point: its sequence and head. -/
theorem idx3 : ∀ t : Fin cfg0.N, win0_3.index t = ![(bOf t).val, 0, 8 + (hOf t).val] := (by decide +kernel : ∀ t : Fin grid0.N, _)
/-- The values' block of a point: its sequence and head. -/
theorem idx4 : ∀ t : Fin cfg0.N, win0_4.index t = ![(bOf t).val, 0, 16 + (hOf t).val] := (by decide +kernel : ∀ t : Fin grid0.N, _)
/-- The result's block of a point: its sequence and head. -/
theorem idx5 : ∀ t : Fin cfg0.N, win0_5.index t = ![(bOf t).val, 0, (hOf t).val] := (by decide +kernel : ∀ t : Fin grid0.N, _)

/-- The blocks written cover the result. -/
theorem cov5 : (cfg0.win 5).Covers := by decide +kernel

/-- A block of queries. -/
theorem iblk2_apply (t : Fin cfg0.N) (n : Fin 8192) (d : Fin 128) : (iblk m c 2 t : KBlk Ideal) (ix3 0 n d)
    = m ((c.tc : Thread nD τ).loc main_arg0) (ix3 (bOf t) n ⟨(hOf t).val * 128 + d.val, by omega⟩) := by
  have e : ((cfg0.win 2).blk t).view.emb (ix3 0 n d) = (ix3 (bOf t) n ⟨(hOf t).val * 128 + d.val, by omega⟩ : S2x8192x3072.Idx) := by
    blk_ext [idx2]
  blk_simp [iblk]
  rw [e, V_v9]
  rfl

/-- A block of keys. -/
theorem iblk3_apply (t : Fin cfg0.N) (n : Fin 8192) (d : Fin 128) : (iblk m c 3 t : KBlk Ideal) (ix3 0 n d)
    = m ((c.tc : Thread nD τ).loc main_arg0) (ix3 (bOf t) n ⟨1024 + ((hOf t).val * 128 + d.val), by omega⟩) := by
  have e : ((cfg0.win 3).blk t).view.emb (ix3 0 n d) = (ix3 (bOf t) n ⟨1024 + ((hOf t).val * 128 + d.val), by omega⟩ : S2x8192x3072.Idx) := by
    blk_ext [idx3]
  blk_simp [iblk]
  rw [e, V_v9]
  rfl

/-- A block of values. -/
theorem iblk4_apply (t : Fin cfg0.N) (n : Fin 8192) (d : Fin 128) : (iblk m c 4 t : KBlk Ideal) (ix3 0 n d)
    = m ((c.tc : Thread nD τ).loc main_arg0) (ix3 (bOf t) n ⟨2048 + ((hOf t).val * 128 + d.val), by omega⟩) := by
  have e : ((cfg0.win 4).blk t).view.emb (ix3 0 n d) = (ix3 (bOf t) n ⟨2048 + ((hOf t).val * 128 + d.val), by omega⟩ : S2x8192x3072.Idx) := by
    blk_ext [idx4]
  blk_simp [iblk]
  rw [e, V_v9]
  rfl

/-- The second map's weight, of one vector in each row. -/
theorem lam_rows (a b c d : FVec Ideal S1x64 .f32) :
    payLam (F := Ideal) (concatenate S4x64 0 [⟨S1x64, rowV a⟩, ⟨S1x64, rowV b⟩, ⟨S1x64, rowV c⟩, ⟨S1x64, rowV d⟩] concatenates_S1x64_S1x64_S1x64_S1x64_S4x64_d0) (ix2 0 0)
      = Ref.lamV a b c d ix0 := by
  rw [payLam_apply, Ref.lamV_apply]
  pointwise [rowV]

/-- The weight's block is the four vectors. -/
theorem iblk0_eq (t : Fin cfg0.N) : iblk m c 0 t = V m c main_v8 := by
  funext y
  have e : ((cfg0.win 0).blk t).view.emb y = y := by
    blk_ext [idx0]
  blk_simp [iblk]
  rw [e]

/-- The gain's block. -/
theorem iblk1_apply (t : Fin cfg0.N) (d : Fin 128) (q : Fin 256) : (iblk m c 1 t : Vec Ideal S128x256 .f32) (ix2 d q)
    = m ((c.tc : Thread nD τ).loc main_arg5) (ix2 0 d) := by
  have e : ((cfg0.win 1).blk t).view.emb (ix2 d q) = (ix2 d q : S128x256.Idx) := by
    blk_ext [idx1]
  blk_simp [iblk]
  rw [e, V_v12]
  pointwise []

/-- The reference's result, of the kernel's arguments. -/
def resR : FVec Ideal S2x8192x1024 .bf16 :=
  Ref.joined (Ref.gained (Ref.attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) (m ((c.tc : Thread nD τ).loc main_arg5)))

/-- What is assumed of the arguments: the projection and the weight are real. -/
structure RealArgs (P : Fin 2 → Fin 8192 → Fin 3072 → ℝ) (lam : ℝ) : Prop where
  hp : Ref.RealP (m ((c.tc : Thread nD τ).loc main_arg0)) P
  hl : Ref.lamV (m ((c.tc : Thread nD τ).loc main_arg1)) (m ((c.tc : Thread nD τ).loc main_arg2)) (m ((c.tc : Thread nD τ).loc main_arg3))
    (m ((c.tc : Thread nD τ).loc main_arg4)) ix0 = ((lam : ℝ) : EReal)

variable {m c}

/-- The joined tiles at an index. -/
theorem rowsF_apply {α : Type} (T : ℕ → T3 α 256 128) (r : Fin 8192) (d : Fin 128) :
    rowsF T (ix3 0 r d) = T (r.val / 256) (ix3 0 ⟨r.val % 256, Nat.mod_lt _ (by decide)⟩ d) :=
  congrArg (T (r.val / 256)) (mk3_ix3 _ _ _)

/-- A tile of the result, of real blocks. -/
theorem tile_eq {qx kx vx : KBlk Ideal} {qr kr vr : ℕ → Fin 128 → ℝ} (hq : RealBlk qx qr) (hk : RealBlk kx kr) (hv : RealBlk vx vr)
    (l : Vec Ideal S4x64 .f32) (lam : ℝ) (hl : payLam l (ix2 0 0) = (lam : EReal)) (g : Vec Ideal S128x256 .f32) (r : Fin 8192) (d : Fin 128) :
    rowsF (outT qx kx vx l g) (ix3 0 r d)
      = normed (fun e => ((diffR qr kr vr lam r.val e : ℝ) : EReal)) (g (ix2 d ⟨r.val % 256, Nat.mod_lt _ (by decide)⟩)) d := by
  have hr : r.val / 256 < 32 := by omega
  have e := outT_apply hq hk hv l lam hl g (r.val / 256) hr ⟨r.val % 256, Nat.mod_lt _ (by decide)⟩ d
  simp only [Nat.div_add_mod] at e
  exact (rowsF_apply _ r d).trans e

/-- What a point leaves is the reference's block. -/
theorem after_eq {P : Fin 2 → Fin 8192 → Fin 3072 → ℝ} {lam : ℝ} (h : RealArgs m c P lam) (t : Fin cfg0.N) (r : Fin 8192) (d : Fin 128) :
    rowsF (outT (F := Ideal) (iblk m c 2 t) (iblk m c 3 t) (iblk m c 4 t) (iblk m c 0 t) (iblk m c 1 t)) (ix3 0 r d)
      = resR m c (ix3 (bOf t) r ⟨(hOf t).val * 128 + d.val, by omega⟩) := by
  have hq : RealBlk (iblk m c 2 t) (Ref.col P (bOf t) ((hOf t).val * 128)) := fun n d =>
    (iblk2_apply m c t n d).trans (h.hp.at _ _ _ _ d rfl)
  have hk : RealBlk (iblk m c 3 t) (Ref.col P (bOf t) (1024 + (hOf t).val * 128)) := fun n d =>
    (iblk3_apply m c t n d).trans (h.hp.at _ _ _ _ d (by simp; omega))
  have hv : RealBlk (iblk m c 4 t) (Ref.col P (bOf t) (2048 + (hOf t).val * 128)) := fun n d =>
    (iblk4_apply m c t n d).trans (h.hp.at _ _ _ _ d (by simp; omega))
  have hl : payLam (F := Ideal) (iblk m c 0 t) (ix2 0 0) = ((lam : ℝ) : EReal) :=
    ((congrArg (fun l => payLam (F := Ideal) l (ix2 0 0)) ((iblk0_eq m c t).trans (V_v8 m c))).trans (lam_rows _ _ _ _)).trans h.hl
  refine (tile_eq hq hk hv _ lam hl _ r d).trans ?_
  refine (congrArg (fun g => normed _ g d) (iblk1_apply m c t d _)).trans ?_
  exact (Ref.result_real h.hp _ _ _ _ lam h.hl _ _ _ _ _).symm

/-- The kernel's result array is the reference's. -/
theorem arrAt_eq {P : Fin 2 → Fin 8192 → Fin 3072 → ℝ} {lam : ℝ} (h : RealArgs m c P lam) : (dats m 0 c).arrAt 5 cfg0.N = resR m c := by
  refine (dats m 0 c).arrAt_eq_of_covers 5 _ cov5 fun t _ y => ?_
  blk_simp
  rw [after0_5]
  obtain ⟨r, d, rfl⟩ : ∃ (r : Fin 8192) (d : Fin 128), y = (ix3 0 r d : S1x8192x128.Idx) :=
    ⟨y 1, y 2, by funext x; match x with | ⟨0, _⟩ => exact Subsingleton.elim (α := Fin 1) _ _ | ⟨1, _⟩ => rfl | ⟨2, _⟩ => rfl⟩
  have e : ((cfg0.win 5).blk t).view.emb (ix3 0 r d) = (ix3 (bOf t) r ⟨(hOf t).val * 128 + d.val, by omega⟩ : S2x8192x1024.Idx) := by
    blk_ext [idx5]
  rw [e]
  exact after_eq h t r d

end Cert.Proof.Steps
-- ==== Proof.Finite.lean ====
/- The precondition: a finite projection and finite vectors are real. -/
module

public import proofs.«01_k».proof.Proof.Arr
public import proofs.«01_k».proof.Defs

@[expose] public section

noncomputable section

namespace Cert.Proof.Steps

open Idealize.ShloMosaic Idealize.ShloMosaic.TcCoe Cert.KernelIdeal Cert.KernelIdeal.Gen

/-- The precondition's shape relations. -/
theorem facts_finite : Cert.Pre_finite.Facts := ⟨by decide, by decide⟩

/-- The pattern of infinity. -/
theorem ofBits_inf : Ideal.ofBits .f32 0x7F800000#32 = ⊤ := by
  simp [Ideal.ofBits, Ideal.ieee]

/-- A number whose absolute value is below infinity is real. -/
theorem real_of_lt (x : EReal) (h : BitVec.ofBool (decide (max x (-x) < Ideal.ofBits .f32 0x7F800000#32)) = 1#1) : x = ((x.toReal : ℝ) : EReal) := by
  rw [ofBits_inf] at h
  have h' : max x (-x) < ⊤ := by
    by_contra hc
    rw [decide_eq_false hc] at h
    exact absurd h (by decide)
  refine (EReal.coe_toReal ?_ ?_).symm
  · rintro rfl; simp at h'
  · rintro rfl; simp at h'

/-- An array whose comparison with infinity is true throughout is real. -/
theorem real_of_finite {s : Shape} (x : FVec Ideal s .f32) (y : FVec Ideal s .f32) (hy : ∀ i, y i = Ideal.ofBits .f32 0x7F800000#32)
    (h : cmpf .olt (Host.absf x) y = fun _ => 1#1) (i : s.Idx) : x i = (((x i).toReal : ℝ) : EReal) := by
  refine real_of_lt (x i) ?_
  rw [← hy i]
  exact congrFun h i

/-- The constant part of the second map's weight. -/
theorem ofBits_init : Ideal.ofBits .f32 0x3EB60549#32 = ((11928905 * (2 ^ 25)⁻¹ : ℝ) : EReal) := by
  rw [EReal.coe_mul]
  simp [Ideal.ofBits, Ideal.ieee]

/-- The second map's weight, of real vectors. -/
theorem lam_real (a b c d : FVec Ideal Cert.ReferenceIdeal.S1x64 .f32) (ha : ∀ i, a i = (((a i).toReal : ℝ) : EReal))
    (hb : ∀ i, b i = (((b i).toReal : ℝ) : EReal)) (hc : ∀ i, c i = (((c i).toReal : ℝ) : EReal)) (hd : ∀ i, d i = (((d i).toReal : ℝ) : EReal)) :
    ∃ lam : ℝ, Ref.lamV a b c d ix0 = ((lam : ℝ) : EReal) := by
  have sum_real : ∀ x y : FVec Ideal Cert.ReferenceIdeal.S1x64 .f32, (∀ i, x i = (((x i).toReal : ℝ) : EReal)) → (∀ i, y i = (((y i).toReal : ℝ) : EReal)) →
      ∑ e : Fin 64, x (ix2 0 e) * y (ix2 0 e) = ((∑ e : Fin 64, (x (ix2 0 e)).toReal * (y (ix2 0 e)).toReal : ℝ) : EReal) := fun x y hx hy => by
    rw [coe_sum]
    exact Finset.sum_congr rfl fun e _ => by rw [EReal.coe_mul, ← hx, ← hy]
  rw [Ref.lamV_apply, sum_real a b ha hb, sum_real c d hc hd, ofBits_init, Ideal.exp_coe, Ideal.exp_coe, ← EReal.coe_sub, ← EReal.coe_add]
  exact ⟨_, rfl⟩

/-- Finite arguments are real. -/
theorem real_args (m : (ℓ : Loc nD τ sig) → Buf (Elt Ideal) ℓ) (h : Pre_KernelIdeal_finite (hPre_finite := facts_finite) m) (c : Dev nD) :
    ∃ P lam, RealArgs m c P lam := by
  obtain ⟨h0, h1, h2, h3, h4⟩ := h c
  obtain ⟨lam, hl⟩ := lam_real _ _ _ _ (real_of_finite _ _ (fun _ => rfl) h1) (real_of_finite _ _ (fun _ => rfl) h2)
    (real_of_finite _ _ (fun _ => rfl) h3) (real_of_finite _ _ (fun _ => rfl) h4)
  exact ⟨fun b n j => (m ((c.tc : Thread nD τ).loc main_arg0) (ix3 b n j)).toReal, lam,
    fun b n j => real_of_finite _ _ (fun _ => rfl) h0 _, hl⟩

end Cert.Proof.Steps
-- ==== Proof.Rows.lean ====
/- The mathematics of one row over the extended reals: the normalisation, the output product and the feed-forward. -/
module

public import Idealize.ShloMosaic.Lib.Pointwise
public import Idealize.ShloMosaic.Lib.KernelVsHost

@[expose] public section

noncomputable section

namespace Cert.Proof.Rows

open Idealize.ShloMosaic

/-- A row over its root mean square, times a gain. -/
def rms (w g : Fin 1024 → EReal) (d : Fin 1024) : EReal :=
  w d * Ideal.rsqrt (Ideal.div (∑ e : Fin 1024, w e * w e) (Ideal.ofBits .f32 0x44800000#32) + Ideal.ofBits .f32 0x358637BD#32) * g d

/-- The square of the positive part. -/
def sq (x : EReal) : EReal := max x 0 * max x 0

/-- The feed-forward of a row, added to it. -/
def mlp (w g : Fin 1024 → EReal) (u : Fin 1024 → Fin 4096 → EReal) (v : Fin 4096 → Fin 1024 → EReal) (d : Fin 1024) : EReal :=
  w d + ∑ f : Fin 4096, sq (∑ e : Fin 1024, rms w g e * u e f) * v f d

/-- A quarter of the feed-forward's columns, from column `o`. -/
def quarter (h : Fin 1024 → EReal) (u : Fin 1024 → Fin 1024 → EReal) (v : Fin 1024 → Fin 1024 → EReal) (d : Fin 1024) : EReal :=
  ∑ f : Fin 1024, sq (∑ e : Fin 1024, h e * u e f) * v f d

/-- A sum over four thousand and ninety-six columns, by quarters. -/
theorem sum_quarters (F : Fin 4096 → EReal) : (∑ f, F f)
    = (∑ f : Fin 1024, F ⟨f.val, by omega⟩) + (∑ f : Fin 1024, F ⟨1024 + f.val, by omega⟩) + (∑ f : Fin 1024, F ⟨2048 + f.val, by omega⟩) + ∑ f : Fin 1024, F ⟨3072 + f.val, by omega⟩ := by
  have h3 := Fin.sum_univ_add (a := 3072) (b := 1024) F
  have h2 := Fin.sum_univ_add (a := 2048) (b := 1024) (fun f => F (Fin.castAdd 1024 f))
  have h1 := Fin.sum_univ_add (a := 1024) (b := 1024) (fun f => F (Fin.castAdd 1024 (Fin.castAdd 1024 f)))
  refine h3.trans ?_
  rw [h2, h1]
  rfl

/-- The quarters added one after the other to the row are the feed-forward. -/
theorem mlp_quarters (w g : Fin 1024 → EReal) (u : Fin 1024 → Fin 4096 → EReal) (v : Fin 4096 → Fin 1024 → EReal) (d : Fin 1024) :
    w d + quarter (rms w g) (fun e f => u e ⟨0 + f.val, by omega⟩) (fun f => v ⟨0 + f.val, by omega⟩) d
      + quarter (rms w g) (fun e f => u e ⟨1024 + f.val, by omega⟩) (fun f => v ⟨1024 + f.val, by omega⟩) d
      + quarter (rms w g) (fun e f => u e ⟨2048 + f.val, by omega⟩) (fun f => v ⟨2048 + f.val, by omega⟩) d
      + quarter (rms w g) (fun e f => u e ⟨3072 + f.val, by omega⟩) (fun f => v ⟨3072 + f.val, by omega⟩) d = mlp w g u v d := by
  unfold mlp quarter
  rw [sum_quarters]
  simp only [add_assoc, Nat.zero_add]

end Cert.Proof.Rows
-- ==== Proof.Post.lean ====
/- The odd layer's output product, feed-forward and final normalisation: the kernel's result over the extended reals is the reference's. -/
module

public import proofs.«01_k».proof.Defs
public import proofs.«01_k».proof.Proof.Rows
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Adequacy
public import Idealize.ShloMosaic.Init
public import Idealize.ShloMosaic.Lib.Quiescent

@[expose] public section

noncomputable section

namespace Cert.Proof.Post

open Idealize.ShloMosaic Idealize.ShloMosaic.TcCoe Idealize.ShloMosaic.StableHlo

/-! ## The reference at an index -/

section Ref
open Cert.Reference2Ideal Cert.Reference2Ideal.Gen

/-- The input plus the attention's output product. -/
def refMixed (x : FVec Ideal S16384x1024 .f32) (a : FVec Ideal S16384x1024 .bf16) (w : FVec Ideal S1x1024x1024 .f32) : FVec Ideal S16384x1024 .f32 :=
  addf x (Host.dotGeneral dot_S16384x1024_S1024x1024_S16384x1024_1_0_0_1_n_n none (extf .f32 a bitsLt_bf16_f32) (shapeCast S1024x1024 w shapeCasts_S1x1024x1024_S1024x1024))

/-- The normalised rows, times a gain. -/
def refRms (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The layer's gain. -/
def refGain (g : FVec Ideal S2x1024 .f32) : FVec Ideal S1024 .f32 :=
  shapeCast S1024 (extractStridedSlice S1x1024 ![1, 0] g slices_S2x1024_S1x1024_1_0) shapeCasts_S1x1024_S1024

/-- The feed-forward's first product. -/
def refUp (h : FVec Ideal S16384x1024 .f32) (u : FVec Ideal S2x1024x4096 .f32) : FVec Ideal S16384x4096 .f32 :=
  Host.dotGeneral dot_S16384x1024_S1024x4096_S16384x4096_1_0_0_1_n_n none h (shapeCast S1024x4096 (extractStridedSlice S1x1024x4096 ![1, 0, 0] u slices_S2x1024x4096_S1x1024x4096_1_0_0) shapeCasts_S1x1024x4096_S1024x4096)

/-- The square of the positive part. -/
def refSq (z : FVec Ideal S16384x4096 .f32) : FVec Ideal S16384x4096 .f32 :=
  mulf (maximumf z (broadcastInDim S16384x4096 ![] bcast_S_S16384x4096 (constant S_ .f32 0x00000000#32))) (maximumf z (broadcastInDim S16384x4096 ![] bcast_S_S16384x4096 (constant S_ .f32 0x00000000#32)))

/-- The feed-forward, added to the rows. -/
def refMlp (y : FVec Ideal S16384x1024 .f32) (g : FVec Ideal S2x1024 .f32) (u : FVec Ideal S2x1024x4096 .f32) (v : FVec Ideal S2x4096x1024 .f32) : FVec Ideal S16384x1024 .f32 :=
  addf y (Host.dotGeneral dot_S16384x4096_S4096x1024_S16384x1024_1_0_0_1_n_n none (refSq (refUp (refRms y (refGain g)) u)) (shapeCast S4096x1024 (extractStridedSlice S1x4096x1024 ![1, 0, 0] v slices_S2x4096x1024_S1x4096x1024_1_0_0) shapeCasts_S1x4096x1024_S4096x1024))

/-- The reference's result. -/
def refOut (x : FVec Ideal S16384x1024 .f32) (a : FVec Ideal S16384x1024 .bf16) (w : FVec Ideal S1x1024x1024 .f32) (g : FVec Ideal S2x1024 .f32)
    (u : FVec Ideal S2x1024x4096 .f32) (v : FVec Ideal S2x4096x1024 .f32) (f : FVec Ideal S1024 .f32) : FVec Ideal S16384x1024 .f32 :=
  refRms (refMlp (refMixed x a w) g u v) f

/-- The mixed rows at an index. -/
theorem refMixed_apply (x : FVec Ideal S16384x1024 .f32) (a : FVec Ideal S16384x1024 .bf16) (w : FVec Ideal S1x1024x1024 .f32) (r : Fin 16384) (d : Fin 1024) :
    refMixed x a w (ix2 r d) = x (ix2 r d) + ∑ e : Fin 1024, a (ix2 r e) * w (ix3 0 e d) := by
  pointwise [refMixed]

/-- A normalised row at an index. -/
theorem refRms_apply (y : FVec Ideal S16384x1024 .f32) (g : FVec Ideal S1024 .f32) (r : Fin 16384) (d : Fin 1024) :
    refRms y g (ix2 r d) = Rows.rms (fun e => y (ix2 r e)) (fun e => g (ix1 e)) d := by
  pointwise [refRms]
  rfl

/-- The gain at an index. -/
theorem refGain_apply (g : FVec Ideal S2x1024 .f32) (d : Fin 1024) : refGain g (ix1 d) = g (ix2 1 d) := by
  pointwise [refGain]

/-- The first product at an index. -/
theorem refUp_apply (h : FVec Ideal S16384x1024 .f32) (u : FVec Ideal S2x1024x4096 .f32) (r : Fin 16384) (f : Fin 4096) :
    refUp h u (ix2 r f) = ∑ e : Fin 1024, h (ix2 r e) * u (ix3 1 e f) := by
  pointwise [refUp]

/-- The square at an index. -/
theorem refSq_apply (z : FVec Ideal S16384x4096 .f32) (r : Fin 16384) (f : Fin 4096) : refSq z (ix2 r f) = Rows.sq (z (ix2 r f)) := by
  pointwise [refSq]
  rfl

/-- The feed-forward at an index. -/
theorem refMlp_apply (y : FVec Ideal S16384x1024 .f32) (g : FVec Ideal S2x1024 .f32) (u : FVec Ideal S2x1024x4096 .f32) (v : FVec Ideal S2x4096x1024 .f32) (r : Fin 16384) (d : Fin 1024) :
    refMlp y g u v (ix2 r d) = Rows.mlp (fun e => y (ix2 r e)) (fun e => g (ix2 1 e)) (fun e f => u (ix3 1 e f)) (fun f d => v (ix3 1 f d)) d := by
  pointwise [refMlp]
  simp only [refSq_apply, refUp_apply, refRms_apply, refGain_apply]
  rfl

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference2Ideal.Value.run m ρ

end Ref

/-! ## The kernel's block at an index -/

open Cert.Kernel2Ideal Cert.Kernel2Ideal.Gen

/-- The zero offsets. -/
theorem hz : (![0, 0] : Fin 2 → Nat) = fun _ => 0 := funext fun a => by fin_cases a <;> rfl

/-- The final normalisation of the block's rows. -/
theorem pay1_apply (x : Vec Ideal S512x1024 .f32) (g : Vec Ideal S1x1024 .f32) (r : Fin 512) (d : Fin 1024) :
    k0_pay1 (F := Ideal) x g (ix2 r d) = Rows.rms (fun e => x (ix2 r e)) (fun e => g (ix2 0 e)) d := by
  pointwise [k0_pay1]
  rfl

/-- The block's mixed rows. -/
theorem pay2_apply (x : Vec Ideal S512x1024 .f32) (a : Vec Ideal S512x1024 .bf16) (w : Vec Ideal S1024x1024 .bf16) (r : Fin 512) (d : Fin 1024) :
    k0_pay2 x a w (ix2 r d) = x (ix2 r d) + ∑ e : Fin 1024, a (ix2 r e) * w (ix2 e d) := by
  pointwise [k0_pay2]

/-- The block's normalised rows. -/
theorem pay3_apply (x : Vec Ideal S512x1024 .f32) (g : Vec Ideal S1x1024 .f32) (r : Fin 512) (d : Fin 1024) :
    k0_pay3 x g (ix2 r d) = Rows.rms (fun e => x (ix2 r e)) (fun e => g (ix2 0 e)) d := by
  pointwise [k0_pay3]
  rfl

/-- The first quarter of the feed-forward's columns. -/
theorem pay4_apply (h : Vec Ideal S512x1024 .bf16) (u : Vec Ideal S1024x1024 .bf16) (x : Vec Ideal S512x1024 .f32) (v : Vec Ideal S1024x1024 .bf16) (r : Fin 512) (d : Fin 1024) :
    k0_pay4 h u x v (ix2 r d) = x (ix2 r d) + Rows.quarter (fun e => h (ix2 r e)) (fun e f => u (ix2 e f)) (fun f d => v (ix2 f d)) d := by
  pointwise [k0_pay4]
  rfl

/-- The second quarter of the feed-forward's columns. -/
theorem pay5_apply (h : Vec Ideal S512x1024 .bf16) (u : Vec Ideal S1024x1024 .bf16) (x : Vec Ideal S512x1024 .f32) (v : Vec Ideal S1024x1024 .bf16) (r : Fin 512) (d : Fin 1024) :
    k0_pay5 h u x v (ix2 r d) = x (ix2 r d) + Rows.quarter (fun e => h (ix2 r e)) (fun e f => u (ix2 e f)) (fun f d => v (ix2 f d)) d := by
  pointwise [k0_pay5]
  rfl

/-- The third quarter of the feed-forward's columns. -/
theorem pay6_apply (h : Vec Ideal S512x1024 .bf16) (u : Vec Ideal S1024x1024 .bf16) (x : Vec Ideal S512x1024 .f32) (v : Vec Ideal S1024x1024 .bf16) (r : Fin 512) (d : Fin 1024) :
    k0_pay6 h u x v (ix2 r d) = x (ix2 r d) + Rows.quarter (fun e => h (ix2 r e)) (fun e f => u (ix2 e f)) (fun f d => v (ix2 f d)) d := by
  pointwise [k0_pay6]
  rfl

/-- The last quarter of the feed-forward's columns. -/
theorem pay7_apply (h : Vec Ideal S512x1024 .bf16) (u : Vec Ideal S1024x1024 .bf16) (x : Vec Ideal S512x1024 .f32) (v : Vec Ideal S1024x1024 .bf16) (r : Fin 512) (d : Fin 1024) :
    k0_pay7 h u x v (ix2 r d) = x (ix2 r d) + Rows.quarter (fun e => h (ix2 r e)) (fun e f => u (ix2 e f)) (fun f d => v (ix2 f d)) d := by
  pointwise [k0_pay7]
  rfl

/-- The sum of the stages is read as it is. -/
theorem pay8_apply (x : Vec Ideal S512x1024 .f32) (r : Fin 512) (d : Fin 1024) : k0_pay8 x (ix2 r d) = x (ix2 r d) := by
  pointwise [k0_pay8]

/-- The final gain is read as it is. -/
theorem pay9_apply (x : Vec Ideal S1x1024 .f32) (d : Fin 1024) : k0_pay9 x (ix2 0 d) = x (ix2 0 d) := by
  pointwise [k0_pay9]

/-- A thousand columns of the first weights. -/
theorem ldU_apply (x : Vec Ideal S1024x4096 .bf16) (o : Nat) (inb : ∀ a, (![0, o] : Fin 2 → Nat) a + (![1024, 1024] : Fin 2 → Nat) a ≤ S1024x4096.size a) (e f : Fin 1024) (h : o + f.val < 4096) :
    View.ld x (Rect.unit ![0, o] ![1024, 1024] inb) (ix2 e f) = x (ix2 e ⟨o + f.val, h⟩) := by
  refine congrArg x (funext fun a => Fin.ext ?_)
  match a with
  | ⟨0, _⟩ => show 0 + 1 * e.val = e.val; omega
  | ⟨1, _⟩ => show o + 1 * f.val = o + f.val; omega

/-- A thousand rows of the second weights. -/
theorem ldV_apply (x : Vec Ideal S4096x1024 .bf16) (o : Nat) (inb : ∀ a, (![o, 0] : Fin 2 → Nat) a + (![1024, 1024] : Fin 2 → Nat) a ≤ S4096x1024.size a) (f d : Fin 1024) (h : o + f.val < 4096) :
    View.ld x (Rect.unit ![o, 0] ![1024, 1024] inb) (ix2 f d) = x (ix2 ⟨o + f.val, h⟩ d) := by
  refine congrArg x (funext fun a => Fin.ext ?_)
  match a with
  | ⟨0, _⟩ => show o + 1 * f.val = o + f.val; omega
  | ⟨1, _⟩ => show 0 + 1 * d.val = d.val; omega

/-- The four quarters, added one after the other to the mixed rows. -/
def stages (o : FVec Ideal S512x1024 .f32) (g : Vec Ideal S1x1024 .f32) (u : Vec Ideal S1024x4096 .bf16) (v : Vec Ideal S4096x1024 .bf16) : FVec Ideal S512x1024 .f32 :=
  k0_pay7 (k0_pay3 o g) (View.ld u (Rect.unit ![0, 3072] ![1024, 1024] inb_S1024x4096_S1024x1024_0_3072))
    (k0_pay6 (k0_pay3 o g) (View.ld u (Rect.unit ![0, 2048] ![1024, 1024] inb_S1024x4096_S1024x1024_0_2048))
      (k0_pay5 (k0_pay3 o g) (View.ld u (Rect.unit ![0, 1024] ![1024, 1024] inb_S1024x4096_S1024x1024_0_1024))
        (k0_pay4 (k0_pay3 o g) (View.ld u (Rect.unit ![0, 0] ![1024, 1024] inb_S1024x4096_S1024x1024_0_0)) o
          (View.ld v (Rect.unit ![0, 0] ![1024, 1024] inb_S4096x1024_S1024x1024_0_0)))
        (View.ld v (Rect.unit ![1024, 0] ![1024, 1024] inb_S4096x1024_S1024x1024_1024_0)))
      (View.ld v (Rect.unit ![2048, 0] ![1024, 1024] inb_S4096x1024_S1024x1024_2048_0)))
    (View.ld v (Rect.unit ![3072, 0] ![1024, 1024] inb_S4096x1024_S1024x1024_3072_0))

/-- They are the feed-forward. -/
theorem stages_apply (o : FVec Ideal S512x1024 .f32) (g : Vec Ideal S1x1024 .f32) (u : Vec Ideal S1024x4096 .bf16) (v : Vec Ideal S4096x1024 .bf16) (r : Fin 512) (d : Fin 1024) :
    stages o g u v (ix2 r d) = Rows.mlp (fun e => o (ix2 r e)) (fun e => g (ix2 0 e)) (fun e k => u (ix2 e k)) (fun k d => v (ix2 k d)) d := by
  refine Eq.trans ?_ (Rows.mlp_quarters _ _ _ _ d)
  unfold stages
  rw [pay7_apply, pay6_apply, pay5_apply, pay4_apply]
  have hh : (fun e : Fin 1024 => k0_pay3 o g (ix2 r e)) = Rows.rms (fun e => o (ix2 r e)) (fun e => g (ix2 0 e)) := funext fun e => pay3_apply o g r e
  rw [hh]
  exact congrArg₂ (· + ·) (congrArg₂ (· + ·) (congrArg₂ (· + ·) (congrArg (_ + ·)
    (congrFun (congrArg₂ (Rows.quarter _) (funext fun e => funext fun f => ldU_apply u 0 _ e f (by omega)) (funext fun f => funext fun d => ldV_apply v 0 _ f d (by omega))) d))
    (congrFun (congrArg₂ (Rows.quarter _) (funext fun e => funext fun f => ldU_apply u 1024 _ e f (by omega)) (funext fun f => funext fun d => ldV_apply v 1024 _ f d (by omega))) d))
    (congrFun (congrArg₂ (Rows.quarter _) (funext fun e => funext fun f => ldU_apply u 2048 _ e f (by omega)) (funext fun f => funext fun d => ldV_apply v 2048 _ f d (by omega))) d))
    (congrFun (congrArg₂ (Rows.quarter _) (funext fun e => funext fun f => ldU_apply u 3072 _ e f (by omega)) (funext fun f => funext fun d => ldV_apply v 3072 _ f d (by omega))) d)

/-- A block of the result. -/
def blkOut (x : Vec Ideal S512x1024 .f32) (a : Vec Ideal S512x1024 .bf16) (w : Vec Ideal S1024x1024 .bf16) (g : Vec Ideal S1x1024 .f32) (u : Vec Ideal S1024x4096 .bf16) (v : Vec Ideal S4096x1024 .bf16) (f : Vec Ideal S1x1024 .f32) : Vec Ideal S512x1024 .f32 :=
  fun y => Rows.rms (Rows.mlp (fun d => x (ix2 (y 0) d) + ∑ e : Fin 1024, a (ix2 (y 0) e) * w (ix2 e d)) (fun e => g (ix2 0 e)) (fun e k => u (ix2 e k)) (fun k d => v (ix2 k d))) (fun e => f (ix2 0 e)) (y 1)

/-- A read of the whole of what was last written whole. -/
theorem readCov_whole {e : EltTy} {sp : Space} (v : View sig .tc sp S512x1024 e) (w : S512x1024.Idx → Elt Ideal e) (L : List (View.Piece (Elt Ideal) S512x1024 e)) :
    v.readCov ((⟨Rect.unit ![0, 0] ![512, 1024] inb_S512x1024_S512x1024_0_0, w⟩ : View.Piece (Elt Ideal) S512x1024 e) :: L)
      (Rect.unit ![0, 0] ![512, 1024] inb_S512x1024_S512x1024_0_0).toLoadRect = w :=
  View.readCov_cons_unit_lit' (S := S512x1024) v _ _ w L (fun a => congrFun hz a) (fun a => congrFun hz a)

/-- What a point leaves. -/
theorem out_eq (c : Dev nD) (i : grid0.Coords) (a1 : Memref sig .tc .vmem S512x1024 .f32) (h1 : a1.IsWhole) (a2 : Memref sig .tc .vmem S512x1024 .bf16) (h2 : a2.IsWhole)
    (a3 : Memref sig .tc .vmem S1024x1024 .bf16) (h3 : a3.IsWhole) (a4 : Memref sig .tc .vmem S1x1024 .f32) (h4 : a4.IsWhole)
    (a5 : Memref sig .tc .vmem S1024x4096 .bf16) (h5 : a5.IsWhole) (a6 : Memref sig .tc .vmem S4096x1024 .bf16) (h6 : a6.IsWhole)
    (a7 : Memref sig .tc .vmem S1x1024 .f32) (h7 : a7.IsWhole) (a8 : Memref sig .tc .vmem S512x1024 .f32) (h8 : a8.IsWhole) (a9 : Memref sig .tc .vmem S512x1024 .bf16) (h9 : a9.IsWhole)
    (x0 : Vec Ideal S512x1024 .f32) (x1 : Vec Ideal S512x1024 .bf16) (x2 : Vec Ideal S1024x1024 .bf16) (x3 : Vec Ideal S1x1024 .f32) (x4 : Vec Ideal S1024x4096 .bf16) (x5 : Vec Ideal S4096x1024 .bf16) (x6 : Vec Ideal S1x1024 .f32) :
    out0_A_7 c i a1 h1 a2 h2 a3 h3 a4 h4 a5 h5 a6 h6 a7 h7 a8 h8 a9 h9 x0 x1 x2 x3 x4 x5 x6 = blkOut x0 x1 x2 x3 x4 x5 x6 := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    View.canon_cons_unit_zero (S := S512x1024) hz, readCov_whole]
  funext y
  obtain ⟨r, d, rfl⟩ : ∃ (r : Fin 512) (d : Fin 1024), y = (ix2 r d : S512x1024.Idx) := ⟨y 0, y 1, (ix2_eta y).symm⟩
  refine (pay1_apply _ _ r d).trans ?_
  exact congrFun (congrArg₂ Rows.rms (funext fun e => (pay8_apply _ r e).trans ((stages_apply (k0_pay2 x0 x1 x2) x3 x4 x5 r e).trans
      (congrFun (congrArg (fun w => Rows.mlp w _ _ _) (funext fun d => pay2_apply x0 x1 x2 r d)) e)))
    (funext fun e => pay9_apply x6 e)) d

/-! ## The arrays -/

/-- The output weights as the call takes them. -/
def hostW (w : FVec Ideal S1x1024x1024 .f32) : FVec Ideal S1024x1024 .bf16 :=
  truncf .bf16 (shapeCast S1024x1024 w shapeCasts_S1x1024x1024_S1024x1024) bitsLt_bf16_f32

/-- The layer's gain as the call takes it. -/
def hostG (g : FVec Ideal S2x1024 .f32) : FVec Ideal S1x1024 .f32 :=
  shapeCast S1x1024 (shapeCast S1024 (extractStridedSlice S1x1024 ![1, 0] g slices_S2x1024_S1x1024_1_0) shapeCasts_S1x1024_S1024) shapeCasts_S1024_S1x1024

/-- The first weights as the call takes them. -/
def hostU (u : FVec Ideal S2x1024x4096 .f32) : FVec Ideal S1024x4096 .bf16 :=
  truncf .bf16 (shapeCast S1024x4096 (extractStridedSlice S1x1024x4096 ![1, 0, 0] u slices_S2x1024x4096_S1x1024x4096_1_0_0) shapeCasts_S1x1024x4096_S1024x4096) bitsLt_bf16_f32

/-- The second weights as the call takes them. -/
def hostV (v : FVec Ideal S2x4096x1024 .f32) : FVec Ideal S4096x1024 .bf16 :=
  truncf .bf16 (shapeCast S4096x1024 (extractStridedSlice S1x4096x1024 ![1, 0, 0] v slices_S2x4096x1024_S1x4096x1024_1_0_0) shapeCasts_S1x4096x1024_S4096x1024) bitsLt_bf16_f32

/-- The final gain as the call takes it. -/
def hostF (f : FVec Ideal S1024 .f32) : FVec Ideal S1x1024 .f32 := shapeCast S1x1024 f shapeCasts_S1024_S1x1024

/-- The output weights at an index. -/
theorem hostW_apply (w : FVec Ideal S1x1024x1024 .f32) (e d : Fin 1024) : hostW w (ix2 e d) = w (ix3 0 e d) := by
  pointwise [hostW]

/-- The gain at an index. -/
theorem hostG_apply (g : FVec Ideal S2x1024 .f32) (d : Fin 1024) : hostG g (ix2 0 d) = g (ix2 1 d) := by
  pointwise [hostG]

/-- The first weights at an index. -/
theorem hostU_apply (u : FVec Ideal S2x1024x4096 .f32) (e : Fin 1024) (f : Fin 4096) : hostU u (ix2 e f) = u (ix3 1 e f) := by
  pointwise [hostU]

/-- The second weights at an index. -/
theorem hostV_apply (v : FVec Ideal S2x4096x1024 .f32) (f : Fin 4096) (d : Fin 1024) : hostV v (ix2 f d) = v (ix3 1 f d) := by
  pointwise [hostV]

/-- The final gain at an index. -/
theorem hostF_apply (f : FVec Ideal S1024 .f32) (d : Fin 1024) : hostF f (ix2 0 d) = f (ix1 d) := by
  pointwise [hostF]

section Arr
variable (m : (ℓ : Loc nD τ sig) → Buf (Elt Ideal) ℓ) (c : Dev nD)

/-- The call's output weights. -/
theorem V_w : V m c main_v7 = hostW (m ((c.tc : Thread nD τ).loc main_arg2)) := by
  unfold V
  after_results
  rfl

/-- The call's gain. -/
theorem V_g : V m c main_v8 = hostG (m ((c.tc : Thread nD τ).loc main_arg3)) := by
  unfold V
  after_results
  rfl

/-- The call's first weights. -/
theorem V_u : V m c main_v9 = hostU (m ((c.tc : Thread nD τ).loc main_arg4)) := by
  unfold V
  after_results
  rfl

/-- The call's second weights. -/
theorem V_v : V m c main_v10 = hostV (m ((c.tc : Thread nD τ).loc main_arg5)) := by
  unfold V
  after_results
  rfl

/-- The call's final gain. -/
theorem V_f : V m c main_v11 = hostF (m ((c.tc : Thread nD τ).loc main_arg6)) := by
  unfold V
  after_results
  rfl

/-- The tile of rows of a point. -/
def tOf (t : Fin cfg0.N) : Fin 32 := ⟨(grid0.coords t 0).val, (grid0.coords t 0).isLt⟩

/-- The block of the input's rows that a point reads. -/
theorem idx0 : ∀ t : Fin cfg0.N, win0_0.index t = ![(tOf t).val, 0] := (by decide +kernel : ∀ t : Fin grid0.N, _)
/-- The block of the attention's rows that a point reads. -/
theorem idx1 : ∀ t : Fin cfg0.N, win0_1.index t = ![(tOf t).val, 0] := (by decide +kernel : ∀ t : Fin grid0.N, _)
/-- The output weights' one block. -/
theorem idx2 : ∀ t : Fin cfg0.N, win0_2.index t = ![0, 0] := (by decide +kernel : ∀ t : Fin grid0.N, _)
/-- The gain's one block. -/
theorem idx3 : ∀ t : Fin cfg0.N, win0_3.index t = ![0, 0] := (by decide +kernel : ∀ t : Fin grid0.N, _)
/-- The first weights' one block. -/
theorem idx4 : ∀ t : Fin cfg0.N, win0_4.index t = ![0, 0] := (by decide +kernel : ∀ t : Fin grid0.N, _)
/-- The second weights' one block. -/
theorem idx5 : ∀ t : Fin cfg0.N, win0_5.index t = ![0, 0] := (by decide +kernel : ∀ t : Fin grid0.N, _)
/-- The final gain's one block. -/
theorem idx6 : ∀ t : Fin cfg0.N, win0_6.index t = ![0, 0] := (by decide +kernel : ∀ t : Fin grid0.N, _)
/-- The block of rows that a point writes. -/
theorem idx7 : ∀ t : Fin cfg0.N, win0_7.index t = ![(tOf t).val, 0] := (by decide +kernel : ∀ t : Fin grid0.N, _)

/-- The blocks written cover the result. -/
theorem cov7 : (cfg0.win 7).Covers := by decide +kernel

/-- A block of the input's rows. -/
theorem iblk0_apply (t : Fin cfg0.N) (r : Fin 512) (d : Fin 1024) : (iblk m c 0 t : Vec Ideal S512x1024 .f32) (ix2 r d)
    = m ((c.tc : Thread nD τ).loc main_arg0) (ix2 ⟨(tOf t).val * 512 + r.val, by omega⟩ d) := by
  have e : ((cfg0.win 0).blk t).view.emb (ix2 r d) = (ix2 ⟨(tOf t).val * 512 + r.val, by omega⟩ d : S16384x1024.Idx) := by
    blk_ext [idx0]
  blk_simp [iblk]
  rw [e, V_main_arg0]

/-- A block of the attention's rows. -/
theorem iblk1_apply (t : Fin cfg0.N) (r : Fin 512) (d : Fin 1024) : (iblk m c 1 t : Vec Ideal S512x1024 .bf16) (ix2 r d)
    = m ((c.tc : Thread nD τ).loc main_arg1) (ix2 ⟨(tOf t).val * 512 + r.val, by omega⟩ d) := by
  have e : ((cfg0.win 1).blk t).view.emb (ix2 r d) = (ix2 ⟨(tOf t).val * 512 + r.val, by omega⟩ d : S16384x1024.Idx) := by
    blk_ext [idx1]
  blk_simp [iblk]
  rw [e, V_main_arg1]

/-- The output weights' block. -/
theorem iblk2_apply (t : Fin cfg0.N) (e d : Fin 1024) : (iblk m c 2 t : Vec Ideal S1024x1024 .bf16) (ix2 e d)
    = m ((c.tc : Thread nD τ).loc main_arg2) (ix3 0 e d) := by
  have h : ((cfg0.win 2).blk t).view.emb (ix2 e d) = (ix2 e d : S1024x1024.Idx) := by
    blk_ext [idx2]
  blk_simp [iblk]
  rw [h, V_w]
  exact hostW_apply _ e d

/-- The gain's block. -/
theorem iblk3_apply (t : Fin cfg0.N) (d : Fin 1024) : (iblk m c 3 t : Vec Ideal S1x1024 .f32) (ix2 0 d)
    = m ((c.tc : Thread nD τ).loc main_arg3) (ix2 1 d) := by
  have h : ((cfg0.win 3).blk t).view.emb (ix2 0 d) = (ix2 0 d : S1x1024.Idx) := by
    blk_ext [idx3]
  blk_simp [iblk]
  rw [h, V_g]
  exact hostG_apply _ d

/-- The first weights' block. -/
theorem iblk4_apply (t : Fin cfg0.N) (e : Fin 1024) (f : Fin 4096) : (iblk m c 4 t : Vec Ideal S1024x4096 .bf16) (ix2 e f)
    = m ((c.tc : Thread nD τ).loc main_arg4) (ix3 1 e f) := by
  have h : ((cfg0.win 4).blk t).view.emb (ix2 e f) = (ix2 e f : S1024x4096.Idx) := by
    blk_ext [idx4]
  blk_simp [iblk]
  rw [h, V_u]
  exact hostU_apply _ e f

/-- The second weights' block. -/
theorem iblk5_apply (t : Fin cfg0.N) (f : Fin 4096) (d : Fin 1024) : (iblk m c 5 t : Vec Ideal S4096x1024 .bf16) (ix2 f d)
    = m ((c.tc : Thread nD τ).loc main_arg5) (ix3 1 f d) := by
  have h : ((cfg0.win 5).blk t).view.emb (ix2 f d) = (ix2 f d : S4096x1024.Idx) := by
    blk_ext [idx5]
  blk_simp [iblk]
  rw [h, V_v]
  exact hostV_apply _ f d

/-- The final gain's block. -/
theorem iblk6_apply (t : Fin cfg0.N) (d : Fin 1024) : (iblk m c 6 t : Vec Ideal S1x1024 .f32) (ix2 0 d)
    = m ((c.tc : Thread nD τ).loc main_arg6) (ix1 d) := by
  have h : ((cfg0.win 6).blk t).view.emb (ix2 0 d) = (ix2 0 d : S1x1024.Idx) := by
    blk_ext [idx6]
  blk_simp [iblk]
  rw [h, V_f]
  exact hostF_apply _ d

/-- The reference's result of the kernel's arguments. -/
def resR : FVec Ideal S16384x1024 .f32 :=
  refOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- A point's block is its rows of the reference's result. -/
theorem point_eq (t : Fin cfg0.N) (r : Fin 512) (d : Fin 1024) :
    blkOut (iblk m c 0 t) (iblk m c 1 t) (iblk m c 2 t) (iblk m c 3 t) (iblk m c 4 t) (iblk m c 5 t) (iblk m c 6 t) (ix2 r d)
    = resR m c (ix2 ⟨(tOf t).val * 512 + r.val, by omega⟩ d) := by
  refine Eq.trans ?_ (refRms_apply _ _ _ _).symm
  refine congrFun (congrArg₂ Rows.rms (funext fun e => Eq.trans ?_ (refMlp_apply _ _ _ _ _ e).symm) (funext fun e => iblk6_apply m c t e)) d
  refine congrFun (congr (congr (congrArg₂ Rows.mlp (funext fun d => Eq.trans ?_ (refMixed_apply _ _ _ _ d).symm) (funext fun e => iblk3_apply m c t e))
    (funext fun e => funext fun k => iblk4_apply m c t e k)) (funext fun k => funext fun d => iblk5_apply m c t k d)) e
  exact congrArg₂ (· + ·) (iblk0_apply m c t _ d) (Finset.sum_congr (M := EReal) rfl fun k _ => congrArg₂ (· * ·) (iblk1_apply m c t _ k) (iblk2_apply m c t k d))

/-- The kernel's result array is the reference's. -/
theorem arrAt_eq : (dats m 0 c).arrAt 7 cfg0.N = resR m c := by
  refine (dats m 0 c).arrAt_eq_of_covers 7 _ cov7 fun t _ y => ?_
  blk_simp
  rw [after0_7]
  obtain ⟨r, n, rfl⟩ : ∃ (r : Fin 512) (n : Fin 1024), y = (ix2 r n : S512x1024.Idx) := ⟨y 0, y 1, (ix2_eta y).symm⟩
  have e : ((cfg0.win 7).blk t).view.emb (ix2 r n) = (ix2 ⟨(tOf t).val * 512 + r.val, by omega⟩ n : S16384x1024.Idx) := by
    blk_ext [idx7]
  rw [e]
  unfold outsAt0
  rw [out_eq]
  exact point_eq m c t r n

end Arr

/-! ## The claims -/

/-- The kernel's frame. -/
theorem frame_kernel : Cert.quiescent_Kernel2 := fun m ρ _ =>
  (θ_run Cert.Kernel2.defs _ _).mono (fun _ h => h) (Cert.Kernel2.Gen.frame m ρ)

/-- The idealized kernel's frame. -/
theorem frame_ideal : Cert.quiescent_Kernel2Ideal := fun m ρ _ =>
  (θ_run Cert.Kernel2Ideal.defs _ _).mono (fun _ h => h) (Cert.Kernel2Ideal.Gen.frame m ρ)

/-- The reference's frame. -/
theorem frame_reference : Cert.quiescent_Reference2Ideal := fun m ρ _ =>
  (θ_run Cert.Reference2Ideal.defs _ _).mono
    (fun r h => ⟨fun c => (h c).2, sem_eq_zero_of_no_sems (by decide) r.2⟩)
    (ref_run m ρ)

/-- From the same arguments the kernel and the reference end with the same result. -/
theorem value : Cert.algebraic_Kernel2Ideal_Reference2Ideal := fun m ρ m' ρ' _ hm =>
  ⟨fun c => resR m c,
    (θ_run Cert.Kernel2Ideal.defs _ _).mono (fun _ hr c => ⟨(hr c).1.trans (arrAt_eq m c), (hr c).2⟩)
      (Cert.Kernel2Ideal.Value.run_blocks m ρ),
    (θ_run Cert.Reference2Ideal.defs _ _).mono (fun _ hr c => ⟨(hr c).1.trans (by
        obtain ⟨h0, h1, h2, h3, h4, h5, h6⟩ := hm c
        rw [h0, h1, h2, h3, h4, h5, h6]
        rfl), (hr c).2⟩)
      (ref_run m' ρ')⟩

end Cert.Proof.Post
-- ==== Proof.Post0.lean ====
/- The even layer's output product and feed-forward: the kernel's result over the extended reals is the reference's. -/
module

public import proofs.«01_k».proof.Defs
public import proofs.«01_k».proof.Proof.Rows
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Adequacy
public import Idealize.ShloMosaic.Init
public import Idealize.ShloMosaic.Lib.Quiescent

@[expose] public section

noncomputable section

namespace Cert.Proof.Post0

open Idealize.ShloMosaic Idealize.ShloMosaic.TcCoe Idealize.ShloMosaic.StableHlo

/-! ## The reference at an index -/

section Ref
open Cert.Reference3Ideal Cert.Reference3Ideal.Gen

/-- The attention's and the convolution's columns side by side. -/
def refCat (a c : FVec Ideal S16384x512 .bf16) : FVec Ideal S16384x1024 .bf16 :=
  concatenate S16384x1024 1 [⟨S16384x512, a⟩, ⟨S16384x512, c⟩] concatenates_S16384x512_S16384x512_S16384x1024_d1

/-- The input plus the output product. -/
def refMixed (x : FVec Ideal S16384x1024 .f32) (a c : FVec Ideal S16384x512 .bf16) (w : FVec Ideal S1x1024x1024 .f32) : FVec Ideal S16384x1024 .f32 :=
  addf x (Host.dotGeneral dot_S16384x1024_S1024x1024_S16384x1024_1_0_0_1_n_n none (extf .f32 (refCat a c) bitsLt_bf16_f32) (shapeCast S1024x1024 w shapeCasts_S1x1024x1024_S1024x1024))

/-- The normalised rows, times a gain. -/
def refRms (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The layer's gain. -/
def refGain (g : FVec Ideal S2x1024 .f32) : FVec Ideal S1024 .f32 :=
  shapeCast S1024 (extractStridedSlice S1x1024 ![0, 0] g slices_S2x1024_S1x1024_0_0) shapeCasts_S1x1024_S1024

/-- The feed-forward's first product. -/
def refUp (h : FVec Ideal S16384x1024 .f32) (u : FVec Ideal S2x1024x4096 .f32) : FVec Ideal S16384x4096 .f32 :=
  Host.dotGeneral dot_S16384x1024_S1024x4096_S16384x4096_1_0_0_1_n_n none h (shapeCast S1024x4096 (extractStridedSlice S1x1024x4096 ![0, 0, 0] u slices_S2x1024x4096_S1x1024x4096_0_0_0) shapeCasts_S1x1024x4096_S1024x4096)

/-- The square of the positive part. -/
def refSq (z : FVec Ideal S16384x4096 .f32) : FVec Ideal S16384x4096 .f32 :=
  mulf (maximumf z (broadcastInDim S16384x4096 ![] bcast_S_S16384x4096 (constant S_ .f32 0x00000000#32))) (maximumf z (broadcastInDim S16384x4096 ![] bcast_S_S16384x4096 (constant S_ .f32 0x00000000#32)))

/-- The feed-forward, added to the rows. -/
def refMlp (y : FVec Ideal S16384x1024 .f32) (g : FVec Ideal S2x1024 .f32) (u : FVec Ideal S2x1024x4096 .f32) (v : FVec Ideal S2x4096x1024 .f32) : FVec Ideal S16384x1024 .f32 :=
  addf y (Host.dotGeneral dot_S16384x4096_S4096x1024_S16384x1024_1_0_0_1_n_n none (refSq (refUp (refRms y (refGain g)) u)) (shapeCast S4096x1024 (extractStridedSlice S1x4096x1024 ![0, 0, 0] v slices_S2x4096x1024_S1x4096x1024_0_0_0) shapeCasts_S1x4096x1024_S4096x1024))

/-- The reference's result. -/
def refOut (x : FVec Ideal S16384x1024 .f32) (a c : FVec Ideal S16384x512 .bf16) (w : FVec Ideal S1x1024x1024 .f32) (g : FVec Ideal S2x1024 .f32)
    (u : FVec Ideal S2x1024x4096 .f32) (v : FVec Ideal S2x4096x1024 .f32) : FVec Ideal S16384x1024 .f32 :=
  refMlp (refMixed x a c w) g u v

/-- The first half of the columns. -/
theorem refCat_left (a c : FVec Ideal S16384x512 .bf16) (r : Fin 16384) (e : Fin 512) : refCat a c (ix2 r (Fin.castAdd 512 e)) = a (ix2 r e) :=
  concatenate_pair_apply_left (t := S16384x1024) (s₁ := S16384x512) (s₂ := S16384x512) (1 : Fin 2) a c _ _ rfl (ix2 r e)
    fun b => match b with | ⟨0, _⟩ => rfl | ⟨1, _⟩ => rfl

/-- The second half of the columns. -/
theorem refCat_right (a c : FVec Ideal S16384x512 .bf16) (r : Fin 16384) (e : Fin 512) : refCat a c (ix2 r (Fin.natAdd 512 e)) = c (ix2 r e) :=
  concatenate_pair_apply_right (t := S16384x1024) (s₁ := S16384x512) (s₂ := S16384x512) (1 : Fin 2) a c _ _ rfl rfl (ix2 r e)
    (fun b hb => match b, hb with | ⟨0, _⟩, _ => rfl | ⟨1, _⟩, hb => absurd rfl hb) (Nat.add_comm _ _)

/-- The mixed rows at an index. -/
theorem refMixed_apply (x : FVec Ideal S16384x1024 .f32) (a c : FVec Ideal S16384x512 .bf16) (w : FVec Ideal S1x1024x1024 .f32) (r : Fin 16384) (d : Fin 1024) :
    refMixed x a c w (ix2 r d) = x (ix2 r d) + (∑ e : Fin 512, a (ix2 r e) * w (ix3 0 ⟨0 + e.val, by omega⟩ d)) + ∑ e : Fin 512, c (ix2 r e) * w (ix3 0 ⟨512 + e.val, by omega⟩ d) := by
  have h : refMixed x a c w (ix2 r d) = x (ix2 r d) + ∑ e : Fin 1024, refCat a c (ix2 r e) * w (ix3 0 e d) := by
    pointwise [refMixed]
  have h2 := Fin.sum_univ_add (M := EReal) (a := 512) (b := 512) (fun e : Fin 1024 => refCat a c (ix2 r e) * w (ix3 0 e d))
  refine (h.trans (congrArg (x (ix2 r d) + ·) h2)).trans ?_
  simp only [refCat_left, refCat_right, Nat.zero_add]
  exact (add_assoc _ _ _).symm

/-- A normalised row at an index. -/
theorem refRms_apply (y : FVec Ideal S16384x1024 .f32) (g : FVec Ideal S1024 .f32) (r : Fin 16384) (d : Fin 1024) :
    refRms y g (ix2 r d) = Rows.rms (fun e => y (ix2 r e)) (fun e => g (ix1 e)) d := by
  pointwise [refRms]
  rfl

/-- The gain at an index. -/
theorem refGain_apply (g : FVec Ideal S2x1024 .f32) (d : Fin 1024) : refGain g (ix1 d) = g (ix2 0 d) := by
  pointwise [refGain]

/-- The first product at an index. -/
theorem refUp_apply (h : FVec Ideal S16384x1024 .f32) (u : FVec Ideal S2x1024x4096 .f32) (r : Fin 16384) (f : Fin 4096) :
    refUp h u (ix2 r f) = ∑ e : Fin 1024, h (ix2 r e) * u (ix3 0 e f) := by
  pointwise [refUp]

/-- The square at an index. -/
theorem refSq_apply (z : FVec Ideal S16384x4096 .f32) (r : Fin 16384) (f : Fin 4096) : refSq z (ix2 r f) = Rows.sq (z (ix2 r f)) := by
  pointwise [refSq]
  rfl

/-- The feed-forward at an index. -/
theorem refMlp_apply (y : FVec Ideal S16384x1024 .f32) (g : FVec Ideal S2x1024 .f32) (u : FVec Ideal S2x1024x4096 .f32) (v : FVec Ideal S2x4096x1024 .f32) (r : Fin 16384) (d : Fin 1024) :
    refMlp y g u v (ix2 r d) = Rows.mlp (fun e => y (ix2 r e)) (fun e => g (ix2 0 e)) (fun e f => u (ix3 0 e f)) (fun f d => v (ix3 0 f d)) d := by
  pointwise [refMlp]
  simp only [refSq_apply, refUp_apply, refRms_apply, refGain_apply]
  rfl

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m ρ

end Ref

/-! ## The kernel's block at an index -/

open Cert.Kernel3Ideal Cert.Kernel3Ideal.Gen

/-- The zero offsets. -/
theorem hz : (![0, 0] : Fin 2 → Nat) = fun _ => 0 := funext fun a => by fin_cases a <;> rfl

/-- The attention's part of the output product, added. -/
theorem pay2_apply (x : Vec Ideal S512x1024 .f32) (a : Vec Ideal S512x512 .bf16) (w : Vec Ideal S512x1024 .bf16) (r : Fin 512) (d : Fin 1024) :
    k0_pay2 x a w (ix2 r d) = x (ix2 r d) + ∑ e : Fin 512, a (ix2 r e) * w (ix2 e d) := by
  pointwise [k0_pay2]

/-- The convolution's part of the output product, added. -/
theorem pay3_apply (x : Vec Ideal S512x1024 .f32) (a : Vec Ideal S512x512 .bf16) (w : Vec Ideal S512x1024 .bf16) (r : Fin 512) (d : Fin 1024) :
    k0_pay3 x a w (ix2 r d) = x (ix2 r d) + ∑ e : Fin 512, a (ix2 r e) * w (ix2 e d) := by
  pointwise [k0_pay3]

/-- The block's normalised rows, as the call computes them. -/
def normed (o : FVec Ideal S512x1024 .f32) (g : Vec Ideal S1x1024 .f32) : FVec Ideal S512x1024 .bf16 :=
  k0_pay7 (k0_pay4 o) (k0_pay5 g) (k0_pay6 o) (FloatOps.ofBits .f32 0x358637BD#32)

/-- The block's normalised rows. -/
theorem normed_apply (o : FVec Ideal S512x1024 .f32) (g : Vec Ideal S1x1024 .f32) (r : Fin 512) (d : Fin 1024) :
    normed o g (ix2 r d) = Rows.rms (fun e => o (ix2 r e)) (fun e => g (ix2 0 e)) d := by
  pointwise [normed, k0_pay7, k0_pay4, k0_pay5, k0_pay6]
  rfl

/-- The first quarter of the feed-forward's columns. -/
theorem quarter0_apply (h : Vec Ideal S512x1024 .bf16) (u : Vec Ideal S1024x1024 .bf16) (x : Vec Ideal S512x1024 .f32) (v : Vec Ideal S1024x1024 .bf16) (r : Fin 512) (d : Fin 1024) :
    k0_pay8 h u x v (ix2 r d) = x (ix2 r d) + Rows.quarter (fun e => h (ix2 r e)) (fun e f => u (ix2 e f)) (fun f d => v (ix2 f d)) d := by
  pointwise [k0_pay8]
  rfl

/-- The second quarter of the feed-forward's columns. -/
theorem quarter1_apply (h : Vec Ideal S512x1024 .bf16) (u : Vec Ideal S1024x1024 .bf16) (x : Vec Ideal S512x1024 .f32) (v : Vec Ideal S1024x1024 .bf16) (r : Fin 512) (d : Fin 1024) :
    k0_pay10 (k0_pay9 h u) x v (ix2 r d) = x (ix2 r d) + Rows.quarter (fun e => h (ix2 r e)) (fun e f => u (ix2 e f)) (fun f d => v (ix2 f d)) d := by
  pointwise [k0_pay10, k0_pay9]
  rfl

/-- The third quarter of the feed-forward's columns. -/
theorem quarter2_apply (h : Vec Ideal S512x1024 .bf16) (u : Vec Ideal S1024x1024 .bf16) (x : Vec Ideal S512x1024 .f32) (v : Vec Ideal S1024x1024 .bf16) (r : Fin 512) (d : Fin 1024) :
    k0_pay11 h u x v (ix2 r d) = x (ix2 r d) + Rows.quarter (fun e => h (ix2 r e)) (fun e f => u (ix2 e f)) (fun f d => v (ix2 f d)) d := by
  pointwise [k0_pay11]
  rfl

/-- The last quarter of the feed-forward's columns. -/
theorem quarter3_apply (h : Vec Ideal S512x1024 .bf16) (u : Vec Ideal S1024x1024 .bf16) (x : Vec Ideal S512x1024 .f32) (v : Vec Ideal S1024x1024 .bf16) (r : Fin 512) (d : Fin 1024) :
    k0_pay1 (k0_pay12 h u) (k0_pay13 x) v (ix2 r d) = x (ix2 r d) + Rows.quarter (fun e => h (ix2 r e)) (fun e f => u (ix2 e f)) (fun f d => v (ix2 f d)) d := by
  pointwise [k0_pay1, k0_pay12, k0_pay13]
  rfl

/-- Half of the output weights' rows. -/
theorem ldW_apply (x : Vec Ideal S1024x1024 .bf16) (o : Nat) (inb : ∀ a, (![o, 0] : Fin 2 → Nat) a + (![512, 1024] : Fin 2 → Nat) a ≤ S1024x1024.size a) (f : Fin 512) (d : Fin 1024) (h : o + f.val < 1024) :
    View.ld x (Rect.unit ![o, 0] ![512, 1024] inb) (ix2 f d) = x (ix2 ⟨o + f.val, h⟩ d) := by
  refine congrArg x (funext fun a => Fin.ext ?_)
  match a with
  | ⟨0, _⟩ => show o + 1 * f.val = o + f.val; omega
  | ⟨1, _⟩ => show 0 + 1 * d.val = d.val; omega

/-- The block's mixed rows, as the call computes them. -/
def mixed (x : Vec Ideal S512x1024 .f32) (a c : Vec Ideal S512x512 .bf16) (w : Vec Ideal S1024x1024 .bf16) : FVec Ideal S512x1024 .f32 :=
  k0_pay3 (k0_pay2 x a (View.ld w (Rect.unit ![0, 0] ![512, 1024] inb_S1024x1024_S512x1024_0_0))) c
    (View.ld w (Rect.unit ![512, 0] ![512, 1024] inb_S1024x1024_S512x1024_512_0))

/-- The block's mixed rows. -/
theorem mixed_apply (x : Vec Ideal S512x1024 .f32) (a c : Vec Ideal S512x512 .bf16) (w : Vec Ideal S1024x1024 .bf16) (r : Fin 512) (d : Fin 1024) :
    mixed x a c w (ix2 r d) = x (ix2 r d) + (∑ e : Fin 512, a (ix2 r e) * w (ix2 ⟨0 + e.val, by omega⟩ d)) + ∑ e : Fin 512, c (ix2 r e) * w (ix2 ⟨512 + e.val, by omega⟩ d) := by
  unfold mixed
  rw [pay3_apply, pay2_apply]
  exact congrArg₂ (· + ·) (congrArg (_ + ·) (Finset.sum_congr (M := EReal) rfl fun e _ => congrArg (_ * ·) (ldW_apply w 0 _ e d (by omega))))
    (Finset.sum_congr (M := EReal) rfl fun e _ => congrArg (_ * ·) (ldW_apply w 512 _ e d (by omega)))

/-- A thousand columns of the first weights. -/
theorem ldU_apply (x : Vec Ideal S1024x4096 .bf16) (o : Nat) (inb : ∀ a, (![0, o] : Fin 2 → Nat) a + (![1024, 1024] : Fin 2 → Nat) a ≤ S1024x4096.size a) (e f : Fin 1024) (h : o + f.val < 4096) :
    View.ld x (Rect.unit ![0, o] ![1024, 1024] inb) (ix2 e f) = x (ix2 e ⟨o + f.val, h⟩) := by
  refine congrArg x (funext fun a => Fin.ext ?_)
  match a with
  | ⟨0, _⟩ => show 0 + 1 * e.val = e.val; omega
  | ⟨1, _⟩ => show o + 1 * f.val = o + f.val; omega

/-- A thousand rows of the second weights. -/
theorem ldV_apply (x : Vec Ideal S4096x1024 .bf16) (o : Nat) (inb : ∀ a, (![o, 0] : Fin 2 → Nat) a + (![1024, 1024] : Fin 2 → Nat) a ≤ S4096x1024.size a) (f d : Fin 1024) (h : o + f.val < 4096) :
    View.ld x (Rect.unit ![o, 0] ![1024, 1024] inb) (ix2 f d) = x (ix2 ⟨o + f.val, h⟩ d) := by
  refine congrArg x (funext fun a => Fin.ext ?_)
  match a with
  | ⟨0, _⟩ => show o + 1 * f.val = o + f.val; omega
  | ⟨1, _⟩ => show 0 + 1 * d.val = d.val; omega

/-- The four quarters, added one after the other to the mixed rows. -/
def stages (o : FVec Ideal S512x1024 .f32) (g : Vec Ideal S1x1024 .f32) (u : Vec Ideal S1024x4096 .bf16) (v : Vec Ideal S4096x1024 .bf16) : FVec Ideal S512x1024 .f32 :=
  k0_pay1 (k0_pay12 (normed o g) (View.ld u (Rect.unit ![0, 3072] ![1024, 1024] inb_S1024x4096_S1024x1024_0_3072)))
    (k0_pay13 (k0_pay11 (normed o g) (View.ld u (Rect.unit ![0, 2048] ![1024, 1024] inb_S1024x4096_S1024x1024_0_2048))
      (k0_pay10 (k0_pay9 (normed o g) (View.ld u (Rect.unit ![0, 1024] ![1024, 1024] inb_S1024x4096_S1024x1024_0_1024)))
        (k0_pay8 (normed o g) (View.ld u (Rect.unit ![0, 0] ![1024, 1024] inb_S1024x4096_S1024x1024_0_0)) o
          (View.ld v (Rect.unit ![0, 0] ![1024, 1024] inb_S4096x1024_S1024x1024_0_0)))
        (View.ld v (Rect.unit ![1024, 0] ![1024, 1024] inb_S4096x1024_S1024x1024_1024_0)))
      (View.ld v (Rect.unit ![2048, 0] ![1024, 1024] inb_S4096x1024_S1024x1024_2048_0))))
    (View.ld v (Rect.unit ![3072, 0] ![1024, 1024] inb_S4096x1024_S1024x1024_3072_0))

/-- They are the feed-forward. -/
theorem stages_apply (o : FVec Ideal S512x1024 .f32) (g : Vec Ideal S1x1024 .f32) (u : Vec Ideal S1024x4096 .bf16) (v : Vec Ideal S4096x1024 .bf16) (r : Fin 512) (d : Fin 1024) :
    stages o g u v (ix2 r d) = Rows.mlp (fun e => o (ix2 r e)) (fun e => g (ix2 0 e)) (fun e k => u (ix2 e k)) (fun k d => v (ix2 k d)) d := by
  refine Eq.trans ?_ (Rows.mlp_quarters _ _ _ _ d)
  unfold stages
  rw [quarter3_apply, quarter2_apply, quarter1_apply, quarter0_apply]
  have hh : (fun e : Fin 1024 => normed o g (ix2 r e)) = Rows.rms (fun e => o (ix2 r e)) (fun e => g (ix2 0 e)) := funext fun e => normed_apply o g r e
  rw [hh]
  exact congrArg₂ (· + ·) (congrArg₂ (· + ·) (congrArg₂ (· + ·) (congrArg (_ + ·)
    (congrFun (congrArg₂ (Rows.quarter _) (funext fun e => funext fun f => ldU_apply u 0 _ e f (by omega)) (funext fun f => funext fun d => ldV_apply v 0 _ f d (by omega))) d))
    (congrFun (congrArg₂ (Rows.quarter _) (funext fun e => funext fun f => ldU_apply u 1024 _ e f (by omega)) (funext fun f => funext fun d => ldV_apply v 1024 _ f d (by omega))) d))
    (congrFun (congrArg₂ (Rows.quarter _) (funext fun e => funext fun f => ldU_apply u 2048 _ e f (by omega)) (funext fun f => funext fun d => ldV_apply v 2048 _ f d (by omega))) d))
    (congrFun (congrArg₂ (Rows.quarter _) (funext fun e => funext fun f => ldU_apply u 3072 _ e f (by omega)) (funext fun f => funext fun d => ldV_apply v 3072 _ f d (by omega))) d)

/-- A block of the result. -/
def blkOut (x : Vec Ideal S512x1024 .f32) (a c : Vec Ideal S512x512 .bf16) (w : Vec Ideal S1024x1024 .bf16) (g : Vec Ideal S1x1024 .f32) (u : Vec Ideal S1024x4096 .bf16) (v : Vec Ideal S4096x1024 .bf16) : Vec Ideal S512x1024 .f32 :=
  fun y => Rows.mlp (fun d => x (ix2 (y 0) d) + (∑ e : Fin 512, a (ix2 (y 0) e) * w (ix2 ⟨0 + e.val, by omega⟩ d)) + ∑ e : Fin 512, c (ix2 (y 0) e) * w (ix2 ⟨512 + e.val, by omega⟩ d))
    (fun e => g (ix2 0 e)) (fun e k => u (ix2 e k)) (fun k d => v (ix2 k d)) (y 1)

/-- A read of the whole of what was last written whole. -/
theorem readCov_whole {e : EltTy} {sp : Space} (v : View sig .tc sp S512x1024 e) (w : S512x1024.Idx → Elt Ideal e) (L : List (View.Piece (Elt Ideal) S512x1024 e)) :
    v.readCov ((⟨Rect.unit ![0, 0] ![512, 1024] inb_S512x1024_S512x1024_0_0, w⟩ : View.Piece (Elt Ideal) S512x1024 e) :: L)
      (Rect.unit ![0, 0] ![512, 1024] inb_S512x1024_S512x1024_0_0).toLoadRect = w :=
  View.readCov_cons_unit_lit' (S := S512x1024) v _ _ w L (fun a => congrFun hz a) (fun a => congrFun hz a)

/-- What a point leaves. -/
theorem out_eq (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x4096 .bf16) (h6 : a6.IsWhole) (a7 : Memref sig .tc .vmem S4096x1024 .bf16) (h7 : a7.IsWhole)
    (a8 : Memref sig .tc .vmem S512x1024 .f32) (h8 : a8.IsWhole) (a9 : Memref sig .tc .vmem S512x1024 .bf16) (h9 : a9.IsWhole)
    (x0 : Vec Ideal S512x1024 .f32) (x1 x2 : Vec Ideal S512x512 .bf16) (x3 : Vec Ideal S1024x1024 .bf16) (x4 : Vec Ideal S1x1024 .f32) (x5 : Vec Ideal S1024x4096 .bf16) (x6 : Vec Ideal S4096x1024 .bf16) :
    out0_A_7 c i a1 h1 a2 h2 a3 h3 a4 h4 a5 h5 a6 h6 a7 h7 a8 h8 a9 h9 x0 x1 x2 x3 x4 x5 x6 = blkOut x0 x1 x2 x3 x4 x5 x6 := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S512x1024) hz, View.ld_unit_zero (S := S512x512) hz, View.ld_unit_zero (S := S1x1024) hz,
    View.canon_cons_unit_zero (S := S512x1024) hz, readCov_whole]
  funext y
  obtain ⟨r, d, rfl⟩ : ∃ (r : Fin 512) (d : Fin 1024), y = (ix2 r d : S512x1024.Idx) := ⟨y 0, y 1, (ix2_eta y).symm⟩
  exact (stages_apply (mixed x0 x1 x2 x3) x4 x5 x6 r d).trans
    (congrFun (congrArg (fun w => Rows.mlp w _ _ _) (funext fun d => mixed_apply x0 x1 x2 x3 r d)) d)

/-! ## The arrays -/

/-- The output weights as the call takes them. -/
def hostW (w : FVec Ideal S1x1024x1024 .f32) : FVec Ideal S1024x1024 .bf16 :=
  truncf .bf16 (shapeCast S1024x1024 w shapeCasts_S1x1024x1024_S1024x1024) bitsLt_bf16_f32

/-- The layer's gain as the call takes it. -/
def hostG (g : FVec Ideal S2x1024 .f32) : FVec Ideal S1x1024 .f32 :=
  shapeCast S1x1024 (shapeCast S1024 (extractStridedSlice S1x1024 ![0, 0] g slices_S2x1024_S1x1024_0_0) shapeCasts_S1x1024_S1024) shapeCasts_S1024_S1x1024

/-- The first weights as the call takes them. -/
def hostU (u : FVec Ideal S2x1024x4096 .f32) : FVec Ideal S1024x4096 .bf16 :=
  truncf .bf16 (shapeCast S1024x4096 (extractStridedSlice S1x1024x4096 ![0, 0, 0] u slices_S2x1024x4096_S1x1024x4096_0_0_0) shapeCasts_S1x1024x4096_S1024x4096) bitsLt_bf16_f32

/-- The second weights as the call takes them. -/
def hostV (v : FVec Ideal S2x4096x1024 .f32) : FVec Ideal S4096x1024 .bf16 :=
  truncf .bf16 (shapeCast S4096x1024 (extractStridedSlice S1x4096x1024 ![0, 0, 0] v slices_S2x4096x1024_S1x4096x1024_0_0_0) shapeCasts_S1x4096x1024_S4096x1024) bitsLt_bf16_f32

/-- The output weights at an index. -/
theorem hostW_apply (w : FVec Ideal S1x1024x1024 .f32) (e d : Fin 1024) : hostW w (ix2 e d) = w (ix3 0 e d) := by
  pointwise [hostW]

/-- The gain at an index. -/
theorem hostG_apply (g : FVec Ideal S2x1024 .f32) (d : Fin 1024) : hostG g (ix2 0 d) = g (ix2 0 d) := by
  pointwise [hostG]

/-- The first weights at an index. -/
theorem hostU_apply (u : FVec Ideal S2x1024x4096 .f32) (e : Fin 1024) (f : Fin 4096) : hostU u (ix2 e f) = u (ix3 0 e f) := by
  pointwise [hostU]

/-- The second weights at an index. -/
theorem hostV_apply (v : FVec Ideal S2x4096x1024 .f32) (f : Fin 4096) (d : Fin 1024) : hostV v (ix2 f d) = v (ix3 0 f d) := by
  pointwise [hostV]

section Arr
variable (m : (ℓ : Loc nD τ sig) → Buf (Elt Ideal) ℓ) (c : Dev nD)

/-- The call's output weights. -/
theorem V_w : V m c main_v7 = hostW (m ((c.tc : Thread nD τ).loc main_arg3)) := by
  unfold V
  after_results
  rfl

/-- The call's gain. -/
theorem V_g : V m c main_v8 = hostG (m ((c.tc : Thread nD τ).loc main_arg4)) := by
  unfold V
  after_results
  rfl

/-- The call's first weights. -/
theorem V_u : V m c main_v9 = hostU (m ((c.tc : Thread nD τ).loc main_arg5)) := by
  unfold V
  after_results
  rfl

/-- The call's second weights. -/
theorem V_v : V m c main_v10 = hostV (m ((c.tc : Thread nD τ).loc main_arg6)) := by
  unfold V
  after_results
  rfl

/-- The tile of rows of a point. -/
def tOf (t : Fin cfg0.N) : Fin 32 := ⟨(grid0.coords t 0).val, (grid0.coords t 0).isLt⟩

/-- The block of the input's rows that a point reads. -/
theorem idx0 : ∀ t : Fin cfg0.N, win0_0.index t = ![(tOf t).val, 0] := (by decide +kernel : ∀ t : Fin grid0.N, _)
/-- The block of the attention's rows that a point reads. -/
theorem idx1 : ∀ t : Fin cfg0.N, win0_1.index t = ![(tOf t).val, 0] := (by decide +kernel : ∀ t : Fin grid0.N, _)
/-- The block of the convolution's rows that a point reads. -/
theorem idx2 : ∀ t : Fin cfg0.N, win0_2.index t = ![(tOf t).val, 0] := (by decide +kernel : ∀ t : Fin grid0.N, _)
/-- The output weights' one block. -/
theorem idx3 : ∀ t : Fin cfg0.N, win0_3.index t = ![0, 0] := (by decide +kernel : ∀ t : Fin grid0.N, _)
/-- The gain's one block. -/
theorem idx4 : ∀ t : Fin cfg0.N, win0_4.index t = ![0, 0] := (by decide +kernel : ∀ t : Fin grid0.N, _)
/-- The first weights' one block. -/
theorem idx5 : ∀ t : Fin cfg0.N, win0_5.index t = ![0, 0] := (by decide +kernel : ∀ t : Fin grid0.N, _)
/-- The second weights' one block. -/
theorem idx6 : ∀ t : Fin cfg0.N, win0_6.index t = ![0, 0] := (by decide +kernel : ∀ t : Fin grid0.N, _)
/-- The block of rows that a point writes. -/
theorem idx7 : ∀ t : Fin cfg0.N, win0_7.index t = ![(tOf t).val, 0] := (by decide +kernel : ∀ t : Fin grid0.N, _)

/-- The blocks written cover the result. -/
theorem cov7 : (cfg0.win 7).Covers := by decide +kernel

/-- A block of the input's rows. -/
theorem iblk0_apply (t : Fin cfg0.N) (r : Fin 512) (d : Fin 1024) : (iblk m c 0 t : Vec Ideal S512x1024 .f32) (ix2 r d)
    = m ((c.tc : Thread nD τ).loc main_arg0) (ix2 ⟨(tOf t).val * 512 + r.val, by omega⟩ d) := by
  have e : ((cfg0.win 0).blk t).view.emb (ix2 r d) = (ix2 ⟨(tOf t).val * 512 + r.val, by omega⟩ d : S16384x1024.Idx) := by
    blk_ext [idx0]
  blk_simp [iblk]
  rw [e, V_main_arg0]

/-- A block of the attention's rows. -/
theorem iblk1_apply (t : Fin cfg0.N) (r : Fin 512) (d : Fin 512) : (iblk m c 1 t : Vec Ideal S512x512 .bf16) (ix2 r d)
    = m ((c.tc : Thread nD τ).loc main_arg1) (ix2 ⟨(tOf t).val * 512 + r.val, by omega⟩ d) := by
  have e : ((cfg0.win 1).blk t).view.emb (ix2 r d) = (ix2 ⟨(tOf t).val * 512 + r.val, by omega⟩ d : S16384x512.Idx) := by
    blk_ext [idx1]
  blk_simp [iblk]
  rw [e, V_main_arg1]

/-- A block of the convolution's rows. -/
theorem iblk2_apply (t : Fin cfg0.N) (r : Fin 512) (d : Fin 512) : (iblk m c 2 t : Vec Ideal S512x512 .bf16) (ix2 r d)
    = m ((c.tc : Thread nD τ).loc main_arg2) (ix2 ⟨(tOf t).val * 512 + r.val, by omega⟩ d) := by
  have e : ((cfg0.win 2).blk t).view.emb (ix2 r d) = (ix2 ⟨(tOf t).val * 512 + r.val, by omega⟩ d : S16384x512.Idx) := by
    blk_ext [idx2]
  blk_simp [iblk]
  rw [e, V_main_arg2]

/-- The output weights' block. -/
theorem iblk3_apply (t : Fin cfg0.N) (e d : Fin 1024) : (iblk m c 3 t : Vec Ideal S1024x1024 .bf16) (ix2 e d)
    = m ((c.tc : Thread nD τ).loc main_arg3) (ix3 0 e d) := by
  have h : ((cfg0.win 3).blk t).view.emb (ix2 e d) = (ix2 e d : S1024x1024.Idx) := by
    blk_ext [idx3]
  blk_simp [iblk]
  rw [h, V_w]
  exact hostW_apply _ e d

/-- The gain's block. -/
theorem iblk4_apply (t : Fin cfg0.N) (d : Fin 1024) : (iblk m c 4 t : Vec Ideal S1x1024 .f32) (ix2 0 d)
    = m ((c.tc : Thread nD τ).loc main_arg4) (ix2 0 d) := by
  have h : ((cfg0.win 4).blk t).view.emb (ix2 0 d) = (ix2 0 d : S1x1024.Idx) := by
    blk_ext [idx4]
  blk_simp [iblk]
  rw [h, V_g]
  exact hostG_apply _ d

/-- The first weights' block. -/
theorem iblk5_apply (t : Fin cfg0.N) (e : Fin 1024) (f : Fin 4096) : (iblk m c 5 t : Vec Ideal S1024x4096 .bf16) (ix2 e f)
    = m ((c.tc : Thread nD τ).loc main_arg5) (ix3 0 e f) := by
  have h : ((cfg0.win 5).blk t).view.emb (ix2 e f) = (ix2 e f : S1024x4096.Idx) := by
    blk_ext [idx5]
  blk_simp [iblk]
  rw [h, V_u]
  exact hostU_apply _ e f

/-- The second weights' block. -/
theorem iblk6_apply (t : Fin cfg0.N) (f : Fin 4096) (d : Fin 1024) : (iblk m c 6 t : Vec Ideal S4096x1024 .bf16) (ix2 f d)
    = m ((c.tc : Thread nD τ).loc main_arg6) (ix3 0 f d) := by
  have h : ((cfg0.win 6).blk t).view.emb (ix2 f d) = (ix2 f d : S4096x1024.Idx) := by
    blk_ext [idx6]
  blk_simp [iblk]
  rw [h, V_v]
  exact hostV_apply _ f d

/-- The reference's result of the kernel's arguments. -/
def resR : FVec Ideal S16384x1024 .f32 :=
  refOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- A point's block is its rows of the reference's result. -/
theorem point_eq (t : Fin cfg0.N) (r : Fin 512) (d : Fin 1024) :
    blkOut (iblk m c 0 t) (iblk m c 1 t) (iblk m c 2 t) (iblk m c 3 t) (iblk m c 4 t) (iblk m c 5 t) (iblk m c 6 t) (ix2 r d)
    = resR m c (ix2 ⟨(tOf t).val * 512 + r.val, by omega⟩ d) := by
  refine Eq.trans ?_ (refMlp_apply _ _ _ _ _ d).symm
  refine congrFun (congr (congr (congrArg₂ Rows.mlp (funext fun d => Eq.trans ?_ (refMixed_apply _ _ _ _ _ d).symm) (funext fun e => iblk4_apply m c t e))
    (funext fun e => funext fun k => iblk5_apply m c t e k)) (funext fun k => funext fun d => iblk6_apply m c t k d)) d
  exact congrArg₂ (· + ·) (congrArg₂ (· + ·) (iblk0_apply m c t _ d)
      (Finset.sum_congr (M := EReal) rfl fun k _ => congrArg₂ (· * ·) (iblk1_apply m c t _ k) (iblk3_apply m c t _ d)))
    (Finset.sum_congr (M := EReal) rfl fun k _ => congrArg₂ (· * ·) (iblk2_apply m c t _ k) (iblk3_apply m c t _ d))

/-- The kernel's result array is the reference's. -/
theorem arrAt_eq : (dats m 0 c).arrAt 7 cfg0.N = resR m c := by
  refine (dats m 0 c).arrAt_eq_of_covers 7 _ cov7 fun t _ y => ?_
  blk_simp
  rw [after0_7]
  obtain ⟨r, n, rfl⟩ : ∃ (r : Fin 512) (n : Fin 1024), y = (ix2 r n : S512x1024.Idx) := ⟨y 0, y 1, (ix2_eta y).symm⟩
  have e : ((cfg0.win 7).blk t).view.emb (ix2 r n) = (ix2 ⟨(tOf t).val * 512 + r.val, by omega⟩ n : S16384x1024.Idx) := by
    blk_ext [idx7]
  rw [e]
  unfold outsAt0
  rw [out_eq]
  exact point_eq m c t r n

end Arr

/-! ## The claims -/

/-- The kernel's frame. -/
theorem frame_kernel : Cert.quiescent_Kernel3 := fun m ρ _ =>
  (θ_run Cert.Kernel3.defs _ _).mono (fun _ h => h) (Cert.Kernel3.Gen.frame m ρ)

/-- The idealized kernel's frame. -/
theorem frame_ideal : Cert.quiescent_Kernel3Ideal := fun m ρ _ =>
  (θ_run Cert.Kernel3Ideal.defs _ _).mono (fun _ h => h) (Cert.Kernel3Ideal.Gen.frame m ρ)

/-- The reference's frame. -/
theorem frame_reference : Cert.quiescent_Reference3Ideal := fun m ρ _ =>
  (θ_run Cert.Reference3Ideal.defs _ _).mono
    (fun r h => ⟨fun c => (h c).2, sem_eq_zero_of_no_sems (by decide) r.2⟩)
    (ref_run m ρ)

/-- From the same arguments the kernel and the reference end with the same result. -/
theorem value : Cert.algebraic_Kernel3Ideal_Reference3Ideal := fun m ρ m' ρ' _ hm =>
  ⟨fun c => resR m c,
    (θ_run Cert.Kernel3Ideal.defs _ _).mono (fun _ hr c => ⟨(hr c).1.trans (arrAt_eq m c), (hr c).2⟩)
      (Cert.Kernel3Ideal.Value.run_blocks m ρ),
    (θ_run Cert.Reference3Ideal.defs _ _).mono (fun _ hr c => ⟨(hr c).1.trans (by
        obtain ⟨h0, h1, h2, h3, h4, h5, h6⟩ := hm c
        rw [h0, h1, h2, h3, h4, h5, h6]
        rfl), (hr c).2⟩)
      (ref_run m' ρ')⟩

end Cert.Proof.Post0
-- ==== Proof.InProj.lean ====
/- The odd layer's projection: the kernel's result over the extended reals is the reference's. -/
module

public import proofs.«01_k».proof.Defs
public import proofs.«01_k».proof.Proof.Rows
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Adequacy
public import Idealize.ShloMosaic.Init
public import Idealize.ShloMosaic.Lib.Quiescent

@[expose] public section

noncomputable section

namespace Cert.Proof.InProj

open Idealize.ShloMosaic Idealize.ShloMosaic.TcCoe Idealize.ShloMosaic.StableHlo

/-! ## The reference at an index -/

section Ref
open Cert.Reference4Ideal Cert.Reference4Ideal.Gen

/-- The normalised rows. -/
def refRms (x : FVec Ideal S16384x1024 .f32) (g : FVec Ideal S2x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 (extractStridedSlice S1x1024 ![1, 0] g slices_S2x1024_S1x1024_1_0) shapeCasts_S1x1024_S1024)))

/-- The reference's result. -/
def refOut (x : FVec Ideal S16384x1024 .f32) (g : FVec Ideal S2x1024 .f32) (w : FVec Ideal S1x1024x3072 .f32) : FVec Ideal S16384x3072 .bf16 :=
  truncf .bf16 (Host.dotGeneral dot_S16384x1024_S1024x3072_S16384x3072_1_0_0_1_n_n none (refRms x g) (shapeCast S1024x3072 w shapeCasts_S1x1024x3072_S1024x3072)) bitsLt_bf16_f32

/-- A normalised row at an index. -/
theorem refRms_apply (x : FVec Ideal S16384x1024 .f32) (g : FVec Ideal S2x1024 .f32) (r : Fin 16384) (d : Fin 1024) :
    refRms x g (ix2 r d) = Rows.rms (fun e => x (ix2 r e)) (fun e => g (ix2 1 e)) d := by
  pointwise [refRms]
  rfl

/-- The reference's result at an index. -/
theorem refOut_apply (x : FVec Ideal S16384x1024 .f32) (g : FVec Ideal S2x1024 .f32) (w : FVec Ideal S1x1024x3072 .f32) (r : Fin 16384) (n : Fin 3072) :
    refOut x g w (ix2 r n) = ∑ e : Fin 1024, Rows.rms (fun e => x (ix2 r e)) (fun e => g (ix2 1 e)) e * w (ix3 0 e n) := by
  pointwise [refOut]
  simp only [refRms_apply]

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run m ρ

end Ref

/-! ## The kernel's block at an index -/

open Cert.Kernel4Ideal Cert.Kernel4Ideal.Gen

/-- The zero offsets. -/
theorem hz : (![0, 0] : Fin 2 → Nat) = fun _ => 0 := funext fun a => by fin_cases a <;> rfl

/-- The block's normalised rows. -/
theorem pay1_apply (x : Vec Ideal S1024x1024 .f32) (g : Vec Ideal S1x1024 .f32) (r d : Fin 1024) :
    k0_pay1 x g (ix2 r d) = Rows.rms (fun e => x (ix2 r e)) (fun e => g (ix2 0 e)) d := by
  pointwise [k0_pay1]
  rfl

/-- The query columns. -/
theorem pay2_apply (x : Vec Ideal S1024x1024 .f32) (g : Vec Ideal S1x1024 .f32) (w : Vec Ideal S1024x1024 .bf16) (r n : Fin 1024) :
    k0_pay2 x g w (ix2 r n) = ∑ e : Fin 1024, Rows.rms (fun e => x (ix2 r e)) (fun e => g (ix2 0 e)) e * w (ix2 e n) := by
  pointwise [k0_pay2]
  simp only [pay1_apply]

/-- The key and value columns. -/
theorem pay3_apply (x : Vec Ideal S1024x1024 .f32) (g : Vec Ideal S1x1024 .f32) (w : Vec Ideal S1024x2048 .bf16) (r : Fin 1024) (n : Fin 2048) :
    k0_pay3 x g w (ix2 r n) = ∑ e : Fin 1024, Rows.rms (fun e => x (ix2 r e)) (fun e => g (ix2 0 e)) e * w (ix2 e n) := by
  pointwise [k0_pay3]
  simp only [pay1_apply]

/-- A block of the result. -/
def blkOut (x : Vec Ideal S1024x1024 .f32) (g : Vec Ideal S1x1024 .f32) (w : Vec Ideal S1024x3072 .bf16) : Vec Ideal S1024x3072 .bf16 :=
  fun y => ∑ e : Fin 1024, Rows.rms (fun e => x (ix2 (y 0) e)) (fun e => g (ix2 0 e)) e * w (ix2 e (y 1))

/-- What a point leaves. -/
theorem out_eq (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S1024x3072 .bf16) (h4 : a4.IsWhole)
    (x0 : Vec Ideal S1024x1024 .f32) (x1 : Vec Ideal S1x1024 .f32) (x2 : Vec Ideal S1024x3072 .bf16) :
    out0_A_3 c i a1 h1 a2 h2 a3 h3 a4 h4 x0 x1 x2 = blkOut x0 x1 x2 := by
  unfold out0_A_3
  rw [View.read_writes_eq_canon _ _ _ (cover0_A_3 c i a1 h1 a2 h2 a3 h3 a4 h4 x0 x1 x2)]
  funext y
  refine View.canon_apply_of_pieces (blkOut x0 x1 x2) _ ?_ y (cover0_A_3 c i a1 h1 a2 h2 a3 h3 a4 h4 x0 x1 x2 y)
  unfold kernelRun0_A
  dsimp only
  sl_unfold_words
  simp only [View.readAt_eq_ld, h1.read_unread, h2.read_unread, h3.read_unread, View.ld_unit_zero (S := S1024x1024) hz, View.ld_unit_zero (S := S1x1024) hz]
  intro p hp
  simp only [List.mem_cons, List.not_mem_nil, or_false] at hp
  rcases hp with rfl | rfl
  · intro x
    obtain ⟨r, n, rfl⟩ : ∃ (r : Fin 1024) (n : Fin 2048), x = ix2 r n := ⟨x 0, x 1, (ix2_eta x).symm⟩
    have e : ∀ r : Fin 1024, (Rect.unit (s := S1024x3072) ![0, 1024] ![1024, 2048] inb_S1024x3072_S1024x2048_0_1024).emb (ix2 r n) = (ix2 r ⟨1024 + n.val, by omega⟩ : S1024x3072.Idx) := fun r => by
      funext a; apply Fin.ext
      match a with
      | ⟨0, _⟩ => show 0 + 1 * r.val = r.val; omega
      | ⟨1, _⟩ => show 1024 + 1 * n.val = 1024 + n.val; omega
    refine (pay3_apply _ _ _ r n).trans ?_
    dsimp only
    rw [e]
    refine Finset.sum_congr rfl fun k _ => ?_
    exact congrArg (fun i => _ * x2 i) (e k)
  · intro x
    obtain ⟨r, n, rfl⟩ : ∃ (r : Fin 1024) (n : Fin 1024), x = ix2 r n := ⟨x 0, x 1, (ix2_eta x).symm⟩
    have e : ∀ r : Fin 1024, (Rect.unit (s := S1024x3072) ![0, 0] ![1024, 1024] inb_S1024x3072_S1024x1024_0_0).emb (ix2 r n) = (ix2 r ⟨n.val, by omega⟩ : S1024x3072.Idx) := fun r => by
      funext a; apply Fin.ext
      match a with
      | ⟨0, _⟩ => show 0 + 1 * r.val = r.val; omega
      | ⟨1, _⟩ => show 0 + 1 * n.val = n.val; omega
    refine (pay2_apply _ _ _ r n).trans ?_
    dsimp only
    rw [e]
    refine Finset.sum_congr rfl fun k _ => ?_
    exact congrArg (fun i => _ * x2 i) (e k)

/-! ## The arrays -/

/-- The weights as the call takes them. -/
def hostW (w : FVec Ideal S1x1024x3072 .f32) : FVec Ideal S1024x3072 .bf16 :=
  truncf .bf16 (shapeCast S1024x3072 w shapeCasts_S1x1024x3072_S1024x3072) bitsLt_bf16_f32

/-- They are the weights. -/
theorem hostW_apply (w : FVec Ideal S1x1024x3072 .f32) (e : Fin 1024) (n : Fin 3072) : hostW w (ix2 e n) = w (ix3 0 e n) := by
  pointwise [hostW]

section Arr
variable (m : (ℓ : Loc nD τ sig) → Buf (Elt Ideal) ℓ) (c : Dev nD)

/-- The gain as a row. -/
theorem V_gain : V m c main_v3 = shapeCast S1x1024 (shapeCast S1024 (extractStridedSlice S1x1024 ![1, 0] (m ((c.tc : Thread nD τ).loc main_arg1)) slices_S2x1024_S1x1024_1_0) shapeCasts_S1x1024_S1024) shapeCasts_S1024_S1x1024 := by
  unfold V
  after_results
  rfl

/-- The weights, cast. -/
theorem V_w : V m c main_v4 = hostW (m ((c.tc : Thread nD τ).loc main_arg2)) := by
  unfold V
  after_results
  rfl

/-- The tile of rows of a point. -/
def tOf (t : Fin cfg0.N) : Fin 16 := ⟨(grid0.coords t 0).val, (grid0.coords t 0).isLt⟩

/-- The block of rows that a point reads. -/
theorem idx0 : ∀ t : Fin cfg0.N, win0_0.index t = ![(tOf t).val, 0] := (by decide +kernel : ∀ t : Fin grid0.N, _)
/-- The gain's one block. -/
theorem idx1 : ∀ t : Fin cfg0.N, win0_1.index t = ![0, 0] := (by decide +kernel : ∀ t : Fin grid0.N, _)
/-- The weights' one block. -/
theorem idx2 : ∀ t : Fin cfg0.N, win0_2.index t = ![0, 0] := (by decide +kernel : ∀ t : Fin grid0.N, _)
/-- The block of rows that a point writes. -/
theorem idx3 : ∀ t : Fin cfg0.N, win0_3.index t = ![(tOf t).val, 0] := (by decide +kernel : ∀ t : Fin grid0.N, _)

/-- The blocks written cover the result. -/
theorem cov3 : (cfg0.win 3).Covers := by decide +kernel

/-- A block of rows. -/
theorem iblk0_apply (t : Fin cfg0.N) (r d : Fin 1024) : (iblk m c 0 t : Vec Ideal S1024x1024 .f32) (ix2 r d)
    = m ((c.tc : Thread nD τ).loc main_arg0) (ix2 ⟨(tOf t).val * 1024 + r.val, by omega⟩ d) := by
  have e : ((cfg0.win 0).blk t).view.emb (ix2 r d) = (ix2 ⟨(tOf t).val * 1024 + r.val, by omega⟩ d : S16384x1024.Idx) := by
    blk_ext [idx0]
  blk_simp [iblk]
  rw [e, V_main_arg0]

/-- The gain's block. -/
theorem iblk1_apply (t : Fin cfg0.N) (d : Fin 1024) : (iblk m c 1 t : Vec Ideal S1x1024 .f32) (ix2 0 d)
    = m ((c.tc : Thread nD τ).loc main_arg1) (ix2 1 d) := by
  have e : ((cfg0.win 1).blk t).view.emb (ix2 0 d) = (ix2 0 d : S1x1024.Idx) := by
    blk_ext [idx1]
  blk_simp [iblk]
  rw [e, V_gain]
  pointwise []

/-- The weights' block. -/
theorem iblk2_apply (t : Fin cfg0.N) (e : Fin 1024) (n : Fin 3072) : (iblk m c 2 t : Vec Ideal S1024x3072 .bf16) (ix2 e n)
    = m ((c.tc : Thread nD τ).loc main_arg2) (ix3 0 e n) := by
  have h : ((cfg0.win 2).blk t).view.emb (ix2 e n) = (ix2 e n : S1024x3072.Idx) := by
    blk_ext [idx2]
  blk_simp [iblk]
  rw [h, V_w]
  exact hostW_apply _ e n

/-- A point's block is its rows of the reference's result. -/
theorem point_eq (t : Fin cfg0.N) (r : Fin 1024) (n : Fin 3072) : blkOut (iblk m c 0 t) (iblk m c 1 t) (iblk m c 2 t) (ix2 r n)
    = refOut (m ((c.tc : Thread nD τ).loc main_arg0)) (m ((c.tc : Thread nD τ).loc main_arg1)) (m ((c.tc : Thread nD τ).loc main_arg2)) (ix2 ⟨(tOf t).val * 1024 + r.val, by omega⟩ n) := by
  refine Eq.trans ?_ (refOut_apply _ _ _ _ _).symm
  exact Finset.sum_congr (M := EReal) rfl fun k _ => congrArg₂ (· * ·) (congrFun (congrArg₂ Rows.rms (funext fun e => iblk0_apply m c t _ e) (funext fun e => iblk1_apply m c t e)) k) (iblk2_apply m c t k n)

/-- The kernel's result array is the reference's. -/
theorem arrAt_eq : (dats m 0 c).arrAt 3 cfg0.N
    = refOut (m ((c.tc : Thread nD τ).loc main_arg0)) (m ((c.tc : Thread nD τ).loc main_arg1)) (m ((c.tc : Thread nD τ).loc main_arg2)) := by
  refine (dats m 0 c).arrAt_eq_of_covers 3 _ cov3 fun t _ y => ?_
  blk_simp
  rw [after0_3]
  obtain ⟨r, n, rfl⟩ : ∃ (r : Fin 1024) (n : Fin 3072), y = (ix2 r n : S1024x3072.Idx) := ⟨y 0, y 1, (ix2_eta y).symm⟩
  have e : ((cfg0.win 3).blk t).view.emb (ix2 r n) = (ix2 ⟨(tOf t).val * 1024 + r.val, by omega⟩ n : S16384x3072.Idx) := by
    blk_ext [idx3]
  rw [e]
  unfold outsAt0
  rw [out_eq]
  exact point_eq m c t r n

end Arr

/-! ## The claims -/

/-- The kernel's frame. -/
theorem frame_kernel : Cert.quiescent_Kernel4 := fun m ρ _ =>
  (θ_run Cert.Kernel4.defs _ _).mono (fun _ h => h) (Cert.Kernel4.Gen.frame m ρ)

/-- The idealized kernel's frame. -/
theorem frame_ideal : Cert.quiescent_Kernel4Ideal := fun m ρ _ =>
  (θ_run Cert.Kernel4Ideal.defs _ _).mono (fun _ h => h) (Cert.Kernel4Ideal.Gen.frame m ρ)

/-- The reference's frame. -/
theorem frame_reference : Cert.quiescent_Reference4Ideal := fun m ρ _ =>
  (θ_run Cert.Reference4Ideal.defs _ _).mono
    (fun r h => ⟨fun c => (h c).2, sem_eq_zero_of_no_sems (by decide) r.2⟩)
    (ref_run m ρ)

/-- From the same arguments the kernel and the reference end with the same result. -/
theorem value : Cert.algebraic_Kernel4Ideal_Reference4Ideal := fun m ρ m' ρ' _ hm =>
  ⟨fun c => refOut (m ((c.tc : Thread nD τ).loc main_arg0)) (m ((c.tc : Thread nD τ).loc main_arg1)) (m ((c.tc : Thread nD τ).loc main_arg2)),
    (θ_run Cert.Kernel4Ideal.defs _ _).mono (fun _ hr c => ⟨(hr c).1.trans (arrAt_eq m c), (hr c).2⟩)
      (Cert.Kernel4Ideal.Value.run_blocks m ρ),
    (θ_run Cert.Reference4Ideal.defs _ _).mono (fun _ hr c => ⟨(hr c).1.trans (by
        obtain ⟨h0, h1, h2⟩ := hm c
        rw [h0, h1, h2]), (hr c).2⟩)
      (ref_run m' ρ')⟩

end Cert.Proof.InProj
-- ==== Proof.InProjEven.lean ====
/- The even layer's projection and convolution: the kernel's result over the extended reals is the reference's. -/
module

public import proofs.«01_k».proof.Defs
public import proofs.«01_k».proof.Proof.Rows
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.WritesUnit
public import Idealize.ShloMosaic.Adequacy
public import Idealize.ShloMosaic.Init
public import Idealize.ShloMosaic.Lib.Quiescent

@[expose] public section

noncomputable section

namespace Cert.Proof.InProjEven

open Idealize.ShloMosaic Idealize.ShloMosaic.TcCoe Idealize.ShloMosaic.StableHlo

/-- A column of the projection of a row. -/
def prj (h w : Fin 1024 → EReal) : EReal := ∑ e : Fin 1024, h e * w e

/-! ## The reference at an index -/

section Ref
open Cert.Reference5Ideal Cert.Reference5Ideal.Gen

/-- The normalised rows. -/
def refRms (x : FVec Ideal S16384x1024 .f32) (g : FVec Ideal S2x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 (extractStridedSlice S1x1024 ![0, 0] g slices_S2x1024_S1x1024_0_0) shapeCasts_S1x1024_S1024)))

/-- The projected rows. -/
def refProj (x : FVec Ideal S16384x1024 .f32) (g : FVec Ideal S2x1024 .f32) (w : FVec Ideal S1x1024x3072 .f32) : FVec Ideal S16384x3072 .f32 :=
  Host.dotGeneral dot_S16384x1024_S1024x3072_S16384x3072_1_0_0_1_n_n none (refRms x g) (shapeCast S1024x3072 w shapeCasts_S1x1024x3072_S1024x3072)

/-- The query, key and value columns. -/
def refQkv (p : FVec Ideal S16384x3072 .f32) : FVec Ideal S16384x1536 .bf16 :=
  truncf .bf16 (extractStridedSlice S16384x1536 ![0, 0] p slices_S16384x3072_S16384x1536_0_0) bitsLt_bf16_f32

/-- The gated columns, by sequence. -/
def refCu (p : FVec Ideal S16384x3072 .f32) : FVec Ideal S2x8192x512 .f32 :=
  shapeCast S2x8192x512 (mulf (extractStridedSlice S16384x512 ![0, 2048] p slices_S16384x3072_S16384x512_0_2048) (extractStridedSlice S16384x512 ![0, 2560] p slices_S16384x3072_S16384x512_0_2560)) shapeCasts_S16384x512_S2x8192x512

/-- With two zero rows before each sequence. -/
def refPad (u : FVec Ideal S2x8192x512 .f32) : FVec Ideal S2x8194x512 .f32 :=
  pad S2x8194x512 ![0, 2, 0] ![0, 0, 0] ![0, 0, 0] u (sitofp .f32 (constantI S_ 32 0#32)) pads_S2x8192x512_S2x8194x512_000_200_000 h_S_

/-- The convolution over the padded rows. -/
def refSum (q : FVec Ideal S2x8194x512 .f32) (w : FVec Ideal S1x3x512 .f32) : FVec Ideal S2x8192x512 .f32 :=
  addf (addf (mulf (extractStridedSlice S2x8192x512 ![0, 0, 0] q slices_S2x8194x512_S2x8192x512_0_0_0) (broadcastInDim S2x8192x512 ![0, 1, 2] bcast_S1x1x512_S2x8192x512_0_1_2 (broadcastInDim S1x1x512 ![2] bcast_S512_S1x1x512_2 (shapeCast S512 (extractStridedSlice S1x1x512 ![0, 0, 0] w slices_S1x3x512_S1x1x512_0_0_0) shapeCasts_S1x1x512_S512))))
    (mulf (extractStridedSlice S2x8192x512 ![0, 1, 0] q slices_S2x8194x512_S2x8192x512_0_1_0) (broadcastInDim S2x8192x512 ![0, 1, 2] bcast_S1x1x512_S2x8192x512_0_1_2 (broadcastInDim S1x1x512 ![2] bcast_S512_S1x1x512_2 (shapeCast S512 (extractStridedSlice S1x1x512 ![0, 1, 0] w slices_S1x3x512_S1x1x512_0_1_0) shapeCasts_S1x1x512_S512)))))
    (mulf (extractStridedSlice S2x8192x512 ![0, 2, 0] q slices_S2x8194x512_S2x8192x512_0_2_0) (broadcastInDim S2x8192x512 ![0, 1, 2] bcast_S1x1x512_S2x8192x512_0_1_2 (broadcastInDim S1x1x512 ![2] bcast_S512_S1x1x512_2 (shapeCast S512 (extractStridedSlice S1x1x512 ![0, 2, 0] w slices_S1x3x512_S1x1x512_0_2_0) shapeCasts_S1x1x512_S512))))

/-- The convolution's columns. -/
def refConv (p : FVec Ideal S16384x3072 .f32) (w : FVec Ideal S1x3x512 .f32) : FVec Ideal S16384x512 .bf16 :=
  truncf .bf16 (mulf (extractStridedSlice S16384x512 ![0, 1536] p slices_S16384x3072_S16384x512_0_1536) (shapeCast S16384x512 (refSum (refPad (refCu p)) w) shapeCasts_S2x8192x512_S16384x512)) bitsLt_bf16_f32

/-- A normalised row at an index. -/
theorem refRms_apply (x : FVec Ideal S16384x1024 .f32) (g : FVec Ideal S2x1024 .f32) (r : Fin 16384) (d : Fin 1024) :
    refRms x g (ix2 r d) = Rows.rms (fun e => x (ix2 r e)) (fun e => g (ix2 0 e)) d := by
  pointwise [refRms]
  rfl

/-- A projected row at an index. -/
theorem refProj_apply (x : FVec Ideal S16384x1024 .f32) (g : FVec Ideal S2x1024 .f32) (w : FVec Ideal S1x1024x3072 .f32) (r : Fin 16384) (n : Fin 3072) :
    refProj x g w (ix2 r n) = prj (Rows.rms (fun e => x (ix2 r e)) (fun e => g (ix2 0 e))) (fun e => w (ix3 0 e n)) := by
  pointwise [refProj]
  simp only [refRms_apply]
  rfl

/-- The query, key and value columns at an index. -/
theorem refQkv_apply (p : FVec Ideal S16384x3072 .f32) (r : Fin 16384) (n : Fin 1536) : refQkv p (ix2 r n) = p (ix2 r ⟨n.val, by omega⟩) := by
  pointwise [refQkv]

/-- A gated column at an index. -/
theorem refCu_apply (p : FVec Ideal S16384x3072 .f32) (b : Fin 2) (s : Fin 8192) (n : Fin 512) :
    refCu p (ix3 b s n) = p (ix2 ⟨b.val * 8192 + s.val, by omega⟩ ⟨2048 + n.val, by omega⟩) * p (ix2 ⟨b.val * 8192 + s.val, by omega⟩ ⟨2560 + n.val, by omega⟩) := by
  pointwise [refCu]

/-- A padded row at an index. -/
theorem refPad_apply (u : FVec Ideal S2x8192x512 .f32) (b : Fin 2) (j : Fin 8194) (n : Fin 512) :
    refPad u (ix3 b j n) = if h : j.val < 2 then 0 else u (ix3 b ⟨j.val - 2, by omega⟩ n) := by
  unfold refPad
  split
  next h =>
    rw [pad_apply_of_not_inside _ _ _ _ _ _ _ (ix3 b j n) 1 (fun hh => by
      have : 2 ≤ j.val := hh.1
      omega)]
    pointwise []
    show (((0#32 : BitVec 32).toInt : ℝ) : EReal) = 0
    simp
  next h =>
    refine pad_apply_of_inside _ _ _ _ _ _ _ (ix3 b j n) (ix3 b ⟨j.val - 2, by omega⟩ n) fun a => ?_
    match a with
    | ⟨0, _⟩ => show b.val = 0 + b.val * (0 + 1); omega
    | ⟨1, _⟩ => show j.val = 2 + (j.val - 2) * (0 + 1); omega
    | ⟨2, _⟩ => show n.val = 0 + n.val * (0 + 1); omega

/-- The convolution at an index. -/
theorem refSum_apply (q : FVec Ideal S2x8194x512 .f32) (w : FVec Ideal S1x3x512 .f32) (b : Fin 2) (s : Fin 8192) (n : Fin 512) :
    refSum q w (ix3 b s n) = q (ix3 b ⟨s.val, by omega⟩ n) * w (ix3 0 0 n) + q (ix3 b ⟨1 + s.val, by omega⟩ n) * w (ix3 0 1 n) + q (ix3 b ⟨2 + s.val, by omega⟩ n) * w (ix3 0 2 n) := by
  pointwise [refSum]

/-- The convolution's columns at an index. -/
theorem refConv_apply (p : FVec Ideal S16384x3072 .f32) (w : FVec Ideal S1x3x512 .f32) (r : Fin 16384) (n : Fin 512) :
    refConv p w (ix2 r n) = p (ix2 r ⟨1536 + n.val, by omega⟩) * refSum (refPad (refCu p)) w (ix3 ⟨r.val / 8192, by omega⟩ ⟨r.val % 8192, by omega⟩ n) := by
  pointwise [refConv]

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = refQkv (refProj (m ((c.tc : Thread nD τ).loc main_arg0)) (m ((c.tc : Thread nD τ).loc main_arg1)) (m ((c.tc : Thread nD τ).loc main_arg2)))
      ∧ r.2.mem ((c.tc : Thread nD τ).loc main_v47) = refConv (refProj (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference5Ideal.Value.run m ρ

end Ref

/-! ## The kernel's block at an index -/

open Cert.Kernel5Ideal Cert.Kernel5Ideal.Gen

/-- The zero offsets. -/
theorem hz : (![0, 0] : Fin 2 → Nat) = fun _ => 0 := funext fun a => by fin_cases a <;> rfl

/-- The block's normalised rows. -/
theorem pay4_apply (x : Vec Ideal S1024x1024 .f32) (g : Vec Ideal S1x1024 .f32) (r d : Fin 1024) :
    k0_pay4 x g (ix2 r d) = Rows.rms (fun e => x (ix2 r e)) (fun e => g (ix2 0 e)) d := by
  pointwise [k0_pay4]
  rfl

/-- The query columns. -/
theorem pay1_apply (h : FVec Ideal S1024x1024 .bf16) (w : Vec Ideal S1024x512 .bf16) (r : Fin 1024) (n : Fin 512) :
    k0_pay1 h (k0_pay9 w) (constant S1024x512 .f32 0x00000000#32) (ix2 r n) = prj (fun e => h (ix2 r e)) (fun e => w (ix2 e n)) := by
  pointwise [k0_pay1, k0_pay9]
  rfl

/-- The key and value columns. -/
theorem pay2_apply (h : FVec Ideal S1024x1024 .bf16) (w : Vec Ideal S1024x1024 .bf16) (r n : Fin 1024) :
    k0_pay2 h w (ix2 r n) = prj (fun e => h (ix2 r e)) (fun e => w (ix2 e n)) := by
  pointwise [k0_pay2]
  rfl

/-- The rows before the first are zero. -/
theorem pay3_apply (r : Fin 8) (n : Fin 512) : k0_pay3 (F := Ideal) (ix2 r n) = (0 : EReal) := by
  pointwise [k0_pay3]

/-- The gated columns. -/
theorem pay5_apply (x : Vec Ideal S1024x1024 .f32) (g : Vec Ideal S1x1024 .f32) (w v : Vec Ideal S1024x512 .bf16) (r : Fin 1024) (n : Fin 512) :
    k0_pay5 x g w v (ix2 r n) = prj (fun e => k0_pay4 x g (ix2 r e)) (fun e => w (ix2 e n)) * prj (fun e => k0_pay4 x g (ix2 r e)) (fun e => v (ix2 e n)) := by
  pointwise [k0_pay5]
  rfl

/-- The gated columns are stored as they are. -/
theorem pay6_apply (x : FVec Ideal S1024x512 .f32) (r : Fin 1024) (n : Fin 512) : k0_pay6 x (ix2 r n) = x (ix2 r n) := by
  pointwise [k0_pay6]

/-- The last rows are carried as they are. -/
theorem pay8_apply (x : FVec Ideal S8x512 .f32) (r : Fin 8) (n : Fin 512) : k0_pay8 x (ix2 r n) = x (ix2 r n) := by
  pointwise [k0_pay8]

/-- The convolution's columns. -/
theorem pay7_apply (h : FVec Ideal S1024x1024 .bf16) (w0 : Vec Ideal S1x512 .f32) (c0 : Vec Ideal S1024x512 .f32) (w1 : Vec Ideal S1x512 .f32) (c1 : Vec Ideal S1024x512 .f32)
    (w2 : Vec Ideal S1x512 .f32) (c2 : Vec Ideal S1024x512 .f32) (b : Vec Ideal S1024x512 .bf16) (r : Fin 1024) (n : Fin 512) :
    k0_pay7 h w0 c0 w1 c1 w2 c2 b (ix2 r n) = prj (fun e => h (ix2 r e)) (fun e => b (ix2 e n))
      * (w0 (ix2 0 n) * c0 (ix2 r n) + w1 (ix2 0 n) * c1 (ix2 r n) + w2 (ix2 0 n) * c2 (ix2 r n)) := by
  pointwise [k0_pay7]
  rfl

/-! ## The block's values -/

section Blk
variable (x0 : Vec Ideal S1024x1024 .f32) (x1 : Vec Ideal S1x1024 .f32) (x2 : Vec Ideal S1024x3072 .bf16) (x3 : Vec Ideal S3x512 .f32)

/-- Column `n` of the projection of the block's row `r`. -/
def prjAt (r : Fin 1024) (n : Fin 3072) : EReal := prj (Rows.rms (fun e => x0 (ix2 r e)) (fun e => x1 (ix2 0 e))) (fun e => x2 (ix2 e n))

/-- The gated column `n` of the block's row `r`. -/
def cuAt (r : Fin 1024) (n : Fin 512) : EReal := prjAt x0 x1 x2 r ⟨2048 + n.val, by omega⟩ * prjAt x0 x1 x2 r ⟨2560 + n.val, by omega⟩

/-- The gated rows with the eight rows before them. -/
def ext (z : Fin 8 → Fin 512 → EReal) (q : Fin 1024 → Fin 512 → EReal) : Vec Ideal S1032x512 .f32 :=
  fun y => if h : (y 0).val < 8 then z ⟨(y 0).val, h⟩ (y 1) else q ⟨(y 0).val - 8, by have : (y 0).val < 1032 := (y 0).isLt; omega⟩ (y 1)

/-- A block of the query, key and value columns. -/
def qkvBlk : Vec Ideal S1024x1536 .bf16 := fun y => prjAt x0 x1 x2 (y 0) ⟨(y 1).val, by have : (y 1).val < 1536 := (y 1).isLt; omega⟩

/-- A block of the convolution's columns, from the eight rows before the block. -/
def convBlk (z : Fin 8 → Fin 512 → EReal) : Vec Ideal S1024x512 .bf16 := fun y =>
  prjAt x0 x1 x2 (y 0) ⟨1536 + (y 1).val, by have : (y 1).val < 512 := (y 1).isLt; omega⟩
    * (x3 (ix2 0 (y 1)) * ext z (cuAt x0 x1 x2) (ix2 ⟨6 + (y 0).val, by have : (y 0).val < 1024 := (y 0).isLt; omega⟩ (y 1))
      + x3 (ix2 1 (y 1)) * ext z (cuAt x0 x1 x2) (ix2 ⟨7 + (y 0).val, by have : (y 0).val < 1024 := (y 0).isLt; omega⟩ (y 1))
      + x3 (ix2 2 (y 1)) * ext z (cuAt x0 x1 x2) (ix2 ⟨8 + (y 0).val, by have : (y 0).val < 1024 := (y 0).isLt; omega⟩ (y 1)))

/-- The last eight gated rows. -/
def tailOf (r : Fin 8) (n : Fin 512) : EReal := cuAt x0 x1 x2 ⟨1016 + r.val, by omega⟩ n

/-- What is carried to the next block: the last eight gated rows before the block's own. -/
def carryBlk : Vec Ideal S1032x512 .f32 := ext (tailOf x0 x1 x2) (cuAt x0 x1 x2)

end Blk

/-- A load of 512 columns of the weights. -/
theorem ld_cols (x2 : Vec Ideal S1024x3072 .bf16) (o : Nat) (ho : o + 512 ≤ 3072) (inb : ∀ a, (![0, o] : Fin 2 → Nat) a + (![1024, 512] : Fin 2 → Nat) a ≤ S1024x3072.size a) (e : Fin 1024) (n : Fin 512) :
    View.ld x2 (Rect.unit (s := S1024x3072) ![0, o] ![1024, 512] inb) (ix2 e n) = x2 (ix2 e ⟨o + n.val, by omega⟩) := by
  refine congrArg x2 (funext fun a => Fin.ext ?_)
  match a with
  | ⟨0, _⟩ => show 0 + 1 * e.val = e.val; omega
  | ⟨1, _⟩ => show o + 1 * n.val = o + n.val; omega

/-- A load of 1024 columns of the weights. -/
theorem ld_cols' (x2 : Vec Ideal S1024x3072 .bf16) (o : Nat) (ho : o + 1024 ≤ 3072) (inb : ∀ a, (![0, o] : Fin 2 → Nat) a + (![1024, 1024] : Fin 2 → Nat) a ≤ S1024x3072.size a) (e n : Fin 1024) :
    View.ld x2 (Rect.unit (s := S1024x3072) ![0, o] ![1024, 1024] inb) (ix2 e n) = x2 (ix2 e ⟨o + n.val, by omega⟩) := by
  refine congrArg x2 (funext fun a => Fin.ext ?_)
  match a with
  | ⟨0, _⟩ => show 0 + 1 * e.val = e.val; omega
  | ⟨1, _⟩ => show o + 1 * n.val = o + n.val; omega

/-- A load of one row of the taps. -/
theorem ld_tap (x3 : Vec Ideal S3x512 .f32) (k : Fin 3) (inb : ∀ a, (![k.val, 0] : Fin 2 → Nat) a + (![1, 512] : Fin 2 → Nat) a ≤ S3x512.size a) (n : Fin 512) :
    View.ld x3 (Rect.unit (s := S3x512) ![k.val, 0] ![1, 512] inb) (ix2 0 n) = x3 (ix2 k n) := by
  refine congrArg x3 (funext fun a => Fin.ext ?_)
  match a with
  | ⟨0, _⟩ => show k.val + 1 * 0 = k.val; omega
  | ⟨1, _⟩ => show 0 + 1 * n.val = n.val; omega

/-- The projection of the block's normalised rows. -/
theorem prj_pay4 (x0 : Vec Ideal S1024x1024 .f32) (x1 : Vec Ideal S1x1024 .f32) (x2 : Vec Ideal S1024x3072 .bf16) (w : Fin 1024 → EReal) (r : Fin 1024) (n : Fin 3072)
    (h : ∀ e, w e = x2 (ix2 e n)) : prj (fun e => k0_pay4 x0 x1 (ix2 r e)) w = prjAt x0 x1 x2 r n := by
  unfold prjAt
  exact congrArg₂ prj (funext fun e => pay4_apply x0 x1 r e) (funext h)

/-- The gated rows stored. -/
def cuVec (x0 : Vec Ideal S1024x1024 .f32) (x1 : Vec Ideal S1x1024 .f32) (x2 : Vec Ideal S1024x3072 .bf16) : FVec Ideal S1024x512 .f32 :=
  k0_pay6 (k0_pay5 x0 x1 (View.ld x2 (Rect.unit ![0, 2048] ![1024, 512] inb_S1024x3072_S1024x512_0_2048)) (View.ld x2 (Rect.unit ![0, 2560] ![1024, 512] inb_S1024x3072_S1024x512_0_2560)))

/-- They are the gated rows. -/
theorem cuVec_apply (x0 : Vec Ideal S1024x1024 .f32) (x1 : Vec Ideal S1x1024 .f32) (x2 : Vec Ideal S1024x3072 .bf16) (r : Fin 1024) (n : Fin 512) :
    cuVec x0 x1 x2 (ix2 r n) = cuAt x0 x1 x2 r n := by
  unfold cuVec cuAt
  rw [pay6_apply, pay5_apply]
  exact congrArg₂ (· * ·) (prj_pay4 _ _ _ _ _ _ fun e => ld_cols x2 2048 (by omega) _ e n) (prj_pay4 _ _ _ _ _ _ fun e => ld_cols x2 2560 (by omega) _ e n)

/-! ## The carried rows, read back -/

/-- A row of the block, read in what the stores left. -/
theorem canon_rest (q : FVec Ideal S1024x512 .f32) (L : List (View.Piece (Elt Ideal) S1032x512 .f32)) (j : Fin 1032) (n : Fin 512) :
    View.canon ((⟨Rect.unit ![8, 0] ![1024, 512] inb_S1032x512_S1024x512_8_0, q⟩ : View.Piece (Elt Ideal) S1032x512 .f32) :: L) (ix2 j n)
      = if h : j.val < 8 then View.canon L (ix2 j n) else q (ix2 ⟨j.val - 8, by omega⟩ n) := by
  split
  next h =>
    refine View.canon_cons_of_not_mem _ L fun hm => ?_
    have := (Rect.mem_set_unit (inb := inb_S1032x512_S1024x512_8_0).1 hm) 0
    have h1 : 8 ≤ j.val := this.1
    omega
  next h =>
    have e : (Rect.unit (s := S1032x512) ![8, 0] ![1024, 512] inb_S1032x512_S1024x512_8_0).emb (ix2 (⟨j.val - 8, by omega⟩ : Fin 1024) n) = (ix2 j n : S1032x512.Idx) := by
      funext a; apply Fin.ext
      match a with
      | ⟨0, _⟩ => show 8 + 1 * (j.val - 8) = j.val; omega
      | ⟨1, _⟩ => show 0 + 1 * n.val = n.val; omega
    rw [← e]
    exact View.canon_cons_emb _ _ L _

/-- One of the eight rows before the block, read in what the stores left. -/
theorem canon_top (z : FVec Ideal S8x512 .f32) (L : List (View.Piece (Elt Ideal) S1032x512 .f32)) (j : Fin 1032) (n : Fin 512) :
    View.canon ((⟨Rect.unit ![0, 0] ![8, 512] inb_S1032x512_S8x512_0_0, z⟩ : View.Piece (Elt Ideal) S1032x512 .f32) :: L) (ix2 j n)
      = if h : j.val < 8 then z (ix2 ⟨j.val, h⟩ n) else View.canon L (ix2 j n) := by
  split
  next h =>
    have e : (Rect.unit (s := S1032x512) ![0, 0] ![8, 512] inb_S1032x512_S8x512_0_0).emb (ix2 (⟨j.val, h⟩ : Fin 8) n) = (ix2 j n : S1032x512.Idx) := by
      funext a; apply Fin.ext
      match a with
      | ⟨0, _⟩ => show 0 + 1 * j.val = j.val; omega
      | ⟨1, _⟩ => show 0 + 1 * n.val = n.val; omega
    rw [← e]
    exact View.canon_cons_emb _ _ L _
  next h =>
    refine View.canon_cons_of_not_mem _ L fun hm => ?_
    have := (Rect.mem_set_unit (inb := inb_S1032x512_S8x512_0_0).1 hm) 0
    have h1 : j.val < 0 + 8 := this.2
    omega

/-- The block's rows over the eight before them. -/
theorem ext_apply (z : Fin 8 → Fin 512 → EReal) (q : Fin 1024 → Fin 512 → EReal) (j : Fin 1032) (n : Fin 512) :
    ext z q (ix2 j n) = if h : j.val < 8 then z ⟨j.val, h⟩ n else q ⟨j.val - 8, by omega⟩ n := rfl

/-- The rows stored over eight zero rows. -/
theorem canon_first (x0 : Vec Ideal S1024x1024 .f32) (x1 : Vec Ideal S1x1024 .f32) (x2 : Vec Ideal S1024x3072 .bf16) (j : Fin 1032) (n : Fin 512) :
    View.canon [(⟨Rect.unit ![8, 0] ![1024, 512] inb_S1032x512_S1024x512_8_0, cuVec x0 x1 x2⟩ : View.Piece (Elt Ideal) S1032x512 .f32), ⟨Rect.unit ![0, 0] ![8, 512] inb_S1032x512_S8x512_0_0, k0_pay3 (F := Ideal)⟩] (ix2 j n)
      = ext (fun _ _ => 0) (cuAt x0 x1 x2) (ix2 j n) := by
  rw [canon_rest, ext_apply]
  split
  next h => rw [canon_top, dif_pos h]; exact pay3_apply _ _
  next h => exact cuVec_apply _ _ _ _ _

/-- The rows stored over the rows carried. -/
theorem read_next (a7 : Memref sig .tc .vmem S1032x512 .f32) (h7 : a7.IsWhole) (s : Vec Ideal S1032x512 .f32)
    (x0 : Vec Ideal S1024x1024 .f32) (x1 : Vec Ideal S1x1024 .f32) (x2 : Vec Ideal S1024x3072 .bf16) (j : Fin 1032) (n : Fin 512) :
    View.read (Elt Ideal) a7.view (a7.view.writes (Elt Ideal) (h7.unread s) [⟨Rect.unit ![8, 0] ![1024, 512] inb_S1032x512_S1024x512_8_0, cuVec x0 x1 x2⟩]) (ix2 j n)
      = ext (fun i n => s (ix2 ⟨i.val, by omega⟩ n)) (cuAt x0 x1 x2) (ix2 j n) := by
  rw [ext_apply]
  split
  next h =>
    rw [View.read_writes_cons_unit_of_not_mem a7.view _ inb_S1032x512_S1024x512_8_0 _ [] (ix2 j n) rfl 0 (Or.inl h), View.writes_nil, h7.read_unread]
  next h =>
    have e : (Rect.unit (s := S1032x512) ![8, 0] ![1024, 512] inb_S1032x512_S1024x512_8_0).emb (ix2 (⟨j.val - 8, by omega⟩ : Fin 1024) n) = (ix2 j n : S1032x512.Idx) := by
      funext a; apply Fin.ext
      match a with
      | ⟨0, _⟩ => show 8 + 1 * (j.val - 8) = j.val; omega
      | ⟨1, _⟩ => show 0 + 1 * n.val = n.val; omega
    rw [← e]
    exact (View.read_writes_cons_emb a7.view _ _ _ _ _).trans (cuVec_apply _ _ _ _ _)

/-- A load in what the stores left. -/
theorem readCov_apply (v : View sig .tc .vmem S1032x512 .f32) (L : List (View.Piece (Elt Ideal) S1032x512 .f32)) (o : Nat) (ho : o + 1024 ≤ 1032)
    (inb : ∀ a, (![o, 0] : Fin 2 → Nat) a + (![1024, 512] : Fin 2 → Nat) a ≤ S1032x512.size a) (r : Fin 1024) (n : Fin 512) :
    v.readCov L (Rect.unit (s := S1032x512) ![o, 0] ![1024, 512] inb).toLoadRect (ix2 r n) = View.canon L (ix2 ⟨o + r.val, by omega⟩ n) := by
  rw [View.readCov_eq_canon']
  refine congrArg (View.canon L) (funext fun a => Fin.ext ?_)
  match a with
  | ⟨0, _⟩ => show o + 1 * r.val = o + r.val; omega
  | ⟨1, _⟩ => show 0 + 1 * n.val = n.val; omega

/-- A load of the last eight rows in what the stores left. -/
theorem readCov_last (v : View sig .tc .vmem S1032x512 .f32) (L : List (View.Piece (Elt Ideal) S1032x512 .f32)) (r : Fin 8) (n : Fin 512) :
    v.readCov L (Rect.unit (s := S1032x512) ![1024, 0] ![8, 512] inb_S1032x512_S8x512_1024_0).toLoadRect (ix2 r n) = View.canon L (ix2 ⟨1024 + r.val, by omega⟩ n) := by
  rw [View.readCov_eq_canon']
  refine congrArg (View.canon L) (funext fun a => Fin.ext ?_)
  match a with
  | ⟨0, _⟩ => show 1024 + 1 * r.val = 1024 + r.val; omega
  | ⟨1, _⟩ => show 0 + 1 * n.val = n.val; omega

/-- A load in a stored block. -/
theorem ld_rows (s : Vec Ideal S1032x512 .f32) (o : Nat) (ho : o + 1024 ≤ 1032)
    (inb : ∀ a, (![o, 0] : Fin 2 → Nat) a + (![1024, 512] : Fin 2 → Nat) a ≤ S1032x512.size a) (r : Fin 1024) (n : Fin 512) :
    View.ld s (Rect.unit (s := S1032x512) ![o, 0] ![1024, 512] inb) (ix2 r n) = s (ix2 ⟨o + r.val, by omega⟩ n) := by
  refine congrArg s (funext fun a => Fin.ext ?_)
  match a with
  | ⟨0, _⟩ => show o + 1 * r.val = o + r.val; omega
  | ⟨1, _⟩ => show 0 + 1 * n.val = n.val; omega

/-! ## What a point leaves -/

/-- The stores of the query, key and value columns. -/
theorem qkv_pieces (x0 : Vec Ideal S1024x1024 .f32) (x1 : Vec Ideal S1x1024 .f32) (x2 : Vec Ideal S1024x3072 .bf16) :
    ∀ p ∈ [(⟨Rect.unit ![0, 512] ![1024, 1024] inb_S1024x1536_S1024x1024_0_512, k0_pay2 (k0_pay4 x0 x1) (View.ld x2 (Rect.unit ![0, 512] ![1024, 1024] inb_S1024x3072_S1024x1024_0_512))⟩ : View.Piece (Elt Ideal) S1024x1536 .bf16),
        ⟨Rect.unit ![0, 0] ![1024, 512] inb_S1024x1536_S1024x512_0_0, k0_pay1 (k0_pay4 x0 x1) (k0_pay9 (View.ld x2 (Rect.unit ![0, 0] ![1024, 512] inb_S1024x3072_S1024x512_0_0))) (constant S1024x512 .f32 0x00000000#32)⟩],
      ∀ x, p.2 x = qkvBlk x0 x1 x2 (p.1.emb x) := by
  intro p hp
  simp only [List.mem_cons, List.not_mem_nil, or_false] at hp
  rcases hp with rfl | rfl
  · intro x
    obtain ⟨r, n, rfl⟩ : ∃ (r : Fin 1024) (n : Fin 1024), x = ix2 r n := ⟨x 0, x 1, (ix2_eta x).symm⟩
    have e : (Rect.unit (s := S1024x1536) ![0, 512] ![1024, 1024] inb_S1024x1536_S1024x1024_0_512).emb (ix2 r n) = (ix2 r ⟨512 + n.val, by omega⟩ : S1024x1536.Idx) := by
      funext a; apply Fin.ext
      match a with
      | ⟨0, _⟩ => show 0 + 1 * r.val = r.val; omega
      | ⟨1, _⟩ => show 512 + 1 * n.val = 512 + n.val; omega
    refine (pay2_apply _ _ r n).trans ?_
    dsimp only
    rw [e]
    exact prj_pay4 _ _ _ _ _ _ fun k => ld_cols' x2 512 (by omega) _ k n
  · intro x
    obtain ⟨r, n, rfl⟩ : ∃ (r : Fin 1024) (n : Fin 512), x = ix2 r n := ⟨x 0, x 1, (ix2_eta x).symm⟩
    have e : (Rect.unit (s := S1024x1536) ![0, 0] ![1024, 512] inb_S1024x1536_S1024x512_0_0).emb (ix2 r n) = (ix2 r ⟨0 + n.val, by omega⟩ : S1024x1536.Idx) := by
      funext a; apply Fin.ext
      match a with
      | ⟨0, _⟩ => show 0 + 1 * r.val = r.val; omega
      | ⟨1, _⟩ => show 0 + 1 * n.val = 0 + n.val; omega
    refine (pay1_apply _ _ r n).trans ?_
    dsimp only
    rw [e]
    exact prj_pay4 _ _ _ _ _ _ fun k => ld_cols x2 0 (by omega) _ k n

/-- The convolution of rows read back. -/
theorem conv_eq (x0 : Vec Ideal S1024x1024 .f32) (x1 : Vec Ideal S1x1024 .f32) (x2 : Vec Ideal S1024x3072 .bf16) (x3 : Vec Ideal S3x512 .f32) (z : Fin 8 → Fin 512 → EReal)
    (c0 c1 c2 : Vec Ideal S1024x512 .f32) (h0 : ∀ (r : Fin 1024) (n : Fin 512), c0 (ix2 r n) = ext z (cuAt x0 x1 x2) (ix2 ⟨6 + r.val, by omega⟩ n))
    (h1 : ∀ (r : Fin 1024) (n : Fin 512), c1 (ix2 r n) = ext z (cuAt x0 x1 x2) (ix2 ⟨7 + r.val, by omega⟩ n))
    (h2 : ∀ (r : Fin 1024) (n : Fin 512), c2 (ix2 r n) = ext z (cuAt x0 x1 x2) (ix2 ⟨8 + r.val, by omega⟩ n)) :
    k0_pay7 (k0_pay4 x0 x1) (View.ld x3 (Rect.unit ![0, 0] ![1, 512] inb_S3x512_S1x512_0_0)) c0 (View.ld x3 (Rect.unit ![1, 0] ![1, 512] inb_S3x512_S1x512_1_0)) c1
      (View.ld x3 (Rect.unit ![2, 0] ![1, 512] inb_S3x512_S1x512_2_0)) c2 (View.ld x2 (Rect.unit ![0, 1536] ![1024, 512] inb_S1024x3072_S1024x512_0_1536)) = convBlk x0 x1 x2 x3 z := by
  funext y
  obtain ⟨r, n, rfl⟩ : ∃ (r : Fin 1024) (n : Fin 512), y = ix2 r n := ⟨y 0, y 1, (ix2_eta y).symm⟩
  refine (pay7_apply _ _ _ _ _ _ _ _ r n).trans ?_
  rw [h0, h1, h2]
  exact congrArg₂ (· * ·) (prj_pay4 _ _ _ _ _ _ fun e => ld_cols x2 1536 (by omega) _ e n)
    (congrArg₂ (· + ·) (congrArg₂ (· + ·) (congrArg (· * _) (ld_tap x3 0 _ n)) (congrArg (· * _) (ld_tap x3 1 _ n))) (congrArg (· * _) (ld_tap x3 2 _ n)))

/-- The rows carried, from the last eight rows read back. -/
theorem carry_eq (x0 : Vec Ideal S1024x1024 .f32) (x1 : Vec Ideal S1x1024 .f32) (x2 : Vec Ideal S1024x3072 .bf16) (v : FVec Ideal S8x512 .f32)
    (L : List (View.Piece (Elt Ideal) S1032x512 .f32)) (hv : ∀ (r : Fin 8) (n : Fin 512), v (ix2 r n) = tailOf x0 x1 x2 r n) :
    View.canon ((⟨Rect.unit ![0, 0] ![8, 512] inb_S1032x512_S8x512_0_0, k0_pay8 (F := Ideal) v⟩ : View.Piece (Elt Ideal) S1032x512 .f32) :: ⟨Rect.unit ![8, 0] ![1024, 512] inb_S1032x512_S1024x512_8_0, cuVec x0 x1 x2⟩ :: L)
      = carryBlk x0 x1 x2 := by
  funext y
  obtain ⟨j, n, rfl⟩ : ∃ (j : Fin 1032) (n : Fin 512), y = ix2 j n := ⟨y 0, y 1, (ix2_eta y).symm⟩
  unfold carryBlk
  rw [canon_top, ext_apply]
  split
  next h => exact (pay8_apply _ _ _).trans (hv _ _)
  next h => rw [canon_rest, dif_neg h]; exact cuVec_apply _ _ _ _ _

/-- The last eight rows, read in what the stores left. -/
theorem last_eq (x0 : Vec Ideal S1024x1024 .f32) (x1 : Vec Ideal S1x1024 .f32) (x2 : Vec Ideal S1024x3072 .bf16) (v : View sig .tc .vmem S1032x512 .f32)
    (L : List (View.Piece (Elt Ideal) S1032x512 .f32)) (r : Fin 8) (n : Fin 512) :
    v.readCov ((⟨Rect.unit ![8, 0] ![1024, 512] inb_S1032x512_S1024x512_8_0, cuVec x0 x1 x2⟩ : View.Piece (Elt Ideal) S1032x512 .f32) :: L)
      (Rect.unit (s := S1032x512) ![1024, 0] ![8, 512] inb_S1032x512_S8x512_1024_0).toLoadRect (ix2 r n) = tailOf x0 x1 x2 r n := by
  rw [readCov_last, canon_rest, dif_neg (by show ¬ 1024 + r.val < 8; omega), cuVec_apply]
  exact congrArg (cuAt x0 x1 x2 · n) (Fin.ext (by show 1024 + r.val - 8 = 1016 + r.val; omega))

/-- The block's own rows, read in what the stores left. -/
theorem own_eq (x0 : Vec Ideal S1024x1024 .f32) (x1 : Vec Ideal S1x1024 .f32) (x2 : Vec Ideal S1024x3072 .bf16) (v : View sig .tc .vmem S1032x512 .f32)
    (L : List (View.Piece (Elt Ideal) S1032x512 .f32)) (z : Fin 8 → Fin 512 → EReal) (r : Fin 1024) (n : Fin 512) :
    v.readCov ((⟨Rect.unit ![8, 0] ![1024, 512] inb_S1032x512_S1024x512_8_0, cuVec x0 x1 x2⟩ : View.Piece (Elt Ideal) S1032x512 .f32) :: L)
      (Rect.unit (s := S1032x512) ![8, 0] ![1024, 512] inb_S1032x512_S1024x512_8_0).toLoadRect (ix2 r n) = ext z (cuAt x0 x1 x2) (ix2 ⟨8 + r.val, by omega⟩ n) := by
  rw [readCov_apply _ _ 8 (by omega), canon_rest, ext_apply, dif_neg (by show ¬ 8 + r.val < 8; omega), dif_neg (by show ¬ 8 + r.val < 8; omega)]
  exact cuVec_apply _ _ _ _ _

/-- The query, key and value columns that a sequence's first point leaves. -/
theorem out_A_4 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : cond0_0 i)
    (x0 : Vec Ideal S1024x1024 .f32) (x1 : Vec Ideal S1x1024 .f32) (x2 : Vec Ideal S1024x3072 .bf16) (x3 : Vec Ideal S3x512 .f32) :
    out0_A_4 c i a1 h1 a2 h2 a3 h3 a4 h4 a5 h5 a6 h6 a7 h7 hc x0 x1 x2 x3 = qkvBlk x0 x1 x2 := by
  unfold out0_A_4
  rw [View.read_writes_eq_canon _ _ _ (cover0_A_4 c i a1 h1 a2 h2 a3 h3 a4 h4 a5 h5 a6 h6 a7 h7 hc x0 x1 x2 x3)]
  funext y
  refine View.canon_apply_of_pieces (qkvBlk x0 x1 x2) _ ?_ y (cover0_A_4 c i a1 h1 a2 h2 a3 h3 a4 h4 a5 h5 a6 h6 a7 h7 hc x0 x1 x2 x3 y)
  unfold kernelRun0_A
  dsimp only
  sl_unfold_words
  simp only [View.readAt_eq_ld, h1.read_unread, h2.read_unread, h3.read_unread, h4.read_unread, View.ld_unit_zero (S := S1024x1024) hz, View.ld_unit_zero (S := S1x1024) hz]
  exact qkv_pieces x0 x1 x2

/-- The convolution's columns that a sequence's first point leaves. -/
theorem out_A_5 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : cond0_0 i)
    (x0 : Vec Ideal S1024x1024 .f32) (x1 : Vec Ideal S1x1024 .f32) (x2 : Vec Ideal S1024x3072 .bf16) (x3 : Vec Ideal S3x512 .f32) :
    out0_A_5 c i a1 h1 a2 h2 a3 h3 a4 h4 a5 h5 a6 h6 a7 h7 hc x0 x1 x2 x3 = convBlk x0 x1 x2 x3 (fun _ _ => 0) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread, View.ld_unit_zero (S := S1024x1024) hz, View.ld_unit_zero (S := S1x1024) hz]
  rw [View.canon_cons_unit_zero (S := S1024x512) hz]
  exact conv_eq x0 x1 x2 x3 _ _ _ _ (fun r n => (readCov_apply _ _ 6 (by omega) _ r n).trans (canon_first x0 x1 x2 _ n))
    (fun r n => (readCov_apply _ _ 7 (by omega) _ r n).trans (canon_first x0 x1 x2 _ n)) (fun r n => (readCov_apply _ _ 8 (by omega) _ r n).trans (canon_first x0 x1 x2 _ n))

/-- The rows that a sequence's first point carries. -/
theorem sout_A_0 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : cond0_0 i)
    (x0 : Vec Ideal S1024x1024 .f32) (x1 : Vec Ideal S1x1024 .f32) (x2 : Vec Ideal S1024x3072 .bf16) (x3 : Vec Ideal S3x512 .f32) :
    sout0_A_0 c i a1 h1 a2 h2 a3 h3 a4 h4 a5 h5 a6 h6 a7 h7 hc x0 x1 x2 x3 = carryBlk x0 x1 x2 := by
  unfold sout0_A_0
  rw [View.read_writes_eq_canon _ _ _ (scover0_A_0 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread, View.ld_unit_zero (S := S1024x1024) hz, View.ld_unit_zero (S := S1x1024) hz]
  exact carry_eq x0 x1 x2 _ _ fun r n => last_eq x0 x1 x2 _ _ r n

/-- The query, key and value columns that a later point leaves. -/
theorem out_B_4 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : ¬cond0_0 i)
    (x0 : Vec Ideal S1024x1024 .f32) (x1 : Vec Ideal S1x1024 .f32) (x2 : Vec Ideal S1024x3072 .bf16) (x3 : Vec Ideal S3x512 .f32) (s : Vec Ideal S1032x512 .f32) :
    out0_B_4 c i a1 h1 a2 h2 a3 h3 a4 h4 a5 h5 a6 h6 a7 h7 hc x0 x1 x2 x3 s = qkvBlk x0 x1 x2 := by
  unfold out0_B_4
  rw [View.read_writes_eq_canon _ _ _ (cover0_B_4 c i a1 h1 a2 h2 a3 h3 a4 h4 a5 h5 a6 h6 a7 h7 hc x0 x1 x2 x3 s)]
  funext y
  refine View.canon_apply_of_pieces (qkvBlk x0 x1 x2) _ ?_ y (cover0_B_4 c i a1 h1 a2 h2 a3 h3 a4 h4 a5 h5 a6 h6 a7 h7 hc x0 x1 x2 x3 s y)
  unfold kernelRun0_B
  dsimp only
  sl_unfold_words
  simp only [View.readAt_eq_ld, h1.read_unread, h2.read_unread, h3.read_unread, h4.read_unread, View.ld_unit_zero (S := S1024x1024) hz, View.ld_unit_zero (S := S1x1024) hz]
  exact qkv_pieces x0 x1 x2

/-- The convolution's columns that a later point leaves. -/
theorem out_B_5 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : ¬cond0_0 i)
    (x0 : Vec Ideal S1024x1024 .f32) (x1 : Vec Ideal S1x1024 .f32) (x2 : Vec Ideal S1024x3072 .bf16) (x3 : Vec Ideal S3x512 .f32) (s : Vec Ideal S1032x512 .f32) :
    out0_B_5 c i a1 h1 a2 h2 a3 h3 a4 h4 a5 h5 a6 h6 a7 h7 hc x0 x1 x2 x3 s = convBlk x0 x1 x2 x3 (fun j n => s (ix2 ⟨j.val, by omega⟩ n)) := by
  unfold out0_B_5
  rw [View.read_writes_eq_canon _ _ _ (cover0_B_5 c i a1 h1 a2 h2 a3 h3 a4 h4 a5 h5 a6 h6 a7 h7 hc x0 x1 x2 x3 s)]
  unfold kernelRun0_B
  dsimp only
  sl_unfold_words
  simp only [View.readAt_eq_ld, h1.read_unread, h2.read_unread, h3.read_unread, h4.read_unread, View.ld_unit_zero (S := S1024x1024) hz, View.ld_unit_zero (S := S1x1024) hz]
  rw [View.canon_cons_unit_zero (S := S1024x512) hz]
  exact conv_eq x0 x1 x2 x3 _ _ _ _ (fun r n => (ld_rows _ 6 (by omega) _ r n).trans (read_next a7 h7 s x0 x1 x2 _ n))
    (fun r n => (ld_rows _ 7 (by omega) _ r n).trans (read_next a7 h7 s x0 x1 x2 _ n)) (fun r n => own_eq x0 x1 x2 _ _ _ r n)

/-- The rows that a later point carries. -/
theorem sout_B_0 (c : Dev nD) (i : grid0.Coords) (a1 : Memref sig .tc .vmem S1024x1024 .f32) (h1 : a1.IsWhole) (a2 : Memref sig .tc .vmem S1x1024 .f32) (h2 : a2.IsWhole)
    (a3 : Memref sig .tc .vmem S1024x3072 .bf16) (h3 : a3.IsWhole) (a4 : Memref sig .tc .vmem S3x512 .f32) (h4 : a4.IsWhole) (a5 : Memref sig .tc .vmem S1024x1536 .bf16) (h5 : a5.IsWhole)
    (a6 : Memref sig .tc .vmem S1024x512 .bf16) (h6 : a6.IsWhole) (a7 : Memref sig .tc .vmem S1032x512 .f32) (h7 : a7.IsWhole) (hc : ¬cond0_0 i)
    (x0 : Vec Ideal S1024x1024 .f32) (x1 : Vec Ideal S1x1024 .f32) (x2 : Vec Ideal S1024x3072 .bf16) (x3 : Vec Ideal S3x512 .f32) (s : Vec Ideal S1032x512 .f32) :
    sout0_B_0 c i a1 h1 a2 h2 a3 h3 a4 h4 a5 h5 a6 h6 a7 h7 hc x0 x1 x2 x3 s = carryBlk x0 x1 x2 := by
  unfold sout0_B_0
  rw [View.read_writes_eq_canon _ _ _ (scover0_B_0 c i a1 h1 a2 h2 a3 h3 a4 h4 a5 h5 a6 h6 a7 h7 hc x0 x1 x2 x3 s)]
  unfold kernelRun0_B
  dsimp only
  sl_unfold_words
  simp only [View.readAt_eq_ld, h1.read_unread, h2.read_unread, h3.read_unread, h4.read_unread, View.ld_unit_zero (S := S1024x1024) hz, View.ld_unit_zero (S := S1x1024) hz]
  exact carry_eq x0 x1 x2 _ _ fun r n => last_eq x0 x1 x2 _ _ r n

/-! ## The arrays -/

/-- The weights as the call takes them. -/
def hostW (w : FVec Ideal S1x1024x3072 .f32) : FVec Ideal S1024x3072 .bf16 :=
  truncf .bf16 (shapeCast S1024x3072 w shapeCasts_S1x1024x3072_S1024x3072) bitsLt_bf16_f32

/-- They are the weights. -/
theorem hostW_apply (w : FVec Ideal S1x1024x3072 .f32) (e : Fin 1024) (n : Fin 3072) : hostW w (ix2 e n) = w (ix3 0 e n) := by
  pointwise [hostW]

/-- The taps as the call takes them. -/
def hostT (w : FVec Ideal S1x3x512 .f32) : FVec Ideal S3x512 .f32 := shapeCast S3x512 w shapeCasts_S1x3x512_S3x512

/-- They are the taps. -/
theorem hostT_apply (w : FVec Ideal S1x3x512 .f32) (k : Fin 3) (n : Fin 512) : hostT w (ix2 k n) = w (ix3 0 k n) := by
  pointwise [hostT]

/-- Equal factors in the other order. -/
theorem mul_swap {a a' b b' : EReal} (h : a = a') (h' : b = b') : a * b = b' * a' := by
  rw [h, h', mul_comm]

section Arr
variable (m : (ℓ : Loc nD τ sig) → Buf (Elt Ideal) ℓ) (c : Dev nD)

/-- The gain as a row. -/
theorem V_gain : V m c main_v4 = shapeCast S1x1024 (shapeCast S1024 (extractStridedSlice S1x1024 ![0, 0] (m ((c.tc : Thread nD τ).loc main_arg1)) slices_S2x1024_S1x1024_0_0) shapeCasts_S1x1024_S1024) shapeCasts_S1024_S1x1024 := by
  unfold V
  after_results
  rfl

/-- The weights, cast. -/
theorem V_w : V m c main_v5 = hostW (m ((c.tc : Thread nD τ).loc main_arg2)) := by
  unfold V
  after_results
  rfl

/-- The taps. -/
theorem V_t : V m c main_v3 = hostT (m ((c.tc : Thread nD τ).loc main_arg3)) := by
  unfold V
  after_results
  rfl

/-- The block of rows that a point reads. -/
theorem idx0 : ∀ t : Fin cfg0.N, win0_0.index t = ![t.val, 0] := (by decide +kernel : ∀ t : Fin grid0.N, _)
/-- The gain's one block. -/
theorem idx1 : ∀ t : Fin cfg0.N, win0_1.index t = ![0, 0] := (by decide +kernel : ∀ t : Fin grid0.N, _)
/-- The weights' one block. -/
theorem idx2 : ∀ t : Fin cfg0.N, win0_2.index t = ![0, 0] := (by decide +kernel : ∀ t : Fin grid0.N, _)
/-- The taps' one block. -/
theorem idx3 : ∀ t : Fin cfg0.N, win0_3.index t = ![0, 0] := (by decide +kernel : ∀ t : Fin grid0.N, _)
/-- The block of query, key and value rows that a point writes. -/
theorem idx4 : ∀ t : Fin cfg0.N, win0_4.index t = ![t.val, 0] := (by decide +kernel : ∀ t : Fin grid0.N, _)
/-- The block of convolved rows that a point writes. -/
theorem idx5 : ∀ t : Fin cfg0.N, win0_5.index t = ![t.val, 0] := (by decide +kernel : ∀ t : Fin grid0.N, _)

/-- The blocks written cover the query, key and value columns. -/
theorem cov4 : (cfg0.win 4).Covers := by decide +kernel
/-- The blocks written cover the convolution's columns. -/
theorem cov5 : (cfg0.win 5).Covers := by decide +kernel

/-- There are sixteen points. -/
theorem lt_N (t : Fin cfg0.N) : t.val < 16 := lt_of_lt_of_eq t.isLt (show cfg0.N = 16 from N_0)

/-- The array's row at a block's row. -/
def rowAt (t : Fin cfg0.N) (r : Fin 1024) : Fin 16384 := ⟨t.val * 1024 + r.val, by have := lt_N t; omega⟩

/-- A block of rows. -/
theorem iblk0_apply (t : Fin cfg0.N) (r d : Fin 1024) : (iblk m c 0 t : Vec Ideal S1024x1024 .f32) (ix2 r d)
    = m ((c.tc : Thread nD τ).loc main_arg0) (ix2 (rowAt t r) d) := by
  have e : ((cfg0.win 0).blk t).view.emb (ix2 r d) = (ix2 (rowAt t r) d : S16384x1024.Idx) := by
    unfold rowAt
    blk_ext [idx0]
  blk_simp [iblk]
  rw [e, V_main_arg0]

/-- The gain's block. -/
theorem iblk1_apply (t : Fin cfg0.N) (d : Fin 1024) : (iblk m c 1 t : Vec Ideal S1x1024 .f32) (ix2 0 d)
    = m ((c.tc : Thread nD τ).loc main_arg1) (ix2 0 d) := by
  have e : ((cfg0.win 1).blk t).view.emb (ix2 0 d) = (ix2 0 d : S1x1024.Idx) := by
    blk_ext [idx1]
  blk_simp [iblk]
  rw [e, V_gain]
  pointwise []

/-- The weights' block. -/
theorem iblk2_apply (t : Fin cfg0.N) (e : Fin 1024) (n : Fin 3072) : (iblk m c 2 t : Vec Ideal S1024x3072 .bf16) (ix2 e n)
    = m ((c.tc : Thread nD τ).loc main_arg2) (ix3 0 e n) := by
  have h : ((cfg0.win 2).blk t).view.emb (ix2 e n) = (ix2 e n : S1024x3072.Idx) := by
    blk_ext [idx2]
  blk_simp [iblk]
  rw [h, V_w]
  exact hostW_apply _ e n

/-- The taps' block. -/
theorem iblk3_apply (t : Fin cfg0.N) (k : Fin 3) (n : Fin 512) : (iblk m c 3 t : Vec Ideal S3x512 .f32) (ix2 k n)
    = m ((c.tc : Thread nD τ).loc main_arg3) (ix3 0 k n) := by
  have h : ((cfg0.win 3).blk t).view.emb (ix2 k n) = (ix2 k n : S3x512.Idx) := by
    blk_ext [idx3]
  blk_simp [iblk]
  rw [h, V_t]
  exact hostT_apply _ k n

/-- The reference's projected rows, from the kernel's arguments. -/
def projOf : FVec Ideal Cert.Reference5Ideal.S16384x3072 .f32 :=
  refProj (m ((c.tc : Thread nD τ).loc main_arg0)) (m ((c.tc : Thread nD τ).loc main_arg1)) (m ((c.tc : Thread nD τ).loc main_arg2))

/-- A block's projection is its rows of the reference's. -/
theorem prjAt_eq (t : Fin cfg0.N) (r : Fin 1024) (n : Fin 3072) : prjAt (iblk m c 0 t) (iblk m c 1 t) (iblk m c 2 t) r n = projOf m c (ix2 (rowAt t r) n) := by
  refine Eq.trans ?_ (refProj_apply _ _ _ _ _).symm
  exact congrArg₂ prj (congrArg₂ Rows.rms (funext fun e => iblk0_apply m c t _ e) (funext fun e => iblk1_apply m c t e)) (funext fun e => iblk2_apply m c t e n)

/-- A block's gated rows are its rows of the reference's. -/
theorem cuAt_eq (t : Fin cfg0.N) (r : Fin 1024) (n : Fin 512) (b : Fin 2) (s : Fin 8192) (h : b.val * 8192 + s.val = t.val * 1024 + r.val) :
    cuAt (iblk m c 0 t) (iblk m c 1 t) (iblk m c 2 t) r n = refCu (projOf m c) (ix3 b s n) := by
  unfold cuAt
  rw [prjAt_eq, prjAt_eq, refCu_apply]
  have e : rowAt t r = ⟨b.val * 8192 + s.val, by omega⟩ := Fin.ext h.symm
  rw [e]

/-- The eight rows before a block: the last eight gated rows of the block before, or zeros at a sequence's first block. -/
def before (t : Fin cfg0.N) : Fin 8 → Fin 512 → EReal := fun j n =>
  if t.val % 8 = 0 then 0 else tailOf (iblk m c 0 ⟨t.val - 1, by omega⟩) (iblk m c 1 ⟨t.val - 1, by omega⟩) (iblk m c 2 ⟨t.val - 1, by omega⟩) j n

/-- The rows a point carries are its last gated rows. -/
theorem carried (t : Fin cfg0.N) : (outsAt0 m c t.val t.isLt).2.2 = carryBlk (iblk m c 0 t) (iblk m c 1 t) (iblk m c 2 t) := by
  by_cases h0 : t.val % 8 = 0
  · rw [outsAt0_A m c t h0]
    dsimp only
    rw [sout_A_0]
  · rw [outsAt0_B m c t h0]
    dsimp only
    rw [sout_B_0]

/-- The query, key and value columns that a point leaves. -/
theorem left4 (t : Fin cfg0.N) : (outsAt0 m c t.val t.isLt).1 = qkvBlk (iblk m c 0 t) (iblk m c 1 t) (iblk m c 2 t) := by
  by_cases h0 : t.val % 8 = 0
  · rw [outsAt0_A m c t h0]
    dsimp only
    rw [out_A_4]
  · rw [outsAt0_B m c t h0]
    dsimp only
    rw [out_B_4]

/-- The convolution's columns that a point leaves. -/
theorem left5 (t : Fin cfg0.N) : (outsAt0 m c t.val t.isLt).2.1 = convBlk (iblk m c 0 t) (iblk m c 1 t) (iblk m c 2 t) (iblk m c 3 t) (before m c t) := by
  by_cases h0 : t.val % 8 = 0
  · rw [outsAt0_A m c t h0]
    dsimp only
    rw [out_A_5]
    refine congrArg (convBlk _ _ _ _) (funext fun j => funext fun n => ?_)
    unfold before
    rw [if_pos h0]
  · rw [outsAt0_B m c t h0]
    dsimp only
    rw [out_B_5]
    refine congrArg (convBlk _ _ _ _) (funext fun j => funext fun n => ?_)
    unfold before
    rw [if_neg h0]
    refine (congrFun (carried m c ⟨t.val - 1, by omega⟩) _).trans ?_
    exact (ext_apply _ _ _ _).trans (dif_pos j.isLt)

/-- The block's rows over the eight before them are the reference's padded rows. -/
theorem ext_eq (t : Fin cfg0.N) (k : Nat) (hk : k ≤ 2) (r : Fin 1024) (n : Fin 512) :
    ext (before m c t) (cuAt (iblk m c 0 t) (iblk m c 1 t) (iblk m c 2 t)) (ix2 ⟨6 + k + r.val, by omega⟩ n)
      = refPad (refCu (projOf m c)) (ix3 ⟨(rowAt t r).val / 8192, by omega⟩ ⟨k + (rowAt t r).val % 8192, by omega⟩ n) := by
  have ht := lt_N t
  have hr : (rowAt t r).val = t.val * 1024 + r.val := rfl
  rw [ext_apply, refPad_apply]
  dsimp only
  by_cases h : 6 + k + r.val < 8
  · rw [dif_pos h]
    unfold before
    by_cases h0 : t.val % 8 = 0
    · rw [if_pos h0, dif_pos (by omega)]
    · rw [if_neg h0, dif_neg (by omega)]
      exact cuAt_eq m c _ _ n _ _ (by dsimp only; omega)
  · rw [dif_neg h, dif_neg (by omega)]
    exact cuAt_eq m c _ _ n _ _ (by dsimp only; omega)

/-- A point's convolved rows are its rows of the reference's result. -/
theorem conv_point (t : Fin cfg0.N) (r : Fin 1024) (n : Fin 512) :
    convBlk (iblk m c 0 t) (iblk m c 1 t) (iblk m c 2 t) (iblk m c 3 t) (before m c t) (ix2 r n)
      = refConv (projOf m c) (m ((c.tc : Thread nD τ).loc main_arg3)) (ix2 (rowAt t r) n) := by
  rw [refConv_apply, refSum_apply]
  refine congrArg₂ (· * ·) (prjAt_eq m c t r _) (congrArg₂ (· + ·) (congrArg₂ (· + ·) ?_ ?_) ?_)
  · exact mul_swap (iblk3_apply m c t 0 n) ((ext_eq m c t 0 (by omega) r n).trans (congrArg (fun j => refPad (refCu (projOf m c)) (ix3 _ j n)) (Fin.ext (Nat.zero_add _))))
  · exact mul_swap (iblk3_apply m c t 1 n) (ext_eq m c t 1 (by omega) r n)
  · exact mul_swap (iblk3_apply m c t 2 n) (ext_eq m c t 2 (by omega) r n)

/-- The kernel's query, key and value columns are the reference's. -/
theorem arrAt4_eq : (dats m 0 c).arrAt 4 cfg0.N = refQkv (projOf m c) := by
  refine (dats m 0 c).arrAt_eq_of_covers 4 _ cov4 fun t _ y => ?_
  blk_simp
  rw [after0_4]
  obtain ⟨r, n, rfl⟩ : ∃ (r : Fin 1024) (n : Fin 1536), y = (ix2 r n : S1024x1536.Idx) := ⟨y 0, y 1, (ix2_eta y).symm⟩
  have e : ((cfg0.win 4).blk t).view.emb (ix2 r n) = (ix2 (rowAt t r) n : S16384x1536.Idx) := by
    unfold rowAt
    blk_ext [idx4]
  rw [e, left4, refQkv_apply]
  exact prjAt_eq m c t r _

/-- The kernel's convolution columns are the reference's. -/
theorem arrAt5_eq : (dats m 0 c).arrAt 5 cfg0.N = refConv (projOf m c) (m ((c.tc : Thread nD τ).loc main_arg3)) := by
  refine (dats m 0 c).arrAt_eq_of_covers 5 _ cov5 fun t _ y => ?_
  blk_simp
  rw [after0_5]
  obtain ⟨r, n, rfl⟩ : ∃ (r : Fin 1024) (n : Fin 512), y = (ix2 r n : S1024x512.Idx) := ⟨y 0, y 1, (ix2_eta y).symm⟩
  have e : ((cfg0.win 5).blk t).view.emb (ix2 r n) = (ix2 (rowAt t r) n : S16384x512.Idx) := by
    unfold rowAt
    blk_ext [idx5]
  rw [e, left5]
  exact conv_point m c t r n

end Arr

/-! ## The claims -/

/-- The kernel's frame. -/
theorem frame_kernel : Cert.quiescent_Kernel5 := fun m ρ _ =>
  (θ_run Cert.Kernel5.defs _ _).mono (fun _ h => h) (Cert.Kernel5.Gen.frame m ρ)

/-- The idealized kernel's frame. -/
theorem frame_ideal : Cert.quiescent_Kernel5Ideal := fun m ρ _ =>
  (θ_run Cert.Kernel5Ideal.defs _ _).mono (fun _ h => h) (Cert.Kernel5Ideal.Gen.frame m ρ)

/-- The reference's frame. -/
theorem frame_reference : Cert.quiescent_Reference5Ideal := fun m ρ _ =>
  (θ_run Cert.Reference5Ideal.defs _ _).mono
    (fun r h => ⟨fun c => (h c).2.2, sem_eq_zero_of_no_sems (by decide) r.2⟩)
    (ref_run m ρ)

/-- From the same arguments the kernel and the reference end with the same results. -/
theorem value : Cert.algebraic_Kernel5Ideal_Reference5Ideal := fun m ρ m' ρ' _ hm =>
  ⟨fun c => refQkv (projOf m c), fun c => refConv (projOf m c) (m ((c.tc : Thread nD τ).loc main_arg3)),
    (θ_run Cert.Kernel5Ideal.defs _ _).mono (fun _ hr c => ⟨(hr c).1.trans ((Cert.Kernel5Ideal.Value.final4 m c).symm.trans (arrAt4_eq m c)),
        (hr c).2.1.trans ((Cert.Kernel5Ideal.Value.final5 m c).symm.trans (arrAt5_eq m c)), (hr c).2.2⟩)
      (Cert.Kernel5Ideal.Value.run m ρ),
    (θ_run Cert.Reference5Ideal.defs _ _).mono (fun _ hr c => ⟨(hr c).1.trans (by
        obtain ⟨h0, h1, h2, h3⟩ := hm c
        rw [h0, h1, h2]
        rfl), (hr c).2.1.trans (by
        obtain ⟨h0, h1, h2, h3⟩ := hm c
        rw [h0, h1, h2, h3]
        rfl), (hr c).2.2⟩)
      (ref_run m' ρ')⟩

end Cert.Proof.InProjEven
-- ==== Proof.lean ====
/- The certificate: the two frames from one run at any float values, the reference's run, the two named constants, and the
   kernel's result equal to the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Finite
public import proofs.«01_k».proof.Proof.Post
public import proofs.«01_k».proof.Proof.Post0
public import proofs.«01_k».proof.Proof.InProj
public import proofs.«01_k».proof.Proof.InProjEven
public import Idealize.ShloMosaic.Adequacy
public import Idealize.ShloMosaic.Init
public import Idealize.ShloMosaic.Lib.Quiescent

@[expose] public section

noncomputable section

namespace Cert.Proof

open Idealize.ShloMosaic Idealize.ShloMosaic.TcCoe

/-- At bit patterns a named constant is the constant's own bits. -/
local instance bitsNamed : Named Bits where
  named _ _ {φ} bits := Scalar.ofBits φ bits

/-- The kernel as compiled is the idealized program read with each named constant at its own bits, so its frame is that
    program's. -/
theorem frame_kernel : Cert.quiescent_Kernel := fun m ρ _ =>
  Eq.mp (by sl_kernel_rfl) (Steps.frame_run (F := Bits) m ρ)

/-- The idealized kernel's frame. -/
theorem frame_ideal : Cert.quiescent_KernelIdeal := fun m ρ _ =>
  (θ_run Cert.KernelIdeal.defs _ _).mono (fun _ h => h) (Steps.frame_run (F := Ideal) m ρ)

/-- The reference's frame: it declares no counter, and its run leaves the arguments as they were. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants: the compiled number of each is the bits it was printed with. -/
theorem named : Cert.preserves_Kernel_KernelIdeal :=
  ⟨IdealRules.named_const.statement Cert.KernelIdeal.κ "qscale" .f32 0x3E38AA3B#32 _ rfl,
    IdealRules.named_const.statement Cert.KernelIdeal.κ "mask" .f32 0xF149F2CA#32 ⊥ rfl⟩

open Cert.KernelIdeal Cert.KernelIdeal.Gen in
/-- The idealized kernel's run: its result is the reference's of the same arguments. -/
theorem run_value (m : (ℓ : Loc nD τ sig) → Buf (Elt Ideal) ℓ) (ρ : Dev nD → PrngReg)
    (h : Cert.Pre_KernelIdeal_finite (hPre_finite := Steps.facts_finite) m) :
    θ_run (defs (F := Ideal)) (onTc (τ := τ) (main (F := Ideal))) ⟨m, fun _ => 0, ρ⟩
      (fun r => ∀ c : Dev nD, r.2.mem ((c.tc : Thread nD τ).loc main_v13) = Steps.resR m c) :=
  (θ_run defs _ _).mono (fun r hr c => by
    obtain ⟨P, lam, ha⟩ := Steps.real_args m h c
    exact ((hr.1 c).1 5).trans (Steps.arrAt_eq ha)) (Steps.run_main (F := Ideal) m ρ)

/-- From the same finite arguments the kernel and the reference end with the same result. -/
theorem value : Cert.algebraic_KernelIdeal_ReferenceIdeal_pre_finite (hPre_finite := Steps.facts_finite) := fun m ρ m' ρ' h hm =>
  ⟨fun c => Steps.resR m c,
    (θ_run Cert.KernelIdeal.defs _ _).mono (fun _ hr c => ⟨hr.1 c, hr.2.1 c⟩)
      (θ_run_and (run_value m ρ h) (Steps.frame_run (F := Ideal) m ρ)),
    (θ_run Cert.ReferenceIdeal.defs _ _).mono (fun _ hr c => ⟨(hr c).1.trans ((Ref.out_eq m' c).trans (by
        obtain ⟨h0, h1, h2, h3, h4, h5⟩ := hm c
        unfold Steps.resR
        rw [h0, h1, h2, h3, h4, h5])), (hr c).2⟩)
      (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Steps.facts_finite,
    frame_kernel, frame_ideal, fun m ρ _ => frame_ideal m ρ trivial, frame_reference, fun m ρ _ => frame_reference m ρ trivial,
    Post.frame_kernel, Post.frame_ideal, Post.frame_reference,
    Post0.frame_kernel, Post0.frame_ideal, Post0.frame_reference,
    InProj.frame_kernel, InProj.frame_ideal, InProj.frame_reference,
    InProjEven.frame_kernel, InProjEven.frame_ideal, InProjEven.frame_reference,
    named, value, trivial, Post.value, trivial, Post0.value, trivial, InProj.value, trivial, InProjEven.value⟩

end Cert.Proof
